-- ==== Defs.lean ====
def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal [hPre_idx_in_rows : Cert.Pre_idx_in_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_idx_in_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_GatherRef [hPre_idx_in_rows : Cert.Pre_idx_in_rows.Facts] (m : (ℓ : Loc Cert.GatherRef.nD Cert.GatherRef.τ Cert.GatherRef.sig) → Buf (Elt Bits) ℓ) : Prop :=
  ∀ c : Dev Cert.GatherRef.nD,
    (Cert.Pre_idx_in_rows.fn (F := Bits) (m ((c.tc : Thread Cert.GatherRef.nD Cert.GatherRef.τ).loc Cert.GatherRef.main_arg0)) (m ((c.tc : Thread Cert.GatherRef.nD Cert.GatherRef.τ).loc Cert.GatherRef.main_arg1))) = (fun _ => 1#1)

def Pre_Codes [hPre_nearest_is_one : Cert.Pre_nearest_is_one.Facts] (m : (ℓ : Loc Cert.Codes.nD Cert.Codes.τ Cert.Codes.sig) → Buf (Elt Bits) ℓ) : Prop :=
  ∀ c : Dev Cert.Codes.nD,
    (Cert.Pre_nearest_is_one.fn (F := Bits) (m ((c.tc : Thread Cert.Codes.nD Cert.Codes.τ).loc Cert.Codes.main_arg0)) (m ((c.tc : Thread Cert.Codes.nD Cert.Codes.τ).loc Cert.Codes.main_arg1))) = (fun _ => 1#1)

def Pre_CodesIdeal [hPre_nearest_is_one : Cert.Pre_nearest_is_one.Facts] (m : (ℓ : Loc Cert.CodesIdeal.nD Cert.CodesIdeal.τ Cert.CodesIdeal.sig) → Buf (Elt Ideal) ℓ) : Prop :=
  ∀ c : Dev Cert.CodesIdeal.nD,
    (Cert.Pre_nearest_is_one.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1))) = (fun _ => 1#1)

def Pre_CodesRefIdeal [hPre_nearest_is_one : Cert.Pre_nearest_is_one.Facts] (m : (ℓ : Loc Cert.CodesRefIdeal.nD Cert.CodesRefIdeal.τ Cert.CodesRefIdeal.sig) → Buf (Elt Ideal) ℓ) : Prop :=
  ∀ c : Dev Cert.CodesRefIdeal.nD,
    (Cert.Pre_nearest_is_one.fn (F := Ideal) (m ((c.tc : Thread Cert.CodesRefIdeal.nD Cert.CodesRefIdeal.τ).loc Cert.CodesRefIdeal.main_arg0)) (m ((c.tc : Thread Cert.CodesRefIdeal.nD Cert.CodesRefIdeal.τ).loc Cert.CodesRefIdeal.main_arg1))) = (fun _ => 1#1)

def Pre_KernelIdeal [hPre_nearest_is_one : Cert.Pre_nearest_is_one.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelRefIdeal [hPre_nearest_is_one : Cert.Pre_nearest_is_one.Facts] (m : (ℓ : Loc Cert.KernelRefIdeal.nD Cert.KernelRefIdeal.τ Cert.KernelRefIdeal.sig) → Buf (Elt Ideal) ℓ) : Prop :=
  ∀ c : Dev Cert.KernelRefIdeal.nD,
    (Cert.Pre_nearest_is_one.fn (F := Ideal) (m ((c.tc : Thread Cert.KernelRefIdeal.nD Cert.KernelRefIdeal.τ).loc Cert.KernelRefIdeal.main_arg0)) (m ((c.tc : Thread Cert.KernelRefIdeal.nD Cert.KernelRefIdeal.τ).loc Cert.KernelRefIdeal.main_arg1))) = (fun _ => 1#1)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] [hPre_idx_in_rows : Cert.Pre_idx_in_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRef [hGatherRef : Cert.GatherRef.Facts] [hPre_idx_in_rows : Cert.Pre_idx_in_rows.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1))
      ∧ r.2.sem = fun _ => 0)

def quiescent_Codes [hCodes : Cert.Codes.Facts] [hPre_nearest_is_one : Cert.Pre_nearest_is_one.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0)

def quiescent_CodesIdeal [hCodesIdeal : Cert.CodesIdeal.Facts] [hPre_nearest_is_one : Cert.Pre_nearest_is_one.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ r.2.sem = fun _ => 0)

def quiescent_CodesRefIdeal [hCodesRefIdeal : Cert.CodesRefIdeal.Facts] [hPre_nearest_is_one : Cert.Pre_nearest_is_one.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1))
      ∧ r.2.sem = fun _ => 0)

def quiescent_KernelIdeal [hKernelIdeal : Cert.KernelIdeal.Facts] [hPre_nearest_is_one : Cert.Pre_nearest_is_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelRefIdeal [hKernelRefIdeal : Cert.KernelRefIdeal.Facts] [hPre_nearest_is_one : Cert.Pre_nearest_is_one.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1))
      ∧ r.2.sem = fun _ => 0)

def preserves_Gather_GatherIdeal : Prop :=
  True

def bitexact_Gather_GatherRef [hGather : Cert.Gather.Facts] [hGatherRef : Cert.GatherRef.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v0)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v0) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherRef.defs (F := Bits)) (onTc (τ := Cert.GatherRef.τ) (Cert.GatherRef.main (F := Bits))) ⟨m', fun _ => 0, g'⟩ (fun r => ∀ c : Dev Cert.GatherRef.nD,
          r.2.mem ((c.tc : Thread Cert.GatherRef.nD Cert.GatherRef.τ).loc Cert.GatherRef.main_v8) = v0 c
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1))

def algebraic_GatherIdeal_GatherRefIdeal [hGatherIdeal : Cert.GatherIdeal.Facts] [hGatherRefIdeal : Cert.GatherRefIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v8) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def preserves_Codes_CodesIdeal : Prop :=
  True

def algebraic_CodesIdeal_CodesRefIdeal [hCodesIdeal : Cert.CodesIdeal.Facts] [hCodesRefIdeal : Cert.CodesRefIdeal.Facts] [hPre_nearest_is_one : Cert.Pre_nearest_is_one.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesRefIdeal.nD Cert.CodesRefIdeal.τ Cert.CodesRefIdeal.sig) → Buf (Elt Ideal) ℓ) (g' : Dev Cert.CodesRefIdeal.nD → PrngReg), Pre_CodesIdeal m →
    (∀ c : Dev Cert.CodesIdeal.nD,
      m' ((c.tc : Thread Cert.CodesRefIdeal.nD Cert.CodesRefIdeal.τ).loc Cert.CodesRefIdeal.main_arg0) = m ((c.tc : Thread Cert.CodesIdeal.nD Cert.CodesIdeal.τ).loc Cert.CodesIdeal.main_arg0)
      ∧ m' ((c.tc : Thread Cert.CodesRefIdeal.nD Cert.CodesRefIdeal.τ).loc Cert.CodesRefIdeal.main_arg1) = m ((c.tc : Thread Cert.CodesIdeal.nD Cert.CodesIdeal.τ).loc Cert.CodesIdeal.main_arg1)) →
    ∃ (v0 : (c : Dev Cert.CodesIdeal.nD) → Buf (Elt Ideal) ((c.tc : Thread Cert.CodesIdeal.nD Cert.CodesIdeal.τ).loc Cert.CodesIdeal.main_v8)) (v1 : (c : Dev Cert.CodesIdeal.nD) → Buf (Elt Ideal) ((c.tc : Thread Cert.CodesIdeal.nD Cert.CodesIdeal.τ).loc Cert.CodesIdeal.main_v9)) (v2 : (c : Dev Cert.CodesIdeal.nD) → Buf (Elt Ideal) ((c.tc : Thread Cert.CodesIdeal.nD Cert.CodesIdeal.τ).loc Cert.CodesIdeal.main_v7)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v8) = v0 c
          ∧ r.2.mem ((c.tc : Thread Cert.CodesIdeal.nD Cert.CodesIdeal.τ).loc Cert.CodesIdeal.main_v9) = v1 c
          ∧ r.2.mem ((c.tc : Thread Cert.CodesIdeal.nD Cert.CodesIdeal.τ).loc Cert.CodesIdeal.main_v7) = v2 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ θ_run (Cert.CodesRefIdeal.defs (F := Ideal)) (onTc (τ := Cert.CodesRefIdeal.τ) (Cert.CodesRefIdeal.main (F := Ideal))) ⟨m', fun _ => 0, g'⟩ (fun r => ∀ c : Dev Cert.CodesRefIdeal.nD,
          r.2.mem ((c.tc : Thread Cert.CodesRefIdeal.nD Cert.CodesRefIdeal.τ).loc Cert.CodesRefIdeal.main_v24) = v0 c
          ∧ r.2.mem ((c.tc : Thread Cert.CodesRefIdeal.nD Cert.CodesRefIdeal.τ).loc Cert.CodesRefIdeal.main_v34) = v1 c
          ∧ r.2.mem ((c.tc : Thread Cert.CodesRefIdeal.nD Cert.CodesRefIdeal.τ).loc Cert.CodesRefIdeal.main_v15) = v2 c
          ∧ r.2.mem ((c.tc : Thread Cert.CodesRefIdeal.nD Cert.CodesRefIdeal.τ).loc Cert.CodesRefIdeal.main_arg0) = m' ((c.tc : Thread Cert.CodesRefIdeal.nD Cert.CodesRefIdeal.τ).loc Cert.CodesRefIdeal.main_arg0)
          ∧ r.2.mem ((c.tc : Thread Cert.CodesRefIdeal.nD Cert.CodesRefIdeal.τ).loc Cert.CodesRefIdeal.main_arg1) = m' ((c.tc : Thread Cert.CodesRefIdeal.nD Cert.CodesRefIdeal.τ).loc Cert.CodesRefIdeal.main_arg1))

def algebraic_KernelIdeal_KernelRefIdeal [hKernelIdeal : Cert.KernelIdeal.Facts] [hKernelRefIdeal : Cert.KernelRefIdeal.Facts] [hPre_nearest_is_one : Cert.Pre_nearest_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)
      ∧ m' ((c.tc : Thread Cert.KernelRefIdeal.nD Cert.KernelRefIdeal.τ).loc Cert.KernelRefIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v38) = v0 c
          ∧ r.2.mem ((c.tc : Thread Cert.KernelRefIdeal.nD Cert.KernelRefIdeal.τ).loc Cert.KernelRefIdeal.main_v24) = v1 c
          ∧ r.2.mem ((c.tc : Thread Cert.KernelRefIdeal.nD Cert.KernelRefIdeal.τ).loc Cert.KernelRefIdeal.main_v34) = v2 c
          ∧ r.2.mem ((c.tc : Thread Cert.KernelRefIdeal.nD Cert.KernelRefIdeal.τ).loc Cert.KernelRefIdeal.main_v15) = v3 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0)
          ∧ r.2.mem ((c.tc : Thread Cert.KernelRefIdeal.nD Cert.KernelRefIdeal.τ).loc Cert.KernelRefIdeal.main_arg1) = m' ((c.tc : Thread Cert.KernelRefIdeal.nD Cert.KernelRefIdeal.τ).loc Cert.KernelRefIdeal.main_arg1))

def Claim : Prop :=
  ∃ (hGather : Cert.Gather.Facts) (hGatherIdeal : Cert.GatherIdeal.Facts) (hGatherRefIdeal : Cert.GatherRefIdeal.Facts) (hGatherRef : Cert.GatherRef.Facts) (hCodes : Cert.Codes.Facts) (hCodesIdeal : Cert.CodesIdeal.Facts) (hCodesRefIdeal : Cert.CodesRefIdeal.Facts) (hKernelIdeal : Cert.KernelIdeal.Facts) (hKernelRefIdeal : Cert.KernelRefIdeal.Facts) (hPre_idx_in_rows : Cert.Pre_idx_in_rows.Facts) (hPre_nearest_is_one : Cert.Pre_nearest_is_one.Facts),
    quiescent_Gather (hGather := hGather) (hPre_idx_in_rows := hPre_idx_in_rows)
    ∧ quiescent_GatherIdeal (hGatherIdeal := hGatherIdeal) (hPre_idx_in_rows := hPre_idx_in_rows)
    ∧ quiescent_GatherRefIdeal (hGatherRefIdeal := hGatherRefIdeal) (hPre_idx_in_rows := hPre_idx_in_rows)
    ∧ quiescent_GatherRef (hGatherRef := hGatherRef) (hPre_idx_in_rows := hPre_idx_in_rows)
    ∧ quiescent_Codes (hCodes := hCodes) (hPre_nearest_is_one := hPre_nearest_is_one)
    ∧ quiescent_CodesIdeal (hCodesIdeal := hCodesIdeal) (hPre_nearest_is_one := hPre_nearest_is_one)
    ∧ quiescent_CodesRefIdeal (hCodesRefIdeal := hCodesRefIdeal) (hPre_nearest_is_one := hPre_nearest_is_one)
    ∧ quiescent_KernelIdeal (hKernelIdeal := hKernelIdeal) (hPre_nearest_is_one := hPre_nearest_is_one)
    ∧ quiescent_KernelRefIdeal (hKernelRefIdeal := hKernelRefIdeal) (hPre_nearest_is_one := hPre_nearest_is_one)
    ∧ preserves_Gather_GatherIdeal
    ∧ bitexact_Gather_GatherRef (hGather := hGather) (hGatherRef := hGatherRef) (hPre_idx_in_rows := hPre_idx_in_rows)
    ∧ algebraic_GatherIdeal_GatherRefIdeal (hGatherIdeal := hGatherIdeal) (hGatherRefIdeal := hGatherRefIdeal) (hPre_idx_in_rows := hPre_idx_in_rows)
    ∧ preserves_Codes_CodesIdeal
    ∧ algebraic_CodesIdeal_CodesRefIdeal (hCodesIdeal := hCodesIdeal) (hCodesRefIdeal := hCodesRefIdeal) (hPre_nearest_is_one := hPre_nearest_is_one)
    ∧ algebraic_KernelIdeal_KernelRefIdeal (hKernelIdeal := hKernelIdeal) (hKernelRefIdeal := hKernelRefIdeal) (hPre_nearest_is_one := hPre_nearest_is_one)
-- ==== Pre_idx_in_rows.lean ====
abbrev S256x2048 : Shape := ⟨2, ![256, 2048]⟩
abbrev S64x128 : Shape := ⟨2, ![64, 128]⟩
abbrev S_ : Shape := ⟨0, ![]⟩

class Facts : Prop where
  bcast_S_S64x128 : S_.BroadcastsInDim S64x128 (![] : Fin 0 → Fin S64x128.rank)

variable [Facts]

def fn {F : FTy → Type} [FloatOps F] (main_arg0 : FVec F S256x2048 .f32) (main_arg1 : IVec S64x128 32) : IVec S64x128 1 :=
  let main_c : IVec S_ 32 := constantI S_ 32 0#32
  let main_v0 : IVec S64x128 32 := broadcastInDim S64x128 ![] bcast_S_S64x128 main_c
  let main_v1 : IVec S64x128 1 := cmpi .sge main_arg1 main_v0
  let main_c_0 : IVec S_ 32 := constantI S_ 32 2048#32
  let main_v2 : IVec S64x128 32 := broadcastInDim S64x128 ![] bcast_S_S64x128 main_c_0
  let main_v3 : IVec S64x128 1 := cmpi .slt main_arg1 main_v2
  let main_v4 : IVec S64x128 1 := andi main_v1 main_v3
  main_v4
-- ==== Pre_nearest_is_one.lean ====
abbrev S16x256x32x32 : Shape := ⟨4, ![16, 256, 32, 32]⟩
abbrev S256x2048 : Shape := ⟨2, ![256, 2048]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩

class Facts : Prop where
  transposes_S16x256x32x32_S16x32x32x256_0_2_3_1 : S16x256x32x32.Transposes [0, 2, 3, 1] S16x32x32x256
  shapeCasts_S16x32x32x256_S16384x256 : S16x32x32x256.ShapeCasts S16384x256
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S256x2048_S2048_d0 : S256x2048.ReducesTo [0] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  reducesTo_S16384x2048_S16384_d1 : S16384x2048.ReducesTo [1] S16384
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  bcast_S_S256x2048 : S_.BroadcastsInDim S256x2048 (![] : Fin 0 → Fin S256x2048.rank)
  reducesTo_S256x2048_S_d0_1 : S256x2048.ReducesTo [0, 1] S_
  natLt_1_32 : 1 < 32
  bcast_S_S16384 : S_.BroadcastsInDim S16384 (![] : Fin 0 → Fin S16384.rank)
  dot_S16384x256_S256x2048_S16384x2048_1_0_0_1_n_n_wf : DotDims.WF S16384x256 S256x2048 S16384x2048 [1] [0] [0] [1] [] []

variable [Facts]

def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def fn_part1 {F : FTy → Type} [FloatOps F] (main_arg1 : FVec F S256x2048 .f32) (main_v18 : IVec S16384x2048 1) (main_v19 : FVec F S16x256x32x32 .f32) : IVec S16384 1 :=
  let main_cst_3 : FVec F S_ .f32 := constant S_ .f32 0x7F800000#32
  let main_v20 : FVec F S16x256x32x32 .f32 := broadcastInDim S16x256x32x32 ![] bcast_S_S16x256x32x32 main_cst_3
  let main_v21 : IVec S16x256x32x32 1 := cmpf .olt main_v19 main_v20
  let main_c : IVec S_ 1 := constantI S_ 1 1#1
  let main_v22 : IVec S_ 1 := (fun x v => Host.reduce IntOp.andi x v reducesTo_S16x256x32x32_S_d0_1_2_3 h_S_) main_v21 main_c
  let main_v23 : FVec F S256x2048 .f32 := Host.absf main_arg1
  let main_cst_4 : FVec F S_ .f32 := constant S_ .f32 0x7F800000#32
  let main_v24 : FVec F S256x2048 .f32 := broadcastInDim S256x2048 ![] bcast_S_S256x2048 main_cst_4
  let main_v25 : IVec S256x2048 1 := cmpf .olt main_v23 main_v24
  let main_c_5 : IVec S_ 1 := constantI S_ 1 1#1
  let main_v26 : IVec S_ 1 := (fun x v => Host.reduce IntOp.andi x v reducesTo_S256x2048_S_d0_1 h_S_) main_v25 main_c_5
  let main_v27 : IVec S_ 1 := andi main_v22 main_v26
  let main_v28 : IVec S16384x2048 32 := (extui 32 · natLt_1_32) main_v18
  let main_c_6 : IVec S_ 32 := constantI S_ 32 0#32
  let main_v29 : IVec S16384 32 := (fun x v => Host.reduce IntOp.addi x v reducesTo_S16384x2048_S16384_d1 h_S_) main_v28 main_c_6
  let main_c_7 : IVec S_ 32 := constantI S_ 32 1#32
  let main_v30 : IVec S16384 32 := broadcastInDim S16384 ![] bcast_S_S16384 main_c_7
  let main_v31 : IVec S16384 1 := cmpi .eq main_v29 main_v30
  let main_v32 : IVec S16384 1 := broadcastInDim S16384 ![] bcast_S_S16384 main_v27
  let main_v33 : IVec S16384 1 := andi main_v31 main_v32
  main_v33

def fn {F : FTy → Type} [FloatOps F] (main_arg0 : FVec F S16x256x32x32 .f32) (main_arg1 : FVec F S256x2048 .f32) : IVec S16384 1 :=
  let main_v0 : FVec F S16x32x32x256 .f32 := (transpose S16x32x32x256 [0, 2, 3, 1] · transposes_S16x256x32x32_S16x32x32x256_0_2_3_1) main_arg0
  let main_v1 : FVec F S16384x256 .f32 := shapeCast S16384x256 main_v0 shapeCasts_S16x32x32x256_S16384x256
  let main_v2 : FVec F S16384x256 .f32 := mulf main_v1 main_v1
  let main_cst : FVec F S_ .f32 := constant S_ .f32 0x00000000#32
  let main_v3 : FVec F S16384 .f32 := (fun x v => Host.reduceAdd x v reducesTo_S16384x256_S16384_d1 h_S_) main_v2 main_cst
  let main_v4 : FVec F S16384x1 .f32 := broadcastInDim S16384x1 ![0] bcast_S16384_S16384x1_0 main_v3
  let main_v5 : FVec F S256x2048 .f32 := mulf main_arg1 main_arg1
  let main_cst_0 : FVec F S_ .f32 := constant S_ .f32 0x00000000#32
  let main_v6 : FVec F S2048 .f32 := (fun x v => Host.reduceAdd x v reducesTo_S256x2048_S2048_d0 h_S_) main_v5 main_cst_0
  let main_v7 : FVec F S1x2048 .f32 := broadcastInDim S1x2048 ![1] bcast_S2048_S1x2048_1 main_v6
  let main_v8 : FVec F S16384x2048 .f32 := broadcastInDim S16384x2048 ![0, 1] bcast_S16384x1_S16384x2048_0_1 main_v4
  let main_v9 : FVec F S16384x2048 .f32 := broadcastInDim S16384x2048 ![0, 1] bcast_S1x2048_S16384x2048_0_1 main_v7
  let main_v10 : FVec F S16384x2048 .f32 := addf main_v8 main_v9
  let main_v11 : FVec F S16384x2048 .f32 := (fun l r => Host.dotGeneral dot_S16384x256_S256x2048_S16384x2048_1_0_0_1_n_n none l r) main_v1 main_arg1
  let main_cst_1 : FVec F S_ .f32 := constant S_ .f32 0x40000000#32
  let main_v12 : FVec F S16384x2048 .f32 := broadcastInDim S16384x2048 ![] bcast_S_S16384x2048 main_cst_1
  let main_v13 : FVec F S16384x2048 .f32 := mulf main_v12 main_v11
  let main_v14 : FVec F S16384x2048 .f32 := subf main_v10 main_v13
  let main_cst_2 : FVec F S_ .f32 := constant S_ .f32 0x7F800000#32
  let main_v15 : FVec F S16384 .f32 := (fun x v => Host.reduce FloatOps.minimumf x v reducesTo_S16384x2048_S16384_d1 h_S_) main_v14 main_cst_2
  let main_v16 : FVec F S16384x1 .f32 := broadcastInDim S16384x1 ![0] bcast_S16384_S16384x1_0 main_v15
  let main_v17 : FVec F S16384x2048 .f32 := broadcastInDim S16384x2048 ![0, 1] bcast_S16384x1_S16384x2048_0_1 main_v16
  let main_v18 : IVec S16384x2048 1 := cmpf .oeq main_v14 main_v17
  let main_v19 : FVec F S16x256x32x32 .f32 := Host.absf main_arg0
  fn_part1 (F := F) main_arg1 main_v18 main_v19
-- ==== Gather.lean ====
abbrev S256x2048 : Shape := ⟨2, ![256, 2048]⟩
abbrev S64x128 : Shape := ⟨2, ![64, 128]⟩
abbrev S8x256x1024 : Shape := ⟨3, ![8, 256, 1024]⟩
abbrev S8x2048 : Shape := ⟨2, ![8, 2048]⟩
abbrev S8x1024 : Shape := ⟨2, ![8, 1024]⟩
abbrev S_ : Shape := ⟨0, ![]⟩
abbrev S16 : Shape := ⟨1, ![16]⟩
abbrev S1x16 : Shape := ⟨2, ![1, 16]⟩
abbrev S1x8x1024 : Shape := ⟨3, ![1, 8, 1024]⟩

abbrev nBuf : Table → Nat
  | .hbm => 3
  | .local .scVector .vmem => 3
  | _ => 0

abbrev bufTy : (tb : Table) → Fin (nBuf tb) → BufTy
  | .hbm, ⟨0, _⟩ => ⟨S256x2048, .f32⟩
  | .hbm, ⟨1, _⟩ => ⟨S64x128, .i32⟩
  | .hbm, ⟨2, _⟩ => ⟨S8x256x1024, .f32⟩
  | .local .scVector .vmem, ⟨0, _⟩ => ⟨S64x128, .i32⟩
  | .local .scVector .vmem, ⟨1, _⟩ => ⟨S8x2048, .f32⟩
  | .local .scVector .vmem, ⟨2, _⟩ => ⟨S8x1024, .f32⟩
  | _, _ => ⟨S256x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_6_r1 : BitVec 32 := 0#32
  ![v2.toNat, 0]
@[reducible] def k0_t1_loop : Scf.Loop 32 :=
  let c0_i32_2 : BitVec 32 := 0#32
  let c8_i32_3 : BitVec 32 := 8#32
  let v11 : BitVec 32 := Scalar.addi c0_i32_2 c8_i32_3
  let c1_i32_4 : BitVec 32 := 1#32
  ⟨c0_i32_2, v11, c1_i32_4⟩
def k0_off2 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_7 : BitVec 32 := 0#32
  let v13 : BitVec 32 := Scalar.addi v12 c0_i32_7
  let v14 : Index := Scalar.indexCast v13
  let c0 : Index := 0#32
  ![v14.toNat, 0]
def k0_off3 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_8 : BitVec 32 := 0#32
  let v16 : BitVec 32 := Scalar.addi v12 c0_i32_8
  let v17 : Index := Scalar.indexCast v16
  let c16 : Index := 16#32
  ![v17.toNat, 16]
def k0_off4 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_9 : BitVec 32 := 0#32
  let v19 : BitVec 32 := Scalar.addi v12 c0_i32_9
  let v20 : Index := Scalar.indexCast v19
  let c32 : Index := 32#32
  ![v20.toNat, 32]
def k0_off5 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_10 : BitVec 32 := 0#32
  let v22 : BitVec 32 := Scalar.addi v12 c0_i32_10
  let v23 : Index := Scalar.indexCast v22
  let c48 : Index := 48#32
  ![v23.toNat, 48]

def k0_chk1 (v3 : IVec S16 32) (v4 : IVec S16 32) (v5 : IVec S16 32) (v6 : IVec S16 32) (v7 : IVec S16 32) (v8 : IVec S16 32) (v9 : IVec S16 32) (v10 : IVec S16 32) (v15 : IVec S16 32) : Prop :=
  (∀ a x, ((![v3, v15] : Fin 2 → IVec S16 32) a x).toNat < S8x2048.size a) ∧
  (∀ a x, ((![v4, v15] : Fin 2 → IVec S16 32) a x).toNat < S8x2048.size a) ∧
  (∀ a x, ((![v5, v15] : Fin 2 → IVec S16 32) a x).toNat < S8x2048.size a) ∧
  (∀ a x, ((![v6, v15] : Fin 2 → IVec S16 32) a x).toNat < S8x2048.size a) ∧
  (∀ a x, ((![v7, v15] : Fin 2 → IVec S16 32) a x).toNat < S8x2048.size a) ∧
  (∀ a x, ((![v8, v15] : Fin 2 → IVec S16 32) a x).toNat < S8x2048.size a) ∧
  (∀ a x, ((![v9, v15] : Fin 2 → IVec S16 32) a x).toNat < S8x2048.size a) ∧
  (∀ a x, ((![v10, v15] : Fin 2 → IVec S16 32) a x).toNat < S8x2048.size a)
theorem k0_idx1_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v3, v15] : Fin 2 → IVec S16 32) a x).toNat < S8x2048.size a := fun v3 v4 v5 v6 v7 v8 v9 v10 v15 k0_hw1 => k0_hw1.1
theorem k0_idx2_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v4, v15] : Fin 2 → IVec S16 32) a x).toNat < S8x2048.size a := fun v3 v4 v5 v6 v7 v8 v9 v10 v15 k0_hw1 => k0_hw1.2.1
theorem k0_idx3_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v5, v15] : Fin 2 → IVec S16 32) a x).toNat < S8x2048.size a := fun v3 v4 v5 v6 v7 v8 v9 v10 v15 k0_hw1 => k0_hw1.2.2.1
theorem k0_idx4_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v6, v15] : Fin 2 → IVec S16 32) a x).toNat < S8x2048.size a := fun v3 v4 v5 v6 v7 v8 v9 v10 v15 k0_hw1 => k0_hw1.2.2.2.1
theorem k0_idx5_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v7, v15] : Fin 2 → IVec S16 32) a x).toNat < S8x2048.size a := fun v3 v4 v5 v6 v7 v8 v9 v10 v15 k0_hw1 => k0_hw1.2.2.2.2.1
theorem k0_idx6_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v8, v15] : Fin 2 → IVec S16 32) a x).toNat < S8x2048.size a := fun v3 v4 v5 v6 v7 v8 v9 v10 v15 k0_hw1 => k0_hw1.2.2.2.2.2.1
theorem k0_idx7_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v9, v15] : Fin 2 → IVec S16 32) a x).toNat < S8x2048.size a := fun v3 v4 v5 v6 v7 v8 v9 v10 v15 k0_hw1 => k0_hw1.2.2.2.2.2.2.1
theorem k0_idx8_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k0_hw1 : k0_chk1 v3 v4 v5 v6 v7 v8 v9 v10 v15), ∀ a x, ((![v10, v15] : Fin 2 → IVec S16 32) a x).toNat < S8x2048.size a := fun v3 v4 v5 v6 v7 v8 v9 v10 v15 k0_hw1 => k0_hw1.2.2.2.2.2.2.2

def k0_chk2 (v3 : IVec S16 32) (v4 : IVec S16 32) (v5 : IVec S16 32) (v6 : IVec S16 32) (v7 : IVec S16 32) (v8 : IVec S16 32) (v9 : IVec S16 32) (v10 : IVec S16 32) (v18 : IVec S16 32) : Prop :=
  (∀ a x, ((![v3, v18] : Fin 2 → IVec S16 32) a x).toNat < S8x2048.size a) ∧
  (∀ a x, ((![v4, v18] : Fin 2 → IVec S16 32) a x).toNat < S8x2048.size a) ∧
  (∀ a x, ((![v5, v18] : Fin 2 → IVec S16 32) a x).toNat < S8x2048.size a) ∧
  (∀ a x, ((![v6, v18] : Fin 2 → IVec S16 32) a x).toNat < S8x2048.size a) ∧
  (∀ a x, ((![v7, v18] : Fin 2 → IVec S16 32) a x).toNat < S8x2048.size a) ∧
  (∀ a x, ((![v8, v18] : Fin 2 → IVec S16 32) a x).toNat < S8x2048.size a) ∧
  (∀ a x, ((![v9, v18] : Fin 2 → IVec S16 32) a x).toNat < S8x2048.size a) ∧
  (∀ a x, ((![v10, v18] : Fin 2 → IVec S16 32) a x).toNat < S8x2048.size a)
theorem k0_idx9_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v3, v18] : Fin 2 → IVec S16 32) a x).toNat < S8x2048.size a := fun v3 v4 v5 v6 v7 v8 v9 v10 v18 k0_hw2 => k0_hw2.1
theorem k0_idx10_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v4, v18] : Fin 2 → IVec S16 32) a x).toNat < S8x2048.size a := fun v3 v4 v5 v6 v7 v8 v9 v10 v18 k0_hw2 => k0_hw2.2.1
theorem k0_idx11_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v5, v18] : Fin 2 → IVec S16 32) a x).toNat < S8x2048.size a := fun v3 v4 v5 v6 v7 v8 v9 v10 v18 k0_hw2 => k0_hw2.2.2.1
theorem k0_idx12_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v6, v18] : Fin 2 → IVec S16 32) a x).toNat < S8x2048.size a := fun v3 v4 v5 v6 v7 v8 v9 v10 v18 k0_hw2 => k0_hw2.2.2.2.1
theorem k0_idx13_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v7, v18] : Fin 2 → IVec S16 32) a x).toNat < S8x2048.size a := fun v3 v4 v5 v6 v7 v8 v9 v10 v18 k0_hw2 => k0_hw2.2.2.2.2.1
theorem k0_idx14_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v8, v18] : Fin 2 → IVec S16 32) a x).toNat < S8x2048.size a := fun v3 v4 v5 v6 v7 v8 v9 v10 v18 k0_hw2 => k0_hw2.2.2.2.2.2.1
theorem k0_idx15_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v9, v18] : Fin 2 → IVec S16 32) a x).toNat < S8x2048.size a := fun v3 v4 v5 v6 v7 v8 v9 v10 v18 k0_hw2 => k0_hw2.2.2.2.2.2.2.1
theorem k0_idx16_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k0_hw2 : k0_chk2 v3 v4 v5 v6 v7 v8 v9 v10 v18), ∀ a x, ((![v10, v18] : Fin 2 → IVec S16 32) a x).toNat < S8x2048.size a := fun v3 v4 v5 v6 v7 v8 v9 v10 v18 k0_hw2 => k0_hw2.2.2.2.2.2.2.2

def k0_chk3 (v3 : IVec S16 32) (v4 : IVec S16 32) (v5 : IVec S16 32) (v6 : IVec S16 32) (v7 : IVec S16 32) (v8 : IVec S16 32) (v9 : IVec S16 32) (v10 : IVec S16 32) (v21 : IVec S16 32) : Prop :=
  (∀ a x, ((![v3, v21] : Fin 2 → IVec S16 32) a x).toNat < S8x2048.size a) ∧
  (∀ a x, ((![v4, v21] : Fin 2 → IVec S16 32) a x).toNat < S8x2048.size a) ∧
  (∀ a x, ((![v5, v21] : Fin 2 → IVec S16 32) a x).toNat < S8x2048.size a) ∧
  (∀ a x, ((![v6, v21] : Fin 2 → IVec S16 32) a x).toNat < S8x2048.size a) ∧
  (∀ a x, ((![v7, v21] : Fin 2 → IVec S16 32) a x).toNat < S8x2048.size a) ∧
  (∀ a x, ((![v8, v21] : Fin 2 → IVec S16 32) a x).toNat < S8x2048.size a) ∧
  (∀ a x, ((![v9, v21] : Fin 2 → IVec S16 32) a x).toNat < S8x2048.size a) ∧
  (∀ a x, ((![v10, v21] : Fin 2 → IVec S16 32) a x).toNat < S8x2048.size a)
theorem k0_idx17_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v3, v21] : Fin 2 → IVec S16 32) a x).toNat < S8x2048.size a := fun v3 v4 v5 v6 v7 v8 v9 v10 v21 k0_hw3 => k0_hw3.1
theorem k0_idx18_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v4, v21] : Fin 2 → IVec S16 32) a x).toNat < S8x2048.size a := fun v3 v4 v5 v6 v7 v8 v9 v10 v21 k0_hw3 => k0_hw3.2.1
theorem k0_idx19_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v5, v21] : Fin 2 → IVec S16 32) a x).toNat < S8x2048.size a := fun v3 v4 v5 v6 v7 v8 v9 v10 v21 k0_hw3 => k0_hw3.2.2.1
theorem k0_idx20_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v6, v21] : Fin 2 → IVec S16 32) a x).toNat < S8x2048.size a := fun v3 v4 v5 v6 v7 v8 v9 v10 v21 k0_hw3 => k0_hw3.2.2.2.1
theorem k0_idx21_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v7, v21] : Fin 2 → IVec S16 32) a x).toNat < S8x2048.size a := fun v3 v4 v5 v6 v7 v8 v9 v10 v21 k0_hw3 => k0_hw3.2.2.2.2.1
theorem k0_idx22_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v8, v21] : Fin 2 → IVec S16 32) a x).toNat < S8x2048.size a := fun v3 v4 v5 v6 v7 v8 v9 v10 v21 k0_hw3 => k0_hw3.2.2.2.2.2.1
theorem k0_idx23_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v9, v21] : Fin 2 → IVec S16 32) a x).toNat < S8x2048.size a := fun v3 v4 v5 v6 v7 v8 v9 v10 v21 k0_hw3 => k0_hw3.2.2.2.2.2.2.1
theorem k0_idx24_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k0_hw3 : k0_chk3 v3 v4 v5 v6 v7 v8 v9 v10 v21), ∀ a x, ((![v10, v21] : Fin 2 → IVec S16 32) a x).toNat < S8x2048.size a := fun v3 v4 v5 v6 v7 v8 v9 v10 v21 k0_hw3 => k0_hw3.2.2.2.2.2.2.2

def k0_chk4 (v3 : IVec S16 32) (v4 : IVec S16 32) (v5 : IVec S16 32) (v6 : IVec S16 32) (v7 : IVec S16 32) (v8 : IVec S16 32) (v9 : IVec S16 32) (v10 : IVec S16 32) (v24 : IVec S16 32) : Prop :=
  (∀ a x, ((![v3, v24] : Fin 2 → IVec S16 32) a x).toNat < S8x2048.size a) ∧
  (∀ a x, ((![v4, v24] : Fin 2 → IVec S16 32) a x).toNat < S8x2048.size a) ∧
  (∀ a x, ((![v5, v24] : Fin 2 → IVec S16 32) a x).toNat < S8x2048.size a) ∧
  (∀ a x, ((![v6, v24] : Fin 2 → IVec S16 32) a x).toNat < S8x2048.size a) ∧
  (∀ a x, ((![v7, v24] : Fin 2 → IVec S16 32) a x).toNat < S8x2048.size a) ∧
  (∀ a x, ((![v8, v24] : Fin 2 → IVec S16 32) a x).toNat < S8x2048.size a) ∧
  (∀ a x, ((![v9, v24] : Fin 2 → IVec S16 32) a x).toNat < S8x2048.size a) ∧
  (∀ a x, ((![v10, v24] : Fin 2 → IVec S16 32) a x).toNat < S8x2048.size a)
theorem k0_idx25_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v3, v24] : Fin 2 → IVec S16 32) a x).toNat < S8x2048.size a := fun v3 v4 v5 v6 v7 v8 v9 v10 v24 k0_hw4 => k0_hw4.1
theorem k0_idx26_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v4, v24] : Fin 2 → IVec S16 32) a x).toNat < S8x2048.size a := fun v3 v4 v5 v6 v7 v8 v9 v10 v24 k0_hw4 => k0_hw4.2.1
theorem k0_idx27_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v5, v24] : Fin 2 → IVec S16 32) a x).toNat < S8x2048.size a := fun v3 v4 v5 v6 v7 v8 v9 v10 v24 k0_hw4 => k0_hw4.2.2.1
theorem k0_idx28_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v6, v24] : Fin 2 → IVec S16 32) a x).toNat < S8x2048.size a := fun v3 v4 v5 v6 v7 v8 v9 v10 v24 k0_hw4 => k0_hw4.2.2.2.1
theorem k0_idx29_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v7, v24] : Fin 2 → IVec S16 32) a x).toNat < S8x2048.size a := fun v3 v4 v5 v6 v7 v8 v9 v10 v24 k0_hw4 => k0_hw4.2.2.2.2.1
theorem k0_idx30_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v8, v24] : Fin 2 → IVec S16 32) a x).toNat < S8x2048.size a := fun v3 v4 v5 v6 v7 v8 v9 v10 v24 k0_hw4 => k0_hw4.2.2.2.2.2.1
theorem k0_idx31_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v9, v24] : Fin 2 → IVec S16 32) a x).toNat < S8x2048.size a := fun v3 v4 v5 v6 v7 v8 v9 v10 v24 k0_hw4 => k0_hw4.2.2.2.2.2.2.1
theorem k0_idx32_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k0_hw4 : k0_chk4 v3 v4 v5 v6 v7 v8 v9 v10 v24), ∀ a x, ((![v10, v24] : Fin 2 → IVec S16 32) a x).toNat < S8x2048.size a := fun v3 v4 v5 v6 v7 v8 v9 v10 v24 k0_hw4 => k0_hw4.2.2.2.2.2.2.2
def k0_off6 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_75 : BitVec 32 := 0#32
  let v121 : BitVec 32 := Scalar.addi v12 c0_i32_75
  let v122 : Index := Scalar.indexCast v121
  let c64 : Index := 64#32
  ![v122.toNat, 64]
def k0_off7 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_76 : BitVec 32 := 0#32
  let v124 : BitVec 32 := Scalar.addi v12 c0_i32_76
  let v125 : Index := Scalar.indexCast v124
  let c80 : Index := 80#32
  ![v125.toNat, 80]
def k0_off8 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_77 : BitVec 32 := 0#32
  let v127 : BitVec 32 := Scalar.addi v12 c0_i32_77
  let v128 : Index := Scalar.indexCast v127
  let c96 : Index := 96#32
  ![v128.toNat, 96]
def k0_off9 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c0_i32_78 : BitVec 32 := 0#32
  let v130 : BitVec 32 := Scalar.addi v12 c0_i32_78
  let v131 : Index := Scalar.indexCast v130
  let c112 : Index := 112#32
  ![v131.toNat, 112]

def k0_chk5 (v3 : IVec S16 32) (v4 : IVec S16 32) (v5 : IVec S16 32) (v6 : IVec S16 32) (v7 : IVec S16 32) (v8 : IVec S16 32) (v9 : IVec S16 32) (v10 : IVec S16 32) (v123 : IVec S16 32) : Prop :=
  (∀ a x, ((![v3, v123] : Fin 2 → IVec S16 32) a x).toNat < S8x2048.size a) ∧
  (∀ a x, ((![v4, v123] : Fin 2 → IVec S16 32) a x).toNat < S8x2048.size a) ∧
  (∀ a x, ((![v5, v123] : Fin 2 → IVec S16 32) a x).toNat < S8x2048.size a) ∧
  (∀ a x, ((![v6, v123] : Fin 2 → IVec S16 32) a x).toNat < S8x2048.size a) ∧
  (∀ a x, ((![v7, v123] : Fin 2 → IVec S16 32) a x).toNat < S8x2048.size a) ∧
  (∀ a x, ((![v8, v123] : Fin 2 → IVec S16 32) a x).toNat < S8x2048.size a) ∧
  (∀ a x, ((![v9, v123] : Fin 2 → IVec S16 32) a x).toNat < S8x2048.size a) ∧
  (∀ a x, ((![v10, v123] : Fin 2 → IVec S16 32) a x).toNat < S8x2048.size a)
theorem k0_idx33_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v3, v123] : Fin 2 → IVec S16 32) a x).toNat < S8x2048.size a := fun v3 v4 v5 v6 v7 v8 v9 v10 v123 k0_hw5 => k0_hw5.1
theorem k0_idx34_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v4, v123] : Fin 2 → IVec S16 32) a x).toNat < S8x2048.size a := fun v3 v4 v5 v6 v7 v8 v9 v10 v123 k0_hw5 => k0_hw5.2.1
theorem k0_idx35_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v5, v123] : Fin 2 → IVec S16 32) a x).toNat < S8x2048.size a := fun v3 v4 v5 v6 v7 v8 v9 v10 v123 k0_hw5 => k0_hw5.2.2.1
theorem k0_idx36_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v6, v123] : Fin 2 → IVec S16 32) a x).toNat < S8x2048.size a := fun v3 v4 v5 v6 v7 v8 v9 v10 v123 k0_hw5 => k0_hw5.2.2.2.1
theorem k0_idx37_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v7, v123] : Fin 2 → IVec S16 32) a x).toNat < S8x2048.size a := fun v3 v4 v5 v6 v7 v8 v9 v10 v123 k0_hw5 => k0_hw5.2.2.2.2.1
theorem k0_idx38_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v8, v123] : Fin 2 → IVec S16 32) a x).toNat < S8x2048.size a := fun v3 v4 v5 v6 v7 v8 v9 v10 v123 k0_hw5 => k0_hw5.2.2.2.2.2.1
theorem k0_idx39_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v9, v123] : Fin 2 → IVec S16 32) a x).toNat < S8x2048.size a := fun v3 v4 v5 v6 v7 v8 v9 v10 v123 k0_hw5 => k0_hw5.2.2.2.2.2.2.1
theorem k0_idx40_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k0_hw5 : k0_chk5 v3 v4 v5 v6 v7 v8 v9 v10 v123), ∀ a x, ((![v10, v123] : Fin 2 → IVec S16 32) a x).toNat < S8x2048.size a := fun v3 v4 v5 v6 v7 v8 v9 v10 v123 k0_hw5 => k0_hw5.2.2.2.2.2.2.2

def k0_chk6 (v3 : IVec S16 32) (v4 : IVec S16 32) (v5 : IVec S16 32) (v6 : IVec S16 32) (v7 : IVec S16 32) (v8 : IVec S16 32) (v9 : IVec S16 32) (v10 : IVec S16 32) (v126 : IVec S16 32) : Prop :=
  (∀ a x, ((![v3, v126] : Fin 2 → IVec S16 32) a x).toNat < S8x2048.size a) ∧
  (∀ a x, ((![v4, v126] : Fin 2 → IVec S16 32) a x).toNat < S8x2048.size a) ∧
  (∀ a x, ((![v5, v126] : Fin 2 → IVec S16 32) a x).toNat < S8x2048.size a) ∧
  (∀ a x, ((![v6, v126] : Fin 2 → IVec S16 32) a x).toNat < S8x2048.size a) ∧
  (∀ a x, ((![v7, v126] : Fin 2 → IVec S16 32) a x).toNat < S8x2048.size a) ∧
  (∀ a x, ((![v8, v126] : Fin 2 → IVec S16 32) a x).toNat < S8x2048.size a) ∧
  (∀ a x, ((![v9, v126] : Fin 2 → IVec S16 32) a x).toNat < S8x2048.size a) ∧
  (∀ a x, ((![v10, v126] : Fin 2 → IVec S16 32) a x).toNat < S8x2048.size a)
theorem k0_idx41_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v3, v126] : Fin 2 → IVec S16 32) a x).toNat < S8x2048.size a := fun v3 v4 v5 v6 v7 v8 v9 v10 v126 k0_hw6 => k0_hw6.1
theorem k0_idx42_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v4, v126] : Fin 2 → IVec S16 32) a x).toNat < S8x2048.size a := fun v3 v4 v5 v6 v7 v8 v9 v10 v126 k0_hw6 => k0_hw6.2.1
theorem k0_idx43_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v5, v126] : Fin 2 → IVec S16 32) a x).toNat < S8x2048.size a := fun v3 v4 v5 v6 v7 v8 v9 v10 v126 k0_hw6 => k0_hw6.2.2.1
theorem k0_idx44_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v6, v126] : Fin 2 → IVec S16 32) a x).toNat < S8x2048.size a := fun v3 v4 v5 v6 v7 v8 v9 v10 v126 k0_hw6 => k0_hw6.2.2.2.1
theorem k0_idx45_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v7, v126] : Fin 2 → IVec S16 32) a x).toNat < S8x2048.size a := fun v3 v4 v5 v6 v7 v8 v9 v10 v126 k0_hw6 => k0_hw6.2.2.2.2.1
theorem k0_idx46_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v8, v126] : Fin 2 → IVec S16 32) a x).toNat < S8x2048.size a := fun v3 v4 v5 v6 v7 v8 v9 v10 v126 k0_hw6 => k0_hw6.2.2.2.2.2.1
theorem k0_idx47_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v9, v126] : Fin 2 → IVec S16 32) a x).toNat < S8x2048.size a := fun v3 v4 v5 v6 v7 v8 v9 v10 v126 k0_hw6 => k0_hw6.2.2.2.2.2.2.1
theorem k0_idx48_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k0_hw6 : k0_chk6 v3 v4 v5 v6 v7 v8 v9 v10 v126), ∀ a x, ((![v10, v126] : Fin 2 → IVec S16 32) a x).toNat < S8x2048.size a := fun v3 v4 v5 v6 v7 v8 v9 v10 v126 k0_hw6 => k0_hw6.2.2.2.2.2.2.2

def k0_chk7 (v3 : IVec S16 32) (v4 : IVec S16 32) (v5 : IVec S16 32) (v6 : IVec S16 32) (v7 : IVec S16 32) (v8 : IVec S16 32) (v9 : IVec S16 32) (v10 : IVec S16 32) (v129 : IVec S16 32) : Prop :=
  (∀ a x, ((![v3, v129] : Fin 2 → IVec S16 32) a x).toNat < S8x2048.size a) ∧
  (∀ a x, ((![v4, v129] : Fin 2 → IVec S16 32) a x).toNat < S8x2048.size a) ∧
  (∀ a x, ((![v5, v129] : Fin 2 → IVec S16 32) a x).toNat < S8x2048.size a) ∧
  (∀ a x, ((![v6, v129] : Fin 2 → IVec S16 32) a x).toNat < S8x2048.size a) ∧
  (∀ a x, ((![v7, v129] : Fin 2 → IVec S16 32) a x).toNat < S8x2048.size a) ∧
  (∀ a x, ((![v8, v129] : Fin 2 → IVec S16 32) a x).toNat < S8x2048.size a) ∧
  (∀ a x, ((![v9, v129] : Fin 2 → IVec S16 32) a x).toNat < S8x2048.size a) ∧
  (∀ a x, ((![v10, v129] : Fin 2 → IVec S16 32) a x).toNat < S8x2048.size a)
theorem k0_idx49_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v3, v129] : Fin 2 → IVec S16 32) a x).toNat < S8x2048.size a := fun v3 v4 v5 v6 v7 v8 v9 v10 v129 k0_hw7 => k0_hw7.1
theorem k0_idx50_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v4, v129] : Fin 2 → IVec S16 32) a x).toNat < S8x2048.size a := fun v3 v4 v5 v6 v7 v8 v9 v10 v129 k0_hw7 => k0_hw7.2.1
theorem k0_idx51_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v5, v129] : Fin 2 → IVec S16 32) a x).toNat < S8x2048.size a := fun v3 v4 v5 v6 v7 v8 v9 v10 v129 k0_hw7 => k0_hw7.2.2.1
theorem k0_idx52_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v6, v129] : Fin 2 → IVec S16 32) a x).toNat < S8x2048.size a := fun v3 v4 v5 v6 v7 v8 v9 v10 v129 k0_hw7 => k0_hw7.2.2.2.1
theorem k0_idx53_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v7, v129] : Fin 2 → IVec S16 32) a x).toNat < S8x2048.size a := fun v3 v4 v5 v6 v7 v8 v9 v10 v129 k0_hw7 => k0_hw7.2.2.2.2.1
theorem k0_idx54_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v8, v129] : Fin 2 → IVec S16 32) a x).toNat < S8x2048.size a := fun v3 v4 v5 v6 v7 v8 v9 v10 v129 k0_hw7 => k0_hw7.2.2.2.2.2.1
theorem k0_idx55_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v9, v129] : Fin 2 → IVec S16 32) a x).toNat < S8x2048.size a := fun v3 v4 v5 v6 v7 v8 v9 v10 v129 k0_hw7 => k0_hw7.2.2.2.2.2.2.1
theorem k0_idx56_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k0_hw7 : k0_chk7 v3 v4 v5 v6 v7 v8 v9 v10 v129), ∀ a x, ((![v10, v129] : Fin 2 → IVec S16 32) a x).toNat < S8x2048.size a := fun v3 v4 v5 v6 v7 v8 v9 v10 v129 k0_hw7 => k0_hw7.2.2.2.2.2.2.2

def k0_chk8 (v3 : IVec S16 32) (v4 : IVec S16 32) (v5 : IVec S16 32) (v6 : IVec S16 32) (v7 : IVec S16 32) (v8 : IVec S16 32) (v9 : IVec S16 32) (v10 : IVec S16 32) (v132 : IVec S16 32) : Prop :=
  (∀ a x, ((![v3, v132] : Fin 2 → IVec S16 32) a x).toNat < S8x2048.size a) ∧
  (∀ a x, ((![v4, v132] : Fin 2 → IVec S16 32) a x).toNat < S8x2048.size a) ∧
  (∀ a x, ((![v5, v132] : Fin 2 → IVec S16 32) a x).toNat < S8x2048.size a) ∧
  (∀ a x, ((![v6, v132] : Fin 2 → IVec S16 32) a x).toNat < S8x2048.size a) ∧
  (∀ a x, ((![v7, v132] : Fin 2 → IVec S16 32) a x).toNat < S8x2048.size a) ∧
  (∀ a x, ((![v8, v132] : Fin 2 → IVec S16 32) a x).toNat < S8x2048.size a) ∧
  (∀ a x, ((![v9, v132] : Fin 2 → IVec S16 32) a x).toNat < S8x2048.size a) ∧
  (∀ a x, ((![v10, v132] : Fin 2 → IVec S16 32) a x).toNat < S8x2048.size a)
theorem k0_idx57_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v3, v132] : Fin 2 → IVec S16 32) a x).toNat < S8x2048.size a := fun v3 v4 v5 v6 v7 v8 v9 v10 v132 k0_hw8 => k0_hw8.1
theorem k0_idx58_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v4, v132] : Fin 2 → IVec S16 32) a x).toNat < S8x2048.size a := fun v3 v4 v5 v6 v7 v8 v9 v10 v132 k0_hw8 => k0_hw8.2.1
theorem k0_idx59_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v5, v132] : Fin 2 → IVec S16 32) a x).toNat < S8x2048.size a := fun v3 v4 v5 v6 v7 v8 v9 v10 v132 k0_hw8 => k0_hw8.2.2.1
theorem k0_idx60_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v6, v132] : Fin 2 → IVec S16 32) a x).toNat < S8x2048.size a := fun v3 v4 v5 v6 v7 v8 v9 v10 v132 k0_hw8 => k0_hw8.2.2.2.1
theorem k0_idx61_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v7, v132] : Fin 2 → IVec S16 32) a x).toNat < S8x2048.size a := fun v3 v4 v5 v6 v7 v8 v9 v10 v132 k0_hw8 => k0_hw8.2.2.2.2.1
theorem k0_idx62_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v8, v132] : Fin 2 → IVec S16 32) a x).toNat < S8x2048.size a := fun v3 v4 v5 v6 v7 v8 v9 v10 v132 k0_hw8 => k0_hw8.2.2.2.2.2.1
theorem k0_idx63_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v9, v132] : Fin 2 → IVec S16 32) a x).toNat < S8x2048.size a := fun v3 v4 v5 v6 v7 v8 v9 v10 v132 k0_hw8 => k0_hw8.2.2.2.2.2.2.1
theorem k0_idx64_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k0_hw8 : k0_chk8 v3 v4 v5 v6 v7 v8 v9 v10 v132), ∀ a x, ((![v10, v132] : Fin 2 → IVec S16 32) a x).toNat < S8x2048.size a := fun v3 v4 v5 v6 v7 v8 v9 v10 v132 k0_hw8 => k0_hw8.2.2.2.2.2.2.2
def k0_off10 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_143 : BitVec 32 := 1#32
  let v229 : BitVec 32 := Scalar.addi v12 c1_i32_143
  let v230 : Index := Scalar.indexCast v229
  let c0_144 : Index := 0#32
  ![v230.toNat, 0]
def k0_off11 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_145 : BitVec 32 := 1#32
  let v232 : BitVec 32 := Scalar.addi v12 c1_i32_145
  let v233 : Index := Scalar.indexCast v232
  let c16_146 : Index := 16#32
  ![v233.toNat, 16]
def k0_off12 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_147 : BitVec 32 := 1#32
  let v235 : BitVec 32 := Scalar.addi v12 c1_i32_147
  let v236 : Index := Scalar.indexCast v235
  let c32_148 : Index := 32#32
  ![v236.toNat, 32]
def k0_off13 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_149 : BitVec 32 := 1#32
  let v238 : BitVec 32 := Scalar.addi v12 c1_i32_149
  let v239 : Index := Scalar.indexCast v238
  let c48_150 : Index := 48#32
  ![v239.toNat, 48]

def k0_chk9 (v3 : IVec S16 32) (v4 : IVec S16 32) (v5 : IVec S16 32) (v6 : IVec S16 32) (v7 : IVec S16 32) (v8 : IVec S16 32) (v9 : IVec S16 32) (v10 : IVec S16 32) (v231 : IVec S16 32) : Prop :=
  (∀ a x, ((![v3, v231] : Fin 2 → IVec S16 32) a x).toNat < S8x2048.size a) ∧
  (∀ a x, ((![v4, v231] : Fin 2 → IVec S16 32) a x).toNat < S8x2048.size a) ∧
  (∀ a x, ((![v5, v231] : Fin 2 → IVec S16 32) a x).toNat < S8x2048.size a) ∧
  (∀ a x, ((![v6, v231] : Fin 2 → IVec S16 32) a x).toNat < S8x2048.size a) ∧
  (∀ a x, ((![v7, v231] : Fin 2 → IVec S16 32) a x).toNat < S8x2048.size a) ∧
  (∀ a x, ((![v8, v231] : Fin 2 → IVec S16 32) a x).toNat < S8x2048.size a) ∧
  (∀ a x, ((![v9, v231] : Fin 2 → IVec S16 32) a x).toNat < S8x2048.size a) ∧
  (∀ a x, ((![v10, v231] : Fin 2 → IVec S16 32) a x).toNat < S8x2048.size a)
theorem k0_idx65_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v3, v231] : Fin 2 → IVec S16 32) a x).toNat < S8x2048.size a := fun v3 v4 v5 v6 v7 v8 v9 v10 v231 k0_hw9 => k0_hw9.1
theorem k0_idx66_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v4, v231] : Fin 2 → IVec S16 32) a x).toNat < S8x2048.size a := fun v3 v4 v5 v6 v7 v8 v9 v10 v231 k0_hw9 => k0_hw9.2.1
theorem k0_idx67_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v5, v231] : Fin 2 → IVec S16 32) a x).toNat < S8x2048.size a := fun v3 v4 v5 v6 v7 v8 v9 v10 v231 k0_hw9 => k0_hw9.2.2.1
theorem k0_idx68_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v6, v231] : Fin 2 → IVec S16 32) a x).toNat < S8x2048.size a := fun v3 v4 v5 v6 v7 v8 v9 v10 v231 k0_hw9 => k0_hw9.2.2.2.1
theorem k0_idx69_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v7, v231] : Fin 2 → IVec S16 32) a x).toNat < S8x2048.size a := fun v3 v4 v5 v6 v7 v8 v9 v10 v231 k0_hw9 => k0_hw9.2.2.2.2.1
theorem k0_idx70_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v8, v231] : Fin 2 → IVec S16 32) a x).toNat < S8x2048.size a := fun v3 v4 v5 v6 v7 v8 v9 v10 v231 k0_hw9 => k0_hw9.2.2.2.2.2.1
theorem k0_idx71_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v9, v231] : Fin 2 → IVec S16 32) a x).toNat < S8x2048.size a := fun v3 v4 v5 v6 v7 v8 v9 v10 v231 k0_hw9 => k0_hw9.2.2.2.2.2.2.1
theorem k0_idx72_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k0_hw9 : k0_chk9 v3 v4 v5 v6 v7 v8 v9 v10 v231), ∀ a x, ((![v10, v231] : Fin 2 → IVec S16 32) a x).toNat < S8x2048.size a := fun v3 v4 v5 v6 v7 v8 v9 v10 v231 k0_hw9 => k0_hw9.2.2.2.2.2.2.2

def k0_chk10 (v3 : IVec S16 32) (v4 : IVec S16 32) (v5 : IVec S16 32) (v6 : IVec S16 32) (v7 : IVec S16 32) (v8 : IVec S16 32) (v9 : IVec S16 32) (v10 : IVec S16 32) (v234 : IVec S16 32) : Prop :=
  (∀ a x, ((![v3, v234] : Fin 2 → IVec S16 32) a x).toNat < S8x2048.size a) ∧
  (∀ a x, ((![v4, v234] : Fin 2 → IVec S16 32) a x).toNat < S8x2048.size a) ∧
  (∀ a x, ((![v5, v234] : Fin 2 → IVec S16 32) a x).toNat < S8x2048.size a) ∧
  (∀ a x, ((![v6, v234] : Fin 2 → IVec S16 32) a x).toNat < S8x2048.size a) ∧
  (∀ a x, ((![v7, v234] : Fin 2 → IVec S16 32) a x).toNat < S8x2048.size a) ∧
  (∀ a x, ((![v8, v234] : Fin 2 → IVec S16 32) a x).toNat < S8x2048.size a) ∧
  (∀ a x, ((![v9, v234] : Fin 2 → IVec S16 32) a x).toNat < S8x2048.size a) ∧
  (∀ a x, ((![v10, v234] : Fin 2 → IVec S16 32) a x).toNat < S8x2048.size a)
theorem k0_idx73_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v3, v234] : Fin 2 → IVec S16 32) a x).toNat < S8x2048.size a := fun v3 v4 v5 v6 v7 v8 v9 v10 v234 k0_hw10 => k0_hw10.1
theorem k0_idx74_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v4, v234] : Fin 2 → IVec S16 32) a x).toNat < S8x2048.size a := fun v3 v4 v5 v6 v7 v8 v9 v10 v234 k0_hw10 => k0_hw10.2.1
theorem k0_idx75_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v5, v234] : Fin 2 → IVec S16 32) a x).toNat < S8x2048.size a := fun v3 v4 v5 v6 v7 v8 v9 v10 v234 k0_hw10 => k0_hw10.2.2.1
theorem k0_idx76_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v6, v234] : Fin 2 → IVec S16 32) a x).toNat < S8x2048.size a := fun v3 v4 v5 v6 v7 v8 v9 v10 v234 k0_hw10 => k0_hw10.2.2.2.1
theorem k0_idx77_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v7, v234] : Fin 2 → IVec S16 32) a x).toNat < S8x2048.size a := fun v3 v4 v5 v6 v7 v8 v9 v10 v234 k0_hw10 => k0_hw10.2.2.2.2.1
theorem k0_idx78_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v8, v234] : Fin 2 → IVec S16 32) a x).toNat < S8x2048.size a := fun v3 v4 v5 v6 v7 v8 v9 v10 v234 k0_hw10 => k0_hw10.2.2.2.2.2.1
theorem k0_idx79_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v9, v234] : Fin 2 → IVec S16 32) a x).toNat < S8x2048.size a := fun v3 v4 v5 v6 v7 v8 v9 v10 v234 k0_hw10 => k0_hw10.2.2.2.2.2.2.1
theorem k0_idx80_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k0_hw10 : k0_chk10 v3 v4 v5 v6 v7 v8 v9 v10 v234), ∀ a x, ((![v10, v234] : Fin 2 → IVec S16 32) a x).toNat < S8x2048.size a := fun v3 v4 v5 v6 v7 v8 v9 v10 v234 k0_hw10 => k0_hw10.2.2.2.2.2.2.2

def k0_chk11 (v3 : IVec S16 32) (v4 : IVec S16 32) (v5 : IVec S16 32) (v6 : IVec S16 32) (v7 : IVec S16 32) (v8 : IVec S16 32) (v9 : IVec S16 32) (v10 : IVec S16 32) (v237 : IVec S16 32) : Prop :=
  (∀ a x, ((![v3, v237] : Fin 2 → IVec S16 32) a x).toNat < S8x2048.size a) ∧
  (∀ a x, ((![v4, v237] : Fin 2 → IVec S16 32) a x).toNat < S8x2048.size a) ∧
  (∀ a x, ((![v5, v237] : Fin 2 → IVec S16 32) a x).toNat < S8x2048.size a) ∧
  (∀ a x, ((![v6, v237] : Fin 2 → IVec S16 32) a x).toNat < S8x2048.size a) ∧
  (∀ a x, ((![v7, v237] : Fin 2 → IVec S16 32) a x).toNat < S8x2048.size a) ∧
  (∀ a x, ((![v8, v237] : Fin 2 → IVec S16 32) a x).toNat < S8x2048.size a) ∧
  (∀ a x, ((![v9, v237] : Fin 2 → IVec S16 32) a x).toNat < S8x2048.size a) ∧
  (∀ a x, ((![v10, v237] : Fin 2 → IVec S16 32) a x).toNat < S8x2048.size a)
theorem k0_idx81_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v3, v237] : Fin 2 → IVec S16 32) a x).toNat < S8x2048.size a := fun v3 v4 v5 v6 v7 v8 v9 v10 v237 k0_hw11 => k0_hw11.1
theorem k0_idx82_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v4, v237] : Fin 2 → IVec S16 32) a x).toNat < S8x2048.size a := fun v3 v4 v5 v6 v7 v8 v9 v10 v237 k0_hw11 => k0_hw11.2.1
theorem k0_idx83_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v5, v237] : Fin 2 → IVec S16 32) a x).toNat < S8x2048.size a := fun v3 v4 v5 v6 v7 v8 v9 v10 v237 k0_hw11 => k0_hw11.2.2.1
theorem k0_idx84_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v6, v237] : Fin 2 → IVec S16 32) a x).toNat < S8x2048.size a := fun v3 v4 v5 v6 v7 v8 v9 v10 v237 k0_hw11 => k0_hw11.2.2.2.1
theorem k0_idx85_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v7, v237] : Fin 2 → IVec S16 32) a x).toNat < S8x2048.size a := fun v3 v4 v5 v6 v7 v8 v9 v10 v237 k0_hw11 => k0_hw11.2.2.2.2.1
theorem k0_idx86_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v8, v237] : Fin 2 → IVec S16 32) a x).toNat < S8x2048.size a := fun v3 v4 v5 v6 v7 v8 v9 v10 v237 k0_hw11 => k0_hw11.2.2.2.2.2.1
theorem k0_idx87_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v9, v237] : Fin 2 → IVec S16 32) a x).toNat < S8x2048.size a := fun v3 v4 v5 v6 v7 v8 v9 v10 v237 k0_hw11 => k0_hw11.2.2.2.2.2.2.1
theorem k0_idx88_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k0_hw11 : k0_chk11 v3 v4 v5 v6 v7 v8 v9 v10 v237), ∀ a x, ((![v10, v237] : Fin 2 → IVec S16 32) a x).toNat < S8x2048.size a := fun v3 v4 v5 v6 v7 v8 v9 v10 v237 k0_hw11 => k0_hw11.2.2.2.2.2.2.2

def k0_chk12 (v3 : IVec S16 32) (v4 : IVec S16 32) (v5 : IVec S16 32) (v6 : IVec S16 32) (v7 : IVec S16 32) (v8 : IVec S16 32) (v9 : IVec S16 32) (v10 : IVec S16 32) (v240 : IVec S16 32) : Prop :=
  (∀ a x, ((![v3, v240] : Fin 2 → IVec S16 32) a x).toNat < S8x2048.size a) ∧
  (∀ a x, ((![v4, v240] : Fin 2 → IVec S16 32) a x).toNat < S8x2048.size a) ∧
  (∀ a x, ((![v5, v240] : Fin 2 → IVec S16 32) a x).toNat < S8x2048.size a) ∧
  (∀ a x, ((![v6, v240] : Fin 2 → IVec S16 32) a x).toNat < S8x2048.size a) ∧
  (∀ a x, ((![v7, v240] : Fin 2 → IVec S16 32) a x).toNat < S8x2048.size a) ∧
  (∀ a x, ((![v8, v240] : Fin 2 → IVec S16 32) a x).toNat < S8x2048.size a) ∧
  (∀ a x, ((![v9, v240] : Fin 2 → IVec S16 32) a x).toNat < S8x2048.size a) ∧
  (∀ a x, ((![v10, v240] : Fin 2 → IVec S16 32) a x).toNat < S8x2048.size a)
theorem k0_idx89_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v3, v240] : Fin 2 → IVec S16 32) a x).toNat < S8x2048.size a := fun v3 v4 v5 v6 v7 v8 v9 v10 v240 k0_hw12 => k0_hw12.1
theorem k0_idx90_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v4, v240] : Fin 2 → IVec S16 32) a x).toNat < S8x2048.size a := fun v3 v4 v5 v6 v7 v8 v9 v10 v240 k0_hw12 => k0_hw12.2.1
theorem k0_idx91_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v5, v240] : Fin 2 → IVec S16 32) a x).toNat < S8x2048.size a := fun v3 v4 v5 v6 v7 v8 v9 v10 v240 k0_hw12 => k0_hw12.2.2.1
theorem k0_idx92_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v6, v240] : Fin 2 → IVec S16 32) a x).toNat < S8x2048.size a := fun v3 v4 v5 v6 v7 v8 v9 v10 v240 k0_hw12 => k0_hw12.2.2.2.1
theorem k0_idx93_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v7, v240] : Fin 2 → IVec S16 32) a x).toNat < S8x2048.size a := fun v3 v4 v5 v6 v7 v8 v9 v10 v240 k0_hw12 => k0_hw12.2.2.2.2.1
theorem k0_idx94_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v8, v240] : Fin 2 → IVec S16 32) a x).toNat < S8x2048.size a := fun v3 v4 v5 v6 v7 v8 v9 v10 v240 k0_hw12 => k0_hw12.2.2.2.2.2.1
theorem k0_idx95_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v9, v240] : Fin 2 → IVec S16 32) a x).toNat < S8x2048.size a := fun v3 v4 v5 v6 v7 v8 v9 v10 v240 k0_hw12 => k0_hw12.2.2.2.2.2.2.1
theorem k0_idx96_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k0_hw12 : k0_chk12 v3 v4 v5 v6 v7 v8 v9 v10 v240), ∀ a x, ((![v10, v240] : Fin 2 → IVec S16 32) a x).toNat < S8x2048.size a := fun v3 v4 v5 v6 v7 v8 v9 v10 v240 k0_hw12 => k0_hw12.2.2.2.2.2.2.2
def k0_off14 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_211 : BitVec 32 := 1#32
  let v337 : BitVec 32 := Scalar.addi v12 c1_i32_211
  let v338 : Index := Scalar.indexCast v337
  let c64_212 : Index := 64#32
  ![v338.toNat, 64]
def k0_off15 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_213 : BitVec 32 := 1#32
  let v340 : BitVec 32 := Scalar.addi v12 c1_i32_213
  let v341 : Index := Scalar.indexCast v340
  let c80_214 : Index := 80#32
  ![v341.toNat, 80]
def k0_off16 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_215 : BitVec 32 := 1#32
  let v343 : BitVec 32 := Scalar.addi v12 c1_i32_215
  let v344 : Index := Scalar.indexCast v343
  let c96_216 : Index := 96#32
  ![v344.toNat, 96]
def k0_off17 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c1_i32_217 : BitVec 32 := 1#32
  let v346 : BitVec 32 := Scalar.addi v12 c1_i32_217
  let v347 : Index := Scalar.indexCast v346
  let c112_218 : Index := 112#32
  ![v347.toNat, 112]

def k0_chk13 (v3 : IVec S16 32) (v4 : IVec S16 32) (v5 : IVec S16 32) (v6 : IVec S16 32) (v7 : IVec S16 32) (v8 : IVec S16 32) (v9 : IVec S16 32) (v10 : IVec S16 32) (v339 : IVec S16 32) : Prop :=
  (∀ a x, ((![v3, v339] : Fin 2 → IVec S16 32) a x).toNat < S8x2048.size a) ∧
  (∀ a x, ((![v4, v339] : Fin 2 → IVec S16 32) a x).toNat < S8x2048.size a) ∧
  (∀ a x, ((![v5, v339] : Fin 2 → IVec S16 32) a x).toNat < S8x2048.size a) ∧
  (∀ a x, ((![v6, v339] : Fin 2 → IVec S16 32) a x).toNat < S8x2048.size a) ∧
  (∀ a x, ((![v7, v339] : Fin 2 → IVec S16 32) a x).toNat < S8x2048.size a) ∧
  (∀ a x, ((![v8, v339] : Fin 2 → IVec S16 32) a x).toNat < S8x2048.size a) ∧
  (∀ a x, ((![v9, v339] : Fin 2 → IVec S16 32) a x).toNat < S8x2048.size a) ∧
  (∀ a x, ((![v10, v339] : Fin 2 → IVec S16 32) a x).toNat < S8x2048.size a)
theorem k0_idx97_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v3, v339] : Fin 2 → IVec S16 32) a x).toNat < S8x2048.size a := fun v3 v4 v5 v6 v7 v8 v9 v10 v339 k0_hw13 => k0_hw13.1
theorem k0_idx98_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v4, v339] : Fin 2 → IVec S16 32) a x).toNat < S8x2048.size a := fun v3 v4 v5 v6 v7 v8 v9 v10 v339 k0_hw13 => k0_hw13.2.1
theorem k0_idx99_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v5, v339] : Fin 2 → IVec S16 32) a x).toNat < S8x2048.size a := fun v3 v4 v5 v6 v7 v8 v9 v10 v339 k0_hw13 => k0_hw13.2.2.1
theorem k0_idx100_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v6, v339] : Fin 2 → IVec S16 32) a x).toNat < S8x2048.size a := fun v3 v4 v5 v6 v7 v8 v9 v10 v339 k0_hw13 => k0_hw13.2.2.2.1
theorem k0_idx101_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v7, v339] : Fin 2 → IVec S16 32) a x).toNat < S8x2048.size a := fun v3 v4 v5 v6 v7 v8 v9 v10 v339 k0_hw13 => k0_hw13.2.2.2.2.1
theorem k0_idx102_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v8, v339] : Fin 2 → IVec S16 32) a x).toNat < S8x2048.size a := fun v3 v4 v5 v6 v7 v8 v9 v10 v339 k0_hw13 => k0_hw13.2.2.2.2.2.1
theorem k0_idx103_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v9, v339] : Fin 2 → IVec S16 32) a x).toNat < S8x2048.size a := fun v3 v4 v5 v6 v7 v8 v9 v10 v339 k0_hw13 => k0_hw13.2.2.2.2.2.2.1
theorem k0_idx104_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k0_hw13 : k0_chk13 v3 v4 v5 v6 v7 v8 v9 v10 v339), ∀ a x, ((![v10, v339] : Fin 2 → IVec S16 32) a x).toNat < S8x2048.size a := fun v3 v4 v5 v6 v7 v8 v9 v10 v339 k0_hw13 => k0_hw13.2.2.2.2.2.2.2

def k0_chk14 (v3 : IVec S16 32) (v4 : IVec S16 32) (v5 : IVec S16 32) (v6 : IVec S16 32) (v7 : IVec S16 32) (v8 : IVec S16 32) (v9 : IVec S16 32) (v10 : IVec S16 32) (v342 : IVec S16 32) : Prop :=
  (∀ a x, ((![v3, v342] : Fin 2 → IVec S16 32) a x).toNat < S8x2048.size a) ∧
  (∀ a x, ((![v4, v342] : Fin 2 → IVec S16 32) a x).toNat < S8x2048.size a) ∧
  (∀ a x, ((![v5, v342] : Fin 2 → IVec S16 32) a x).toNat < S8x2048.size a) ∧
  (∀ a x, ((![v6, v342] : Fin 2 → IVec S16 32) a x).toNat < S8x2048.size a) ∧
  (∀ a x, ((![v7, v342] : Fin 2 → IVec S16 32) a x).toNat < S8x2048.size a) ∧
  (∀ a x, ((![v8, v342] : Fin 2 → IVec S16 32) a x).toNat < S8x2048.size a) ∧
  (∀ a x, ((![v9, v342] : Fin 2 → IVec S16 32) a x).toNat < S8x2048.size a) ∧
  (∀ a x, ((![v10, v342] : Fin 2 → IVec S16 32) a x).toNat < S8x2048.size a)
theorem k0_idx105_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v3, v342] : Fin 2 → IVec S16 32) a x).toNat < S8x2048.size a := fun v3 v4 v5 v6 v7 v8 v9 v10 v342 k0_hw14 => k0_hw14.1
theorem k0_idx106_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v4, v342] : Fin 2 → IVec S16 32) a x).toNat < S8x2048.size a := fun v3 v4 v5 v6 v7 v8 v9 v10 v342 k0_hw14 => k0_hw14.2.1
theorem k0_idx107_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v5, v342] : Fin 2 → IVec S16 32) a x).toNat < S8x2048.size a := fun v3 v4 v5 v6 v7 v8 v9 v10 v342 k0_hw14 => k0_hw14.2.2.1
theorem k0_idx108_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v6, v342] : Fin 2 → IVec S16 32) a x).toNat < S8x2048.size a := fun v3 v4 v5 v6 v7 v8 v9 v10 v342 k0_hw14 => k0_hw14.2.2.2.1
theorem k0_idx109_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v7, v342] : Fin 2 → IVec S16 32) a x).toNat < S8x2048.size a := fun v3 v4 v5 v6 v7 v8 v9 v10 v342 k0_hw14 => k0_hw14.2.2.2.2.1
theorem k0_idx110_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v8, v342] : Fin 2 → IVec S16 32) a x).toNat < S8x2048.size a := fun v3 v4 v5 v6 v7 v8 v9 v10 v342 k0_hw14 => k0_hw14.2.2.2.2.2.1
theorem k0_idx111_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v9, v342] : Fin 2 → IVec S16 32) a x).toNat < S8x2048.size a := fun v3 v4 v5 v6 v7 v8 v9 v10 v342 k0_hw14 => k0_hw14.2.2.2.2.2.2.1
theorem k0_idx112_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k0_hw14 : k0_chk14 v3 v4 v5 v6 v7 v8 v9 v10 v342), ∀ a x, ((![v10, v342] : Fin 2 → IVec S16 32) a x).toNat < S8x2048.size a := fun v3 v4 v5 v6 v7 v8 v9 v10 v342 k0_hw14 => k0_hw14.2.2.2.2.2.2.2

def k0_chk15 (v3 : IVec S16 32) (v4 : IVec S16 32) (v5 : IVec S16 32) (v6 : IVec S16 32) (v7 : IVec S16 32) (v8 : IVec S16 32) (v9 : IVec S16 32) (v10 : IVec S16 32) (v345 : IVec S16 32) : Prop :=
  (∀ a x, ((![v3, v345] : Fin 2 → IVec S16 32) a x).toNat < S8x2048.size a) ∧
  (∀ a x, ((![v4, v345] : Fin 2 → IVec S16 32) a x).toNat < S8x2048.size a) ∧
  (∀ a x, ((![v5, v345] : Fin 2 → IVec S16 32) a x).toNat < S8x2048.size a) ∧
  (∀ a x, ((![v6, v345] : Fin 2 → IVec S16 32) a x).toNat < S8x2048.size a) ∧
  (∀ a x, ((![v7, v345] : Fin 2 → IVec S16 32) a x).toNat < S8x2048.size a) ∧
  (∀ a x, ((![v8, v345] : Fin 2 → IVec S16 32) a x).toNat < S8x2048.size a) ∧
  (∀ a x, ((![v9, v345] : Fin 2 → IVec S16 32) a x).toNat < S8x2048.size a) ∧
  (∀ a x, ((![v10, v345] : Fin 2 → IVec S16 32) a x).toNat < S8x2048.size a)
theorem k0_idx113_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v3, v345] : Fin 2 → IVec S16 32) a x).toNat < S8x2048.size a := fun v3 v4 v5 v6 v7 v8 v9 v10 v345 k0_hw15 => k0_hw15.1
theorem k0_idx114_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v4, v345] : Fin 2 → IVec S16 32) a x).toNat < S8x2048.size a := fun v3 v4 v5 v6 v7 v8 v9 v10 v345 k0_hw15 => k0_hw15.2.1
theorem k0_idx115_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v5, v345] : Fin 2 → IVec S16 32) a x).toNat < S8x2048.size a := fun v3 v4 v5 v6 v7 v8 v9 v10 v345 k0_hw15 => k0_hw15.2.2.1
theorem k0_idx116_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v6, v345] : Fin 2 → IVec S16 32) a x).toNat < S8x2048.size a := fun v3 v4 v5 v6 v7 v8 v9 v10 v345 k0_hw15 => k0_hw15.2.2.2.1
theorem k0_idx117_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v7, v345] : Fin 2 → IVec S16 32) a x).toNat < S8x2048.size a := fun v3 v4 v5 v6 v7 v8 v9 v10 v345 k0_hw15 => k0_hw15.2.2.2.2.1
theorem k0_idx118_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v8, v345] : Fin 2 → IVec S16 32) a x).toNat < S8x2048.size a := fun v3 v4 v5 v6 v7 v8 v9 v10 v345 k0_hw15 => k0_hw15.2.2.2.2.2.1
theorem k0_idx119_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v9, v345] : Fin 2 → IVec S16 32) a x).toNat < S8x2048.size a := fun v3 v4 v5 v6 v7 v8 v9 v10 v345 k0_hw15 => k0_hw15.2.2.2.2.2.2.1
theorem k0_idx120_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k0_hw15 : k0_chk15 v3 v4 v5 v6 v7 v8 v9 v10 v345), ∀ a x, ((![v10, v345] : Fin 2 → IVec S16 32) a x).toNat < S8x2048.size a := fun v3 v4 v5 v6 v7 v8 v9 v10 v345 k0_hw15 => k0_hw15.2.2.2.2.2.2.2

def k0_chk16 (v3 : IVec S16 32) (v4 : IVec S16 32) (v5 : IVec S16 32) (v6 : IVec S16 32) (v7 : IVec S16 32) (v8 : IVec S16 32) (v9 : IVec S16 32) (v10 : IVec S16 32) (v348 : IVec S16 32) : Prop :=
  (∀ a x, ((![v3, v348] : Fin 2 → IVec S16 32) a x).toNat < S8x2048.size a) ∧
  (∀ a x, ((![v4, v348] : Fin 2 → IVec S16 32) a x).toNat < S8x2048.size a) ∧
  (∀ a x, ((![v5, v348] : Fin 2 → IVec S16 32) a x).toNat < S8x2048.size a) ∧
  (∀ a x, ((![v6, v348] : Fin 2 → IVec S16 32) a x).toNat < S8x2048.size a) ∧
  (∀ a x, ((![v7, v348] : Fin 2 → IVec S16 32) a x).toNat < S8x2048.size a) ∧
  (∀ a x, ((![v8, v348] : Fin 2 → IVec S16 32) a x).toNat < S8x2048.size a) ∧
  (∀ a x, ((![v9, v348] : Fin 2 → IVec S16 32) a x).toNat < S8x2048.size a) ∧
  (∀ a x, ((![v10, v348] : Fin 2 → IVec S16 32) a x).toNat < S8x2048.size a)
theorem k0_idx121_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v3, v348] : Fin 2 → IVec S16 32) a x).toNat < S8x2048.size a := fun v3 v4 v5 v6 v7 v8 v9 v10 v348 k0_hw16 => k0_hw16.1
theorem k0_idx122_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v4, v348] : Fin 2 → IVec S16 32) a x).toNat < S8x2048.size a := fun v3 v4 v5 v6 v7 v8 v9 v10 v348 k0_hw16 => k0_hw16.2.1
theorem k0_idx123_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v5, v348] : Fin 2 → IVec S16 32) a x).toNat < S8x2048.size a := fun v3 v4 v5 v6 v7 v8 v9 v10 v348 k0_hw16 => k0_hw16.2.2.1
theorem k0_idx124_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v6, v348] : Fin 2 → IVec S16 32) a x).toNat < S8x2048.size a := fun v3 v4 v5 v6 v7 v8 v9 v10 v348 k0_hw16 => k0_hw16.2.2.2.1
theorem k0_idx125_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v7, v348] : Fin 2 → IVec S16 32) a x).toNat < S8x2048.size a := fun v3 v4 v5 v6 v7 v8 v9 v10 v348 k0_hw16 => k0_hw16.2.2.2.2.1
theorem k0_idx126_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v8, v348] : Fin 2 → IVec S16 32) a x).toNat < S8x2048.size a := fun v3 v4 v5 v6 v7 v8 v9 v10 v348 k0_hw16 => k0_hw16.2.2.2.2.2.1
theorem k0_idx127_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v9, v348] : Fin 2 → IVec S16 32) a x).toNat < S8x2048.size a := fun v3 v4 v5 v6 v7 v8 v9 v10 v348 k0_hw16 => k0_hw16.2.2.2.2.2.2.1
theorem k0_idx128_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k0_hw16 : k0_chk16 v3 v4 v5 v6 v7 v8 v9 v10 v348), ∀ a x, ((![v10, v348] : Fin 2 → IVec S16 32) a x).toNat < S8x2048.size a := fun v3 v4 v5 v6 v7 v8 v9 v10 v348 k0_hw16 => k0_hw16.2.2.2.2.2.2.2
def k0_off18 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_279 : BitVec 32 := 2#32
  let v445 : BitVec 32 := Scalar.addi v12 c2_i32_279
  let v446 : Index := Scalar.indexCast v445
  let c0_280 : Index := 0#32
  ![v446.toNat, 0]
def k0_off19 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_281 : BitVec 32 := 2#32
  let v448 : BitVec 32 := Scalar.addi v12 c2_i32_281
  let v449 : Index := Scalar.indexCast v448
  let c16_282 : Index := 16#32
  ![v449.toNat, 16]
def k0_off20 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_283 : BitVec 32 := 2#32
  let v451 : BitVec 32 := Scalar.addi v12 c2_i32_283
  let v452 : Index := Scalar.indexCast v451
  let c32_284 : Index := 32#32
  ![v452.toNat, 32]
def k0_off21 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_285 : BitVec 32 := 2#32
  let v454 : BitVec 32 := Scalar.addi v12 c2_i32_285
  let v455 : Index := Scalar.indexCast v454
  let c48_286 : Index := 48#32
  ![v455.toNat, 48]

def k0_chk17 (v3 : IVec S16 32) (v4 : IVec S16 32) (v5 : IVec S16 32) (v6 : IVec S16 32) (v7 : IVec S16 32) (v8 : IVec S16 32) (v9 : IVec S16 32) (v10 : IVec S16 32) (v447 : IVec S16 32) : Prop :=
  (∀ a x, ((![v3, v447] : Fin 2 → IVec S16 32) a x).toNat < S8x2048.size a) ∧
  (∀ a x, ((![v4, v447] : Fin 2 → IVec S16 32) a x).toNat < S8x2048.size a) ∧
  (∀ a x, ((![v5, v447] : Fin 2 → IVec S16 32) a x).toNat < S8x2048.size a) ∧
  (∀ a x, ((![v6, v447] : Fin 2 → IVec S16 32) a x).toNat < S8x2048.size a) ∧
  (∀ a x, ((![v7, v447] : Fin 2 → IVec S16 32) a x).toNat < S8x2048.size a) ∧
  (∀ a x, ((![v8, v447] : Fin 2 → IVec S16 32) a x).toNat < S8x2048.size a) ∧
  (∀ a x, ((![v9, v447] : Fin 2 → IVec S16 32) a x).toNat < S8x2048.size a) ∧
  (∀ a x, ((![v10, v447] : Fin 2 → IVec S16 32) a x).toNat < S8x2048.size a)
theorem k0_idx129_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v3, v447] : Fin 2 → IVec S16 32) a x).toNat < S8x2048.size a := fun v3 v4 v5 v6 v7 v8 v9 v10 v447 k0_hw17 => k0_hw17.1
theorem k0_idx130_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v4, v447] : Fin 2 → IVec S16 32) a x).toNat < S8x2048.size a := fun v3 v4 v5 v6 v7 v8 v9 v10 v447 k0_hw17 => k0_hw17.2.1
theorem k0_idx131_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v5, v447] : Fin 2 → IVec S16 32) a x).toNat < S8x2048.size a := fun v3 v4 v5 v6 v7 v8 v9 v10 v447 k0_hw17 => k0_hw17.2.2.1
theorem k0_idx132_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v6, v447] : Fin 2 → IVec S16 32) a x).toNat < S8x2048.size a := fun v3 v4 v5 v6 v7 v8 v9 v10 v447 k0_hw17 => k0_hw17.2.2.2.1
theorem k0_idx133_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v7, v447] : Fin 2 → IVec S16 32) a x).toNat < S8x2048.size a := fun v3 v4 v5 v6 v7 v8 v9 v10 v447 k0_hw17 => k0_hw17.2.2.2.2.1
theorem k0_idx134_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v8, v447] : Fin 2 → IVec S16 32) a x).toNat < S8x2048.size a := fun v3 v4 v5 v6 v7 v8 v9 v10 v447 k0_hw17 => k0_hw17.2.2.2.2.2.1
theorem k0_idx135_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v9, v447] : Fin 2 → IVec S16 32) a x).toNat < S8x2048.size a := fun v3 v4 v5 v6 v7 v8 v9 v10 v447 k0_hw17 => k0_hw17.2.2.2.2.2.2.1
theorem k0_idx136_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k0_hw17 : k0_chk17 v3 v4 v5 v6 v7 v8 v9 v10 v447), ∀ a x, ((![v10, v447] : Fin 2 → IVec S16 32) a x).toNat < S8x2048.size a := fun v3 v4 v5 v6 v7 v8 v9 v10 v447 k0_hw17 => k0_hw17.2.2.2.2.2.2.2

def k0_chk18 (v3 : IVec S16 32) (v4 : IVec S16 32) (v5 : IVec S16 32) (v6 : IVec S16 32) (v7 : IVec S16 32) (v8 : IVec S16 32) (v9 : IVec S16 32) (v10 : IVec S16 32) (v450 : IVec S16 32) : Prop :=
  (∀ a x, ((![v3, v450] : Fin 2 → IVec S16 32) a x).toNat < S8x2048.size a) ∧
  (∀ a x, ((![v4, v450] : Fin 2 → IVec S16 32) a x).toNat < S8x2048.size a) ∧
  (∀ a x, ((![v5, v450] : Fin 2 → IVec S16 32) a x).toNat < S8x2048.size a) ∧
  (∀ a x, ((![v6, v450] : Fin 2 → IVec S16 32) a x).toNat < S8x2048.size a) ∧
  (∀ a x, ((![v7, v450] : Fin 2 → IVec S16 32) a x).toNat < S8x2048.size a) ∧
  (∀ a x, ((![v8, v450] : Fin 2 → IVec S16 32) a x).toNat < S8x2048.size a) ∧
  (∀ a x, ((![v9, v450] : Fin 2 → IVec S16 32) a x).toNat < S8x2048.size a) ∧
  (∀ a x, ((![v10, v450] : Fin 2 → IVec S16 32) a x).toNat < S8x2048.size a)
theorem k0_idx137_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v3, v450] : Fin 2 → IVec S16 32) a x).toNat < S8x2048.size a := fun v3 v4 v5 v6 v7 v8 v9 v10 v450 k0_hw18 => k0_hw18.1
theorem k0_idx138_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v4, v450] : Fin 2 → IVec S16 32) a x).toNat < S8x2048.size a := fun v3 v4 v5 v6 v7 v8 v9 v10 v450 k0_hw18 => k0_hw18.2.1
theorem k0_idx139_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v5, v450] : Fin 2 → IVec S16 32) a x).toNat < S8x2048.size a := fun v3 v4 v5 v6 v7 v8 v9 v10 v450 k0_hw18 => k0_hw18.2.2.1
theorem k0_idx140_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v6, v450] : Fin 2 → IVec S16 32) a x).toNat < S8x2048.size a := fun v3 v4 v5 v6 v7 v8 v9 v10 v450 k0_hw18 => k0_hw18.2.2.2.1
theorem k0_idx141_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v7, v450] : Fin 2 → IVec S16 32) a x).toNat < S8x2048.size a := fun v3 v4 v5 v6 v7 v8 v9 v10 v450 k0_hw18 => k0_hw18.2.2.2.2.1
theorem k0_idx142_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v8, v450] : Fin 2 → IVec S16 32) a x).toNat < S8x2048.size a := fun v3 v4 v5 v6 v7 v8 v9 v10 v450 k0_hw18 => k0_hw18.2.2.2.2.2.1
theorem k0_idx143_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v9, v450] : Fin 2 → IVec S16 32) a x).toNat < S8x2048.size a := fun v3 v4 v5 v6 v7 v8 v9 v10 v450 k0_hw18 => k0_hw18.2.2.2.2.2.2.1
theorem k0_idx144_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k0_hw18 : k0_chk18 v3 v4 v5 v6 v7 v8 v9 v10 v450), ∀ a x, ((![v10, v450] : Fin 2 → IVec S16 32) a x).toNat < S8x2048.size a := fun v3 v4 v5 v6 v7 v8 v9 v10 v450 k0_hw18 => k0_hw18.2.2.2.2.2.2.2

def k0_chk19 (v3 : IVec S16 32) (v4 : IVec S16 32) (v5 : IVec S16 32) (v6 : IVec S16 32) (v7 : IVec S16 32) (v8 : IVec S16 32) (v9 : IVec S16 32) (v10 : IVec S16 32) (v453 : IVec S16 32) : Prop :=
  (∀ a x, ((![v3, v453] : Fin 2 → IVec S16 32) a x).toNat < S8x2048.size a) ∧
  (∀ a x, ((![v4, v453] : Fin 2 → IVec S16 32) a x).toNat < S8x2048.size a) ∧
  (∀ a x, ((![v5, v453] : Fin 2 → IVec S16 32) a x).toNat < S8x2048.size a) ∧
  (∀ a x, ((![v6, v453] : Fin 2 → IVec S16 32) a x).toNat < S8x2048.size a) ∧
  (∀ a x, ((![v7, v453] : Fin 2 → IVec S16 32) a x).toNat < S8x2048.size a) ∧
  (∀ a x, ((![v8, v453] : Fin 2 → IVec S16 32) a x).toNat < S8x2048.size a) ∧
  (∀ a x, ((![v9, v453] : Fin 2 → IVec S16 32) a x).toNat < S8x2048.size a) ∧
  (∀ a x, ((![v10, v453] : Fin 2 → IVec S16 32) a x).toNat < S8x2048.size a)
theorem k0_idx145_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v3, v453] : Fin 2 → IVec S16 32) a x).toNat < S8x2048.size a := fun v3 v4 v5 v6 v7 v8 v9 v10 v453 k0_hw19 => k0_hw19.1
theorem k0_idx146_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v4, v453] : Fin 2 → IVec S16 32) a x).toNat < S8x2048.size a := fun v3 v4 v5 v6 v7 v8 v9 v10 v453 k0_hw19 => k0_hw19.2.1
theorem k0_idx147_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v5, v453] : Fin 2 → IVec S16 32) a x).toNat < S8x2048.size a := fun v3 v4 v5 v6 v7 v8 v9 v10 v453 k0_hw19 => k0_hw19.2.2.1
theorem k0_idx148_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v6, v453] : Fin 2 → IVec S16 32) a x).toNat < S8x2048.size a := fun v3 v4 v5 v6 v7 v8 v9 v10 v453 k0_hw19 => k0_hw19.2.2.2.1
theorem k0_idx149_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v7, v453] : Fin 2 → IVec S16 32) a x).toNat < S8x2048.size a := fun v3 v4 v5 v6 v7 v8 v9 v10 v453 k0_hw19 => k0_hw19.2.2.2.2.1
theorem k0_idx150_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v8, v453] : Fin 2 → IVec S16 32) a x).toNat < S8x2048.size a := fun v3 v4 v5 v6 v7 v8 v9 v10 v453 k0_hw19 => k0_hw19.2.2.2.2.2.1
theorem k0_idx151_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v9, v453] : Fin 2 → IVec S16 32) a x).toNat < S8x2048.size a := fun v3 v4 v5 v6 v7 v8 v9 v10 v453 k0_hw19 => k0_hw19.2.2.2.2.2.2.1
theorem k0_idx152_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k0_hw19 : k0_chk19 v3 v4 v5 v6 v7 v8 v9 v10 v453), ∀ a x, ((![v10, v453] : Fin 2 → IVec S16 32) a x).toNat < S8x2048.size a := fun v3 v4 v5 v6 v7 v8 v9 v10 v453 k0_hw19 => k0_hw19.2.2.2.2.2.2.2

def k0_chk20 (v3 : IVec S16 32) (v4 : IVec S16 32) (v5 : IVec S16 32) (v6 : IVec S16 32) (v7 : IVec S16 32) (v8 : IVec S16 32) (v9 : IVec S16 32) (v10 : IVec S16 32) (v456 : IVec S16 32) : Prop :=
  (∀ a x, ((![v3, v456] : Fin 2 → IVec S16 32) a x).toNat < S8x2048.size a) ∧
  (∀ a x, ((![v4, v456] : Fin 2 → IVec S16 32) a x).toNat < S8x2048.size a) ∧
  (∀ a x, ((![v5, v456] : Fin 2 → IVec S16 32) a x).toNat < S8x2048.size a) ∧
  (∀ a x, ((![v6, v456] : Fin 2 → IVec S16 32) a x).toNat < S8x2048.size a) ∧
  (∀ a x, ((![v7, v456] : Fin 2 → IVec S16 32) a x).toNat < S8x2048.size a) ∧
  (∀ a x, ((![v8, v456] : Fin 2 → IVec S16 32) a x).toNat < S8x2048.size a) ∧
  (∀ a x, ((![v9, v456] : Fin 2 → IVec S16 32) a x).toNat < S8x2048.size a) ∧
  (∀ a x, ((![v10, v456] : Fin 2 → IVec S16 32) a x).toNat < S8x2048.size a)
theorem k0_idx153_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v3, v456] : Fin 2 → IVec S16 32) a x).toNat < S8x2048.size a := fun v3 v4 v5 v6 v7 v8 v9 v10 v456 k0_hw20 => k0_hw20.1
theorem k0_idx154_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v4, v456] : Fin 2 → IVec S16 32) a x).toNat < S8x2048.size a := fun v3 v4 v5 v6 v7 v8 v9 v10 v456 k0_hw20 => k0_hw20.2.1
theorem k0_idx155_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v5, v456] : Fin 2 → IVec S16 32) a x).toNat < S8x2048.size a := fun v3 v4 v5 v6 v7 v8 v9 v10 v456 k0_hw20 => k0_hw20.2.2.1
theorem k0_idx156_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v6, v456] : Fin 2 → IVec S16 32) a x).toNat < S8x2048.size a := fun v3 v4 v5 v6 v7 v8 v9 v10 v456 k0_hw20 => k0_hw20.2.2.2.1
theorem k0_idx157_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v7, v456] : Fin 2 → IVec S16 32) a x).toNat < S8x2048.size a := fun v3 v4 v5 v6 v7 v8 v9 v10 v456 k0_hw20 => k0_hw20.2.2.2.2.1
theorem k0_idx158_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v8, v456] : Fin 2 → IVec S16 32) a x).toNat < S8x2048.size a := fun v3 v4 v5 v6 v7 v8 v9 v10 v456 k0_hw20 => k0_hw20.2.2.2.2.2.1
theorem k0_idx159_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v9, v456] : Fin 2 → IVec S16 32) a x).toNat < S8x2048.size a := fun v3 v4 v5 v6 v7 v8 v9 v10 v456 k0_hw20 => k0_hw20.2.2.2.2.2.2.1
theorem k0_idx160_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k0_hw20 : k0_chk20 v3 v4 v5 v6 v7 v8 v9 v10 v456), ∀ a x, ((![v10, v456] : Fin 2 → IVec S16 32) a x).toNat < S8x2048.size a := fun v3 v4 v5 v6 v7 v8 v9 v10 v456 k0_hw20 => k0_hw20.2.2.2.2.2.2.2
def k0_off22 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_347 : BitVec 32 := 2#32
  let v553 : BitVec 32 := Scalar.addi v12 c2_i32_347
  let v554 : Index := Scalar.indexCast v553
  let c64_348 : Index := 64#32
  ![v554.toNat, 64]
def k0_off23 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_349 : BitVec 32 := 2#32
  let v556 : BitVec 32 := Scalar.addi v12 c2_i32_349
  let v557 : Index := Scalar.indexCast v556
  let c80_350 : Index := 80#32
  ![v557.toNat, 80]
def k0_off24 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_351 : BitVec 32 := 2#32
  let v559 : BitVec 32 := Scalar.addi v12 c2_i32_351
  let v560 : Index := Scalar.indexCast v559
  let c96_352 : Index := 96#32
  ![v560.toNat, 96]
def k0_off25 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c2_i32_353 : BitVec 32 := 2#32
  let v562 : BitVec 32 := Scalar.addi v12 c2_i32_353
  let v563 : Index := Scalar.indexCast v562
  let c112_354 : Index := 112#32
  ![v563.toNat, 112]

def k0_chk21 (v3 : IVec S16 32) (v4 : IVec S16 32) (v5 : IVec S16 32) (v6 : IVec S16 32) (v7 : IVec S16 32) (v8 : IVec S16 32) (v9 : IVec S16 32) (v10 : IVec S16 32) (v555 : IVec S16 32) : Prop :=
  (∀ a x, ((![v3, v555] : Fin 2 → IVec S16 32) a x).toNat < S8x2048.size a) ∧
  (∀ a x, ((![v4, v555] : Fin 2 → IVec S16 32) a x).toNat < S8x2048.size a) ∧
  (∀ a x, ((![v5, v555] : Fin 2 → IVec S16 32) a x).toNat < S8x2048.size a) ∧
  (∀ a x, ((![v6, v555] : Fin 2 → IVec S16 32) a x).toNat < S8x2048.size a) ∧
  (∀ a x, ((![v7, v555] : Fin 2 → IVec S16 32) a x).toNat < S8x2048.size a) ∧
  (∀ a x, ((![v8, v555] : Fin 2 → IVec S16 32) a x).toNat < S8x2048.size a) ∧
  (∀ a x, ((![v9, v555] : Fin 2 → IVec S16 32) a x).toNat < S8x2048.size a) ∧
  (∀ a x, ((![v10, v555] : Fin 2 → IVec S16 32) a x).toNat < S8x2048.size a)
theorem k0_idx161_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v3, v555] : Fin 2 → IVec S16 32) a x).toNat < S8x2048.size a := fun v3 v4 v5 v6 v7 v8 v9 v10 v555 k0_hw21 => k0_hw21.1
theorem k0_idx162_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v4, v555] : Fin 2 → IVec S16 32) a x).toNat < S8x2048.size a := fun v3 v4 v5 v6 v7 v8 v9 v10 v555 k0_hw21 => k0_hw21.2.1
theorem k0_idx163_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v5, v555] : Fin 2 → IVec S16 32) a x).toNat < S8x2048.size a := fun v3 v4 v5 v6 v7 v8 v9 v10 v555 k0_hw21 => k0_hw21.2.2.1
theorem k0_idx164_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v6, v555] : Fin 2 → IVec S16 32) a x).toNat < S8x2048.size a := fun v3 v4 v5 v6 v7 v8 v9 v10 v555 k0_hw21 => k0_hw21.2.2.2.1
theorem k0_idx165_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v7, v555] : Fin 2 → IVec S16 32) a x).toNat < S8x2048.size a := fun v3 v4 v5 v6 v7 v8 v9 v10 v555 k0_hw21 => k0_hw21.2.2.2.2.1
theorem k0_idx166_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v8, v555] : Fin 2 → IVec S16 32) a x).toNat < S8x2048.size a := fun v3 v4 v5 v6 v7 v8 v9 v10 v555 k0_hw21 => k0_hw21.2.2.2.2.2.1
theorem k0_idx167_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v9, v555] : Fin 2 → IVec S16 32) a x).toNat < S8x2048.size a := fun v3 v4 v5 v6 v7 v8 v9 v10 v555 k0_hw21 => k0_hw21.2.2.2.2.2.2.1
theorem k0_idx168_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k0_hw21 : k0_chk21 v3 v4 v5 v6 v7 v8 v9 v10 v555), ∀ a x, ((![v10, v555] : Fin 2 → IVec S16 32) a x).toNat < S8x2048.size a := fun v3 v4 v5 v6 v7 v8 v9 v10 v555 k0_hw21 => k0_hw21.2.2.2.2.2.2.2

def k0_chk22 (v3 : IVec S16 32) (v4 : IVec S16 32) (v5 : IVec S16 32) (v6 : IVec S16 32) (v7 : IVec S16 32) (v8 : IVec S16 32) (v9 : IVec S16 32) (v10 : IVec S16 32) (v558 : IVec S16 32) : Prop :=
  (∀ a x, ((![v3, v558] : Fin 2 → IVec S16 32) a x).toNat < S8x2048.size a) ∧
  (∀ a x, ((![v4, v558] : Fin 2 → IVec S16 32) a x).toNat < S8x2048.size a) ∧
  (∀ a x, ((![v5, v558] : Fin 2 → IVec S16 32) a x).toNat < S8x2048.size a) ∧
  (∀ a x, ((![v6, v558] : Fin 2 → IVec S16 32) a x).toNat < S8x2048.size a) ∧
  (∀ a x, ((![v7, v558] : Fin 2 → IVec S16 32) a x).toNat < S8x2048.size a) ∧
  (∀ a x, ((![v8, v558] : Fin 2 → IVec S16 32) a x).toNat < S8x2048.size a) ∧
  (∀ a x, ((![v9, v558] : Fin 2 → IVec S16 32) a x).toNat < S8x2048.size a) ∧
  (∀ a x, ((![v10, v558] : Fin 2 → IVec S16 32) a x).toNat < S8x2048.size a)
theorem k0_idx169_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v3, v558] : Fin 2 → IVec S16 32) a x).toNat < S8x2048.size a := fun v3 v4 v5 v6 v7 v8 v9 v10 v558 k0_hw22 => k0_hw22.1
theorem k0_idx170_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v4, v558] : Fin 2 → IVec S16 32) a x).toNat < S8x2048.size a := fun v3 v4 v5 v6 v7 v8 v9 v10 v558 k0_hw22 => k0_hw22.2.1
theorem k0_idx171_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v5, v558] : Fin 2 → IVec S16 32) a x).toNat < S8x2048.size a := fun v3 v4 v5 v6 v7 v8 v9 v10 v558 k0_hw22 => k0_hw22.2.2.1
theorem k0_idx172_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v6, v558] : Fin 2 → IVec S16 32) a x).toNat < S8x2048.size a := fun v3 v4 v5 v6 v7 v8 v9 v10 v558 k0_hw22 => k0_hw22.2.2.2.1
theorem k0_idx173_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v7, v558] : Fin 2 → IVec S16 32) a x).toNat < S8x2048.size a := fun v3 v4 v5 v6 v7 v8 v9 v10 v558 k0_hw22 => k0_hw22.2.2.2.2.1
theorem k0_idx174_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v8, v558] : Fin 2 → IVec S16 32) a x).toNat < S8x2048.size a := fun v3 v4 v5 v6 v7 v8 v9 v10 v558 k0_hw22 => k0_hw22.2.2.2.2.2.1
theorem k0_idx175_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v9, v558] : Fin 2 → IVec S16 32) a x).toNat < S8x2048.size a := fun v3 v4 v5 v6 v7 v8 v9 v10 v558 k0_hw22 => k0_hw22.2.2.2.2.2.2.1
theorem k0_idx176_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k0_hw22 : k0_chk22 v3 v4 v5 v6 v7 v8 v9 v10 v558), ∀ a x, ((![v10, v558] : Fin 2 → IVec S16 32) a x).toNat < S8x2048.size a := fun v3 v4 v5 v6 v7 v8 v9 v10 v558 k0_hw22 => k0_hw22.2.2.2.2.2.2.2

def k0_chk23 (v3 : IVec S16 32) (v4 : IVec S16 32) (v5 : IVec S16 32) (v6 : IVec S16 32) (v7 : IVec S16 32) (v8 : IVec S16 32) (v9 : IVec S16 32) (v10 : IVec S16 32) (v561 : IVec S16 32) : Prop :=
  (∀ a x, ((![v3, v561] : Fin 2 → IVec S16 32) a x).toNat < S8x2048.size a) ∧
  (∀ a x, ((![v4, v561] : Fin 2 → IVec S16 32) a x).toNat < S8x2048.size a) ∧
  (∀ a x, ((![v5, v561] : Fin 2 → IVec S16 32) a x).toNat < S8x2048.size a) ∧
  (∀ a x, ((![v6, v561] : Fin 2 → IVec S16 32) a x).toNat < S8x2048.size a) ∧
  (∀ a x, ((![v7, v561] : Fin 2 → IVec S16 32) a x).toNat < S8x2048.size a) ∧
  (∀ a x, ((![v8, v561] : Fin 2 → IVec S16 32) a x).toNat < S8x2048.size a) ∧
  (∀ a x, ((![v9, v561] : Fin 2 → IVec S16 32) a x).toNat < S8x2048.size a) ∧
  (∀ a x, ((![v10, v561] : Fin 2 → IVec S16 32) a x).toNat < S8x2048.size a)
theorem k0_idx177_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v3, v561] : Fin 2 → IVec S16 32) a x).toNat < S8x2048.size a := fun v3 v4 v5 v6 v7 v8 v9 v10 v561 k0_hw23 => k0_hw23.1
theorem k0_idx178_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v4, v561] : Fin 2 → IVec S16 32) a x).toNat < S8x2048.size a := fun v3 v4 v5 v6 v7 v8 v9 v10 v561 k0_hw23 => k0_hw23.2.1
theorem k0_idx179_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v5, v561] : Fin 2 → IVec S16 32) a x).toNat < S8x2048.size a := fun v3 v4 v5 v6 v7 v8 v9 v10 v561 k0_hw23 => k0_hw23.2.2.1
theorem k0_idx180_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v6, v561] : Fin 2 → IVec S16 32) a x).toNat < S8x2048.size a := fun v3 v4 v5 v6 v7 v8 v9 v10 v561 k0_hw23 => k0_hw23.2.2.2.1
theorem k0_idx181_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v7, v561] : Fin 2 → IVec S16 32) a x).toNat < S8x2048.size a := fun v3 v4 v5 v6 v7 v8 v9 v10 v561 k0_hw23 => k0_hw23.2.2.2.2.1
theorem k0_idx182_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v8, v561] : Fin 2 → IVec S16 32) a x).toNat < S8x2048.size a := fun v3 v4 v5 v6 v7 v8 v9 v10 v561 k0_hw23 => k0_hw23.2.2.2.2.2.1
theorem k0_idx183_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v9, v561] : Fin 2 → IVec S16 32) a x).toNat < S8x2048.size a := fun v3 v4 v5 v6 v7 v8 v9 v10 v561 k0_hw23 => k0_hw23.2.2.2.2.2.2.1
theorem k0_idx184_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k0_hw23 : k0_chk23 v3 v4 v5 v6 v7 v8 v9 v10 v561), ∀ a x, ((![v10, v561] : Fin 2 → IVec S16 32) a x).toNat < S8x2048.size a := fun v3 v4 v5 v6 v7 v8 v9 v10 v561 k0_hw23 => k0_hw23.2.2.2.2.2.2.2

def k0_chk24 (v3 : IVec S16 32) (v4 : IVec S16 32) (v5 : IVec S16 32) (v6 : IVec S16 32) (v7 : IVec S16 32) (v8 : IVec S16 32) (v9 : IVec S16 32) (v10 : IVec S16 32) (v564 : IVec S16 32) : Prop :=
  (∀ a x, ((![v3, v564] : Fin 2 → IVec S16 32) a x).toNat < S8x2048.size a) ∧
  (∀ a x, ((![v4, v564] : Fin 2 → IVec S16 32) a x).toNat < S8x2048.size a) ∧
  (∀ a x, ((![v5, v564] : Fin 2 → IVec S16 32) a x).toNat < S8x2048.size a) ∧
  (∀ a x, ((![v6, v564] : Fin 2 → IVec S16 32) a x).toNat < S8x2048.size a) ∧
  (∀ a x, ((![v7, v564] : Fin 2 → IVec S16 32) a x).toNat < S8x2048.size a) ∧
  (∀ a x, ((![v8, v564] : Fin 2 → IVec S16 32) a x).toNat < S8x2048.size a) ∧
  (∀ a x, ((![v9, v564] : Fin 2 → IVec S16 32) a x).toNat < S8x2048.size a) ∧
  (∀ a x, ((![v10, v564] : Fin 2 → IVec S16 32) a x).toNat < S8x2048.size a)
theorem k0_idx185_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v3, v564] : Fin 2 → IVec S16 32) a x).toNat < S8x2048.size a := fun v3 v4 v5 v6 v7 v8 v9 v10 v564 k0_hw24 => k0_hw24.1
theorem k0_idx186_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v4, v564] : Fin 2 → IVec S16 32) a x).toNat < S8x2048.size a := fun v3 v4 v5 v6 v7 v8 v9 v10 v564 k0_hw24 => k0_hw24.2.1
theorem k0_idx187_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v5, v564] : Fin 2 → IVec S16 32) a x).toNat < S8x2048.size a := fun v3 v4 v5 v6 v7 v8 v9 v10 v564 k0_hw24 => k0_hw24.2.2.1
theorem k0_idx188_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v6, v564] : Fin 2 → IVec S16 32) a x).toNat < S8x2048.size a := fun v3 v4 v5 v6 v7 v8 v9 v10 v564 k0_hw24 => k0_hw24.2.2.2.1
theorem k0_idx189_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v7, v564] : Fin 2 → IVec S16 32) a x).toNat < S8x2048.size a := fun v3 v4 v5 v6 v7 v8 v9 v10 v564 k0_hw24 => k0_hw24.2.2.2.2.1
theorem k0_idx190_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v8, v564] : Fin 2 → IVec S16 32) a x).toNat < S8x2048.size a := fun v3 v4 v5 v6 v7 v8 v9 v10 v564 k0_hw24 => k0_hw24.2.2.2.2.2.1
theorem k0_idx191_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v9, v564] : Fin 2 → IVec S16 32) a x).toNat < S8x2048.size a := fun v3 v4 v5 v6 v7 v8 v9 v10 v564 k0_hw24 => k0_hw24.2.2.2.2.2.2.1
theorem k0_idx192_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k0_hw24 : k0_chk24 v3 v4 v5 v6 v7 v8 v9 v10 v564), ∀ a x, ((![v10, v564] : Fin 2 → IVec S16 32) a x).toNat < S8x2048.size a := fun v3 v4 v5 v6 v7 v8 v9 v10 v564 k0_hw24 => k0_hw24.2.2.2.2.2.2.2
def k0_off26 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_415 : BitVec 32 := 3#32
  let v661 : BitVec 32 := Scalar.addi v12 c3_i32_415
  let v662 : Index := Scalar.indexCast v661
  let c0_416 : Index := 0#32
  ![v662.toNat, 0]
def k0_off27 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_417 : BitVec 32 := 3#32
  let v664 : BitVec 32 := Scalar.addi v12 c3_i32_417
  let v665 : Index := Scalar.indexCast v664
  let c16_418 : Index := 16#32
  ![v665.toNat, 16]
def k0_off28 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_419 : BitVec 32 := 3#32
  let v667 : BitVec 32 := Scalar.addi v12 c3_i32_419
  let v668 : Index := Scalar.indexCast v667
  let c32_420 : Index := 32#32
  ![v668.toNat, 32]
def k0_off29 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_421 : BitVec 32 := 3#32
  let v670 : BitVec 32 := Scalar.addi v12 c3_i32_421
  let v671 : Index := Scalar.indexCast v670
  let c48_422 : Index := 48#32
  ![v671.toNat, 48]

def k0_chk25 (v3 : IVec S16 32) (v4 : IVec S16 32) (v5 : IVec S16 32) (v6 : IVec S16 32) (v7 : IVec S16 32) (v8 : IVec S16 32) (v9 : IVec S16 32) (v10 : IVec S16 32) (v663 : IVec S16 32) : Prop :=
  (∀ a x, ((![v3, v663] : Fin 2 → IVec S16 32) a x).toNat < S8x2048.size a) ∧
  (∀ a x, ((![v4, v663] : Fin 2 → IVec S16 32) a x).toNat < S8x2048.size a) ∧
  (∀ a x, ((![v5, v663] : Fin 2 → IVec S16 32) a x).toNat < S8x2048.size a) ∧
  (∀ a x, ((![v6, v663] : Fin 2 → IVec S16 32) a x).toNat < S8x2048.size a) ∧
  (∀ a x, ((![v7, v663] : Fin 2 → IVec S16 32) a x).toNat < S8x2048.size a) ∧
  (∀ a x, ((![v8, v663] : Fin 2 → IVec S16 32) a x).toNat < S8x2048.size a) ∧
  (∀ a x, ((![v9, v663] : Fin 2 → IVec S16 32) a x).toNat < S8x2048.size a) ∧
  (∀ a x, ((![v10, v663] : Fin 2 → IVec S16 32) a x).toNat < S8x2048.size a)
theorem k0_idx193_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v3, v663] : Fin 2 → IVec S16 32) a x).toNat < S8x2048.size a := fun v3 v4 v5 v6 v7 v8 v9 v10 v663 k0_hw25 => k0_hw25.1
theorem k0_idx194_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v4, v663] : Fin 2 → IVec S16 32) a x).toNat < S8x2048.size a := fun v3 v4 v5 v6 v7 v8 v9 v10 v663 k0_hw25 => k0_hw25.2.1
theorem k0_idx195_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v5, v663] : Fin 2 → IVec S16 32) a x).toNat < S8x2048.size a := fun v3 v4 v5 v6 v7 v8 v9 v10 v663 k0_hw25 => k0_hw25.2.2.1
theorem k0_idx196_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v6, v663] : Fin 2 → IVec S16 32) a x).toNat < S8x2048.size a := fun v3 v4 v5 v6 v7 v8 v9 v10 v663 k0_hw25 => k0_hw25.2.2.2.1
theorem k0_idx197_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v7, v663] : Fin 2 → IVec S16 32) a x).toNat < S8x2048.size a := fun v3 v4 v5 v6 v7 v8 v9 v10 v663 k0_hw25 => k0_hw25.2.2.2.2.1
theorem k0_idx198_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v8, v663] : Fin 2 → IVec S16 32) a x).toNat < S8x2048.size a := fun v3 v4 v5 v6 v7 v8 v9 v10 v663 k0_hw25 => k0_hw25.2.2.2.2.2.1
theorem k0_idx199_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v9, v663] : Fin 2 → IVec S16 32) a x).toNat < S8x2048.size a := fun v3 v4 v5 v6 v7 v8 v9 v10 v663 k0_hw25 => k0_hw25.2.2.2.2.2.2.1
theorem k0_idx200_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k0_hw25 : k0_chk25 v3 v4 v5 v6 v7 v8 v9 v10 v663), ∀ a x, ((![v10, v663] : Fin 2 → IVec S16 32) a x).toNat < S8x2048.size a := fun v3 v4 v5 v6 v7 v8 v9 v10 v663 k0_hw25 => k0_hw25.2.2.2.2.2.2.2

def k0_chk26 (v3 : IVec S16 32) (v4 : IVec S16 32) (v5 : IVec S16 32) (v6 : IVec S16 32) (v7 : IVec S16 32) (v8 : IVec S16 32) (v9 : IVec S16 32) (v10 : IVec S16 32) (v666 : IVec S16 32) : Prop :=
  (∀ a x, ((![v3, v666] : Fin 2 → IVec S16 32) a x).toNat < S8x2048.size a) ∧
  (∀ a x, ((![v4, v666] : Fin 2 → IVec S16 32) a x).toNat < S8x2048.size a) ∧
  (∀ a x, ((![v5, v666] : Fin 2 → IVec S16 32) a x).toNat < S8x2048.size a) ∧
  (∀ a x, ((![v6, v666] : Fin 2 → IVec S16 32) a x).toNat < S8x2048.size a) ∧
  (∀ a x, ((![v7, v666] : Fin 2 → IVec S16 32) a x).toNat < S8x2048.size a) ∧
  (∀ a x, ((![v8, v666] : Fin 2 → IVec S16 32) a x).toNat < S8x2048.size a) ∧
  (∀ a x, ((![v9, v666] : Fin 2 → IVec S16 32) a x).toNat < S8x2048.size a) ∧
  (∀ a x, ((![v10, v666] : Fin 2 → IVec S16 32) a x).toNat < S8x2048.size a)
theorem k0_idx201_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v3, v666] : Fin 2 → IVec S16 32) a x).toNat < S8x2048.size a := fun v3 v4 v5 v6 v7 v8 v9 v10 v666 k0_hw26 => k0_hw26.1
theorem k0_idx202_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v4, v666] : Fin 2 → IVec S16 32) a x).toNat < S8x2048.size a := fun v3 v4 v5 v6 v7 v8 v9 v10 v666 k0_hw26 => k0_hw26.2.1
theorem k0_idx203_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v5, v666] : Fin 2 → IVec S16 32) a x).toNat < S8x2048.size a := fun v3 v4 v5 v6 v7 v8 v9 v10 v666 k0_hw26 => k0_hw26.2.2.1
theorem k0_idx204_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v6, v666] : Fin 2 → IVec S16 32) a x).toNat < S8x2048.size a := fun v3 v4 v5 v6 v7 v8 v9 v10 v666 k0_hw26 => k0_hw26.2.2.2.1
theorem k0_idx205_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v7, v666] : Fin 2 → IVec S16 32) a x).toNat < S8x2048.size a := fun v3 v4 v5 v6 v7 v8 v9 v10 v666 k0_hw26 => k0_hw26.2.2.2.2.1
theorem k0_idx206_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v8, v666] : Fin 2 → IVec S16 32) a x).toNat < S8x2048.size a := fun v3 v4 v5 v6 v7 v8 v9 v10 v666 k0_hw26 => k0_hw26.2.2.2.2.2.1
theorem k0_idx207_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v9, v666] : Fin 2 → IVec S16 32) a x).toNat < S8x2048.size a := fun v3 v4 v5 v6 v7 v8 v9 v10 v666 k0_hw26 => k0_hw26.2.2.2.2.2.2.1
theorem k0_idx208_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k0_hw26 : k0_chk26 v3 v4 v5 v6 v7 v8 v9 v10 v666), ∀ a x, ((![v10, v666] : Fin 2 → IVec S16 32) a x).toNat < S8x2048.size a := fun v3 v4 v5 v6 v7 v8 v9 v10 v666 k0_hw26 => k0_hw26.2.2.2.2.2.2.2

def k0_chk27 (v3 : IVec S16 32) (v4 : IVec S16 32) (v5 : IVec S16 32) (v6 : IVec S16 32) (v7 : IVec S16 32) (v8 : IVec S16 32) (v9 : IVec S16 32) (v10 : IVec S16 32) (v669 : IVec S16 32) : Prop :=
  (∀ a x, ((![v3, v669] : Fin 2 → IVec S16 32) a x).toNat < S8x2048.size a) ∧
  (∀ a x, ((![v4, v669] : Fin 2 → IVec S16 32) a x).toNat < S8x2048.size a) ∧
  (∀ a x, ((![v5, v669] : Fin 2 → IVec S16 32) a x).toNat < S8x2048.size a) ∧
  (∀ a x, ((![v6, v669] : Fin 2 → IVec S16 32) a x).toNat < S8x2048.size a) ∧
  (∀ a x, ((![v7, v669] : Fin 2 → IVec S16 32) a x).toNat < S8x2048.size a) ∧
  (∀ a x, ((![v8, v669] : Fin 2 → IVec S16 32) a x).toNat < S8x2048.size a) ∧
  (∀ a x, ((![v9, v669] : Fin 2 → IVec S16 32) a x).toNat < S8x2048.size a) ∧
  (∀ a x, ((![v10, v669] : Fin 2 → IVec S16 32) a x).toNat < S8x2048.size a)
theorem k0_idx209_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v3, v669] : Fin 2 → IVec S16 32) a x).toNat < S8x2048.size a := fun v3 v4 v5 v6 v7 v8 v9 v10 v669 k0_hw27 => k0_hw27.1
theorem k0_idx210_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v4, v669] : Fin 2 → IVec S16 32) a x).toNat < S8x2048.size a := fun v3 v4 v5 v6 v7 v8 v9 v10 v669 k0_hw27 => k0_hw27.2.1
theorem k0_idx211_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v5, v669] : Fin 2 → IVec S16 32) a x).toNat < S8x2048.size a := fun v3 v4 v5 v6 v7 v8 v9 v10 v669 k0_hw27 => k0_hw27.2.2.1
theorem k0_idx212_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v6, v669] : Fin 2 → IVec S16 32) a x).toNat < S8x2048.size a := fun v3 v4 v5 v6 v7 v8 v9 v10 v669 k0_hw27 => k0_hw27.2.2.2.1
theorem k0_idx213_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v7, v669] : Fin 2 → IVec S16 32) a x).toNat < S8x2048.size a := fun v3 v4 v5 v6 v7 v8 v9 v10 v669 k0_hw27 => k0_hw27.2.2.2.2.1
theorem k0_idx214_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v8, v669] : Fin 2 → IVec S16 32) a x).toNat < S8x2048.size a := fun v3 v4 v5 v6 v7 v8 v9 v10 v669 k0_hw27 => k0_hw27.2.2.2.2.2.1
theorem k0_idx215_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v9, v669] : Fin 2 → IVec S16 32) a x).toNat < S8x2048.size a := fun v3 v4 v5 v6 v7 v8 v9 v10 v669 k0_hw27 => k0_hw27.2.2.2.2.2.2.1
theorem k0_idx216_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k0_hw27 : k0_chk27 v3 v4 v5 v6 v7 v8 v9 v10 v669), ∀ a x, ((![v10, v669] : Fin 2 → IVec S16 32) a x).toNat < S8x2048.size a := fun v3 v4 v5 v6 v7 v8 v9 v10 v669 k0_hw27 => k0_hw27.2.2.2.2.2.2.2

def k0_chk28 (v3 : IVec S16 32) (v4 : IVec S16 32) (v5 : IVec S16 32) (v6 : IVec S16 32) (v7 : IVec S16 32) (v8 : IVec S16 32) (v9 : IVec S16 32) (v10 : IVec S16 32) (v672 : IVec S16 32) : Prop :=
  (∀ a x, ((![v3, v672] : Fin 2 → IVec S16 32) a x).toNat < S8x2048.size a) ∧
  (∀ a x, ((![v4, v672] : Fin 2 → IVec S16 32) a x).toNat < S8x2048.size a) ∧
  (∀ a x, ((![v5, v672] : Fin 2 → IVec S16 32) a x).toNat < S8x2048.size a) ∧
  (∀ a x, ((![v6, v672] : Fin 2 → IVec S16 32) a x).toNat < S8x2048.size a) ∧
  (∀ a x, ((![v7, v672] : Fin 2 → IVec S16 32) a x).toNat < S8x2048.size a) ∧
  (∀ a x, ((![v8, v672] : Fin 2 → IVec S16 32) a x).toNat < S8x2048.size a) ∧
  (∀ a x, ((![v9, v672] : Fin 2 → IVec S16 32) a x).toNat < S8x2048.size a) ∧
  (∀ a x, ((![v10, v672] : Fin 2 → IVec S16 32) a x).toNat < S8x2048.size a)
theorem k0_idx217_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v3, v672] : Fin 2 → IVec S16 32) a x).toNat < S8x2048.size a := fun v3 v4 v5 v6 v7 v8 v9 v10 v672 k0_hw28 => k0_hw28.1
theorem k0_idx218_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v4, v672] : Fin 2 → IVec S16 32) a x).toNat < S8x2048.size a := fun v3 v4 v5 v6 v7 v8 v9 v10 v672 k0_hw28 => k0_hw28.2.1
theorem k0_idx219_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v5, v672] : Fin 2 → IVec S16 32) a x).toNat < S8x2048.size a := fun v3 v4 v5 v6 v7 v8 v9 v10 v672 k0_hw28 => k0_hw28.2.2.1
theorem k0_idx220_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v6, v672] : Fin 2 → IVec S16 32) a x).toNat < S8x2048.size a := fun v3 v4 v5 v6 v7 v8 v9 v10 v672 k0_hw28 => k0_hw28.2.2.2.1
theorem k0_idx221_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v7, v672] : Fin 2 → IVec S16 32) a x).toNat < S8x2048.size a := fun v3 v4 v5 v6 v7 v8 v9 v10 v672 k0_hw28 => k0_hw28.2.2.2.2.1
theorem k0_idx222_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v8, v672] : Fin 2 → IVec S16 32) a x).toNat < S8x2048.size a := fun v3 v4 v5 v6 v7 v8 v9 v10 v672 k0_hw28 => k0_hw28.2.2.2.2.2.1
theorem k0_idx223_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v9, v672] : Fin 2 → IVec S16 32) a x).toNat < S8x2048.size a := fun v3 v4 v5 v6 v7 v8 v9 v10 v672 k0_hw28 => k0_hw28.2.2.2.2.2.2.1
theorem k0_idx224_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k0_hw28 : k0_chk28 v3 v4 v5 v6 v7 v8 v9 v10 v672), ∀ a x, ((![v10, v672] : Fin 2 → IVec S16 32) a x).toNat < S8x2048.size a := fun v3 v4 v5 v6 v7 v8 v9 v10 v672 k0_hw28 => k0_hw28.2.2.2.2.2.2.2
def k0_off30 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_483 : BitVec 32 := 3#32
  let v769 : BitVec 32 := Scalar.addi v12 c3_i32_483
  let v770 : Index := Scalar.indexCast v769
  let c64_484 : Index := 64#32
  ![v770.toNat, 64]
def k0_off31 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_485 : BitVec 32 := 3#32
  let v772 : BitVec 32 := Scalar.addi v12 c3_i32_485
  let v773 : Index := Scalar.indexCast v772
  let c80_486 : Index := 80#32
  ![v773.toNat, 80]
def k0_off32 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_487 : BitVec 32 := 3#32
  let v775 : BitVec 32 := Scalar.addi v12 c3_i32_487
  let v776 : Index := Scalar.indexCast v775
  let c96_488 : Index := 96#32
  ![v776.toNat, 96]
def k0_off33 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c3_i32_489 : BitVec 32 := 3#32
  let v778 : BitVec 32 := Scalar.addi v12 c3_i32_489
  let v779 : Index := Scalar.indexCast v778
  let c112_490 : Index := 112#32
  ![v779.toNat, 112]

def k0_chk29 (v3 : IVec S16 32) (v4 : IVec S16 32) (v5 : IVec S16 32) (v6 : IVec S16 32) (v7 : IVec S16 32) (v8 : IVec S16 32) (v9 : IVec S16 32) (v10 : IVec S16 32) (v771 : IVec S16 32) : Prop :=
  (∀ a x, ((![v3, v771] : Fin 2 → IVec S16 32) a x).toNat < S8x2048.size a) ∧
  (∀ a x, ((![v4, v771] : Fin 2 → IVec S16 32) a x).toNat < S8x2048.size a) ∧
  (∀ a x, ((![v5, v771] : Fin 2 → IVec S16 32) a x).toNat < S8x2048.size a) ∧
  (∀ a x, ((![v6, v771] : Fin 2 → IVec S16 32) a x).toNat < S8x2048.size a) ∧
  (∀ a x, ((![v7, v771] : Fin 2 → IVec S16 32) a x).toNat < S8x2048.size a) ∧
  (∀ a x, ((![v8, v771] : Fin 2 → IVec S16 32) a x).toNat < S8x2048.size a) ∧
  (∀ a x, ((![v9, v771] : Fin 2 → IVec S16 32) a x).toNat < S8x2048.size a) ∧
  (∀ a x, ((![v10, v771] : Fin 2 → IVec S16 32) a x).toNat < S8x2048.size a)
theorem k0_idx225_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v3, v771] : Fin 2 → IVec S16 32) a x).toNat < S8x2048.size a := fun v3 v4 v5 v6 v7 v8 v9 v10 v771 k0_hw29 => k0_hw29.1
theorem k0_idx226_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v4, v771] : Fin 2 → IVec S16 32) a x).toNat < S8x2048.size a := fun v3 v4 v5 v6 v7 v8 v9 v10 v771 k0_hw29 => k0_hw29.2.1
theorem k0_idx227_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v5, v771] : Fin 2 → IVec S16 32) a x).toNat < S8x2048.size a := fun v3 v4 v5 v6 v7 v8 v9 v10 v771 k0_hw29 => k0_hw29.2.2.1
theorem k0_idx228_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v6, v771] : Fin 2 → IVec S16 32) a x).toNat < S8x2048.size a := fun v3 v4 v5 v6 v7 v8 v9 v10 v771 k0_hw29 => k0_hw29.2.2.2.1
theorem k0_idx229_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v7, v771] : Fin 2 → IVec S16 32) a x).toNat < S8x2048.size a := fun v3 v4 v5 v6 v7 v8 v9 v10 v771 k0_hw29 => k0_hw29.2.2.2.2.1
theorem k0_idx230_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v8, v771] : Fin 2 → IVec S16 32) a x).toNat < S8x2048.size a := fun v3 v4 v5 v6 v7 v8 v9 v10 v771 k0_hw29 => k0_hw29.2.2.2.2.2.1
theorem k0_idx231_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v9, v771] : Fin 2 → IVec S16 32) a x).toNat < S8x2048.size a := fun v3 v4 v5 v6 v7 v8 v9 v10 v771 k0_hw29 => k0_hw29.2.2.2.2.2.2.1
theorem k0_idx232_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k0_hw29 : k0_chk29 v3 v4 v5 v6 v7 v8 v9 v10 v771), ∀ a x, ((![v10, v771] : Fin 2 → IVec S16 32) a x).toNat < S8x2048.size a := fun v3 v4 v5 v6 v7 v8 v9 v10 v771 k0_hw29 => k0_hw29.2.2.2.2.2.2.2

def k0_chk30 (v3 : IVec S16 32) (v4 : IVec S16 32) (v5 : IVec S16 32) (v6 : IVec S16 32) (v7 : IVec S16 32) (v8 : IVec S16 32) (v9 : IVec S16 32) (v10 : IVec S16 32) (v774 : IVec S16 32) : Prop :=
  (∀ a x, ((![v3, v774] : Fin 2 → IVec S16 32) a x).toNat < S8x2048.size a) ∧
  (∀ a x, ((![v4, v774] : Fin 2 → IVec S16 32) a x).toNat < S8x2048.size a) ∧
  (∀ a x, ((![v5, v774] : Fin 2 → IVec S16 32) a x).toNat < S8x2048.size a) ∧
  (∀ a x, ((![v6, v774] : Fin 2 → IVec S16 32) a x).toNat < S8x2048.size a) ∧
  (∀ a x, ((![v7, v774] : Fin 2 → IVec S16 32) a x).toNat < S8x2048.size a) ∧
  (∀ a x, ((![v8, v774] : Fin 2 → IVec S16 32) a x).toNat < S8x2048.size a) ∧
  (∀ a x, ((![v9, v774] : Fin 2 → IVec S16 32) a x).toNat < S8x2048.size a) ∧
  (∀ a x, ((![v10, v774] : Fin 2 → IVec S16 32) a x).toNat < S8x2048.size a)
theorem k0_idx233_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v3, v774] : Fin 2 → IVec S16 32) a x).toNat < S8x2048.size a := fun v3 v4 v5 v6 v7 v8 v9 v10 v774 k0_hw30 => k0_hw30.1
theorem k0_idx234_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v4, v774] : Fin 2 → IVec S16 32) a x).toNat < S8x2048.size a := fun v3 v4 v5 v6 v7 v8 v9 v10 v774 k0_hw30 => k0_hw30.2.1
theorem k0_idx235_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v5, v774] : Fin 2 → IVec S16 32) a x).toNat < S8x2048.size a := fun v3 v4 v5 v6 v7 v8 v9 v10 v774 k0_hw30 => k0_hw30.2.2.1
theorem k0_idx236_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v6, v774] : Fin 2 → IVec S16 32) a x).toNat < S8x2048.size a := fun v3 v4 v5 v6 v7 v8 v9 v10 v774 k0_hw30 => k0_hw30.2.2.2.1
theorem k0_idx237_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v7, v774] : Fin 2 → IVec S16 32) a x).toNat < S8x2048.size a := fun v3 v4 v5 v6 v7 v8 v9 v10 v774 k0_hw30 => k0_hw30.2.2.2.2.1
theorem k0_idx238_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v8, v774] : Fin 2 → IVec S16 32) a x).toNat < S8x2048.size a := fun v3 v4 v5 v6 v7 v8 v9 v10 v774 k0_hw30 => k0_hw30.2.2.2.2.2.1
theorem k0_idx239_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v9, v774] : Fin 2 → IVec S16 32) a x).toNat < S8x2048.size a := fun v3 v4 v5 v6 v7 v8 v9 v10 v774 k0_hw30 => k0_hw30.2.2.2.2.2.2.1
theorem k0_idx240_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k0_hw30 : k0_chk30 v3 v4 v5 v6 v7 v8 v9 v10 v774), ∀ a x, ((![v10, v774] : Fin 2 → IVec S16 32) a x).toNat < S8x2048.size a := fun v3 v4 v5 v6 v7 v8 v9 v10 v774 k0_hw30 => k0_hw30.2.2.2.2.2.2.2

def k0_chk31 (v3 : IVec S16 32) (v4 : IVec S16 32) (v5 : IVec S16 32) (v6 : IVec S16 32) (v7 : IVec S16 32) (v8 : IVec S16 32) (v9 : IVec S16 32) (v10 : IVec S16 32) (v777 : IVec S16 32) : Prop :=
  (∀ a x, ((![v3, v777] : Fin 2 → IVec S16 32) a x).toNat < S8x2048.size a) ∧
  (∀ a x, ((![v4, v777] : Fin 2 → IVec S16 32) a x).toNat < S8x2048.size a) ∧
  (∀ a x, ((![v5, v777] : Fin 2 → IVec S16 32) a x).toNat < S8x2048.size a) ∧
  (∀ a x, ((![v6, v777] : Fin 2 → IVec S16 32) a x).toNat < S8x2048.size a) ∧
  (∀ a x, ((![v7, v777] : Fin 2 → IVec S16 32) a x).toNat < S8x2048.size a) ∧
  (∀ a x, ((![v8, v777] : Fin 2 → IVec S16 32) a x).toNat < S8x2048.size a) ∧
  (∀ a x, ((![v9, v777] : Fin 2 → IVec S16 32) a x).toNat < S8x2048.size a) ∧
  (∀ a x, ((![v10, v777] : Fin 2 → IVec S16 32) a x).toNat < S8x2048.size a)
theorem k0_idx241_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v3, v777] : Fin 2 → IVec S16 32) a x).toNat < S8x2048.size a := fun v3 v4 v5 v6 v7 v8 v9 v10 v777 k0_hw31 => k0_hw31.1
theorem k0_idx242_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v4, v777] : Fin 2 → IVec S16 32) a x).toNat < S8x2048.size a := fun v3 v4 v5 v6 v7 v8 v9 v10 v777 k0_hw31 => k0_hw31.2.1
theorem k0_idx243_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v5, v777] : Fin 2 → IVec S16 32) a x).toNat < S8x2048.size a := fun v3 v4 v5 v6 v7 v8 v9 v10 v777 k0_hw31 => k0_hw31.2.2.1
theorem k0_idx244_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v6, v777] : Fin 2 → IVec S16 32) a x).toNat < S8x2048.size a := fun v3 v4 v5 v6 v7 v8 v9 v10 v777 k0_hw31 => k0_hw31.2.2.2.1
theorem k0_idx245_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v7, v777] : Fin 2 → IVec S16 32) a x).toNat < S8x2048.size a := fun v3 v4 v5 v6 v7 v8 v9 v10 v777 k0_hw31 => k0_hw31.2.2.2.2.1
theorem k0_idx246_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v8, v777] : Fin 2 → IVec S16 32) a x).toNat < S8x2048.size a := fun v3 v4 v5 v6 v7 v8 v9 v10 v777 k0_hw31 => k0_hw31.2.2.2.2.2.1
theorem k0_idx247_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v9, v777] : Fin 2 → IVec S16 32) a x).toNat < S8x2048.size a := fun v3 v4 v5 v6 v7 v8 v9 v10 v777 k0_hw31 => k0_hw31.2.2.2.2.2.2.1
theorem k0_idx248_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k0_hw31 : k0_chk31 v3 v4 v5 v6 v7 v8 v9 v10 v777), ∀ a x, ((![v10, v777] : Fin 2 → IVec S16 32) a x).toNat < S8x2048.size a := fun v3 v4 v5 v6 v7 v8 v9 v10 v777 k0_hw31 => k0_hw31.2.2.2.2.2.2.2

def k0_chk32 (v3 : IVec S16 32) (v4 : IVec S16 32) (v5 : IVec S16 32) (v6 : IVec S16 32) (v7 : IVec S16 32) (v8 : IVec S16 32) (v9 : IVec S16 32) (v10 : IVec S16 32) (v780 : IVec S16 32) : Prop :=
  (∀ a x, ((![v3, v780] : Fin 2 → IVec S16 32) a x).toNat < S8x2048.size a) ∧
  (∀ a x, ((![v4, v780] : Fin 2 → IVec S16 32) a x).toNat < S8x2048.size a) ∧
  (∀ a x, ((![v5, v780] : Fin 2 → IVec S16 32) a x).toNat < S8x2048.size a) ∧
  (∀ a x, ((![v6, v780] : Fin 2 → IVec S16 32) a x).toNat < S8x2048.size a) ∧
  (∀ a x, ((![v7, v780] : Fin 2 → IVec S16 32) a x).toNat < S8x2048.size a) ∧
  (∀ a x, ((![v8, v780] : Fin 2 → IVec S16 32) a x).toNat < S8x2048.size a) ∧
  (∀ a x, ((![v9, v780] : Fin 2 → IVec S16 32) a x).toNat < S8x2048.size a) ∧
  (∀ a x, ((![v10, v780] : Fin 2 → IVec S16 32) a x).toNat < S8x2048.size a)
theorem k0_idx249_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v3, v780] : Fin 2 → IVec S16 32) a x).toNat < S8x2048.size a := fun v3 v4 v5 v6 v7 v8 v9 v10 v780 k0_hw32 => k0_hw32.1
theorem k0_idx250_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v4, v780] : Fin 2 → IVec S16 32) a x).toNat < S8x2048.size a := fun v3 v4 v5 v6 v7 v8 v9 v10 v780 k0_hw32 => k0_hw32.2.1
theorem k0_idx251_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v5, v780] : Fin 2 → IVec S16 32) a x).toNat < S8x2048.size a := fun v3 v4 v5 v6 v7 v8 v9 v10 v780 k0_hw32 => k0_hw32.2.2.1
theorem k0_idx252_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v6, v780] : Fin 2 → IVec S16 32) a x).toNat < S8x2048.size a := fun v3 v4 v5 v6 v7 v8 v9 v10 v780 k0_hw32 => k0_hw32.2.2.2.1
theorem k0_idx253_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v7, v780] : Fin 2 → IVec S16 32) a x).toNat < S8x2048.size a := fun v3 v4 v5 v6 v7 v8 v9 v10 v780 k0_hw32 => k0_hw32.2.2.2.2.1
theorem k0_idx254_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v8, v780] : Fin 2 → IVec S16 32) a x).toNat < S8x2048.size a := fun v3 v4 v5 v6 v7 v8 v9 v10 v780 k0_hw32 => k0_hw32.2.2.2.2.2.1
theorem k0_idx255_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v9, v780] : Fin 2 → IVec S16 32) a x).toNat < S8x2048.size a := fun v3 v4 v5 v6 v7 v8 v9 v10 v780 k0_hw32 => k0_hw32.2.2.2.2.2.2.1
theorem k0_idx256_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k0_hw32 : k0_chk32 v3 v4 v5 v6 v7 v8 v9 v10 v780), ∀ a x, ((![v10, v780] : Fin 2 → IVec S16 32) a x).toNat < S8x2048.size a := fun v3 v4 v5 v6 v7 v8 v9 v10 v780 k0_hw32 => k0_hw32.2.2.2.2.2.2.2
def k0_off34 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_551 : BitVec 32 := 4#32
  let v877 : BitVec 32 := Scalar.addi v12 c4_i32_551
  let v878 : Index := Scalar.indexCast v877
  let c0_552 : Index := 0#32
  ![v878.toNat, 0]
def k0_off35 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_553 : BitVec 32 := 4#32
  let v880 : BitVec 32 := Scalar.addi v12 c4_i32_553
  let v881 : Index := Scalar.indexCast v880
  let c16_554 : Index := 16#32
  ![v881.toNat, 16]
def k0_off36 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_555 : BitVec 32 := 4#32
  let v883 : BitVec 32 := Scalar.addi v12 c4_i32_555
  let v884 : Index := Scalar.indexCast v883
  let c32_556 : Index := 32#32
  ![v884.toNat, 32]
def k0_off37 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_557 : BitVec 32 := 4#32
  let v886 : BitVec 32 := Scalar.addi v12 c4_i32_557
  let v887 : Index := Scalar.indexCast v886
  let c48_558 : Index := 48#32
  ![v887.toNat, 48]

def k0_chk33 (v3 : IVec S16 32) (v4 : IVec S16 32) (v5 : IVec S16 32) (v6 : IVec S16 32) (v7 : IVec S16 32) (v8 : IVec S16 32) (v9 : IVec S16 32) (v10 : IVec S16 32) (v879 : IVec S16 32) : Prop :=
  (∀ a x, ((![v3, v879] : Fin 2 → IVec S16 32) a x).toNat < S8x2048.size a) ∧
  (∀ a x, ((![v4, v879] : Fin 2 → IVec S16 32) a x).toNat < S8x2048.size a) ∧
  (∀ a x, ((![v5, v879] : Fin 2 → IVec S16 32) a x).toNat < S8x2048.size a) ∧
  (∀ a x, ((![v6, v879] : Fin 2 → IVec S16 32) a x).toNat < S8x2048.size a) ∧
  (∀ a x, ((![v7, v879] : Fin 2 → IVec S16 32) a x).toNat < S8x2048.size a) ∧
  (∀ a x, ((![v8, v879] : Fin 2 → IVec S16 32) a x).toNat < S8x2048.size a) ∧
  (∀ a x, ((![v9, v879] : Fin 2 → IVec S16 32) a x).toNat < S8x2048.size a) ∧
  (∀ a x, ((![v10, v879] : Fin 2 → IVec S16 32) a x).toNat < S8x2048.size a)
theorem k0_idx257_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v3, v879] : Fin 2 → IVec S16 32) a x).toNat < S8x2048.size a := fun v3 v4 v5 v6 v7 v8 v9 v10 v879 k0_hw33 => k0_hw33.1
theorem k0_idx258_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v4, v879] : Fin 2 → IVec S16 32) a x).toNat < S8x2048.size a := fun v3 v4 v5 v6 v7 v8 v9 v10 v879 k0_hw33 => k0_hw33.2.1
theorem k0_idx259_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v5, v879] : Fin 2 → IVec S16 32) a x).toNat < S8x2048.size a := fun v3 v4 v5 v6 v7 v8 v9 v10 v879 k0_hw33 => k0_hw33.2.2.1
theorem k0_idx260_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v6, v879] : Fin 2 → IVec S16 32) a x).toNat < S8x2048.size a := fun v3 v4 v5 v6 v7 v8 v9 v10 v879 k0_hw33 => k0_hw33.2.2.2.1
theorem k0_idx261_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v7, v879] : Fin 2 → IVec S16 32) a x).toNat < S8x2048.size a := fun v3 v4 v5 v6 v7 v8 v9 v10 v879 k0_hw33 => k0_hw33.2.2.2.2.1
theorem k0_idx262_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v8, v879] : Fin 2 → IVec S16 32) a x).toNat < S8x2048.size a := fun v3 v4 v5 v6 v7 v8 v9 v10 v879 k0_hw33 => k0_hw33.2.2.2.2.2.1
theorem k0_idx263_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v9, v879] : Fin 2 → IVec S16 32) a x).toNat < S8x2048.size a := fun v3 v4 v5 v6 v7 v8 v9 v10 v879 k0_hw33 => k0_hw33.2.2.2.2.2.2.1
theorem k0_idx264_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k0_hw33 : k0_chk33 v3 v4 v5 v6 v7 v8 v9 v10 v879), ∀ a x, ((![v10, v879] : Fin 2 → IVec S16 32) a x).toNat < S8x2048.size a := fun v3 v4 v5 v6 v7 v8 v9 v10 v879 k0_hw33 => k0_hw33.2.2.2.2.2.2.2

def k0_chk34 (v3 : IVec S16 32) (v4 : IVec S16 32) (v5 : IVec S16 32) (v6 : IVec S16 32) (v7 : IVec S16 32) (v8 : IVec S16 32) (v9 : IVec S16 32) (v10 : IVec S16 32) (v882 : IVec S16 32) : Prop :=
  (∀ a x, ((![v3, v882] : Fin 2 → IVec S16 32) a x).toNat < S8x2048.size a) ∧
  (∀ a x, ((![v4, v882] : Fin 2 → IVec S16 32) a x).toNat < S8x2048.size a) ∧
  (∀ a x, ((![v5, v882] : Fin 2 → IVec S16 32) a x).toNat < S8x2048.size a) ∧
  (∀ a x, ((![v6, v882] : Fin 2 → IVec S16 32) a x).toNat < S8x2048.size a) ∧
  (∀ a x, ((![v7, v882] : Fin 2 → IVec S16 32) a x).toNat < S8x2048.size a) ∧
  (∀ a x, ((![v8, v882] : Fin 2 → IVec S16 32) a x).toNat < S8x2048.size a) ∧
  (∀ a x, ((![v9, v882] : Fin 2 → IVec S16 32) a x).toNat < S8x2048.size a) ∧
  (∀ a x, ((![v10, v882] : Fin 2 → IVec S16 32) a x).toNat < S8x2048.size a)
theorem k0_idx265_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v3, v882] : Fin 2 → IVec S16 32) a x).toNat < S8x2048.size a := fun v3 v4 v5 v6 v7 v8 v9 v10 v882 k0_hw34 => k0_hw34.1
theorem k0_idx266_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v4, v882] : Fin 2 → IVec S16 32) a x).toNat < S8x2048.size a := fun v3 v4 v5 v6 v7 v8 v9 v10 v882 k0_hw34 => k0_hw34.2.1
theorem k0_idx267_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v5, v882] : Fin 2 → IVec S16 32) a x).toNat < S8x2048.size a := fun v3 v4 v5 v6 v7 v8 v9 v10 v882 k0_hw34 => k0_hw34.2.2.1
theorem k0_idx268_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v6, v882] : Fin 2 → IVec S16 32) a x).toNat < S8x2048.size a := fun v3 v4 v5 v6 v7 v8 v9 v10 v882 k0_hw34 => k0_hw34.2.2.2.1
theorem k0_idx269_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v7, v882] : Fin 2 → IVec S16 32) a x).toNat < S8x2048.size a := fun v3 v4 v5 v6 v7 v8 v9 v10 v882 k0_hw34 => k0_hw34.2.2.2.2.1
theorem k0_idx270_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v8, v882] : Fin 2 → IVec S16 32) a x).toNat < S8x2048.size a := fun v3 v4 v5 v6 v7 v8 v9 v10 v882 k0_hw34 => k0_hw34.2.2.2.2.2.1
theorem k0_idx271_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v9, v882] : Fin 2 → IVec S16 32) a x).toNat < S8x2048.size a := fun v3 v4 v5 v6 v7 v8 v9 v10 v882 k0_hw34 => k0_hw34.2.2.2.2.2.2.1
theorem k0_idx272_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k0_hw34 : k0_chk34 v3 v4 v5 v6 v7 v8 v9 v10 v882), ∀ a x, ((![v10, v882] : Fin 2 → IVec S16 32) a x).toNat < S8x2048.size a := fun v3 v4 v5 v6 v7 v8 v9 v10 v882 k0_hw34 => k0_hw34.2.2.2.2.2.2.2

def k0_chk35 (v3 : IVec S16 32) (v4 : IVec S16 32) (v5 : IVec S16 32) (v6 : IVec S16 32) (v7 : IVec S16 32) (v8 : IVec S16 32) (v9 : IVec S16 32) (v10 : IVec S16 32) (v885 : IVec S16 32) : Prop :=
  (∀ a x, ((![v3, v885] : Fin 2 → IVec S16 32) a x).toNat < S8x2048.size a) ∧
  (∀ a x, ((![v4, v885] : Fin 2 → IVec S16 32) a x).toNat < S8x2048.size a) ∧
  (∀ a x, ((![v5, v885] : Fin 2 → IVec S16 32) a x).toNat < S8x2048.size a) ∧
  (∀ a x, ((![v6, v885] : Fin 2 → IVec S16 32) a x).toNat < S8x2048.size a) ∧
  (∀ a x, ((![v7, v885] : Fin 2 → IVec S16 32) a x).toNat < S8x2048.size a) ∧
  (∀ a x, ((![v8, v885] : Fin 2 → IVec S16 32) a x).toNat < S8x2048.size a) ∧
  (∀ a x, ((![v9, v885] : Fin 2 → IVec S16 32) a x).toNat < S8x2048.size a) ∧
  (∀ a x, ((![v10, v885] : Fin 2 → IVec S16 32) a x).toNat < S8x2048.size a)
theorem k0_idx273_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v3, v885] : Fin 2 → IVec S16 32) a x).toNat < S8x2048.size a := fun v3 v4 v5 v6 v7 v8 v9 v10 v885 k0_hw35 => k0_hw35.1
theorem k0_idx274_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v4, v885] : Fin 2 → IVec S16 32) a x).toNat < S8x2048.size a := fun v3 v4 v5 v6 v7 v8 v9 v10 v885 k0_hw35 => k0_hw35.2.1
theorem k0_idx275_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v5, v885] : Fin 2 → IVec S16 32) a x).toNat < S8x2048.size a := fun v3 v4 v5 v6 v7 v8 v9 v10 v885 k0_hw35 => k0_hw35.2.2.1
theorem k0_idx276_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v6, v885] : Fin 2 → IVec S16 32) a x).toNat < S8x2048.size a := fun v3 v4 v5 v6 v7 v8 v9 v10 v885 k0_hw35 => k0_hw35.2.2.2.1
theorem k0_idx277_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v7, v885] : Fin 2 → IVec S16 32) a x).toNat < S8x2048.size a := fun v3 v4 v5 v6 v7 v8 v9 v10 v885 k0_hw35 => k0_hw35.2.2.2.2.1
theorem k0_idx278_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v8, v885] : Fin 2 → IVec S16 32) a x).toNat < S8x2048.size a := fun v3 v4 v5 v6 v7 v8 v9 v10 v885 k0_hw35 => k0_hw35.2.2.2.2.2.1
theorem k0_idx279_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v9, v885] : Fin 2 → IVec S16 32) a x).toNat < S8x2048.size a := fun v3 v4 v5 v6 v7 v8 v9 v10 v885 k0_hw35 => k0_hw35.2.2.2.2.2.2.1
theorem k0_idx280_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k0_hw35 : k0_chk35 v3 v4 v5 v6 v7 v8 v9 v10 v885), ∀ a x, ((![v10, v885] : Fin 2 → IVec S16 32) a x).toNat < S8x2048.size a := fun v3 v4 v5 v6 v7 v8 v9 v10 v885 k0_hw35 => k0_hw35.2.2.2.2.2.2.2

def k0_chk36 (v3 : IVec S16 32) (v4 : IVec S16 32) (v5 : IVec S16 32) (v6 : IVec S16 32) (v7 : IVec S16 32) (v8 : IVec S16 32) (v9 : IVec S16 32) (v10 : IVec S16 32) (v888 : IVec S16 32) : Prop :=
  (∀ a x, ((![v3, v888] : Fin 2 → IVec S16 32) a x).toNat < S8x2048.size a) ∧
  (∀ a x, ((![v4, v888] : Fin 2 → IVec S16 32) a x).toNat < S8x2048.size a) ∧
  (∀ a x, ((![v5, v888] : Fin 2 → IVec S16 32) a x).toNat < S8x2048.size a) ∧
  (∀ a x, ((![v6, v888] : Fin 2 → IVec S16 32) a x).toNat < S8x2048.size a) ∧
  (∀ a x, ((![v7, v888] : Fin 2 → IVec S16 32) a x).toNat < S8x2048.size a) ∧
  (∀ a x, ((![v8, v888] : Fin 2 → IVec S16 32) a x).toNat < S8x2048.size a) ∧
  (∀ a x, ((![v9, v888] : Fin 2 → IVec S16 32) a x).toNat < S8x2048.size a) ∧
  (∀ a x, ((![v10, v888] : Fin 2 → IVec S16 32) a x).toNat < S8x2048.size a)
theorem k0_idx281_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v3, v888] : Fin 2 → IVec S16 32) a x).toNat < S8x2048.size a := fun v3 v4 v5 v6 v7 v8 v9 v10 v888 k0_hw36 => k0_hw36.1
theorem k0_idx282_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v4, v888] : Fin 2 → IVec S16 32) a x).toNat < S8x2048.size a := fun v3 v4 v5 v6 v7 v8 v9 v10 v888 k0_hw36 => k0_hw36.2.1
theorem k0_idx283_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v5, v888] : Fin 2 → IVec S16 32) a x).toNat < S8x2048.size a := fun v3 v4 v5 v6 v7 v8 v9 v10 v888 k0_hw36 => k0_hw36.2.2.1
theorem k0_idx284_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v6, v888] : Fin 2 → IVec S16 32) a x).toNat < S8x2048.size a := fun v3 v4 v5 v6 v7 v8 v9 v10 v888 k0_hw36 => k0_hw36.2.2.2.1
theorem k0_idx285_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v7, v888] : Fin 2 → IVec S16 32) a x).toNat < S8x2048.size a := fun v3 v4 v5 v6 v7 v8 v9 v10 v888 k0_hw36 => k0_hw36.2.2.2.2.1
theorem k0_idx286_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v8, v888] : Fin 2 → IVec S16 32) a x).toNat < S8x2048.size a := fun v3 v4 v5 v6 v7 v8 v9 v10 v888 k0_hw36 => k0_hw36.2.2.2.2.2.1
theorem k0_idx287_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v9, v888] : Fin 2 → IVec S16 32) a x).toNat < S8x2048.size a := fun v3 v4 v5 v6 v7 v8 v9 v10 v888 k0_hw36 => k0_hw36.2.2.2.2.2.2.1
theorem k0_idx288_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k0_hw36 : k0_chk36 v3 v4 v5 v6 v7 v8 v9 v10 v888), ∀ a x, ((![v10, v888] : Fin 2 → IVec S16 32) a x).toNat < S8x2048.size a := fun v3 v4 v5 v6 v7 v8 v9 v10 v888 k0_hw36 => k0_hw36.2.2.2.2.2.2.2
def k0_off38 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_619 : BitVec 32 := 4#32
  let v985 : BitVec 32 := Scalar.addi v12 c4_i32_619
  let v986 : Index := Scalar.indexCast v985
  let c64_620 : Index := 64#32
  ![v986.toNat, 64]
def k0_off39 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_621 : BitVec 32 := 4#32
  let v988 : BitVec 32 := Scalar.addi v12 c4_i32_621
  let v989 : Index := Scalar.indexCast v988
  let c80_622 : Index := 80#32
  ![v989.toNat, 80]
def k0_off40 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_623 : BitVec 32 := 4#32
  let v991 : BitVec 32 := Scalar.addi v12 c4_i32_623
  let v992 : Index := Scalar.indexCast v991
  let c96_624 : Index := 96#32
  ![v992.toNat, 96]
def k0_off41 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c4_i32_625 : BitVec 32 := 4#32
  let v994 : BitVec 32 := Scalar.addi v12 c4_i32_625
  let v995 : Index := Scalar.indexCast v994
  let c112_626 : Index := 112#32
  ![v995.toNat, 112]

def k0_chk37 (v3 : IVec S16 32) (v4 : IVec S16 32) (v5 : IVec S16 32) (v6 : IVec S16 32) (v7 : IVec S16 32) (v8 : IVec S16 32) (v9 : IVec S16 32) (v10 : IVec S16 32) (v987 : IVec S16 32) : Prop :=
  (∀ a x, ((![v3, v987] : Fin 2 → IVec S16 32) a x).toNat < S8x2048.size a) ∧
  (∀ a x, ((![v4, v987] : Fin 2 → IVec S16 32) a x).toNat < S8x2048.size a) ∧
  (∀ a x, ((![v5, v987] : Fin 2 → IVec S16 32) a x).toNat < S8x2048.size a) ∧
  (∀ a x, ((![v6, v987] : Fin 2 → IVec S16 32) a x).toNat < S8x2048.size a) ∧
  (∀ a x, ((![v7, v987] : Fin 2 → IVec S16 32) a x).toNat < S8x2048.size a) ∧
  (∀ a x, ((![v8, v987] : Fin 2 → IVec S16 32) a x).toNat < S8x2048.size a) ∧
  (∀ a x, ((![v9, v987] : Fin 2 → IVec S16 32) a x).toNat < S8x2048.size a) ∧
  (∀ a x, ((![v10, v987] : Fin 2 → IVec S16 32) a x).toNat < S8x2048.size a)
theorem k0_idx289_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v3, v987] : Fin 2 → IVec S16 32) a x).toNat < S8x2048.size a := fun v3 v4 v5 v6 v7 v8 v9 v10 v987 k0_hw37 => k0_hw37.1
theorem k0_idx290_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v4, v987] : Fin 2 → IVec S16 32) a x).toNat < S8x2048.size a := fun v3 v4 v5 v6 v7 v8 v9 v10 v987 k0_hw37 => k0_hw37.2.1
theorem k0_idx291_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v5, v987] : Fin 2 → IVec S16 32) a x).toNat < S8x2048.size a := fun v3 v4 v5 v6 v7 v8 v9 v10 v987 k0_hw37 => k0_hw37.2.2.1
theorem k0_idx292_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v6, v987] : Fin 2 → IVec S16 32) a x).toNat < S8x2048.size a := fun v3 v4 v5 v6 v7 v8 v9 v10 v987 k0_hw37 => k0_hw37.2.2.2.1
theorem k0_idx293_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v7, v987] : Fin 2 → IVec S16 32) a x).toNat < S8x2048.size a := fun v3 v4 v5 v6 v7 v8 v9 v10 v987 k0_hw37 => k0_hw37.2.2.2.2.1
theorem k0_idx294_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v8, v987] : Fin 2 → IVec S16 32) a x).toNat < S8x2048.size a := fun v3 v4 v5 v6 v7 v8 v9 v10 v987 k0_hw37 => k0_hw37.2.2.2.2.2.1
theorem k0_idx295_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v9, v987] : Fin 2 → IVec S16 32) a x).toNat < S8x2048.size a := fun v3 v4 v5 v6 v7 v8 v9 v10 v987 k0_hw37 => k0_hw37.2.2.2.2.2.2.1
theorem k0_idx296_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k0_hw37 : k0_chk37 v3 v4 v5 v6 v7 v8 v9 v10 v987), ∀ a x, ((![v10, v987] : Fin 2 → IVec S16 32) a x).toNat < S8x2048.size a := fun v3 v4 v5 v6 v7 v8 v9 v10 v987 k0_hw37 => k0_hw37.2.2.2.2.2.2.2

def k0_chk38 (v3 : IVec S16 32) (v4 : IVec S16 32) (v5 : IVec S16 32) (v6 : IVec S16 32) (v7 : IVec S16 32) (v8 : IVec S16 32) (v9 : IVec S16 32) (v10 : IVec S16 32) (v990 : IVec S16 32) : Prop :=
  (∀ a x, ((![v3, v990] : Fin 2 → IVec S16 32) a x).toNat < S8x2048.size a) ∧
  (∀ a x, ((![v4, v990] : Fin 2 → IVec S16 32) a x).toNat < S8x2048.size a) ∧
  (∀ a x, ((![v5, v990] : Fin 2 → IVec S16 32) a x).toNat < S8x2048.size a) ∧
  (∀ a x, ((![v6, v990] : Fin 2 → IVec S16 32) a x).toNat < S8x2048.size a) ∧
  (∀ a x, ((![v7, v990] : Fin 2 → IVec S16 32) a x).toNat < S8x2048.size a) ∧
  (∀ a x, ((![v8, v990] : Fin 2 → IVec S16 32) a x).toNat < S8x2048.size a) ∧
  (∀ a x, ((![v9, v990] : Fin 2 → IVec S16 32) a x).toNat < S8x2048.size a) ∧
  (∀ a x, ((![v10, v990] : Fin 2 → IVec S16 32) a x).toNat < S8x2048.size a)
theorem k0_idx297_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v3, v990] : Fin 2 → IVec S16 32) a x).toNat < S8x2048.size a := fun v3 v4 v5 v6 v7 v8 v9 v10 v990 k0_hw38 => k0_hw38.1
theorem k0_idx298_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v4, v990] : Fin 2 → IVec S16 32) a x).toNat < S8x2048.size a := fun v3 v4 v5 v6 v7 v8 v9 v10 v990 k0_hw38 => k0_hw38.2.1
theorem k0_idx299_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v5, v990] : Fin 2 → IVec S16 32) a x).toNat < S8x2048.size a := fun v3 v4 v5 v6 v7 v8 v9 v10 v990 k0_hw38 => k0_hw38.2.2.1
theorem k0_idx300_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v6, v990] : Fin 2 → IVec S16 32) a x).toNat < S8x2048.size a := fun v3 v4 v5 v6 v7 v8 v9 v10 v990 k0_hw38 => k0_hw38.2.2.2.1
theorem k0_idx301_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v7, v990] : Fin 2 → IVec S16 32) a x).toNat < S8x2048.size a := fun v3 v4 v5 v6 v7 v8 v9 v10 v990 k0_hw38 => k0_hw38.2.2.2.2.1
theorem k0_idx302_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v8, v990] : Fin 2 → IVec S16 32) a x).toNat < S8x2048.size a := fun v3 v4 v5 v6 v7 v8 v9 v10 v990 k0_hw38 => k0_hw38.2.2.2.2.2.1
theorem k0_idx303_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v9, v990] : Fin 2 → IVec S16 32) a x).toNat < S8x2048.size a := fun v3 v4 v5 v6 v7 v8 v9 v10 v990 k0_hw38 => k0_hw38.2.2.2.2.2.2.1
theorem k0_idx304_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k0_hw38 : k0_chk38 v3 v4 v5 v6 v7 v8 v9 v10 v990), ∀ a x, ((![v10, v990] : Fin 2 → IVec S16 32) a x).toNat < S8x2048.size a := fun v3 v4 v5 v6 v7 v8 v9 v10 v990 k0_hw38 => k0_hw38.2.2.2.2.2.2.2

def k0_chk39 (v3 : IVec S16 32) (v4 : IVec S16 32) (v5 : IVec S16 32) (v6 : IVec S16 32) (v7 : IVec S16 32) (v8 : IVec S16 32) (v9 : IVec S16 32) (v10 : IVec S16 32) (v993 : IVec S16 32) : Prop :=
  (∀ a x, ((![v3, v993] : Fin 2 → IVec S16 32) a x).toNat < S8x2048.size a) ∧
  (∀ a x, ((![v4, v993] : Fin 2 → IVec S16 32) a x).toNat < S8x2048.size a) ∧
  (∀ a x, ((![v5, v993] : Fin 2 → IVec S16 32) a x).toNat < S8x2048.size a) ∧
  (∀ a x, ((![v6, v993] : Fin 2 → IVec S16 32) a x).toNat < S8x2048.size a) ∧
  (∀ a x, ((![v7, v993] : Fin 2 → IVec S16 32) a x).toNat < S8x2048.size a) ∧
  (∀ a x, ((![v8, v993] : Fin 2 → IVec S16 32) a x).toNat < S8x2048.size a) ∧
  (∀ a x, ((![v9, v993] : Fin 2 → IVec S16 32) a x).toNat < S8x2048.size a) ∧
  (∀ a x, ((![v10, v993] : Fin 2 → IVec S16 32) a x).toNat < S8x2048.size a)
theorem k0_idx305_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v3, v993] : Fin 2 → IVec S16 32) a x).toNat < S8x2048.size a := fun v3 v4 v5 v6 v7 v8 v9 v10 v993 k0_hw39 => k0_hw39.1
theorem k0_idx306_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v4, v993] : Fin 2 → IVec S16 32) a x).toNat < S8x2048.size a := fun v3 v4 v5 v6 v7 v8 v9 v10 v993 k0_hw39 => k0_hw39.2.1
theorem k0_idx307_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v5, v993] : Fin 2 → IVec S16 32) a x).toNat < S8x2048.size a := fun v3 v4 v5 v6 v7 v8 v9 v10 v993 k0_hw39 => k0_hw39.2.2.1
theorem k0_idx308_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v6, v993] : Fin 2 → IVec S16 32) a x).toNat < S8x2048.size a := fun v3 v4 v5 v6 v7 v8 v9 v10 v993 k0_hw39 => k0_hw39.2.2.2.1
theorem k0_idx309_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v7, v993] : Fin 2 → IVec S16 32) a x).toNat < S8x2048.size a := fun v3 v4 v5 v6 v7 v8 v9 v10 v993 k0_hw39 => k0_hw39.2.2.2.2.1
theorem k0_idx310_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v8, v993] : Fin 2 → IVec S16 32) a x).toNat < S8x2048.size a := fun v3 v4 v5 v6 v7 v8 v9 v10 v993 k0_hw39 => k0_hw39.2.2.2.2.2.1
theorem k0_idx311_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v9, v993] : Fin 2 → IVec S16 32) a x).toNat < S8x2048.size a := fun v3 v4 v5 v6 v7 v8 v9 v10 v993 k0_hw39 => k0_hw39.2.2.2.2.2.2.1
theorem k0_idx312_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k0_hw39 : k0_chk39 v3 v4 v5 v6 v7 v8 v9 v10 v993), ∀ a x, ((![v10, v993] : Fin 2 → IVec S16 32) a x).toNat < S8x2048.size a := fun v3 v4 v5 v6 v7 v8 v9 v10 v993 k0_hw39 => k0_hw39.2.2.2.2.2.2.2

def k0_chk40 (v3 : IVec S16 32) (v4 : IVec S16 32) (v5 : IVec S16 32) (v6 : IVec S16 32) (v7 : IVec S16 32) (v8 : IVec S16 32) (v9 : IVec S16 32) (v10 : IVec S16 32) (v996 : IVec S16 32) : Prop :=
  (∀ a x, ((![v3, v996] : Fin 2 → IVec S16 32) a x).toNat < S8x2048.size a) ∧
  (∀ a x, ((![v4, v996] : Fin 2 → IVec S16 32) a x).toNat < S8x2048.size a) ∧
  (∀ a x, ((![v5, v996] : Fin 2 → IVec S16 32) a x).toNat < S8x2048.size a) ∧
  (∀ a x, ((![v6, v996] : Fin 2 → IVec S16 32) a x).toNat < S8x2048.size a) ∧
  (∀ a x, ((![v7, v996] : Fin 2 → IVec S16 32) a x).toNat < S8x2048.size a) ∧
  (∀ a x, ((![v8, v996] : Fin 2 → IVec S16 32) a x).toNat < S8x2048.size a) ∧
  (∀ a x, ((![v9, v996] : Fin 2 → IVec S16 32) a x).toNat < S8x2048.size a) ∧
  (∀ a x, ((![v10, v996] : Fin 2 → IVec S16 32) a x).toNat < S8x2048.size a)
theorem k0_idx313_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v3, v996] : Fin 2 → IVec S16 32) a x).toNat < S8x2048.size a := fun v3 v4 v5 v6 v7 v8 v9 v10 v996 k0_hw40 => k0_hw40.1
theorem k0_idx314_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v4, v996] : Fin 2 → IVec S16 32) a x).toNat < S8x2048.size a := fun v3 v4 v5 v6 v7 v8 v9 v10 v996 k0_hw40 => k0_hw40.2.1
theorem k0_idx315_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v5, v996] : Fin 2 → IVec S16 32) a x).toNat < S8x2048.size a := fun v3 v4 v5 v6 v7 v8 v9 v10 v996 k0_hw40 => k0_hw40.2.2.1
theorem k0_idx316_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v6, v996] : Fin 2 → IVec S16 32) a x).toNat < S8x2048.size a := fun v3 v4 v5 v6 v7 v8 v9 v10 v996 k0_hw40 => k0_hw40.2.2.2.1
theorem k0_idx317_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v7, v996] : Fin 2 → IVec S16 32) a x).toNat < S8x2048.size a := fun v3 v4 v5 v6 v7 v8 v9 v10 v996 k0_hw40 => k0_hw40.2.2.2.2.1
theorem k0_idx318_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v8, v996] : Fin 2 → IVec S16 32) a x).toNat < S8x2048.size a := fun v3 v4 v5 v6 v7 v8 v9 v10 v996 k0_hw40 => k0_hw40.2.2.2.2.2.1
theorem k0_idx319_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v9, v996] : Fin 2 → IVec S16 32) a x).toNat < S8x2048.size a := fun v3 v4 v5 v6 v7 v8 v9 v10 v996 k0_hw40 => k0_hw40.2.2.2.2.2.2.1
theorem k0_idx320_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k0_hw40 : k0_chk40 v3 v4 v5 v6 v7 v8 v9 v10 v996), ∀ a x, ((![v10, v996] : Fin 2 → IVec S16 32) a x).toNat < S8x2048.size a := fun v3 v4 v5 v6 v7 v8 v9 v10 v996 k0_hw40 => k0_hw40.2.2.2.2.2.2.2
def k0_off42 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_687 : BitVec 32 := 5#32
  let v1093 : BitVec 32 := Scalar.addi v12 c5_i32_687
  let v1094 : Index := Scalar.indexCast v1093
  let c0_688 : Index := 0#32
  ![v1094.toNat, 0]
def k0_off43 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_689 : BitVec 32 := 5#32
  let v1096 : BitVec 32 := Scalar.addi v12 c5_i32_689
  let v1097 : Index := Scalar.indexCast v1096
  let c16_690 : Index := 16#32
  ![v1097.toNat, 16]
def k0_off44 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_691 : BitVec 32 := 5#32
  let v1099 : BitVec 32 := Scalar.addi v12 c5_i32_691
  let v1100 : Index := Scalar.indexCast v1099
  let c32_692 : Index := 32#32
  ![v1100.toNat, 32]
def k0_off45 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_693 : BitVec 32 := 5#32
  let v1102 : BitVec 32 := Scalar.addi v12 c5_i32_693
  let v1103 : Index := Scalar.indexCast v1102
  let c48_694 : Index := 48#32
  ![v1103.toNat, 48]

def k0_chk41 (v3 : IVec S16 32) (v4 : IVec S16 32) (v5 : IVec S16 32) (v6 : IVec S16 32) (v7 : IVec S16 32) (v8 : IVec S16 32) (v9 : IVec S16 32) (v10 : IVec S16 32) (v1095 : IVec S16 32) : Prop :=
  (∀ a x, ((![v3, v1095] : Fin 2 → IVec S16 32) a x).toNat < S8x2048.size a) ∧
  (∀ a x, ((![v4, v1095] : Fin 2 → IVec S16 32) a x).toNat < S8x2048.size a) ∧
  (∀ a x, ((![v5, v1095] : Fin 2 → IVec S16 32) a x).toNat < S8x2048.size a) ∧
  (∀ a x, ((![v6, v1095] : Fin 2 → IVec S16 32) a x).toNat < S8x2048.size a) ∧
  (∀ a x, ((![v7, v1095] : Fin 2 → IVec S16 32) a x).toNat < S8x2048.size a) ∧
  (∀ a x, ((![v8, v1095] : Fin 2 → IVec S16 32) a x).toNat < S8x2048.size a) ∧
  (∀ a x, ((![v9, v1095] : Fin 2 → IVec S16 32) a x).toNat < S8x2048.size a) ∧
  (∀ a x, ((![v10, v1095] : Fin 2 → IVec S16 32) a x).toNat < S8x2048.size a)
theorem k0_idx321_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v3, v1095] : Fin 2 → IVec S16 32) a x).toNat < S8x2048.size a := fun v3 v4 v5 v6 v7 v8 v9 v10 v1095 k0_hw41 => k0_hw41.1
theorem k0_idx322_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v4, v1095] : Fin 2 → IVec S16 32) a x).toNat < S8x2048.size a := fun v3 v4 v5 v6 v7 v8 v9 v10 v1095 k0_hw41 => k0_hw41.2.1
theorem k0_idx323_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v5, v1095] : Fin 2 → IVec S16 32) a x).toNat < S8x2048.size a := fun v3 v4 v5 v6 v7 v8 v9 v10 v1095 k0_hw41 => k0_hw41.2.2.1
theorem k0_idx324_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v6, v1095] : Fin 2 → IVec S16 32) a x).toNat < S8x2048.size a := fun v3 v4 v5 v6 v7 v8 v9 v10 v1095 k0_hw41 => k0_hw41.2.2.2.1
theorem k0_idx325_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v7, v1095] : Fin 2 → IVec S16 32) a x).toNat < S8x2048.size a := fun v3 v4 v5 v6 v7 v8 v9 v10 v1095 k0_hw41 => k0_hw41.2.2.2.2.1
theorem k0_idx326_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v8, v1095] : Fin 2 → IVec S16 32) a x).toNat < S8x2048.size a := fun v3 v4 v5 v6 v7 v8 v9 v10 v1095 k0_hw41 => k0_hw41.2.2.2.2.2.1
theorem k0_idx327_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v9, v1095] : Fin 2 → IVec S16 32) a x).toNat < S8x2048.size a := fun v3 v4 v5 v6 v7 v8 v9 v10 v1095 k0_hw41 => k0_hw41.2.2.2.2.2.2.1
theorem k0_idx328_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k0_hw41 : k0_chk41 v3 v4 v5 v6 v7 v8 v9 v10 v1095), ∀ a x, ((![v10, v1095] : Fin 2 → IVec S16 32) a x).toNat < S8x2048.size a := fun v3 v4 v5 v6 v7 v8 v9 v10 v1095 k0_hw41 => k0_hw41.2.2.2.2.2.2.2

def k0_chk42 (v3 : IVec S16 32) (v4 : IVec S16 32) (v5 : IVec S16 32) (v6 : IVec S16 32) (v7 : IVec S16 32) (v8 : IVec S16 32) (v9 : IVec S16 32) (v10 : IVec S16 32) (v1098 : IVec S16 32) : Prop :=
  (∀ a x, ((![v3, v1098] : Fin 2 → IVec S16 32) a x).toNat < S8x2048.size a) ∧
  (∀ a x, ((![v4, v1098] : Fin 2 → IVec S16 32) a x).toNat < S8x2048.size a) ∧
  (∀ a x, ((![v5, v1098] : Fin 2 → IVec S16 32) a x).toNat < S8x2048.size a) ∧
  (∀ a x, ((![v6, v1098] : Fin 2 → IVec S16 32) a x).toNat < S8x2048.size a) ∧
  (∀ a x, ((![v7, v1098] : Fin 2 → IVec S16 32) a x).toNat < S8x2048.size a) ∧
  (∀ a x, ((![v8, v1098] : Fin 2 → IVec S16 32) a x).toNat < S8x2048.size a) ∧
  (∀ a x, ((![v9, v1098] : Fin 2 → IVec S16 32) a x).toNat < S8x2048.size a) ∧
  (∀ a x, ((![v10, v1098] : Fin 2 → IVec S16 32) a x).toNat < S8x2048.size a)
theorem k0_idx329_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v3, v1098] : Fin 2 → IVec S16 32) a x).toNat < S8x2048.size a := fun v3 v4 v5 v6 v7 v8 v9 v10 v1098 k0_hw42 => k0_hw42.1
theorem k0_idx330_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v4, v1098] : Fin 2 → IVec S16 32) a x).toNat < S8x2048.size a := fun v3 v4 v5 v6 v7 v8 v9 v10 v1098 k0_hw42 => k0_hw42.2.1
theorem k0_idx331_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v5, v1098] : Fin 2 → IVec S16 32) a x).toNat < S8x2048.size a := fun v3 v4 v5 v6 v7 v8 v9 v10 v1098 k0_hw42 => k0_hw42.2.2.1
theorem k0_idx332_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v6, v1098] : Fin 2 → IVec S16 32) a x).toNat < S8x2048.size a := fun v3 v4 v5 v6 v7 v8 v9 v10 v1098 k0_hw42 => k0_hw42.2.2.2.1
theorem k0_idx333_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v7, v1098] : Fin 2 → IVec S16 32) a x).toNat < S8x2048.size a := fun v3 v4 v5 v6 v7 v8 v9 v10 v1098 k0_hw42 => k0_hw42.2.2.2.2.1
theorem k0_idx334_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v8, v1098] : Fin 2 → IVec S16 32) a x).toNat < S8x2048.size a := fun v3 v4 v5 v6 v7 v8 v9 v10 v1098 k0_hw42 => k0_hw42.2.2.2.2.2.1
theorem k0_idx335_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v9, v1098] : Fin 2 → IVec S16 32) a x).toNat < S8x2048.size a := fun v3 v4 v5 v6 v7 v8 v9 v10 v1098 k0_hw42 => k0_hw42.2.2.2.2.2.2.1
theorem k0_idx336_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k0_hw42 : k0_chk42 v3 v4 v5 v6 v7 v8 v9 v10 v1098), ∀ a x, ((![v10, v1098] : Fin 2 → IVec S16 32) a x).toNat < S8x2048.size a := fun v3 v4 v5 v6 v7 v8 v9 v10 v1098 k0_hw42 => k0_hw42.2.2.2.2.2.2.2

def k0_chk43 (v3 : IVec S16 32) (v4 : IVec S16 32) (v5 : IVec S16 32) (v6 : IVec S16 32) (v7 : IVec S16 32) (v8 : IVec S16 32) (v9 : IVec S16 32) (v10 : IVec S16 32) (v1101 : IVec S16 32) : Prop :=
  (∀ a x, ((![v3, v1101] : Fin 2 → IVec S16 32) a x).toNat < S8x2048.size a) ∧
  (∀ a x, ((![v4, v1101] : Fin 2 → IVec S16 32) a x).toNat < S8x2048.size a) ∧
  (∀ a x, ((![v5, v1101] : Fin 2 → IVec S16 32) a x).toNat < S8x2048.size a) ∧
  (∀ a x, ((![v6, v1101] : Fin 2 → IVec S16 32) a x).toNat < S8x2048.size a) ∧
  (∀ a x, ((![v7, v1101] : Fin 2 → IVec S16 32) a x).toNat < S8x2048.size a) ∧
  (∀ a x, ((![v8, v1101] : Fin 2 → IVec S16 32) a x).toNat < S8x2048.size a) ∧
  (∀ a x, ((![v9, v1101] : Fin 2 → IVec S16 32) a x).toNat < S8x2048.size a) ∧
  (∀ a x, ((![v10, v1101] : Fin 2 → IVec S16 32) a x).toNat < S8x2048.size a)
theorem k0_idx337_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v3, v1101] : Fin 2 → IVec S16 32) a x).toNat < S8x2048.size a := fun v3 v4 v5 v6 v7 v8 v9 v10 v1101 k0_hw43 => k0_hw43.1
theorem k0_idx338_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v4, v1101] : Fin 2 → IVec S16 32) a x).toNat < S8x2048.size a := fun v3 v4 v5 v6 v7 v8 v9 v10 v1101 k0_hw43 => k0_hw43.2.1
theorem k0_idx339_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v5, v1101] : Fin 2 → IVec S16 32) a x).toNat < S8x2048.size a := fun v3 v4 v5 v6 v7 v8 v9 v10 v1101 k0_hw43 => k0_hw43.2.2.1
theorem k0_idx340_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v6, v1101] : Fin 2 → IVec S16 32) a x).toNat < S8x2048.size a := fun v3 v4 v5 v6 v7 v8 v9 v10 v1101 k0_hw43 => k0_hw43.2.2.2.1
theorem k0_idx341_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v7, v1101] : Fin 2 → IVec S16 32) a x).toNat < S8x2048.size a := fun v3 v4 v5 v6 v7 v8 v9 v10 v1101 k0_hw43 => k0_hw43.2.2.2.2.1
theorem k0_idx342_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v8, v1101] : Fin 2 → IVec S16 32) a x).toNat < S8x2048.size a := fun v3 v4 v5 v6 v7 v8 v9 v10 v1101 k0_hw43 => k0_hw43.2.2.2.2.2.1
theorem k0_idx343_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v9, v1101] : Fin 2 → IVec S16 32) a x).toNat < S8x2048.size a := fun v3 v4 v5 v6 v7 v8 v9 v10 v1101 k0_hw43 => k0_hw43.2.2.2.2.2.2.1
theorem k0_idx344_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k0_hw43 : k0_chk43 v3 v4 v5 v6 v7 v8 v9 v10 v1101), ∀ a x, ((![v10, v1101] : Fin 2 → IVec S16 32) a x).toNat < S8x2048.size a := fun v3 v4 v5 v6 v7 v8 v9 v10 v1101 k0_hw43 => k0_hw43.2.2.2.2.2.2.2

def k0_chk44 (v3 : IVec S16 32) (v4 : IVec S16 32) (v5 : IVec S16 32) (v6 : IVec S16 32) (v7 : IVec S16 32) (v8 : IVec S16 32) (v9 : IVec S16 32) (v10 : IVec S16 32) (v1104 : IVec S16 32) : Prop :=
  (∀ a x, ((![v3, v1104] : Fin 2 → IVec S16 32) a x).toNat < S8x2048.size a) ∧
  (∀ a x, ((![v4, v1104] : Fin 2 → IVec S16 32) a x).toNat < S8x2048.size a) ∧
  (∀ a x, ((![v5, v1104] : Fin 2 → IVec S16 32) a x).toNat < S8x2048.size a) ∧
  (∀ a x, ((![v6, v1104] : Fin 2 → IVec S16 32) a x).toNat < S8x2048.size a) ∧
  (∀ a x, ((![v7, v1104] : Fin 2 → IVec S16 32) a x).toNat < S8x2048.size a) ∧
  (∀ a x, ((![v8, v1104] : Fin 2 → IVec S16 32) a x).toNat < S8x2048.size a) ∧
  (∀ a x, ((![v9, v1104] : Fin 2 → IVec S16 32) a x).toNat < S8x2048.size a) ∧
  (∀ a x, ((![v10, v1104] : Fin 2 → IVec S16 32) a x).toNat < S8x2048.size a)
theorem k0_idx345_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v3, v1104] : Fin 2 → IVec S16 32) a x).toNat < S8x2048.size a := fun v3 v4 v5 v6 v7 v8 v9 v10 v1104 k0_hw44 => k0_hw44.1
theorem k0_idx346_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v4, v1104] : Fin 2 → IVec S16 32) a x).toNat < S8x2048.size a := fun v3 v4 v5 v6 v7 v8 v9 v10 v1104 k0_hw44 => k0_hw44.2.1
theorem k0_idx347_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v5, v1104] : Fin 2 → IVec S16 32) a x).toNat < S8x2048.size a := fun v3 v4 v5 v6 v7 v8 v9 v10 v1104 k0_hw44 => k0_hw44.2.2.1
theorem k0_idx348_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v6, v1104] : Fin 2 → IVec S16 32) a x).toNat < S8x2048.size a := fun v3 v4 v5 v6 v7 v8 v9 v10 v1104 k0_hw44 => k0_hw44.2.2.2.1
theorem k0_idx349_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v7, v1104] : Fin 2 → IVec S16 32) a x).toNat < S8x2048.size a := fun v3 v4 v5 v6 v7 v8 v9 v10 v1104 k0_hw44 => k0_hw44.2.2.2.2.1
theorem k0_idx350_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v8, v1104] : Fin 2 → IVec S16 32) a x).toNat < S8x2048.size a := fun v3 v4 v5 v6 v7 v8 v9 v10 v1104 k0_hw44 => k0_hw44.2.2.2.2.2.1
theorem k0_idx351_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v9, v1104] : Fin 2 → IVec S16 32) a x).toNat < S8x2048.size a := fun v3 v4 v5 v6 v7 v8 v9 v10 v1104 k0_hw44 => k0_hw44.2.2.2.2.2.2.1
theorem k0_idx352_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k0_hw44 : k0_chk44 v3 v4 v5 v6 v7 v8 v9 v10 v1104), ∀ a x, ((![v10, v1104] : Fin 2 → IVec S16 32) a x).toNat < S8x2048.size a := fun v3 v4 v5 v6 v7 v8 v9 v10 v1104 k0_hw44 => k0_hw44.2.2.2.2.2.2.2
def k0_off46 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_755 : BitVec 32 := 5#32
  let v1201 : BitVec 32 := Scalar.addi v12 c5_i32_755
  let v1202 : Index := Scalar.indexCast v1201
  let c64_756 : Index := 64#32
  ![v1202.toNat, 64]
def k0_off47 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_757 : BitVec 32 := 5#32
  let v1204 : BitVec 32 := Scalar.addi v12 c5_i32_757
  let v1205 : Index := Scalar.indexCast v1204
  let c80_758 : Index := 80#32
  ![v1205.toNat, 80]
def k0_off48 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_759 : BitVec 32 := 5#32
  let v1207 : BitVec 32 := Scalar.addi v12 c5_i32_759
  let v1208 : Index := Scalar.indexCast v1207
  let c96_760 : Index := 96#32
  ![v1208.toNat, 96]
def k0_off49 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c5_i32_761 : BitVec 32 := 5#32
  let v1210 : BitVec 32 := Scalar.addi v12 c5_i32_761
  let v1211 : Index := Scalar.indexCast v1210
  let c112_762 : Index := 112#32
  ![v1211.toNat, 112]

def k0_chk45 (v3 : IVec S16 32) (v4 : IVec S16 32) (v5 : IVec S16 32) (v6 : IVec S16 32) (v7 : IVec S16 32) (v8 : IVec S16 32) (v9 : IVec S16 32) (v10 : IVec S16 32) (v1203 : IVec S16 32) : Prop :=
  (∀ a x, ((![v3, v1203] : Fin 2 → IVec S16 32) a x).toNat < S8x2048.size a) ∧
  (∀ a x, ((![v4, v1203] : Fin 2 → IVec S16 32) a x).toNat < S8x2048.size a) ∧
  (∀ a x, ((![v5, v1203] : Fin 2 → IVec S16 32) a x).toNat < S8x2048.size a) ∧
  (∀ a x, ((![v6, v1203] : Fin 2 → IVec S16 32) a x).toNat < S8x2048.size a) ∧
  (∀ a x, ((![v7, v1203] : Fin 2 → IVec S16 32) a x).toNat < S8x2048.size a) ∧
  (∀ a x, ((![v8, v1203] : Fin 2 → IVec S16 32) a x).toNat < S8x2048.size a) ∧
  (∀ a x, ((![v9, v1203] : Fin 2 → IVec S16 32) a x).toNat < S8x2048.size a) ∧
  (∀ a x, ((![v10, v1203] : Fin 2 → IVec S16 32) a x).toNat < S8x2048.size a)
theorem k0_idx353_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v3, v1203] : Fin 2 → IVec S16 32) a x).toNat < S8x2048.size a := fun v3 v4 v5 v6 v7 v8 v9 v10 v1203 k0_hw45 => k0_hw45.1
theorem k0_idx354_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v4, v1203] : Fin 2 → IVec S16 32) a x).toNat < S8x2048.size a := fun v3 v4 v5 v6 v7 v8 v9 v10 v1203 k0_hw45 => k0_hw45.2.1
theorem k0_idx355_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v5, v1203] : Fin 2 → IVec S16 32) a x).toNat < S8x2048.size a := fun v3 v4 v5 v6 v7 v8 v9 v10 v1203 k0_hw45 => k0_hw45.2.2.1
theorem k0_idx356_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v6, v1203] : Fin 2 → IVec S16 32) a x).toNat < S8x2048.size a := fun v3 v4 v5 v6 v7 v8 v9 v10 v1203 k0_hw45 => k0_hw45.2.2.2.1
theorem k0_idx357_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v7, v1203] : Fin 2 → IVec S16 32) a x).toNat < S8x2048.size a := fun v3 v4 v5 v6 v7 v8 v9 v10 v1203 k0_hw45 => k0_hw45.2.2.2.2.1
theorem k0_idx358_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v8, v1203] : Fin 2 → IVec S16 32) a x).toNat < S8x2048.size a := fun v3 v4 v5 v6 v7 v8 v9 v10 v1203 k0_hw45 => k0_hw45.2.2.2.2.2.1
theorem k0_idx359_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v9, v1203] : Fin 2 → IVec S16 32) a x).toNat < S8x2048.size a := fun v3 v4 v5 v6 v7 v8 v9 v10 v1203 k0_hw45 => k0_hw45.2.2.2.2.2.2.1
theorem k0_idx360_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k0_hw45 : k0_chk45 v3 v4 v5 v6 v7 v8 v9 v10 v1203), ∀ a x, ((![v10, v1203] : Fin 2 → IVec S16 32) a x).toNat < S8x2048.size a := fun v3 v4 v5 v6 v7 v8 v9 v10 v1203 k0_hw45 => k0_hw45.2.2.2.2.2.2.2

def k0_chk46 (v3 : IVec S16 32) (v4 : IVec S16 32) (v5 : IVec S16 32) (v6 : IVec S16 32) (v7 : IVec S16 32) (v8 : IVec S16 32) (v9 : IVec S16 32) (v10 : IVec S16 32) (v1206 : IVec S16 32) : Prop :=
  (∀ a x, ((![v3, v1206] : Fin 2 → IVec S16 32) a x).toNat < S8x2048.size a) ∧
  (∀ a x, ((![v4, v1206] : Fin 2 → IVec S16 32) a x).toNat < S8x2048.size a) ∧
  (∀ a x, ((![v5, v1206] : Fin 2 → IVec S16 32) a x).toNat < S8x2048.size a) ∧
  (∀ a x, ((![v6, v1206] : Fin 2 → IVec S16 32) a x).toNat < S8x2048.size a) ∧
  (∀ a x, ((![v7, v1206] : Fin 2 → IVec S16 32) a x).toNat < S8x2048.size a) ∧
  (∀ a x, ((![v8, v1206] : Fin 2 → IVec S16 32) a x).toNat < S8x2048.size a) ∧
  (∀ a x, ((![v9, v1206] : Fin 2 → IVec S16 32) a x).toNat < S8x2048.size a) ∧
  (∀ a x, ((![v10, v1206] : Fin 2 → IVec S16 32) a x).toNat < S8x2048.size a)
theorem k0_idx361_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v3, v1206] : Fin 2 → IVec S16 32) a x).toNat < S8x2048.size a := fun v3 v4 v5 v6 v7 v8 v9 v10 v1206 k0_hw46 => k0_hw46.1
theorem k0_idx362_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v4, v1206] : Fin 2 → IVec S16 32) a x).toNat < S8x2048.size a := fun v3 v4 v5 v6 v7 v8 v9 v10 v1206 k0_hw46 => k0_hw46.2.1
theorem k0_idx363_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v5, v1206] : Fin 2 → IVec S16 32) a x).toNat < S8x2048.size a := fun v3 v4 v5 v6 v7 v8 v9 v10 v1206 k0_hw46 => k0_hw46.2.2.1
theorem k0_idx364_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v6, v1206] : Fin 2 → IVec S16 32) a x).toNat < S8x2048.size a := fun v3 v4 v5 v6 v7 v8 v9 v10 v1206 k0_hw46 => k0_hw46.2.2.2.1
theorem k0_idx365_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v7, v1206] : Fin 2 → IVec S16 32) a x).toNat < S8x2048.size a := fun v3 v4 v5 v6 v7 v8 v9 v10 v1206 k0_hw46 => k0_hw46.2.2.2.2.1
theorem k0_idx366_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v8, v1206] : Fin 2 → IVec S16 32) a x).toNat < S8x2048.size a := fun v3 v4 v5 v6 v7 v8 v9 v10 v1206 k0_hw46 => k0_hw46.2.2.2.2.2.1
theorem k0_idx367_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v9, v1206] : Fin 2 → IVec S16 32) a x).toNat < S8x2048.size a := fun v3 v4 v5 v6 v7 v8 v9 v10 v1206 k0_hw46 => k0_hw46.2.2.2.2.2.2.1
theorem k0_idx368_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k0_hw46 : k0_chk46 v3 v4 v5 v6 v7 v8 v9 v10 v1206), ∀ a x, ((![v10, v1206] : Fin 2 → IVec S16 32) a x).toNat < S8x2048.size a := fun v3 v4 v5 v6 v7 v8 v9 v10 v1206 k0_hw46 => k0_hw46.2.2.2.2.2.2.2

def k0_chk47 (v3 : IVec S16 32) (v4 : IVec S16 32) (v5 : IVec S16 32) (v6 : IVec S16 32) (v7 : IVec S16 32) (v8 : IVec S16 32) (v9 : IVec S16 32) (v10 : IVec S16 32) (v1209 : IVec S16 32) : Prop :=
  (∀ a x, ((![v3, v1209] : Fin 2 → IVec S16 32) a x).toNat < S8x2048.size a) ∧
  (∀ a x, ((![v4, v1209] : Fin 2 → IVec S16 32) a x).toNat < S8x2048.size a) ∧
  (∀ a x, ((![v5, v1209] : Fin 2 → IVec S16 32) a x).toNat < S8x2048.size a) ∧
  (∀ a x, ((![v6, v1209] : Fin 2 → IVec S16 32) a x).toNat < S8x2048.size a) ∧
  (∀ a x, ((![v7, v1209] : Fin 2 → IVec S16 32) a x).toNat < S8x2048.size a) ∧
  (∀ a x, ((![v8, v1209] : Fin 2 → IVec S16 32) a x).toNat < S8x2048.size a) ∧
  (∀ a x, ((![v9, v1209] : Fin 2 → IVec S16 32) a x).toNat < S8x2048.size a) ∧
  (∀ a x, ((![v10, v1209] : Fin 2 → IVec S16 32) a x).toNat < S8x2048.size a)
theorem k0_idx369_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v3, v1209] : Fin 2 → IVec S16 32) a x).toNat < S8x2048.size a := fun v3 v4 v5 v6 v7 v8 v9 v10 v1209 k0_hw47 => k0_hw47.1
theorem k0_idx370_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v4, v1209] : Fin 2 → IVec S16 32) a x).toNat < S8x2048.size a := fun v3 v4 v5 v6 v7 v8 v9 v10 v1209 k0_hw47 => k0_hw47.2.1
theorem k0_idx371_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v5, v1209] : Fin 2 → IVec S16 32) a x).toNat < S8x2048.size a := fun v3 v4 v5 v6 v7 v8 v9 v10 v1209 k0_hw47 => k0_hw47.2.2.1
theorem k0_idx372_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v6, v1209] : Fin 2 → IVec S16 32) a x).toNat < S8x2048.size a := fun v3 v4 v5 v6 v7 v8 v9 v10 v1209 k0_hw47 => k0_hw47.2.2.2.1
theorem k0_idx373_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v7, v1209] : Fin 2 → IVec S16 32) a x).toNat < S8x2048.size a := fun v3 v4 v5 v6 v7 v8 v9 v10 v1209 k0_hw47 => k0_hw47.2.2.2.2.1
theorem k0_idx374_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v8, v1209] : Fin 2 → IVec S16 32) a x).toNat < S8x2048.size a := fun v3 v4 v5 v6 v7 v8 v9 v10 v1209 k0_hw47 => k0_hw47.2.2.2.2.2.1
theorem k0_idx375_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v9, v1209] : Fin 2 → IVec S16 32) a x).toNat < S8x2048.size a := fun v3 v4 v5 v6 v7 v8 v9 v10 v1209 k0_hw47 => k0_hw47.2.2.2.2.2.2.1
theorem k0_idx376_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k0_hw47 : k0_chk47 v3 v4 v5 v6 v7 v8 v9 v10 v1209), ∀ a x, ((![v10, v1209] : Fin 2 → IVec S16 32) a x).toNat < S8x2048.size a := fun v3 v4 v5 v6 v7 v8 v9 v10 v1209 k0_hw47 => k0_hw47.2.2.2.2.2.2.2

def k0_chk48 (v3 : IVec S16 32) (v4 : IVec S16 32) (v5 : IVec S16 32) (v6 : IVec S16 32) (v7 : IVec S16 32) (v8 : IVec S16 32) (v9 : IVec S16 32) (v10 : IVec S16 32) (v1212 : IVec S16 32) : Prop :=
  (∀ a x, ((![v3, v1212] : Fin 2 → IVec S16 32) a x).toNat < S8x2048.size a) ∧
  (∀ a x, ((![v4, v1212] : Fin 2 → IVec S16 32) a x).toNat < S8x2048.size a) ∧
  (∀ a x, ((![v5, v1212] : Fin 2 → IVec S16 32) a x).toNat < S8x2048.size a) ∧
  (∀ a x, ((![v6, v1212] : Fin 2 → IVec S16 32) a x).toNat < S8x2048.size a) ∧
  (∀ a x, ((![v7, v1212] : Fin 2 → IVec S16 32) a x).toNat < S8x2048.size a) ∧
  (∀ a x, ((![v8, v1212] : Fin 2 → IVec S16 32) a x).toNat < S8x2048.size a) ∧
  (∀ a x, ((![v9, v1212] : Fin 2 → IVec S16 32) a x).toNat < S8x2048.size a) ∧
  (∀ a x, ((![v10, v1212] : Fin 2 → IVec S16 32) a x).toNat < S8x2048.size a)
theorem k0_idx377_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v3, v1212] : Fin 2 → IVec S16 32) a x).toNat < S8x2048.size a := fun v3 v4 v5 v6 v7 v8 v9 v10 v1212 k0_hw48 => k0_hw48.1
theorem k0_idx378_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v4, v1212] : Fin 2 → IVec S16 32) a x).toNat < S8x2048.size a := fun v3 v4 v5 v6 v7 v8 v9 v10 v1212 k0_hw48 => k0_hw48.2.1
theorem k0_idx379_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v5, v1212] : Fin 2 → IVec S16 32) a x).toNat < S8x2048.size a := fun v3 v4 v5 v6 v7 v8 v9 v10 v1212 k0_hw48 => k0_hw48.2.2.1
theorem k0_idx380_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v6, v1212] : Fin 2 → IVec S16 32) a x).toNat < S8x2048.size a := fun v3 v4 v5 v6 v7 v8 v9 v10 v1212 k0_hw48 => k0_hw48.2.2.2.1
theorem k0_idx381_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v7, v1212] : Fin 2 → IVec S16 32) a x).toNat < S8x2048.size a := fun v3 v4 v5 v6 v7 v8 v9 v10 v1212 k0_hw48 => k0_hw48.2.2.2.2.1
theorem k0_idx382_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v8, v1212] : Fin 2 → IVec S16 32) a x).toNat < S8x2048.size a := fun v3 v4 v5 v6 v7 v8 v9 v10 v1212 k0_hw48 => k0_hw48.2.2.2.2.2.1
theorem k0_idx383_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v9, v1212] : Fin 2 → IVec S16 32) a x).toNat < S8x2048.size a := fun v3 v4 v5 v6 v7 v8 v9 v10 v1212 k0_hw48 => k0_hw48.2.2.2.2.2.2.1
theorem k0_idx384_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k0_hw48 : k0_chk48 v3 v4 v5 v6 v7 v8 v9 v10 v1212), ∀ a x, ((![v10, v1212] : Fin 2 → IVec S16 32) a x).toNat < S8x2048.size a := fun v3 v4 v5 v6 v7 v8 v9 v10 v1212 k0_hw48 => k0_hw48.2.2.2.2.2.2.2
def k0_off50 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_823 : BitVec 32 := 6#32
  let v1309 : BitVec 32 := Scalar.addi v12 c6_i32_823
  let v1310 : Index := Scalar.indexCast v1309
  let c0_824 : Index := 0#32
  ![v1310.toNat, 0]
def k0_off51 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_825 : BitVec 32 := 6#32
  let v1312 : BitVec 32 := Scalar.addi v12 c6_i32_825
  let v1313 : Index := Scalar.indexCast v1312
  let c16_826 : Index := 16#32
  ![v1313.toNat, 16]
def k0_off52 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_827 : BitVec 32 := 6#32
  let v1315 : BitVec 32 := Scalar.addi v12 c6_i32_827
  let v1316 : Index := Scalar.indexCast v1315
  let c32_828 : Index := 32#32
  ![v1316.toNat, 32]
def k0_off53 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_829 : BitVec 32 := 6#32
  let v1318 : BitVec 32 := Scalar.addi v12 c6_i32_829
  let v1319 : Index := Scalar.indexCast v1318
  let c48_830 : Index := 48#32
  ![v1319.toNat, 48]

def k0_chk49 (v3 : IVec S16 32) (v4 : IVec S16 32) (v5 : IVec S16 32) (v6 : IVec S16 32) (v7 : IVec S16 32) (v8 : IVec S16 32) (v9 : IVec S16 32) (v10 : IVec S16 32) (v1311 : IVec S16 32) : Prop :=
  (∀ a x, ((![v3, v1311] : Fin 2 → IVec S16 32) a x).toNat < S8x2048.size a) ∧
  (∀ a x, ((![v4, v1311] : Fin 2 → IVec S16 32) a x).toNat < S8x2048.size a) ∧
  (∀ a x, ((![v5, v1311] : Fin 2 → IVec S16 32) a x).toNat < S8x2048.size a) ∧
  (∀ a x, ((![v6, v1311] : Fin 2 → IVec S16 32) a x).toNat < S8x2048.size a) ∧
  (∀ a x, ((![v7, v1311] : Fin 2 → IVec S16 32) a x).toNat < S8x2048.size a) ∧
  (∀ a x, ((![v8, v1311] : Fin 2 → IVec S16 32) a x).toNat < S8x2048.size a) ∧
  (∀ a x, ((![v9, v1311] : Fin 2 → IVec S16 32) a x).toNat < S8x2048.size a) ∧
  (∀ a x, ((![v10, v1311] : Fin 2 → IVec S16 32) a x).toNat < S8x2048.size a)
theorem k0_idx385_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v3, v1311] : Fin 2 → IVec S16 32) a x).toNat < S8x2048.size a := fun v3 v4 v5 v6 v7 v8 v9 v10 v1311 k0_hw49 => k0_hw49.1
theorem k0_idx386_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v4, v1311] : Fin 2 → IVec S16 32) a x).toNat < S8x2048.size a := fun v3 v4 v5 v6 v7 v8 v9 v10 v1311 k0_hw49 => k0_hw49.2.1
theorem k0_idx387_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v5, v1311] : Fin 2 → IVec S16 32) a x).toNat < S8x2048.size a := fun v3 v4 v5 v6 v7 v8 v9 v10 v1311 k0_hw49 => k0_hw49.2.2.1
theorem k0_idx388_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v6, v1311] : Fin 2 → IVec S16 32) a x).toNat < S8x2048.size a := fun v3 v4 v5 v6 v7 v8 v9 v10 v1311 k0_hw49 => k0_hw49.2.2.2.1
theorem k0_idx389_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v7, v1311] : Fin 2 → IVec S16 32) a x).toNat < S8x2048.size a := fun v3 v4 v5 v6 v7 v8 v9 v10 v1311 k0_hw49 => k0_hw49.2.2.2.2.1
theorem k0_idx390_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v8, v1311] : Fin 2 → IVec S16 32) a x).toNat < S8x2048.size a := fun v3 v4 v5 v6 v7 v8 v9 v10 v1311 k0_hw49 => k0_hw49.2.2.2.2.2.1
theorem k0_idx391_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v9, v1311] : Fin 2 → IVec S16 32) a x).toNat < S8x2048.size a := fun v3 v4 v5 v6 v7 v8 v9 v10 v1311 k0_hw49 => k0_hw49.2.2.2.2.2.2.1
theorem k0_idx392_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k0_hw49 : k0_chk49 v3 v4 v5 v6 v7 v8 v9 v10 v1311), ∀ a x, ((![v10, v1311] : Fin 2 → IVec S16 32) a x).toNat < S8x2048.size a := fun v3 v4 v5 v6 v7 v8 v9 v10 v1311 k0_hw49 => k0_hw49.2.2.2.2.2.2.2

def k0_chk50 (v3 : IVec S16 32) (v4 : IVec S16 32) (v5 : IVec S16 32) (v6 : IVec S16 32) (v7 : IVec S16 32) (v8 : IVec S16 32) (v9 : IVec S16 32) (v10 : IVec S16 32) (v1314 : IVec S16 32) : Prop :=
  (∀ a x, ((![v3, v1314] : Fin 2 → IVec S16 32) a x).toNat < S8x2048.size a) ∧
  (∀ a x, ((![v4, v1314] : Fin 2 → IVec S16 32) a x).toNat < S8x2048.size a) ∧
  (∀ a x, ((![v5, v1314] : Fin 2 → IVec S16 32) a x).toNat < S8x2048.size a) ∧
  (∀ a x, ((![v6, v1314] : Fin 2 → IVec S16 32) a x).toNat < S8x2048.size a) ∧
  (∀ a x, ((![v7, v1314] : Fin 2 → IVec S16 32) a x).toNat < S8x2048.size a) ∧
  (∀ a x, ((![v8, v1314] : Fin 2 → IVec S16 32) a x).toNat < S8x2048.size a) ∧
  (∀ a x, ((![v9, v1314] : Fin 2 → IVec S16 32) a x).toNat < S8x2048.size a) ∧
  (∀ a x, ((![v10, v1314] : Fin 2 → IVec S16 32) a x).toNat < S8x2048.size a)
theorem k0_idx393_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v3, v1314] : Fin 2 → IVec S16 32) a x).toNat < S8x2048.size a := fun v3 v4 v5 v6 v7 v8 v9 v10 v1314 k0_hw50 => k0_hw50.1
theorem k0_idx394_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v4, v1314] : Fin 2 → IVec S16 32) a x).toNat < S8x2048.size a := fun v3 v4 v5 v6 v7 v8 v9 v10 v1314 k0_hw50 => k0_hw50.2.1
theorem k0_idx395_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v5, v1314] : Fin 2 → IVec S16 32) a x).toNat < S8x2048.size a := fun v3 v4 v5 v6 v7 v8 v9 v10 v1314 k0_hw50 => k0_hw50.2.2.1
theorem k0_idx396_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v6, v1314] : Fin 2 → IVec S16 32) a x).toNat < S8x2048.size a := fun v3 v4 v5 v6 v7 v8 v9 v10 v1314 k0_hw50 => k0_hw50.2.2.2.1
theorem k0_idx397_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v7, v1314] : Fin 2 → IVec S16 32) a x).toNat < S8x2048.size a := fun v3 v4 v5 v6 v7 v8 v9 v10 v1314 k0_hw50 => k0_hw50.2.2.2.2.1
theorem k0_idx398_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v8, v1314] : Fin 2 → IVec S16 32) a x).toNat < S8x2048.size a := fun v3 v4 v5 v6 v7 v8 v9 v10 v1314 k0_hw50 => k0_hw50.2.2.2.2.2.1
theorem k0_idx399_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v9, v1314] : Fin 2 → IVec S16 32) a x).toNat < S8x2048.size a := fun v3 v4 v5 v6 v7 v8 v9 v10 v1314 k0_hw50 => k0_hw50.2.2.2.2.2.2.1
theorem k0_idx400_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k0_hw50 : k0_chk50 v3 v4 v5 v6 v7 v8 v9 v10 v1314), ∀ a x, ((![v10, v1314] : Fin 2 → IVec S16 32) a x).toNat < S8x2048.size a := fun v3 v4 v5 v6 v7 v8 v9 v10 v1314 k0_hw50 => k0_hw50.2.2.2.2.2.2.2

def k0_chk51 (v3 : IVec S16 32) (v4 : IVec S16 32) (v5 : IVec S16 32) (v6 : IVec S16 32) (v7 : IVec S16 32) (v8 : IVec S16 32) (v9 : IVec S16 32) (v10 : IVec S16 32) (v1317 : IVec S16 32) : Prop :=
  (∀ a x, ((![v3, v1317] : Fin 2 → IVec S16 32) a x).toNat < S8x2048.size a) ∧
  (∀ a x, ((![v4, v1317] : Fin 2 → IVec S16 32) a x).toNat < S8x2048.size a) ∧
  (∀ a x, ((![v5, v1317] : Fin 2 → IVec S16 32) a x).toNat < S8x2048.size a) ∧
  (∀ a x, ((![v6, v1317] : Fin 2 → IVec S16 32) a x).toNat < S8x2048.size a) ∧
  (∀ a x, ((![v7, v1317] : Fin 2 → IVec S16 32) a x).toNat < S8x2048.size a) ∧
  (∀ a x, ((![v8, v1317] : Fin 2 → IVec S16 32) a x).toNat < S8x2048.size a) ∧
  (∀ a x, ((![v9, v1317] : Fin 2 → IVec S16 32) a x).toNat < S8x2048.size a) ∧
  (∀ a x, ((![v10, v1317] : Fin 2 → IVec S16 32) a x).toNat < S8x2048.size a)
theorem k0_idx401_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v3, v1317] : Fin 2 → IVec S16 32) a x).toNat < S8x2048.size a := fun v3 v4 v5 v6 v7 v8 v9 v10 v1317 k0_hw51 => k0_hw51.1
theorem k0_idx402_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v4, v1317] : Fin 2 → IVec S16 32) a x).toNat < S8x2048.size a := fun v3 v4 v5 v6 v7 v8 v9 v10 v1317 k0_hw51 => k0_hw51.2.1
theorem k0_idx403_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v5, v1317] : Fin 2 → IVec S16 32) a x).toNat < S8x2048.size a := fun v3 v4 v5 v6 v7 v8 v9 v10 v1317 k0_hw51 => k0_hw51.2.2.1
theorem k0_idx404_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v6, v1317] : Fin 2 → IVec S16 32) a x).toNat < S8x2048.size a := fun v3 v4 v5 v6 v7 v8 v9 v10 v1317 k0_hw51 => k0_hw51.2.2.2.1
theorem k0_idx405_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v7, v1317] : Fin 2 → IVec S16 32) a x).toNat < S8x2048.size a := fun v3 v4 v5 v6 v7 v8 v9 v10 v1317 k0_hw51 => k0_hw51.2.2.2.2.1
theorem k0_idx406_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v8, v1317] : Fin 2 → IVec S16 32) a x).toNat < S8x2048.size a := fun v3 v4 v5 v6 v7 v8 v9 v10 v1317 k0_hw51 => k0_hw51.2.2.2.2.2.1
theorem k0_idx407_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v9, v1317] : Fin 2 → IVec S16 32) a x).toNat < S8x2048.size a := fun v3 v4 v5 v6 v7 v8 v9 v10 v1317 k0_hw51 => k0_hw51.2.2.2.2.2.2.1
theorem k0_idx408_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k0_hw51 : k0_chk51 v3 v4 v5 v6 v7 v8 v9 v10 v1317), ∀ a x, ((![v10, v1317] : Fin 2 → IVec S16 32) a x).toNat < S8x2048.size a := fun v3 v4 v5 v6 v7 v8 v9 v10 v1317 k0_hw51 => k0_hw51.2.2.2.2.2.2.2

def k0_chk52 (v3 : IVec S16 32) (v4 : IVec S16 32) (v5 : IVec S16 32) (v6 : IVec S16 32) (v7 : IVec S16 32) (v8 : IVec S16 32) (v9 : IVec S16 32) (v10 : IVec S16 32) (v1320 : IVec S16 32) : Prop :=
  (∀ a x, ((![v3, v1320] : Fin 2 → IVec S16 32) a x).toNat < S8x2048.size a) ∧
  (∀ a x, ((![v4, v1320] : Fin 2 → IVec S16 32) a x).toNat < S8x2048.size a) ∧
  (∀ a x, ((![v5, v1320] : Fin 2 → IVec S16 32) a x).toNat < S8x2048.size a) ∧
  (∀ a x, ((![v6, v1320] : Fin 2 → IVec S16 32) a x).toNat < S8x2048.size a) ∧
  (∀ a x, ((![v7, v1320] : Fin 2 → IVec S16 32) a x).toNat < S8x2048.size a) ∧
  (∀ a x, ((![v8, v1320] : Fin 2 → IVec S16 32) a x).toNat < S8x2048.size a) ∧
  (∀ a x, ((![v9, v1320] : Fin 2 → IVec S16 32) a x).toNat < S8x2048.size a) ∧
  (∀ a x, ((![v10, v1320] : Fin 2 → IVec S16 32) a x).toNat < S8x2048.size a)
theorem k0_idx409_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v3, v1320] : Fin 2 → IVec S16 32) a x).toNat < S8x2048.size a := fun v3 v4 v5 v6 v7 v8 v9 v10 v1320 k0_hw52 => k0_hw52.1
theorem k0_idx410_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v4, v1320] : Fin 2 → IVec S16 32) a x).toNat < S8x2048.size a := fun v3 v4 v5 v6 v7 v8 v9 v10 v1320 k0_hw52 => k0_hw52.2.1
theorem k0_idx411_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v5, v1320] : Fin 2 → IVec S16 32) a x).toNat < S8x2048.size a := fun v3 v4 v5 v6 v7 v8 v9 v10 v1320 k0_hw52 => k0_hw52.2.2.1
theorem k0_idx412_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v6, v1320] : Fin 2 → IVec S16 32) a x).toNat < S8x2048.size a := fun v3 v4 v5 v6 v7 v8 v9 v10 v1320 k0_hw52 => k0_hw52.2.2.2.1
theorem k0_idx413_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v7, v1320] : Fin 2 → IVec S16 32) a x).toNat < S8x2048.size a := fun v3 v4 v5 v6 v7 v8 v9 v10 v1320 k0_hw52 => k0_hw52.2.2.2.2.1
theorem k0_idx414_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v8, v1320] : Fin 2 → IVec S16 32) a x).toNat < S8x2048.size a := fun v3 v4 v5 v6 v7 v8 v9 v10 v1320 k0_hw52 => k0_hw52.2.2.2.2.2.1
theorem k0_idx415_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v9, v1320] : Fin 2 → IVec S16 32) a x).toNat < S8x2048.size a := fun v3 v4 v5 v6 v7 v8 v9 v10 v1320 k0_hw52 => k0_hw52.2.2.2.2.2.2.1
theorem k0_idx416_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k0_hw52 : k0_chk52 v3 v4 v5 v6 v7 v8 v9 v10 v1320), ∀ a x, ((![v10, v1320] : Fin 2 → IVec S16 32) a x).toNat < S8x2048.size a := fun v3 v4 v5 v6 v7 v8 v9 v10 v1320 k0_hw52 => k0_hw52.2.2.2.2.2.2.2
def k0_off54 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_891 : BitVec 32 := 6#32
  let v1417 : BitVec 32 := Scalar.addi v12 c6_i32_891
  let v1418 : Index := Scalar.indexCast v1417
  let c64_892 : Index := 64#32
  ![v1418.toNat, 64]
def k0_off55 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_893 : BitVec 32 := 6#32
  let v1420 : BitVec 32 := Scalar.addi v12 c6_i32_893
  let v1421 : Index := Scalar.indexCast v1420
  let c80_894 : Index := 80#32
  ![v1421.toNat, 80]
def k0_off56 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_895 : BitVec 32 := 6#32
  let v1423 : BitVec 32 := Scalar.addi v12 c6_i32_895
  let v1424 : Index := Scalar.indexCast v1423
  let c96_896 : Index := 96#32
  ![v1424.toNat, 96]
def k0_off57 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c6_i32_897 : BitVec 32 := 6#32
  let v1426 : BitVec 32 := Scalar.addi v12 c6_i32_897
  let v1427 : Index := Scalar.indexCast v1426
  let c112_898 : Index := 112#32
  ![v1427.toNat, 112]

def k0_chk53 (v3 : IVec S16 32) (v4 : IVec S16 32) (v5 : IVec S16 32) (v6 : IVec S16 32) (v7 : IVec S16 32) (v8 : IVec S16 32) (v9 : IVec S16 32) (v10 : IVec S16 32) (v1419 : IVec S16 32) : Prop :=
  (∀ a x, ((![v3, v1419] : Fin 2 → IVec S16 32) a x).toNat < S8x2048.size a) ∧
  (∀ a x, ((![v4, v1419] : Fin 2 → IVec S16 32) a x).toNat < S8x2048.size a) ∧
  (∀ a x, ((![v5, v1419] : Fin 2 → IVec S16 32) a x).toNat < S8x2048.size a) ∧
  (∀ a x, ((![v6, v1419] : Fin 2 → IVec S16 32) a x).toNat < S8x2048.size a) ∧
  (∀ a x, ((![v7, v1419] : Fin 2 → IVec S16 32) a x).toNat < S8x2048.size a) ∧
  (∀ a x, ((![v8, v1419] : Fin 2 → IVec S16 32) a x).toNat < S8x2048.size a) ∧
  (∀ a x, ((![v9, v1419] : Fin 2 → IVec S16 32) a x).toNat < S8x2048.size a) ∧
  (∀ a x, ((![v10, v1419] : Fin 2 → IVec S16 32) a x).toNat < S8x2048.size a)
theorem k0_idx417_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v3, v1419] : Fin 2 → IVec S16 32) a x).toNat < S8x2048.size a := fun v3 v4 v5 v6 v7 v8 v9 v10 v1419 k0_hw53 => k0_hw53.1
theorem k0_idx418_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v4, v1419] : Fin 2 → IVec S16 32) a x).toNat < S8x2048.size a := fun v3 v4 v5 v6 v7 v8 v9 v10 v1419 k0_hw53 => k0_hw53.2.1
theorem k0_idx419_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v5, v1419] : Fin 2 → IVec S16 32) a x).toNat < S8x2048.size a := fun v3 v4 v5 v6 v7 v8 v9 v10 v1419 k0_hw53 => k0_hw53.2.2.1
theorem k0_idx420_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v6, v1419] : Fin 2 → IVec S16 32) a x).toNat < S8x2048.size a := fun v3 v4 v5 v6 v7 v8 v9 v10 v1419 k0_hw53 => k0_hw53.2.2.2.1
theorem k0_idx421_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v7, v1419] : Fin 2 → IVec S16 32) a x).toNat < S8x2048.size a := fun v3 v4 v5 v6 v7 v8 v9 v10 v1419 k0_hw53 => k0_hw53.2.2.2.2.1
theorem k0_idx422_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v8, v1419] : Fin 2 → IVec S16 32) a x).toNat < S8x2048.size a := fun v3 v4 v5 v6 v7 v8 v9 v10 v1419 k0_hw53 => k0_hw53.2.2.2.2.2.1
theorem k0_idx423_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v9, v1419] : Fin 2 → IVec S16 32) a x).toNat < S8x2048.size a := fun v3 v4 v5 v6 v7 v8 v9 v10 v1419 k0_hw53 => k0_hw53.2.2.2.2.2.2.1
theorem k0_idx424_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k0_hw53 : k0_chk53 v3 v4 v5 v6 v7 v8 v9 v10 v1419), ∀ a x, ((![v10, v1419] : Fin 2 → IVec S16 32) a x).toNat < S8x2048.size a := fun v3 v4 v5 v6 v7 v8 v9 v10 v1419 k0_hw53 => k0_hw53.2.2.2.2.2.2.2

def k0_chk54 (v3 : IVec S16 32) (v4 : IVec S16 32) (v5 : IVec S16 32) (v6 : IVec S16 32) (v7 : IVec S16 32) (v8 : IVec S16 32) (v9 : IVec S16 32) (v10 : IVec S16 32) (v1422 : IVec S16 32) : Prop :=
  (∀ a x, ((![v3, v1422] : Fin 2 → IVec S16 32) a x).toNat < S8x2048.size a) ∧
  (∀ a x, ((![v4, v1422] : Fin 2 → IVec S16 32) a x).toNat < S8x2048.size a) ∧
  (∀ a x, ((![v5, v1422] : Fin 2 → IVec S16 32) a x).toNat < S8x2048.size a) ∧
  (∀ a x, ((![v6, v1422] : Fin 2 → IVec S16 32) a x).toNat < S8x2048.size a) ∧
  (∀ a x, ((![v7, v1422] : Fin 2 → IVec S16 32) a x).toNat < S8x2048.size a) ∧
  (∀ a x, ((![v8, v1422] : Fin 2 → IVec S16 32) a x).toNat < S8x2048.size a) ∧
  (∀ a x, ((![v9, v1422] : Fin 2 → IVec S16 32) a x).toNat < S8x2048.size a) ∧
  (∀ a x, ((![v10, v1422] : Fin 2 → IVec S16 32) a x).toNat < S8x2048.size a)
theorem k0_idx425_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v3, v1422] : Fin 2 → IVec S16 32) a x).toNat < S8x2048.size a := fun v3 v4 v5 v6 v7 v8 v9 v10 v1422 k0_hw54 => k0_hw54.1
theorem k0_idx426_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v4, v1422] : Fin 2 → IVec S16 32) a x).toNat < S8x2048.size a := fun v3 v4 v5 v6 v7 v8 v9 v10 v1422 k0_hw54 => k0_hw54.2.1
theorem k0_idx427_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v5, v1422] : Fin 2 → IVec S16 32) a x).toNat < S8x2048.size a := fun v3 v4 v5 v6 v7 v8 v9 v10 v1422 k0_hw54 => k0_hw54.2.2.1
theorem k0_idx428_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v6, v1422] : Fin 2 → IVec S16 32) a x).toNat < S8x2048.size a := fun v3 v4 v5 v6 v7 v8 v9 v10 v1422 k0_hw54 => k0_hw54.2.2.2.1
theorem k0_idx429_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v7, v1422] : Fin 2 → IVec S16 32) a x).toNat < S8x2048.size a := fun v3 v4 v5 v6 v7 v8 v9 v10 v1422 k0_hw54 => k0_hw54.2.2.2.2.1
theorem k0_idx430_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v8, v1422] : Fin 2 → IVec S16 32) a x).toNat < S8x2048.size a := fun v3 v4 v5 v6 v7 v8 v9 v10 v1422 k0_hw54 => k0_hw54.2.2.2.2.2.1
theorem k0_idx431_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v9, v1422] : Fin 2 → IVec S16 32) a x).toNat < S8x2048.size a := fun v3 v4 v5 v6 v7 v8 v9 v10 v1422 k0_hw54 => k0_hw54.2.2.2.2.2.2.1
theorem k0_idx432_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k0_hw54 : k0_chk54 v3 v4 v5 v6 v7 v8 v9 v10 v1422), ∀ a x, ((![v10, v1422] : Fin 2 → IVec S16 32) a x).toNat < S8x2048.size a := fun v3 v4 v5 v6 v7 v8 v9 v10 v1422 k0_hw54 => k0_hw54.2.2.2.2.2.2.2

def k0_chk55 (v3 : IVec S16 32) (v4 : IVec S16 32) (v5 : IVec S16 32) (v6 : IVec S16 32) (v7 : IVec S16 32) (v8 : IVec S16 32) (v9 : IVec S16 32) (v10 : IVec S16 32) (v1425 : IVec S16 32) : Prop :=
  (∀ a x, ((![v3, v1425] : Fin 2 → IVec S16 32) a x).toNat < S8x2048.size a) ∧
  (∀ a x, ((![v4, v1425] : Fin 2 → IVec S16 32) a x).toNat < S8x2048.size a) ∧
  (∀ a x, ((![v5, v1425] : Fin 2 → IVec S16 32) a x).toNat < S8x2048.size a) ∧
  (∀ a x, ((![v6, v1425] : Fin 2 → IVec S16 32) a x).toNat < S8x2048.size a) ∧
  (∀ a x, ((![v7, v1425] : Fin 2 → IVec S16 32) a x).toNat < S8x2048.size a) ∧
  (∀ a x, ((![v8, v1425] : Fin 2 → IVec S16 32) a x).toNat < S8x2048.size a) ∧
  (∀ a x, ((![v9, v1425] : Fin 2 → IVec S16 32) a x).toNat < S8x2048.size a) ∧
  (∀ a x, ((![v10, v1425] : Fin 2 → IVec S16 32) a x).toNat < S8x2048.size a)
theorem k0_idx433_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v3, v1425] : Fin 2 → IVec S16 32) a x).toNat < S8x2048.size a := fun v3 v4 v5 v6 v7 v8 v9 v10 v1425 k0_hw55 => k0_hw55.1
theorem k0_idx434_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v4, v1425] : Fin 2 → IVec S16 32) a x).toNat < S8x2048.size a := fun v3 v4 v5 v6 v7 v8 v9 v10 v1425 k0_hw55 => k0_hw55.2.1
theorem k0_idx435_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v5, v1425] : Fin 2 → IVec S16 32) a x).toNat < S8x2048.size a := fun v3 v4 v5 v6 v7 v8 v9 v10 v1425 k0_hw55 => k0_hw55.2.2.1
theorem k0_idx436_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v6, v1425] : Fin 2 → IVec S16 32) a x).toNat < S8x2048.size a := fun v3 v4 v5 v6 v7 v8 v9 v10 v1425 k0_hw55 => k0_hw55.2.2.2.1
theorem k0_idx437_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v7, v1425] : Fin 2 → IVec S16 32) a x).toNat < S8x2048.size a := fun v3 v4 v5 v6 v7 v8 v9 v10 v1425 k0_hw55 => k0_hw55.2.2.2.2.1
theorem k0_idx438_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v8, v1425] : Fin 2 → IVec S16 32) a x).toNat < S8x2048.size a := fun v3 v4 v5 v6 v7 v8 v9 v10 v1425 k0_hw55 => k0_hw55.2.2.2.2.2.1
theorem k0_idx439_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v9, v1425] : Fin 2 → IVec S16 32) a x).toNat < S8x2048.size a := fun v3 v4 v5 v6 v7 v8 v9 v10 v1425 k0_hw55 => k0_hw55.2.2.2.2.2.2.1
theorem k0_idx440_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k0_hw55 : k0_chk55 v3 v4 v5 v6 v7 v8 v9 v10 v1425), ∀ a x, ((![v10, v1425] : Fin 2 → IVec S16 32) a x).toNat < S8x2048.size a := fun v3 v4 v5 v6 v7 v8 v9 v10 v1425 k0_hw55 => k0_hw55.2.2.2.2.2.2.2

def k0_chk56 (v3 : IVec S16 32) (v4 : IVec S16 32) (v5 : IVec S16 32) (v6 : IVec S16 32) (v7 : IVec S16 32) (v8 : IVec S16 32) (v9 : IVec S16 32) (v10 : IVec S16 32) (v1428 : IVec S16 32) : Prop :=
  (∀ a x, ((![v3, v1428] : Fin 2 → IVec S16 32) a x).toNat < S8x2048.size a) ∧
  (∀ a x, ((![v4, v1428] : Fin 2 → IVec S16 32) a x).toNat < S8x2048.size a) ∧
  (∀ a x, ((![v5, v1428] : Fin 2 → IVec S16 32) a x).toNat < S8x2048.size a) ∧
  (∀ a x, ((![v6, v1428] : Fin 2 → IVec S16 32) a x).toNat < S8x2048.size a) ∧
  (∀ a x, ((![v7, v1428] : Fin 2 → IVec S16 32) a x).toNat < S8x2048.size a) ∧
  (∀ a x, ((![v8, v1428] : Fin 2 → IVec S16 32) a x).toNat < S8x2048.size a) ∧
  (∀ a x, ((![v9, v1428] : Fin 2 → IVec S16 32) a x).toNat < S8x2048.size a) ∧
  (∀ a x, ((![v10, v1428] : Fin 2 → IVec S16 32) a x).toNat < S8x2048.size a)
theorem k0_idx441_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v3, v1428] : Fin 2 → IVec S16 32) a x).toNat < S8x2048.size a := fun v3 v4 v5 v6 v7 v8 v9 v10 v1428 k0_hw56 => k0_hw56.1
theorem k0_idx442_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v4, v1428] : Fin 2 → IVec S16 32) a x).toNat < S8x2048.size a := fun v3 v4 v5 v6 v7 v8 v9 v10 v1428 k0_hw56 => k0_hw56.2.1
theorem k0_idx443_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v5, v1428] : Fin 2 → IVec S16 32) a x).toNat < S8x2048.size a := fun v3 v4 v5 v6 v7 v8 v9 v10 v1428 k0_hw56 => k0_hw56.2.2.1
theorem k0_idx444_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v6, v1428] : Fin 2 → IVec S16 32) a x).toNat < S8x2048.size a := fun v3 v4 v5 v6 v7 v8 v9 v10 v1428 k0_hw56 => k0_hw56.2.2.2.1
theorem k0_idx445_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v7, v1428] : Fin 2 → IVec S16 32) a x).toNat < S8x2048.size a := fun v3 v4 v5 v6 v7 v8 v9 v10 v1428 k0_hw56 => k0_hw56.2.2.2.2.1
theorem k0_idx446_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v8, v1428] : Fin 2 → IVec S16 32) a x).toNat < S8x2048.size a := fun v3 v4 v5 v6 v7 v8 v9 v10 v1428 k0_hw56 => k0_hw56.2.2.2.2.2.1
theorem k0_idx447_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v9, v1428] : Fin 2 → IVec S16 32) a x).toNat < S8x2048.size a := fun v3 v4 v5 v6 v7 v8 v9 v10 v1428 k0_hw56 => k0_hw56.2.2.2.2.2.2.1
theorem k0_idx448_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k0_hw56 : k0_chk56 v3 v4 v5 v6 v7 v8 v9 v10 v1428), ∀ a x, ((![v10, v1428] : Fin 2 → IVec S16 32) a x).toNat < S8x2048.size a := fun v3 v4 v5 v6 v7 v8 v9 v10 v1428 k0_hw56 => k0_hw56.2.2.2.2.2.2.2
def k0_off58 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_959 : BitVec 32 := 7#32
  let v1525 : BitVec 32 := Scalar.addi v12 c7_i32_959
  let v1526 : Index := Scalar.indexCast v1525
  let c0_960 : Index := 0#32
  ![v1526.toNat, 0]
def k0_off59 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_961 : BitVec 32 := 7#32
  let v1528 : BitVec 32 := Scalar.addi v12 c7_i32_961
  let v1529 : Index := Scalar.indexCast v1528
  let c16_962 : Index := 16#32
  ![v1529.toNat, 16]
def k0_off60 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_963 : BitVec 32 := 7#32
  let v1531 : BitVec 32 := Scalar.addi v12 c7_i32_963
  let v1532 : Index := Scalar.indexCast v1531
  let c32_964 : Index := 32#32
  ![v1532.toNat, 32]
def k0_off61 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_965 : BitVec 32 := 7#32
  let v1534 : BitVec 32 := Scalar.addi v12 c7_i32_965
  let v1535 : Index := Scalar.indexCast v1534
  let c48_966 : Index := 48#32
  ![v1535.toNat, 48]

def k0_chk57 (v3 : IVec S16 32) (v4 : IVec S16 32) (v5 : IVec S16 32) (v6 : IVec S16 32) (v7 : IVec S16 32) (v8 : IVec S16 32) (v9 : IVec S16 32) (v10 : IVec S16 32) (v1527 : IVec S16 32) : Prop :=
  (∀ a x, ((![v3, v1527] : Fin 2 → IVec S16 32) a x).toNat < S8x2048.size a) ∧
  (∀ a x, ((![v4, v1527] : Fin 2 → IVec S16 32) a x).toNat < S8x2048.size a) ∧
  (∀ a x, ((![v5, v1527] : Fin 2 → IVec S16 32) a x).toNat < S8x2048.size a) ∧
  (∀ a x, ((![v6, v1527] : Fin 2 → IVec S16 32) a x).toNat < S8x2048.size a) ∧
  (∀ a x, ((![v7, v1527] : Fin 2 → IVec S16 32) a x).toNat < S8x2048.size a) ∧
  (∀ a x, ((![v8, v1527] : Fin 2 → IVec S16 32) a x).toNat < S8x2048.size a) ∧
  (∀ a x, ((![v9, v1527] : Fin 2 → IVec S16 32) a x).toNat < S8x2048.size a) ∧
  (∀ a x, ((![v10, v1527] : Fin 2 → IVec S16 32) a x).toNat < S8x2048.size a)
theorem k0_idx449_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v3, v1527] : Fin 2 → IVec S16 32) a x).toNat < S8x2048.size a := fun v3 v4 v5 v6 v7 v8 v9 v10 v1527 k0_hw57 => k0_hw57.1
theorem k0_idx450_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v4, v1527] : Fin 2 → IVec S16 32) a x).toNat < S8x2048.size a := fun v3 v4 v5 v6 v7 v8 v9 v10 v1527 k0_hw57 => k0_hw57.2.1
theorem k0_idx451_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v5, v1527] : Fin 2 → IVec S16 32) a x).toNat < S8x2048.size a := fun v3 v4 v5 v6 v7 v8 v9 v10 v1527 k0_hw57 => k0_hw57.2.2.1
theorem k0_idx452_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v6, v1527] : Fin 2 → IVec S16 32) a x).toNat < S8x2048.size a := fun v3 v4 v5 v6 v7 v8 v9 v10 v1527 k0_hw57 => k0_hw57.2.2.2.1
theorem k0_idx453_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v7, v1527] : Fin 2 → IVec S16 32) a x).toNat < S8x2048.size a := fun v3 v4 v5 v6 v7 v8 v9 v10 v1527 k0_hw57 => k0_hw57.2.2.2.2.1
theorem k0_idx454_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v8, v1527] : Fin 2 → IVec S16 32) a x).toNat < S8x2048.size a := fun v3 v4 v5 v6 v7 v8 v9 v10 v1527 k0_hw57 => k0_hw57.2.2.2.2.2.1
theorem k0_idx455_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v9, v1527] : Fin 2 → IVec S16 32) a x).toNat < S8x2048.size a := fun v3 v4 v5 v6 v7 v8 v9 v10 v1527 k0_hw57 => k0_hw57.2.2.2.2.2.2.1
theorem k0_idx456_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k0_hw57 : k0_chk57 v3 v4 v5 v6 v7 v8 v9 v10 v1527), ∀ a x, ((![v10, v1527] : Fin 2 → IVec S16 32) a x).toNat < S8x2048.size a := fun v3 v4 v5 v6 v7 v8 v9 v10 v1527 k0_hw57 => k0_hw57.2.2.2.2.2.2.2

def k0_chk58 (v3 : IVec S16 32) (v4 : IVec S16 32) (v5 : IVec S16 32) (v6 : IVec S16 32) (v7 : IVec S16 32) (v8 : IVec S16 32) (v9 : IVec S16 32) (v10 : IVec S16 32) (v1530 : IVec S16 32) : Prop :=
  (∀ a x, ((![v3, v1530] : Fin 2 → IVec S16 32) a x).toNat < S8x2048.size a) ∧
  (∀ a x, ((![v4, v1530] : Fin 2 → IVec S16 32) a x).toNat < S8x2048.size a) ∧
  (∀ a x, ((![v5, v1530] : Fin 2 → IVec S16 32) a x).toNat < S8x2048.size a) ∧
  (∀ a x, ((![v6, v1530] : Fin 2 → IVec S16 32) a x).toNat < S8x2048.size a) ∧
  (∀ a x, ((![v7, v1530] : Fin 2 → IVec S16 32) a x).toNat < S8x2048.size a) ∧
  (∀ a x, ((![v8, v1530] : Fin 2 → IVec S16 32) a x).toNat < S8x2048.size a) ∧
  (∀ a x, ((![v9, v1530] : Fin 2 → IVec S16 32) a x).toNat < S8x2048.size a) ∧
  (∀ a x, ((![v10, v1530] : Fin 2 → IVec S16 32) a x).toNat < S8x2048.size a)
theorem k0_idx457_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v3, v1530] : Fin 2 → IVec S16 32) a x).toNat < S8x2048.size a := fun v3 v4 v5 v6 v7 v8 v9 v10 v1530 k0_hw58 => k0_hw58.1
theorem k0_idx458_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v4, v1530] : Fin 2 → IVec S16 32) a x).toNat < S8x2048.size a := fun v3 v4 v5 v6 v7 v8 v9 v10 v1530 k0_hw58 => k0_hw58.2.1
theorem k0_idx459_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v5, v1530] : Fin 2 → IVec S16 32) a x).toNat < S8x2048.size a := fun v3 v4 v5 v6 v7 v8 v9 v10 v1530 k0_hw58 => k0_hw58.2.2.1
theorem k0_idx460_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v6, v1530] : Fin 2 → IVec S16 32) a x).toNat < S8x2048.size a := fun v3 v4 v5 v6 v7 v8 v9 v10 v1530 k0_hw58 => k0_hw58.2.2.2.1
theorem k0_idx461_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v7, v1530] : Fin 2 → IVec S16 32) a x).toNat < S8x2048.size a := fun v3 v4 v5 v6 v7 v8 v9 v10 v1530 k0_hw58 => k0_hw58.2.2.2.2.1
theorem k0_idx462_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v8, v1530] : Fin 2 → IVec S16 32) a x).toNat < S8x2048.size a := fun v3 v4 v5 v6 v7 v8 v9 v10 v1530 k0_hw58 => k0_hw58.2.2.2.2.2.1
theorem k0_idx463_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v9, v1530] : Fin 2 → IVec S16 32) a x).toNat < S8x2048.size a := fun v3 v4 v5 v6 v7 v8 v9 v10 v1530 k0_hw58 => k0_hw58.2.2.2.2.2.2.1
theorem k0_idx464_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k0_hw58 : k0_chk58 v3 v4 v5 v6 v7 v8 v9 v10 v1530), ∀ a x, ((![v10, v1530] : Fin 2 → IVec S16 32) a x).toNat < S8x2048.size a := fun v3 v4 v5 v6 v7 v8 v9 v10 v1530 k0_hw58 => k0_hw58.2.2.2.2.2.2.2

def k0_chk59 (v3 : IVec S16 32) (v4 : IVec S16 32) (v5 : IVec S16 32) (v6 : IVec S16 32) (v7 : IVec S16 32) (v8 : IVec S16 32) (v9 : IVec S16 32) (v10 : IVec S16 32) (v1533 : IVec S16 32) : Prop :=
  (∀ a x, ((![v3, v1533] : Fin 2 → IVec S16 32) a x).toNat < S8x2048.size a) ∧
  (∀ a x, ((![v4, v1533] : Fin 2 → IVec S16 32) a x).toNat < S8x2048.size a) ∧
  (∀ a x, ((![v5, v1533] : Fin 2 → IVec S16 32) a x).toNat < S8x2048.size a) ∧
  (∀ a x, ((![v6, v1533] : Fin 2 → IVec S16 32) a x).toNat < S8x2048.size a) ∧
  (∀ a x, ((![v7, v1533] : Fin 2 → IVec S16 32) a x).toNat < S8x2048.size a) ∧
  (∀ a x, ((![v8, v1533] : Fin 2 → IVec S16 32) a x).toNat < S8x2048.size a) ∧
  (∀ a x, ((![v9, v1533] : Fin 2 → IVec S16 32) a x).toNat < S8x2048.size a) ∧
  (∀ a x, ((![v10, v1533] : Fin 2 → IVec S16 32) a x).toNat < S8x2048.size a)
theorem k0_idx465_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v3, v1533] : Fin 2 → IVec S16 32) a x).toNat < S8x2048.size a := fun v3 v4 v5 v6 v7 v8 v9 v10 v1533 k0_hw59 => k0_hw59.1
theorem k0_idx466_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v4, v1533] : Fin 2 → IVec S16 32) a x).toNat < S8x2048.size a := fun v3 v4 v5 v6 v7 v8 v9 v10 v1533 k0_hw59 => k0_hw59.2.1
theorem k0_idx467_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v5, v1533] : Fin 2 → IVec S16 32) a x).toNat < S8x2048.size a := fun v3 v4 v5 v6 v7 v8 v9 v10 v1533 k0_hw59 => k0_hw59.2.2.1
theorem k0_idx468_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v6, v1533] : Fin 2 → IVec S16 32) a x).toNat < S8x2048.size a := fun v3 v4 v5 v6 v7 v8 v9 v10 v1533 k0_hw59 => k0_hw59.2.2.2.1
theorem k0_idx469_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v7, v1533] : Fin 2 → IVec S16 32) a x).toNat < S8x2048.size a := fun v3 v4 v5 v6 v7 v8 v9 v10 v1533 k0_hw59 => k0_hw59.2.2.2.2.1
theorem k0_idx470_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v8, v1533] : Fin 2 → IVec S16 32) a x).toNat < S8x2048.size a := fun v3 v4 v5 v6 v7 v8 v9 v10 v1533 k0_hw59 => k0_hw59.2.2.2.2.2.1
theorem k0_idx471_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v9, v1533] : Fin 2 → IVec S16 32) a x).toNat < S8x2048.size a := fun v3 v4 v5 v6 v7 v8 v9 v10 v1533 k0_hw59 => k0_hw59.2.2.2.2.2.2.1
theorem k0_idx472_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k0_hw59 : k0_chk59 v3 v4 v5 v6 v7 v8 v9 v10 v1533), ∀ a x, ((![v10, v1533] : Fin 2 → IVec S16 32) a x).toNat < S8x2048.size a := fun v3 v4 v5 v6 v7 v8 v9 v10 v1533 k0_hw59 => k0_hw59.2.2.2.2.2.2.2

def k0_chk60 (v3 : IVec S16 32) (v4 : IVec S16 32) (v5 : IVec S16 32) (v6 : IVec S16 32) (v7 : IVec S16 32) (v8 : IVec S16 32) (v9 : IVec S16 32) (v10 : IVec S16 32) (v1536 : IVec S16 32) : Prop :=
  (∀ a x, ((![v3, v1536] : Fin 2 → IVec S16 32) a x).toNat < S8x2048.size a) ∧
  (∀ a x, ((![v4, v1536] : Fin 2 → IVec S16 32) a x).toNat < S8x2048.size a) ∧
  (∀ a x, ((![v5, v1536] : Fin 2 → IVec S16 32) a x).toNat < S8x2048.size a) ∧
  (∀ a x, ((![v6, v1536] : Fin 2 → IVec S16 32) a x).toNat < S8x2048.size a) ∧
  (∀ a x, ((![v7, v1536] : Fin 2 → IVec S16 32) a x).toNat < S8x2048.size a) ∧
  (∀ a x, ((![v8, v1536] : Fin 2 → IVec S16 32) a x).toNat < S8x2048.size a) ∧
  (∀ a x, ((![v9, v1536] : Fin 2 → IVec S16 32) a x).toNat < S8x2048.size a) ∧
  (∀ a x, ((![v10, v1536] : Fin 2 → IVec S16 32) a x).toNat < S8x2048.size a)
theorem k0_idx473_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v3, v1536] : Fin 2 → IVec S16 32) a x).toNat < S8x2048.size a := fun v3 v4 v5 v6 v7 v8 v9 v10 v1536 k0_hw60 => k0_hw60.1
theorem k0_idx474_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v4, v1536] : Fin 2 → IVec S16 32) a x).toNat < S8x2048.size a := fun v3 v4 v5 v6 v7 v8 v9 v10 v1536 k0_hw60 => k0_hw60.2.1
theorem k0_idx475_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v5, v1536] : Fin 2 → IVec S16 32) a x).toNat < S8x2048.size a := fun v3 v4 v5 v6 v7 v8 v9 v10 v1536 k0_hw60 => k0_hw60.2.2.1
theorem k0_idx476_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v6, v1536] : Fin 2 → IVec S16 32) a x).toNat < S8x2048.size a := fun v3 v4 v5 v6 v7 v8 v9 v10 v1536 k0_hw60 => k0_hw60.2.2.2.1
theorem k0_idx477_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v7, v1536] : Fin 2 → IVec S16 32) a x).toNat < S8x2048.size a := fun v3 v4 v5 v6 v7 v8 v9 v10 v1536 k0_hw60 => k0_hw60.2.2.2.2.1
theorem k0_idx478_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v8, v1536] : Fin 2 → IVec S16 32) a x).toNat < S8x2048.size a := fun v3 v4 v5 v6 v7 v8 v9 v10 v1536 k0_hw60 => k0_hw60.2.2.2.2.2.1
theorem k0_idx479_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v9, v1536] : Fin 2 → IVec S16 32) a x).toNat < S8x2048.size a := fun v3 v4 v5 v6 v7 v8 v9 v10 v1536 k0_hw60 => k0_hw60.2.2.2.2.2.2.1
theorem k0_idx480_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k0_hw60 : k0_chk60 v3 v4 v5 v6 v7 v8 v9 v10 v1536), ∀ a x, ((![v10, v1536] : Fin 2 → IVec S16 32) a x).toNat < S8x2048.size a := fun v3 v4 v5 v6 v7 v8 v9 v10 v1536 k0_hw60 => k0_hw60.2.2.2.2.2.2.2
def k0_off62 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_1027 : BitVec 32 := 7#32
  let v1633 : BitVec 32 := Scalar.addi v12 c7_i32_1027
  let v1634 : Index := Scalar.indexCast v1633
  let c64_1028 : Index := 64#32
  ![v1634.toNat, 64]
def k0_off63 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_1029 : BitVec 32 := 7#32
  let v1636 : BitVec 32 := Scalar.addi v12 c7_i32_1029
  let v1637 : Index := Scalar.indexCast v1636
  let c80_1030 : Index := 80#32
  ![v1637.toNat, 80]
def k0_off64 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_1031 : BitVec 32 := 7#32
  let v1639 : BitVec 32 := Scalar.addi v12 c7_i32_1031
  let v1640 : Index := Scalar.indexCast v1639
  let c96_1032 : Index := 96#32
  ![v1640.toNat, 96]
def k0_off65 (k0_t1 : Fin k0_t1_loop.trips) : Fin 2 → Nat :=
  let c0_i32_2 : BitVec 32 := 0#32
  let c1_i32_4 : BitVec 32 := 1#32
  let arg8 : BitVec 32 := Scf.iv c0_i32_2 c1_i32_4 k0_t1
  let c8_i32_6 : BitVec 32 := 8#32
  let v12 : BitVec 32 := Scalar.muli arg8 c8_i32_6
  let c7_i32_1033 : BitVec 32 := 7#32
  let v1642 : BitVec 32 := Scalar.addi v12 c7_i32_1033
  let v1643 : Index := Scalar.indexCast v1642
  let c112_1034 : Index := 112#32
  ![v1643.toNat, 112]

def k0_chk61 (v3 : IVec S16 32) (v4 : IVec S16 32) (v5 : IVec S16 32) (v6 : IVec S16 32) (v7 : IVec S16 32) (v8 : IVec S16 32) (v9 : IVec S16 32) (v10 : IVec S16 32) (v1635 : IVec S16 32) : Prop :=
  (∀ a x, ((![v3, v1635] : Fin 2 → IVec S16 32) a x).toNat < S8x2048.size a) ∧
  (∀ a x, ((![v4, v1635] : Fin 2 → IVec S16 32) a x).toNat < S8x2048.size a) ∧
  (∀ a x, ((![v5, v1635] : Fin 2 → IVec S16 32) a x).toNat < S8x2048.size a) ∧
  (∀ a x, ((![v6, v1635] : Fin 2 → IVec S16 32) a x).toNat < S8x2048.size a) ∧
  (∀ a x, ((![v7, v1635] : Fin 2 → IVec S16 32) a x).toNat < S8x2048.size a) ∧
  (∀ a x, ((![v8, v1635] : Fin 2 → IVec S16 32) a x).toNat < S8x2048.size a) ∧
  (∀ a x, ((![v9, v1635] : Fin 2 → IVec S16 32) a x).toNat < S8x2048.size a) ∧
  (∀ a x, ((![v10, v1635] : Fin 2 → IVec S16 32) a x).toNat < S8x2048.size a)
theorem k0_idx481_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v3, v1635] : Fin 2 → IVec S16 32) a x).toNat < S8x2048.size a := fun v3 v4 v5 v6 v7 v8 v9 v10 v1635 k0_hw61 => k0_hw61.1
theorem k0_idx482_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v4, v1635] : Fin 2 → IVec S16 32) a x).toNat < S8x2048.size a := fun v3 v4 v5 v6 v7 v8 v9 v10 v1635 k0_hw61 => k0_hw61.2.1
theorem k0_idx483_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v5, v1635] : Fin 2 → IVec S16 32) a x).toNat < S8x2048.size a := fun v3 v4 v5 v6 v7 v8 v9 v10 v1635 k0_hw61 => k0_hw61.2.2.1
theorem k0_idx484_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v6, v1635] : Fin 2 → IVec S16 32) a x).toNat < S8x2048.size a := fun v3 v4 v5 v6 v7 v8 v9 v10 v1635 k0_hw61 => k0_hw61.2.2.2.1
theorem k0_idx485_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v7, v1635] : Fin 2 → IVec S16 32) a x).toNat < S8x2048.size a := fun v3 v4 v5 v6 v7 v8 v9 v10 v1635 k0_hw61 => k0_hw61.2.2.2.2.1
theorem k0_idx486_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v8, v1635] : Fin 2 → IVec S16 32) a x).toNat < S8x2048.size a := fun v3 v4 v5 v6 v7 v8 v9 v10 v1635 k0_hw61 => k0_hw61.2.2.2.2.2.1
theorem k0_idx487_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v9, v1635] : Fin 2 → IVec S16 32) a x).toNat < S8x2048.size a := fun v3 v4 v5 v6 v7 v8 v9 v10 v1635 k0_hw61 => k0_hw61.2.2.2.2.2.2.1
theorem k0_idx488_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k0_hw61 : k0_chk61 v3 v4 v5 v6 v7 v8 v9 v10 v1635), ∀ a x, ((![v10, v1635] : Fin 2 → IVec S16 32) a x).toNat < S8x2048.size a := fun v3 v4 v5 v6 v7 v8 v9 v10 v1635 k0_hw61 => k0_hw61.2.2.2.2.2.2.2

def k0_chk62 (v3 : IVec S16 32) (v4 : IVec S16 32) (v5 : IVec S16 32) (v6 : IVec S16 32) (v7 : IVec S16 32) (v8 : IVec S16 32) (v9 : IVec S16 32) (v10 : IVec S16 32) (v1638 : IVec S16 32) : Prop :=
  (∀ a x, ((![v3, v1638] : Fin 2 → IVec S16 32) a x).toNat < S8x2048.size a) ∧
  (∀ a x, ((![v4, v1638] : Fin 2 → IVec S16 32) a x).toNat < S8x2048.size a) ∧
  (∀ a x, ((![v5, v1638] : Fin 2 → IVec S16 32) a x).toNat < S8x2048.size a) ∧
  (∀ a x, ((![v6, v1638] : Fin 2 → IVec S16 32) a x).toNat < S8x2048.size a) ∧
  (∀ a x, ((![v7, v1638] : Fin 2 → IVec S16 32) a x).toNat < S8x2048.size a) ∧
  (∀ a x, ((![v8, v1638] : Fin 2 → IVec S16 32) a x).toNat < S8x2048.size a) ∧
  (∀ a x, ((![v9, v1638] : Fin 2 → IVec S16 32) a x).toNat < S8x2048.size a) ∧
  (∀ a x, ((![v10, v1638] : Fin 2 → IVec S16 32) a x).toNat < S8x2048.size a)
theorem k0_idx489_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v3, v1638] : Fin 2 → IVec S16 32) a x).toNat < S8x2048.size a := fun v3 v4 v5 v6 v7 v8 v9 v10 v1638 k0_hw62 => k0_hw62.1
theorem k0_idx490_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v4, v1638] : Fin 2 → IVec S16 32) a x).toNat < S8x2048.size a := fun v3 v4 v5 v6 v7 v8 v9 v10 v1638 k0_hw62 => k0_hw62.2.1
theorem k0_idx491_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v5, v1638] : Fin 2 → IVec S16 32) a x).toNat < S8x2048.size a := fun v3 v4 v5 v6 v7 v8 v9 v10 v1638 k0_hw62 => k0_hw62.2.2.1
theorem k0_idx492_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v6, v1638] : Fin 2 → IVec S16 32) a x).toNat < S8x2048.size a := fun v3 v4 v5 v6 v7 v8 v9 v10 v1638 k0_hw62 => k0_hw62.2.2.2.1
theorem k0_idx493_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v7, v1638] : Fin 2 → IVec S16 32) a x).toNat < S8x2048.size a := fun v3 v4 v5 v6 v7 v8 v9 v10 v1638 k0_hw62 => k0_hw62.2.2.2.2.1
theorem k0_idx494_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v8, v1638] : Fin 2 → IVec S16 32) a x).toNat < S8x2048.size a := fun v3 v4 v5 v6 v7 v8 v9 v10 v1638 k0_hw62 => k0_hw62.2.2.2.2.2.1
theorem k0_idx495_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v9, v1638] : Fin 2 → IVec S16 32) a x).toNat < S8x2048.size a := fun v3 v4 v5 v6 v7 v8 v9 v10 v1638 k0_hw62 => k0_hw62.2.2.2.2.2.2.1
theorem k0_idx496_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k0_hw62 : k0_chk62 v3 v4 v5 v6 v7 v8 v9 v10 v1638), ∀ a x, ((![v10, v1638] : Fin 2 → IVec S16 32) a x).toNat < S8x2048.size a := fun v3 v4 v5 v6 v7 v8 v9 v10 v1638 k0_hw62 => k0_hw62.2.2.2.2.2.2.2

def k0_chk63 (v3 : IVec S16 32) (v4 : IVec S16 32) (v5 : IVec S16 32) (v6 : IVec S16 32) (v7 : IVec S16 32) (v8 : IVec S16 32) (v9 : IVec S16 32) (v10 : IVec S16 32) (v1641 : IVec S16 32) : Prop :=
  (∀ a x, ((![v3, v1641] : Fin 2 → IVec S16 32) a x).toNat < S8x2048.size a) ∧
  (∀ a x, ((![v4, v1641] : Fin 2 → IVec S16 32) a x).toNat < S8x2048.size a) ∧
  (∀ a x, ((![v5, v1641] : Fin 2 → IVec S16 32) a x).toNat < S8x2048.size a) ∧
  (∀ a x, ((![v6, v1641] : Fin 2 → IVec S16 32) a x).toNat < S8x2048.size a) ∧
  (∀ a x, ((![v7, v1641] : Fin 2 → IVec S16 32) a x).toNat < S8x2048.size a) ∧
  (∀ a x, ((![v8, v1641] : Fin 2 → IVec S16 32) a x).toNat < S8x2048.size a) ∧
  (∀ a x, ((![v9, v1641] : Fin 2 → IVec S16 32) a x).toNat < S8x2048.size a) ∧
  (∀ a x, ((![v10, v1641] : Fin 2 → IVec S16 32) a x).toNat < S8x2048.size a)
theorem k0_idx497_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v3, v1641] : Fin 2 → IVec S16 32) a x).toNat < S8x2048.size a := fun v3 v4 v5 v6 v7 v8 v9 v10 v1641 k0_hw63 => k0_hw63.1
theorem k0_idx498_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v4, v1641] : Fin 2 → IVec S16 32) a x).toNat < S8x2048.size a := fun v3 v4 v5 v6 v7 v8 v9 v10 v1641 k0_hw63 => k0_hw63.2.1
theorem k0_idx499_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v5, v1641] : Fin 2 → IVec S16 32) a x).toNat < S8x2048.size a := fun v3 v4 v5 v6 v7 v8 v9 v10 v1641 k0_hw63 => k0_hw63.2.2.1
theorem k0_idx500_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v6, v1641] : Fin 2 → IVec S16 32) a x).toNat < S8x2048.size a := fun v3 v4 v5 v6 v7 v8 v9 v10 v1641 k0_hw63 => k0_hw63.2.2.2.1
theorem k0_idx501_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v7, v1641] : Fin 2 → IVec S16 32) a x).toNat < S8x2048.size a := fun v3 v4 v5 v6 v7 v8 v9 v10 v1641 k0_hw63 => k0_hw63.2.2.2.2.1
theorem k0_idx502_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v8, v1641] : Fin 2 → IVec S16 32) a x).toNat < S8x2048.size a := fun v3 v4 v5 v6 v7 v8 v9 v10 v1641 k0_hw63 => k0_hw63.2.2.2.2.2.1
theorem k0_idx503_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v9, v1641] : Fin 2 → IVec S16 32) a x).toNat < S8x2048.size a := fun v3 v4 v5 v6 v7 v8 v9 v10 v1641 k0_hw63 => k0_hw63.2.2.2.2.2.2.1
theorem k0_idx504_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k0_hw63 : k0_chk63 v3 v4 v5 v6 v7 v8 v9 v10 v1641), ∀ a x, ((![v10, v1641] : Fin 2 → IVec S16 32) a x).toNat < S8x2048.size a := fun v3 v4 v5 v6 v7 v8 v9 v10 v1641 k0_hw63 => k0_hw63.2.2.2.2.2.2.2

def k0_chk64 (v3 : IVec S16 32) (v4 : IVec S16 32) (v5 : IVec S16 32) (v6 : IVec S16 32) (v7 : IVec S16 32) (v8 : IVec S16 32) (v9 : IVec S16 32) (v10 : IVec S16 32) (v1644 : IVec S16 32) : Prop :=
  (∀ a x, ((![v3, v1644] : Fin 2 → IVec S16 32) a x).toNat < S8x2048.size a) ∧
  (∀ a x, ((![v4, v1644] : Fin 2 → IVec S16 32) a x).toNat < S8x2048.size a) ∧
  (∀ a x, ((![v5, v1644] : Fin 2 → IVec S16 32) a x).toNat < S8x2048.size a) ∧
  (∀ a x, ((![v6, v1644] : Fin 2 → IVec S16 32) a x).toNat < S8x2048.size a) ∧
  (∀ a x, ((![v7, v1644] : Fin 2 → IVec S16 32) a x).toNat < S8x2048.size a) ∧
  (∀ a x, ((![v8, v1644] : Fin 2 → IVec S16 32) a x).toNat < S8x2048.size a) ∧
  (∀ a x, ((![v9, v1644] : Fin 2 → IVec S16 32) a x).toNat < S8x2048.size a) ∧
  (∀ a x, ((![v10, v1644] : Fin 2 → IVec S16 32) a x).toNat < S8x2048.size a)
theorem k0_idx505_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v3, v1644] : Fin 2 → IVec S16 32) a x).toNat < S8x2048.size a := fun v3 v4 v5 v6 v7 v8 v9 v10 v1644 k0_hw64 => k0_hw64.1
theorem k0_idx506_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v4, v1644] : Fin 2 → IVec S16 32) a x).toNat < S8x2048.size a := fun v3 v4 v5 v6 v7 v8 v9 v10 v1644 k0_hw64 => k0_hw64.2.1
theorem k0_idx507_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v5, v1644] : Fin 2 → IVec S16 32) a x).toNat < S8x2048.size a := fun v3 v4 v5 v6 v7 v8 v9 v10 v1644 k0_hw64 => k0_hw64.2.2.1
theorem k0_idx508_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v6, v1644] : Fin 2 → IVec S16 32) a x).toNat < S8x2048.size a := fun v3 v4 v5 v6 v7 v8 v9 v10 v1644 k0_hw64 => k0_hw64.2.2.2.1
theorem k0_idx509_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v7, v1644] : Fin 2 → IVec S16 32) a x).toNat < S8x2048.size a := fun v3 v4 v5 v6 v7 v8 v9 v10 v1644 k0_hw64 => k0_hw64.2.2.2.2.1
theorem k0_idx510_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v8, v1644] : Fin 2 → IVec S16 32) a x).toNat < S8x2048.size a := fun v3 v4 v5 v6 v7 v8 v9 v10 v1644 k0_hw64 => k0_hw64.2.2.2.2.2.1
theorem k0_idx511_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v9, v1644] : Fin 2 → IVec S16 32) a x).toNat < S8x2048.size a := fun v3 v4 v5 v6 v7 v8 v9 v10 v1644 k0_hw64 => k0_hw64.2.2.2.2.2.2.1
theorem k0_idx512_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k0_hw64 : k0_chk64 v3 v4 v5 v6 v7 v8 v9 v10 v1644), ∀ a x, ((![v10, v1644] : Fin 2 → IVec S16 32) a x).toNat < S8x2048.size a := fun v3 v4 v5 v6 v7 v8 v9 v10 v1644 k0_hw64 => k0_hw64.2.2.2.2.2.2.2
def k0_off66 (i : grid0.Coords) (k0_t1 : Fin k0_t1_loop.trips) : Fin 3 → Nat :=
  let c0_i32_2 : BitVec 32 := 0#32
  let c1_i32_4 : BitVec 32 := 1#32
  let arg8 : BitVec 32 := Scf.iv c0_i32_2 c1_i32_4 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_1095_r2 : BitVec 32 := 0#32
  ![arg8.toNat, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRef.lean ====
abbrev S256x2048 : Shape := ⟨2, ![256, 2048]⟩
abbrev S64x128 : Shape := ⟨2, ![64, 128]⟩
abbrev S8x1024 : Shape := ⟨2, ![8, 1024]⟩
abbrev S_ : Shape := ⟨0, ![]⟩
abbrev S8x1024x1 : Shape := ⟨3, ![8, 1024, 1]⟩
abbrev S256x8x1024 : Shape := ⟨3, ![256, 8, 1024]⟩
abbrev S8x256x1024 : Shape := ⟨3, ![8, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S64x128, .i32⟩
  | .hbm, ⟨2, _⟩ => ⟨S8x1024, .i32⟩
  | .hbm, ⟨3, _⟩ => ⟨S_, .i32⟩
  | .hbm, ⟨4, _⟩ => ⟨S8x1024, .i32⟩
  | .hbm, ⟨5, _⟩ => ⟨S8x1024, .i1⟩
  | .hbm, ⟨6, _⟩ => ⟨S_, .i32⟩
  | .hbm, ⟨7, _⟩ => ⟨S8x1024, .i32⟩
  | .hbm, ⟨8, _⟩ => ⟨S8x1024, .i32⟩
  | .hbm, ⟨9, _⟩ => ⟨S8x1024, .i32⟩
  | .hbm, ⟨10, _⟩ => ⟨S8x1024x1, .i32⟩
  | .hbm, ⟨11, _⟩ => ⟨S256x8x1024, .f32⟩
  | .hbm, ⟨12, _⟩ => ⟨S8x256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Codes.lean ====
abbrev S16x256x32x32 : Shape := ⟨4, ![16, 256, 32, 32]⟩
abbrev S256x2048 : Shape := ⟨2, ![256, 2048]⟩
abbrev S16x256x1024 : Shape := ⟨3, ![16, 256, 1024]⟩
abbrev S_ : Shape := ⟨0, ![]⟩
abbrev S1x2048 : Shape := ⟨2, ![1, 2048]⟩
abbrev S1 : Shape := ⟨1, ![1]⟩
abbrev S64x128 : Shape := ⟨2, ![64, 128]⟩
abbrev S1x1 : Shape := ⟨2, ![1, 1]⟩
abbrev S1x256x1024 : Shape := ⟨3, ![1, 256, 1024]⟩
abbrev S8x128 : Shape := ⟨2, ![8, 128]⟩
abbrev S256x1024 : Shape := ⟨2, ![256, 1024]⟩
abbrev S1024x2048 : Shape := ⟨2, ![1024, 2048]⟩
abbrev S256x1 : Shape := ⟨2, ![256, 1]⟩
abbrev S1024x1 : Shape := ⟨2, ![1024, 1]⟩
abbrev S2048 : Shape := ⟨1, ![2048]⟩
abbrev S1024 : Shape := ⟨1, ![1024]⟩
abbrev S1x1024 : Shape := ⟨2, ![1, 1024]⟩
abbrev S1x1x2048 : Shape := ⟨3, ![1, 1, 2048]⟩
abbrev S1x1x1 : Shape := ⟨3, ![1, 1, 1]⟩
abbrev S8192 : Shape := ⟨1, ![8192]⟩
abbrev S16384 : Shape := ⟨1, ![16384]⟩

abbrev nBuf : Space → Nat
  | .hbm => 22
  | .vmem => 20
  | .smem => 6
  | _ => 0

abbrev bufTy : (tb : Table) → Fin (tcTables nBuf tb) → BufTy
  | .hbm, ⟨0, _⟩ => ⟨S16x256x32x32, .f32⟩
  | .hbm, ⟨1, _⟩ => ⟨S256x2048, .f32⟩
  | .hbm, ⟨2, _⟩ => ⟨S16x256x1024, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S1, .f32⟩
  | .hbm, ⟨7, _⟩ => ⟨S64x128, .i32⟩
  | .hbm, ⟨8, _⟩ => ⟨S1x2048, .f32⟩
  | .hbm, ⟨9, _⟩ => ⟨S1, .f32⟩
  | .hbm, ⟨10, _⟩ => ⟨S1x1, .f32⟩
  | .hbm, ⟨11, _⟩ => ⟨S1x1, .f32⟩
  | .hbm, ⟨12, _⟩ => ⟨S64x128, .i32⟩
  | .hbm, ⟨13, _⟩ => ⟨S1x2048, .f32⟩
  | .hbm, ⟨14, _⟩ => ⟨S1, .f32⟩
  | .hbm, ⟨15, _⟩ => ⟨S1x1, .f32⟩
  | .hbm, ⟨16, _⟩ => ⟨S1x1, .f32⟩
  | .hbm, ⟨17, _⟩ => ⟨S8192, .i32⟩
  | .hbm, ⟨18, _⟩ => ⟨S8192, .i32⟩
  | .hbm, ⟨19, _⟩ => ⟨S16384, .i32⟩
  | .hbm, ⟨20, _⟩ => ⟨S_, .f32⟩
  | .hbm, ⟨21, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S256x2048, .f32⟩
  | .local _ .vmem, ⟨3, _⟩ => ⟨S1x2048, .f32⟩
  | .local _ .vmem, ⟨4, _⟩ => ⟨S8x128, .i32⟩
  | .local _ .vmem, ⟨5, _⟩ => ⟨S8x128, .i32⟩
  | .local _ .vmem, ⟨6, _⟩ => ⟨S1x2048, .f32⟩
  | .local _ .vmem, ⟨7, _⟩ => ⟨S1x1, .f32⟩
  | .local _ .vmem, ⟨8, _⟩ => ⟨S1x1, .f32⟩
  | .local _ .vmem, ⟨9, _⟩ => ⟨S1x2048, .f32⟩
  | .local _ .vmem, ⟨10, _⟩ => ⟨S1x256x1024, .f32⟩
  | .local _ .vmem, ⟨11, _⟩ => ⟨S1x256x1024, .f32⟩
  | .local _ .vmem, ⟨12, _⟩ => ⟨S256x2048, .f32⟩
  | .local _ .vmem, ⟨13, _⟩ => ⟨S1x2048, .f32⟩
  | .local _ .vmem, ⟨14, _⟩ => ⟨S8x128, .i32⟩
  | .local _ .vmem, ⟨15, _⟩ => ⟨S8x128, .i32⟩
  | .local _ .vmem, ⟨16, _⟩ => ⟨S1x2048, .f32⟩
  | .local _ .vmem, ⟨17, _⟩ => ⟨S1x1, .f32⟩
  | .local _ .vmem, ⟨18, _⟩ => ⟨S1x1, .f32⟩
  | .local _ .vmem, ⟨19, _⟩ => ⟨S1x2048, .f32⟩
  | .local _ .smem, ⟨0, _⟩ => ⟨S1, .f32⟩
  | .local _ .smem, ⟨1, _⟩ => ⟨S1, .f32⟩
  | .local _ .smem, ⟨2, _⟩ => ⟨S1x1, .f32⟩
  | .local _ .smem, ⟨3, _⟩ => ⟨S1, .f32⟩
  | .local _ .smem, ⟨4, _⟩ => ⟨S1, .f32⟩
  | .local _ .smem, ⟨5, _⟩ => ⟨S1x1, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_scratch0 : Ref sig .tc := ⟨.vmem, 19, rfl⟩
abbrev cc0_stg3_0 : Ref sig .tc := ⟨.smem, 0, rfl⟩
abbrev cc0_stg6_0 : Ref sig .tc := ⟨.smem, 1, rfl⟩
abbrev cc0_scratch1 : Ref sig .tc := ⟨.smem, 2, rfl⟩
abbrev cc1_stg3_0 : Ref sig .tc := ⟨.smem, 3, rfl⟩
abbrev cc1_stg6_0 : Ref sig .tc := ⟨.smem, 4, rfl⟩
abbrev cc1_scratch1 : Ref sig .tc := ⟨.smem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_23 : BitVec 32 := 0#32
  let v48 : BitVec 1 := Scalar.cmpi .ne v47 c0_i32_23
  v48

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_23 : BitVec 32 := 0#32
  let v48 : BitVec 1 := Scalar.cmpi .ne v47 c0_i32_23
  v48

def cc1_transform_0 (i : grid1.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== CodesRefIdeal.lean ====
abbrev S16x256x32x32 : Shape := ⟨4, ![16, 256, 32, 32]⟩
abbrev S256x2048 : Shape := ⟨2, ![256, 2048]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩
abbrev S2048x256 : Shape := ⟨2, ![2048, 256]⟩

abbrev nBuf : Space → Nat
  | .hbm => 56
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S256x2048, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S256x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x2048, .i32⟩
  | .hbm, ⟨27, _⟩ => ⟨S16384x2048, .i32⟩
  | .hbm, ⟨28, _⟩ => ⟨S16384x2048, .i32⟩
  | .hbm, ⟨29, _⟩ => ⟨S16384x2048, .i1⟩
  | .hbm, ⟨30, _⟩ => ⟨S16384x2048, .f32⟩
  | .hbm, ⟨31, _⟩ => ⟨S2048x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== KernelIdeal.lean ====
abbrev S16x256x32x32 : Shape := ⟨4, ![16, 256, 32, 32]⟩
abbrev S256x2048 : Shape := ⟨2, ![256, 2048]⟩
abbrev S16x256x1024 : Shape := ⟨3, ![16, 256, 1024]⟩
abbrev S_ : Shape := ⟨0, ![]⟩
abbrev S1x2048 : Shape := ⟨2, ![1, 2048]⟩
abbrev S1 : Shape := ⟨1, ![1]⟩
abbrev S64x128 : Shape := ⟨2, ![64, 128]⟩
abbrev S1x1 : Shape := ⟨2, ![1, 1]⟩
abbrev S1x256x1024 : Shape := ⟨3, ![1, 256, 1024]⟩
abbrev S8x128 : Shape := ⟨2, ![8, 128]⟩
abbrev S256x1024 : Shape := ⟨2, ![256, 1024]⟩
abbrev S1024x2048 : Shape := ⟨2, ![1024, 2048]⟩
abbrev S256x1 : Shape := ⟨2, ![256, 1]⟩
abbrev S1024x1 : Shape := ⟨2, ![1024, 1]⟩
abbrev S2048 : Shape := ⟨1, ![2048]⟩
abbrev S1024 : Shape := ⟨1, ![1024]⟩
abbrev S1x1024 : Shape := ⟨2, ![1, 1024]⟩
abbrev S1x1x2048 : Shape := ⟨3, ![1, 1, 2048]⟩
abbrev S1x1x1 : Shape := ⟨3, ![1, 1, 1]⟩
abbrev S8x256x1024 : Shape := ⟨3, ![8, 256, 1024]⟩
abbrev S8x2048 : Shape := ⟨2, ![8, 2048]⟩
abbrev S8x1024 : Shape := ⟨2, ![8, 1024]⟩
abbrev S16 : Shape := ⟨1, ![16]⟩
abbrev S1x16 : Shape := ⟨2, ![1, 16]⟩
abbrev S1x8x1024 : Shape := ⟨3, ![1, 8, 1024]⟩
abbrev S8192 : Shape := ⟨1, ![8192]⟩
abbrev S16384 : Shape := ⟨1, ![16384]⟩

abbrev nBuf : Table → Nat
  | .hbm => 26
  | .local .tc .vmem => 20
  | .local .tc .smem => 6
  | .local .scVector .vmem => 6
  | _ => 0

abbrev bufTy : (tb : Table) → Fin (nBuf tb) → BufTy
  | .hbm, ⟨0, _⟩ => ⟨S16x256x32x32, .f32⟩
  | .hbm, ⟨1, _⟩ => ⟨S256x2048, .f32⟩
  | .hbm, ⟨2, _⟩ => ⟨S16x256x1024, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S1, .f32⟩
  | .hbm, ⟨7, _⟩ => ⟨S64x128, .i32⟩
  | .hbm, ⟨8, _⟩ => ⟨S1x2048, .f32⟩
  | .hbm, ⟨9, _⟩ => ⟨S1, .f32⟩
  | .hbm, ⟨10, _⟩ => ⟨S1x1, .f32⟩
  | .hbm, ⟨11, _⟩ => ⟨S1x1, .f32⟩
  | .hbm, ⟨12, _⟩ => ⟨S8x256x1024, .f32⟩
  | .hbm, ⟨13, _⟩ => ⟨S64x128, .i32⟩
  | .hbm, ⟨14, _⟩ => ⟨S1x2048, .f32⟩
  | .hbm, ⟨15, _⟩ => ⟨S1, .f32⟩
  | .hbm, ⟨16, _⟩ => ⟨S1x1, .f32⟩
  | .hbm, ⟨17, _⟩ => ⟨S1x1, .f32⟩
  | .hbm, ⟨18, _⟩ => ⟨S8x256x1024, .f32⟩
  | .hbm, ⟨19, _⟩ => ⟨S16x256x1024, .f32⟩
  | .hbm, ⟨20, _⟩ => ⟨S16x256x32x32, .f32⟩
  | .hbm, ⟨21, _⟩ => ⟨S8192, .i32⟩
  | .hbm, ⟨22, _⟩ => ⟨S8192, .i32⟩
  | .hbm, ⟨23, _⟩ => ⟨S16384, .i32⟩
  | .hbm, ⟨24, _⟩ => ⟨S_, .f32⟩
  | .hbm, ⟨25, _⟩ => ⟨S_, .f32⟩
  | .local .tc .vmem, ⟨0, _⟩ => ⟨S1x256x1024, .f32⟩
  | .local .tc .vmem, ⟨1, _⟩ => ⟨S1x256x1024, .f32⟩
  | .local .tc .vmem, ⟨2, _⟩ => ⟨S256x2048, .f32⟩
  | .local .tc .vmem, ⟨3, _⟩ => ⟨S1x2048, .f32⟩
  | .local .tc .vmem, ⟨4, _⟩ => ⟨S8x128, .i32⟩
  | .local .tc .vmem, ⟨5, _⟩ => ⟨S8x128, .i32⟩
  | .local .tc .vmem, ⟨6, _⟩ => ⟨S1x2048, .f32⟩
  | .local .tc .vmem, ⟨7, _⟩ => ⟨S1x1, .f32⟩
  | .local .tc .vmem, ⟨8, _⟩ => ⟨S1x1, .f32⟩
  | .local .tc .vmem, ⟨9, _⟩ => ⟨S1x2048, .f32⟩
  | .local .tc .vmem, ⟨10, _⟩ => ⟨S1x256x1024, .f32⟩
  | .local .tc .vmem, ⟨11, _⟩ => ⟨S1x256x1024, .f32⟩
  | .local .tc .vmem, ⟨12, _⟩ => ⟨S256x2048, .f32⟩
  | .local .tc .vmem, ⟨13, _⟩ => ⟨S1x2048, .f32⟩
  | .local .tc .vmem, ⟨14, _⟩ => ⟨S8x128, .i32⟩
  | .local .tc .vmem, ⟨15, _⟩ => ⟨S8x128, .i32⟩
  | .local .tc .vmem, ⟨16, _⟩ => ⟨S1x2048, .f32⟩
  | .local .tc .vmem, ⟨17, _⟩ => ⟨S1x1, .f32⟩
  | .local .tc .vmem, ⟨18, _⟩ => ⟨S1x1, .f32⟩
  | .local .tc .vmem, ⟨19, _⟩ => ⟨S1x2048, .f32⟩
  | .local .tc .smem, ⟨0, _⟩ => ⟨S1, .f32⟩
  | .local .tc .smem, ⟨1, _⟩ => ⟨S1, .f32⟩
  | .local .tc .smem, ⟨2, _⟩ => ⟨S1x1, .f32⟩
  | .local .tc .smem, ⟨3, _⟩ => ⟨S1, .f32⟩
  | .local .tc .smem, ⟨4, _⟩ => ⟨S1, .f32⟩
  | .local .tc .smem, ⟨5, _⟩ => ⟨S1x1, .f32⟩
  | .local .scVector .vmem, ⟨0, _⟩ => ⟨S64x128, .i32⟩
  | .local .scVector .vmem, ⟨1, _⟩ => ⟨S8x2048, .f32⟩
  | .local .scVector .vmem, ⟨2, _⟩ => ⟨S8x1024, .f32⟩
  | .local .scVector .vmem, ⟨3, _⟩ => ⟨S64x128, .i32⟩
  | .local .scVector .vmem, ⟨4, _⟩ => ⟨S8x2048, .f32⟩
  | .local .scVector .vmem, ⟨5, _⟩ => ⟨S8x1024, .f32⟩
  | _, _ => ⟨S16x256x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => false
  | ⟨26, _⟩ => false
  | ⟨27, _⟩ => false
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_arg1_scv : Ref sig .scVector := ⟨.hbm, 1, rfl⟩
abbrev main_v3_0_scv : Ref sig .scVector := ⟨.hbm, 7, rfl⟩
abbrev main_v4_scv : Ref sig .scVector := ⟨.hbm, 12, rfl⟩
abbrev main_v5_0_scv : Ref sig .scVector := ⟨.hbm, 13, rfl⟩
abbrev main_v6_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_scratch0 : Ref sig .tc := ⟨.vmem, 19, rfl⟩
abbrev cc0_stg3_0 : Ref sig .tc := ⟨.smem, 0, rfl⟩
abbrev cc0_stg6_0 : Ref sig .tc := ⟨.smem, 1, rfl⟩
abbrev cc0_scratch1 : Ref sig .tc := ⟨.smem, 2, rfl⟩
abbrev cc2_stg3_0 : Ref sig .tc := ⟨.smem, 3, rfl⟩
abbrev cc2_stg6_0 : Ref sig .tc := ⟨.smem, 4, rfl⟩
abbrev cc2_scratch1 : Ref sig .tc := ⟨.smem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem6_0 : DmaSem sig := 22
abbrev cc2_sem7_0 : DmaSem sig := 23
abbrev cc2_sem8_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_23 : BitVec 32 := 0#32
  let v48 : BitVec 1 := Scalar.cmpi .ne v47 c0_i32_23
  v48

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_6_r1 : BitVec 32 := 0#32
  ![v2.toNat, 0]
@[reducible] def k1_t1_loop : Scf.Loop 32 :=
  let c0_i32_2 : BitVec 32 := 0#32
  let c8_i32_3 : BitVec 32 := 8#32
  let v11 : BitVec 32 := Scalar.addi c0_i32_2 c8_i32_3
  let c1_i32_4 : BitVec 32 := 1#32
  ⟨c0_i32_2, v11, c1_i32_4⟩
def k1_off2 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_7 : BitVec 32 := 0#32
  let v13 : BitVec 32 := Scalar.addi v12 c0_i32_7
  let v14 : Index := Scalar.indexCast v13
  let c0 : Index := 0#32
  ![v14.toNat, 0]
def k1_off3 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_8 : BitVec 32 := 0#32
  let v16 : BitVec 32 := Scalar.addi v12 c0_i32_8
  let v17 : Index := Scalar.indexCast v16
  let c16 : Index := 16#32
  ![v17.toNat, 16]
def k1_off4 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_9 : BitVec 32 := 0#32
  let v19 : BitVec 32 := Scalar.addi v12 c0_i32_9
  let v20 : Index := Scalar.indexCast v19
  let c32 : Index := 32#32
  ![v20.toNat, 32]
def k1_off5 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_10 : BitVec 32 := 0#32
  let v22 : BitVec 32 := Scalar.addi v12 c0_i32_10
  let v23 : Index := Scalar.indexCast v22
  let c48 : Index := 48#32
  ![v23.toNat, 48]

def k1_chk1 (v3 : IVec S16 32) (v4 : IVec S16 32) (v5 : IVec S16 32) (v6 : IVec S16 32) (v7 : IVec S16 32) (v8 : IVec S16 32) (v9 : IVec S16 32) (v10 : IVec S16 32) (v15 : IVec S16 32) : Prop :=
  (∀ a x, ((![v3, v15] : Fin 2 → IVec S16 32) a x).toNat < S8x2048.size a) ∧
  (∀ a x, ((![v4, v15] : Fin 2 → IVec S16 32) a x).toNat < S8x2048.size a) ∧
  (∀ a x, ((![v5, v15] : Fin 2 → IVec S16 32) a x).toNat < S8x2048.size a) ∧
  (∀ a x, ((![v6, v15] : Fin 2 → IVec S16 32) a x).toNat < S8x2048.size a) ∧
  (∀ a x, ((![v7, v15] : Fin 2 → IVec S16 32) a x).toNat < S8x2048.size a) ∧
  (∀ a x, ((![v8, v15] : Fin 2 → IVec S16 32) a x).toNat < S8x2048.size a) ∧
  (∀ a x, ((![v9, v15] : Fin 2 → IVec S16 32) a x).toNat < S8x2048.size a) ∧
  (∀ a x, ((![v10, v15] : Fin 2 → IVec S16 32) a x).toNat < S8x2048.size a)
theorem k1_idx1_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v3, v15] : Fin 2 → IVec S16 32) a x).toNat < S8x2048.size a := fun v3 v4 v5 v6 v7 v8 v9 v10 v15 k1_hw1 => k1_hw1.1
theorem k1_idx2_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v4, v15] : Fin 2 → IVec S16 32) a x).toNat < S8x2048.size a := fun v3 v4 v5 v6 v7 v8 v9 v10 v15 k1_hw1 => k1_hw1.2.1
theorem k1_idx3_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v5, v15] : Fin 2 → IVec S16 32) a x).toNat < S8x2048.size a := fun v3 v4 v5 v6 v7 v8 v9 v10 v15 k1_hw1 => k1_hw1.2.2.1
theorem k1_idx4_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v6, v15] : Fin 2 → IVec S16 32) a x).toNat < S8x2048.size a := fun v3 v4 v5 v6 v7 v8 v9 v10 v15 k1_hw1 => k1_hw1.2.2.2.1
theorem k1_idx5_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v7, v15] : Fin 2 → IVec S16 32) a x).toNat < S8x2048.size a := fun v3 v4 v5 v6 v7 v8 v9 v10 v15 k1_hw1 => k1_hw1.2.2.2.2.1
theorem k1_idx6_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v8, v15] : Fin 2 → IVec S16 32) a x).toNat < S8x2048.size a := fun v3 v4 v5 v6 v7 v8 v9 v10 v15 k1_hw1 => k1_hw1.2.2.2.2.2.1
theorem k1_idx7_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v9, v15] : Fin 2 → IVec S16 32) a x).toNat < S8x2048.size a := fun v3 v4 v5 v6 v7 v8 v9 v10 v15 k1_hw1 => k1_hw1.2.2.2.2.2.2.1
theorem k1_idx8_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k1_hw1 : k1_chk1 v3 v4 v5 v6 v7 v8 v9 v10 v15), ∀ a x, ((![v10, v15] : Fin 2 → IVec S16 32) a x).toNat < S8x2048.size a := fun v3 v4 v5 v6 v7 v8 v9 v10 v15 k1_hw1 => k1_hw1.2.2.2.2.2.2.2

def k1_chk2 (v3 : IVec S16 32) (v4 : IVec S16 32) (v5 : IVec S16 32) (v6 : IVec S16 32) (v7 : IVec S16 32) (v8 : IVec S16 32) (v9 : IVec S16 32) (v10 : IVec S16 32) (v18 : IVec S16 32) : Prop :=
  (∀ a x, ((![v3, v18] : Fin 2 → IVec S16 32) a x).toNat < S8x2048.size a) ∧
  (∀ a x, ((![v4, v18] : Fin 2 → IVec S16 32) a x).toNat < S8x2048.size a) ∧
  (∀ a x, ((![v5, v18] : Fin 2 → IVec S16 32) a x).toNat < S8x2048.size a) ∧
  (∀ a x, ((![v6, v18] : Fin 2 → IVec S16 32) a x).toNat < S8x2048.size a) ∧
  (∀ a x, ((![v7, v18] : Fin 2 → IVec S16 32) a x).toNat < S8x2048.size a) ∧
  (∀ a x, ((![v8, v18] : Fin 2 → IVec S16 32) a x).toNat < S8x2048.size a) ∧
  (∀ a x, ((![v9, v18] : Fin 2 → IVec S16 32) a x).toNat < S8x2048.size a) ∧
  (∀ a x, ((![v10, v18] : Fin 2 → IVec S16 32) a x).toNat < S8x2048.size a)
theorem k1_idx9_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v3, v18] : Fin 2 → IVec S16 32) a x).toNat < S8x2048.size a := fun v3 v4 v5 v6 v7 v8 v9 v10 v18 k1_hw2 => k1_hw2.1
theorem k1_idx10_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v4, v18] : Fin 2 → IVec S16 32) a x).toNat < S8x2048.size a := fun v3 v4 v5 v6 v7 v8 v9 v10 v18 k1_hw2 => k1_hw2.2.1
theorem k1_idx11_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v5, v18] : Fin 2 → IVec S16 32) a x).toNat < S8x2048.size a := fun v3 v4 v5 v6 v7 v8 v9 v10 v18 k1_hw2 => k1_hw2.2.2.1
theorem k1_idx12_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v6, v18] : Fin 2 → IVec S16 32) a x).toNat < S8x2048.size a := fun v3 v4 v5 v6 v7 v8 v9 v10 v18 k1_hw2 => k1_hw2.2.2.2.1
theorem k1_idx13_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v7, v18] : Fin 2 → IVec S16 32) a x).toNat < S8x2048.size a := fun v3 v4 v5 v6 v7 v8 v9 v10 v18 k1_hw2 => k1_hw2.2.2.2.2.1
theorem k1_idx14_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v8, v18] : Fin 2 → IVec S16 32) a x).toNat < S8x2048.size a := fun v3 v4 v5 v6 v7 v8 v9 v10 v18 k1_hw2 => k1_hw2.2.2.2.2.2.1
theorem k1_idx15_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v9, v18] : Fin 2 → IVec S16 32) a x).toNat < S8x2048.size a := fun v3 v4 v5 v6 v7 v8 v9 v10 v18 k1_hw2 => k1_hw2.2.2.2.2.2.2.1
theorem k1_idx16_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k1_hw2 : k1_chk2 v3 v4 v5 v6 v7 v8 v9 v10 v18), ∀ a x, ((![v10, v18] : Fin 2 → IVec S16 32) a x).toNat < S8x2048.size a := fun v3 v4 v5 v6 v7 v8 v9 v10 v18 k1_hw2 => k1_hw2.2.2.2.2.2.2.2

def k1_chk3 (v3 : IVec S16 32) (v4 : IVec S16 32) (v5 : IVec S16 32) (v6 : IVec S16 32) (v7 : IVec S16 32) (v8 : IVec S16 32) (v9 : IVec S16 32) (v10 : IVec S16 32) (v21 : IVec S16 32) : Prop :=
  (∀ a x, ((![v3, v21] : Fin 2 → IVec S16 32) a x).toNat < S8x2048.size a) ∧
  (∀ a x, ((![v4, v21] : Fin 2 → IVec S16 32) a x).toNat < S8x2048.size a) ∧
  (∀ a x, ((![v5, v21] : Fin 2 → IVec S16 32) a x).toNat < S8x2048.size a) ∧
  (∀ a x, ((![v6, v21] : Fin 2 → IVec S16 32) a x).toNat < S8x2048.size a) ∧
  (∀ a x, ((![v7, v21] : Fin 2 → IVec S16 32) a x).toNat < S8x2048.size a) ∧
  (∀ a x, ((![v8, v21] : Fin 2 → IVec S16 32) a x).toNat < S8x2048.size a) ∧
  (∀ a x, ((![v9, v21] : Fin 2 → IVec S16 32) a x).toNat < S8x2048.size a) ∧
  (∀ a x, ((![v10, v21] : Fin 2 → IVec S16 32) a x).toNat < S8x2048.size a)
theorem k1_idx17_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v3, v21] : Fin 2 → IVec S16 32) a x).toNat < S8x2048.size a := fun v3 v4 v5 v6 v7 v8 v9 v10 v21 k1_hw3 => k1_hw3.1
theorem k1_idx18_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v4, v21] : Fin 2 → IVec S16 32) a x).toNat < S8x2048.size a := fun v3 v4 v5 v6 v7 v8 v9 v10 v21 k1_hw3 => k1_hw3.2.1
theorem k1_idx19_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v5, v21] : Fin 2 → IVec S16 32) a x).toNat < S8x2048.size a := fun v3 v4 v5 v6 v7 v8 v9 v10 v21 k1_hw3 => k1_hw3.2.2.1
theorem k1_idx20_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v6, v21] : Fin 2 → IVec S16 32) a x).toNat < S8x2048.size a := fun v3 v4 v5 v6 v7 v8 v9 v10 v21 k1_hw3 => k1_hw3.2.2.2.1
theorem k1_idx21_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v7, v21] : Fin 2 → IVec S16 32) a x).toNat < S8x2048.size a := fun v3 v4 v5 v6 v7 v8 v9 v10 v21 k1_hw3 => k1_hw3.2.2.2.2.1
theorem k1_idx22_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v8, v21] : Fin 2 → IVec S16 32) a x).toNat < S8x2048.size a := fun v3 v4 v5 v6 v7 v8 v9 v10 v21 k1_hw3 => k1_hw3.2.2.2.2.2.1
theorem k1_idx23_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v9, v21] : Fin 2 → IVec S16 32) a x).toNat < S8x2048.size a := fun v3 v4 v5 v6 v7 v8 v9 v10 v21 k1_hw3 => k1_hw3.2.2.2.2.2.2.1
theorem k1_idx24_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k1_hw3 : k1_chk3 v3 v4 v5 v6 v7 v8 v9 v10 v21), ∀ a x, ((![v10, v21] : Fin 2 → IVec S16 32) a x).toNat < S8x2048.size a := fun v3 v4 v5 v6 v7 v8 v9 v10 v21 k1_hw3 => k1_hw3.2.2.2.2.2.2.2

def k1_chk4 (v3 : IVec S16 32) (v4 : IVec S16 32) (v5 : IVec S16 32) (v6 : IVec S16 32) (v7 : IVec S16 32) (v8 : IVec S16 32) (v9 : IVec S16 32) (v10 : IVec S16 32) (v24 : IVec S16 32) : Prop :=
  (∀ a x, ((![v3, v24] : Fin 2 → IVec S16 32) a x).toNat < S8x2048.size a) ∧
  (∀ a x, ((![v4, v24] : Fin 2 → IVec S16 32) a x).toNat < S8x2048.size a) ∧
  (∀ a x, ((![v5, v24] : Fin 2 → IVec S16 32) a x).toNat < S8x2048.size a) ∧
  (∀ a x, ((![v6, v24] : Fin 2 → IVec S16 32) a x).toNat < S8x2048.size a) ∧
  (∀ a x, ((![v7, v24] : Fin 2 → IVec S16 32) a x).toNat < S8x2048.size a) ∧
  (∀ a x, ((![v8, v24] : Fin 2 → IVec S16 32) a x).toNat < S8x2048.size a) ∧
  (∀ a x, ((![v9, v24] : Fin 2 → IVec S16 32) a x).toNat < S8x2048.size a) ∧
  (∀ a x, ((![v10, v24] : Fin 2 → IVec S16 32) a x).toNat < S8x2048.size a)
theorem k1_idx25_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v3, v24] : Fin 2 → IVec S16 32) a x).toNat < S8x2048.size a := fun v3 v4 v5 v6 v7 v8 v9 v10 v24 k1_hw4 => k1_hw4.1
theorem k1_idx26_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v4, v24] : Fin 2 → IVec S16 32) a x).toNat < S8x2048.size a := fun v3 v4 v5 v6 v7 v8 v9 v10 v24 k1_hw4 => k1_hw4.2.1
theorem k1_idx27_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v5, v24] : Fin 2 → IVec S16 32) a x).toNat < S8x2048.size a := fun v3 v4 v5 v6 v7 v8 v9 v10 v24 k1_hw4 => k1_hw4.2.2.1
theorem k1_idx28_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v6, v24] : Fin 2 → IVec S16 32) a x).toNat < S8x2048.size a := fun v3 v4 v5 v6 v7 v8 v9 v10 v24 k1_hw4 => k1_hw4.2.2.2.1
theorem k1_idx29_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v7, v24] : Fin 2 → IVec S16 32) a x).toNat < S8x2048.size a := fun v3 v4 v5 v6 v7 v8 v9 v10 v24 k1_hw4 => k1_hw4.2.2.2.2.1
theorem k1_idx30_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v8, v24] : Fin 2 → IVec S16 32) a x).toNat < S8x2048.size a := fun v3 v4 v5 v6 v7 v8 v9 v10 v24 k1_hw4 => k1_hw4.2.2.2.2.2.1
theorem k1_idx31_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v9, v24] : Fin 2 → IVec S16 32) a x).toNat < S8x2048.size a := fun v3 v4 v5 v6 v7 v8 v9 v10 v24 k1_hw4 => k1_hw4.2.2.2.2.2.2.1
theorem k1_idx32_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k1_hw4 : k1_chk4 v3 v4 v5 v6 v7 v8 v9 v10 v24), ∀ a x, ((![v10, v24] : Fin 2 → IVec S16 32) a x).toNat < S8x2048.size a := fun v3 v4 v5 v6 v7 v8 v9 v10 v24 k1_hw4 => k1_hw4.2.2.2.2.2.2.2
def k1_off6 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_75 : BitVec 32 := 0#32
  let v121 : BitVec 32 := Scalar.addi v12 c0_i32_75
  let v122 : Index := Scalar.indexCast v121
  let c64 : Index := 64#32
  ![v122.toNat, 64]
def k1_off7 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_76 : BitVec 32 := 0#32
  let v124 : BitVec 32 := Scalar.addi v12 c0_i32_76
  let v125 : Index := Scalar.indexCast v124
  let c80 : Index := 80#32
  ![v125.toNat, 80]
def k1_off8 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_77 : BitVec 32 := 0#32
  let v127 : BitVec 32 := Scalar.addi v12 c0_i32_77
  let v128 : Index := Scalar.indexCast v127
  let c96 : Index := 96#32
  ![v128.toNat, 96]
def k1_off9 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c0_i32_78 : BitVec 32 := 0#32
  let v130 : BitVec 32 := Scalar.addi v12 c0_i32_78
  let v131 : Index := Scalar.indexCast v130
  let c112 : Index := 112#32
  ![v131.toNat, 112]

def k1_chk5 (v3 : IVec S16 32) (v4 : IVec S16 32) (v5 : IVec S16 32) (v6 : IVec S16 32) (v7 : IVec S16 32) (v8 : IVec S16 32) (v9 : IVec S16 32) (v10 : IVec S16 32) (v123 : IVec S16 32) : Prop :=
  (∀ a x, ((![v3, v123] : Fin 2 → IVec S16 32) a x).toNat < S8x2048.size a) ∧
  (∀ a x, ((![v4, v123] : Fin 2 → IVec S16 32) a x).toNat < S8x2048.size a) ∧
  (∀ a x, ((![v5, v123] : Fin 2 → IVec S16 32) a x).toNat < S8x2048.size a) ∧
  (∀ a x, ((![v6, v123] : Fin 2 → IVec S16 32) a x).toNat < S8x2048.size a) ∧
  (∀ a x, ((![v7, v123] : Fin 2 → IVec S16 32) a x).toNat < S8x2048.size a) ∧
  (∀ a x, ((![v8, v123] : Fin 2 → IVec S16 32) a x).toNat < S8x2048.size a) ∧
  (∀ a x, ((![v9, v123] : Fin 2 → IVec S16 32) a x).toNat < S8x2048.size a) ∧
  (∀ a x, ((![v10, v123] : Fin 2 → IVec S16 32) a x).toNat < S8x2048.size a)
theorem k1_idx33_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v3, v123] : Fin 2 → IVec S16 32) a x).toNat < S8x2048.size a := fun v3 v4 v5 v6 v7 v8 v9 v10 v123 k1_hw5 => k1_hw5.1
theorem k1_idx34_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v4, v123] : Fin 2 → IVec S16 32) a x).toNat < S8x2048.size a := fun v3 v4 v5 v6 v7 v8 v9 v10 v123 k1_hw5 => k1_hw5.2.1
theorem k1_idx35_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v5, v123] : Fin 2 → IVec S16 32) a x).toNat < S8x2048.size a := fun v3 v4 v5 v6 v7 v8 v9 v10 v123 k1_hw5 => k1_hw5.2.2.1
theorem k1_idx36_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v6, v123] : Fin 2 → IVec S16 32) a x).toNat < S8x2048.size a := fun v3 v4 v5 v6 v7 v8 v9 v10 v123 k1_hw5 => k1_hw5.2.2.2.1
theorem k1_idx37_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v7, v123] : Fin 2 → IVec S16 32) a x).toNat < S8x2048.size a := fun v3 v4 v5 v6 v7 v8 v9 v10 v123 k1_hw5 => k1_hw5.2.2.2.2.1
theorem k1_idx38_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v8, v123] : Fin 2 → IVec S16 32) a x).toNat < S8x2048.size a := fun v3 v4 v5 v6 v7 v8 v9 v10 v123 k1_hw5 => k1_hw5.2.2.2.2.2.1
theorem k1_idx39_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v9, v123] : Fin 2 → IVec S16 32) a x).toNat < S8x2048.size a := fun v3 v4 v5 v6 v7 v8 v9 v10 v123 k1_hw5 => k1_hw5.2.2.2.2.2.2.1
theorem k1_idx40_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k1_hw5 : k1_chk5 v3 v4 v5 v6 v7 v8 v9 v10 v123), ∀ a x, ((![v10, v123] : Fin 2 → IVec S16 32) a x).toNat < S8x2048.size a := fun v3 v4 v5 v6 v7 v8 v9 v10 v123 k1_hw5 => k1_hw5.2.2.2.2.2.2.2

def k1_chk6 (v3 : IVec S16 32) (v4 : IVec S16 32) (v5 : IVec S16 32) (v6 : IVec S16 32) (v7 : IVec S16 32) (v8 : IVec S16 32) (v9 : IVec S16 32) (v10 : IVec S16 32) (v126 : IVec S16 32) : Prop :=
  (∀ a x, ((![v3, v126] : Fin 2 → IVec S16 32) a x).toNat < S8x2048.size a) ∧
  (∀ a x, ((![v4, v126] : Fin 2 → IVec S16 32) a x).toNat < S8x2048.size a) ∧
  (∀ a x, ((![v5, v126] : Fin 2 → IVec S16 32) a x).toNat < S8x2048.size a) ∧
  (∀ a x, ((![v6, v126] : Fin 2 → IVec S16 32) a x).toNat < S8x2048.size a) ∧
  (∀ a x, ((![v7, v126] : Fin 2 → IVec S16 32) a x).toNat < S8x2048.size a) ∧
  (∀ a x, ((![v8, v126] : Fin 2 → IVec S16 32) a x).toNat < S8x2048.size a) ∧
  (∀ a x, ((![v9, v126] : Fin 2 → IVec S16 32) a x).toNat < S8x2048.size a) ∧
  (∀ a x, ((![v10, v126] : Fin 2 → IVec S16 32) a x).toNat < S8x2048.size a)
theorem k1_idx41_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v3, v126] : Fin 2 → IVec S16 32) a x).toNat < S8x2048.size a := fun v3 v4 v5 v6 v7 v8 v9 v10 v126 k1_hw6 => k1_hw6.1
theorem k1_idx42_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v4, v126] : Fin 2 → IVec S16 32) a x).toNat < S8x2048.size a := fun v3 v4 v5 v6 v7 v8 v9 v10 v126 k1_hw6 => k1_hw6.2.1
theorem k1_idx43_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v5, v126] : Fin 2 → IVec S16 32) a x).toNat < S8x2048.size a := fun v3 v4 v5 v6 v7 v8 v9 v10 v126 k1_hw6 => k1_hw6.2.2.1
theorem k1_idx44_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v6, v126] : Fin 2 → IVec S16 32) a x).toNat < S8x2048.size a := fun v3 v4 v5 v6 v7 v8 v9 v10 v126 k1_hw6 => k1_hw6.2.2.2.1
theorem k1_idx45_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v7, v126] : Fin 2 → IVec S16 32) a x).toNat < S8x2048.size a := fun v3 v4 v5 v6 v7 v8 v9 v10 v126 k1_hw6 => k1_hw6.2.2.2.2.1
theorem k1_idx46_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v8, v126] : Fin 2 → IVec S16 32) a x).toNat < S8x2048.size a := fun v3 v4 v5 v6 v7 v8 v9 v10 v126 k1_hw6 => k1_hw6.2.2.2.2.2.1
theorem k1_idx47_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v9, v126] : Fin 2 → IVec S16 32) a x).toNat < S8x2048.size a := fun v3 v4 v5 v6 v7 v8 v9 v10 v126 k1_hw6 => k1_hw6.2.2.2.2.2.2.1
theorem k1_idx48_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k1_hw6 : k1_chk6 v3 v4 v5 v6 v7 v8 v9 v10 v126), ∀ a x, ((![v10, v126] : Fin 2 → IVec S16 32) a x).toNat < S8x2048.size a := fun v3 v4 v5 v6 v7 v8 v9 v10 v126 k1_hw6 => k1_hw6.2.2.2.2.2.2.2

def k1_chk7 (v3 : IVec S16 32) (v4 : IVec S16 32) (v5 : IVec S16 32) (v6 : IVec S16 32) (v7 : IVec S16 32) (v8 : IVec S16 32) (v9 : IVec S16 32) (v10 : IVec S16 32) (v129 : IVec S16 32) : Prop :=
  (∀ a x, ((![v3, v129] : Fin 2 → IVec S16 32) a x).toNat < S8x2048.size a) ∧
  (∀ a x, ((![v4, v129] : Fin 2 → IVec S16 32) a x).toNat < S8x2048.size a) ∧
  (∀ a x, ((![v5, v129] : Fin 2 → IVec S16 32) a x).toNat < S8x2048.size a) ∧
  (∀ a x, ((![v6, v129] : Fin 2 → IVec S16 32) a x).toNat < S8x2048.size a) ∧
  (∀ a x, ((![v7, v129] : Fin 2 → IVec S16 32) a x).toNat < S8x2048.size a) ∧
  (∀ a x, ((![v8, v129] : Fin 2 → IVec S16 32) a x).toNat < S8x2048.size a) ∧
  (∀ a x, ((![v9, v129] : Fin 2 → IVec S16 32) a x).toNat < S8x2048.size a) ∧
  (∀ a x, ((![v10, v129] : Fin 2 → IVec S16 32) a x).toNat < S8x2048.size a)
theorem k1_idx49_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v3, v129] : Fin 2 → IVec S16 32) a x).toNat < S8x2048.size a := fun v3 v4 v5 v6 v7 v8 v9 v10 v129 k1_hw7 => k1_hw7.1
theorem k1_idx50_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v4, v129] : Fin 2 → IVec S16 32) a x).toNat < S8x2048.size a := fun v3 v4 v5 v6 v7 v8 v9 v10 v129 k1_hw7 => k1_hw7.2.1
theorem k1_idx51_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v5, v129] : Fin 2 → IVec S16 32) a x).toNat < S8x2048.size a := fun v3 v4 v5 v6 v7 v8 v9 v10 v129 k1_hw7 => k1_hw7.2.2.1
theorem k1_idx52_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v6, v129] : Fin 2 → IVec S16 32) a x).toNat < S8x2048.size a := fun v3 v4 v5 v6 v7 v8 v9 v10 v129 k1_hw7 => k1_hw7.2.2.2.1
theorem k1_idx53_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v7, v129] : Fin 2 → IVec S16 32) a x).toNat < S8x2048.size a := fun v3 v4 v5 v6 v7 v8 v9 v10 v129 k1_hw7 => k1_hw7.2.2.2.2.1
theorem k1_idx54_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v8, v129] : Fin 2 → IVec S16 32) a x).toNat < S8x2048.size a := fun v3 v4 v5 v6 v7 v8 v9 v10 v129 k1_hw7 => k1_hw7.2.2.2.2.2.1
theorem k1_idx55_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v9, v129] : Fin 2 → IVec S16 32) a x).toNat < S8x2048.size a := fun v3 v4 v5 v6 v7 v8 v9 v10 v129 k1_hw7 => k1_hw7.2.2.2.2.2.2.1
theorem k1_idx56_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k1_hw7 : k1_chk7 v3 v4 v5 v6 v7 v8 v9 v10 v129), ∀ a x, ((![v10, v129] : Fin 2 → IVec S16 32) a x).toNat < S8x2048.size a := fun v3 v4 v5 v6 v7 v8 v9 v10 v129 k1_hw7 => k1_hw7.2.2.2.2.2.2.2

def k1_chk8 (v3 : IVec S16 32) (v4 : IVec S16 32) (v5 : IVec S16 32) (v6 : IVec S16 32) (v7 : IVec S16 32) (v8 : IVec S16 32) (v9 : IVec S16 32) (v10 : IVec S16 32) (v132 : IVec S16 32) : Prop :=
  (∀ a x, ((![v3, v132] : Fin 2 → IVec S16 32) a x).toNat < S8x2048.size a) ∧
  (∀ a x, ((![v4, v132] : Fin 2 → IVec S16 32) a x).toNat < S8x2048.size a) ∧
  (∀ a x, ((![v5, v132] : Fin 2 → IVec S16 32) a x).toNat < S8x2048.size a) ∧
  (∀ a x, ((![v6, v132] : Fin 2 → IVec S16 32) a x).toNat < S8x2048.size a) ∧
  (∀ a x, ((![v7, v132] : Fin 2 → IVec S16 32) a x).toNat < S8x2048.size a) ∧
  (∀ a x, ((![v8, v132] : Fin 2 → IVec S16 32) a x).toNat < S8x2048.size a) ∧
  (∀ a x, ((![v9, v132] : Fin 2 → IVec S16 32) a x).toNat < S8x2048.size a) ∧
  (∀ a x, ((![v10, v132] : Fin 2 → IVec S16 32) a x).toNat < S8x2048.size a)
theorem k1_idx57_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v3, v132] : Fin 2 → IVec S16 32) a x).toNat < S8x2048.size a := fun v3 v4 v5 v6 v7 v8 v9 v10 v132 k1_hw8 => k1_hw8.1
theorem k1_idx58_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v4, v132] : Fin 2 → IVec S16 32) a x).toNat < S8x2048.size a := fun v3 v4 v5 v6 v7 v8 v9 v10 v132 k1_hw8 => k1_hw8.2.1
theorem k1_idx59_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v5, v132] : Fin 2 → IVec S16 32) a x).toNat < S8x2048.size a := fun v3 v4 v5 v6 v7 v8 v9 v10 v132 k1_hw8 => k1_hw8.2.2.1
theorem k1_idx60_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v6, v132] : Fin 2 → IVec S16 32) a x).toNat < S8x2048.size a := fun v3 v4 v5 v6 v7 v8 v9 v10 v132 k1_hw8 => k1_hw8.2.2.2.1
theorem k1_idx61_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v7, v132] : Fin 2 → IVec S16 32) a x).toNat < S8x2048.size a := fun v3 v4 v5 v6 v7 v8 v9 v10 v132 k1_hw8 => k1_hw8.2.2.2.2.1
theorem k1_idx62_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v8, v132] : Fin 2 → IVec S16 32) a x).toNat < S8x2048.size a := fun v3 v4 v5 v6 v7 v8 v9 v10 v132 k1_hw8 => k1_hw8.2.2.2.2.2.1
theorem k1_idx63_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v9, v132] : Fin 2 → IVec S16 32) a x).toNat < S8x2048.size a := fun v3 v4 v5 v6 v7 v8 v9 v10 v132 k1_hw8 => k1_hw8.2.2.2.2.2.2.1
theorem k1_idx64_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k1_hw8 : k1_chk8 v3 v4 v5 v6 v7 v8 v9 v10 v132), ∀ a x, ((![v10, v132] : Fin 2 → IVec S16 32) a x).toNat < S8x2048.size a := fun v3 v4 v5 v6 v7 v8 v9 v10 v132 k1_hw8 => k1_hw8.2.2.2.2.2.2.2
def k1_off10 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_143 : BitVec 32 := 1#32
  let v229 : BitVec 32 := Scalar.addi v12 c1_i32_143
  let v230 : Index := Scalar.indexCast v229
  let c0_144 : Index := 0#32
  ![v230.toNat, 0]
def k1_off11 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_145 : BitVec 32 := 1#32
  let v232 : BitVec 32 := Scalar.addi v12 c1_i32_145
  let v233 : Index := Scalar.indexCast v232
  let c16_146 : Index := 16#32
  ![v233.toNat, 16]
def k1_off12 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_147 : BitVec 32 := 1#32
  let v235 : BitVec 32 := Scalar.addi v12 c1_i32_147
  let v236 : Index := Scalar.indexCast v235
  let c32_148 : Index := 32#32
  ![v236.toNat, 32]
def k1_off13 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_149 : BitVec 32 := 1#32
  let v238 : BitVec 32 := Scalar.addi v12 c1_i32_149
  let v239 : Index := Scalar.indexCast v238
  let c48_150 : Index := 48#32
  ![v239.toNat, 48]

def k1_chk9 (v3 : IVec S16 32) (v4 : IVec S16 32) (v5 : IVec S16 32) (v6 : IVec S16 32) (v7 : IVec S16 32) (v8 : IVec S16 32) (v9 : IVec S16 32) (v10 : IVec S16 32) (v231 : IVec S16 32) : Prop :=
  (∀ a x, ((![v3, v231] : Fin 2 → IVec S16 32) a x).toNat < S8x2048.size a) ∧
  (∀ a x, ((![v4, v231] : Fin 2 → IVec S16 32) a x).toNat < S8x2048.size a) ∧
  (∀ a x, ((![v5, v231] : Fin 2 → IVec S16 32) a x).toNat < S8x2048.size a) ∧
  (∀ a x, ((![v6, v231] : Fin 2 → IVec S16 32) a x).toNat < S8x2048.size a) ∧
  (∀ a x, ((![v7, v231] : Fin 2 → IVec S16 32) a x).toNat < S8x2048.size a) ∧
  (∀ a x, ((![v8, v231] : Fin 2 → IVec S16 32) a x).toNat < S8x2048.size a) ∧
  (∀ a x, ((![v9, v231] : Fin 2 → IVec S16 32) a x).toNat < S8x2048.size a) ∧
  (∀ a x, ((![v10, v231] : Fin 2 → IVec S16 32) a x).toNat < S8x2048.size a)
theorem k1_idx65_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v3, v231] : Fin 2 → IVec S16 32) a x).toNat < S8x2048.size a := fun v3 v4 v5 v6 v7 v8 v9 v10 v231 k1_hw9 => k1_hw9.1
theorem k1_idx66_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v4, v231] : Fin 2 → IVec S16 32) a x).toNat < S8x2048.size a := fun v3 v4 v5 v6 v7 v8 v9 v10 v231 k1_hw9 => k1_hw9.2.1
theorem k1_idx67_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v5, v231] : Fin 2 → IVec S16 32) a x).toNat < S8x2048.size a := fun v3 v4 v5 v6 v7 v8 v9 v10 v231 k1_hw9 => k1_hw9.2.2.1
theorem k1_idx68_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v6, v231] : Fin 2 → IVec S16 32) a x).toNat < S8x2048.size a := fun v3 v4 v5 v6 v7 v8 v9 v10 v231 k1_hw9 => k1_hw9.2.2.2.1
theorem k1_idx69_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v7, v231] : Fin 2 → IVec S16 32) a x).toNat < S8x2048.size a := fun v3 v4 v5 v6 v7 v8 v9 v10 v231 k1_hw9 => k1_hw9.2.2.2.2.1
theorem k1_idx70_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v8, v231] : Fin 2 → IVec S16 32) a x).toNat < S8x2048.size a := fun v3 v4 v5 v6 v7 v8 v9 v10 v231 k1_hw9 => k1_hw9.2.2.2.2.2.1
theorem k1_idx71_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v9, v231] : Fin 2 → IVec S16 32) a x).toNat < S8x2048.size a := fun v3 v4 v5 v6 v7 v8 v9 v10 v231 k1_hw9 => k1_hw9.2.2.2.2.2.2.1
theorem k1_idx72_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k1_hw9 : k1_chk9 v3 v4 v5 v6 v7 v8 v9 v10 v231), ∀ a x, ((![v10, v231] : Fin 2 → IVec S16 32) a x).toNat < S8x2048.size a := fun v3 v4 v5 v6 v7 v8 v9 v10 v231 k1_hw9 => k1_hw9.2.2.2.2.2.2.2

def k1_chk10 (v3 : IVec S16 32) (v4 : IVec S16 32) (v5 : IVec S16 32) (v6 : IVec S16 32) (v7 : IVec S16 32) (v8 : IVec S16 32) (v9 : IVec S16 32) (v10 : IVec S16 32) (v234 : IVec S16 32) : Prop :=
  (∀ a x, ((![v3, v234] : Fin 2 → IVec S16 32) a x).toNat < S8x2048.size a) ∧
  (∀ a x, ((![v4, v234] : Fin 2 → IVec S16 32) a x).toNat < S8x2048.size a) ∧
  (∀ a x, ((![v5, v234] : Fin 2 → IVec S16 32) a x).toNat < S8x2048.size a) ∧
  (∀ a x, ((![v6, v234] : Fin 2 → IVec S16 32) a x).toNat < S8x2048.size a) ∧
  (∀ a x, ((![v7, v234] : Fin 2 → IVec S16 32) a x).toNat < S8x2048.size a) ∧
  (∀ a x, ((![v8, v234] : Fin 2 → IVec S16 32) a x).toNat < S8x2048.size a) ∧
  (∀ a x, ((![v9, v234] : Fin 2 → IVec S16 32) a x).toNat < S8x2048.size a) ∧
  (∀ a x, ((![v10, v234] : Fin 2 → IVec S16 32) a x).toNat < S8x2048.size a)
theorem k1_idx73_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v3, v234] : Fin 2 → IVec S16 32) a x).toNat < S8x2048.size a := fun v3 v4 v5 v6 v7 v8 v9 v10 v234 k1_hw10 => k1_hw10.1
theorem k1_idx74_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v4, v234] : Fin 2 → IVec S16 32) a x).toNat < S8x2048.size a := fun v3 v4 v5 v6 v7 v8 v9 v10 v234 k1_hw10 => k1_hw10.2.1
theorem k1_idx75_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v5, v234] : Fin 2 → IVec S16 32) a x).toNat < S8x2048.size a := fun v3 v4 v5 v6 v7 v8 v9 v10 v234 k1_hw10 => k1_hw10.2.2.1
theorem k1_idx76_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v6, v234] : Fin 2 → IVec S16 32) a x).toNat < S8x2048.size a := fun v3 v4 v5 v6 v7 v8 v9 v10 v234 k1_hw10 => k1_hw10.2.2.2.1
theorem k1_idx77_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v7, v234] : Fin 2 → IVec S16 32) a x).toNat < S8x2048.size a := fun v3 v4 v5 v6 v7 v8 v9 v10 v234 k1_hw10 => k1_hw10.2.2.2.2.1
theorem k1_idx78_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v8, v234] : Fin 2 → IVec S16 32) a x).toNat < S8x2048.size a := fun v3 v4 v5 v6 v7 v8 v9 v10 v234 k1_hw10 => k1_hw10.2.2.2.2.2.1
theorem k1_idx79_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v9, v234] : Fin 2 → IVec S16 32) a x).toNat < S8x2048.size a := fun v3 v4 v5 v6 v7 v8 v9 v10 v234 k1_hw10 => k1_hw10.2.2.2.2.2.2.1
theorem k1_idx80_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k1_hw10 : k1_chk10 v3 v4 v5 v6 v7 v8 v9 v10 v234), ∀ a x, ((![v10, v234] : Fin 2 → IVec S16 32) a x).toNat < S8x2048.size a := fun v3 v4 v5 v6 v7 v8 v9 v10 v234 k1_hw10 => k1_hw10.2.2.2.2.2.2.2

def k1_chk11 (v3 : IVec S16 32) (v4 : IVec S16 32) (v5 : IVec S16 32) (v6 : IVec S16 32) (v7 : IVec S16 32) (v8 : IVec S16 32) (v9 : IVec S16 32) (v10 : IVec S16 32) (v237 : IVec S16 32) : Prop :=
  (∀ a x, ((![v3, v237] : Fin 2 → IVec S16 32) a x).toNat < S8x2048.size a) ∧
  (∀ a x, ((![v4, v237] : Fin 2 → IVec S16 32) a x).toNat < S8x2048.size a) ∧
  (∀ a x, ((![v5, v237] : Fin 2 → IVec S16 32) a x).toNat < S8x2048.size a) ∧
  (∀ a x, ((![v6, v237] : Fin 2 → IVec S16 32) a x).toNat < S8x2048.size a) ∧
  (∀ a x, ((![v7, v237] : Fin 2 → IVec S16 32) a x).toNat < S8x2048.size a) ∧
  (∀ a x, ((![v8, v237] : Fin 2 → IVec S16 32) a x).toNat < S8x2048.size a) ∧
  (∀ a x, ((![v9, v237] : Fin 2 → IVec S16 32) a x).toNat < S8x2048.size a) ∧
  (∀ a x, ((![v10, v237] : Fin 2 → IVec S16 32) a x).toNat < S8x2048.size a)
theorem k1_idx81_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v3, v237] : Fin 2 → IVec S16 32) a x).toNat < S8x2048.size a := fun v3 v4 v5 v6 v7 v8 v9 v10 v237 k1_hw11 => k1_hw11.1
theorem k1_idx82_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v4, v237] : Fin 2 → IVec S16 32) a x).toNat < S8x2048.size a := fun v3 v4 v5 v6 v7 v8 v9 v10 v237 k1_hw11 => k1_hw11.2.1
theorem k1_idx83_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v5, v237] : Fin 2 → IVec S16 32) a x).toNat < S8x2048.size a := fun v3 v4 v5 v6 v7 v8 v9 v10 v237 k1_hw11 => k1_hw11.2.2.1
theorem k1_idx84_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v6, v237] : Fin 2 → IVec S16 32) a x).toNat < S8x2048.size a := fun v3 v4 v5 v6 v7 v8 v9 v10 v237 k1_hw11 => k1_hw11.2.2.2.1
theorem k1_idx85_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v7, v237] : Fin 2 → IVec S16 32) a x).toNat < S8x2048.size a := fun v3 v4 v5 v6 v7 v8 v9 v10 v237 k1_hw11 => k1_hw11.2.2.2.2.1
theorem k1_idx86_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v8, v237] : Fin 2 → IVec S16 32) a x).toNat < S8x2048.size a := fun v3 v4 v5 v6 v7 v8 v9 v10 v237 k1_hw11 => k1_hw11.2.2.2.2.2.1
theorem k1_idx87_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v9, v237] : Fin 2 → IVec S16 32) a x).toNat < S8x2048.size a := fun v3 v4 v5 v6 v7 v8 v9 v10 v237 k1_hw11 => k1_hw11.2.2.2.2.2.2.1
theorem k1_idx88_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k1_hw11 : k1_chk11 v3 v4 v5 v6 v7 v8 v9 v10 v237), ∀ a x, ((![v10, v237] : Fin 2 → IVec S16 32) a x).toNat < S8x2048.size a := fun v3 v4 v5 v6 v7 v8 v9 v10 v237 k1_hw11 => k1_hw11.2.2.2.2.2.2.2

def k1_chk12 (v3 : IVec S16 32) (v4 : IVec S16 32) (v5 : IVec S16 32) (v6 : IVec S16 32) (v7 : IVec S16 32) (v8 : IVec S16 32) (v9 : IVec S16 32) (v10 : IVec S16 32) (v240 : IVec S16 32) : Prop :=
  (∀ a x, ((![v3, v240] : Fin 2 → IVec S16 32) a x).toNat < S8x2048.size a) ∧
  (∀ a x, ((![v4, v240] : Fin 2 → IVec S16 32) a x).toNat < S8x2048.size a) ∧
  (∀ a x, ((![v5, v240] : Fin 2 → IVec S16 32) a x).toNat < S8x2048.size a) ∧
  (∀ a x, ((![v6, v240] : Fin 2 → IVec S16 32) a x).toNat < S8x2048.size a) ∧
  (∀ a x, ((![v7, v240] : Fin 2 → IVec S16 32) a x).toNat < S8x2048.size a) ∧
  (∀ a x, ((![v8, v240] : Fin 2 → IVec S16 32) a x).toNat < S8x2048.size a) ∧
  (∀ a x, ((![v9, v240] : Fin 2 → IVec S16 32) a x).toNat < S8x2048.size a) ∧
  (∀ a x, ((![v10, v240] : Fin 2 → IVec S16 32) a x).toNat < S8x2048.size a)
theorem k1_idx89_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v3, v240] : Fin 2 → IVec S16 32) a x).toNat < S8x2048.size a := fun v3 v4 v5 v6 v7 v8 v9 v10 v240 k1_hw12 => k1_hw12.1
theorem k1_idx90_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v4, v240] : Fin 2 → IVec S16 32) a x).toNat < S8x2048.size a := fun v3 v4 v5 v6 v7 v8 v9 v10 v240 k1_hw12 => k1_hw12.2.1
theorem k1_idx91_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v5, v240] : Fin 2 → IVec S16 32) a x).toNat < S8x2048.size a := fun v3 v4 v5 v6 v7 v8 v9 v10 v240 k1_hw12 => k1_hw12.2.2.1
theorem k1_idx92_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v6, v240] : Fin 2 → IVec S16 32) a x).toNat < S8x2048.size a := fun v3 v4 v5 v6 v7 v8 v9 v10 v240 k1_hw12 => k1_hw12.2.2.2.1
theorem k1_idx93_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v7, v240] : Fin 2 → IVec S16 32) a x).toNat < S8x2048.size a := fun v3 v4 v5 v6 v7 v8 v9 v10 v240 k1_hw12 => k1_hw12.2.2.2.2.1
theorem k1_idx94_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v8, v240] : Fin 2 → IVec S16 32) a x).toNat < S8x2048.size a := fun v3 v4 v5 v6 v7 v8 v9 v10 v240 k1_hw12 => k1_hw12.2.2.2.2.2.1
theorem k1_idx95_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v9, v240] : Fin 2 → IVec S16 32) a x).toNat < S8x2048.size a := fun v3 v4 v5 v6 v7 v8 v9 v10 v240 k1_hw12 => k1_hw12.2.2.2.2.2.2.1
theorem k1_idx96_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k1_hw12 : k1_chk12 v3 v4 v5 v6 v7 v8 v9 v10 v240), ∀ a x, ((![v10, v240] : Fin 2 → IVec S16 32) a x).toNat < S8x2048.size a := fun v3 v4 v5 v6 v7 v8 v9 v10 v240 k1_hw12 => k1_hw12.2.2.2.2.2.2.2
def k1_off14 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_211 : BitVec 32 := 1#32
  let v337 : BitVec 32 := Scalar.addi v12 c1_i32_211
  let v338 : Index := Scalar.indexCast v337
  let c64_212 : Index := 64#32
  ![v338.toNat, 64]
def k1_off15 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_213 : BitVec 32 := 1#32
  let v340 : BitVec 32 := Scalar.addi v12 c1_i32_213
  let v341 : Index := Scalar.indexCast v340
  let c80_214 : Index := 80#32
  ![v341.toNat, 80]
def k1_off16 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_215 : BitVec 32 := 1#32
  let v343 : BitVec 32 := Scalar.addi v12 c1_i32_215
  let v344 : Index := Scalar.indexCast v343
  let c96_216 : Index := 96#32
  ![v344.toNat, 96]
def k1_off17 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c1_i32_217 : BitVec 32 := 1#32
  let v346 : BitVec 32 := Scalar.addi v12 c1_i32_217
  let v347 : Index := Scalar.indexCast v346
  let c112_218 : Index := 112#32
  ![v347.toNat, 112]

def k1_chk13 (v3 : IVec S16 32) (v4 : IVec S16 32) (v5 : IVec S16 32) (v6 : IVec S16 32) (v7 : IVec S16 32) (v8 : IVec S16 32) (v9 : IVec S16 32) (v10 : IVec S16 32) (v339 : IVec S16 32) : Prop :=
  (∀ a x, ((![v3, v339] : Fin 2 → IVec S16 32) a x).toNat < S8x2048.size a) ∧
  (∀ a x, ((![v4, v339] : Fin 2 → IVec S16 32) a x).toNat < S8x2048.size a) ∧
  (∀ a x, ((![v5, v339] : Fin 2 → IVec S16 32) a x).toNat < S8x2048.size a) ∧
  (∀ a x, ((![v6, v339] : Fin 2 → IVec S16 32) a x).toNat < S8x2048.size a) ∧
  (∀ a x, ((![v7, v339] : Fin 2 → IVec S16 32) a x).toNat < S8x2048.size a) ∧
  (∀ a x, ((![v8, v339] : Fin 2 → IVec S16 32) a x).toNat < S8x2048.size a) ∧
  (∀ a x, ((![v9, v339] : Fin 2 → IVec S16 32) a x).toNat < S8x2048.size a) ∧
  (∀ a x, ((![v10, v339] : Fin 2 → IVec S16 32) a x).toNat < S8x2048.size a)
theorem k1_idx97_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v3, v339] : Fin 2 → IVec S16 32) a x).toNat < S8x2048.size a := fun v3 v4 v5 v6 v7 v8 v9 v10 v339 k1_hw13 => k1_hw13.1
theorem k1_idx98_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v4, v339] : Fin 2 → IVec S16 32) a x).toNat < S8x2048.size a := fun v3 v4 v5 v6 v7 v8 v9 v10 v339 k1_hw13 => k1_hw13.2.1
theorem k1_idx99_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v5, v339] : Fin 2 → IVec S16 32) a x).toNat < S8x2048.size a := fun v3 v4 v5 v6 v7 v8 v9 v10 v339 k1_hw13 => k1_hw13.2.2.1
theorem k1_idx100_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v6, v339] : Fin 2 → IVec S16 32) a x).toNat < S8x2048.size a := fun v3 v4 v5 v6 v7 v8 v9 v10 v339 k1_hw13 => k1_hw13.2.2.2.1
theorem k1_idx101_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v7, v339] : Fin 2 → IVec S16 32) a x).toNat < S8x2048.size a := fun v3 v4 v5 v6 v7 v8 v9 v10 v339 k1_hw13 => k1_hw13.2.2.2.2.1
theorem k1_idx102_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v8, v339] : Fin 2 → IVec S16 32) a x).toNat < S8x2048.size a := fun v3 v4 v5 v6 v7 v8 v9 v10 v339 k1_hw13 => k1_hw13.2.2.2.2.2.1
theorem k1_idx103_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v9, v339] : Fin 2 → IVec S16 32) a x).toNat < S8x2048.size a := fun v3 v4 v5 v6 v7 v8 v9 v10 v339 k1_hw13 => k1_hw13.2.2.2.2.2.2.1
theorem k1_idx104_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k1_hw13 : k1_chk13 v3 v4 v5 v6 v7 v8 v9 v10 v339), ∀ a x, ((![v10, v339] : Fin 2 → IVec S16 32) a x).toNat < S8x2048.size a := fun v3 v4 v5 v6 v7 v8 v9 v10 v339 k1_hw13 => k1_hw13.2.2.2.2.2.2.2

def k1_chk14 (v3 : IVec S16 32) (v4 : IVec S16 32) (v5 : IVec S16 32) (v6 : IVec S16 32) (v7 : IVec S16 32) (v8 : IVec S16 32) (v9 : IVec S16 32) (v10 : IVec S16 32) (v342 : IVec S16 32) : Prop :=
  (∀ a x, ((![v3, v342] : Fin 2 → IVec S16 32) a x).toNat < S8x2048.size a) ∧
  (∀ a x, ((![v4, v342] : Fin 2 → IVec S16 32) a x).toNat < S8x2048.size a) ∧
  (∀ a x, ((![v5, v342] : Fin 2 → IVec S16 32) a x).toNat < S8x2048.size a) ∧
  (∀ a x, ((![v6, v342] : Fin 2 → IVec S16 32) a x).toNat < S8x2048.size a) ∧
  (∀ a x, ((![v7, v342] : Fin 2 → IVec S16 32) a x).toNat < S8x2048.size a) ∧
  (∀ a x, ((![v8, v342] : Fin 2 → IVec S16 32) a x).toNat < S8x2048.size a) ∧
  (∀ a x, ((![v9, v342] : Fin 2 → IVec S16 32) a x).toNat < S8x2048.size a) ∧
  (∀ a x, ((![v10, v342] : Fin 2 → IVec S16 32) a x).toNat < S8x2048.size a)
theorem k1_idx105_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v3, v342] : Fin 2 → IVec S16 32) a x).toNat < S8x2048.size a := fun v3 v4 v5 v6 v7 v8 v9 v10 v342 k1_hw14 => k1_hw14.1
theorem k1_idx106_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v4, v342] : Fin 2 → IVec S16 32) a x).toNat < S8x2048.size a := fun v3 v4 v5 v6 v7 v8 v9 v10 v342 k1_hw14 => k1_hw14.2.1
theorem k1_idx107_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v5, v342] : Fin 2 → IVec S16 32) a x).toNat < S8x2048.size a := fun v3 v4 v5 v6 v7 v8 v9 v10 v342 k1_hw14 => k1_hw14.2.2.1
theorem k1_idx108_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v6, v342] : Fin 2 → IVec S16 32) a x).toNat < S8x2048.size a := fun v3 v4 v5 v6 v7 v8 v9 v10 v342 k1_hw14 => k1_hw14.2.2.2.1
theorem k1_idx109_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v7, v342] : Fin 2 → IVec S16 32) a x).toNat < S8x2048.size a := fun v3 v4 v5 v6 v7 v8 v9 v10 v342 k1_hw14 => k1_hw14.2.2.2.2.1
theorem k1_idx110_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v8, v342] : Fin 2 → IVec S16 32) a x).toNat < S8x2048.size a := fun v3 v4 v5 v6 v7 v8 v9 v10 v342 k1_hw14 => k1_hw14.2.2.2.2.2.1
theorem k1_idx111_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v9, v342] : Fin 2 → IVec S16 32) a x).toNat < S8x2048.size a := fun v3 v4 v5 v6 v7 v8 v9 v10 v342 k1_hw14 => k1_hw14.2.2.2.2.2.2.1
theorem k1_idx112_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k1_hw14 : k1_chk14 v3 v4 v5 v6 v7 v8 v9 v10 v342), ∀ a x, ((![v10, v342] : Fin 2 → IVec S16 32) a x).toNat < S8x2048.size a := fun v3 v4 v5 v6 v7 v8 v9 v10 v342 k1_hw14 => k1_hw14.2.2.2.2.2.2.2

def k1_chk15 (v3 : IVec S16 32) (v4 : IVec S16 32) (v5 : IVec S16 32) (v6 : IVec S16 32) (v7 : IVec S16 32) (v8 : IVec S16 32) (v9 : IVec S16 32) (v10 : IVec S16 32) (v345 : IVec S16 32) : Prop :=
  (∀ a x, ((![v3, v345] : Fin 2 → IVec S16 32) a x).toNat < S8x2048.size a) ∧
  (∀ a x, ((![v4, v345] : Fin 2 → IVec S16 32) a x).toNat < S8x2048.size a) ∧
  (∀ a x, ((![v5, v345] : Fin 2 → IVec S16 32) a x).toNat < S8x2048.size a) ∧
  (∀ a x, ((![v6, v345] : Fin 2 → IVec S16 32) a x).toNat < S8x2048.size a) ∧
  (∀ a x, ((![v7, v345] : Fin 2 → IVec S16 32) a x).toNat < S8x2048.size a) ∧
  (∀ a x, ((![v8, v345] : Fin 2 → IVec S16 32) a x).toNat < S8x2048.size a) ∧
  (∀ a x, ((![v9, v345] : Fin 2 → IVec S16 32) a x).toNat < S8x2048.size a) ∧
  (∀ a x, ((![v10, v345] : Fin 2 → IVec S16 32) a x).toNat < S8x2048.size a)
theorem k1_idx113_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v3, v345] : Fin 2 → IVec S16 32) a x).toNat < S8x2048.size a := fun v3 v4 v5 v6 v7 v8 v9 v10 v345 k1_hw15 => k1_hw15.1
theorem k1_idx114_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v4, v345] : Fin 2 → IVec S16 32) a x).toNat < S8x2048.size a := fun v3 v4 v5 v6 v7 v8 v9 v10 v345 k1_hw15 => k1_hw15.2.1
theorem k1_idx115_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v5, v345] : Fin 2 → IVec S16 32) a x).toNat < S8x2048.size a := fun v3 v4 v5 v6 v7 v8 v9 v10 v345 k1_hw15 => k1_hw15.2.2.1
theorem k1_idx116_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v6, v345] : Fin 2 → IVec S16 32) a x).toNat < S8x2048.size a := fun v3 v4 v5 v6 v7 v8 v9 v10 v345 k1_hw15 => k1_hw15.2.2.2.1
theorem k1_idx117_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v7, v345] : Fin 2 → IVec S16 32) a x).toNat < S8x2048.size a := fun v3 v4 v5 v6 v7 v8 v9 v10 v345 k1_hw15 => k1_hw15.2.2.2.2.1
theorem k1_idx118_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v8, v345] : Fin 2 → IVec S16 32) a x).toNat < S8x2048.size a := fun v3 v4 v5 v6 v7 v8 v9 v10 v345 k1_hw15 => k1_hw15.2.2.2.2.2.1
theorem k1_idx119_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v9, v345] : Fin 2 → IVec S16 32) a x).toNat < S8x2048.size a := fun v3 v4 v5 v6 v7 v8 v9 v10 v345 k1_hw15 => k1_hw15.2.2.2.2.2.2.1
theorem k1_idx120_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k1_hw15 : k1_chk15 v3 v4 v5 v6 v7 v8 v9 v10 v345), ∀ a x, ((![v10, v345] : Fin 2 → IVec S16 32) a x).toNat < S8x2048.size a := fun v3 v4 v5 v6 v7 v8 v9 v10 v345 k1_hw15 => k1_hw15.2.2.2.2.2.2.2

def k1_chk16 (v3 : IVec S16 32) (v4 : IVec S16 32) (v5 : IVec S16 32) (v6 : IVec S16 32) (v7 : IVec S16 32) (v8 : IVec S16 32) (v9 : IVec S16 32) (v10 : IVec S16 32) (v348 : IVec S16 32) : Prop :=
  (∀ a x, ((![v3, v348] : Fin 2 → IVec S16 32) a x).toNat < S8x2048.size a) ∧
  (∀ a x, ((![v4, v348] : Fin 2 → IVec S16 32) a x).toNat < S8x2048.size a) ∧
  (∀ a x, ((![v5, v348] : Fin 2 → IVec S16 32) a x).toNat < S8x2048.size a) ∧
  (∀ a x, ((![v6, v348] : Fin 2 → IVec S16 32) a x).toNat < S8x2048.size a) ∧
  (∀ a x, ((![v7, v348] : Fin 2 → IVec S16 32) a x).toNat < S8x2048.size a) ∧
  (∀ a x, ((![v8, v348] : Fin 2 → IVec S16 32) a x).toNat < S8x2048.size a) ∧
  (∀ a x, ((![v9, v348] : Fin 2 → IVec S16 32) a x).toNat < S8x2048.size a) ∧
  (∀ a x, ((![v10, v348] : Fin 2 → IVec S16 32) a x).toNat < S8x2048.size a)
theorem k1_idx121_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v3, v348] : Fin 2 → IVec S16 32) a x).toNat < S8x2048.size a := fun v3 v4 v5 v6 v7 v8 v9 v10 v348 k1_hw16 => k1_hw16.1
theorem k1_idx122_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v4, v348] : Fin 2 → IVec S16 32) a x).toNat < S8x2048.size a := fun v3 v4 v5 v6 v7 v8 v9 v10 v348 k1_hw16 => k1_hw16.2.1
theorem k1_idx123_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v5, v348] : Fin 2 → IVec S16 32) a x).toNat < S8x2048.size a := fun v3 v4 v5 v6 v7 v8 v9 v10 v348 k1_hw16 => k1_hw16.2.2.1
theorem k1_idx124_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v6, v348] : Fin 2 → IVec S16 32) a x).toNat < S8x2048.size a := fun v3 v4 v5 v6 v7 v8 v9 v10 v348 k1_hw16 => k1_hw16.2.2.2.1
theorem k1_idx125_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v7, v348] : Fin 2 → IVec S16 32) a x).toNat < S8x2048.size a := fun v3 v4 v5 v6 v7 v8 v9 v10 v348 k1_hw16 => k1_hw16.2.2.2.2.1
theorem k1_idx126_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v8, v348] : Fin 2 → IVec S16 32) a x).toNat < S8x2048.size a := fun v3 v4 v5 v6 v7 v8 v9 v10 v348 k1_hw16 => k1_hw16.2.2.2.2.2.1
theorem k1_idx127_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v9, v348] : Fin 2 → IVec S16 32) a x).toNat < S8x2048.size a := fun v3 v4 v5 v6 v7 v8 v9 v10 v348 k1_hw16 => k1_hw16.2.2.2.2.2.2.1
theorem k1_idx128_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k1_hw16 : k1_chk16 v3 v4 v5 v6 v7 v8 v9 v10 v348), ∀ a x, ((![v10, v348] : Fin 2 → IVec S16 32) a x).toNat < S8x2048.size a := fun v3 v4 v5 v6 v7 v8 v9 v10 v348 k1_hw16 => k1_hw16.2.2.2.2.2.2.2
def k1_off18 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_279 : BitVec 32 := 2#32
  let v445 : BitVec 32 := Scalar.addi v12 c2_i32_279
  let v446 : Index := Scalar.indexCast v445
  let c0_280 : Index := 0#32
  ![v446.toNat, 0]
def k1_off19 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_281 : BitVec 32 := 2#32
  let v448 : BitVec 32 := Scalar.addi v12 c2_i32_281
  let v449 : Index := Scalar.indexCast v448
  let c16_282 : Index := 16#32
  ![v449.toNat, 16]
def k1_off20 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_283 : BitVec 32 := 2#32
  let v451 : BitVec 32 := Scalar.addi v12 c2_i32_283
  let v452 : Index := Scalar.indexCast v451
  let c32_284 : Index := 32#32
  ![v452.toNat, 32]
def k1_off21 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_285 : BitVec 32 := 2#32
  let v454 : BitVec 32 := Scalar.addi v12 c2_i32_285
  let v455 : Index := Scalar.indexCast v454
  let c48_286 : Index := 48#32
  ![v455.toNat, 48]

def k1_chk17 (v3 : IVec S16 32) (v4 : IVec S16 32) (v5 : IVec S16 32) (v6 : IVec S16 32) (v7 : IVec S16 32) (v8 : IVec S16 32) (v9 : IVec S16 32) (v10 : IVec S16 32) (v447 : IVec S16 32) : Prop :=
  (∀ a x, ((![v3, v447] : Fin 2 → IVec S16 32) a x).toNat < S8x2048.size a) ∧
  (∀ a x, ((![v4, v447] : Fin 2 → IVec S16 32) a x).toNat < S8x2048.size a) ∧
  (∀ a x, ((![v5, v447] : Fin 2 → IVec S16 32) a x).toNat < S8x2048.size a) ∧
  (∀ a x, ((![v6, v447] : Fin 2 → IVec S16 32) a x).toNat < S8x2048.size a) ∧
  (∀ a x, ((![v7, v447] : Fin 2 → IVec S16 32) a x).toNat < S8x2048.size a) ∧
  (∀ a x, ((![v8, v447] : Fin 2 → IVec S16 32) a x).toNat < S8x2048.size a) ∧
  (∀ a x, ((![v9, v447] : Fin 2 → IVec S16 32) a x).toNat < S8x2048.size a) ∧
  (∀ a x, ((![v10, v447] : Fin 2 → IVec S16 32) a x).toNat < S8x2048.size a)
theorem k1_idx129_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v3, v447] : Fin 2 → IVec S16 32) a x).toNat < S8x2048.size a := fun v3 v4 v5 v6 v7 v8 v9 v10 v447 k1_hw17 => k1_hw17.1
theorem k1_idx130_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v4, v447] : Fin 2 → IVec S16 32) a x).toNat < S8x2048.size a := fun v3 v4 v5 v6 v7 v8 v9 v10 v447 k1_hw17 => k1_hw17.2.1
theorem k1_idx131_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v5, v447] : Fin 2 → IVec S16 32) a x).toNat < S8x2048.size a := fun v3 v4 v5 v6 v7 v8 v9 v10 v447 k1_hw17 => k1_hw17.2.2.1
theorem k1_idx132_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v6, v447] : Fin 2 → IVec S16 32) a x).toNat < S8x2048.size a := fun v3 v4 v5 v6 v7 v8 v9 v10 v447 k1_hw17 => k1_hw17.2.2.2.1
theorem k1_idx133_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v7, v447] : Fin 2 → IVec S16 32) a x).toNat < S8x2048.size a := fun v3 v4 v5 v6 v7 v8 v9 v10 v447 k1_hw17 => k1_hw17.2.2.2.2.1
theorem k1_idx134_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v8, v447] : Fin 2 → IVec S16 32) a x).toNat < S8x2048.size a := fun v3 v4 v5 v6 v7 v8 v9 v10 v447 k1_hw17 => k1_hw17.2.2.2.2.2.1
theorem k1_idx135_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v9, v447] : Fin 2 → IVec S16 32) a x).toNat < S8x2048.size a := fun v3 v4 v5 v6 v7 v8 v9 v10 v447 k1_hw17 => k1_hw17.2.2.2.2.2.2.1
theorem k1_idx136_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k1_hw17 : k1_chk17 v3 v4 v5 v6 v7 v8 v9 v10 v447), ∀ a x, ((![v10, v447] : Fin 2 → IVec S16 32) a x).toNat < S8x2048.size a := fun v3 v4 v5 v6 v7 v8 v9 v10 v447 k1_hw17 => k1_hw17.2.2.2.2.2.2.2

def k1_chk18 (v3 : IVec S16 32) (v4 : IVec S16 32) (v5 : IVec S16 32) (v6 : IVec S16 32) (v7 : IVec S16 32) (v8 : IVec S16 32) (v9 : IVec S16 32) (v10 : IVec S16 32) (v450 : IVec S16 32) : Prop :=
  (∀ a x, ((![v3, v450] : Fin 2 → IVec S16 32) a x).toNat < S8x2048.size a) ∧
  (∀ a x, ((![v4, v450] : Fin 2 → IVec S16 32) a x).toNat < S8x2048.size a) ∧
  (∀ a x, ((![v5, v450] : Fin 2 → IVec S16 32) a x).toNat < S8x2048.size a) ∧
  (∀ a x, ((![v6, v450] : Fin 2 → IVec S16 32) a x).toNat < S8x2048.size a) ∧
  (∀ a x, ((![v7, v450] : Fin 2 → IVec S16 32) a x).toNat < S8x2048.size a) ∧
  (∀ a x, ((![v8, v450] : Fin 2 → IVec S16 32) a x).toNat < S8x2048.size a) ∧
  (∀ a x, ((![v9, v450] : Fin 2 → IVec S16 32) a x).toNat < S8x2048.size a) ∧
  (∀ a x, ((![v10, v450] : Fin 2 → IVec S16 32) a x).toNat < S8x2048.size a)
theorem k1_idx137_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v3, v450] : Fin 2 → IVec S16 32) a x).toNat < S8x2048.size a := fun v3 v4 v5 v6 v7 v8 v9 v10 v450 k1_hw18 => k1_hw18.1
theorem k1_idx138_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v4, v450] : Fin 2 → IVec S16 32) a x).toNat < S8x2048.size a := fun v3 v4 v5 v6 v7 v8 v9 v10 v450 k1_hw18 => k1_hw18.2.1
theorem k1_idx139_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v5, v450] : Fin 2 → IVec S16 32) a x).toNat < S8x2048.size a := fun v3 v4 v5 v6 v7 v8 v9 v10 v450 k1_hw18 => k1_hw18.2.2.1
theorem k1_idx140_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v6, v450] : Fin 2 → IVec S16 32) a x).toNat < S8x2048.size a := fun v3 v4 v5 v6 v7 v8 v9 v10 v450 k1_hw18 => k1_hw18.2.2.2.1
theorem k1_idx141_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v7, v450] : Fin 2 → IVec S16 32) a x).toNat < S8x2048.size a := fun v3 v4 v5 v6 v7 v8 v9 v10 v450 k1_hw18 => k1_hw18.2.2.2.2.1
theorem k1_idx142_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v8, v450] : Fin 2 → IVec S16 32) a x).toNat < S8x2048.size a := fun v3 v4 v5 v6 v7 v8 v9 v10 v450 k1_hw18 => k1_hw18.2.2.2.2.2.1
theorem k1_idx143_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v9, v450] : Fin 2 → IVec S16 32) a x).toNat < S8x2048.size a := fun v3 v4 v5 v6 v7 v8 v9 v10 v450 k1_hw18 => k1_hw18.2.2.2.2.2.2.1
theorem k1_idx144_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k1_hw18 : k1_chk18 v3 v4 v5 v6 v7 v8 v9 v10 v450), ∀ a x, ((![v10, v450] : Fin 2 → IVec S16 32) a x).toNat < S8x2048.size a := fun v3 v4 v5 v6 v7 v8 v9 v10 v450 k1_hw18 => k1_hw18.2.2.2.2.2.2.2

def k1_chk19 (v3 : IVec S16 32) (v4 : IVec S16 32) (v5 : IVec S16 32) (v6 : IVec S16 32) (v7 : IVec S16 32) (v8 : IVec S16 32) (v9 : IVec S16 32) (v10 : IVec S16 32) (v453 : IVec S16 32) : Prop :=
  (∀ a x, ((![v3, v453] : Fin 2 → IVec S16 32) a x).toNat < S8x2048.size a) ∧
  (∀ a x, ((![v4, v453] : Fin 2 → IVec S16 32) a x).toNat < S8x2048.size a) ∧
  (∀ a x, ((![v5, v453] : Fin 2 → IVec S16 32) a x).toNat < S8x2048.size a) ∧
  (∀ a x, ((![v6, v453] : Fin 2 → IVec S16 32) a x).toNat < S8x2048.size a) ∧
  (∀ a x, ((![v7, v453] : Fin 2 → IVec S16 32) a x).toNat < S8x2048.size a) ∧
  (∀ a x, ((![v8, v453] : Fin 2 → IVec S16 32) a x).toNat < S8x2048.size a) ∧
  (∀ a x, ((![v9, v453] : Fin 2 → IVec S16 32) a x).toNat < S8x2048.size a) ∧
  (∀ a x, ((![v10, v453] : Fin 2 → IVec S16 32) a x).toNat < S8x2048.size a)
theorem k1_idx145_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v3, v453] : Fin 2 → IVec S16 32) a x).toNat < S8x2048.size a := fun v3 v4 v5 v6 v7 v8 v9 v10 v453 k1_hw19 => k1_hw19.1
theorem k1_idx146_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v4, v453] : Fin 2 → IVec S16 32) a x).toNat < S8x2048.size a := fun v3 v4 v5 v6 v7 v8 v9 v10 v453 k1_hw19 => k1_hw19.2.1
theorem k1_idx147_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v5, v453] : Fin 2 → IVec S16 32) a x).toNat < S8x2048.size a := fun v3 v4 v5 v6 v7 v8 v9 v10 v453 k1_hw19 => k1_hw19.2.2.1
theorem k1_idx148_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v6, v453] : Fin 2 → IVec S16 32) a x).toNat < S8x2048.size a := fun v3 v4 v5 v6 v7 v8 v9 v10 v453 k1_hw19 => k1_hw19.2.2.2.1
theorem k1_idx149_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v7, v453] : Fin 2 → IVec S16 32) a x).toNat < S8x2048.size a := fun v3 v4 v5 v6 v7 v8 v9 v10 v453 k1_hw19 => k1_hw19.2.2.2.2.1
theorem k1_idx150_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v8, v453] : Fin 2 → IVec S16 32) a x).toNat < S8x2048.size a := fun v3 v4 v5 v6 v7 v8 v9 v10 v453 k1_hw19 => k1_hw19.2.2.2.2.2.1
theorem k1_idx151_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v9, v453] : Fin 2 → IVec S16 32) a x).toNat < S8x2048.size a := fun v3 v4 v5 v6 v7 v8 v9 v10 v453 k1_hw19 => k1_hw19.2.2.2.2.2.2.1
theorem k1_idx152_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k1_hw19 : k1_chk19 v3 v4 v5 v6 v7 v8 v9 v10 v453), ∀ a x, ((![v10, v453] : Fin 2 → IVec S16 32) a x).toNat < S8x2048.size a := fun v3 v4 v5 v6 v7 v8 v9 v10 v453 k1_hw19 => k1_hw19.2.2.2.2.2.2.2

def k1_chk20 (v3 : IVec S16 32) (v4 : IVec S16 32) (v5 : IVec S16 32) (v6 : IVec S16 32) (v7 : IVec S16 32) (v8 : IVec S16 32) (v9 : IVec S16 32) (v10 : IVec S16 32) (v456 : IVec S16 32) : Prop :=
  (∀ a x, ((![v3, v456] : Fin 2 → IVec S16 32) a x).toNat < S8x2048.size a) ∧
  (∀ a x, ((![v4, v456] : Fin 2 → IVec S16 32) a x).toNat < S8x2048.size a) ∧
  (∀ a x, ((![v5, v456] : Fin 2 → IVec S16 32) a x).toNat < S8x2048.size a) ∧
  (∀ a x, ((![v6, v456] : Fin 2 → IVec S16 32) a x).toNat < S8x2048.size a) ∧
  (∀ a x, ((![v7, v456] : Fin 2 → IVec S16 32) a x).toNat < S8x2048.size a) ∧
  (∀ a x, ((![v8, v456] : Fin 2 → IVec S16 32) a x).toNat < S8x2048.size a) ∧
  (∀ a x, ((![v9, v456] : Fin 2 → IVec S16 32) a x).toNat < S8x2048.size a) ∧
  (∀ a x, ((![v10, v456] : Fin 2 → IVec S16 32) a x).toNat < S8x2048.size a)
theorem k1_idx153_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v3, v456] : Fin 2 → IVec S16 32) a x).toNat < S8x2048.size a := fun v3 v4 v5 v6 v7 v8 v9 v10 v456 k1_hw20 => k1_hw20.1
theorem k1_idx154_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v4, v456] : Fin 2 → IVec S16 32) a x).toNat < S8x2048.size a := fun v3 v4 v5 v6 v7 v8 v9 v10 v456 k1_hw20 => k1_hw20.2.1
theorem k1_idx155_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v5, v456] : Fin 2 → IVec S16 32) a x).toNat < S8x2048.size a := fun v3 v4 v5 v6 v7 v8 v9 v10 v456 k1_hw20 => k1_hw20.2.2.1
theorem k1_idx156_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v6, v456] : Fin 2 → IVec S16 32) a x).toNat < S8x2048.size a := fun v3 v4 v5 v6 v7 v8 v9 v10 v456 k1_hw20 => k1_hw20.2.2.2.1
theorem k1_idx157_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v7, v456] : Fin 2 → IVec S16 32) a x).toNat < S8x2048.size a := fun v3 v4 v5 v6 v7 v8 v9 v10 v456 k1_hw20 => k1_hw20.2.2.2.2.1
theorem k1_idx158_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v8, v456] : Fin 2 → IVec S16 32) a x).toNat < S8x2048.size a := fun v3 v4 v5 v6 v7 v8 v9 v10 v456 k1_hw20 => k1_hw20.2.2.2.2.2.1
theorem k1_idx159_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v9, v456] : Fin 2 → IVec S16 32) a x).toNat < S8x2048.size a := fun v3 v4 v5 v6 v7 v8 v9 v10 v456 k1_hw20 => k1_hw20.2.2.2.2.2.2.1
theorem k1_idx160_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k1_hw20 : k1_chk20 v3 v4 v5 v6 v7 v8 v9 v10 v456), ∀ a x, ((![v10, v456] : Fin 2 → IVec S16 32) a x).toNat < S8x2048.size a := fun v3 v4 v5 v6 v7 v8 v9 v10 v456 k1_hw20 => k1_hw20.2.2.2.2.2.2.2
def k1_off22 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_347 : BitVec 32 := 2#32
  let v553 : BitVec 32 := Scalar.addi v12 c2_i32_347
  let v554 : Index := Scalar.indexCast v553
  let c64_348 : Index := 64#32
  ![v554.toNat, 64]
def k1_off23 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_349 : BitVec 32 := 2#32
  let v556 : BitVec 32 := Scalar.addi v12 c2_i32_349
  let v557 : Index := Scalar.indexCast v556
  let c80_350 : Index := 80#32
  ![v557.toNat, 80]
def k1_off24 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_351 : BitVec 32 := 2#32
  let v559 : BitVec 32 := Scalar.addi v12 c2_i32_351
  let v560 : Index := Scalar.indexCast v559
  let c96_352 : Index := 96#32
  ![v560.toNat, 96]
def k1_off25 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c2_i32_353 : BitVec 32 := 2#32
  let v562 : BitVec 32 := Scalar.addi v12 c2_i32_353
  let v563 : Index := Scalar.indexCast v562
  let c112_354 : Index := 112#32
  ![v563.toNat, 112]

def k1_chk21 (v3 : IVec S16 32) (v4 : IVec S16 32) (v5 : IVec S16 32) (v6 : IVec S16 32) (v7 : IVec S16 32) (v8 : IVec S16 32) (v9 : IVec S16 32) (v10 : IVec S16 32) (v555 : IVec S16 32) : Prop :=
  (∀ a x, ((![v3, v555] : Fin 2 → IVec S16 32) a x).toNat < S8x2048.size a) ∧
  (∀ a x, ((![v4, v555] : Fin 2 → IVec S16 32) a x).toNat < S8x2048.size a) ∧
  (∀ a x, ((![v5, v555] : Fin 2 → IVec S16 32) a x).toNat < S8x2048.size a) ∧
  (∀ a x, ((![v6, v555] : Fin 2 → IVec S16 32) a x).toNat < S8x2048.size a) ∧
  (∀ a x, ((![v7, v555] : Fin 2 → IVec S16 32) a x).toNat < S8x2048.size a) ∧
  (∀ a x, ((![v8, v555] : Fin 2 → IVec S16 32) a x).toNat < S8x2048.size a) ∧
  (∀ a x, ((![v9, v555] : Fin 2 → IVec S16 32) a x).toNat < S8x2048.size a) ∧
  (∀ a x, ((![v10, v555] : Fin 2 → IVec S16 32) a x).toNat < S8x2048.size a)
theorem k1_idx161_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v3, v555] : Fin 2 → IVec S16 32) a x).toNat < S8x2048.size a := fun v3 v4 v5 v6 v7 v8 v9 v10 v555 k1_hw21 => k1_hw21.1
theorem k1_idx162_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v4, v555] : Fin 2 → IVec S16 32) a x).toNat < S8x2048.size a := fun v3 v4 v5 v6 v7 v8 v9 v10 v555 k1_hw21 => k1_hw21.2.1
theorem k1_idx163_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v5, v555] : Fin 2 → IVec S16 32) a x).toNat < S8x2048.size a := fun v3 v4 v5 v6 v7 v8 v9 v10 v555 k1_hw21 => k1_hw21.2.2.1
theorem k1_idx164_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v6, v555] : Fin 2 → IVec S16 32) a x).toNat < S8x2048.size a := fun v3 v4 v5 v6 v7 v8 v9 v10 v555 k1_hw21 => k1_hw21.2.2.2.1
theorem k1_idx165_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v7, v555] : Fin 2 → IVec S16 32) a x).toNat < S8x2048.size a := fun v3 v4 v5 v6 v7 v8 v9 v10 v555 k1_hw21 => k1_hw21.2.2.2.2.1
theorem k1_idx166_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v8, v555] : Fin 2 → IVec S16 32) a x).toNat < S8x2048.size a := fun v3 v4 v5 v6 v7 v8 v9 v10 v555 k1_hw21 => k1_hw21.2.2.2.2.2.1
theorem k1_idx167_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v9, v555] : Fin 2 → IVec S16 32) a x).toNat < S8x2048.size a := fun v3 v4 v5 v6 v7 v8 v9 v10 v555 k1_hw21 => k1_hw21.2.2.2.2.2.2.1
theorem k1_idx168_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k1_hw21 : k1_chk21 v3 v4 v5 v6 v7 v8 v9 v10 v555), ∀ a x, ((![v10, v555] : Fin 2 → IVec S16 32) a x).toNat < S8x2048.size a := fun v3 v4 v5 v6 v7 v8 v9 v10 v555 k1_hw21 => k1_hw21.2.2.2.2.2.2.2

def k1_chk22 (v3 : IVec S16 32) (v4 : IVec S16 32) (v5 : IVec S16 32) (v6 : IVec S16 32) (v7 : IVec S16 32) (v8 : IVec S16 32) (v9 : IVec S16 32) (v10 : IVec S16 32) (v558 : IVec S16 32) : Prop :=
  (∀ a x, ((![v3, v558] : Fin 2 → IVec S16 32) a x).toNat < S8x2048.size a) ∧
  (∀ a x, ((![v4, v558] : Fin 2 → IVec S16 32) a x).toNat < S8x2048.size a) ∧
  (∀ a x, ((![v5, v558] : Fin 2 → IVec S16 32) a x).toNat < S8x2048.size a) ∧
  (∀ a x, ((![v6, v558] : Fin 2 → IVec S16 32) a x).toNat < S8x2048.size a) ∧
  (∀ a x, ((![v7, v558] : Fin 2 → IVec S16 32) a x).toNat < S8x2048.size a) ∧
  (∀ a x, ((![v8, v558] : Fin 2 → IVec S16 32) a x).toNat < S8x2048.size a) ∧
  (∀ a x, ((![v9, v558] : Fin 2 → IVec S16 32) a x).toNat < S8x2048.size a) ∧
  (∀ a x, ((![v10, v558] : Fin 2 → IVec S16 32) a x).toNat < S8x2048.size a)
theorem k1_idx169_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v3, v558] : Fin 2 → IVec S16 32) a x).toNat < S8x2048.size a := fun v3 v4 v5 v6 v7 v8 v9 v10 v558 k1_hw22 => k1_hw22.1
theorem k1_idx170_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v4, v558] : Fin 2 → IVec S16 32) a x).toNat < S8x2048.size a := fun v3 v4 v5 v6 v7 v8 v9 v10 v558 k1_hw22 => k1_hw22.2.1
theorem k1_idx171_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v5, v558] : Fin 2 → IVec S16 32) a x).toNat < S8x2048.size a := fun v3 v4 v5 v6 v7 v8 v9 v10 v558 k1_hw22 => k1_hw22.2.2.1
theorem k1_idx172_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v6, v558] : Fin 2 → IVec S16 32) a x).toNat < S8x2048.size a := fun v3 v4 v5 v6 v7 v8 v9 v10 v558 k1_hw22 => k1_hw22.2.2.2.1
theorem k1_idx173_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v7, v558] : Fin 2 → IVec S16 32) a x).toNat < S8x2048.size a := fun v3 v4 v5 v6 v7 v8 v9 v10 v558 k1_hw22 => k1_hw22.2.2.2.2.1
theorem k1_idx174_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v8, v558] : Fin 2 → IVec S16 32) a x).toNat < S8x2048.size a := fun v3 v4 v5 v6 v7 v8 v9 v10 v558 k1_hw22 => k1_hw22.2.2.2.2.2.1
theorem k1_idx175_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v9, v558] : Fin 2 → IVec S16 32) a x).toNat < S8x2048.size a := fun v3 v4 v5 v6 v7 v8 v9 v10 v558 k1_hw22 => k1_hw22.2.2.2.2.2.2.1
theorem k1_idx176_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k1_hw22 : k1_chk22 v3 v4 v5 v6 v7 v8 v9 v10 v558), ∀ a x, ((![v10, v558] : Fin 2 → IVec S16 32) a x).toNat < S8x2048.size a := fun v3 v4 v5 v6 v7 v8 v9 v10 v558 k1_hw22 => k1_hw22.2.2.2.2.2.2.2

def k1_chk23 (v3 : IVec S16 32) (v4 : IVec S16 32) (v5 : IVec S16 32) (v6 : IVec S16 32) (v7 : IVec S16 32) (v8 : IVec S16 32) (v9 : IVec S16 32) (v10 : IVec S16 32) (v561 : IVec S16 32) : Prop :=
  (∀ a x, ((![v3, v561] : Fin 2 → IVec S16 32) a x).toNat < S8x2048.size a) ∧
  (∀ a x, ((![v4, v561] : Fin 2 → IVec S16 32) a x).toNat < S8x2048.size a) ∧
  (∀ a x, ((![v5, v561] : Fin 2 → IVec S16 32) a x).toNat < S8x2048.size a) ∧
  (∀ a x, ((![v6, v561] : Fin 2 → IVec S16 32) a x).toNat < S8x2048.size a) ∧
  (∀ a x, ((![v7, v561] : Fin 2 → IVec S16 32) a x).toNat < S8x2048.size a) ∧
  (∀ a x, ((![v8, v561] : Fin 2 → IVec S16 32) a x).toNat < S8x2048.size a) ∧
  (∀ a x, ((![v9, v561] : Fin 2 → IVec S16 32) a x).toNat < S8x2048.size a) ∧
  (∀ a x, ((![v10, v561] : Fin 2 → IVec S16 32) a x).toNat < S8x2048.size a)
theorem k1_idx177_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v3, v561] : Fin 2 → IVec S16 32) a x).toNat < S8x2048.size a := fun v3 v4 v5 v6 v7 v8 v9 v10 v561 k1_hw23 => k1_hw23.1
theorem k1_idx178_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v4, v561] : Fin 2 → IVec S16 32) a x).toNat < S8x2048.size a := fun v3 v4 v5 v6 v7 v8 v9 v10 v561 k1_hw23 => k1_hw23.2.1
theorem k1_idx179_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v5, v561] : Fin 2 → IVec S16 32) a x).toNat < S8x2048.size a := fun v3 v4 v5 v6 v7 v8 v9 v10 v561 k1_hw23 => k1_hw23.2.2.1
theorem k1_idx180_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v6, v561] : Fin 2 → IVec S16 32) a x).toNat < S8x2048.size a := fun v3 v4 v5 v6 v7 v8 v9 v10 v561 k1_hw23 => k1_hw23.2.2.2.1
theorem k1_idx181_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v7, v561] : Fin 2 → IVec S16 32) a x).toNat < S8x2048.size a := fun v3 v4 v5 v6 v7 v8 v9 v10 v561 k1_hw23 => k1_hw23.2.2.2.2.1
theorem k1_idx182_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v8, v561] : Fin 2 → IVec S16 32) a x).toNat < S8x2048.size a := fun v3 v4 v5 v6 v7 v8 v9 v10 v561 k1_hw23 => k1_hw23.2.2.2.2.2.1
theorem k1_idx183_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v9, v561] : Fin 2 → IVec S16 32) a x).toNat < S8x2048.size a := fun v3 v4 v5 v6 v7 v8 v9 v10 v561 k1_hw23 => k1_hw23.2.2.2.2.2.2.1
theorem k1_idx184_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k1_hw23 : k1_chk23 v3 v4 v5 v6 v7 v8 v9 v10 v561), ∀ a x, ((![v10, v561] : Fin 2 → IVec S16 32) a x).toNat < S8x2048.size a := fun v3 v4 v5 v6 v7 v8 v9 v10 v561 k1_hw23 => k1_hw23.2.2.2.2.2.2.2

def k1_chk24 (v3 : IVec S16 32) (v4 : IVec S16 32) (v5 : IVec S16 32) (v6 : IVec S16 32) (v7 : IVec S16 32) (v8 : IVec S16 32) (v9 : IVec S16 32) (v10 : IVec S16 32) (v564 : IVec S16 32) : Prop :=
  (∀ a x, ((![v3, v564] : Fin 2 → IVec S16 32) a x).toNat < S8x2048.size a) ∧
  (∀ a x, ((![v4, v564] : Fin 2 → IVec S16 32) a x).toNat < S8x2048.size a) ∧
  (∀ a x, ((![v5, v564] : Fin 2 → IVec S16 32) a x).toNat < S8x2048.size a) ∧
  (∀ a x, ((![v6, v564] : Fin 2 → IVec S16 32) a x).toNat < S8x2048.size a) ∧
  (∀ a x, ((![v7, v564] : Fin 2 → IVec S16 32) a x).toNat < S8x2048.size a) ∧
  (∀ a x, ((![v8, v564] : Fin 2 → IVec S16 32) a x).toNat < S8x2048.size a) ∧
  (∀ a x, ((![v9, v564] : Fin 2 → IVec S16 32) a x).toNat < S8x2048.size a) ∧
  (∀ a x, ((![v10, v564] : Fin 2 → IVec S16 32) a x).toNat < S8x2048.size a)
theorem k1_idx185_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v3, v564] : Fin 2 → IVec S16 32) a x).toNat < S8x2048.size a := fun v3 v4 v5 v6 v7 v8 v9 v10 v564 k1_hw24 => k1_hw24.1
theorem k1_idx186_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v4, v564] : Fin 2 → IVec S16 32) a x).toNat < S8x2048.size a := fun v3 v4 v5 v6 v7 v8 v9 v10 v564 k1_hw24 => k1_hw24.2.1
theorem k1_idx187_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v5, v564] : Fin 2 → IVec S16 32) a x).toNat < S8x2048.size a := fun v3 v4 v5 v6 v7 v8 v9 v10 v564 k1_hw24 => k1_hw24.2.2.1
theorem k1_idx188_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v6, v564] : Fin 2 → IVec S16 32) a x).toNat < S8x2048.size a := fun v3 v4 v5 v6 v7 v8 v9 v10 v564 k1_hw24 => k1_hw24.2.2.2.1
theorem k1_idx189_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v7, v564] : Fin 2 → IVec S16 32) a x).toNat < S8x2048.size a := fun v3 v4 v5 v6 v7 v8 v9 v10 v564 k1_hw24 => k1_hw24.2.2.2.2.1
theorem k1_idx190_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v8, v564] : Fin 2 → IVec S16 32) a x).toNat < S8x2048.size a := fun v3 v4 v5 v6 v7 v8 v9 v10 v564 k1_hw24 => k1_hw24.2.2.2.2.2.1
theorem k1_idx191_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v9, v564] : Fin 2 → IVec S16 32) a x).toNat < S8x2048.size a := fun v3 v4 v5 v6 v7 v8 v9 v10 v564 k1_hw24 => k1_hw24.2.2.2.2.2.2.1
theorem k1_idx192_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k1_hw24 : k1_chk24 v3 v4 v5 v6 v7 v8 v9 v10 v564), ∀ a x, ((![v10, v564] : Fin 2 → IVec S16 32) a x).toNat < S8x2048.size a := fun v3 v4 v5 v6 v7 v8 v9 v10 v564 k1_hw24 => k1_hw24.2.2.2.2.2.2.2
def k1_off26 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_415 : BitVec 32 := 3#32
  let v661 : BitVec 32 := Scalar.addi v12 c3_i32_415
  let v662 : Index := Scalar.indexCast v661
  let c0_416 : Index := 0#32
  ![v662.toNat, 0]
def k1_off27 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_417 : BitVec 32 := 3#32
  let v664 : BitVec 32 := Scalar.addi v12 c3_i32_417
  let v665 : Index := Scalar.indexCast v664
  let c16_418 : Index := 16#32
  ![v665.toNat, 16]
def k1_off28 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_419 : BitVec 32 := 3#32
  let v667 : BitVec 32 := Scalar.addi v12 c3_i32_419
  let v668 : Index := Scalar.indexCast v667
  let c32_420 : Index := 32#32
  ![v668.toNat, 32]
def k1_off29 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_421 : BitVec 32 := 3#32
  let v670 : BitVec 32 := Scalar.addi v12 c3_i32_421
  let v671 : Index := Scalar.indexCast v670
  let c48_422 : Index := 48#32
  ![v671.toNat, 48]

def k1_chk25 (v3 : IVec S16 32) (v4 : IVec S16 32) (v5 : IVec S16 32) (v6 : IVec S16 32) (v7 : IVec S16 32) (v8 : IVec S16 32) (v9 : IVec S16 32) (v10 : IVec S16 32) (v663 : IVec S16 32) : Prop :=
  (∀ a x, ((![v3, v663] : Fin 2 → IVec S16 32) a x).toNat < S8x2048.size a) ∧
  (∀ a x, ((![v4, v663] : Fin 2 → IVec S16 32) a x).toNat < S8x2048.size a) ∧
  (∀ a x, ((![v5, v663] : Fin 2 → IVec S16 32) a x).toNat < S8x2048.size a) ∧
  (∀ a x, ((![v6, v663] : Fin 2 → IVec S16 32) a x).toNat < S8x2048.size a) ∧
  (∀ a x, ((![v7, v663] : Fin 2 → IVec S16 32) a x).toNat < S8x2048.size a) ∧
  (∀ a x, ((![v8, v663] : Fin 2 → IVec S16 32) a x).toNat < S8x2048.size a) ∧
  (∀ a x, ((![v9, v663] : Fin 2 → IVec S16 32) a x).toNat < S8x2048.size a) ∧
  (∀ a x, ((![v10, v663] : Fin 2 → IVec S16 32) a x).toNat < S8x2048.size a)
theorem k1_idx193_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v3, v663] : Fin 2 → IVec S16 32) a x).toNat < S8x2048.size a := fun v3 v4 v5 v6 v7 v8 v9 v10 v663 k1_hw25 => k1_hw25.1
theorem k1_idx194_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v4, v663] : Fin 2 → IVec S16 32) a x).toNat < S8x2048.size a := fun v3 v4 v5 v6 v7 v8 v9 v10 v663 k1_hw25 => k1_hw25.2.1
theorem k1_idx195_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v5, v663] : Fin 2 → IVec S16 32) a x).toNat < S8x2048.size a := fun v3 v4 v5 v6 v7 v8 v9 v10 v663 k1_hw25 => k1_hw25.2.2.1
theorem k1_idx196_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v6, v663] : Fin 2 → IVec S16 32) a x).toNat < S8x2048.size a := fun v3 v4 v5 v6 v7 v8 v9 v10 v663 k1_hw25 => k1_hw25.2.2.2.1
theorem k1_idx197_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v7, v663] : Fin 2 → IVec S16 32) a x).toNat < S8x2048.size a := fun v3 v4 v5 v6 v7 v8 v9 v10 v663 k1_hw25 => k1_hw25.2.2.2.2.1
theorem k1_idx198_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v8, v663] : Fin 2 → IVec S16 32) a x).toNat < S8x2048.size a := fun v3 v4 v5 v6 v7 v8 v9 v10 v663 k1_hw25 => k1_hw25.2.2.2.2.2.1
theorem k1_idx199_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v9, v663] : Fin 2 → IVec S16 32) a x).toNat < S8x2048.size a := fun v3 v4 v5 v6 v7 v8 v9 v10 v663 k1_hw25 => k1_hw25.2.2.2.2.2.2.1
theorem k1_idx200_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k1_hw25 : k1_chk25 v3 v4 v5 v6 v7 v8 v9 v10 v663), ∀ a x, ((![v10, v663] : Fin 2 → IVec S16 32) a x).toNat < S8x2048.size a := fun v3 v4 v5 v6 v7 v8 v9 v10 v663 k1_hw25 => k1_hw25.2.2.2.2.2.2.2

def k1_chk26 (v3 : IVec S16 32) (v4 : IVec S16 32) (v5 : IVec S16 32) (v6 : IVec S16 32) (v7 : IVec S16 32) (v8 : IVec S16 32) (v9 : IVec S16 32) (v10 : IVec S16 32) (v666 : IVec S16 32) : Prop :=
  (∀ a x, ((![v3, v666] : Fin 2 → IVec S16 32) a x).toNat < S8x2048.size a) ∧
  (∀ a x, ((![v4, v666] : Fin 2 → IVec S16 32) a x).toNat < S8x2048.size a) ∧
  (∀ a x, ((![v5, v666] : Fin 2 → IVec S16 32) a x).toNat < S8x2048.size a) ∧
  (∀ a x, ((![v6, v666] : Fin 2 → IVec S16 32) a x).toNat < S8x2048.size a) ∧
  (∀ a x, ((![v7, v666] : Fin 2 → IVec S16 32) a x).toNat < S8x2048.size a) ∧
  (∀ a x, ((![v8, v666] : Fin 2 → IVec S16 32) a x).toNat < S8x2048.size a) ∧
  (∀ a x, ((![v9, v666] : Fin 2 → IVec S16 32) a x).toNat < S8x2048.size a) ∧
  (∀ a x, ((![v10, v666] : Fin 2 → IVec S16 32) a x).toNat < S8x2048.size a)
theorem k1_idx201_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v3, v666] : Fin 2 → IVec S16 32) a x).toNat < S8x2048.size a := fun v3 v4 v5 v6 v7 v8 v9 v10 v666 k1_hw26 => k1_hw26.1
theorem k1_idx202_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v4, v666] : Fin 2 → IVec S16 32) a x).toNat < S8x2048.size a := fun v3 v4 v5 v6 v7 v8 v9 v10 v666 k1_hw26 => k1_hw26.2.1
theorem k1_idx203_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v5, v666] : Fin 2 → IVec S16 32) a x).toNat < S8x2048.size a := fun v3 v4 v5 v6 v7 v8 v9 v10 v666 k1_hw26 => k1_hw26.2.2.1
theorem k1_idx204_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v6, v666] : Fin 2 → IVec S16 32) a x).toNat < S8x2048.size a := fun v3 v4 v5 v6 v7 v8 v9 v10 v666 k1_hw26 => k1_hw26.2.2.2.1
theorem k1_idx205_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v7, v666] : Fin 2 → IVec S16 32) a x).toNat < S8x2048.size a := fun v3 v4 v5 v6 v7 v8 v9 v10 v666 k1_hw26 => k1_hw26.2.2.2.2.1
theorem k1_idx206_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v8, v666] : Fin 2 → IVec S16 32) a x).toNat < S8x2048.size a := fun v3 v4 v5 v6 v7 v8 v9 v10 v666 k1_hw26 => k1_hw26.2.2.2.2.2.1
theorem k1_idx207_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v9, v666] : Fin 2 → IVec S16 32) a x).toNat < S8x2048.size a := fun v3 v4 v5 v6 v7 v8 v9 v10 v666 k1_hw26 => k1_hw26.2.2.2.2.2.2.1
theorem k1_idx208_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k1_hw26 : k1_chk26 v3 v4 v5 v6 v7 v8 v9 v10 v666), ∀ a x, ((![v10, v666] : Fin 2 → IVec S16 32) a x).toNat < S8x2048.size a := fun v3 v4 v5 v6 v7 v8 v9 v10 v666 k1_hw26 => k1_hw26.2.2.2.2.2.2.2

def k1_chk27 (v3 : IVec S16 32) (v4 : IVec S16 32) (v5 : IVec S16 32) (v6 : IVec S16 32) (v7 : IVec S16 32) (v8 : IVec S16 32) (v9 : IVec S16 32) (v10 : IVec S16 32) (v669 : IVec S16 32) : Prop :=
  (∀ a x, ((![v3, v669] : Fin 2 → IVec S16 32) a x).toNat < S8x2048.size a) ∧
  (∀ a x, ((![v4, v669] : Fin 2 → IVec S16 32) a x).toNat < S8x2048.size a) ∧
  (∀ a x, ((![v5, v669] : Fin 2 → IVec S16 32) a x).toNat < S8x2048.size a) ∧
  (∀ a x, ((![v6, v669] : Fin 2 → IVec S16 32) a x).toNat < S8x2048.size a) ∧
  (∀ a x, ((![v7, v669] : Fin 2 → IVec S16 32) a x).toNat < S8x2048.size a) ∧
  (∀ a x, ((![v8, v669] : Fin 2 → IVec S16 32) a x).toNat < S8x2048.size a) ∧
  (∀ a x, ((![v9, v669] : Fin 2 → IVec S16 32) a x).toNat < S8x2048.size a) ∧
  (∀ a x, ((![v10, v669] : Fin 2 → IVec S16 32) a x).toNat < S8x2048.size a)
theorem k1_idx209_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v3, v669] : Fin 2 → IVec S16 32) a x).toNat < S8x2048.size a := fun v3 v4 v5 v6 v7 v8 v9 v10 v669 k1_hw27 => k1_hw27.1
theorem k1_idx210_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v4, v669] : Fin 2 → IVec S16 32) a x).toNat < S8x2048.size a := fun v3 v4 v5 v6 v7 v8 v9 v10 v669 k1_hw27 => k1_hw27.2.1
theorem k1_idx211_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v5, v669] : Fin 2 → IVec S16 32) a x).toNat < S8x2048.size a := fun v3 v4 v5 v6 v7 v8 v9 v10 v669 k1_hw27 => k1_hw27.2.2.1
theorem k1_idx212_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v6, v669] : Fin 2 → IVec S16 32) a x).toNat < S8x2048.size a := fun v3 v4 v5 v6 v7 v8 v9 v10 v669 k1_hw27 => k1_hw27.2.2.2.1
theorem k1_idx213_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v7, v669] : Fin 2 → IVec S16 32) a x).toNat < S8x2048.size a := fun v3 v4 v5 v6 v7 v8 v9 v10 v669 k1_hw27 => k1_hw27.2.2.2.2.1
theorem k1_idx214_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v8, v669] : Fin 2 → IVec S16 32) a x).toNat < S8x2048.size a := fun v3 v4 v5 v6 v7 v8 v9 v10 v669 k1_hw27 => k1_hw27.2.2.2.2.2.1
theorem k1_idx215_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v9, v669] : Fin 2 → IVec S16 32) a x).toNat < S8x2048.size a := fun v3 v4 v5 v6 v7 v8 v9 v10 v669 k1_hw27 => k1_hw27.2.2.2.2.2.2.1
theorem k1_idx216_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k1_hw27 : k1_chk27 v3 v4 v5 v6 v7 v8 v9 v10 v669), ∀ a x, ((![v10, v669] : Fin 2 → IVec S16 32) a x).toNat < S8x2048.size a := fun v3 v4 v5 v6 v7 v8 v9 v10 v669 k1_hw27 => k1_hw27.2.2.2.2.2.2.2

def k1_chk28 (v3 : IVec S16 32) (v4 : IVec S16 32) (v5 : IVec S16 32) (v6 : IVec S16 32) (v7 : IVec S16 32) (v8 : IVec S16 32) (v9 : IVec S16 32) (v10 : IVec S16 32) (v672 : IVec S16 32) : Prop :=
  (∀ a x, ((![v3, v672] : Fin 2 → IVec S16 32) a x).toNat < S8x2048.size a) ∧
  (∀ a x, ((![v4, v672] : Fin 2 → IVec S16 32) a x).toNat < S8x2048.size a) ∧
  (∀ a x, ((![v5, v672] : Fin 2 → IVec S16 32) a x).toNat < S8x2048.size a) ∧
  (∀ a x, ((![v6, v672] : Fin 2 → IVec S16 32) a x).toNat < S8x2048.size a) ∧
  (∀ a x, ((![v7, v672] : Fin 2 → IVec S16 32) a x).toNat < S8x2048.size a) ∧
  (∀ a x, ((![v8, v672] : Fin 2 → IVec S16 32) a x).toNat < S8x2048.size a) ∧
  (∀ a x, ((![v9, v672] : Fin 2 → IVec S16 32) a x).toNat < S8x2048.size a) ∧
  (∀ a x, ((![v10, v672] : Fin 2 → IVec S16 32) a x).toNat < S8x2048.size a)
theorem k1_idx217_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v3, v672] : Fin 2 → IVec S16 32) a x).toNat < S8x2048.size a := fun v3 v4 v5 v6 v7 v8 v9 v10 v672 k1_hw28 => k1_hw28.1
theorem k1_idx218_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v4, v672] : Fin 2 → IVec S16 32) a x).toNat < S8x2048.size a := fun v3 v4 v5 v6 v7 v8 v9 v10 v672 k1_hw28 => k1_hw28.2.1
theorem k1_idx219_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v5, v672] : Fin 2 → IVec S16 32) a x).toNat < S8x2048.size a := fun v3 v4 v5 v6 v7 v8 v9 v10 v672 k1_hw28 => k1_hw28.2.2.1
theorem k1_idx220_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v6, v672] : Fin 2 → IVec S16 32) a x).toNat < S8x2048.size a := fun v3 v4 v5 v6 v7 v8 v9 v10 v672 k1_hw28 => k1_hw28.2.2.2.1
theorem k1_idx221_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v7, v672] : Fin 2 → IVec S16 32) a x).toNat < S8x2048.size a := fun v3 v4 v5 v6 v7 v8 v9 v10 v672 k1_hw28 => k1_hw28.2.2.2.2.1
theorem k1_idx222_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v8, v672] : Fin 2 → IVec S16 32) a x).toNat < S8x2048.size a := fun v3 v4 v5 v6 v7 v8 v9 v10 v672 k1_hw28 => k1_hw28.2.2.2.2.2.1
theorem k1_idx223_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v9, v672] : Fin 2 → IVec S16 32) a x).toNat < S8x2048.size a := fun v3 v4 v5 v6 v7 v8 v9 v10 v672 k1_hw28 => k1_hw28.2.2.2.2.2.2.1
theorem k1_idx224_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k1_hw28 : k1_chk28 v3 v4 v5 v6 v7 v8 v9 v10 v672), ∀ a x, ((![v10, v672] : Fin 2 → IVec S16 32) a x).toNat < S8x2048.size a := fun v3 v4 v5 v6 v7 v8 v9 v10 v672 k1_hw28 => k1_hw28.2.2.2.2.2.2.2
def k1_off30 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_483 : BitVec 32 := 3#32
  let v769 : BitVec 32 := Scalar.addi v12 c3_i32_483
  let v770 : Index := Scalar.indexCast v769
  let c64_484 : Index := 64#32
  ![v770.toNat, 64]
def k1_off31 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_485 : BitVec 32 := 3#32
  let v772 : BitVec 32 := Scalar.addi v12 c3_i32_485
  let v773 : Index := Scalar.indexCast v772
  let c80_486 : Index := 80#32
  ![v773.toNat, 80]
def k1_off32 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_487 : BitVec 32 := 3#32
  let v775 : BitVec 32 := Scalar.addi v12 c3_i32_487
  let v776 : Index := Scalar.indexCast v775
  let c96_488 : Index := 96#32
  ![v776.toNat, 96]
def k1_off33 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c3_i32_489 : BitVec 32 := 3#32
  let v778 : BitVec 32 := Scalar.addi v12 c3_i32_489
  let v779 : Index := Scalar.indexCast v778
  let c112_490 : Index := 112#32
  ![v779.toNat, 112]

def k1_chk29 (v3 : IVec S16 32) (v4 : IVec S16 32) (v5 : IVec S16 32) (v6 : IVec S16 32) (v7 : IVec S16 32) (v8 : IVec S16 32) (v9 : IVec S16 32) (v10 : IVec S16 32) (v771 : IVec S16 32) : Prop :=
  (∀ a x, ((![v3, v771] : Fin 2 → IVec S16 32) a x).toNat < S8x2048.size a) ∧
  (∀ a x, ((![v4, v771] : Fin 2 → IVec S16 32) a x).toNat < S8x2048.size a) ∧
  (∀ a x, ((![v5, v771] : Fin 2 → IVec S16 32) a x).toNat < S8x2048.size a) ∧
  (∀ a x, ((![v6, v771] : Fin 2 → IVec S16 32) a x).toNat < S8x2048.size a) ∧
  (∀ a x, ((![v7, v771] : Fin 2 → IVec S16 32) a x).toNat < S8x2048.size a) ∧
  (∀ a x, ((![v8, v771] : Fin 2 → IVec S16 32) a x).toNat < S8x2048.size a) ∧
  (∀ a x, ((![v9, v771] : Fin 2 → IVec S16 32) a x).toNat < S8x2048.size a) ∧
  (∀ a x, ((![v10, v771] : Fin 2 → IVec S16 32) a x).toNat < S8x2048.size a)
theorem k1_idx225_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v3, v771] : Fin 2 → IVec S16 32) a x).toNat < S8x2048.size a := fun v3 v4 v5 v6 v7 v8 v9 v10 v771 k1_hw29 => k1_hw29.1
theorem k1_idx226_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v4, v771] : Fin 2 → IVec S16 32) a x).toNat < S8x2048.size a := fun v3 v4 v5 v6 v7 v8 v9 v10 v771 k1_hw29 => k1_hw29.2.1
theorem k1_idx227_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v5, v771] : Fin 2 → IVec S16 32) a x).toNat < S8x2048.size a := fun v3 v4 v5 v6 v7 v8 v9 v10 v771 k1_hw29 => k1_hw29.2.2.1
theorem k1_idx228_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v6, v771] : Fin 2 → IVec S16 32) a x).toNat < S8x2048.size a := fun v3 v4 v5 v6 v7 v8 v9 v10 v771 k1_hw29 => k1_hw29.2.2.2.1
theorem k1_idx229_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v7, v771] : Fin 2 → IVec S16 32) a x).toNat < S8x2048.size a := fun v3 v4 v5 v6 v7 v8 v9 v10 v771 k1_hw29 => k1_hw29.2.2.2.2.1
theorem k1_idx230_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v8, v771] : Fin 2 → IVec S16 32) a x).toNat < S8x2048.size a := fun v3 v4 v5 v6 v7 v8 v9 v10 v771 k1_hw29 => k1_hw29.2.2.2.2.2.1
theorem k1_idx231_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v9, v771] : Fin 2 → IVec S16 32) a x).toNat < S8x2048.size a := fun v3 v4 v5 v6 v7 v8 v9 v10 v771 k1_hw29 => k1_hw29.2.2.2.2.2.2.1
theorem k1_idx232_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k1_hw29 : k1_chk29 v3 v4 v5 v6 v7 v8 v9 v10 v771), ∀ a x, ((![v10, v771] : Fin 2 → IVec S16 32) a x).toNat < S8x2048.size a := fun v3 v4 v5 v6 v7 v8 v9 v10 v771 k1_hw29 => k1_hw29.2.2.2.2.2.2.2

def k1_chk30 (v3 : IVec S16 32) (v4 : IVec S16 32) (v5 : IVec S16 32) (v6 : IVec S16 32) (v7 : IVec S16 32) (v8 : IVec S16 32) (v9 : IVec S16 32) (v10 : IVec S16 32) (v774 : IVec S16 32) : Prop :=
  (∀ a x, ((![v3, v774] : Fin 2 → IVec S16 32) a x).toNat < S8x2048.size a) ∧
  (∀ a x, ((![v4, v774] : Fin 2 → IVec S16 32) a x).toNat < S8x2048.size a) ∧
  (∀ a x, ((![v5, v774] : Fin 2 → IVec S16 32) a x).toNat < S8x2048.size a) ∧
  (∀ a x, ((![v6, v774] : Fin 2 → IVec S16 32) a x).toNat < S8x2048.size a) ∧
  (∀ a x, ((![v7, v774] : Fin 2 → IVec S16 32) a x).toNat < S8x2048.size a) ∧
  (∀ a x, ((![v8, v774] : Fin 2 → IVec S16 32) a x).toNat < S8x2048.size a) ∧
  (∀ a x, ((![v9, v774] : Fin 2 → IVec S16 32) a x).toNat < S8x2048.size a) ∧
  (∀ a x, ((![v10, v774] : Fin 2 → IVec S16 32) a x).toNat < S8x2048.size a)
theorem k1_idx233_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v3, v774] : Fin 2 → IVec S16 32) a x).toNat < S8x2048.size a := fun v3 v4 v5 v6 v7 v8 v9 v10 v774 k1_hw30 => k1_hw30.1
theorem k1_idx234_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v4, v774] : Fin 2 → IVec S16 32) a x).toNat < S8x2048.size a := fun v3 v4 v5 v6 v7 v8 v9 v10 v774 k1_hw30 => k1_hw30.2.1
theorem k1_idx235_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v5, v774] : Fin 2 → IVec S16 32) a x).toNat < S8x2048.size a := fun v3 v4 v5 v6 v7 v8 v9 v10 v774 k1_hw30 => k1_hw30.2.2.1
theorem k1_idx236_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v6, v774] : Fin 2 → IVec S16 32) a x).toNat < S8x2048.size a := fun v3 v4 v5 v6 v7 v8 v9 v10 v774 k1_hw30 => k1_hw30.2.2.2.1
theorem k1_idx237_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v7, v774] : Fin 2 → IVec S16 32) a x).toNat < S8x2048.size a := fun v3 v4 v5 v6 v7 v8 v9 v10 v774 k1_hw30 => k1_hw30.2.2.2.2.1
theorem k1_idx238_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v8, v774] : Fin 2 → IVec S16 32) a x).toNat < S8x2048.size a := fun v3 v4 v5 v6 v7 v8 v9 v10 v774 k1_hw30 => k1_hw30.2.2.2.2.2.1
theorem k1_idx239_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v9, v774] : Fin 2 → IVec S16 32) a x).toNat < S8x2048.size a := fun v3 v4 v5 v6 v7 v8 v9 v10 v774 k1_hw30 => k1_hw30.2.2.2.2.2.2.1
theorem k1_idx240_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k1_hw30 : k1_chk30 v3 v4 v5 v6 v7 v8 v9 v10 v774), ∀ a x, ((![v10, v774] : Fin 2 → IVec S16 32) a x).toNat < S8x2048.size a := fun v3 v4 v5 v6 v7 v8 v9 v10 v774 k1_hw30 => k1_hw30.2.2.2.2.2.2.2

def k1_chk31 (v3 : IVec S16 32) (v4 : IVec S16 32) (v5 : IVec S16 32) (v6 : IVec S16 32) (v7 : IVec S16 32) (v8 : IVec S16 32) (v9 : IVec S16 32) (v10 : IVec S16 32) (v777 : IVec S16 32) : Prop :=
  (∀ a x, ((![v3, v777] : Fin 2 → IVec S16 32) a x).toNat < S8x2048.size a) ∧
  (∀ a x, ((![v4, v777] : Fin 2 → IVec S16 32) a x).toNat < S8x2048.size a) ∧
  (∀ a x, ((![v5, v777] : Fin 2 → IVec S16 32) a x).toNat < S8x2048.size a) ∧
  (∀ a x, ((![v6, v777] : Fin 2 → IVec S16 32) a x).toNat < S8x2048.size a) ∧
  (∀ a x, ((![v7, v777] : Fin 2 → IVec S16 32) a x).toNat < S8x2048.size a) ∧
  (∀ a x, ((![v8, v777] : Fin 2 → IVec S16 32) a x).toNat < S8x2048.size a) ∧
  (∀ a x, ((![v9, v777] : Fin 2 → IVec S16 32) a x).toNat < S8x2048.size a) ∧
  (∀ a x, ((![v10, v777] : Fin 2 → IVec S16 32) a x).toNat < S8x2048.size a)
theorem k1_idx241_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v3, v777] : Fin 2 → IVec S16 32) a x).toNat < S8x2048.size a := fun v3 v4 v5 v6 v7 v8 v9 v10 v777 k1_hw31 => k1_hw31.1
theorem k1_idx242_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v4, v777] : Fin 2 → IVec S16 32) a x).toNat < S8x2048.size a := fun v3 v4 v5 v6 v7 v8 v9 v10 v777 k1_hw31 => k1_hw31.2.1
theorem k1_idx243_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v5, v777] : Fin 2 → IVec S16 32) a x).toNat < S8x2048.size a := fun v3 v4 v5 v6 v7 v8 v9 v10 v777 k1_hw31 => k1_hw31.2.2.1
theorem k1_idx244_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v6, v777] : Fin 2 → IVec S16 32) a x).toNat < S8x2048.size a := fun v3 v4 v5 v6 v7 v8 v9 v10 v777 k1_hw31 => k1_hw31.2.2.2.1
theorem k1_idx245_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v7, v777] : Fin 2 → IVec S16 32) a x).toNat < S8x2048.size a := fun v3 v4 v5 v6 v7 v8 v9 v10 v777 k1_hw31 => k1_hw31.2.2.2.2.1
theorem k1_idx246_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v8, v777] : Fin 2 → IVec S16 32) a x).toNat < S8x2048.size a := fun v3 v4 v5 v6 v7 v8 v9 v10 v777 k1_hw31 => k1_hw31.2.2.2.2.2.1
theorem k1_idx247_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v9, v777] : Fin 2 → IVec S16 32) a x).toNat < S8x2048.size a := fun v3 v4 v5 v6 v7 v8 v9 v10 v777 k1_hw31 => k1_hw31.2.2.2.2.2.2.1
theorem k1_idx248_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k1_hw31 : k1_chk31 v3 v4 v5 v6 v7 v8 v9 v10 v777), ∀ a x, ((![v10, v777] : Fin 2 → IVec S16 32) a x).toNat < S8x2048.size a := fun v3 v4 v5 v6 v7 v8 v9 v10 v777 k1_hw31 => k1_hw31.2.2.2.2.2.2.2

def k1_chk32 (v3 : IVec S16 32) (v4 : IVec S16 32) (v5 : IVec S16 32) (v6 : IVec S16 32) (v7 : IVec S16 32) (v8 : IVec S16 32) (v9 : IVec S16 32) (v10 : IVec S16 32) (v780 : IVec S16 32) : Prop :=
  (∀ a x, ((![v3, v780] : Fin 2 → IVec S16 32) a x).toNat < S8x2048.size a) ∧
  (∀ a x, ((![v4, v780] : Fin 2 → IVec S16 32) a x).toNat < S8x2048.size a) ∧
  (∀ a x, ((![v5, v780] : Fin 2 → IVec S16 32) a x).toNat < S8x2048.size a) ∧
  (∀ a x, ((![v6, v780] : Fin 2 → IVec S16 32) a x).toNat < S8x2048.size a) ∧
  (∀ a x, ((![v7, v780] : Fin 2 → IVec S16 32) a x).toNat < S8x2048.size a) ∧
  (∀ a x, ((![v8, v780] : Fin 2 → IVec S16 32) a x).toNat < S8x2048.size a) ∧
  (∀ a x, ((![v9, v780] : Fin 2 → IVec S16 32) a x).toNat < S8x2048.size a) ∧
  (∀ a x, ((![v10, v780] : Fin 2 → IVec S16 32) a x).toNat < S8x2048.size a)
theorem k1_idx249_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v3, v780] : Fin 2 → IVec S16 32) a x).toNat < S8x2048.size a := fun v3 v4 v5 v6 v7 v8 v9 v10 v780 k1_hw32 => k1_hw32.1
theorem k1_idx250_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v4, v780] : Fin 2 → IVec S16 32) a x).toNat < S8x2048.size a := fun v3 v4 v5 v6 v7 v8 v9 v10 v780 k1_hw32 => k1_hw32.2.1
theorem k1_idx251_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v5, v780] : Fin 2 → IVec S16 32) a x).toNat < S8x2048.size a := fun v3 v4 v5 v6 v7 v8 v9 v10 v780 k1_hw32 => k1_hw32.2.2.1
theorem k1_idx252_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v6, v780] : Fin 2 → IVec S16 32) a x).toNat < S8x2048.size a := fun v3 v4 v5 v6 v7 v8 v9 v10 v780 k1_hw32 => k1_hw32.2.2.2.1
theorem k1_idx253_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v7, v780] : Fin 2 → IVec S16 32) a x).toNat < S8x2048.size a := fun v3 v4 v5 v6 v7 v8 v9 v10 v780 k1_hw32 => k1_hw32.2.2.2.2.1
theorem k1_idx254_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v8, v780] : Fin 2 → IVec S16 32) a x).toNat < S8x2048.size a := fun v3 v4 v5 v6 v7 v8 v9 v10 v780 k1_hw32 => k1_hw32.2.2.2.2.2.1
theorem k1_idx255_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v9, v780] : Fin 2 → IVec S16 32) a x).toNat < S8x2048.size a := fun v3 v4 v5 v6 v7 v8 v9 v10 v780 k1_hw32 => k1_hw32.2.2.2.2.2.2.1
theorem k1_idx256_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k1_hw32 : k1_chk32 v3 v4 v5 v6 v7 v8 v9 v10 v780), ∀ a x, ((![v10, v780] : Fin 2 → IVec S16 32) a x).toNat < S8x2048.size a := fun v3 v4 v5 v6 v7 v8 v9 v10 v780 k1_hw32 => k1_hw32.2.2.2.2.2.2.2
def k1_off34 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_551 : BitVec 32 := 4#32
  let v877 : BitVec 32 := Scalar.addi v12 c4_i32_551
  let v878 : Index := Scalar.indexCast v877
  let c0_552 : Index := 0#32
  ![v878.toNat, 0]
def k1_off35 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_553 : BitVec 32 := 4#32
  let v880 : BitVec 32 := Scalar.addi v12 c4_i32_553
  let v881 : Index := Scalar.indexCast v880
  let c16_554 : Index := 16#32
  ![v881.toNat, 16]
def k1_off36 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_555 : BitVec 32 := 4#32
  let v883 : BitVec 32 := Scalar.addi v12 c4_i32_555
  let v884 : Index := Scalar.indexCast v883
  let c32_556 : Index := 32#32
  ![v884.toNat, 32]
def k1_off37 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_557 : BitVec 32 := 4#32
  let v886 : BitVec 32 := Scalar.addi v12 c4_i32_557
  let v887 : Index := Scalar.indexCast v886
  let c48_558 : Index := 48#32
  ![v887.toNat, 48]

def k1_chk33 (v3 : IVec S16 32) (v4 : IVec S16 32) (v5 : IVec S16 32) (v6 : IVec S16 32) (v7 : IVec S16 32) (v8 : IVec S16 32) (v9 : IVec S16 32) (v10 : IVec S16 32) (v879 : IVec S16 32) : Prop :=
  (∀ a x, ((![v3, v879] : Fin 2 → IVec S16 32) a x).toNat < S8x2048.size a) ∧
  (∀ a x, ((![v4, v879] : Fin 2 → IVec S16 32) a x).toNat < S8x2048.size a) ∧
  (∀ a x, ((![v5, v879] : Fin 2 → IVec S16 32) a x).toNat < S8x2048.size a) ∧
  (∀ a x, ((![v6, v879] : Fin 2 → IVec S16 32) a x).toNat < S8x2048.size a) ∧
  (∀ a x, ((![v7, v879] : Fin 2 → IVec S16 32) a x).toNat < S8x2048.size a) ∧
  (∀ a x, ((![v8, v879] : Fin 2 → IVec S16 32) a x).toNat < S8x2048.size a) ∧
  (∀ a x, ((![v9, v879] : Fin 2 → IVec S16 32) a x).toNat < S8x2048.size a) ∧
  (∀ a x, ((![v10, v879] : Fin 2 → IVec S16 32) a x).toNat < S8x2048.size a)
theorem k1_idx257_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v3, v879] : Fin 2 → IVec S16 32) a x).toNat < S8x2048.size a := fun v3 v4 v5 v6 v7 v8 v9 v10 v879 k1_hw33 => k1_hw33.1
theorem k1_idx258_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v4, v879] : Fin 2 → IVec S16 32) a x).toNat < S8x2048.size a := fun v3 v4 v5 v6 v7 v8 v9 v10 v879 k1_hw33 => k1_hw33.2.1
theorem k1_idx259_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v5, v879] : Fin 2 → IVec S16 32) a x).toNat < S8x2048.size a := fun v3 v4 v5 v6 v7 v8 v9 v10 v879 k1_hw33 => k1_hw33.2.2.1
theorem k1_idx260_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v6, v879] : Fin 2 → IVec S16 32) a x).toNat < S8x2048.size a := fun v3 v4 v5 v6 v7 v8 v9 v10 v879 k1_hw33 => k1_hw33.2.2.2.1
theorem k1_idx261_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v7, v879] : Fin 2 → IVec S16 32) a x).toNat < S8x2048.size a := fun v3 v4 v5 v6 v7 v8 v9 v10 v879 k1_hw33 => k1_hw33.2.2.2.2.1
theorem k1_idx262_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v8, v879] : Fin 2 → IVec S16 32) a x).toNat < S8x2048.size a := fun v3 v4 v5 v6 v7 v8 v9 v10 v879 k1_hw33 => k1_hw33.2.2.2.2.2.1
theorem k1_idx263_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v9, v879] : Fin 2 → IVec S16 32) a x).toNat < S8x2048.size a := fun v3 v4 v5 v6 v7 v8 v9 v10 v879 k1_hw33 => k1_hw33.2.2.2.2.2.2.1
theorem k1_idx264_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k1_hw33 : k1_chk33 v3 v4 v5 v6 v7 v8 v9 v10 v879), ∀ a x, ((![v10, v879] : Fin 2 → IVec S16 32) a x).toNat < S8x2048.size a := fun v3 v4 v5 v6 v7 v8 v9 v10 v879 k1_hw33 => k1_hw33.2.2.2.2.2.2.2

def k1_chk34 (v3 : IVec S16 32) (v4 : IVec S16 32) (v5 : IVec S16 32) (v6 : IVec S16 32) (v7 : IVec S16 32) (v8 : IVec S16 32) (v9 : IVec S16 32) (v10 : IVec S16 32) (v882 : IVec S16 32) : Prop :=
  (∀ a x, ((![v3, v882] : Fin 2 → IVec S16 32) a x).toNat < S8x2048.size a) ∧
  (∀ a x, ((![v4, v882] : Fin 2 → IVec S16 32) a x).toNat < S8x2048.size a) ∧
  (∀ a x, ((![v5, v882] : Fin 2 → IVec S16 32) a x).toNat < S8x2048.size a) ∧
  (∀ a x, ((![v6, v882] : Fin 2 → IVec S16 32) a x).toNat < S8x2048.size a) ∧
  (∀ a x, ((![v7, v882] : Fin 2 → IVec S16 32) a x).toNat < S8x2048.size a) ∧
  (∀ a x, ((![v8, v882] : Fin 2 → IVec S16 32) a x).toNat < S8x2048.size a) ∧
  (∀ a x, ((![v9, v882] : Fin 2 → IVec S16 32) a x).toNat < S8x2048.size a) ∧
  (∀ a x, ((![v10, v882] : Fin 2 → IVec S16 32) a x).toNat < S8x2048.size a)
theorem k1_idx265_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v3, v882] : Fin 2 → IVec S16 32) a x).toNat < S8x2048.size a := fun v3 v4 v5 v6 v7 v8 v9 v10 v882 k1_hw34 => k1_hw34.1
theorem k1_idx266_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v4, v882] : Fin 2 → IVec S16 32) a x).toNat < S8x2048.size a := fun v3 v4 v5 v6 v7 v8 v9 v10 v882 k1_hw34 => k1_hw34.2.1
theorem k1_idx267_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v5, v882] : Fin 2 → IVec S16 32) a x).toNat < S8x2048.size a := fun v3 v4 v5 v6 v7 v8 v9 v10 v882 k1_hw34 => k1_hw34.2.2.1
theorem k1_idx268_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v6, v882] : Fin 2 → IVec S16 32) a x).toNat < S8x2048.size a := fun v3 v4 v5 v6 v7 v8 v9 v10 v882 k1_hw34 => k1_hw34.2.2.2.1
theorem k1_idx269_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v7, v882] : Fin 2 → IVec S16 32) a x).toNat < S8x2048.size a := fun v3 v4 v5 v6 v7 v8 v9 v10 v882 k1_hw34 => k1_hw34.2.2.2.2.1
theorem k1_idx270_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v8, v882] : Fin 2 → IVec S16 32) a x).toNat < S8x2048.size a := fun v3 v4 v5 v6 v7 v8 v9 v10 v882 k1_hw34 => k1_hw34.2.2.2.2.2.1
theorem k1_idx271_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v9, v882] : Fin 2 → IVec S16 32) a x).toNat < S8x2048.size a := fun v3 v4 v5 v6 v7 v8 v9 v10 v882 k1_hw34 => k1_hw34.2.2.2.2.2.2.1
theorem k1_idx272_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k1_hw34 : k1_chk34 v3 v4 v5 v6 v7 v8 v9 v10 v882), ∀ a x, ((![v10, v882] : Fin 2 → IVec S16 32) a x).toNat < S8x2048.size a := fun v3 v4 v5 v6 v7 v8 v9 v10 v882 k1_hw34 => k1_hw34.2.2.2.2.2.2.2

def k1_chk35 (v3 : IVec S16 32) (v4 : IVec S16 32) (v5 : IVec S16 32) (v6 : IVec S16 32) (v7 : IVec S16 32) (v8 : IVec S16 32) (v9 : IVec S16 32) (v10 : IVec S16 32) (v885 : IVec S16 32) : Prop :=
  (∀ a x, ((![v3, v885] : Fin 2 → IVec S16 32) a x).toNat < S8x2048.size a) ∧
  (∀ a x, ((![v4, v885] : Fin 2 → IVec S16 32) a x).toNat < S8x2048.size a) ∧
  (∀ a x, ((![v5, v885] : Fin 2 → IVec S16 32) a x).toNat < S8x2048.size a) ∧
  (∀ a x, ((![v6, v885] : Fin 2 → IVec S16 32) a x).toNat < S8x2048.size a) ∧
  (∀ a x, ((![v7, v885] : Fin 2 → IVec S16 32) a x).toNat < S8x2048.size a) ∧
  (∀ a x, ((![v8, v885] : Fin 2 → IVec S16 32) a x).toNat < S8x2048.size a) ∧
  (∀ a x, ((![v9, v885] : Fin 2 → IVec S16 32) a x).toNat < S8x2048.size a) ∧
  (∀ a x, ((![v10, v885] : Fin 2 → IVec S16 32) a x).toNat < S8x2048.size a)
theorem k1_idx273_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v3, v885] : Fin 2 → IVec S16 32) a x).toNat < S8x2048.size a := fun v3 v4 v5 v6 v7 v8 v9 v10 v885 k1_hw35 => k1_hw35.1
theorem k1_idx274_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v4, v885] : Fin 2 → IVec S16 32) a x).toNat < S8x2048.size a := fun v3 v4 v5 v6 v7 v8 v9 v10 v885 k1_hw35 => k1_hw35.2.1
theorem k1_idx275_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v5, v885] : Fin 2 → IVec S16 32) a x).toNat < S8x2048.size a := fun v3 v4 v5 v6 v7 v8 v9 v10 v885 k1_hw35 => k1_hw35.2.2.1
theorem k1_idx276_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v6, v885] : Fin 2 → IVec S16 32) a x).toNat < S8x2048.size a := fun v3 v4 v5 v6 v7 v8 v9 v10 v885 k1_hw35 => k1_hw35.2.2.2.1
theorem k1_idx277_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v7, v885] : Fin 2 → IVec S16 32) a x).toNat < S8x2048.size a := fun v3 v4 v5 v6 v7 v8 v9 v10 v885 k1_hw35 => k1_hw35.2.2.2.2.1
theorem k1_idx278_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v8, v885] : Fin 2 → IVec S16 32) a x).toNat < S8x2048.size a := fun v3 v4 v5 v6 v7 v8 v9 v10 v885 k1_hw35 => k1_hw35.2.2.2.2.2.1
theorem k1_idx279_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v9, v885] : Fin 2 → IVec S16 32) a x).toNat < S8x2048.size a := fun v3 v4 v5 v6 v7 v8 v9 v10 v885 k1_hw35 => k1_hw35.2.2.2.2.2.2.1
theorem k1_idx280_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k1_hw35 : k1_chk35 v3 v4 v5 v6 v7 v8 v9 v10 v885), ∀ a x, ((![v10, v885] : Fin 2 → IVec S16 32) a x).toNat < S8x2048.size a := fun v3 v4 v5 v6 v7 v8 v9 v10 v885 k1_hw35 => k1_hw35.2.2.2.2.2.2.2

def k1_chk36 (v3 : IVec S16 32) (v4 : IVec S16 32) (v5 : IVec S16 32) (v6 : IVec S16 32) (v7 : IVec S16 32) (v8 : IVec S16 32) (v9 : IVec S16 32) (v10 : IVec S16 32) (v888 : IVec S16 32) : Prop :=
  (∀ a x, ((![v3, v888] : Fin 2 → IVec S16 32) a x).toNat < S8x2048.size a) ∧
  (∀ a x, ((![v4, v888] : Fin 2 → IVec S16 32) a x).toNat < S8x2048.size a) ∧
  (∀ a x, ((![v5, v888] : Fin 2 → IVec S16 32) a x).toNat < S8x2048.size a) ∧
  (∀ a x, ((![v6, v888] : Fin 2 → IVec S16 32) a x).toNat < S8x2048.size a) ∧
  (∀ a x, ((![v7, v888] : Fin 2 → IVec S16 32) a x).toNat < S8x2048.size a) ∧
  (∀ a x, ((![v8, v888] : Fin 2 → IVec S16 32) a x).toNat < S8x2048.size a) ∧
  (∀ a x, ((![v9, v888] : Fin 2 → IVec S16 32) a x).toNat < S8x2048.size a) ∧
  (∀ a x, ((![v10, v888] : Fin 2 → IVec S16 32) a x).toNat < S8x2048.size a)
theorem k1_idx281_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v3, v888] : Fin 2 → IVec S16 32) a x).toNat < S8x2048.size a := fun v3 v4 v5 v6 v7 v8 v9 v10 v888 k1_hw36 => k1_hw36.1
theorem k1_idx282_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v4, v888] : Fin 2 → IVec S16 32) a x).toNat < S8x2048.size a := fun v3 v4 v5 v6 v7 v8 v9 v10 v888 k1_hw36 => k1_hw36.2.1
theorem k1_idx283_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v5, v888] : Fin 2 → IVec S16 32) a x).toNat < S8x2048.size a := fun v3 v4 v5 v6 v7 v8 v9 v10 v888 k1_hw36 => k1_hw36.2.2.1
theorem k1_idx284_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v6, v888] : Fin 2 → IVec S16 32) a x).toNat < S8x2048.size a := fun v3 v4 v5 v6 v7 v8 v9 v10 v888 k1_hw36 => k1_hw36.2.2.2.1
theorem k1_idx285_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v7, v888] : Fin 2 → IVec S16 32) a x).toNat < S8x2048.size a := fun v3 v4 v5 v6 v7 v8 v9 v10 v888 k1_hw36 => k1_hw36.2.2.2.2.1
theorem k1_idx286_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v8, v888] : Fin 2 → IVec S16 32) a x).toNat < S8x2048.size a := fun v3 v4 v5 v6 v7 v8 v9 v10 v888 k1_hw36 => k1_hw36.2.2.2.2.2.1
theorem k1_idx287_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v9, v888] : Fin 2 → IVec S16 32) a x).toNat < S8x2048.size a := fun v3 v4 v5 v6 v7 v8 v9 v10 v888 k1_hw36 => k1_hw36.2.2.2.2.2.2.1
theorem k1_idx288_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k1_hw36 : k1_chk36 v3 v4 v5 v6 v7 v8 v9 v10 v888), ∀ a x, ((![v10, v888] : Fin 2 → IVec S16 32) a x).toNat < S8x2048.size a := fun v3 v4 v5 v6 v7 v8 v9 v10 v888 k1_hw36 => k1_hw36.2.2.2.2.2.2.2
def k1_off38 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_619 : BitVec 32 := 4#32
  let v985 : BitVec 32 := Scalar.addi v12 c4_i32_619
  let v986 : Index := Scalar.indexCast v985
  let c64_620 : Index := 64#32
  ![v986.toNat, 64]
def k1_off39 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_621 : BitVec 32 := 4#32
  let v988 : BitVec 32 := Scalar.addi v12 c4_i32_621
  let v989 : Index := Scalar.indexCast v988
  let c80_622 : Index := 80#32
  ![v989.toNat, 80]
def k1_off40 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_623 : BitVec 32 := 4#32
  let v991 : BitVec 32 := Scalar.addi v12 c4_i32_623
  let v992 : Index := Scalar.indexCast v991
  let c96_624 : Index := 96#32
  ![v992.toNat, 96]
def k1_off41 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c4_i32_625 : BitVec 32 := 4#32
  let v994 : BitVec 32 := Scalar.addi v12 c4_i32_625
  let v995 : Index := Scalar.indexCast v994
  let c112_626 : Index := 112#32
  ![v995.toNat, 112]

def k1_chk37 (v3 : IVec S16 32) (v4 : IVec S16 32) (v5 : IVec S16 32) (v6 : IVec S16 32) (v7 : IVec S16 32) (v8 : IVec S16 32) (v9 : IVec S16 32) (v10 : IVec S16 32) (v987 : IVec S16 32) : Prop :=
  (∀ a x, ((![v3, v987] : Fin 2 → IVec S16 32) a x).toNat < S8x2048.size a) ∧
  (∀ a x, ((![v4, v987] : Fin 2 → IVec S16 32) a x).toNat < S8x2048.size a) ∧
  (∀ a x, ((![v5, v987] : Fin 2 → IVec S16 32) a x).toNat < S8x2048.size a) ∧
  (∀ a x, ((![v6, v987] : Fin 2 → IVec S16 32) a x).toNat < S8x2048.size a) ∧
  (∀ a x, ((![v7, v987] : Fin 2 → IVec S16 32) a x).toNat < S8x2048.size a) ∧
  (∀ a x, ((![v8, v987] : Fin 2 → IVec S16 32) a x).toNat < S8x2048.size a) ∧
  (∀ a x, ((![v9, v987] : Fin 2 → IVec S16 32) a x).toNat < S8x2048.size a) ∧
  (∀ a x, ((![v10, v987] : Fin 2 → IVec S16 32) a x).toNat < S8x2048.size a)
theorem k1_idx289_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v3, v987] : Fin 2 → IVec S16 32) a x).toNat < S8x2048.size a := fun v3 v4 v5 v6 v7 v8 v9 v10 v987 k1_hw37 => k1_hw37.1
theorem k1_idx290_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v4, v987] : Fin 2 → IVec S16 32) a x).toNat < S8x2048.size a := fun v3 v4 v5 v6 v7 v8 v9 v10 v987 k1_hw37 => k1_hw37.2.1
theorem k1_idx291_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v5, v987] : Fin 2 → IVec S16 32) a x).toNat < S8x2048.size a := fun v3 v4 v5 v6 v7 v8 v9 v10 v987 k1_hw37 => k1_hw37.2.2.1
theorem k1_idx292_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v6, v987] : Fin 2 → IVec S16 32) a x).toNat < S8x2048.size a := fun v3 v4 v5 v6 v7 v8 v9 v10 v987 k1_hw37 => k1_hw37.2.2.2.1
theorem k1_idx293_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v7, v987] : Fin 2 → IVec S16 32) a x).toNat < S8x2048.size a := fun v3 v4 v5 v6 v7 v8 v9 v10 v987 k1_hw37 => k1_hw37.2.2.2.2.1
theorem k1_idx294_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v8, v987] : Fin 2 → IVec S16 32) a x).toNat < S8x2048.size a := fun v3 v4 v5 v6 v7 v8 v9 v10 v987 k1_hw37 => k1_hw37.2.2.2.2.2.1
theorem k1_idx295_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v9, v987] : Fin 2 → IVec S16 32) a x).toNat < S8x2048.size a := fun v3 v4 v5 v6 v7 v8 v9 v10 v987 k1_hw37 => k1_hw37.2.2.2.2.2.2.1
theorem k1_idx296_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k1_hw37 : k1_chk37 v3 v4 v5 v6 v7 v8 v9 v10 v987), ∀ a x, ((![v10, v987] : Fin 2 → IVec S16 32) a x).toNat < S8x2048.size a := fun v3 v4 v5 v6 v7 v8 v9 v10 v987 k1_hw37 => k1_hw37.2.2.2.2.2.2.2

def k1_chk38 (v3 : IVec S16 32) (v4 : IVec S16 32) (v5 : IVec S16 32) (v6 : IVec S16 32) (v7 : IVec S16 32) (v8 : IVec S16 32) (v9 : IVec S16 32) (v10 : IVec S16 32) (v990 : IVec S16 32) : Prop :=
  (∀ a x, ((![v3, v990] : Fin 2 → IVec S16 32) a x).toNat < S8x2048.size a) ∧
  (∀ a x, ((![v4, v990] : Fin 2 → IVec S16 32) a x).toNat < S8x2048.size a) ∧
  (∀ a x, ((![v5, v990] : Fin 2 → IVec S16 32) a x).toNat < S8x2048.size a) ∧
  (∀ a x, ((![v6, v990] : Fin 2 → IVec S16 32) a x).toNat < S8x2048.size a) ∧
  (∀ a x, ((![v7, v990] : Fin 2 → IVec S16 32) a x).toNat < S8x2048.size a) ∧
  (∀ a x, ((![v8, v990] : Fin 2 → IVec S16 32) a x).toNat < S8x2048.size a) ∧
  (∀ a x, ((![v9, v990] : Fin 2 → IVec S16 32) a x).toNat < S8x2048.size a) ∧
  (∀ a x, ((![v10, v990] : Fin 2 → IVec S16 32) a x).toNat < S8x2048.size a)
theorem k1_idx297_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v3, v990] : Fin 2 → IVec S16 32) a x).toNat < S8x2048.size a := fun v3 v4 v5 v6 v7 v8 v9 v10 v990 k1_hw38 => k1_hw38.1
theorem k1_idx298_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v4, v990] : Fin 2 → IVec S16 32) a x).toNat < S8x2048.size a := fun v3 v4 v5 v6 v7 v8 v9 v10 v990 k1_hw38 => k1_hw38.2.1
theorem k1_idx299_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v5, v990] : Fin 2 → IVec S16 32) a x).toNat < S8x2048.size a := fun v3 v4 v5 v6 v7 v8 v9 v10 v990 k1_hw38 => k1_hw38.2.2.1
theorem k1_idx300_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v6, v990] : Fin 2 → IVec S16 32) a x).toNat < S8x2048.size a := fun v3 v4 v5 v6 v7 v8 v9 v10 v990 k1_hw38 => k1_hw38.2.2.2.1
theorem k1_idx301_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v7, v990] : Fin 2 → IVec S16 32) a x).toNat < S8x2048.size a := fun v3 v4 v5 v6 v7 v8 v9 v10 v990 k1_hw38 => k1_hw38.2.2.2.2.1
theorem k1_idx302_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v8, v990] : Fin 2 → IVec S16 32) a x).toNat < S8x2048.size a := fun v3 v4 v5 v6 v7 v8 v9 v10 v990 k1_hw38 => k1_hw38.2.2.2.2.2.1
theorem k1_idx303_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v9, v990] : Fin 2 → IVec S16 32) a x).toNat < S8x2048.size a := fun v3 v4 v5 v6 v7 v8 v9 v10 v990 k1_hw38 => k1_hw38.2.2.2.2.2.2.1
theorem k1_idx304_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k1_hw38 : k1_chk38 v3 v4 v5 v6 v7 v8 v9 v10 v990), ∀ a x, ((![v10, v990] : Fin 2 → IVec S16 32) a x).toNat < S8x2048.size a := fun v3 v4 v5 v6 v7 v8 v9 v10 v990 k1_hw38 => k1_hw38.2.2.2.2.2.2.2

def k1_chk39 (v3 : IVec S16 32) (v4 : IVec S16 32) (v5 : IVec S16 32) (v6 : IVec S16 32) (v7 : IVec S16 32) (v8 : IVec S16 32) (v9 : IVec S16 32) (v10 : IVec S16 32) (v993 : IVec S16 32) : Prop :=
  (∀ a x, ((![v3, v993] : Fin 2 → IVec S16 32) a x).toNat < S8x2048.size a) ∧
  (∀ a x, ((![v4, v993] : Fin 2 → IVec S16 32) a x).toNat < S8x2048.size a) ∧
  (∀ a x, ((![v5, v993] : Fin 2 → IVec S16 32) a x).toNat < S8x2048.size a) ∧
  (∀ a x, ((![v6, v993] : Fin 2 → IVec S16 32) a x).toNat < S8x2048.size a) ∧
  (∀ a x, ((![v7, v993] : Fin 2 → IVec S16 32) a x).toNat < S8x2048.size a) ∧
  (∀ a x, ((![v8, v993] : Fin 2 → IVec S16 32) a x).toNat < S8x2048.size a) ∧
  (∀ a x, ((![v9, v993] : Fin 2 → IVec S16 32) a x).toNat < S8x2048.size a) ∧
  (∀ a x, ((![v10, v993] : Fin 2 → IVec S16 32) a x).toNat < S8x2048.size a)
theorem k1_idx305_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v3, v993] : Fin 2 → IVec S16 32) a x).toNat < S8x2048.size a := fun v3 v4 v5 v6 v7 v8 v9 v10 v993 k1_hw39 => k1_hw39.1
theorem k1_idx306_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v4, v993] : Fin 2 → IVec S16 32) a x).toNat < S8x2048.size a := fun v3 v4 v5 v6 v7 v8 v9 v10 v993 k1_hw39 => k1_hw39.2.1
theorem k1_idx307_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v5, v993] : Fin 2 → IVec S16 32) a x).toNat < S8x2048.size a := fun v3 v4 v5 v6 v7 v8 v9 v10 v993 k1_hw39 => k1_hw39.2.2.1
theorem k1_idx308_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v6, v993] : Fin 2 → IVec S16 32) a x).toNat < S8x2048.size a := fun v3 v4 v5 v6 v7 v8 v9 v10 v993 k1_hw39 => k1_hw39.2.2.2.1
theorem k1_idx309_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v7, v993] : Fin 2 → IVec S16 32) a x).toNat < S8x2048.size a := fun v3 v4 v5 v6 v7 v8 v9 v10 v993 k1_hw39 => k1_hw39.2.2.2.2.1
theorem k1_idx310_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v8, v993] : Fin 2 → IVec S16 32) a x).toNat < S8x2048.size a := fun v3 v4 v5 v6 v7 v8 v9 v10 v993 k1_hw39 => k1_hw39.2.2.2.2.2.1
theorem k1_idx311_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v9, v993] : Fin 2 → IVec S16 32) a x).toNat < S8x2048.size a := fun v3 v4 v5 v6 v7 v8 v9 v10 v993 k1_hw39 => k1_hw39.2.2.2.2.2.2.1
theorem k1_idx312_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k1_hw39 : k1_chk39 v3 v4 v5 v6 v7 v8 v9 v10 v993), ∀ a x, ((![v10, v993] : Fin 2 → IVec S16 32) a x).toNat < S8x2048.size a := fun v3 v4 v5 v6 v7 v8 v9 v10 v993 k1_hw39 => k1_hw39.2.2.2.2.2.2.2

def k1_chk40 (v3 : IVec S16 32) (v4 : IVec S16 32) (v5 : IVec S16 32) (v6 : IVec S16 32) (v7 : IVec S16 32) (v8 : IVec S16 32) (v9 : IVec S16 32) (v10 : IVec S16 32) (v996 : IVec S16 32) : Prop :=
  (∀ a x, ((![v3, v996] : Fin 2 → IVec S16 32) a x).toNat < S8x2048.size a) ∧
  (∀ a x, ((![v4, v996] : Fin 2 → IVec S16 32) a x).toNat < S8x2048.size a) ∧
  (∀ a x, ((![v5, v996] : Fin 2 → IVec S16 32) a x).toNat < S8x2048.size a) ∧
  (∀ a x, ((![v6, v996] : Fin 2 → IVec S16 32) a x).toNat < S8x2048.size a) ∧
  (∀ a x, ((![v7, v996] : Fin 2 → IVec S16 32) a x).toNat < S8x2048.size a) ∧
  (∀ a x, ((![v8, v996] : Fin 2 → IVec S16 32) a x).toNat < S8x2048.size a) ∧
  (∀ a x, ((![v9, v996] : Fin 2 → IVec S16 32) a x).toNat < S8x2048.size a) ∧
  (∀ a x, ((![v10, v996] : Fin 2 → IVec S16 32) a x).toNat < S8x2048.size a)
theorem k1_idx313_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v3, v996] : Fin 2 → IVec S16 32) a x).toNat < S8x2048.size a := fun v3 v4 v5 v6 v7 v8 v9 v10 v996 k1_hw40 => k1_hw40.1
theorem k1_idx314_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v4, v996] : Fin 2 → IVec S16 32) a x).toNat < S8x2048.size a := fun v3 v4 v5 v6 v7 v8 v9 v10 v996 k1_hw40 => k1_hw40.2.1
theorem k1_idx315_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v5, v996] : Fin 2 → IVec S16 32) a x).toNat < S8x2048.size a := fun v3 v4 v5 v6 v7 v8 v9 v10 v996 k1_hw40 => k1_hw40.2.2.1
theorem k1_idx316_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v6, v996] : Fin 2 → IVec S16 32) a x).toNat < S8x2048.size a := fun v3 v4 v5 v6 v7 v8 v9 v10 v996 k1_hw40 => k1_hw40.2.2.2.1
theorem k1_idx317_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v7, v996] : Fin 2 → IVec S16 32) a x).toNat < S8x2048.size a := fun v3 v4 v5 v6 v7 v8 v9 v10 v996 k1_hw40 => k1_hw40.2.2.2.2.1
theorem k1_idx318_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v8, v996] : Fin 2 → IVec S16 32) a x).toNat < S8x2048.size a := fun v3 v4 v5 v6 v7 v8 v9 v10 v996 k1_hw40 => k1_hw40.2.2.2.2.2.1
theorem k1_idx319_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v9, v996] : Fin 2 → IVec S16 32) a x).toNat < S8x2048.size a := fun v3 v4 v5 v6 v7 v8 v9 v10 v996 k1_hw40 => k1_hw40.2.2.2.2.2.2.1
theorem k1_idx320_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k1_hw40 : k1_chk40 v3 v4 v5 v6 v7 v8 v9 v10 v996), ∀ a x, ((![v10, v996] : Fin 2 → IVec S16 32) a x).toNat < S8x2048.size a := fun v3 v4 v5 v6 v7 v8 v9 v10 v996 k1_hw40 => k1_hw40.2.2.2.2.2.2.2
def k1_off42 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_687 : BitVec 32 := 5#32
  let v1093 : BitVec 32 := Scalar.addi v12 c5_i32_687
  let v1094 : Index := Scalar.indexCast v1093
  let c0_688 : Index := 0#32
  ![v1094.toNat, 0]
def k1_off43 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_689 : BitVec 32 := 5#32
  let v1096 : BitVec 32 := Scalar.addi v12 c5_i32_689
  let v1097 : Index := Scalar.indexCast v1096
  let c16_690 : Index := 16#32
  ![v1097.toNat, 16]
def k1_off44 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_691 : BitVec 32 := 5#32
  let v1099 : BitVec 32 := Scalar.addi v12 c5_i32_691
  let v1100 : Index := Scalar.indexCast v1099
  let c32_692 : Index := 32#32
  ![v1100.toNat, 32]
def k1_off45 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_693 : BitVec 32 := 5#32
  let v1102 : BitVec 32 := Scalar.addi v12 c5_i32_693
  let v1103 : Index := Scalar.indexCast v1102
  let c48_694 : Index := 48#32
  ![v1103.toNat, 48]

def k1_chk41 (v3 : IVec S16 32) (v4 : IVec S16 32) (v5 : IVec S16 32) (v6 : IVec S16 32) (v7 : IVec S16 32) (v8 : IVec S16 32) (v9 : IVec S16 32) (v10 : IVec S16 32) (v1095 : IVec S16 32) : Prop :=
  (∀ a x, ((![v3, v1095] : Fin 2 → IVec S16 32) a x).toNat < S8x2048.size a) ∧
  (∀ a x, ((![v4, v1095] : Fin 2 → IVec S16 32) a x).toNat < S8x2048.size a) ∧
  (∀ a x, ((![v5, v1095] : Fin 2 → IVec S16 32) a x).toNat < S8x2048.size a) ∧
  (∀ a x, ((![v6, v1095] : Fin 2 → IVec S16 32) a x).toNat < S8x2048.size a) ∧
  (∀ a x, ((![v7, v1095] : Fin 2 → IVec S16 32) a x).toNat < S8x2048.size a) ∧
  (∀ a x, ((![v8, v1095] : Fin 2 → IVec S16 32) a x).toNat < S8x2048.size a) ∧
  (∀ a x, ((![v9, v1095] : Fin 2 → IVec S16 32) a x).toNat < S8x2048.size a) ∧
  (∀ a x, ((![v10, v1095] : Fin 2 → IVec S16 32) a x).toNat < S8x2048.size a)
theorem k1_idx321_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v3, v1095] : Fin 2 → IVec S16 32) a x).toNat < S8x2048.size a := fun v3 v4 v5 v6 v7 v8 v9 v10 v1095 k1_hw41 => k1_hw41.1
theorem k1_idx322_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v4, v1095] : Fin 2 → IVec S16 32) a x).toNat < S8x2048.size a := fun v3 v4 v5 v6 v7 v8 v9 v10 v1095 k1_hw41 => k1_hw41.2.1
theorem k1_idx323_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v5, v1095] : Fin 2 → IVec S16 32) a x).toNat < S8x2048.size a := fun v3 v4 v5 v6 v7 v8 v9 v10 v1095 k1_hw41 => k1_hw41.2.2.1
theorem k1_idx324_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v6, v1095] : Fin 2 → IVec S16 32) a x).toNat < S8x2048.size a := fun v3 v4 v5 v6 v7 v8 v9 v10 v1095 k1_hw41 => k1_hw41.2.2.2.1
theorem k1_idx325_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v7, v1095] : Fin 2 → IVec S16 32) a x).toNat < S8x2048.size a := fun v3 v4 v5 v6 v7 v8 v9 v10 v1095 k1_hw41 => k1_hw41.2.2.2.2.1
theorem k1_idx326_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v8, v1095] : Fin 2 → IVec S16 32) a x).toNat < S8x2048.size a := fun v3 v4 v5 v6 v7 v8 v9 v10 v1095 k1_hw41 => k1_hw41.2.2.2.2.2.1
theorem k1_idx327_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v9, v1095] : Fin 2 → IVec S16 32) a x).toNat < S8x2048.size a := fun v3 v4 v5 v6 v7 v8 v9 v10 v1095 k1_hw41 => k1_hw41.2.2.2.2.2.2.1
theorem k1_idx328_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k1_hw41 : k1_chk41 v3 v4 v5 v6 v7 v8 v9 v10 v1095), ∀ a x, ((![v10, v1095] : Fin 2 → IVec S16 32) a x).toNat < S8x2048.size a := fun v3 v4 v5 v6 v7 v8 v9 v10 v1095 k1_hw41 => k1_hw41.2.2.2.2.2.2.2

def k1_chk42 (v3 : IVec S16 32) (v4 : IVec S16 32) (v5 : IVec S16 32) (v6 : IVec S16 32) (v7 : IVec S16 32) (v8 : IVec S16 32) (v9 : IVec S16 32) (v10 : IVec S16 32) (v1098 : IVec S16 32) : Prop :=
  (∀ a x, ((![v3, v1098] : Fin 2 → IVec S16 32) a x).toNat < S8x2048.size a) ∧
  (∀ a x, ((![v4, v1098] : Fin 2 → IVec S16 32) a x).toNat < S8x2048.size a) ∧
  (∀ a x, ((![v5, v1098] : Fin 2 → IVec S16 32) a x).toNat < S8x2048.size a) ∧
  (∀ a x, ((![v6, v1098] : Fin 2 → IVec S16 32) a x).toNat < S8x2048.size a) ∧
  (∀ a x, ((![v7, v1098] : Fin 2 → IVec S16 32) a x).toNat < S8x2048.size a) ∧
  (∀ a x, ((![v8, v1098] : Fin 2 → IVec S16 32) a x).toNat < S8x2048.size a) ∧
  (∀ a x, ((![v9, v1098] : Fin 2 → IVec S16 32) a x).toNat < S8x2048.size a) ∧
  (∀ a x, ((![v10, v1098] : Fin 2 → IVec S16 32) a x).toNat < S8x2048.size a)
theorem k1_idx329_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v3, v1098] : Fin 2 → IVec S16 32) a x).toNat < S8x2048.size a := fun v3 v4 v5 v6 v7 v8 v9 v10 v1098 k1_hw42 => k1_hw42.1
theorem k1_idx330_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v4, v1098] : Fin 2 → IVec S16 32) a x).toNat < S8x2048.size a := fun v3 v4 v5 v6 v7 v8 v9 v10 v1098 k1_hw42 => k1_hw42.2.1
theorem k1_idx331_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v5, v1098] : Fin 2 → IVec S16 32) a x).toNat < S8x2048.size a := fun v3 v4 v5 v6 v7 v8 v9 v10 v1098 k1_hw42 => k1_hw42.2.2.1
theorem k1_idx332_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v6, v1098] : Fin 2 → IVec S16 32) a x).toNat < S8x2048.size a := fun v3 v4 v5 v6 v7 v8 v9 v10 v1098 k1_hw42 => k1_hw42.2.2.2.1
theorem k1_idx333_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v7, v1098] : Fin 2 → IVec S16 32) a x).toNat < S8x2048.size a := fun v3 v4 v5 v6 v7 v8 v9 v10 v1098 k1_hw42 => k1_hw42.2.2.2.2.1
theorem k1_idx334_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v8, v1098] : Fin 2 → IVec S16 32) a x).toNat < S8x2048.size a := fun v3 v4 v5 v6 v7 v8 v9 v10 v1098 k1_hw42 => k1_hw42.2.2.2.2.2.1
theorem k1_idx335_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v9, v1098] : Fin 2 → IVec S16 32) a x).toNat < S8x2048.size a := fun v3 v4 v5 v6 v7 v8 v9 v10 v1098 k1_hw42 => k1_hw42.2.2.2.2.2.2.1
theorem k1_idx336_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k1_hw42 : k1_chk42 v3 v4 v5 v6 v7 v8 v9 v10 v1098), ∀ a x, ((![v10, v1098] : Fin 2 → IVec S16 32) a x).toNat < S8x2048.size a := fun v3 v4 v5 v6 v7 v8 v9 v10 v1098 k1_hw42 => k1_hw42.2.2.2.2.2.2.2

def k1_chk43 (v3 : IVec S16 32) (v4 : IVec S16 32) (v5 : IVec S16 32) (v6 : IVec S16 32) (v7 : IVec S16 32) (v8 : IVec S16 32) (v9 : IVec S16 32) (v10 : IVec S16 32) (v1101 : IVec S16 32) : Prop :=
  (∀ a x, ((![v3, v1101] : Fin 2 → IVec S16 32) a x).toNat < S8x2048.size a) ∧
  (∀ a x, ((![v4, v1101] : Fin 2 → IVec S16 32) a x).toNat < S8x2048.size a) ∧
  (∀ a x, ((![v5, v1101] : Fin 2 → IVec S16 32) a x).toNat < S8x2048.size a) ∧
  (∀ a x, ((![v6, v1101] : Fin 2 → IVec S16 32) a x).toNat < S8x2048.size a) ∧
  (∀ a x, ((![v7, v1101] : Fin 2 → IVec S16 32) a x).toNat < S8x2048.size a) ∧
  (∀ a x, ((![v8, v1101] : Fin 2 → IVec S16 32) a x).toNat < S8x2048.size a) ∧
  (∀ a x, ((![v9, v1101] : Fin 2 → IVec S16 32) a x).toNat < S8x2048.size a) ∧
  (∀ a x, ((![v10, v1101] : Fin 2 → IVec S16 32) a x).toNat < S8x2048.size a)
theorem k1_idx337_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v3, v1101] : Fin 2 → IVec S16 32) a x).toNat < S8x2048.size a := fun v3 v4 v5 v6 v7 v8 v9 v10 v1101 k1_hw43 => k1_hw43.1
theorem k1_idx338_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v4, v1101] : Fin 2 → IVec S16 32) a x).toNat < S8x2048.size a := fun v3 v4 v5 v6 v7 v8 v9 v10 v1101 k1_hw43 => k1_hw43.2.1
theorem k1_idx339_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v5, v1101] : Fin 2 → IVec S16 32) a x).toNat < S8x2048.size a := fun v3 v4 v5 v6 v7 v8 v9 v10 v1101 k1_hw43 => k1_hw43.2.2.1
theorem k1_idx340_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v6, v1101] : Fin 2 → IVec S16 32) a x).toNat < S8x2048.size a := fun v3 v4 v5 v6 v7 v8 v9 v10 v1101 k1_hw43 => k1_hw43.2.2.2.1
theorem k1_idx341_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v7, v1101] : Fin 2 → IVec S16 32) a x).toNat < S8x2048.size a := fun v3 v4 v5 v6 v7 v8 v9 v10 v1101 k1_hw43 => k1_hw43.2.2.2.2.1
theorem k1_idx342_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v8, v1101] : Fin 2 → IVec S16 32) a x).toNat < S8x2048.size a := fun v3 v4 v5 v6 v7 v8 v9 v10 v1101 k1_hw43 => k1_hw43.2.2.2.2.2.1
theorem k1_idx343_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v9, v1101] : Fin 2 → IVec S16 32) a x).toNat < S8x2048.size a := fun v3 v4 v5 v6 v7 v8 v9 v10 v1101 k1_hw43 => k1_hw43.2.2.2.2.2.2.1
theorem k1_idx344_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k1_hw43 : k1_chk43 v3 v4 v5 v6 v7 v8 v9 v10 v1101), ∀ a x, ((![v10, v1101] : Fin 2 → IVec S16 32) a x).toNat < S8x2048.size a := fun v3 v4 v5 v6 v7 v8 v9 v10 v1101 k1_hw43 => k1_hw43.2.2.2.2.2.2.2

def k1_chk44 (v3 : IVec S16 32) (v4 : IVec S16 32) (v5 : IVec S16 32) (v6 : IVec S16 32) (v7 : IVec S16 32) (v8 : IVec S16 32) (v9 : IVec S16 32) (v10 : IVec S16 32) (v1104 : IVec S16 32) : Prop :=
  (∀ a x, ((![v3, v1104] : Fin 2 → IVec S16 32) a x).toNat < S8x2048.size a) ∧
  (∀ a x, ((![v4, v1104] : Fin 2 → IVec S16 32) a x).toNat < S8x2048.size a) ∧
  (∀ a x, ((![v5, v1104] : Fin 2 → IVec S16 32) a x).toNat < S8x2048.size a) ∧
  (∀ a x, ((![v6, v1104] : Fin 2 → IVec S16 32) a x).toNat < S8x2048.size a) ∧
  (∀ a x, ((![v7, v1104] : Fin 2 → IVec S16 32) a x).toNat < S8x2048.size a) ∧
  (∀ a x, ((![v8, v1104] : Fin 2 → IVec S16 32) a x).toNat < S8x2048.size a) ∧
  (∀ a x, ((![v9, v1104] : Fin 2 → IVec S16 32) a x).toNat < S8x2048.size a) ∧
  (∀ a x, ((![v10, v1104] : Fin 2 → IVec S16 32) a x).toNat < S8x2048.size a)
theorem k1_idx345_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v3, v1104] : Fin 2 → IVec S16 32) a x).toNat < S8x2048.size a := fun v3 v4 v5 v6 v7 v8 v9 v10 v1104 k1_hw44 => k1_hw44.1
theorem k1_idx346_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v4, v1104] : Fin 2 → IVec S16 32) a x).toNat < S8x2048.size a := fun v3 v4 v5 v6 v7 v8 v9 v10 v1104 k1_hw44 => k1_hw44.2.1
theorem k1_idx347_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v5, v1104] : Fin 2 → IVec S16 32) a x).toNat < S8x2048.size a := fun v3 v4 v5 v6 v7 v8 v9 v10 v1104 k1_hw44 => k1_hw44.2.2.1
theorem k1_idx348_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v6, v1104] : Fin 2 → IVec S16 32) a x).toNat < S8x2048.size a := fun v3 v4 v5 v6 v7 v8 v9 v10 v1104 k1_hw44 => k1_hw44.2.2.2.1
theorem k1_idx349_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v7, v1104] : Fin 2 → IVec S16 32) a x).toNat < S8x2048.size a := fun v3 v4 v5 v6 v7 v8 v9 v10 v1104 k1_hw44 => k1_hw44.2.2.2.2.1
theorem k1_idx350_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v8, v1104] : Fin 2 → IVec S16 32) a x).toNat < S8x2048.size a := fun v3 v4 v5 v6 v7 v8 v9 v10 v1104 k1_hw44 => k1_hw44.2.2.2.2.2.1
theorem k1_idx351_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v9, v1104] : Fin 2 → IVec S16 32) a x).toNat < S8x2048.size a := fun v3 v4 v5 v6 v7 v8 v9 v10 v1104 k1_hw44 => k1_hw44.2.2.2.2.2.2.1
theorem k1_idx352_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k1_hw44 : k1_chk44 v3 v4 v5 v6 v7 v8 v9 v10 v1104), ∀ a x, ((![v10, v1104] : Fin 2 → IVec S16 32) a x).toNat < S8x2048.size a := fun v3 v4 v5 v6 v7 v8 v9 v10 v1104 k1_hw44 => k1_hw44.2.2.2.2.2.2.2
def k1_off46 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_755 : BitVec 32 := 5#32
  let v1201 : BitVec 32 := Scalar.addi v12 c5_i32_755
  let v1202 : Index := Scalar.indexCast v1201
  let c64_756 : Index := 64#32
  ![v1202.toNat, 64]
def k1_off47 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_757 : BitVec 32 := 5#32
  let v1204 : BitVec 32 := Scalar.addi v12 c5_i32_757
  let v1205 : Index := Scalar.indexCast v1204
  let c80_758 : Index := 80#32
  ![v1205.toNat, 80]
def k1_off48 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_759 : BitVec 32 := 5#32
  let v1207 : BitVec 32 := Scalar.addi v12 c5_i32_759
  let v1208 : Index := Scalar.indexCast v1207
  let c96_760 : Index := 96#32
  ![v1208.toNat, 96]
def k1_off49 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c5_i32_761 : BitVec 32 := 5#32
  let v1210 : BitVec 32 := Scalar.addi v12 c5_i32_761
  let v1211 : Index := Scalar.indexCast v1210
  let c112_762 : Index := 112#32
  ![v1211.toNat, 112]

def k1_chk45 (v3 : IVec S16 32) (v4 : IVec S16 32) (v5 : IVec S16 32) (v6 : IVec S16 32) (v7 : IVec S16 32) (v8 : IVec S16 32) (v9 : IVec S16 32) (v10 : IVec S16 32) (v1203 : IVec S16 32) : Prop :=
  (∀ a x, ((![v3, v1203] : Fin 2 → IVec S16 32) a x).toNat < S8x2048.size a) ∧
  (∀ a x, ((![v4, v1203] : Fin 2 → IVec S16 32) a x).toNat < S8x2048.size a) ∧
  (∀ a x, ((![v5, v1203] : Fin 2 → IVec S16 32) a x).toNat < S8x2048.size a) ∧
  (∀ a x, ((![v6, v1203] : Fin 2 → IVec S16 32) a x).toNat < S8x2048.size a) ∧
  (∀ a x, ((![v7, v1203] : Fin 2 → IVec S16 32) a x).toNat < S8x2048.size a) ∧
  (∀ a x, ((![v8, v1203] : Fin 2 → IVec S16 32) a x).toNat < S8x2048.size a) ∧
  (∀ a x, ((![v9, v1203] : Fin 2 → IVec S16 32) a x).toNat < S8x2048.size a) ∧
  (∀ a x, ((![v10, v1203] : Fin 2 → IVec S16 32) a x).toNat < S8x2048.size a)
theorem k1_idx353_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v3, v1203] : Fin 2 → IVec S16 32) a x).toNat < S8x2048.size a := fun v3 v4 v5 v6 v7 v8 v9 v10 v1203 k1_hw45 => k1_hw45.1
theorem k1_idx354_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v4, v1203] : Fin 2 → IVec S16 32) a x).toNat < S8x2048.size a := fun v3 v4 v5 v6 v7 v8 v9 v10 v1203 k1_hw45 => k1_hw45.2.1
theorem k1_idx355_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v5, v1203] : Fin 2 → IVec S16 32) a x).toNat < S8x2048.size a := fun v3 v4 v5 v6 v7 v8 v9 v10 v1203 k1_hw45 => k1_hw45.2.2.1
theorem k1_idx356_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v6, v1203] : Fin 2 → IVec S16 32) a x).toNat < S8x2048.size a := fun v3 v4 v5 v6 v7 v8 v9 v10 v1203 k1_hw45 => k1_hw45.2.2.2.1
theorem k1_idx357_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v7, v1203] : Fin 2 → IVec S16 32) a x).toNat < S8x2048.size a := fun v3 v4 v5 v6 v7 v8 v9 v10 v1203 k1_hw45 => k1_hw45.2.2.2.2.1
theorem k1_idx358_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v8, v1203] : Fin 2 → IVec S16 32) a x).toNat < S8x2048.size a := fun v3 v4 v5 v6 v7 v8 v9 v10 v1203 k1_hw45 => k1_hw45.2.2.2.2.2.1
theorem k1_idx359_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v9, v1203] : Fin 2 → IVec S16 32) a x).toNat < S8x2048.size a := fun v3 v4 v5 v6 v7 v8 v9 v10 v1203 k1_hw45 => k1_hw45.2.2.2.2.2.2.1
theorem k1_idx360_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k1_hw45 : k1_chk45 v3 v4 v5 v6 v7 v8 v9 v10 v1203), ∀ a x, ((![v10, v1203] : Fin 2 → IVec S16 32) a x).toNat < S8x2048.size a := fun v3 v4 v5 v6 v7 v8 v9 v10 v1203 k1_hw45 => k1_hw45.2.2.2.2.2.2.2

def k1_chk46 (v3 : IVec S16 32) (v4 : IVec S16 32) (v5 : IVec S16 32) (v6 : IVec S16 32) (v7 : IVec S16 32) (v8 : IVec S16 32) (v9 : IVec S16 32) (v10 : IVec S16 32) (v1206 : IVec S16 32) : Prop :=
  (∀ a x, ((![v3, v1206] : Fin 2 → IVec S16 32) a x).toNat < S8x2048.size a) ∧
  (∀ a x, ((![v4, v1206] : Fin 2 → IVec S16 32) a x).toNat < S8x2048.size a) ∧
  (∀ a x, ((![v5, v1206] : Fin 2 → IVec S16 32) a x).toNat < S8x2048.size a) ∧
  (∀ a x, ((![v6, v1206] : Fin 2 → IVec S16 32) a x).toNat < S8x2048.size a) ∧
  (∀ a x, ((![v7, v1206] : Fin 2 → IVec S16 32) a x).toNat < S8x2048.size a) ∧
  (∀ a x, ((![v8, v1206] : Fin 2 → IVec S16 32) a x).toNat < S8x2048.size a) ∧
  (∀ a x, ((![v9, v1206] : Fin 2 → IVec S16 32) a x).toNat < S8x2048.size a) ∧
  (∀ a x, ((![v10, v1206] : Fin 2 → IVec S16 32) a x).toNat < S8x2048.size a)
theorem k1_idx361_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v3, v1206] : Fin 2 → IVec S16 32) a x).toNat < S8x2048.size a := fun v3 v4 v5 v6 v7 v8 v9 v10 v1206 k1_hw46 => k1_hw46.1
theorem k1_idx362_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v4, v1206] : Fin 2 → IVec S16 32) a x).toNat < S8x2048.size a := fun v3 v4 v5 v6 v7 v8 v9 v10 v1206 k1_hw46 => k1_hw46.2.1
theorem k1_idx363_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v5, v1206] : Fin 2 → IVec S16 32) a x).toNat < S8x2048.size a := fun v3 v4 v5 v6 v7 v8 v9 v10 v1206 k1_hw46 => k1_hw46.2.2.1
theorem k1_idx364_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v6, v1206] : Fin 2 → IVec S16 32) a x).toNat < S8x2048.size a := fun v3 v4 v5 v6 v7 v8 v9 v10 v1206 k1_hw46 => k1_hw46.2.2.2.1
theorem k1_idx365_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v7, v1206] : Fin 2 → IVec S16 32) a x).toNat < S8x2048.size a := fun v3 v4 v5 v6 v7 v8 v9 v10 v1206 k1_hw46 => k1_hw46.2.2.2.2.1
theorem k1_idx366_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v8, v1206] : Fin 2 → IVec S16 32) a x).toNat < S8x2048.size a := fun v3 v4 v5 v6 v7 v8 v9 v10 v1206 k1_hw46 => k1_hw46.2.2.2.2.2.1
theorem k1_idx367_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v9, v1206] : Fin 2 → IVec S16 32) a x).toNat < S8x2048.size a := fun v3 v4 v5 v6 v7 v8 v9 v10 v1206 k1_hw46 => k1_hw46.2.2.2.2.2.2.1
theorem k1_idx368_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k1_hw46 : k1_chk46 v3 v4 v5 v6 v7 v8 v9 v10 v1206), ∀ a x, ((![v10, v1206] : Fin 2 → IVec S16 32) a x).toNat < S8x2048.size a := fun v3 v4 v5 v6 v7 v8 v9 v10 v1206 k1_hw46 => k1_hw46.2.2.2.2.2.2.2

def k1_chk47 (v3 : IVec S16 32) (v4 : IVec S16 32) (v5 : IVec S16 32) (v6 : IVec S16 32) (v7 : IVec S16 32) (v8 : IVec S16 32) (v9 : IVec S16 32) (v10 : IVec S16 32) (v1209 : IVec S16 32) : Prop :=
  (∀ a x, ((![v3, v1209] : Fin 2 → IVec S16 32) a x).toNat < S8x2048.size a) ∧
  (∀ a x, ((![v4, v1209] : Fin 2 → IVec S16 32) a x).toNat < S8x2048.size a) ∧
  (∀ a x, ((![v5, v1209] : Fin 2 → IVec S16 32) a x).toNat < S8x2048.size a) ∧
  (∀ a x, ((![v6, v1209] : Fin 2 → IVec S16 32) a x).toNat < S8x2048.size a) ∧
  (∀ a x, ((![v7, v1209] : Fin 2 → IVec S16 32) a x).toNat < S8x2048.size a) ∧
  (∀ a x, ((![v8, v1209] : Fin 2 → IVec S16 32) a x).toNat < S8x2048.size a) ∧
  (∀ a x, ((![v9, v1209] : Fin 2 → IVec S16 32) a x).toNat < S8x2048.size a) ∧
  (∀ a x, ((![v10, v1209] : Fin 2 → IVec S16 32) a x).toNat < S8x2048.size a)
theorem k1_idx369_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v3, v1209] : Fin 2 → IVec S16 32) a x).toNat < S8x2048.size a := fun v3 v4 v5 v6 v7 v8 v9 v10 v1209 k1_hw47 => k1_hw47.1
theorem k1_idx370_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v4, v1209] : Fin 2 → IVec S16 32) a x).toNat < S8x2048.size a := fun v3 v4 v5 v6 v7 v8 v9 v10 v1209 k1_hw47 => k1_hw47.2.1
theorem k1_idx371_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v5, v1209] : Fin 2 → IVec S16 32) a x).toNat < S8x2048.size a := fun v3 v4 v5 v6 v7 v8 v9 v10 v1209 k1_hw47 => k1_hw47.2.2.1
theorem k1_idx372_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v6, v1209] : Fin 2 → IVec S16 32) a x).toNat < S8x2048.size a := fun v3 v4 v5 v6 v7 v8 v9 v10 v1209 k1_hw47 => k1_hw47.2.2.2.1
theorem k1_idx373_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v7, v1209] : Fin 2 → IVec S16 32) a x).toNat < S8x2048.size a := fun v3 v4 v5 v6 v7 v8 v9 v10 v1209 k1_hw47 => k1_hw47.2.2.2.2.1
theorem k1_idx374_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v8, v1209] : Fin 2 → IVec S16 32) a x).toNat < S8x2048.size a := fun v3 v4 v5 v6 v7 v8 v9 v10 v1209 k1_hw47 => k1_hw47.2.2.2.2.2.1
theorem k1_idx375_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v9, v1209] : Fin 2 → IVec S16 32) a x).toNat < S8x2048.size a := fun v3 v4 v5 v6 v7 v8 v9 v10 v1209 k1_hw47 => k1_hw47.2.2.2.2.2.2.1
theorem k1_idx376_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k1_hw47 : k1_chk47 v3 v4 v5 v6 v7 v8 v9 v10 v1209), ∀ a x, ((![v10, v1209] : Fin 2 → IVec S16 32) a x).toNat < S8x2048.size a := fun v3 v4 v5 v6 v7 v8 v9 v10 v1209 k1_hw47 => k1_hw47.2.2.2.2.2.2.2

def k1_chk48 (v3 : IVec S16 32) (v4 : IVec S16 32) (v5 : IVec S16 32) (v6 : IVec S16 32) (v7 : IVec S16 32) (v8 : IVec S16 32) (v9 : IVec S16 32) (v10 : IVec S16 32) (v1212 : IVec S16 32) : Prop :=
  (∀ a x, ((![v3, v1212] : Fin 2 → IVec S16 32) a x).toNat < S8x2048.size a) ∧
  (∀ a x, ((![v4, v1212] : Fin 2 → IVec S16 32) a x).toNat < S8x2048.size a) ∧
  (∀ a x, ((![v5, v1212] : Fin 2 → IVec S16 32) a x).toNat < S8x2048.size a) ∧
  (∀ a x, ((![v6, v1212] : Fin 2 → IVec S16 32) a x).toNat < S8x2048.size a) ∧
  (∀ a x, ((![v7, v1212] : Fin 2 → IVec S16 32) a x).toNat < S8x2048.size a) ∧
  (∀ a x, ((![v8, v1212] : Fin 2 → IVec S16 32) a x).toNat < S8x2048.size a) ∧
  (∀ a x, ((![v9, v1212] : Fin 2 → IVec S16 32) a x).toNat < S8x2048.size a) ∧
  (∀ a x, ((![v10, v1212] : Fin 2 → IVec S16 32) a x).toNat < S8x2048.size a)
theorem k1_idx377_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v3, v1212] : Fin 2 → IVec S16 32) a x).toNat < S8x2048.size a := fun v3 v4 v5 v6 v7 v8 v9 v10 v1212 k1_hw48 => k1_hw48.1
theorem k1_idx378_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v4, v1212] : Fin 2 → IVec S16 32) a x).toNat < S8x2048.size a := fun v3 v4 v5 v6 v7 v8 v9 v10 v1212 k1_hw48 => k1_hw48.2.1
theorem k1_idx379_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v5, v1212] : Fin 2 → IVec S16 32) a x).toNat < S8x2048.size a := fun v3 v4 v5 v6 v7 v8 v9 v10 v1212 k1_hw48 => k1_hw48.2.2.1
theorem k1_idx380_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v6, v1212] : Fin 2 → IVec S16 32) a x).toNat < S8x2048.size a := fun v3 v4 v5 v6 v7 v8 v9 v10 v1212 k1_hw48 => k1_hw48.2.2.2.1
theorem k1_idx381_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v7, v1212] : Fin 2 → IVec S16 32) a x).toNat < S8x2048.size a := fun v3 v4 v5 v6 v7 v8 v9 v10 v1212 k1_hw48 => k1_hw48.2.2.2.2.1
theorem k1_idx382_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v8, v1212] : Fin 2 → IVec S16 32) a x).toNat < S8x2048.size a := fun v3 v4 v5 v6 v7 v8 v9 v10 v1212 k1_hw48 => k1_hw48.2.2.2.2.2.1
theorem k1_idx383_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v9, v1212] : Fin 2 → IVec S16 32) a x).toNat < S8x2048.size a := fun v3 v4 v5 v6 v7 v8 v9 v10 v1212 k1_hw48 => k1_hw48.2.2.2.2.2.2.1
theorem k1_idx384_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k1_hw48 : k1_chk48 v3 v4 v5 v6 v7 v8 v9 v10 v1212), ∀ a x, ((![v10, v1212] : Fin 2 → IVec S16 32) a x).toNat < S8x2048.size a := fun v3 v4 v5 v6 v7 v8 v9 v10 v1212 k1_hw48 => k1_hw48.2.2.2.2.2.2.2
def k1_off50 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_823 : BitVec 32 := 6#32
  let v1309 : BitVec 32 := Scalar.addi v12 c6_i32_823
  let v1310 : Index := Scalar.indexCast v1309
  let c0_824 : Index := 0#32
  ![v1310.toNat, 0]
def k1_off51 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_825 : BitVec 32 := 6#32
  let v1312 : BitVec 32 := Scalar.addi v12 c6_i32_825
  let v1313 : Index := Scalar.indexCast v1312
  let c16_826 : Index := 16#32
  ![v1313.toNat, 16]
def k1_off52 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_827 : BitVec 32 := 6#32
  let v1315 : BitVec 32 := Scalar.addi v12 c6_i32_827
  let v1316 : Index := Scalar.indexCast v1315
  let c32_828 : Index := 32#32
  ![v1316.toNat, 32]
def k1_off53 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_829 : BitVec 32 := 6#32
  let v1318 : BitVec 32 := Scalar.addi v12 c6_i32_829
  let v1319 : Index := Scalar.indexCast v1318
  let c48_830 : Index := 48#32
  ![v1319.toNat, 48]

def k1_chk49 (v3 : IVec S16 32) (v4 : IVec S16 32) (v5 : IVec S16 32) (v6 : IVec S16 32) (v7 : IVec S16 32) (v8 : IVec S16 32) (v9 : IVec S16 32) (v10 : IVec S16 32) (v1311 : IVec S16 32) : Prop :=
  (∀ a x, ((![v3, v1311] : Fin 2 → IVec S16 32) a x).toNat < S8x2048.size a) ∧
  (∀ a x, ((![v4, v1311] : Fin 2 → IVec S16 32) a x).toNat < S8x2048.size a) ∧
  (∀ a x, ((![v5, v1311] : Fin 2 → IVec S16 32) a x).toNat < S8x2048.size a) ∧
  (∀ a x, ((![v6, v1311] : Fin 2 → IVec S16 32) a x).toNat < S8x2048.size a) ∧
  (∀ a x, ((![v7, v1311] : Fin 2 → IVec S16 32) a x).toNat < S8x2048.size a) ∧
  (∀ a x, ((![v8, v1311] : Fin 2 → IVec S16 32) a x).toNat < S8x2048.size a) ∧
  (∀ a x, ((![v9, v1311] : Fin 2 → IVec S16 32) a x).toNat < S8x2048.size a) ∧
  (∀ a x, ((![v10, v1311] : Fin 2 → IVec S16 32) a x).toNat < S8x2048.size a)
theorem k1_idx385_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v3, v1311] : Fin 2 → IVec S16 32) a x).toNat < S8x2048.size a := fun v3 v4 v5 v6 v7 v8 v9 v10 v1311 k1_hw49 => k1_hw49.1
theorem k1_idx386_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v4, v1311] : Fin 2 → IVec S16 32) a x).toNat < S8x2048.size a := fun v3 v4 v5 v6 v7 v8 v9 v10 v1311 k1_hw49 => k1_hw49.2.1
theorem k1_idx387_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v5, v1311] : Fin 2 → IVec S16 32) a x).toNat < S8x2048.size a := fun v3 v4 v5 v6 v7 v8 v9 v10 v1311 k1_hw49 => k1_hw49.2.2.1
theorem k1_idx388_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v6, v1311] : Fin 2 → IVec S16 32) a x).toNat < S8x2048.size a := fun v3 v4 v5 v6 v7 v8 v9 v10 v1311 k1_hw49 => k1_hw49.2.2.2.1
theorem k1_idx389_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v7, v1311] : Fin 2 → IVec S16 32) a x).toNat < S8x2048.size a := fun v3 v4 v5 v6 v7 v8 v9 v10 v1311 k1_hw49 => k1_hw49.2.2.2.2.1
theorem k1_idx390_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v8, v1311] : Fin 2 → IVec S16 32) a x).toNat < S8x2048.size a := fun v3 v4 v5 v6 v7 v8 v9 v10 v1311 k1_hw49 => k1_hw49.2.2.2.2.2.1
theorem k1_idx391_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v9, v1311] : Fin 2 → IVec S16 32) a x).toNat < S8x2048.size a := fun v3 v4 v5 v6 v7 v8 v9 v10 v1311 k1_hw49 => k1_hw49.2.2.2.2.2.2.1
theorem k1_idx392_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k1_hw49 : k1_chk49 v3 v4 v5 v6 v7 v8 v9 v10 v1311), ∀ a x, ((![v10, v1311] : Fin 2 → IVec S16 32) a x).toNat < S8x2048.size a := fun v3 v4 v5 v6 v7 v8 v9 v10 v1311 k1_hw49 => k1_hw49.2.2.2.2.2.2.2

def k1_chk50 (v3 : IVec S16 32) (v4 : IVec S16 32) (v5 : IVec S16 32) (v6 : IVec S16 32) (v7 : IVec S16 32) (v8 : IVec S16 32) (v9 : IVec S16 32) (v10 : IVec S16 32) (v1314 : IVec S16 32) : Prop :=
  (∀ a x, ((![v3, v1314] : Fin 2 → IVec S16 32) a x).toNat < S8x2048.size a) ∧
  (∀ a x, ((![v4, v1314] : Fin 2 → IVec S16 32) a x).toNat < S8x2048.size a) ∧
  (∀ a x, ((![v5, v1314] : Fin 2 → IVec S16 32) a x).toNat < S8x2048.size a) ∧
  (∀ a x, ((![v6, v1314] : Fin 2 → IVec S16 32) a x).toNat < S8x2048.size a) ∧
  (∀ a x, ((![v7, v1314] : Fin 2 → IVec S16 32) a x).toNat < S8x2048.size a) ∧
  (∀ a x, ((![v8, v1314] : Fin 2 → IVec S16 32) a x).toNat < S8x2048.size a) ∧
  (∀ a x, ((![v9, v1314] : Fin 2 → IVec S16 32) a x).toNat < S8x2048.size a) ∧
  (∀ a x, ((![v10, v1314] : Fin 2 → IVec S16 32) a x).toNat < S8x2048.size a)
theorem k1_idx393_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v3, v1314] : Fin 2 → IVec S16 32) a x).toNat < S8x2048.size a := fun v3 v4 v5 v6 v7 v8 v9 v10 v1314 k1_hw50 => k1_hw50.1
theorem k1_idx394_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v4, v1314] : Fin 2 → IVec S16 32) a x).toNat < S8x2048.size a := fun v3 v4 v5 v6 v7 v8 v9 v10 v1314 k1_hw50 => k1_hw50.2.1
theorem k1_idx395_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v5, v1314] : Fin 2 → IVec S16 32) a x).toNat < S8x2048.size a := fun v3 v4 v5 v6 v7 v8 v9 v10 v1314 k1_hw50 => k1_hw50.2.2.1
theorem k1_idx396_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v6, v1314] : Fin 2 → IVec S16 32) a x).toNat < S8x2048.size a := fun v3 v4 v5 v6 v7 v8 v9 v10 v1314 k1_hw50 => k1_hw50.2.2.2.1
theorem k1_idx397_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v7, v1314] : Fin 2 → IVec S16 32) a x).toNat < S8x2048.size a := fun v3 v4 v5 v6 v7 v8 v9 v10 v1314 k1_hw50 => k1_hw50.2.2.2.2.1
theorem k1_idx398_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v8, v1314] : Fin 2 → IVec S16 32) a x).toNat < S8x2048.size a := fun v3 v4 v5 v6 v7 v8 v9 v10 v1314 k1_hw50 => k1_hw50.2.2.2.2.2.1
theorem k1_idx399_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v9, v1314] : Fin 2 → IVec S16 32) a x).toNat < S8x2048.size a := fun v3 v4 v5 v6 v7 v8 v9 v10 v1314 k1_hw50 => k1_hw50.2.2.2.2.2.2.1
theorem k1_idx400_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k1_hw50 : k1_chk50 v3 v4 v5 v6 v7 v8 v9 v10 v1314), ∀ a x, ((![v10, v1314] : Fin 2 → IVec S16 32) a x).toNat < S8x2048.size a := fun v3 v4 v5 v6 v7 v8 v9 v10 v1314 k1_hw50 => k1_hw50.2.2.2.2.2.2.2

def k1_chk51 (v3 : IVec S16 32) (v4 : IVec S16 32) (v5 : IVec S16 32) (v6 : IVec S16 32) (v7 : IVec S16 32) (v8 : IVec S16 32) (v9 : IVec S16 32) (v10 : IVec S16 32) (v1317 : IVec S16 32) : Prop :=
  (∀ a x, ((![v3, v1317] : Fin 2 → IVec S16 32) a x).toNat < S8x2048.size a) ∧
  (∀ a x, ((![v4, v1317] : Fin 2 → IVec S16 32) a x).toNat < S8x2048.size a) ∧
  (∀ a x, ((![v5, v1317] : Fin 2 → IVec S16 32) a x).toNat < S8x2048.size a) ∧
  (∀ a x, ((![v6, v1317] : Fin 2 → IVec S16 32) a x).toNat < S8x2048.size a) ∧
  (∀ a x, ((![v7, v1317] : Fin 2 → IVec S16 32) a x).toNat < S8x2048.size a) ∧
  (∀ a x, ((![v8, v1317] : Fin 2 → IVec S16 32) a x).toNat < S8x2048.size a) ∧
  (∀ a x, ((![v9, v1317] : Fin 2 → IVec S16 32) a x).toNat < S8x2048.size a) ∧
  (∀ a x, ((![v10, v1317] : Fin 2 → IVec S16 32) a x).toNat < S8x2048.size a)
theorem k1_idx401_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v3, v1317] : Fin 2 → IVec S16 32) a x).toNat < S8x2048.size a := fun v3 v4 v5 v6 v7 v8 v9 v10 v1317 k1_hw51 => k1_hw51.1
theorem k1_idx402_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v4, v1317] : Fin 2 → IVec S16 32) a x).toNat < S8x2048.size a := fun v3 v4 v5 v6 v7 v8 v9 v10 v1317 k1_hw51 => k1_hw51.2.1
theorem k1_idx403_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v5, v1317] : Fin 2 → IVec S16 32) a x).toNat < S8x2048.size a := fun v3 v4 v5 v6 v7 v8 v9 v10 v1317 k1_hw51 => k1_hw51.2.2.1
theorem k1_idx404_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v6, v1317] : Fin 2 → IVec S16 32) a x).toNat < S8x2048.size a := fun v3 v4 v5 v6 v7 v8 v9 v10 v1317 k1_hw51 => k1_hw51.2.2.2.1
theorem k1_idx405_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v7, v1317] : Fin 2 → IVec S16 32) a x).toNat < S8x2048.size a := fun v3 v4 v5 v6 v7 v8 v9 v10 v1317 k1_hw51 => k1_hw51.2.2.2.2.1
theorem k1_idx406_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v8, v1317] : Fin 2 → IVec S16 32) a x).toNat < S8x2048.size a := fun v3 v4 v5 v6 v7 v8 v9 v10 v1317 k1_hw51 => k1_hw51.2.2.2.2.2.1
theorem k1_idx407_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v9, v1317] : Fin 2 → IVec S16 32) a x).toNat < S8x2048.size a := fun v3 v4 v5 v6 v7 v8 v9 v10 v1317 k1_hw51 => k1_hw51.2.2.2.2.2.2.1
theorem k1_idx408_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k1_hw51 : k1_chk51 v3 v4 v5 v6 v7 v8 v9 v10 v1317), ∀ a x, ((![v10, v1317] : Fin 2 → IVec S16 32) a x).toNat < S8x2048.size a := fun v3 v4 v5 v6 v7 v8 v9 v10 v1317 k1_hw51 => k1_hw51.2.2.2.2.2.2.2

def k1_chk52 (v3 : IVec S16 32) (v4 : IVec S16 32) (v5 : IVec S16 32) (v6 : IVec S16 32) (v7 : IVec S16 32) (v8 : IVec S16 32) (v9 : IVec S16 32) (v10 : IVec S16 32) (v1320 : IVec S16 32) : Prop :=
  (∀ a x, ((![v3, v1320] : Fin 2 → IVec S16 32) a x).toNat < S8x2048.size a) ∧
  (∀ a x, ((![v4, v1320] : Fin 2 → IVec S16 32) a x).toNat < S8x2048.size a) ∧
  (∀ a x, ((![v5, v1320] : Fin 2 → IVec S16 32) a x).toNat < S8x2048.size a) ∧
  (∀ a x, ((![v6, v1320] : Fin 2 → IVec S16 32) a x).toNat < S8x2048.size a) ∧
  (∀ a x, ((![v7, v1320] : Fin 2 → IVec S16 32) a x).toNat < S8x2048.size a) ∧
  (∀ a x, ((![v8, v1320] : Fin 2 → IVec S16 32) a x).toNat < S8x2048.size a) ∧
  (∀ a x, ((![v9, v1320] : Fin 2 → IVec S16 32) a x).toNat < S8x2048.size a) ∧
  (∀ a x, ((![v10, v1320] : Fin 2 → IVec S16 32) a x).toNat < S8x2048.size a)
theorem k1_idx409_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v3, v1320] : Fin 2 → IVec S16 32) a x).toNat < S8x2048.size a := fun v3 v4 v5 v6 v7 v8 v9 v10 v1320 k1_hw52 => k1_hw52.1
theorem k1_idx410_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v4, v1320] : Fin 2 → IVec S16 32) a x).toNat < S8x2048.size a := fun v3 v4 v5 v6 v7 v8 v9 v10 v1320 k1_hw52 => k1_hw52.2.1
theorem k1_idx411_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v5, v1320] : Fin 2 → IVec S16 32) a x).toNat < S8x2048.size a := fun v3 v4 v5 v6 v7 v8 v9 v10 v1320 k1_hw52 => k1_hw52.2.2.1
theorem k1_idx412_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v6, v1320] : Fin 2 → IVec S16 32) a x).toNat < S8x2048.size a := fun v3 v4 v5 v6 v7 v8 v9 v10 v1320 k1_hw52 => k1_hw52.2.2.2.1
theorem k1_idx413_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v7, v1320] : Fin 2 → IVec S16 32) a x).toNat < S8x2048.size a := fun v3 v4 v5 v6 v7 v8 v9 v10 v1320 k1_hw52 => k1_hw52.2.2.2.2.1
theorem k1_idx414_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v8, v1320] : Fin 2 → IVec S16 32) a x).toNat < S8x2048.size a := fun v3 v4 v5 v6 v7 v8 v9 v10 v1320 k1_hw52 => k1_hw52.2.2.2.2.2.1
theorem k1_idx415_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v9, v1320] : Fin 2 → IVec S16 32) a x).toNat < S8x2048.size a := fun v3 v4 v5 v6 v7 v8 v9 v10 v1320 k1_hw52 => k1_hw52.2.2.2.2.2.2.1
theorem k1_idx416_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k1_hw52 : k1_chk52 v3 v4 v5 v6 v7 v8 v9 v10 v1320), ∀ a x, ((![v10, v1320] : Fin 2 → IVec S16 32) a x).toNat < S8x2048.size a := fun v3 v4 v5 v6 v7 v8 v9 v10 v1320 k1_hw52 => k1_hw52.2.2.2.2.2.2.2
def k1_off54 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_891 : BitVec 32 := 6#32
  let v1417 : BitVec 32 := Scalar.addi v12 c6_i32_891
  let v1418 : Index := Scalar.indexCast v1417
  let c64_892 : Index := 64#32
  ![v1418.toNat, 64]
def k1_off55 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_893 : BitVec 32 := 6#32
  let v1420 : BitVec 32 := Scalar.addi v12 c6_i32_893
  let v1421 : Index := Scalar.indexCast v1420
  let c80_894 : Index := 80#32
  ![v1421.toNat, 80]
def k1_off56 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_895 : BitVec 32 := 6#32
  let v1423 : BitVec 32 := Scalar.addi v12 c6_i32_895
  let v1424 : Index := Scalar.indexCast v1423
  let c96_896 : Index := 96#32
  ![v1424.toNat, 96]
def k1_off57 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c6_i32_897 : BitVec 32 := 6#32
  let v1426 : BitVec 32 := Scalar.addi v12 c6_i32_897
  let v1427 : Index := Scalar.indexCast v1426
  let c112_898 : Index := 112#32
  ![v1427.toNat, 112]

def k1_chk53 (v3 : IVec S16 32) (v4 : IVec S16 32) (v5 : IVec S16 32) (v6 : IVec S16 32) (v7 : IVec S16 32) (v8 : IVec S16 32) (v9 : IVec S16 32) (v10 : IVec S16 32) (v1419 : IVec S16 32) : Prop :=
  (∀ a x, ((![v3, v1419] : Fin 2 → IVec S16 32) a x).toNat < S8x2048.size a) ∧
  (∀ a x, ((![v4, v1419] : Fin 2 → IVec S16 32) a x).toNat < S8x2048.size a) ∧
  (∀ a x, ((![v5, v1419] : Fin 2 → IVec S16 32) a x).toNat < S8x2048.size a) ∧
  (∀ a x, ((![v6, v1419] : Fin 2 → IVec S16 32) a x).toNat < S8x2048.size a) ∧
  (∀ a x, ((![v7, v1419] : Fin 2 → IVec S16 32) a x).toNat < S8x2048.size a) ∧
  (∀ a x, ((![v8, v1419] : Fin 2 → IVec S16 32) a x).toNat < S8x2048.size a) ∧
  (∀ a x, ((![v9, v1419] : Fin 2 → IVec S16 32) a x).toNat < S8x2048.size a) ∧
  (∀ a x, ((![v10, v1419] : Fin 2 → IVec S16 32) a x).toNat < S8x2048.size a)
theorem k1_idx417_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v3, v1419] : Fin 2 → IVec S16 32) a x).toNat < S8x2048.size a := fun v3 v4 v5 v6 v7 v8 v9 v10 v1419 k1_hw53 => k1_hw53.1
theorem k1_idx418_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v4, v1419] : Fin 2 → IVec S16 32) a x).toNat < S8x2048.size a := fun v3 v4 v5 v6 v7 v8 v9 v10 v1419 k1_hw53 => k1_hw53.2.1
theorem k1_idx419_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v5, v1419] : Fin 2 → IVec S16 32) a x).toNat < S8x2048.size a := fun v3 v4 v5 v6 v7 v8 v9 v10 v1419 k1_hw53 => k1_hw53.2.2.1
theorem k1_idx420_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v6, v1419] : Fin 2 → IVec S16 32) a x).toNat < S8x2048.size a := fun v3 v4 v5 v6 v7 v8 v9 v10 v1419 k1_hw53 => k1_hw53.2.2.2.1
theorem k1_idx421_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v7, v1419] : Fin 2 → IVec S16 32) a x).toNat < S8x2048.size a := fun v3 v4 v5 v6 v7 v8 v9 v10 v1419 k1_hw53 => k1_hw53.2.2.2.2.1
theorem k1_idx422_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v8, v1419] : Fin 2 → IVec S16 32) a x).toNat < S8x2048.size a := fun v3 v4 v5 v6 v7 v8 v9 v10 v1419 k1_hw53 => k1_hw53.2.2.2.2.2.1
theorem k1_idx423_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v9, v1419] : Fin 2 → IVec S16 32) a x).toNat < S8x2048.size a := fun v3 v4 v5 v6 v7 v8 v9 v10 v1419 k1_hw53 => k1_hw53.2.2.2.2.2.2.1
theorem k1_idx424_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k1_hw53 : k1_chk53 v3 v4 v5 v6 v7 v8 v9 v10 v1419), ∀ a x, ((![v10, v1419] : Fin 2 → IVec S16 32) a x).toNat < S8x2048.size a := fun v3 v4 v5 v6 v7 v8 v9 v10 v1419 k1_hw53 => k1_hw53.2.2.2.2.2.2.2

def k1_chk54 (v3 : IVec S16 32) (v4 : IVec S16 32) (v5 : IVec S16 32) (v6 : IVec S16 32) (v7 : IVec S16 32) (v8 : IVec S16 32) (v9 : IVec S16 32) (v10 : IVec S16 32) (v1422 : IVec S16 32) : Prop :=
  (∀ a x, ((![v3, v1422] : Fin 2 → IVec S16 32) a x).toNat < S8x2048.size a) ∧
  (∀ a x, ((![v4, v1422] : Fin 2 → IVec S16 32) a x).toNat < S8x2048.size a) ∧
  (∀ a x, ((![v5, v1422] : Fin 2 → IVec S16 32) a x).toNat < S8x2048.size a) ∧
  (∀ a x, ((![v6, v1422] : Fin 2 → IVec S16 32) a x).toNat < S8x2048.size a) ∧
  (∀ a x, ((![v7, v1422] : Fin 2 → IVec S16 32) a x).toNat < S8x2048.size a) ∧
  (∀ a x, ((![v8, v1422] : Fin 2 → IVec S16 32) a x).toNat < S8x2048.size a) ∧
  (∀ a x, ((![v9, v1422] : Fin 2 → IVec S16 32) a x).toNat < S8x2048.size a) ∧
  (∀ a x, ((![v10, v1422] : Fin 2 → IVec S16 32) a x).toNat < S8x2048.size a)
theorem k1_idx425_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v3, v1422] : Fin 2 → IVec S16 32) a x).toNat < S8x2048.size a := fun v3 v4 v5 v6 v7 v8 v9 v10 v1422 k1_hw54 => k1_hw54.1
theorem k1_idx426_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v4, v1422] : Fin 2 → IVec S16 32) a x).toNat < S8x2048.size a := fun v3 v4 v5 v6 v7 v8 v9 v10 v1422 k1_hw54 => k1_hw54.2.1
theorem k1_idx427_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v5, v1422] : Fin 2 → IVec S16 32) a x).toNat < S8x2048.size a := fun v3 v4 v5 v6 v7 v8 v9 v10 v1422 k1_hw54 => k1_hw54.2.2.1
theorem k1_idx428_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v6, v1422] : Fin 2 → IVec S16 32) a x).toNat < S8x2048.size a := fun v3 v4 v5 v6 v7 v8 v9 v10 v1422 k1_hw54 => k1_hw54.2.2.2.1
theorem k1_idx429_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v7, v1422] : Fin 2 → IVec S16 32) a x).toNat < S8x2048.size a := fun v3 v4 v5 v6 v7 v8 v9 v10 v1422 k1_hw54 => k1_hw54.2.2.2.2.1
theorem k1_idx430_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v8, v1422] : Fin 2 → IVec S16 32) a x).toNat < S8x2048.size a := fun v3 v4 v5 v6 v7 v8 v9 v10 v1422 k1_hw54 => k1_hw54.2.2.2.2.2.1
theorem k1_idx431_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v9, v1422] : Fin 2 → IVec S16 32) a x).toNat < S8x2048.size a := fun v3 v4 v5 v6 v7 v8 v9 v10 v1422 k1_hw54 => k1_hw54.2.2.2.2.2.2.1
theorem k1_idx432_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k1_hw54 : k1_chk54 v3 v4 v5 v6 v7 v8 v9 v10 v1422), ∀ a x, ((![v10, v1422] : Fin 2 → IVec S16 32) a x).toNat < S8x2048.size a := fun v3 v4 v5 v6 v7 v8 v9 v10 v1422 k1_hw54 => k1_hw54.2.2.2.2.2.2.2

def k1_chk55 (v3 : IVec S16 32) (v4 : IVec S16 32) (v5 : IVec S16 32) (v6 : IVec S16 32) (v7 : IVec S16 32) (v8 : IVec S16 32) (v9 : IVec S16 32) (v10 : IVec S16 32) (v1425 : IVec S16 32) : Prop :=
  (∀ a x, ((![v3, v1425] : Fin 2 → IVec S16 32) a x).toNat < S8x2048.size a) ∧
  (∀ a x, ((![v4, v1425] : Fin 2 → IVec S16 32) a x).toNat < S8x2048.size a) ∧
  (∀ a x, ((![v5, v1425] : Fin 2 → IVec S16 32) a x).toNat < S8x2048.size a) ∧
  (∀ a x, ((![v6, v1425] : Fin 2 → IVec S16 32) a x).toNat < S8x2048.size a) ∧
  (∀ a x, ((![v7, v1425] : Fin 2 → IVec S16 32) a x).toNat < S8x2048.size a) ∧
  (∀ a x, ((![v8, v1425] : Fin 2 → IVec S16 32) a x).toNat < S8x2048.size a) ∧
  (∀ a x, ((![v9, v1425] : Fin 2 → IVec S16 32) a x).toNat < S8x2048.size a) ∧
  (∀ a x, ((![v10, v1425] : Fin 2 → IVec S16 32) a x).toNat < S8x2048.size a)
theorem k1_idx433_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v3, v1425] : Fin 2 → IVec S16 32) a x).toNat < S8x2048.size a := fun v3 v4 v5 v6 v7 v8 v9 v10 v1425 k1_hw55 => k1_hw55.1
theorem k1_idx434_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v4, v1425] : Fin 2 → IVec S16 32) a x).toNat < S8x2048.size a := fun v3 v4 v5 v6 v7 v8 v9 v10 v1425 k1_hw55 => k1_hw55.2.1
theorem k1_idx435_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v5, v1425] : Fin 2 → IVec S16 32) a x).toNat < S8x2048.size a := fun v3 v4 v5 v6 v7 v8 v9 v10 v1425 k1_hw55 => k1_hw55.2.2.1
theorem k1_idx436_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v6, v1425] : Fin 2 → IVec S16 32) a x).toNat < S8x2048.size a := fun v3 v4 v5 v6 v7 v8 v9 v10 v1425 k1_hw55 => k1_hw55.2.2.2.1
theorem k1_idx437_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v7, v1425] : Fin 2 → IVec S16 32) a x).toNat < S8x2048.size a := fun v3 v4 v5 v6 v7 v8 v9 v10 v1425 k1_hw55 => k1_hw55.2.2.2.2.1
theorem k1_idx438_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v8, v1425] : Fin 2 → IVec S16 32) a x).toNat < S8x2048.size a := fun v3 v4 v5 v6 v7 v8 v9 v10 v1425 k1_hw55 => k1_hw55.2.2.2.2.2.1
theorem k1_idx439_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v9, v1425] : Fin 2 → IVec S16 32) a x).toNat < S8x2048.size a := fun v3 v4 v5 v6 v7 v8 v9 v10 v1425 k1_hw55 => k1_hw55.2.2.2.2.2.2.1
theorem k1_idx440_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k1_hw55 : k1_chk55 v3 v4 v5 v6 v7 v8 v9 v10 v1425), ∀ a x, ((![v10, v1425] : Fin 2 → IVec S16 32) a x).toNat < S8x2048.size a := fun v3 v4 v5 v6 v7 v8 v9 v10 v1425 k1_hw55 => k1_hw55.2.2.2.2.2.2.2

def k1_chk56 (v3 : IVec S16 32) (v4 : IVec S16 32) (v5 : IVec S16 32) (v6 : IVec S16 32) (v7 : IVec S16 32) (v8 : IVec S16 32) (v9 : IVec S16 32) (v10 : IVec S16 32) (v1428 : IVec S16 32) : Prop :=
  (∀ a x, ((![v3, v1428] : Fin 2 → IVec S16 32) a x).toNat < S8x2048.size a) ∧
  (∀ a x, ((![v4, v1428] : Fin 2 → IVec S16 32) a x).toNat < S8x2048.size a) ∧
  (∀ a x, ((![v5, v1428] : Fin 2 → IVec S16 32) a x).toNat < S8x2048.size a) ∧
  (∀ a x, ((![v6, v1428] : Fin 2 → IVec S16 32) a x).toNat < S8x2048.size a) ∧
  (∀ a x, ((![v7, v1428] : Fin 2 → IVec S16 32) a x).toNat < S8x2048.size a) ∧
  (∀ a x, ((![v8, v1428] : Fin 2 → IVec S16 32) a x).toNat < S8x2048.size a) ∧
  (∀ a x, ((![v9, v1428] : Fin 2 → IVec S16 32) a x).toNat < S8x2048.size a) ∧
  (∀ a x, ((![v10, v1428] : Fin 2 → IVec S16 32) a x).toNat < S8x2048.size a)
theorem k1_idx441_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v3, v1428] : Fin 2 → IVec S16 32) a x).toNat < S8x2048.size a := fun v3 v4 v5 v6 v7 v8 v9 v10 v1428 k1_hw56 => k1_hw56.1
theorem k1_idx442_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v4, v1428] : Fin 2 → IVec S16 32) a x).toNat < S8x2048.size a := fun v3 v4 v5 v6 v7 v8 v9 v10 v1428 k1_hw56 => k1_hw56.2.1
theorem k1_idx443_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v5, v1428] : Fin 2 → IVec S16 32) a x).toNat < S8x2048.size a := fun v3 v4 v5 v6 v7 v8 v9 v10 v1428 k1_hw56 => k1_hw56.2.2.1
theorem k1_idx444_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v6, v1428] : Fin 2 → IVec S16 32) a x).toNat < S8x2048.size a := fun v3 v4 v5 v6 v7 v8 v9 v10 v1428 k1_hw56 => k1_hw56.2.2.2.1
theorem k1_idx445_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v7, v1428] : Fin 2 → IVec S16 32) a x).toNat < S8x2048.size a := fun v3 v4 v5 v6 v7 v8 v9 v10 v1428 k1_hw56 => k1_hw56.2.2.2.2.1
theorem k1_idx446_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v8, v1428] : Fin 2 → IVec S16 32) a x).toNat < S8x2048.size a := fun v3 v4 v5 v6 v7 v8 v9 v10 v1428 k1_hw56 => k1_hw56.2.2.2.2.2.1
theorem k1_idx447_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v9, v1428] : Fin 2 → IVec S16 32) a x).toNat < S8x2048.size a := fun v3 v4 v5 v6 v7 v8 v9 v10 v1428 k1_hw56 => k1_hw56.2.2.2.2.2.2.1
theorem k1_idx448_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k1_hw56 : k1_chk56 v3 v4 v5 v6 v7 v8 v9 v10 v1428), ∀ a x, ((![v10, v1428] : Fin 2 → IVec S16 32) a x).toNat < S8x2048.size a := fun v3 v4 v5 v6 v7 v8 v9 v10 v1428 k1_hw56 => k1_hw56.2.2.2.2.2.2.2
def k1_off58 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_959 : BitVec 32 := 7#32
  let v1525 : BitVec 32 := Scalar.addi v12 c7_i32_959
  let v1526 : Index := Scalar.indexCast v1525
  let c0_960 : Index := 0#32
  ![v1526.toNat, 0]
def k1_off59 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_961 : BitVec 32 := 7#32
  let v1528 : BitVec 32 := Scalar.addi v12 c7_i32_961
  let v1529 : Index := Scalar.indexCast v1528
  let c16_962 : Index := 16#32
  ![v1529.toNat, 16]
def k1_off60 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_963 : BitVec 32 := 7#32
  let v1531 : BitVec 32 := Scalar.addi v12 c7_i32_963
  let v1532 : Index := Scalar.indexCast v1531
  let c32_964 : Index := 32#32
  ![v1532.toNat, 32]
def k1_off61 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_965 : BitVec 32 := 7#32
  let v1534 : BitVec 32 := Scalar.addi v12 c7_i32_965
  let v1535 : Index := Scalar.indexCast v1534
  let c48_966 : Index := 48#32
  ![v1535.toNat, 48]

def k1_chk57 (v3 : IVec S16 32) (v4 : IVec S16 32) (v5 : IVec S16 32) (v6 : IVec S16 32) (v7 : IVec S16 32) (v8 : IVec S16 32) (v9 : IVec S16 32) (v10 : IVec S16 32) (v1527 : IVec S16 32) : Prop :=
  (∀ a x, ((![v3, v1527] : Fin 2 → IVec S16 32) a x).toNat < S8x2048.size a) ∧
  (∀ a x, ((![v4, v1527] : Fin 2 → IVec S16 32) a x).toNat < S8x2048.size a) ∧
  (∀ a x, ((![v5, v1527] : Fin 2 → IVec S16 32) a x).toNat < S8x2048.size a) ∧
  (∀ a x, ((![v6, v1527] : Fin 2 → IVec S16 32) a x).toNat < S8x2048.size a) ∧
  (∀ a x, ((![v7, v1527] : Fin 2 → IVec S16 32) a x).toNat < S8x2048.size a) ∧
  (∀ a x, ((![v8, v1527] : Fin 2 → IVec S16 32) a x).toNat < S8x2048.size a) ∧
  (∀ a x, ((![v9, v1527] : Fin 2 → IVec S16 32) a x).toNat < S8x2048.size a) ∧
  (∀ a x, ((![v10, v1527] : Fin 2 → IVec S16 32) a x).toNat < S8x2048.size a)
theorem k1_idx449_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v3, v1527] : Fin 2 → IVec S16 32) a x).toNat < S8x2048.size a := fun v3 v4 v5 v6 v7 v8 v9 v10 v1527 k1_hw57 => k1_hw57.1
theorem k1_idx450_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v4, v1527] : Fin 2 → IVec S16 32) a x).toNat < S8x2048.size a := fun v3 v4 v5 v6 v7 v8 v9 v10 v1527 k1_hw57 => k1_hw57.2.1
theorem k1_idx451_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v5, v1527] : Fin 2 → IVec S16 32) a x).toNat < S8x2048.size a := fun v3 v4 v5 v6 v7 v8 v9 v10 v1527 k1_hw57 => k1_hw57.2.2.1
theorem k1_idx452_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v6, v1527] : Fin 2 → IVec S16 32) a x).toNat < S8x2048.size a := fun v3 v4 v5 v6 v7 v8 v9 v10 v1527 k1_hw57 => k1_hw57.2.2.2.1
theorem k1_idx453_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v7, v1527] : Fin 2 → IVec S16 32) a x).toNat < S8x2048.size a := fun v3 v4 v5 v6 v7 v8 v9 v10 v1527 k1_hw57 => k1_hw57.2.2.2.2.1
theorem k1_idx454_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v8, v1527] : Fin 2 → IVec S16 32) a x).toNat < S8x2048.size a := fun v3 v4 v5 v6 v7 v8 v9 v10 v1527 k1_hw57 => k1_hw57.2.2.2.2.2.1
theorem k1_idx455_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v9, v1527] : Fin 2 → IVec S16 32) a x).toNat < S8x2048.size a := fun v3 v4 v5 v6 v7 v8 v9 v10 v1527 k1_hw57 => k1_hw57.2.2.2.2.2.2.1
theorem k1_idx456_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k1_hw57 : k1_chk57 v3 v4 v5 v6 v7 v8 v9 v10 v1527), ∀ a x, ((![v10, v1527] : Fin 2 → IVec S16 32) a x).toNat < S8x2048.size a := fun v3 v4 v5 v6 v7 v8 v9 v10 v1527 k1_hw57 => k1_hw57.2.2.2.2.2.2.2

def k1_chk58 (v3 : IVec S16 32) (v4 : IVec S16 32) (v5 : IVec S16 32) (v6 : IVec S16 32) (v7 : IVec S16 32) (v8 : IVec S16 32) (v9 : IVec S16 32) (v10 : IVec S16 32) (v1530 : IVec S16 32) : Prop :=
  (∀ a x, ((![v3, v1530] : Fin 2 → IVec S16 32) a x).toNat < S8x2048.size a) ∧
  (∀ a x, ((![v4, v1530] : Fin 2 → IVec S16 32) a x).toNat < S8x2048.size a) ∧
  (∀ a x, ((![v5, v1530] : Fin 2 → IVec S16 32) a x).toNat < S8x2048.size a) ∧
  (∀ a x, ((![v6, v1530] : Fin 2 → IVec S16 32) a x).toNat < S8x2048.size a) ∧
  (∀ a x, ((![v7, v1530] : Fin 2 → IVec S16 32) a x).toNat < S8x2048.size a) ∧
  (∀ a x, ((![v8, v1530] : Fin 2 → IVec S16 32) a x).toNat < S8x2048.size a) ∧
  (∀ a x, ((![v9, v1530] : Fin 2 → IVec S16 32) a x).toNat < S8x2048.size a) ∧
  (∀ a x, ((![v10, v1530] : Fin 2 → IVec S16 32) a x).toNat < S8x2048.size a)
theorem k1_idx457_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v3, v1530] : Fin 2 → IVec S16 32) a x).toNat < S8x2048.size a := fun v3 v4 v5 v6 v7 v8 v9 v10 v1530 k1_hw58 => k1_hw58.1
theorem k1_idx458_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v4, v1530] : Fin 2 → IVec S16 32) a x).toNat < S8x2048.size a := fun v3 v4 v5 v6 v7 v8 v9 v10 v1530 k1_hw58 => k1_hw58.2.1
theorem k1_idx459_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v5, v1530] : Fin 2 → IVec S16 32) a x).toNat < S8x2048.size a := fun v3 v4 v5 v6 v7 v8 v9 v10 v1530 k1_hw58 => k1_hw58.2.2.1
theorem k1_idx460_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v6, v1530] : Fin 2 → IVec S16 32) a x).toNat < S8x2048.size a := fun v3 v4 v5 v6 v7 v8 v9 v10 v1530 k1_hw58 => k1_hw58.2.2.2.1
theorem k1_idx461_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v7, v1530] : Fin 2 → IVec S16 32) a x).toNat < S8x2048.size a := fun v3 v4 v5 v6 v7 v8 v9 v10 v1530 k1_hw58 => k1_hw58.2.2.2.2.1
theorem k1_idx462_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v8, v1530] : Fin 2 → IVec S16 32) a x).toNat < S8x2048.size a := fun v3 v4 v5 v6 v7 v8 v9 v10 v1530 k1_hw58 => k1_hw58.2.2.2.2.2.1
theorem k1_idx463_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v9, v1530] : Fin 2 → IVec S16 32) a x).toNat < S8x2048.size a := fun v3 v4 v5 v6 v7 v8 v9 v10 v1530 k1_hw58 => k1_hw58.2.2.2.2.2.2.1
theorem k1_idx464_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k1_hw58 : k1_chk58 v3 v4 v5 v6 v7 v8 v9 v10 v1530), ∀ a x, ((![v10, v1530] : Fin 2 → IVec S16 32) a x).toNat < S8x2048.size a := fun v3 v4 v5 v6 v7 v8 v9 v10 v1530 k1_hw58 => k1_hw58.2.2.2.2.2.2.2

def k1_chk59 (v3 : IVec S16 32) (v4 : IVec S16 32) (v5 : IVec S16 32) (v6 : IVec S16 32) (v7 : IVec S16 32) (v8 : IVec S16 32) (v9 : IVec S16 32) (v10 : IVec S16 32) (v1533 : IVec S16 32) : Prop :=
  (∀ a x, ((![v3, v1533] : Fin 2 → IVec S16 32) a x).toNat < S8x2048.size a) ∧
  (∀ a x, ((![v4, v1533] : Fin 2 → IVec S16 32) a x).toNat < S8x2048.size a) ∧
  (∀ a x, ((![v5, v1533] : Fin 2 → IVec S16 32) a x).toNat < S8x2048.size a) ∧
  (∀ a x, ((![v6, v1533] : Fin 2 → IVec S16 32) a x).toNat < S8x2048.size a) ∧
  (∀ a x, ((![v7, v1533] : Fin 2 → IVec S16 32) a x).toNat < S8x2048.size a) ∧
  (∀ a x, ((![v8, v1533] : Fin 2 → IVec S16 32) a x).toNat < S8x2048.size a) ∧
  (∀ a x, ((![v9, v1533] : Fin 2 → IVec S16 32) a x).toNat < S8x2048.size a) ∧
  (∀ a x, ((![v10, v1533] : Fin 2 → IVec S16 32) a x).toNat < S8x2048.size a)
theorem k1_idx465_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v3, v1533] : Fin 2 → IVec S16 32) a x).toNat < S8x2048.size a := fun v3 v4 v5 v6 v7 v8 v9 v10 v1533 k1_hw59 => k1_hw59.1
theorem k1_idx466_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v4, v1533] : Fin 2 → IVec S16 32) a x).toNat < S8x2048.size a := fun v3 v4 v5 v6 v7 v8 v9 v10 v1533 k1_hw59 => k1_hw59.2.1
theorem k1_idx467_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v5, v1533] : Fin 2 → IVec S16 32) a x).toNat < S8x2048.size a := fun v3 v4 v5 v6 v7 v8 v9 v10 v1533 k1_hw59 => k1_hw59.2.2.1
theorem k1_idx468_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v6, v1533] : Fin 2 → IVec S16 32) a x).toNat < S8x2048.size a := fun v3 v4 v5 v6 v7 v8 v9 v10 v1533 k1_hw59 => k1_hw59.2.2.2.1
theorem k1_idx469_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v7, v1533] : Fin 2 → IVec S16 32) a x).toNat < S8x2048.size a := fun v3 v4 v5 v6 v7 v8 v9 v10 v1533 k1_hw59 => k1_hw59.2.2.2.2.1
theorem k1_idx470_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v8, v1533] : Fin 2 → IVec S16 32) a x).toNat < S8x2048.size a := fun v3 v4 v5 v6 v7 v8 v9 v10 v1533 k1_hw59 => k1_hw59.2.2.2.2.2.1
theorem k1_idx471_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v9, v1533] : Fin 2 → IVec S16 32) a x).toNat < S8x2048.size a := fun v3 v4 v5 v6 v7 v8 v9 v10 v1533 k1_hw59 => k1_hw59.2.2.2.2.2.2.1
theorem k1_idx472_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k1_hw59 : k1_chk59 v3 v4 v5 v6 v7 v8 v9 v10 v1533), ∀ a x, ((![v10, v1533] : Fin 2 → IVec S16 32) a x).toNat < S8x2048.size a := fun v3 v4 v5 v6 v7 v8 v9 v10 v1533 k1_hw59 => k1_hw59.2.2.2.2.2.2.2

def k1_chk60 (v3 : IVec S16 32) (v4 : IVec S16 32) (v5 : IVec S16 32) (v6 : IVec S16 32) (v7 : IVec S16 32) (v8 : IVec S16 32) (v9 : IVec S16 32) (v10 : IVec S16 32) (v1536 : IVec S16 32) : Prop :=
  (∀ a x, ((![v3, v1536] : Fin 2 → IVec S16 32) a x).toNat < S8x2048.size a) ∧
  (∀ a x, ((![v4, v1536] : Fin 2 → IVec S16 32) a x).toNat < S8x2048.size a) ∧
  (∀ a x, ((![v5, v1536] : Fin 2 → IVec S16 32) a x).toNat < S8x2048.size a) ∧
  (∀ a x, ((![v6, v1536] : Fin 2 → IVec S16 32) a x).toNat < S8x2048.size a) ∧
  (∀ a x, ((![v7, v1536] : Fin 2 → IVec S16 32) a x).toNat < S8x2048.size a) ∧
  (∀ a x, ((![v8, v1536] : Fin 2 → IVec S16 32) a x).toNat < S8x2048.size a) ∧
  (∀ a x, ((![v9, v1536] : Fin 2 → IVec S16 32) a x).toNat < S8x2048.size a) ∧
  (∀ a x, ((![v10, v1536] : Fin 2 → IVec S16 32) a x).toNat < S8x2048.size a)
theorem k1_idx473_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v3, v1536] : Fin 2 → IVec S16 32) a x).toNat < S8x2048.size a := fun v3 v4 v5 v6 v7 v8 v9 v10 v1536 k1_hw60 => k1_hw60.1
theorem k1_idx474_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v4, v1536] : Fin 2 → IVec S16 32) a x).toNat < S8x2048.size a := fun v3 v4 v5 v6 v7 v8 v9 v10 v1536 k1_hw60 => k1_hw60.2.1
theorem k1_idx475_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v5, v1536] : Fin 2 → IVec S16 32) a x).toNat < S8x2048.size a := fun v3 v4 v5 v6 v7 v8 v9 v10 v1536 k1_hw60 => k1_hw60.2.2.1
theorem k1_idx476_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v6, v1536] : Fin 2 → IVec S16 32) a x).toNat < S8x2048.size a := fun v3 v4 v5 v6 v7 v8 v9 v10 v1536 k1_hw60 => k1_hw60.2.2.2.1
theorem k1_idx477_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v7, v1536] : Fin 2 → IVec S16 32) a x).toNat < S8x2048.size a := fun v3 v4 v5 v6 v7 v8 v9 v10 v1536 k1_hw60 => k1_hw60.2.2.2.2.1
theorem k1_idx478_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v8, v1536] : Fin 2 → IVec S16 32) a x).toNat < S8x2048.size a := fun v3 v4 v5 v6 v7 v8 v9 v10 v1536 k1_hw60 => k1_hw60.2.2.2.2.2.1
theorem k1_idx479_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v9, v1536] : Fin 2 → IVec S16 32) a x).toNat < S8x2048.size a := fun v3 v4 v5 v6 v7 v8 v9 v10 v1536 k1_hw60 => k1_hw60.2.2.2.2.2.2.1
theorem k1_idx480_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k1_hw60 : k1_chk60 v3 v4 v5 v6 v7 v8 v9 v10 v1536), ∀ a x, ((![v10, v1536] : Fin 2 → IVec S16 32) a x).toNat < S8x2048.size a := fun v3 v4 v5 v6 v7 v8 v9 v10 v1536 k1_hw60 => k1_hw60.2.2.2.2.2.2.2
def k1_off62 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_1027 : BitVec 32 := 7#32
  let v1633 : BitVec 32 := Scalar.addi v12 c7_i32_1027
  let v1634 : Index := Scalar.indexCast v1633
  let c64_1028 : Index := 64#32
  ![v1634.toNat, 64]
def k1_off63 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_1029 : BitVec 32 := 7#32
  let v1636 : BitVec 32 := Scalar.addi v12 c7_i32_1029
  let v1637 : Index := Scalar.indexCast v1636
  let c80_1030 : Index := 80#32
  ![v1637.toNat, 80]
def k1_off64 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_1031 : BitVec 32 := 7#32
  let v1639 : BitVec 32 := Scalar.addi v12 c7_i32_1031
  let v1640 : Index := Scalar.indexCast v1639
  let c96_1032 : Index := 96#32
  ![v1640.toNat, 96]
def k1_off65 (k1_t1 : Fin k1_t1_loop.trips) : Fin 2 → Nat :=
  let c0_i32_2 : BitVec 32 := 0#32
  let c1_i32_4 : BitVec 32 := 1#32
  let arg8 : BitVec 32 := Scf.iv c0_i32_2 c1_i32_4 k1_t1
  let c8_i32_6 : BitVec 32 := 8#32
  let v12 : BitVec 32 := Scalar.muli arg8 c8_i32_6
  let c7_i32_1033 : BitVec 32 := 7#32
  let v1642 : BitVec 32 := Scalar.addi v12 c7_i32_1033
  let v1643 : Index := Scalar.indexCast v1642
  let c112_1034 : Index := 112#32
  ![v1643.toNat, 112]

def k1_chk61 (v3 : IVec S16 32) (v4 : IVec S16 32) (v5 : IVec S16 32) (v6 : IVec S16 32) (v7 : IVec S16 32) (v8 : IVec S16 32) (v9 : IVec S16 32) (v10 : IVec S16 32) (v1635 : IVec S16 32) : Prop :=
  (∀ a x, ((![v3, v1635] : Fin 2 → IVec S16 32) a x).toNat < S8x2048.size a) ∧
  (∀ a x, ((![v4, v1635] : Fin 2 → IVec S16 32) a x).toNat < S8x2048.size a) ∧
  (∀ a x, ((![v5, v1635] : Fin 2 → IVec S16 32) a x).toNat < S8x2048.size a) ∧
  (∀ a x, ((![v6, v1635] : Fin 2 → IVec S16 32) a x).toNat < S8x2048.size a) ∧
  (∀ a x, ((![v7, v1635] : Fin 2 → IVec S16 32) a x).toNat < S8x2048.size a) ∧
  (∀ a x, ((![v8, v1635] : Fin 2 → IVec S16 32) a x).toNat < S8x2048.size a) ∧
  (∀ a x, ((![v9, v1635] : Fin 2 → IVec S16 32) a x).toNat < S8x2048.size a) ∧
  (∀ a x, ((![v10, v1635] : Fin 2 → IVec S16 32) a x).toNat < S8x2048.size a)
theorem k1_idx481_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v3, v1635] : Fin 2 → IVec S16 32) a x).toNat < S8x2048.size a := fun v3 v4 v5 v6 v7 v8 v9 v10 v1635 k1_hw61 => k1_hw61.1
theorem k1_idx482_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v4, v1635] : Fin 2 → IVec S16 32) a x).toNat < S8x2048.size a := fun v3 v4 v5 v6 v7 v8 v9 v10 v1635 k1_hw61 => k1_hw61.2.1
theorem k1_idx483_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v5, v1635] : Fin 2 → IVec S16 32) a x).toNat < S8x2048.size a := fun v3 v4 v5 v6 v7 v8 v9 v10 v1635 k1_hw61 => k1_hw61.2.2.1
theorem k1_idx484_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v6, v1635] : Fin 2 → IVec S16 32) a x).toNat < S8x2048.size a := fun v3 v4 v5 v6 v7 v8 v9 v10 v1635 k1_hw61 => k1_hw61.2.2.2.1
theorem k1_idx485_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v7, v1635] : Fin 2 → IVec S16 32) a x).toNat < S8x2048.size a := fun v3 v4 v5 v6 v7 v8 v9 v10 v1635 k1_hw61 => k1_hw61.2.2.2.2.1
theorem k1_idx486_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v8, v1635] : Fin 2 → IVec S16 32) a x).toNat < S8x2048.size a := fun v3 v4 v5 v6 v7 v8 v9 v10 v1635 k1_hw61 => k1_hw61.2.2.2.2.2.1
theorem k1_idx487_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v9, v1635] : Fin 2 → IVec S16 32) a x).toNat < S8x2048.size a := fun v3 v4 v5 v6 v7 v8 v9 v10 v1635 k1_hw61 => k1_hw61.2.2.2.2.2.2.1
theorem k1_idx488_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k1_hw61 : k1_chk61 v3 v4 v5 v6 v7 v8 v9 v10 v1635), ∀ a x, ((![v10, v1635] : Fin 2 → IVec S16 32) a x).toNat < S8x2048.size a := fun v3 v4 v5 v6 v7 v8 v9 v10 v1635 k1_hw61 => k1_hw61.2.2.2.2.2.2.2

def k1_chk62 (v3 : IVec S16 32) (v4 : IVec S16 32) (v5 : IVec S16 32) (v6 : IVec S16 32) (v7 : IVec S16 32) (v8 : IVec S16 32) (v9 : IVec S16 32) (v10 : IVec S16 32) (v1638 : IVec S16 32) : Prop :=
  (∀ a x, ((![v3, v1638] : Fin 2 → IVec S16 32) a x).toNat < S8x2048.size a) ∧
  (∀ a x, ((![v4, v1638] : Fin 2 → IVec S16 32) a x).toNat < S8x2048.size a) ∧
  (∀ a x, ((![v5, v1638] : Fin 2 → IVec S16 32) a x).toNat < S8x2048.size a) ∧
  (∀ a x, ((![v6, v1638] : Fin 2 → IVec S16 32) a x).toNat < S8x2048.size a) ∧
  (∀ a x, ((![v7, v1638] : Fin 2 → IVec S16 32) a x).toNat < S8x2048.size a) ∧
  (∀ a x, ((![v8, v1638] : Fin 2 → IVec S16 32) a x).toNat < S8x2048.size a) ∧
  (∀ a x, ((![v9, v1638] : Fin 2 → IVec S16 32) a x).toNat < S8x2048.size a) ∧
  (∀ a x, ((![v10, v1638] : Fin 2 → IVec S16 32) a x).toNat < S8x2048.size a)
theorem k1_idx489_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v3, v1638] : Fin 2 → IVec S16 32) a x).toNat < S8x2048.size a := fun v3 v4 v5 v6 v7 v8 v9 v10 v1638 k1_hw62 => k1_hw62.1
theorem k1_idx490_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v4, v1638] : Fin 2 → IVec S16 32) a x).toNat < S8x2048.size a := fun v3 v4 v5 v6 v7 v8 v9 v10 v1638 k1_hw62 => k1_hw62.2.1
theorem k1_idx491_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v5, v1638] : Fin 2 → IVec S16 32) a x).toNat < S8x2048.size a := fun v3 v4 v5 v6 v7 v8 v9 v10 v1638 k1_hw62 => k1_hw62.2.2.1
theorem k1_idx492_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v6, v1638] : Fin 2 → IVec S16 32) a x).toNat < S8x2048.size a := fun v3 v4 v5 v6 v7 v8 v9 v10 v1638 k1_hw62 => k1_hw62.2.2.2.1
theorem k1_idx493_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v7, v1638] : Fin 2 → IVec S16 32) a x).toNat < S8x2048.size a := fun v3 v4 v5 v6 v7 v8 v9 v10 v1638 k1_hw62 => k1_hw62.2.2.2.2.1
theorem k1_idx494_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v8, v1638] : Fin 2 → IVec S16 32) a x).toNat < S8x2048.size a := fun v3 v4 v5 v6 v7 v8 v9 v10 v1638 k1_hw62 => k1_hw62.2.2.2.2.2.1
theorem k1_idx495_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v9, v1638] : Fin 2 → IVec S16 32) a x).toNat < S8x2048.size a := fun v3 v4 v5 v6 v7 v8 v9 v10 v1638 k1_hw62 => k1_hw62.2.2.2.2.2.2.1
theorem k1_idx496_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k1_hw62 : k1_chk62 v3 v4 v5 v6 v7 v8 v9 v10 v1638), ∀ a x, ((![v10, v1638] : Fin 2 → IVec S16 32) a x).toNat < S8x2048.size a := fun v3 v4 v5 v6 v7 v8 v9 v10 v1638 k1_hw62 => k1_hw62.2.2.2.2.2.2.2

def k1_chk63 (v3 : IVec S16 32) (v4 : IVec S16 32) (v5 : IVec S16 32) (v6 : IVec S16 32) (v7 : IVec S16 32) (v8 : IVec S16 32) (v9 : IVec S16 32) (v10 : IVec S16 32) (v1641 : IVec S16 32) : Prop :=
  (∀ a x, ((![v3, v1641] : Fin 2 → IVec S16 32) a x).toNat < S8x2048.size a) ∧
  (∀ a x, ((![v4, v1641] : Fin 2 → IVec S16 32) a x).toNat < S8x2048.size a) ∧
  (∀ a x, ((![v5, v1641] : Fin 2 → IVec S16 32) a x).toNat < S8x2048.size a) ∧
  (∀ a x, ((![v6, v1641] : Fin 2 → IVec S16 32) a x).toNat < S8x2048.size a) ∧
  (∀ a x, ((![v7, v1641] : Fin 2 → IVec S16 32) a x).toNat < S8x2048.size a) ∧
  (∀ a x, ((![v8, v1641] : Fin 2 → IVec S16 32) a x).toNat < S8x2048.size a) ∧
  (∀ a x, ((![v9, v1641] : Fin 2 → IVec S16 32) a x).toNat < S8x2048.size a) ∧
  (∀ a x, ((![v10, v1641] : Fin 2 → IVec S16 32) a x).toNat < S8x2048.size a)
theorem k1_idx497_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v3, v1641] : Fin 2 → IVec S16 32) a x).toNat < S8x2048.size a := fun v3 v4 v5 v6 v7 v8 v9 v10 v1641 k1_hw63 => k1_hw63.1
theorem k1_idx498_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v4, v1641] : Fin 2 → IVec S16 32) a x).toNat < S8x2048.size a := fun v3 v4 v5 v6 v7 v8 v9 v10 v1641 k1_hw63 => k1_hw63.2.1
theorem k1_idx499_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v5, v1641] : Fin 2 → IVec S16 32) a x).toNat < S8x2048.size a := fun v3 v4 v5 v6 v7 v8 v9 v10 v1641 k1_hw63 => k1_hw63.2.2.1
theorem k1_idx500_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v6, v1641] : Fin 2 → IVec S16 32) a x).toNat < S8x2048.size a := fun v3 v4 v5 v6 v7 v8 v9 v10 v1641 k1_hw63 => k1_hw63.2.2.2.1
theorem k1_idx501_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v7, v1641] : Fin 2 → IVec S16 32) a x).toNat < S8x2048.size a := fun v3 v4 v5 v6 v7 v8 v9 v10 v1641 k1_hw63 => k1_hw63.2.2.2.2.1
theorem k1_idx502_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v8, v1641] : Fin 2 → IVec S16 32) a x).toNat < S8x2048.size a := fun v3 v4 v5 v6 v7 v8 v9 v10 v1641 k1_hw63 => k1_hw63.2.2.2.2.2.1
theorem k1_idx503_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v9, v1641] : Fin 2 → IVec S16 32) a x).toNat < S8x2048.size a := fun v3 v4 v5 v6 v7 v8 v9 v10 v1641 k1_hw63 => k1_hw63.2.2.2.2.2.2.1
theorem k1_idx504_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k1_hw63 : k1_chk63 v3 v4 v5 v6 v7 v8 v9 v10 v1641), ∀ a x, ((![v10, v1641] : Fin 2 → IVec S16 32) a x).toNat < S8x2048.size a := fun v3 v4 v5 v6 v7 v8 v9 v10 v1641 k1_hw63 => k1_hw63.2.2.2.2.2.2.2

def k1_chk64 (v3 : IVec S16 32) (v4 : IVec S16 32) (v5 : IVec S16 32) (v6 : IVec S16 32) (v7 : IVec S16 32) (v8 : IVec S16 32) (v9 : IVec S16 32) (v10 : IVec S16 32) (v1644 : IVec S16 32) : Prop :=
  (∀ a x, ((![v3, v1644] : Fin 2 → IVec S16 32) a x).toNat < S8x2048.size a) ∧
  (∀ a x, ((![v4, v1644] : Fin 2 → IVec S16 32) a x).toNat < S8x2048.size a) ∧
  (∀ a x, ((![v5, v1644] : Fin 2 → IVec S16 32) a x).toNat < S8x2048.size a) ∧
  (∀ a x, ((![v6, v1644] : Fin 2 → IVec S16 32) a x).toNat < S8x2048.size a) ∧
  (∀ a x, ((![v7, v1644] : Fin 2 → IVec S16 32) a x).toNat < S8x2048.size a) ∧
  (∀ a x, ((![v8, v1644] : Fin 2 → IVec S16 32) a x).toNat < S8x2048.size a) ∧
  (∀ a x, ((![v9, v1644] : Fin 2 → IVec S16 32) a x).toNat < S8x2048.size a) ∧
  (∀ a x, ((![v10, v1644] : Fin 2 → IVec S16 32) a x).toNat < S8x2048.size a)
theorem k1_idx505_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v3, v1644] : Fin 2 → IVec S16 32) a x).toNat < S8x2048.size a := fun v3 v4 v5 v6 v7 v8 v9 v10 v1644 k1_hw64 => k1_hw64.1
theorem k1_idx506_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v4, v1644] : Fin 2 → IVec S16 32) a x).toNat < S8x2048.size a := fun v3 v4 v5 v6 v7 v8 v9 v10 v1644 k1_hw64 => k1_hw64.2.1
theorem k1_idx507_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v5, v1644] : Fin 2 → IVec S16 32) a x).toNat < S8x2048.size a := fun v3 v4 v5 v6 v7 v8 v9 v10 v1644 k1_hw64 => k1_hw64.2.2.1
theorem k1_idx508_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v6, v1644] : Fin 2 → IVec S16 32) a x).toNat < S8x2048.size a := fun v3 v4 v5 v6 v7 v8 v9 v10 v1644 k1_hw64 => k1_hw64.2.2.2.1
theorem k1_idx509_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v7, v1644] : Fin 2 → IVec S16 32) a x).toNat < S8x2048.size a := fun v3 v4 v5 v6 v7 v8 v9 v10 v1644 k1_hw64 => k1_hw64.2.2.2.2.1
theorem k1_idx510_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v8, v1644] : Fin 2 → IVec S16 32) a x).toNat < S8x2048.size a := fun v3 v4 v5 v6 v7 v8 v9 v10 v1644 k1_hw64 => k1_hw64.2.2.2.2.2.1
theorem k1_idx511_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v9, v1644] : Fin 2 → IVec S16 32) a x).toNat < S8x2048.size a := fun v3 v4 v5 v6 v7 v8 v9 v10 v1644 k1_hw64 => k1_hw64.2.2.2.2.2.2.1
theorem k1_idx512_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k1_hw64 : k1_chk64 v3 v4 v5 v6 v7 v8 v9 v10 v1644), ∀ a x, ((![v10, v1644] : Fin 2 → IVec S16 32) a x).toNat < S8x2048.size a := fun v3 v4 v5 v6 v7 v8 v9 v10 v1644 k1_hw64 => k1_hw64.2.2.2.2.2.2.2
def k1_off66 (i : grid1.Coords) (k1_t1 : Fin k1_t1_loop.trips) : Fin 3 → Nat :=
  let c0_i32_2 : BitVec 32 := 0#32
  let c1_i32_4 : BitVec 32 := 1#32
  let arg8 : BitVec 32 := Scf.iv c0_i32_2 c1_i32_4 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_1095_r2 : BitVec 32 := 0#32
  ![arg8.toNat, v2.toNat, 0]
abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_23 : BitVec 32 := 0#32
  let v48 : BitVec 1 := Scalar.cmpi .ne v47 c0_i32_23
  v48

def cc2_transform_0 (i : grid2.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8x128 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_6_r1 : BitVec 32 := 0#32
  ![v2.toNat, 0]
@[reducible] def k3_t1_loop : Scf.Loop 32 :=
  let c0_i32_2 : BitVec 32 := 0#32
  let c8_i32_3 : BitVec 32 := 8#32
  let v11 : BitVec 32 := Scalar.addi c0_i32_2 c8_i32_3
  let c1_i32_4 : BitVec 32 := 1#32
  ⟨c0_i32_2, v11, c1_i32_4⟩
def k3_off2 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_7 : BitVec 32 := 0#32
  let v13 : BitVec 32 := Scalar.addi v12 c0_i32_7
  let v14 : Index := Scalar.indexCast v13
  let c0 : Index := 0#32
  ![v14.toNat, 0]
def k3_off3 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_8 : BitVec 32 := 0#32
  let v16 : BitVec 32 := Scalar.addi v12 c0_i32_8
  let v17 : Index := Scalar.indexCast v16
  let c16 : Index := 16#32
  ![v17.toNat, 16]
def k3_off4 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_9 : BitVec 32 := 0#32
  let v19 : BitVec 32 := Scalar.addi v12 c0_i32_9
  let v20 : Index := Scalar.indexCast v19
  let c32 : Index := 32#32
  ![v20.toNat, 32]
def k3_off5 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_10 : BitVec 32 := 0#32
  let v22 : BitVec 32 := Scalar.addi v12 c0_i32_10
  let v23 : Index := Scalar.indexCast v22
  let c48 : Index := 48#32
  ![v23.toNat, 48]

def k3_chk1 (v3 : IVec S16 32) (v4 : IVec S16 32) (v5 : IVec S16 32) (v6 : IVec S16 32) (v7 : IVec S16 32) (v8 : IVec S16 32) (v9 : IVec S16 32) (v10 : IVec S16 32) (v15 : IVec S16 32) : Prop :=
  (∀ a x, ((![v3, v15] : Fin 2 → IVec S16 32) a x).toNat < S8x2048.size a) ∧
  (∀ a x, ((![v4, v15] : Fin 2 → IVec S16 32) a x).toNat < S8x2048.size a) ∧
  (∀ a x, ((![v5, v15] : Fin 2 → IVec S16 32) a x).toNat < S8x2048.size a) ∧
  (∀ a x, ((![v6, v15] : Fin 2 → IVec S16 32) a x).toNat < S8x2048.size a) ∧
  (∀ a x, ((![v7, v15] : Fin 2 → IVec S16 32) a x).toNat < S8x2048.size a) ∧
  (∀ a x, ((![v8, v15] : Fin 2 → IVec S16 32) a x).toNat < S8x2048.size a) ∧
  (∀ a x, ((![v9, v15] : Fin 2 → IVec S16 32) a x).toNat < S8x2048.size a) ∧
  (∀ a x, ((![v10, v15] : Fin 2 → IVec S16 32) a x).toNat < S8x2048.size a)
theorem k3_idx1_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v3, v15] : Fin 2 → IVec S16 32) a x).toNat < S8x2048.size a := fun v3 v4 v5 v6 v7 v8 v9 v10 v15 k3_hw1 => k3_hw1.1
theorem k3_idx2_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v4, v15] : Fin 2 → IVec S16 32) a x).toNat < S8x2048.size a := fun v3 v4 v5 v6 v7 v8 v9 v10 v15 k3_hw1 => k3_hw1.2.1
theorem k3_idx3_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v5, v15] : Fin 2 → IVec S16 32) a x).toNat < S8x2048.size a := fun v3 v4 v5 v6 v7 v8 v9 v10 v15 k3_hw1 => k3_hw1.2.2.1
theorem k3_idx4_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v6, v15] : Fin 2 → IVec S16 32) a x).toNat < S8x2048.size a := fun v3 v4 v5 v6 v7 v8 v9 v10 v15 k3_hw1 => k3_hw1.2.2.2.1
theorem k3_idx5_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v7, v15] : Fin 2 → IVec S16 32) a x).toNat < S8x2048.size a := fun v3 v4 v5 v6 v7 v8 v9 v10 v15 k3_hw1 => k3_hw1.2.2.2.2.1
theorem k3_idx6_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v8, v15] : Fin 2 → IVec S16 32) a x).toNat < S8x2048.size a := fun v3 v4 v5 v6 v7 v8 v9 v10 v15 k3_hw1 => k3_hw1.2.2.2.2.2.1
theorem k3_idx7_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v9, v15] : Fin 2 → IVec S16 32) a x).toNat < S8x2048.size a := fun v3 v4 v5 v6 v7 v8 v9 v10 v15 k3_hw1 => k3_hw1.2.2.2.2.2.2.1
theorem k3_idx8_inb : ∀ (v3 : IVec S16 32) (v4 : IVec S16 32) (v5 : IVec S16 32) (v6 : IVec S16 32) (v7 : IVec S16 32) (v8 : IVec S16 32) (v9 : IVec S16 32) (v10 : IVec S16 32) (v15 : IVec S16 32) (k3_hw1 : k3_chk1 v3 v4 v5 v6 v7 v8 v9 v10 v15), ∀ a x, ((![v10, v15] : Fin 2 → IVec S16 32) a x).toNat < S8x2048.size a := fun v3 v4 v5 v6 v7 v8 v9 v10 v15 k3_hw1 => k3_hw1.2.2.2.2.2.2.2

def k3_chk2 (v3 : IVec S16 32) (v4 : IVec S16 32) (v5 : IVec S16 32) (v6 : IVec S16 32) (v7 : IVec S16 32) (v8 : IVec S16 32) (v9 : IVec S16 32) (v10 : IVec S16 32) (v18 : IVec S16 32) : Prop :=
  (∀ a x, ((![v3, v18] : Fin 2 → IVec S16 32) a x).toNat < S8x2048.size a) ∧
  (∀ a x, ((![v4, v18] : Fin 2 → IVec S16 32) a x).toNat < S8x2048.size a) ∧
  (∀ a x, ((![v5, v18] : Fin 2 → IVec S16 32) a x).toNat < S8x2048.size a) ∧
  (∀ a x, ((![v6, v18] : Fin 2 → IVec S16 32) a x).toNat < S8x2048.size a) ∧
  (∀ a x, ((![v7, v18] : Fin 2 → IVec S16 32) a x).toNat < S8x2048.size a) ∧
  (∀ a x, ((![v8, v18] : Fin 2 → IVec S16 32) a x).toNat < S8x2048.size a) ∧
  (∀ a x, ((![v9, v18] : Fin 2 → IVec S16 32) a x).toNat < S8x2048.size a) ∧
  (∀ a x, ((![v10, v18] : Fin 2 → IVec S16 32) a x).toNat < S8x2048.size a)
theorem k3_idx9_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v3, v18] : Fin 2 → IVec S16 32) a x).toNat < S8x2048.size a := fun v3 v4 v5 v6 v7 v8 v9 v10 v18 k3_hw2 => k3_hw2.1
theorem k3_idx10_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v4, v18] : Fin 2 → IVec S16 32) a x).toNat < S8x2048.size a := fun v3 v4 v5 v6 v7 v8 v9 v10 v18 k3_hw2 => k3_hw2.2.1
theorem k3_idx11_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v5, v18] : Fin 2 → IVec S16 32) a x).toNat < S8x2048.size a := fun v3 v4 v5 v6 v7 v8 v9 v10 v18 k3_hw2 => k3_hw2.2.2.1
theorem k3_idx12_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v6, v18] : Fin 2 → IVec S16 32) a x).toNat < S8x2048.size a := fun v3 v4 v5 v6 v7 v8 v9 v10 v18 k3_hw2 => k3_hw2.2.2.2.1
theorem k3_idx13_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v7, v18] : Fin 2 → IVec S16 32) a x).toNat < S8x2048.size a := fun v3 v4 v5 v6 v7 v8 v9 v10 v18 k3_hw2 => k3_hw2.2.2.2.2.1
theorem k3_idx14_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v8, v18] : Fin 2 → IVec S16 32) a x).toNat < S8x2048.size a := fun v3 v4 v5 v6 v7 v8 v9 v10 v18 k3_hw2 => k3_hw2.2.2.2.2.2.1
theorem k3_idx15_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v9, v18] : Fin 2 → IVec S16 32) a x).toNat < S8x2048.size a := fun v3 v4 v5 v6 v7 v8 v9 v10 v18 k3_hw2 => k3_hw2.2.2.2.2.2.2.1
theorem k3_idx16_inb : ∀ (v3 : IVec S16 32) (v4 : IVec S16 32) (v5 : IVec S16 32) (v6 : IVec S16 32) (v7 : IVec S16 32) (v8 : IVec S16 32) (v9 : IVec S16 32) (v10 : IVec S16 32) (v18 : IVec S16 32) (k3_hw2 : k3_chk2 v3 v4 v5 v6 v7 v8 v9 v10 v18), ∀ a x, ((![v10, v18] : Fin 2 → IVec S16 32) a x).toNat < S8x2048.size a := fun v3 v4 v5 v6 v7 v8 v9 v10 v18 k3_hw2 => k3_hw2.2.2.2.2.2.2.2

def k3_chk3 (v3 : IVec S16 32) (v4 : IVec S16 32) (v5 : IVec S16 32) (v6 : IVec S16 32) (v7 : IVec S16 32) (v8 : IVec S16 32) (v9 : IVec S16 32) (v10 : IVec S16 32) (v21 : IVec S16 32) : Prop :=
  (∀ a x, ((![v3, v21] : Fin 2 → IVec S16 32) a x).toNat < S8x2048.size a) ∧
  (∀ a x, ((![v4, v21] : Fin 2 → IVec S16 32) a x).toNat < S8x2048.size a) ∧
  (∀ a x, ((![v5, v21] : Fin 2 → IVec S16 32) a x).toNat < S8x2048.size a) ∧
  (∀ a x, ((![v6, v21] : Fin 2 → IVec S16 32) a x).toNat < S8x2048.size a) ∧
  (∀ a x, ((![v7, v21] : Fin 2 → IVec S16 32) a x).toNat < S8x2048.size a) ∧
  (∀ a x, ((![v8, v21] : Fin 2 → IVec S16 32) a x).toNat < S8x2048.size a) ∧
  (∀ a x, ((![v9, v21] : Fin 2 → IVec S16 32) a x).toNat < S8x2048.size a) ∧
  (∀ a x, ((![v10, v21] : Fin 2 → IVec S16 32) a x).toNat < S8x2048.size a)
theorem k3_idx17_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v3, v21] : Fin 2 → IVec S16 32) a x).toNat < S8x2048.size a := fun v3 v4 v5 v6 v7 v8 v9 v10 v21 k3_hw3 => k3_hw3.1
theorem k3_idx18_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v4, v21] : Fin 2 → IVec S16 32) a x).toNat < S8x2048.size a := fun v3 v4 v5 v6 v7 v8 v9 v10 v21 k3_hw3 => k3_hw3.2.1
theorem k3_idx19_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v5, v21] : Fin 2 → IVec S16 32) a x).toNat < S8x2048.size a := fun v3 v4 v5 v6 v7 v8 v9 v10 v21 k3_hw3 => k3_hw3.2.2.1
theorem k3_idx20_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v6, v21] : Fin 2 → IVec S16 32) a x).toNat < S8x2048.size a := fun v3 v4 v5 v6 v7 v8 v9 v10 v21 k3_hw3 => k3_hw3.2.2.2.1
theorem k3_idx21_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v7, v21] : Fin 2 → IVec S16 32) a x).toNat < S8x2048.size a := fun v3 v4 v5 v6 v7 v8 v9 v10 v21 k3_hw3 => k3_hw3.2.2.2.2.1
theorem k3_idx22_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v8, v21] : Fin 2 → IVec S16 32) a x).toNat < S8x2048.size a := fun v3 v4 v5 v6 v7 v8 v9 v10 v21 k3_hw3 => k3_hw3.2.2.2.2.2.1
theorem k3_idx23_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v9, v21] : Fin 2 → IVec S16 32) a x).toNat < S8x2048.size a := fun v3 v4 v5 v6 v7 v8 v9 v10 v21 k3_hw3 => k3_hw3.2.2.2.2.2.2.1
theorem k3_idx24_inb : ∀ (v3 : IVec S16 32) (v4 : IVec S16 32) (v5 : IVec S16 32) (v6 : IVec S16 32) (v7 : IVec S16 32) (v8 : IVec S16 32) (v9 : IVec S16 32) (v10 : IVec S16 32) (v21 : IVec S16 32) (k3_hw3 : k3_chk3 v3 v4 v5 v6 v7 v8 v9 v10 v21), ∀ a x, ((![v10, v21] : Fin 2 → IVec S16 32) a x).toNat < S8x2048.size a := fun v3 v4 v5 v6 v7 v8 v9 v10 v21 k3_hw3 => k3_hw3.2.2.2.2.2.2.2

def k3_chk4 (v3 : IVec S16 32) (v4 : IVec S16 32) (v5 : IVec S16 32) (v6 : IVec S16 32) (v7 : IVec S16 32) (v8 : IVec S16 32) (v9 : IVec S16 32) (v10 : IVec S16 32) (v24 : IVec S16 32) : Prop :=
  (∀ a x, ((![v3, v24] : Fin 2 → IVec S16 32) a x).toNat < S8x2048.size a) ∧
  (∀ a x, ((![v4, v24] : Fin 2 → IVec S16 32) a x).toNat < S8x2048.size a) ∧
  (∀ a x, ((![v5, v24] : Fin 2 → IVec S16 32) a x).toNat < S8x2048.size a) ∧
  (∀ a x, ((![v6, v24] : Fin 2 → IVec S16 32) a x).toNat < S8x2048.size a) ∧
  (∀ a x, ((![v7, v24] : Fin 2 → IVec S16 32) a x).toNat < S8x2048.size a) ∧
  (∀ a x, ((![v8, v24] : Fin 2 → IVec S16 32) a x).toNat < S8x2048.size a) ∧
  (∀ a x, ((![v9, v24] : Fin 2 → IVec S16 32) a x).toNat < S8x2048.size a) ∧
  (∀ a x, ((![v10, v24] : Fin 2 → IVec S16 32) a x).toNat < S8x2048.size a)
theorem k3_idx25_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v3, v24] : Fin 2 → IVec S16 32) a x).toNat < S8x2048.size a := fun v3 v4 v5 v6 v7 v8 v9 v10 v24 k3_hw4 => k3_hw4.1
theorem k3_idx26_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v4, v24] : Fin 2 → IVec S16 32) a x).toNat < S8x2048.size a := fun v3 v4 v5 v6 v7 v8 v9 v10 v24 k3_hw4 => k3_hw4.2.1
theorem k3_idx27_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v5, v24] : Fin 2 → IVec S16 32) a x).toNat < S8x2048.size a := fun v3 v4 v5 v6 v7 v8 v9 v10 v24 k3_hw4 => k3_hw4.2.2.1
theorem k3_idx28_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v6, v24] : Fin 2 → IVec S16 32) a x).toNat < S8x2048.size a := fun v3 v4 v5 v6 v7 v8 v9 v10 v24 k3_hw4 => k3_hw4.2.2.2.1
theorem k3_idx29_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v7, v24] : Fin 2 → IVec S16 32) a x).toNat < S8x2048.size a := fun v3 v4 v5 v6 v7 v8 v9 v10 v24 k3_hw4 => k3_hw4.2.2.2.2.1
theorem k3_idx30_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v8, v24] : Fin 2 → IVec S16 32) a x).toNat < S8x2048.size a := fun v3 v4 v5 v6 v7 v8 v9 v10 v24 k3_hw4 => k3_hw4.2.2.2.2.2.1
theorem k3_idx31_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v9, v24] : Fin 2 → IVec S16 32) a x).toNat < S8x2048.size a := fun v3 v4 v5 v6 v7 v8 v9 v10 v24 k3_hw4 => k3_hw4.2.2.2.2.2.2.1
theorem k3_idx32_inb : ∀ (v3 : IVec S16 32) (v4 : IVec S16 32) (v5 : IVec S16 32) (v6 : IVec S16 32) (v7 : IVec S16 32) (v8 : IVec S16 32) (v9 : IVec S16 32) (v10 : IVec S16 32) (v24 : IVec S16 32) (k3_hw4 : k3_chk4 v3 v4 v5 v6 v7 v8 v9 v10 v24), ∀ a x, ((![v10, v24] : Fin 2 → IVec S16 32) a x).toNat < S8x2048.size a := fun v3 v4 v5 v6 v7 v8 v9 v10 v24 k3_hw4 => k3_hw4.2.2.2.2.2.2.2
def k3_off6 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_75 : BitVec 32 := 0#32
  let v121 : BitVec 32 := Scalar.addi v12 c0_i32_75
  let v122 : Index := Scalar.indexCast v121
  let c64 : Index := 64#32
  ![v122.toNat, 64]
def k3_off7 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_76 : BitVec 32 := 0#32
  let v124 : BitVec 32 := Scalar.addi v12 c0_i32_76
  let v125 : Index := Scalar.indexCast v124
  let c80 : Index := 80#32
  ![v125.toNat, 80]
def k3_off8 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_77 : BitVec 32 := 0#32
  let v127 : BitVec 32 := Scalar.addi v12 c0_i32_77
  let v128 : Index := Scalar.indexCast v127
  let c96 : Index := 96#32
  ![v128.toNat, 96]
def k3_off9 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c0_i32_78 : BitVec 32 := 0#32
  let v130 : BitVec 32 := Scalar.addi v12 c0_i32_78
  let v131 : Index := Scalar.indexCast v130
  let c112 : Index := 112#32
  ![v131.toNat, 112]

def k3_chk5 (v3 : IVec S16 32) (v4 : IVec S16 32) (v5 : IVec S16 32) (v6 : IVec S16 32) (v7 : IVec S16 32) (v8 : IVec S16 32) (v9 : IVec S16 32) (v10 : IVec S16 32) (v123 : IVec S16 32) : Prop :=
  (∀ a x, ((![v3, v123] : Fin 2 → IVec S16 32) a x).toNat < S8x2048.size a) ∧
  (∀ a x, ((![v4, v123] : Fin 2 → IVec S16 32) a x).toNat < S8x2048.size a) ∧
  (∀ a x, ((![v5, v123] : Fin 2 → IVec S16 32) a x).toNat < S8x2048.size a) ∧
  (∀ a x, ((![v6, v123] : Fin 2 → IVec S16 32) a x).toNat < S8x2048.size a) ∧
  (∀ a x, ((![v7, v123] : Fin 2 → IVec S16 32) a x).toNat < S8x2048.size a) ∧
  (∀ a x, ((![v8, v123] : Fin 2 → IVec S16 32) a x).toNat < S8x2048.size a) ∧
  (∀ a x, ((![v9, v123] : Fin 2 → IVec S16 32) a x).toNat < S8x2048.size a) ∧
  (∀ a x, ((![v10, v123] : Fin 2 → IVec S16 32) a x).toNat < S8x2048.size a)
theorem k3_idx33_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v3, v123] : Fin 2 → IVec S16 32) a x).toNat < S8x2048.size a := fun v3 v4 v5 v6 v7 v8 v9 v10 v123 k3_hw5 => k3_hw5.1
theorem k3_idx34_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v4, v123] : Fin 2 → IVec S16 32) a x).toNat < S8x2048.size a := fun v3 v4 v5 v6 v7 v8 v9 v10 v123 k3_hw5 => k3_hw5.2.1
theorem k3_idx35_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v5, v123] : Fin 2 → IVec S16 32) a x).toNat < S8x2048.size a := fun v3 v4 v5 v6 v7 v8 v9 v10 v123 k3_hw5 => k3_hw5.2.2.1
theorem k3_idx36_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v6, v123] : Fin 2 → IVec S16 32) a x).toNat < S8x2048.size a := fun v3 v4 v5 v6 v7 v8 v9 v10 v123 k3_hw5 => k3_hw5.2.2.2.1
theorem k3_idx37_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v7, v123] : Fin 2 → IVec S16 32) a x).toNat < S8x2048.size a := fun v3 v4 v5 v6 v7 v8 v9 v10 v123 k3_hw5 => k3_hw5.2.2.2.2.1
theorem k3_idx38_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v8, v123] : Fin 2 → IVec S16 32) a x).toNat < S8x2048.size a := fun v3 v4 v5 v6 v7 v8 v9 v10 v123 k3_hw5 => k3_hw5.2.2.2.2.2.1
theorem k3_idx39_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v9, v123] : Fin 2 → IVec S16 32) a x).toNat < S8x2048.size a := fun v3 v4 v5 v6 v7 v8 v9 v10 v123 k3_hw5 => k3_hw5.2.2.2.2.2.2.1
theorem k3_idx40_inb : ∀ (v3 : IVec S16 32) (v4 : IVec S16 32) (v5 : IVec S16 32) (v6 : IVec S16 32) (v7 : IVec S16 32) (v8 : IVec S16 32) (v9 : IVec S16 32) (v10 : IVec S16 32) (v123 : IVec S16 32) (k3_hw5 : k3_chk5 v3 v4 v5 v6 v7 v8 v9 v10 v123), ∀ a x, ((![v10, v123] : Fin 2 → IVec S16 32) a x).toNat < S8x2048.size a := fun v3 v4 v5 v6 v7 v8 v9 v10 v123 k3_hw5 => k3_hw5.2.2.2.2.2.2.2

def k3_chk6 (v3 : IVec S16 32) (v4 : IVec S16 32) (v5 : IVec S16 32) (v6 : IVec S16 32) (v7 : IVec S16 32) (v8 : IVec S16 32) (v9 : IVec S16 32) (v10 : IVec S16 32) (v126 : IVec S16 32) : Prop :=
  (∀ a x, ((![v3, v126] : Fin 2 → IVec S16 32) a x).toNat < S8x2048.size a) ∧
  (∀ a x, ((![v4, v126] : Fin 2 → IVec S16 32) a x).toNat < S8x2048.size a) ∧
  (∀ a x, ((![v5, v126] : Fin 2 → IVec S16 32) a x).toNat < S8x2048.size a) ∧
  (∀ a x, ((![v6, v126] : Fin 2 → IVec S16 32) a x).toNat < S8x2048.size a) ∧
  (∀ a x, ((![v7, v126] : Fin 2 → IVec S16 32) a x).toNat < S8x2048.size a) ∧
  (∀ a x, ((![v8, v126] : Fin 2 → IVec S16 32) a x).toNat < S8x2048.size a) ∧
  (∀ a x, ((![v9, v126] : Fin 2 → IVec S16 32) a x).toNat < S8x2048.size a) ∧
  (∀ a x, ((![v10, v126] : Fin 2 → IVec S16 32) a x).toNat < S8x2048.size a)
theorem k3_idx41_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v3, v126] : Fin 2 → IVec S16 32) a x).toNat < S8x2048.size a := fun v3 v4 v5 v6 v7 v8 v9 v10 v126 k3_hw6 => k3_hw6.1
theorem k3_idx42_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v4, v126] : Fin 2 → IVec S16 32) a x).toNat < S8x2048.size a := fun v3 v4 v5 v6 v7 v8 v9 v10 v126 k3_hw6 => k3_hw6.2.1
theorem k3_idx43_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v5, v126] : Fin 2 → IVec S16 32) a x).toNat < S8x2048.size a := fun v3 v4 v5 v6 v7 v8 v9 v10 v126 k3_hw6 => k3_hw6.2.2.1
theorem k3_idx44_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v6, v126] : Fin 2 → IVec S16 32) a x).toNat < S8x2048.size a := fun v3 v4 v5 v6 v7 v8 v9 v10 v126 k3_hw6 => k3_hw6.2.2.2.1
theorem k3_idx45_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v7, v126] : Fin 2 → IVec S16 32) a x).toNat < S8x2048.size a := fun v3 v4 v5 v6 v7 v8 v9 v10 v126 k3_hw6 => k3_hw6.2.2.2.2.1
theorem k3_idx46_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v8, v126] : Fin 2 → IVec S16 32) a x).toNat < S8x2048.size a := fun v3 v4 v5 v6 v7 v8 v9 v10 v126 k3_hw6 => k3_hw6.2.2.2.2.2.1
theorem k3_idx47_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v9, v126] : Fin 2 → IVec S16 32) a x).toNat < S8x2048.size a := fun v3 v4 v5 v6 v7 v8 v9 v10 v126 k3_hw6 => k3_hw6.2.2.2.2.2.2.1
theorem k3_idx48_inb : ∀ (v3 : IVec S16 32) (v4 : IVec S16 32) (v5 : IVec S16 32) (v6 : IVec S16 32) (v7 : IVec S16 32) (v8 : IVec S16 32) (v9 : IVec S16 32) (v10 : IVec S16 32) (v126 : IVec S16 32) (k3_hw6 : k3_chk6 v3 v4 v5 v6 v7 v8 v9 v10 v126), ∀ a x, ((![v10, v126] : Fin 2 → IVec S16 32) a x).toNat < S8x2048.size a := fun v3 v4 v5 v6 v7 v8 v9 v10 v126 k3_hw6 => k3_hw6.2.2.2.2.2.2.2

def k3_chk7 (v3 : IVec S16 32) (v4 : IVec S16 32) (v5 : IVec S16 32) (v6 : IVec S16 32) (v7 : IVec S16 32) (v8 : IVec S16 32) (v9 : IVec S16 32) (v10 : IVec S16 32) (v129 : IVec S16 32) : Prop :=
  (∀ a x, ((![v3, v129] : Fin 2 → IVec S16 32) a x).toNat < S8x2048.size a) ∧
  (∀ a x, ((![v4, v129] : Fin 2 → IVec S16 32) a x).toNat < S8x2048.size a) ∧
  (∀ a x, ((![v5, v129] : Fin 2 → IVec S16 32) a x).toNat < S8x2048.size a) ∧
  (∀ a x, ((![v6, v129] : Fin 2 → IVec S16 32) a x).toNat < S8x2048.size a) ∧
  (∀ a x, ((![v7, v129] : Fin 2 → IVec S16 32) a x).toNat < S8x2048.size a) ∧
  (∀ a x, ((![v8, v129] : Fin 2 → IVec S16 32) a x).toNat < S8x2048.size a) ∧
  (∀ a x, ((![v9, v129] : Fin 2 → IVec S16 32) a x).toNat < S8x2048.size a) ∧
  (∀ a x, ((![v10, v129] : Fin 2 → IVec S16 32) a x).toNat < S8x2048.size a)
theorem k3_idx49_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v3, v129] : Fin 2 → IVec S16 32) a x).toNat < S8x2048.size a := fun v3 v4 v5 v6 v7 v8 v9 v10 v129 k3_hw7 => k3_hw7.1
theorem k3_idx50_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v4, v129] : Fin 2 → IVec S16 32) a x).toNat < S8x2048.size a := fun v3 v4 v5 v6 v7 v8 v9 v10 v129 k3_hw7 => k3_hw7.2.1
theorem k3_idx51_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v5, v129] : Fin 2 → IVec S16 32) a x).toNat < S8x2048.size a := fun v3 v4 v5 v6 v7 v8 v9 v10 v129 k3_hw7 => k3_hw7.2.2.1
theorem k3_idx52_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v6, v129] : Fin 2 → IVec S16 32) a x).toNat < S8x2048.size a := fun v3 v4 v5 v6 v7 v8 v9 v10 v129 k3_hw7 => k3_hw7.2.2.2.1
theorem k3_idx53_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v7, v129] : Fin 2 → IVec S16 32) a x).toNat < S8x2048.size a := fun v3 v4 v5 v6 v7 v8 v9 v10 v129 k3_hw7 => k3_hw7.2.2.2.2.1
theorem k3_idx54_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v8, v129] : Fin 2 → IVec S16 32) a x).toNat < S8x2048.size a := fun v3 v4 v5 v6 v7 v8 v9 v10 v129 k3_hw7 => k3_hw7.2.2.2.2.2.1
theorem k3_idx55_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v9, v129] : Fin 2 → IVec S16 32) a x).toNat < S8x2048.size a := fun v3 v4 v5 v6 v7 v8 v9 v10 v129 k3_hw7 => k3_hw7.2.2.2.2.2.2.1
theorem k3_idx56_inb : ∀ (v3 : IVec S16 32) (v4 : IVec S16 32) (v5 : IVec S16 32) (v6 : IVec S16 32) (v7 : IVec S16 32) (v8 : IVec S16 32) (v9 : IVec S16 32) (v10 : IVec S16 32) (v129 : IVec S16 32) (k3_hw7 : k3_chk7 v3 v4 v5 v6 v7 v8 v9 v10 v129), ∀ a x, ((![v10, v129] : Fin 2 → IVec S16 32) a x).toNat < S8x2048.size a := fun v3 v4 v5 v6 v7 v8 v9 v10 v129 k3_hw7 => k3_hw7.2.2.2.2.2.2.2

def k3_chk8 (v3 : IVec S16 32) (v4 : IVec S16 32) (v5 : IVec S16 32) (v6 : IVec S16 32) (v7 : IVec S16 32) (v8 : IVec S16 32) (v9 : IVec S16 32) (v10 : IVec S16 32) (v132 : IVec S16 32) : Prop :=
  (∀ a x, ((![v3, v132] : Fin 2 → IVec S16 32) a x).toNat < S8x2048.size a) ∧
  (∀ a x, ((![v4, v132] : Fin 2 → IVec S16 32) a x).toNat < S8x2048.size a) ∧
  (∀ a x, ((![v5, v132] : Fin 2 → IVec S16 32) a x).toNat < S8x2048.size a) ∧
  (∀ a x, ((![v6, v132] : Fin 2 → IVec S16 32) a x).toNat < S8x2048.size a) ∧
  (∀ a x, ((![v7, v132] : Fin 2 → IVec S16 32) a x).toNat < S8x2048.size a) ∧
  (∀ a x, ((![v8, v132] : Fin 2 → IVec S16 32) a x).toNat < S8x2048.size a) ∧
  (∀ a x, ((![v9, v132] : Fin 2 → IVec S16 32) a x).toNat < S8x2048.size a) ∧
  (∀ a x, ((![v10, v132] : Fin 2 → IVec S16 32) a x).toNat < S8x2048.size a)
theorem k3_idx57_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v3, v132] : Fin 2 → IVec S16 32) a x).toNat < S8x2048.size a := fun v3 v4 v5 v6 v7 v8 v9 v10 v132 k3_hw8 => k3_hw8.1
theorem k3_idx58_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v4, v132] : Fin 2 → IVec S16 32) a x).toNat < S8x2048.size a := fun v3 v4 v5 v6 v7 v8 v9 v10 v132 k3_hw8 => k3_hw8.2.1
theorem k3_idx59_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v5, v132] : Fin 2 → IVec S16 32) a x).toNat < S8x2048.size a := fun v3 v4 v5 v6 v7 v8 v9 v10 v132 k3_hw8 => k3_hw8.2.2.1
theorem k3_idx60_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v6, v132] : Fin 2 → IVec S16 32) a x).toNat < S8x2048.size a := fun v3 v4 v5 v6 v7 v8 v9 v10 v132 k3_hw8 => k3_hw8.2.2.2.1
theorem k3_idx61_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v7, v132] : Fin 2 → IVec S16 32) a x).toNat < S8x2048.size a := fun v3 v4 v5 v6 v7 v8 v9 v10 v132 k3_hw8 => k3_hw8.2.2.2.2.1
theorem k3_idx62_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v8, v132] : Fin 2 → IVec S16 32) a x).toNat < S8x2048.size a := fun v3 v4 v5 v6 v7 v8 v9 v10 v132 k3_hw8 => k3_hw8.2.2.2.2.2.1
theorem k3_idx63_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v9, v132] : Fin 2 → IVec S16 32) a x).toNat < S8x2048.size a := fun v3 v4 v5 v6 v7 v8 v9 v10 v132 k3_hw8 => k3_hw8.2.2.2.2.2.2.1
theorem k3_idx64_inb : ∀ (v3 : IVec S16 32) (v4 : IVec S16 32) (v5 : IVec S16 32) (v6 : IVec S16 32) (v7 : IVec S16 32) (v8 : IVec S16 32) (v9 : IVec S16 32) (v10 : IVec S16 32) (v132 : IVec S16 32) (k3_hw8 : k3_chk8 v3 v4 v5 v6 v7 v8 v9 v10 v132), ∀ a x, ((![v10, v132] : Fin 2 → IVec S16 32) a x).toNat < S8x2048.size a := fun v3 v4 v5 v6 v7 v8 v9 v10 v132 k3_hw8 => k3_hw8.2.2.2.2.2.2.2
def k3_off10 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_143 : BitVec 32 := 1#32
  let v229 : BitVec 32 := Scalar.addi v12 c1_i32_143
  let v230 : Index := Scalar.indexCast v229
  let c0_144 : Index := 0#32
  ![v230.toNat, 0]
def k3_off11 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_145 : BitVec 32 := 1#32
  let v232 : BitVec 32 := Scalar.addi v12 c1_i32_145
  let v233 : Index := Scalar.indexCast v232
  let c16_146 : Index := 16#32
  ![v233.toNat, 16]
def k3_off12 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_147 : BitVec 32 := 1#32
  let v235 : BitVec 32 := Scalar.addi v12 c1_i32_147
  let v236 : Index := Scalar.indexCast v235
  let c32_148 : Index := 32#32
  ![v236.toNat, 32]
def k3_off13 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_149 : BitVec 32 := 1#32
  let v238 : BitVec 32 := Scalar.addi v12 c1_i32_149
  let v239 : Index := Scalar.indexCast v238
  let c48_150 : Index := 48#32
  ![v239.toNat, 48]

def k3_chk9 (v3 : IVec S16 32) (v4 : IVec S16 32) (v5 : IVec S16 32) (v6 : IVec S16 32) (v7 : IVec S16 32) (v8 : IVec S16 32) (v9 : IVec S16 32) (v10 : IVec S16 32) (v231 : IVec S16 32) : Prop :=
  (∀ a x, ((![v3, v231] : Fin 2 → IVec S16 32) a x).toNat < S8x2048.size a) ∧
  (∀ a x, ((![v4, v231] : Fin 2 → IVec S16 32) a x).toNat < S8x2048.size a) ∧
  (∀ a x, ((![v5, v231] : Fin 2 → IVec S16 32) a x).toNat < S8x2048.size a) ∧
  (∀ a x, ((![v6, v231] : Fin 2 → IVec S16 32) a x).toNat < S8x2048.size a) ∧
  (∀ a x, ((![v7, v231] : Fin 2 → IVec S16 32) a x).toNat < S8x2048.size a) ∧
  (∀ a x, ((![v8, v231] : Fin 2 → IVec S16 32) a x).toNat < S8x2048.size a) ∧
  (∀ a x, ((![v9, v231] : Fin 2 → IVec S16 32) a x).toNat < S8x2048.size a) ∧
  (∀ a x, ((![v10, v231] : Fin 2 → IVec S16 32) a x).toNat < S8x2048.size a)
theorem k3_idx65_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v3, v231] : Fin 2 → IVec S16 32) a x).toNat < S8x2048.size a := fun v3 v4 v5 v6 v7 v8 v9 v10 v231 k3_hw9 => k3_hw9.1
theorem k3_idx66_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v4, v231] : Fin 2 → IVec S16 32) a x).toNat < S8x2048.size a := fun v3 v4 v5 v6 v7 v8 v9 v10 v231 k3_hw9 => k3_hw9.2.1
theorem k3_idx67_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v5, v231] : Fin 2 → IVec S16 32) a x).toNat < S8x2048.size a := fun v3 v4 v5 v6 v7 v8 v9 v10 v231 k3_hw9 => k3_hw9.2.2.1
theorem k3_idx68_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v6, v231] : Fin 2 → IVec S16 32) a x).toNat < S8x2048.size a := fun v3 v4 v5 v6 v7 v8 v9 v10 v231 k3_hw9 => k3_hw9.2.2.2.1
theorem k3_idx69_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v7, v231] : Fin 2 → IVec S16 32) a x).toNat < S8x2048.size a := fun v3 v4 v5 v6 v7 v8 v9 v10 v231 k3_hw9 => k3_hw9.2.2.2.2.1
theorem k3_idx70_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v8, v231] : Fin 2 → IVec S16 32) a x).toNat < S8x2048.size a := fun v3 v4 v5 v6 v7 v8 v9 v10 v231 k3_hw9 => k3_hw9.2.2.2.2.2.1
theorem k3_idx71_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v9, v231] : Fin 2 → IVec S16 32) a x).toNat < S8x2048.size a := fun v3 v4 v5 v6 v7 v8 v9 v10 v231 k3_hw9 => k3_hw9.2.2.2.2.2.2.1
theorem k3_idx72_inb : ∀ (v3 : IVec S16 32) (v4 : IVec S16 32) (v5 : IVec S16 32) (v6 : IVec S16 32) (v7 : IVec S16 32) (v8 : IVec S16 32) (v9 : IVec S16 32) (v10 : IVec S16 32) (v231 : IVec S16 32) (k3_hw9 : k3_chk9 v3 v4 v5 v6 v7 v8 v9 v10 v231), ∀ a x, ((![v10, v231] : Fin 2 → IVec S16 32) a x).toNat < S8x2048.size a := fun v3 v4 v5 v6 v7 v8 v9 v10 v231 k3_hw9 => k3_hw9.2.2.2.2.2.2.2

def k3_chk10 (v3 : IVec S16 32) (v4 : IVec S16 32) (v5 : IVec S16 32) (v6 : IVec S16 32) (v7 : IVec S16 32) (v8 : IVec S16 32) (v9 : IVec S16 32) (v10 : IVec S16 32) (v234 : IVec S16 32) : Prop :=
  (∀ a x, ((![v3, v234] : Fin 2 → IVec S16 32) a x).toNat < S8x2048.size a) ∧
  (∀ a x, ((![v4, v234] : Fin 2 → IVec S16 32) a x).toNat < S8x2048.size a) ∧
  (∀ a x, ((![v5, v234] : Fin 2 → IVec S16 32) a x).toNat < S8x2048.size a) ∧
  (∀ a x, ((![v6, v234] : Fin 2 → IVec S16 32) a x).toNat < S8x2048.size a) ∧
  (∀ a x, ((![v7, v234] : Fin 2 → IVec S16 32) a x).toNat < S8x2048.size a) ∧
  (∀ a x, ((![v8, v234] : Fin 2 → IVec S16 32) a x).toNat < S8x2048.size a) ∧
  (∀ a x, ((![v9, v234] : Fin 2 → IVec S16 32) a x).toNat < S8x2048.size a) ∧
  (∀ a x, ((![v10, v234] : Fin 2 → IVec S16 32) a x).toNat < S8x2048.size a)
theorem k3_idx73_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v3, v234] : Fin 2 → IVec S16 32) a x).toNat < S8x2048.size a := fun v3 v4 v5 v6 v7 v8 v9 v10 v234 k3_hw10 => k3_hw10.1
theorem k3_idx74_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v4, v234] : Fin 2 → IVec S16 32) a x).toNat < S8x2048.size a := fun v3 v4 v5 v6 v7 v8 v9 v10 v234 k3_hw10 => k3_hw10.2.1
theorem k3_idx75_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v5, v234] : Fin 2 → IVec S16 32) a x).toNat < S8x2048.size a := fun v3 v4 v5 v6 v7 v8 v9 v10 v234 k3_hw10 => k3_hw10.2.2.1
theorem k3_idx76_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v6, v234] : Fin 2 → IVec S16 32) a x).toNat < S8x2048.size a := fun v3 v4 v5 v6 v7 v8 v9 v10 v234 k3_hw10 => k3_hw10.2.2.2.1
theorem k3_idx77_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v7, v234] : Fin 2 → IVec S16 32) a x).toNat < S8x2048.size a := fun v3 v4 v5 v6 v7 v8 v9 v10 v234 k3_hw10 => k3_hw10.2.2.2.2.1
theorem k3_idx78_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v8, v234] : Fin 2 → IVec S16 32) a x).toNat < S8x2048.size a := fun v3 v4 v5 v6 v7 v8 v9 v10 v234 k3_hw10 => k3_hw10.2.2.2.2.2.1
theorem k3_idx79_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v9, v234] : Fin 2 → IVec S16 32) a x).toNat < S8x2048.size a := fun v3 v4 v5 v6 v7 v8 v9 v10 v234 k3_hw10 => k3_hw10.2.2.2.2.2.2.1
theorem k3_idx80_inb : ∀ (v3 : IVec S16 32) (v4 : IVec S16 32) (v5 : IVec S16 32) (v6 : IVec S16 32) (v7 : IVec S16 32) (v8 : IVec S16 32) (v9 : IVec S16 32) (v10 : IVec S16 32) (v234 : IVec S16 32) (k3_hw10 : k3_chk10 v3 v4 v5 v6 v7 v8 v9 v10 v234), ∀ a x, ((![v10, v234] : Fin 2 → IVec S16 32) a x).toNat < S8x2048.size a := fun v3 v4 v5 v6 v7 v8 v9 v10 v234 k3_hw10 => k3_hw10.2.2.2.2.2.2.2

def k3_chk11 (v3 : IVec S16 32) (v4 : IVec S16 32) (v5 : IVec S16 32) (v6 : IVec S16 32) (v7 : IVec S16 32) (v8 : IVec S16 32) (v9 : IVec S16 32) (v10 : IVec S16 32) (v237 : IVec S16 32) : Prop :=
  (∀ a x, ((![v3, v237] : Fin 2 → IVec S16 32) a x).toNat < S8x2048.size a) ∧
  (∀ a x, ((![v4, v237] : Fin 2 → IVec S16 32) a x).toNat < S8x2048.size a) ∧
  (∀ a x, ((![v5, v237] : Fin 2 → IVec S16 32) a x).toNat < S8x2048.size a) ∧
  (∀ a x, ((![v6, v237] : Fin 2 → IVec S16 32) a x).toNat < S8x2048.size a) ∧
  (∀ a x, ((![v7, v237] : Fin 2 → IVec S16 32) a x).toNat < S8x2048.size a) ∧
  (∀ a x, ((![v8, v237] : Fin 2 → IVec S16 32) a x).toNat < S8x2048.size a) ∧
  (∀ a x, ((![v9, v237] : Fin 2 → IVec S16 32) a x).toNat < S8x2048.size a) ∧
  (∀ a x, ((![v10, v237] : Fin 2 → IVec S16 32) a x).toNat < S8x2048.size a)
theorem k3_idx81_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v3, v237] : Fin 2 → IVec S16 32) a x).toNat < S8x2048.size a := fun v3 v4 v5 v6 v7 v8 v9 v10 v237 k3_hw11 => k3_hw11.1
theorem k3_idx82_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v4, v237] : Fin 2 → IVec S16 32) a x).toNat < S8x2048.size a := fun v3 v4 v5 v6 v7 v8 v9 v10 v237 k3_hw11 => k3_hw11.2.1
theorem k3_idx83_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v5, v237] : Fin 2 → IVec S16 32) a x).toNat < S8x2048.size a := fun v3 v4 v5 v6 v7 v8 v9 v10 v237 k3_hw11 => k3_hw11.2.2.1
theorem k3_idx84_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v6, v237] : Fin 2 → IVec S16 32) a x).toNat < S8x2048.size a := fun v3 v4 v5 v6 v7 v8 v9 v10 v237 k3_hw11 => k3_hw11.2.2.2.1
theorem k3_idx85_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v7, v237] : Fin 2 → IVec S16 32) a x).toNat < S8x2048.size a := fun v3 v4 v5 v6 v7 v8 v9 v10 v237 k3_hw11 => k3_hw11.2.2.2.2.1
theorem k3_idx86_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v8, v237] : Fin 2 → IVec S16 32) a x).toNat < S8x2048.size a := fun v3 v4 v5 v6 v7 v8 v9 v10 v237 k3_hw11 => k3_hw11.2.2.2.2.2.1
theorem k3_idx87_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v9, v237] : Fin 2 → IVec S16 32) a x).toNat < S8x2048.size a := fun v3 v4 v5 v6 v7 v8 v9 v10 v237 k3_hw11 => k3_hw11.2.2.2.2.2.2.1
theorem k3_idx88_inb : ∀ (v3 : IVec S16 32) (v4 : IVec S16 32) (v5 : IVec S16 32) (v6 : IVec S16 32) (v7 : IVec S16 32) (v8 : IVec S16 32) (v9 : IVec S16 32) (v10 : IVec S16 32) (v237 : IVec S16 32) (k3_hw11 : k3_chk11 v3 v4 v5 v6 v7 v8 v9 v10 v237), ∀ a x, ((![v10, v237] : Fin 2 → IVec S16 32) a x).toNat < S8x2048.size a := fun v3 v4 v5 v6 v7 v8 v9 v10 v237 k3_hw11 => k3_hw11.2.2.2.2.2.2.2

def k3_chk12 (v3 : IVec S16 32) (v4 : IVec S16 32) (v5 : IVec S16 32) (v6 : IVec S16 32) (v7 : IVec S16 32) (v8 : IVec S16 32) (v9 : IVec S16 32) (v10 : IVec S16 32) (v240 : IVec S16 32) : Prop :=
  (∀ a x, ((![v3, v240] : Fin 2 → IVec S16 32) a x).toNat < S8x2048.size a) ∧
  (∀ a x, ((![v4, v240] : Fin 2 → IVec S16 32) a x).toNat < S8x2048.size a) ∧
  (∀ a x, ((![v5, v240] : Fin 2 → IVec S16 32) a x).toNat < S8x2048.size a) ∧
  (∀ a x, ((![v6, v240] : Fin 2 → IVec S16 32) a x).toNat < S8x2048.size a) ∧
  (∀ a x, ((![v7, v240] : Fin 2 → IVec S16 32) a x).toNat < S8x2048.size a) ∧
  (∀ a x, ((![v8, v240] : Fin 2 → IVec S16 32) a x).toNat < S8x2048.size a) ∧
  (∀ a x, ((![v9, v240] : Fin 2 → IVec S16 32) a x).toNat < S8x2048.size a) ∧
  (∀ a x, ((![v10, v240] : Fin 2 → IVec S16 32) a x).toNat < S8x2048.size a)
theorem k3_idx89_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v3, v240] : Fin 2 → IVec S16 32) a x).toNat < S8x2048.size a := fun v3 v4 v5 v6 v7 v8 v9 v10 v240 k3_hw12 => k3_hw12.1
theorem k3_idx90_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v4, v240] : Fin 2 → IVec S16 32) a x).toNat < S8x2048.size a := fun v3 v4 v5 v6 v7 v8 v9 v10 v240 k3_hw12 => k3_hw12.2.1
theorem k3_idx91_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v5, v240] : Fin 2 → IVec S16 32) a x).toNat < S8x2048.size a := fun v3 v4 v5 v6 v7 v8 v9 v10 v240 k3_hw12 => k3_hw12.2.2.1
theorem k3_idx92_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v6, v240] : Fin 2 → IVec S16 32) a x).toNat < S8x2048.size a := fun v3 v4 v5 v6 v7 v8 v9 v10 v240 k3_hw12 => k3_hw12.2.2.2.1
theorem k3_idx93_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v7, v240] : Fin 2 → IVec S16 32) a x).toNat < S8x2048.size a := fun v3 v4 v5 v6 v7 v8 v9 v10 v240 k3_hw12 => k3_hw12.2.2.2.2.1
theorem k3_idx94_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v8, v240] : Fin 2 → IVec S16 32) a x).toNat < S8x2048.size a := fun v3 v4 v5 v6 v7 v8 v9 v10 v240 k3_hw12 => k3_hw12.2.2.2.2.2.1
theorem k3_idx95_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v9, v240] : Fin 2 → IVec S16 32) a x).toNat < S8x2048.size a := fun v3 v4 v5 v6 v7 v8 v9 v10 v240 k3_hw12 => k3_hw12.2.2.2.2.2.2.1
theorem k3_idx96_inb : ∀ (v3 : IVec S16 32) (v4 : IVec S16 32) (v5 : IVec S16 32) (v6 : IVec S16 32) (v7 : IVec S16 32) (v8 : IVec S16 32) (v9 : IVec S16 32) (v10 : IVec S16 32) (v240 : IVec S16 32) (k3_hw12 : k3_chk12 v3 v4 v5 v6 v7 v8 v9 v10 v240), ∀ a x, ((![v10, v240] : Fin 2 → IVec S16 32) a x).toNat < S8x2048.size a := fun v3 v4 v5 v6 v7 v8 v9 v10 v240 k3_hw12 => k3_hw12.2.2.2.2.2.2.2
def k3_off14 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_211 : BitVec 32 := 1#32
  let v337 : BitVec 32 := Scalar.addi v12 c1_i32_211
  let v338 : Index := Scalar.indexCast v337
  let c64_212 : Index := 64#32
  ![v338.toNat, 64]
def k3_off15 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_213 : BitVec 32 := 1#32
  let v340 : BitVec 32 := Scalar.addi v12 c1_i32_213
  let v341 : Index := Scalar.indexCast v340
  let c80_214 : Index := 80#32
  ![v341.toNat, 80]
def k3_off16 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_215 : BitVec 32 := 1#32
  let v343 : BitVec 32 := Scalar.addi v12 c1_i32_215
  let v344 : Index := Scalar.indexCast v343
  let c96_216 : Index := 96#32
  ![v344.toNat, 96]
def k3_off17 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c1_i32_217 : BitVec 32 := 1#32
  let v346 : BitVec 32 := Scalar.addi v12 c1_i32_217
  let v347 : Index := Scalar.indexCast v346
  let c112_218 : Index := 112#32
  ![v347.toNat, 112]

def k3_chk13 (v3 : IVec S16 32) (v4 : IVec S16 32) (v5 : IVec S16 32) (v6 : IVec S16 32) (v7 : IVec S16 32) (v8 : IVec S16 32) (v9 : IVec S16 32) (v10 : IVec S16 32) (v339 : IVec S16 32) : Prop :=
  (∀ a x, ((![v3, v339] : Fin 2 → IVec S16 32) a x).toNat < S8x2048.size a) ∧
  (∀ a x, ((![v4, v339] : Fin 2 → IVec S16 32) a x).toNat < S8x2048.size a) ∧
  (∀ a x, ((![v5, v339] : Fin 2 → IVec S16 32) a x).toNat < S8x2048.size a) ∧
  (∀ a x, ((![v6, v339] : Fin 2 → IVec S16 32) a x).toNat < S8x2048.size a) ∧
  (∀ a x, ((![v7, v339] : Fin 2 → IVec S16 32) a x).toNat < S8x2048.size a) ∧
  (∀ a x, ((![v8, v339] : Fin 2 → IVec S16 32) a x).toNat < S8x2048.size a) ∧
  (∀ a x, ((![v9, v339] : Fin 2 → IVec S16 32) a x).toNat < S8x2048.size a) ∧
  (∀ a x, ((![v10, v339] : Fin 2 → IVec S16 32) a x).toNat < S8x2048.size a)
theorem k3_idx97_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v3, v339] : Fin 2 → IVec S16 32) a x).toNat < S8x2048.size a := fun v3 v4 v5 v6 v7 v8 v9 v10 v339 k3_hw13 => k3_hw13.1
theorem k3_idx98_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v4, v339] : Fin 2 → IVec S16 32) a x).toNat < S8x2048.size a := fun v3 v4 v5 v6 v7 v8 v9 v10 v339 k3_hw13 => k3_hw13.2.1
theorem k3_idx99_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v5, v339] : Fin 2 → IVec S16 32) a x).toNat < S8x2048.size a := fun v3 v4 v5 v6 v7 v8 v9 v10 v339 k3_hw13 => k3_hw13.2.2.1
theorem k3_idx100_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v6, v339] : Fin 2 → IVec S16 32) a x).toNat < S8x2048.size a := fun v3 v4 v5 v6 v7 v8 v9 v10 v339 k3_hw13 => k3_hw13.2.2.2.1
theorem k3_idx101_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v7, v339] : Fin 2 → IVec S16 32) a x).toNat < S8x2048.size a := fun v3 v4 v5 v6 v7 v8 v9 v10 v339 k3_hw13 => k3_hw13.2.2.2.2.1
theorem k3_idx102_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v8, v339] : Fin 2 → IVec S16 32) a x).toNat < S8x2048.size a := fun v3 v4 v5 v6 v7 v8 v9 v10 v339 k3_hw13 => k3_hw13.2.2.2.2.2.1
theorem k3_idx103_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v9, v339] : Fin 2 → IVec S16 32) a x).toNat < S8x2048.size a := fun v3 v4 v5 v6 v7 v8 v9 v10 v339 k3_hw13 => k3_hw13.2.2.2.2.2.2.1
theorem k3_idx104_inb : ∀ (v3 : IVec S16 32) (v4 : IVec S16 32) (v5 : IVec S16 32) (v6 : IVec S16 32) (v7 : IVec S16 32) (v8 : IVec S16 32) (v9 : IVec S16 32) (v10 : IVec S16 32) (v339 : IVec S16 32) (k3_hw13 : k3_chk13 v3 v4 v5 v6 v7 v8 v9 v10 v339), ∀ a x, ((![v10, v339] : Fin 2 → IVec S16 32) a x).toNat < S8x2048.size a := fun v3 v4 v5 v6 v7 v8 v9 v10 v339 k3_hw13 => k3_hw13.2.2.2.2.2.2.2

def k3_chk14 (v3 : IVec S16 32) (v4 : IVec S16 32) (v5 : IVec S16 32) (v6 : IVec S16 32) (v7 : IVec S16 32) (v8 : IVec S16 32) (v9 : IVec S16 32) (v10 : IVec S16 32) (v342 : IVec S16 32) : Prop :=
  (∀ a x, ((![v3, v342] : Fin 2 → IVec S16 32) a x).toNat < S8x2048.size a) ∧
  (∀ a x, ((![v4, v342] : Fin 2 → IVec S16 32) a x).toNat < S8x2048.size a) ∧
  (∀ a x, ((![v5, v342] : Fin 2 → IVec S16 32) a x).toNat < S8x2048.size a) ∧
  (∀ a x, ((![v6, v342] : Fin 2 → IVec S16 32) a x).toNat < S8x2048.size a) ∧
  (∀ a x, ((![v7, v342] : Fin 2 → IVec S16 32) a x).toNat < S8x2048.size a) ∧
  (∀ a x, ((![v8, v342] : Fin 2 → IVec S16 32) a x).toNat < S8x2048.size a) ∧
  (∀ a x, ((![v9, v342] : Fin 2 → IVec S16 32) a x).toNat < S8x2048.size a) ∧
  (∀ a x, ((![v10, v342] : Fin 2 → IVec S16 32) a x).toNat < S8x2048.size a)
theorem k3_idx105_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v3, v342] : Fin 2 → IVec S16 32) a x).toNat < S8x2048.size a := fun v3 v4 v5 v6 v7 v8 v9 v10 v342 k3_hw14 => k3_hw14.1
theorem k3_idx106_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v4, v342] : Fin 2 → IVec S16 32) a x).toNat < S8x2048.size a := fun v3 v4 v5 v6 v7 v8 v9 v10 v342 k3_hw14 => k3_hw14.2.1
theorem k3_idx107_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v5, v342] : Fin 2 → IVec S16 32) a x).toNat < S8x2048.size a := fun v3 v4 v5 v6 v7 v8 v9 v10 v342 k3_hw14 => k3_hw14.2.2.1
theorem k3_idx108_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v6, v342] : Fin 2 → IVec S16 32) a x).toNat < S8x2048.size a := fun v3 v4 v5 v6 v7 v8 v9 v10 v342 k3_hw14 => k3_hw14.2.2.2.1
theorem k3_idx109_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v7, v342] : Fin 2 → IVec S16 32) a x).toNat < S8x2048.size a := fun v3 v4 v5 v6 v7 v8 v9 v10 v342 k3_hw14 => k3_hw14.2.2.2.2.1
theorem k3_idx110_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v8, v342] : Fin 2 → IVec S16 32) a x).toNat < S8x2048.size a := fun v3 v4 v5 v6 v7 v8 v9 v10 v342 k3_hw14 => k3_hw14.2.2.2.2.2.1
theorem k3_idx111_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v9, v342] : Fin 2 → IVec S16 32) a x).toNat < S8x2048.size a := fun v3 v4 v5 v6 v7 v8 v9 v10 v342 k3_hw14 => k3_hw14.2.2.2.2.2.2.1
theorem k3_idx112_inb : ∀ (v3 : IVec S16 32) (v4 : IVec S16 32) (v5 : IVec S16 32) (v6 : IVec S16 32) (v7 : IVec S16 32) (v8 : IVec S16 32) (v9 : IVec S16 32) (v10 : IVec S16 32) (v342 : IVec S16 32) (k3_hw14 : k3_chk14 v3 v4 v5 v6 v7 v8 v9 v10 v342), ∀ a x, ((![v10, v342] : Fin 2 → IVec S16 32) a x).toNat < S8x2048.size a := fun v3 v4 v5 v6 v7 v8 v9 v10 v342 k3_hw14 => k3_hw14.2.2.2.2.2.2.2

def k3_chk15 (v3 : IVec S16 32) (v4 : IVec S16 32) (v5 : IVec S16 32) (v6 : IVec S16 32) (v7 : IVec S16 32) (v8 : IVec S16 32) (v9 : IVec S16 32) (v10 : IVec S16 32) (v345 : IVec S16 32) : Prop :=
  (∀ a x, ((![v3, v345] : Fin 2 → IVec S16 32) a x).toNat < S8x2048.size a) ∧
  (∀ a x, ((![v4, v345] : Fin 2 → IVec S16 32) a x).toNat < S8x2048.size a) ∧
  (∀ a x, ((![v5, v345] : Fin 2 → IVec S16 32) a x).toNat < S8x2048.size a) ∧
  (∀ a x, ((![v6, v345] : Fin 2 → IVec S16 32) a x).toNat < S8x2048.size a) ∧
  (∀ a x, ((![v7, v345] : Fin 2 → IVec S16 32) a x).toNat < S8x2048.size a) ∧
  (∀ a x, ((![v8, v345] : Fin 2 → IVec S16 32) a x).toNat < S8x2048.size a) ∧
  (∀ a x, ((![v9, v345] : Fin 2 → IVec S16 32) a x).toNat < S8x2048.size a) ∧
  (∀ a x, ((![v10, v345] : Fin 2 → IVec S16 32) a x).toNat < S8x2048.size a)
theorem k3_idx113_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v3, v345] : Fin 2 → IVec S16 32) a x).toNat < S8x2048.size a := fun v3 v4 v5 v6 v7 v8 v9 v10 v345 k3_hw15 => k3_hw15.1
theorem k3_idx114_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v4, v345] : Fin 2 → IVec S16 32) a x).toNat < S8x2048.size a := fun v3 v4 v5 v6 v7 v8 v9 v10 v345 k3_hw15 => k3_hw15.2.1
theorem k3_idx115_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v5, v345] : Fin 2 → IVec S16 32) a x).toNat < S8x2048.size a := fun v3 v4 v5 v6 v7 v8 v9 v10 v345 k3_hw15 => k3_hw15.2.2.1
theorem k3_idx116_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v6, v345] : Fin 2 → IVec S16 32) a x).toNat < S8x2048.size a := fun v3 v4 v5 v6 v7 v8 v9 v10 v345 k3_hw15 => k3_hw15.2.2.2.1
theorem k3_idx117_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v7, v345] : Fin 2 → IVec S16 32) a x).toNat < S8x2048.size a := fun v3 v4 v5 v6 v7 v8 v9 v10 v345 k3_hw15 => k3_hw15.2.2.2.2.1
theorem k3_idx118_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v8, v345] : Fin 2 → IVec S16 32) a x).toNat < S8x2048.size a := fun v3 v4 v5 v6 v7 v8 v9 v10 v345 k3_hw15 => k3_hw15.2.2.2.2.2.1
theorem k3_idx119_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v9, v345] : Fin 2 → IVec S16 32) a x).toNat < S8x2048.size a := fun v3 v4 v5 v6 v7 v8 v9 v10 v345 k3_hw15 => k3_hw15.2.2.2.2.2.2.1
theorem k3_idx120_inb : ∀ (v3 : IVec S16 32) (v4 : IVec S16 32) (v5 : IVec S16 32) (v6 : IVec S16 32) (v7 : IVec S16 32) (v8 : IVec S16 32) (v9 : IVec S16 32) (v10 : IVec S16 32) (v345 : IVec S16 32) (k3_hw15 : k3_chk15 v3 v4 v5 v6 v7 v8 v9 v10 v345), ∀ a x, ((![v10, v345] : Fin 2 → IVec S16 32) a x).toNat < S8x2048.size a := fun v3 v4 v5 v6 v7 v8 v9 v10 v345 k3_hw15 => k3_hw15.2.2.2.2.2.2.2

def k3_chk16 (v3 : IVec S16 32) (v4 : IVec S16 32) (v5 : IVec S16 32) (v6 : IVec S16 32) (v7 : IVec S16 32) (v8 : IVec S16 32) (v9 : IVec S16 32) (v10 : IVec S16 32) (v348 : IVec S16 32) : Prop :=
  (∀ a x, ((![v3, v348] : Fin 2 → IVec S16 32) a x).toNat < S8x2048.size a) ∧
  (∀ a x, ((![v4, v348] : Fin 2 → IVec S16 32) a x).toNat < S8x2048.size a) ∧
  (∀ a x, ((![v5, v348] : Fin 2 → IVec S16 32) a x).toNat < S8x2048.size a) ∧
  (∀ a x, ((![v6, v348] : Fin 2 → IVec S16 32) a x).toNat < S8x2048.size a) ∧
  (∀ a x, ((![v7, v348] : Fin 2 → IVec S16 32) a x).toNat < S8x2048.size a) ∧
  (∀ a x, ((![v8, v348] : Fin 2 → IVec S16 32) a x).toNat < S8x2048.size a) ∧
  (∀ a x, ((![v9, v348] : Fin 2 → IVec S16 32) a x).toNat < S8x2048.size a) ∧
  (∀ a x, ((![v10, v348] : Fin 2 → IVec S16 32) a x).toNat < S8x2048.size a)
theorem k3_idx121_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v3, v348] : Fin 2 → IVec S16 32) a x).toNat < S8x2048.size a := fun v3 v4 v5 v6 v7 v8 v9 v10 v348 k3_hw16 => k3_hw16.1
theorem k3_idx122_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v4, v348] : Fin 2 → IVec S16 32) a x).toNat < S8x2048.size a := fun v3 v4 v5 v6 v7 v8 v9 v10 v348 k3_hw16 => k3_hw16.2.1
theorem k3_idx123_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v5, v348] : Fin 2 → IVec S16 32) a x).toNat < S8x2048.size a := fun v3 v4 v5 v6 v7 v8 v9 v10 v348 k3_hw16 => k3_hw16.2.2.1
theorem k3_idx124_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v6, v348] : Fin 2 → IVec S16 32) a x).toNat < S8x2048.size a := fun v3 v4 v5 v6 v7 v8 v9 v10 v348 k3_hw16 => k3_hw16.2.2.2.1
theorem k3_idx125_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v7, v348] : Fin 2 → IVec S16 32) a x).toNat < S8x2048.size a := fun v3 v4 v5 v6 v7 v8 v9 v10 v348 k3_hw16 => k3_hw16.2.2.2.2.1
theorem k3_idx126_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v8, v348] : Fin 2 → IVec S16 32) a x).toNat < S8x2048.size a := fun v3 v4 v5 v6 v7 v8 v9 v10 v348 k3_hw16 => k3_hw16.2.2.2.2.2.1
theorem k3_idx127_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v9, v348] : Fin 2 → IVec S16 32) a x).toNat < S8x2048.size a := fun v3 v4 v5 v6 v7 v8 v9 v10 v348 k3_hw16 => k3_hw16.2.2.2.2.2.2.1
theorem k3_idx128_inb : ∀ (v3 : IVec S16 32) (v4 : IVec S16 32) (v5 : IVec S16 32) (v6 : IVec S16 32) (v7 : IVec S16 32) (v8 : IVec S16 32) (v9 : IVec S16 32) (v10 : IVec S16 32) (v348 : IVec S16 32) (k3_hw16 : k3_chk16 v3 v4 v5 v6 v7 v8 v9 v10 v348), ∀ a x, ((![v10, v348] : Fin 2 → IVec S16 32) a x).toNat < S8x2048.size a := fun v3 v4 v5 v6 v7 v8 v9 v10 v348 k3_hw16 => k3_hw16.2.2.2.2.2.2.2
def k3_off18 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_279 : BitVec 32 := 2#32
  let v445 : BitVec 32 := Scalar.addi v12 c2_i32_279
  let v446 : Index := Scalar.indexCast v445
  let c0_280 : Index := 0#32
  ![v446.toNat, 0]
def k3_off19 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_281 : BitVec 32 := 2#32
  let v448 : BitVec 32 := Scalar.addi v12 c2_i32_281
  let v449 : Index := Scalar.indexCast v448
  let c16_282 : Index := 16#32
  ![v449.toNat, 16]
def k3_off20 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_283 : BitVec 32 := 2#32
  let v451 : BitVec 32 := Scalar.addi v12 c2_i32_283
  let v452 : Index := Scalar.indexCast v451
  let c32_284 : Index := 32#32
  ![v452.toNat, 32]
def k3_off21 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_285 : BitVec 32 := 2#32
  let v454 : BitVec 32 := Scalar.addi v12 c2_i32_285
  let v455 : Index := Scalar.indexCast v454
  let c48_286 : Index := 48#32
  ![v455.toNat, 48]

def k3_chk17 (v3 : IVec S16 32) (v4 : IVec S16 32) (v5 : IVec S16 32) (v6 : IVec S16 32) (v7 : IVec S16 32) (v8 : IVec S16 32) (v9 : IVec S16 32) (v10 : IVec S16 32) (v447 : IVec S16 32) : Prop :=
  (∀ a x, ((![v3, v447] : Fin 2 → IVec S16 32) a x).toNat < S8x2048.size a) ∧
  (∀ a x, ((![v4, v447] : Fin 2 → IVec S16 32) a x).toNat < S8x2048.size a) ∧
  (∀ a x, ((![v5, v447] : Fin 2 → IVec S16 32) a x).toNat < S8x2048.size a) ∧
  (∀ a x, ((![v6, v447] : Fin 2 → IVec S16 32) a x).toNat < S8x2048.size a) ∧
  (∀ a x, ((![v7, v447] : Fin 2 → IVec S16 32) a x).toNat < S8x2048.size a) ∧
  (∀ a x, ((![v8, v447] : Fin 2 → IVec S16 32) a x).toNat < S8x2048.size a) ∧
  (∀ a x, ((![v9, v447] : Fin 2 → IVec S16 32) a x).toNat < S8x2048.size a) ∧
  (∀ a x, ((![v10, v447] : Fin 2 → IVec S16 32) a x).toNat < S8x2048.size a)
theorem k3_idx129_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v3, v447] : Fin 2 → IVec S16 32) a x).toNat < S8x2048.size a := fun v3 v4 v5 v6 v7 v8 v9 v10 v447 k3_hw17 => k3_hw17.1
theorem k3_idx130_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v4, v447] : Fin 2 → IVec S16 32) a x).toNat < S8x2048.size a := fun v3 v4 v5 v6 v7 v8 v9 v10 v447 k3_hw17 => k3_hw17.2.1
theorem k3_idx131_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v5, v447] : Fin 2 → IVec S16 32) a x).toNat < S8x2048.size a := fun v3 v4 v5 v6 v7 v8 v9 v10 v447 k3_hw17 => k3_hw17.2.2.1
theorem k3_idx132_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v6, v447] : Fin 2 → IVec S16 32) a x).toNat < S8x2048.size a := fun v3 v4 v5 v6 v7 v8 v9 v10 v447 k3_hw17 => k3_hw17.2.2.2.1
theorem k3_idx133_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v7, v447] : Fin 2 → IVec S16 32) a x).toNat < S8x2048.size a := fun v3 v4 v5 v6 v7 v8 v9 v10 v447 k3_hw17 => k3_hw17.2.2.2.2.1
theorem k3_idx134_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v8, v447] : Fin 2 → IVec S16 32) a x).toNat < S8x2048.size a := fun v3 v4 v5 v6 v7 v8 v9 v10 v447 k3_hw17 => k3_hw17.2.2.2.2.2.1
theorem k3_idx135_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v9, v447] : Fin 2 → IVec S16 32) a x).toNat < S8x2048.size a := fun v3 v4 v5 v6 v7 v8 v9 v10 v447 k3_hw17 => k3_hw17.2.2.2.2.2.2.1
theorem k3_idx136_inb : ∀ (v3 : IVec S16 32) (v4 : IVec S16 32) (v5 : IVec S16 32) (v6 : IVec S16 32) (v7 : IVec S16 32) (v8 : IVec S16 32) (v9 : IVec S16 32) (v10 : IVec S16 32) (v447 : IVec S16 32) (k3_hw17 : k3_chk17 v3 v4 v5 v6 v7 v8 v9 v10 v447), ∀ a x, ((![v10, v447] : Fin 2 → IVec S16 32) a x).toNat < S8x2048.size a := fun v3 v4 v5 v6 v7 v8 v9 v10 v447 k3_hw17 => k3_hw17.2.2.2.2.2.2.2

def k3_chk18 (v3 : IVec S16 32) (v4 : IVec S16 32) (v5 : IVec S16 32) (v6 : IVec S16 32) (v7 : IVec S16 32) (v8 : IVec S16 32) (v9 : IVec S16 32) (v10 : IVec S16 32) (v450 : IVec S16 32) : Prop :=
  (∀ a x, ((![v3, v450] : Fin 2 → IVec S16 32) a x).toNat < S8x2048.size a) ∧
  (∀ a x, ((![v4, v450] : Fin 2 → IVec S16 32) a x).toNat < S8x2048.size a) ∧
  (∀ a x, ((![v5, v450] : Fin 2 → IVec S16 32) a x).toNat < S8x2048.size a) ∧
  (∀ a x, ((![v6, v450] : Fin 2 → IVec S16 32) a x).toNat < S8x2048.size a) ∧
  (∀ a x, ((![v7, v450] : Fin 2 → IVec S16 32) a x).toNat < S8x2048.size a) ∧
  (∀ a x, ((![v8, v450] : Fin 2 → IVec S16 32) a x).toNat < S8x2048.size a) ∧
  (∀ a x, ((![v9, v450] : Fin 2 → IVec S16 32) a x).toNat < S8x2048.size a) ∧
  (∀ a x, ((![v10, v450] : Fin 2 → IVec S16 32) a x).toNat < S8x2048.size a)
theorem k3_idx137_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v3, v450] : Fin 2 → IVec S16 32) a x).toNat < S8x2048.size a := fun v3 v4 v5 v6 v7 v8 v9 v10 v450 k3_hw18 => k3_hw18.1
theorem k3_idx138_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v4, v450] : Fin 2 → IVec S16 32) a x).toNat < S8x2048.size a := fun v3 v4 v5 v6 v7 v8 v9 v10 v450 k3_hw18 => k3_hw18.2.1
theorem k3_idx139_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v5, v450] : Fin 2 → IVec S16 32) a x).toNat < S8x2048.size a := fun v3 v4 v5 v6 v7 v8 v9 v10 v450 k3_hw18 => k3_hw18.2.2.1
theorem k3_idx140_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v6, v450] : Fin 2 → IVec S16 32) a x).toNat < S8x2048.size a := fun v3 v4 v5 v6 v7 v8 v9 v10 v450 k3_hw18 => k3_hw18.2.2.2.1
theorem k3_idx141_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v7, v450] : Fin 2 → IVec S16 32) a x).toNat < S8x2048.size a := fun v3 v4 v5 v6 v7 v8 v9 v10 v450 k3_hw18 => k3_hw18.2.2.2.2.1
theorem k3_idx142_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v8, v450] : Fin 2 → IVec S16 32) a x).toNat < S8x2048.size a := fun v3 v4 v5 v6 v7 v8 v9 v10 v450 k3_hw18 => k3_hw18.2.2.2.2.2.1
theorem k3_idx143_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v9, v450] : Fin 2 → IVec S16 32) a x).toNat < S8x2048.size a := fun v3 v4 v5 v6 v7 v8 v9 v10 v450 k3_hw18 => k3_hw18.2.2.2.2.2.2.1
theorem k3_idx144_inb : ∀ (v3 : IVec S16 32) (v4 : IVec S16 32) (v5 : IVec S16 32) (v6 : IVec S16 32) (v7 : IVec S16 32) (v8 : IVec S16 32) (v9 : IVec S16 32) (v10 : IVec S16 32) (v450 : IVec S16 32) (k3_hw18 : k3_chk18 v3 v4 v5 v6 v7 v8 v9 v10 v450), ∀ a x, ((![v10, v450] : Fin 2 → IVec S16 32) a x).toNat < S8x2048.size a := fun v3 v4 v5 v6 v7 v8 v9 v10 v450 k3_hw18 => k3_hw18.2.2.2.2.2.2.2

def k3_chk19 (v3 : IVec S16 32) (v4 : IVec S16 32) (v5 : IVec S16 32) (v6 : IVec S16 32) (v7 : IVec S16 32) (v8 : IVec S16 32) (v9 : IVec S16 32) (v10 : IVec S16 32) (v453 : IVec S16 32) : Prop :=
  (∀ a x, ((![v3, v453] : Fin 2 → IVec S16 32) a x).toNat < S8x2048.size a) ∧
  (∀ a x, ((![v4, v453] : Fin 2 → IVec S16 32) a x).toNat < S8x2048.size a) ∧
  (∀ a x, ((![v5, v453] : Fin 2 → IVec S16 32) a x).toNat < S8x2048.size a) ∧
  (∀ a x, ((![v6, v453] : Fin 2 → IVec S16 32) a x).toNat < S8x2048.size a) ∧
  (∀ a x, ((![v7, v453] : Fin 2 → IVec S16 32) a x).toNat < S8x2048.size a) ∧
  (∀ a x, ((![v8, v453] : Fin 2 → IVec S16 32) a x).toNat < S8x2048.size a) ∧
  (∀ a x, ((![v9, v453] : Fin 2 → IVec S16 32) a x).toNat < S8x2048.size a) ∧
  (∀ a x, ((![v10, v453] : Fin 2 → IVec S16 32) a x).toNat < S8x2048.size a)
theorem k3_idx145_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v3, v453] : Fin 2 → IVec S16 32) a x).toNat < S8x2048.size a := fun v3 v4 v5 v6 v7 v8 v9 v10 v453 k3_hw19 => k3_hw19.1
theorem k3_idx146_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v4, v453] : Fin 2 → IVec S16 32) a x).toNat < S8x2048.size a := fun v3 v4 v5 v6 v7 v8 v9 v10 v453 k3_hw19 => k3_hw19.2.1
theorem k3_idx147_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v5, v453] : Fin 2 → IVec S16 32) a x).toNat < S8x2048.size a := fun v3 v4 v5 v6 v7 v8 v9 v10 v453 k3_hw19 => k3_hw19.2.2.1
theorem k3_idx148_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v6, v453] : Fin 2 → IVec S16 32) a x).toNat < S8x2048.size a := fun v3 v4 v5 v6 v7 v8 v9 v10 v453 k3_hw19 => k3_hw19.2.2.2.1
theorem k3_idx149_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v7, v453] : Fin 2 → IVec S16 32) a x).toNat < S8x2048.size a := fun v3 v4 v5 v6 v7 v8 v9 v10 v453 k3_hw19 => k3_hw19.2.2.2.2.1
theorem k3_idx150_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v8, v453] : Fin 2 → IVec S16 32) a x).toNat < S8x2048.size a := fun v3 v4 v5 v6 v7 v8 v9 v10 v453 k3_hw19 => k3_hw19.2.2.2.2.2.1
theorem k3_idx151_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v9, v453] : Fin 2 → IVec S16 32) a x).toNat < S8x2048.size a := fun v3 v4 v5 v6 v7 v8 v9 v10 v453 k3_hw19 => k3_hw19.2.2.2.2.2.2.1
theorem k3_idx152_inb : ∀ (v3 : IVec S16 32) (v4 : IVec S16 32) (v5 : IVec S16 32) (v6 : IVec S16 32) (v7 : IVec S16 32) (v8 : IVec S16 32) (v9 : IVec S16 32) (v10 : IVec S16 32) (v453 : IVec S16 32) (k3_hw19 : k3_chk19 v3 v4 v5 v6 v7 v8 v9 v10 v453), ∀ a x, ((![v10, v453] : Fin 2 → IVec S16 32) a x).toNat < S8x2048.size a := fun v3 v4 v5 v6 v7 v8 v9 v10 v453 k3_hw19 => k3_hw19.2.2.2.2.2.2.2

def k3_chk20 (v3 : IVec S16 32) (v4 : IVec S16 32) (v5 : IVec S16 32) (v6 : IVec S16 32) (v7 : IVec S16 32) (v8 : IVec S16 32) (v9 : IVec S16 32) (v10 : IVec S16 32) (v456 : IVec S16 32) : Prop :=
  (∀ a x, ((![v3, v456] : Fin 2 → IVec S16 32) a x).toNat < S8x2048.size a) ∧
  (∀ a x, ((![v4, v456] : Fin 2 → IVec S16 32) a x).toNat < S8x2048.size a) ∧
  (∀ a x, ((![v5, v456] : Fin 2 → IVec S16 32) a x).toNat < S8x2048.size a) ∧
  (∀ a x, ((![v6, v456] : Fin 2 → IVec S16 32) a x).toNat < S8x2048.size a) ∧
  (∀ a x, ((![v7, v456] : Fin 2 → IVec S16 32) a x).toNat < S8x2048.size a) ∧
  (∀ a x, ((![v8, v456] : Fin 2 → IVec S16 32) a x).toNat < S8x2048.size a) ∧
  (∀ a x, ((![v9, v456] : Fin 2 → IVec S16 32) a x).toNat < S8x2048.size a) ∧
  (∀ a x, ((![v10, v456] : Fin 2 → IVec S16 32) a x).toNat < S8x2048.size a)
theorem k3_idx153_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v3, v456] : Fin 2 → IVec S16 32) a x).toNat < S8x2048.size a := fun v3 v4 v5 v6 v7 v8 v9 v10 v456 k3_hw20 => k3_hw20.1
theorem k3_idx154_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v4, v456] : Fin 2 → IVec S16 32) a x).toNat < S8x2048.size a := fun v3 v4 v5 v6 v7 v8 v9 v10 v456 k3_hw20 => k3_hw20.2.1
theorem k3_idx155_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v5, v456] : Fin 2 → IVec S16 32) a x).toNat < S8x2048.size a := fun v3 v4 v5 v6 v7 v8 v9 v10 v456 k3_hw20 => k3_hw20.2.2.1
theorem k3_idx156_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v6, v456] : Fin 2 → IVec S16 32) a x).toNat < S8x2048.size a := fun v3 v4 v5 v6 v7 v8 v9 v10 v456 k3_hw20 => k3_hw20.2.2.2.1
theorem k3_idx157_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v7, v456] : Fin 2 → IVec S16 32) a x).toNat < S8x2048.size a := fun v3 v4 v5 v6 v7 v8 v9 v10 v456 k3_hw20 => k3_hw20.2.2.2.2.1
theorem k3_idx158_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v8, v456] : Fin 2 → IVec S16 32) a x).toNat < S8x2048.size a := fun v3 v4 v5 v6 v7 v8 v9 v10 v456 k3_hw20 => k3_hw20.2.2.2.2.2.1
theorem k3_idx159_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v9, v456] : Fin 2 → IVec S16 32) a x).toNat < S8x2048.size a := fun v3 v4 v5 v6 v7 v8 v9 v10 v456 k3_hw20 => k3_hw20.2.2.2.2.2.2.1
theorem k3_idx160_inb : ∀ (v3 : IVec S16 32) (v4 : IVec S16 32) (v5 : IVec S16 32) (v6 : IVec S16 32) (v7 : IVec S16 32) (v8 : IVec S16 32) (v9 : IVec S16 32) (v10 : IVec S16 32) (v456 : IVec S16 32) (k3_hw20 : k3_chk20 v3 v4 v5 v6 v7 v8 v9 v10 v456), ∀ a x, ((![v10, v456] : Fin 2 → IVec S16 32) a x).toNat < S8x2048.size a := fun v3 v4 v5 v6 v7 v8 v9 v10 v456 k3_hw20 => k3_hw20.2.2.2.2.2.2.2
def k3_off22 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_347 : BitVec 32 := 2#32
  let v553 : BitVec 32 := Scalar.addi v12 c2_i32_347
  let v554 : Index := Scalar.indexCast v553
  let c64_348 : Index := 64#32
  ![v554.toNat, 64]
def k3_off23 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_349 : BitVec 32 := 2#32
  let v556 : BitVec 32 := Scalar.addi v12 c2_i32_349
  let v557 : Index := Scalar.indexCast v556
  let c80_350 : Index := 80#32
  ![v557.toNat, 80]
def k3_off24 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_351 : BitVec 32 := 2#32
  let v559 : BitVec 32 := Scalar.addi v12 c2_i32_351
  let v560 : Index := Scalar.indexCast v559
  let c96_352 : Index := 96#32
  ![v560.toNat, 96]
def k3_off25 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c2_i32_353 : BitVec 32 := 2#32
  let v562 : BitVec 32 := Scalar.addi v12 c2_i32_353
  let v563 : Index := Scalar.indexCast v562
  let c112_354 : Index := 112#32
  ![v563.toNat, 112]

def k3_chk21 (v3 : IVec S16 32) (v4 : IVec S16 32) (v5 : IVec S16 32) (v6 : IVec S16 32) (v7 : IVec S16 32) (v8 : IVec S16 32) (v9 : IVec S16 32) (v10 : IVec S16 32) (v555 : IVec S16 32) : Prop :=
  (∀ a x, ((![v3, v555] : Fin 2 → IVec S16 32) a x).toNat < S8x2048.size a) ∧
  (∀ a x, ((![v4, v555] : Fin 2 → IVec S16 32) a x).toNat < S8x2048.size a) ∧
  (∀ a x, ((![v5, v555] : Fin 2 → IVec S16 32) a x).toNat < S8x2048.size a) ∧
  (∀ a x, ((![v6, v555] : Fin 2 → IVec S16 32) a x).toNat < S8x2048.size a) ∧
  (∀ a x, ((![v7, v555] : Fin 2 → IVec S16 32) a x).toNat < S8x2048.size a) ∧
  (∀ a x, ((![v8, v555] : Fin 2 → IVec S16 32) a x).toNat < S8x2048.size a) ∧
  (∀ a x, ((![v9, v555] : Fin 2 → IVec S16 32) a x).toNat < S8x2048.size a) ∧
  (∀ a x, ((![v10, v555] : Fin 2 → IVec S16 32) a x).toNat < S8x2048.size a)
theorem k3_idx161_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v3, v555] : Fin 2 → IVec S16 32) a x).toNat < S8x2048.size a := fun v3 v4 v5 v6 v7 v8 v9 v10 v555 k3_hw21 => k3_hw21.1
theorem k3_idx162_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v4, v555] : Fin 2 → IVec S16 32) a x).toNat < S8x2048.size a := fun v3 v4 v5 v6 v7 v8 v9 v10 v555 k3_hw21 => k3_hw21.2.1
theorem k3_idx163_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v5, v555] : Fin 2 → IVec S16 32) a x).toNat < S8x2048.size a := fun v3 v4 v5 v6 v7 v8 v9 v10 v555 k3_hw21 => k3_hw21.2.2.1
theorem k3_idx164_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v6, v555] : Fin 2 → IVec S16 32) a x).toNat < S8x2048.size a := fun v3 v4 v5 v6 v7 v8 v9 v10 v555 k3_hw21 => k3_hw21.2.2.2.1
theorem k3_idx165_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v7, v555] : Fin 2 → IVec S16 32) a x).toNat < S8x2048.size a := fun v3 v4 v5 v6 v7 v8 v9 v10 v555 k3_hw21 => k3_hw21.2.2.2.2.1
theorem k3_idx166_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v8, v555] : Fin 2 → IVec S16 32) a x).toNat < S8x2048.size a := fun v3 v4 v5 v6 v7 v8 v9 v10 v555 k3_hw21 => k3_hw21.2.2.2.2.2.1
theorem k3_idx167_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v9, v555] : Fin 2 → IVec S16 32) a x).toNat < S8x2048.size a := fun v3 v4 v5 v6 v7 v8 v9 v10 v555 k3_hw21 => k3_hw21.2.2.2.2.2.2.1
theorem k3_idx168_inb : ∀ (v3 : IVec S16 32) (v4 : IVec S16 32) (v5 : IVec S16 32) (v6 : IVec S16 32) (v7 : IVec S16 32) (v8 : IVec S16 32) (v9 : IVec S16 32) (v10 : IVec S16 32) (v555 : IVec S16 32) (k3_hw21 : k3_chk21 v3 v4 v5 v6 v7 v8 v9 v10 v555), ∀ a x, ((![v10, v555] : Fin 2 → IVec S16 32) a x).toNat < S8x2048.size a := fun v3 v4 v5 v6 v7 v8 v9 v10 v555 k3_hw21 => k3_hw21.2.2.2.2.2.2.2

def k3_chk22 (v3 : IVec S16 32) (v4 : IVec S16 32) (v5 : IVec S16 32) (v6 : IVec S16 32) (v7 : IVec S16 32) (v8 : IVec S16 32) (v9 : IVec S16 32) (v10 : IVec S16 32) (v558 : IVec S16 32) : Prop :=
  (∀ a x, ((![v3, v558] : Fin 2 → IVec S16 32) a x).toNat < S8x2048.size a) ∧
  (∀ a x, ((![v4, v558] : Fin 2 → IVec S16 32) a x).toNat < S8x2048.size a) ∧
  (∀ a x, ((![v5, v558] : Fin 2 → IVec S16 32) a x).toNat < S8x2048.size a) ∧
  (∀ a x, ((![v6, v558] : Fin 2 → IVec S16 32) a x).toNat < S8x2048.size a) ∧
  (∀ a x, ((![v7, v558] : Fin 2 → IVec S16 32) a x).toNat < S8x2048.size a) ∧
  (∀ a x, ((![v8, v558] : Fin 2 → IVec S16 32) a x).toNat < S8x2048.size a) ∧
  (∀ a x, ((![v9, v558] : Fin 2 → IVec S16 32) a x).toNat < S8x2048.size a) ∧
  (∀ a x, ((![v10, v558] : Fin 2 → IVec S16 32) a x).toNat < S8x2048.size a)
theorem k3_idx169_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v3, v558] : Fin 2 → IVec S16 32) a x).toNat < S8x2048.size a := fun v3 v4 v5 v6 v7 v8 v9 v10 v558 k3_hw22 => k3_hw22.1
theorem k3_idx170_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v4, v558] : Fin 2 → IVec S16 32) a x).toNat < S8x2048.size a := fun v3 v4 v5 v6 v7 v8 v9 v10 v558 k3_hw22 => k3_hw22.2.1
theorem k3_idx171_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v5, v558] : Fin 2 → IVec S16 32) a x).toNat < S8x2048.size a := fun v3 v4 v5 v6 v7 v8 v9 v10 v558 k3_hw22 => k3_hw22.2.2.1
theorem k3_idx172_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v6, v558] : Fin 2 → IVec S16 32) a x).toNat < S8x2048.size a := fun v3 v4 v5 v6 v7 v8 v9 v10 v558 k3_hw22 => k3_hw22.2.2.2.1
theorem k3_idx173_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v7, v558] : Fin 2 → IVec S16 32) a x).toNat < S8x2048.size a := fun v3 v4 v5 v6 v7 v8 v9 v10 v558 k3_hw22 => k3_hw22.2.2.2.2.1
theorem k3_idx174_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v8, v558] : Fin 2 → IVec S16 32) a x).toNat < S8x2048.size a := fun v3 v4 v5 v6 v7 v8 v9 v10 v558 k3_hw22 => k3_hw22.2.2.2.2.2.1
theorem k3_idx175_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v9, v558] : Fin 2 → IVec S16 32) a x).toNat < S8x2048.size a := fun v3 v4 v5 v6 v7 v8 v9 v10 v558 k3_hw22 => k3_hw22.2.2.2.2.2.2.1
theorem k3_idx176_inb : ∀ (v3 : IVec S16 32) (v4 : IVec S16 32) (v5 : IVec S16 32) (v6 : IVec S16 32) (v7 : IVec S16 32) (v8 : IVec S16 32) (v9 : IVec S16 32) (v10 : IVec S16 32) (v558 : IVec S16 32) (k3_hw22 : k3_chk22 v3 v4 v5 v6 v7 v8 v9 v10 v558), ∀ a x, ((![v10, v558] : Fin 2 → IVec S16 32) a x).toNat < S8x2048.size a := fun v3 v4 v5 v6 v7 v8 v9 v10 v558 k3_hw22 => k3_hw22.2.2.2.2.2.2.2

def k3_chk23 (v3 : IVec S16 32) (v4 : IVec S16 32) (v5 : IVec S16 32) (v6 : IVec S16 32) (v7 : IVec S16 32) (v8 : IVec S16 32) (v9 : IVec S16 32) (v10 : IVec S16 32) (v561 : IVec S16 32) : Prop :=
  (∀ a x, ((![v3, v561] : Fin 2 → IVec S16 32) a x).toNat < S8x2048.size a) ∧
  (∀ a x, ((![v4, v561] : Fin 2 → IVec S16 32) a x).toNat < S8x2048.size a) ∧
  (∀ a x, ((![v5, v561] : Fin 2 → IVec S16 32) a x).toNat < S8x2048.size a) ∧
  (∀ a x, ((![v6, v561] : Fin 2 → IVec S16 32) a x).toNat < S8x2048.size a) ∧
  (∀ a x, ((![v7, v561] : Fin 2 → IVec S16 32) a x).toNat < S8x2048.size a) ∧
  (∀ a x, ((![v8, v561] : Fin 2 → IVec S16 32) a x).toNat < S8x2048.size a) ∧
  (∀ a x, ((![v9, v561] : Fin 2 → IVec S16 32) a x).toNat < S8x2048.size a) ∧
  (∀ a x, ((![v10, v561] : Fin 2 → IVec S16 32) a x).toNat < S8x2048.size a)
theorem k3_idx177_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v3, v561] : Fin 2 → IVec S16 32) a x).toNat < S8x2048.size a := fun v3 v4 v5 v6 v7 v8 v9 v10 v561 k3_hw23 => k3_hw23.1
theorem k3_idx178_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v4, v561] : Fin 2 → IVec S16 32) a x).toNat < S8x2048.size a := fun v3 v4 v5 v6 v7 v8 v9 v10 v561 k3_hw23 => k3_hw23.2.1
theorem k3_idx179_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v5, v561] : Fin 2 → IVec S16 32) a x).toNat < S8x2048.size a := fun v3 v4 v5 v6 v7 v8 v9 v10 v561 k3_hw23 => k3_hw23.2.2.1
theorem k3_idx180_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v6, v561] : Fin 2 → IVec S16 32) a x).toNat < S8x2048.size a := fun v3 v4 v5 v6 v7 v8 v9 v10 v561 k3_hw23 => k3_hw23.2.2.2.1
theorem k3_idx181_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v7, v561] : Fin 2 → IVec S16 32) a x).toNat < S8x2048.size a := fun v3 v4 v5 v6 v7 v8 v9 v10 v561 k3_hw23 => k3_hw23.2.2.2.2.1
theorem k3_idx182_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v8, v561] : Fin 2 → IVec S16 32) a x).toNat < S8x2048.size a := fun v3 v4 v5 v6 v7 v8 v9 v10 v561 k3_hw23 => k3_hw23.2.2.2.2.2.1
theorem k3_idx183_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v9, v561] : Fin 2 → IVec S16 32) a x).toNat < S8x2048.size a := fun v3 v4 v5 v6 v7 v8 v9 v10 v561 k3_hw23 => k3_hw23.2.2.2.2.2.2.1
theorem k3_idx184_inb : ∀ (v3 : IVec S16 32) (v4 : IVec S16 32) (v5 : IVec S16 32) (v6 : IVec S16 32) (v7 : IVec S16 32) (v8 : IVec S16 32) (v9 : IVec S16 32) (v10 : IVec S16 32) (v561 : IVec S16 32) (k3_hw23 : k3_chk23 v3 v4 v5 v6 v7 v8 v9 v10 v561), ∀ a x, ((![v10, v561] : Fin 2 → IVec S16 32) a x).toNat < S8x2048.size a := fun v3 v4 v5 v6 v7 v8 v9 v10 v561 k3_hw23 => k3_hw23.2.2.2.2.2.2.2

def k3_chk24 (v3 : IVec S16 32) (v4 : IVec S16 32) (v5 : IVec S16 32) (v6 : IVec S16 32) (v7 : IVec S16 32) (v8 : IVec S16 32) (v9 : IVec S16 32) (v10 : IVec S16 32) (v564 : IVec S16 32) : Prop :=
  (∀ a x, ((![v3, v564] : Fin 2 → IVec S16 32) a x).toNat < S8x2048.size a) ∧
  (∀ a x, ((![v4, v564] : Fin 2 → IVec S16 32) a x).toNat < S8x2048.size a) ∧
  (∀ a x, ((![v5, v564] : Fin 2 → IVec S16 32) a x).toNat < S8x2048.size a) ∧
  (∀ a x, ((![v6, v564] : Fin 2 → IVec S16 32) a x).toNat < S8x2048.size a) ∧
  (∀ a x, ((![v7, v564] : Fin 2 → IVec S16 32) a x).toNat < S8x2048.size a) ∧
  (∀ a x, ((![v8, v564] : Fin 2 → IVec S16 32) a x).toNat < S8x2048.size a) ∧
  (∀ a x, ((![v9, v564] : Fin 2 → IVec S16 32) a x).toNat < S8x2048.size a) ∧
  (∀ a x, ((![v10, v564] : Fin 2 → IVec S16 32) a x).toNat < S8x2048.size a)
theorem k3_idx185_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v3, v564] : Fin 2 → IVec S16 32) a x).toNat < S8x2048.size a := fun v3 v4 v5 v6 v7 v8 v9 v10 v564 k3_hw24 => k3_hw24.1
theorem k3_idx186_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v4, v564] : Fin 2 → IVec S16 32) a x).toNat < S8x2048.size a := fun v3 v4 v5 v6 v7 v8 v9 v10 v564 k3_hw24 => k3_hw24.2.1
theorem k3_idx187_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v5, v564] : Fin 2 → IVec S16 32) a x).toNat < S8x2048.size a := fun v3 v4 v5 v6 v7 v8 v9 v10 v564 k3_hw24 => k3_hw24.2.2.1
theorem k3_idx188_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v6, v564] : Fin 2 → IVec S16 32) a x).toNat < S8x2048.size a := fun v3 v4 v5 v6 v7 v8 v9 v10 v564 k3_hw24 => k3_hw24.2.2.2.1
theorem k3_idx189_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v7, v564] : Fin 2 → IVec S16 32) a x).toNat < S8x2048.size a := fun v3 v4 v5 v6 v7 v8 v9 v10 v564 k3_hw24 => k3_hw24.2.2.2.2.1
theorem k3_idx190_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v8, v564] : Fin 2 → IVec S16 32) a x).toNat < S8x2048.size a := fun v3 v4 v5 v6 v7 v8 v9 v10 v564 k3_hw24 => k3_hw24.2.2.2.2.2.1
theorem k3_idx191_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v9, v564] : Fin 2 → IVec S16 32) a x).toNat < S8x2048.size a := fun v3 v4 v5 v6 v7 v8 v9 v10 v564 k3_hw24 => k3_hw24.2.2.2.2.2.2.1
theorem k3_idx192_inb : ∀ (v3 : IVec S16 32) (v4 : IVec S16 32) (v5 : IVec S16 32) (v6 : IVec S16 32) (v7 : IVec S16 32) (v8 : IVec S16 32) (v9 : IVec S16 32) (v10 : IVec S16 32) (v564 : IVec S16 32) (k3_hw24 : k3_chk24 v3 v4 v5 v6 v7 v8 v9 v10 v564), ∀ a x, ((![v10, v564] : Fin 2 → IVec S16 32) a x).toNat < S8x2048.size a := fun v3 v4 v5 v6 v7 v8 v9 v10 v564 k3_hw24 => k3_hw24.2.2.2.2.2.2.2
def k3_off26 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_415 : BitVec 32 := 3#32
  let v661 : BitVec 32 := Scalar.addi v12 c3_i32_415
  let v662 : Index := Scalar.indexCast v661
  let c0_416 : Index := 0#32
  ![v662.toNat, 0]
def k3_off27 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_417 : BitVec 32 := 3#32
  let v664 : BitVec 32 := Scalar.addi v12 c3_i32_417
  let v665 : Index := Scalar.indexCast v664
  let c16_418 : Index := 16#32
  ![v665.toNat, 16]
def k3_off28 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_419 : BitVec 32 := 3#32
  let v667 : BitVec 32 := Scalar.addi v12 c3_i32_419
  let v668 : Index := Scalar.indexCast v667
  let c32_420 : Index := 32#32
  ![v668.toNat, 32]
def k3_off29 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_421 : BitVec 32 := 3#32
  let v670 : BitVec 32 := Scalar.addi v12 c3_i32_421
  let v671 : Index := Scalar.indexCast v670
  let c48_422 : Index := 48#32
  ![v671.toNat, 48]

def k3_chk25 (v3 : IVec S16 32) (v4 : IVec S16 32) (v5 : IVec S16 32) (v6 : IVec S16 32) (v7 : IVec S16 32) (v8 : IVec S16 32) (v9 : IVec S16 32) (v10 : IVec S16 32) (v663 : IVec S16 32) : Prop :=
  (∀ a x, ((![v3, v663] : Fin 2 → IVec S16 32) a x).toNat < S8x2048.size a) ∧
  (∀ a x, ((![v4, v663] : Fin 2 → IVec S16 32) a x).toNat < S8x2048.size a) ∧
  (∀ a x, ((![v5, v663] : Fin 2 → IVec S16 32) a x).toNat < S8x2048.size a) ∧
  (∀ a x, ((![v6, v663] : Fin 2 → IVec S16 32) a x).toNat < S8x2048.size a) ∧
  (∀ a x, ((![v7, v663] : Fin 2 → IVec S16 32) a x).toNat < S8x2048.size a) ∧
  (∀ a x, ((![v8, v663] : Fin 2 → IVec S16 32) a x).toNat < S8x2048.size a) ∧
  (∀ a x, ((![v9, v663] : Fin 2 → IVec S16 32) a x).toNat < S8x2048.size a) ∧
  (∀ a x, ((![v10, v663] : Fin 2 → IVec S16 32) a x).toNat < S8x2048.size a)
theorem k3_idx193_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v3, v663] : Fin 2 → IVec S16 32) a x).toNat < S8x2048.size a := fun v3 v4 v5 v6 v7 v8 v9 v10 v663 k3_hw25 => k3_hw25.1
theorem k3_idx194_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v4, v663] : Fin 2 → IVec S16 32) a x).toNat < S8x2048.size a := fun v3 v4 v5 v6 v7 v8 v9 v10 v663 k3_hw25 => k3_hw25.2.1
theorem k3_idx195_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v5, v663] : Fin 2 → IVec S16 32) a x).toNat < S8x2048.size a := fun v3 v4 v5 v6 v7 v8 v9 v10 v663 k3_hw25 => k3_hw25.2.2.1
theorem k3_idx196_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v6, v663] : Fin 2 → IVec S16 32) a x).toNat < S8x2048.size a := fun v3 v4 v5 v6 v7 v8 v9 v10 v663 k3_hw25 => k3_hw25.2.2.2.1
theorem k3_idx197_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v7, v663] : Fin 2 → IVec S16 32) a x).toNat < S8x2048.size a := fun v3 v4 v5 v6 v7 v8 v9 v10 v663 k3_hw25 => k3_hw25.2.2.2.2.1
theorem k3_idx198_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v8, v663] : Fin 2 → IVec S16 32) a x).toNat < S8x2048.size a := fun v3 v4 v5 v6 v7 v8 v9 v10 v663 k3_hw25 => k3_hw25.2.2.2.2.2.1
theorem k3_idx199_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v9, v663] : Fin 2 → IVec S16 32) a x).toNat < S8x2048.size a := fun v3 v4 v5 v6 v7 v8 v9 v10 v663 k3_hw25 => k3_hw25.2.2.2.2.2.2.1
theorem k3_idx200_inb : ∀ (v3 : IVec S16 32) (v4 : IVec S16 32) (v5 : IVec S16 32) (v6 : IVec S16 32) (v7 : IVec S16 32) (v8 : IVec S16 32) (v9 : IVec S16 32) (v10 : IVec S16 32) (v663 : IVec S16 32) (k3_hw25 : k3_chk25 v3 v4 v5 v6 v7 v8 v9 v10 v663), ∀ a x, ((![v10, v663] : Fin 2 → IVec S16 32) a x).toNat < S8x2048.size a := fun v3 v4 v5 v6 v7 v8 v9 v10 v663 k3_hw25 => k3_hw25.2.2.2.2.2.2.2

def k3_chk26 (v3 : IVec S16 32) (v4 : IVec S16 32) (v5 : IVec S16 32) (v6 : IVec S16 32) (v7 : IVec S16 32) (v8 : IVec S16 32) (v9 : IVec S16 32) (v10 : IVec S16 32) (v666 : IVec S16 32) : Prop :=
  (∀ a x, ((![v3, v666] : Fin 2 → IVec S16 32) a x).toNat < S8x2048.size a) ∧
  (∀ a x, ((![v4, v666] : Fin 2 → IVec S16 32) a x).toNat < S8x2048.size a) ∧
  (∀ a x, ((![v5, v666] : Fin 2 → IVec S16 32) a x).toNat < S8x2048.size a) ∧
  (∀ a x, ((![v6, v666] : Fin 2 → IVec S16 32) a x).toNat < S8x2048.size a) ∧
  (∀ a x, ((![v7, v666] : Fin 2 → IVec S16 32) a x).toNat < S8x2048.size a) ∧
  (∀ a x, ((![v8, v666] : Fin 2 → IVec S16 32) a x).toNat < S8x2048.size a) ∧
  (∀ a x, ((![v9, v666] : Fin 2 → IVec S16 32) a x).toNat < S8x2048.size a) ∧
  (∀ a x, ((![v10, v666] : Fin 2 → IVec S16 32) a x).toNat < S8x2048.size a)
theorem k3_idx201_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v3, v666] : Fin 2 → IVec S16 32) a x).toNat < S8x2048.size a := fun v3 v4 v5 v6 v7 v8 v9 v10 v666 k3_hw26 => k3_hw26.1
theorem k3_idx202_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v4, v666] : Fin 2 → IVec S16 32) a x).toNat < S8x2048.size a := fun v3 v4 v5 v6 v7 v8 v9 v10 v666 k3_hw26 => k3_hw26.2.1
theorem k3_idx203_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v5, v666] : Fin 2 → IVec S16 32) a x).toNat < S8x2048.size a := fun v3 v4 v5 v6 v7 v8 v9 v10 v666 k3_hw26 => k3_hw26.2.2.1
theorem k3_idx204_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v6, v666] : Fin 2 → IVec S16 32) a x).toNat < S8x2048.size a := fun v3 v4 v5 v6 v7 v8 v9 v10 v666 k3_hw26 => k3_hw26.2.2.2.1
theorem k3_idx205_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v7, v666] : Fin 2 → IVec S16 32) a x).toNat < S8x2048.size a := fun v3 v4 v5 v6 v7 v8 v9 v10 v666 k3_hw26 => k3_hw26.2.2.2.2.1
theorem k3_idx206_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v8, v666] : Fin 2 → IVec S16 32) a x).toNat < S8x2048.size a := fun v3 v4 v5 v6 v7 v8 v9 v10 v666 k3_hw26 => k3_hw26.2.2.2.2.2.1
theorem k3_idx207_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v9, v666] : Fin 2 → IVec S16 32) a x).toNat < S8x2048.size a := fun v3 v4 v5 v6 v7 v8 v9 v10 v666 k3_hw26 => k3_hw26.2.2.2.2.2.2.1
theorem k3_idx208_inb : ∀ (v3 : IVec S16 32) (v4 : IVec S16 32) (v5 : IVec S16 32) (v6 : IVec S16 32) (v7 : IVec S16 32) (v8 : IVec S16 32) (v9 : IVec S16 32) (v10 : IVec S16 32) (v666 : IVec S16 32) (k3_hw26 : k3_chk26 v3 v4 v5 v6 v7 v8 v9 v10 v666), ∀ a x, ((![v10, v666] : Fin 2 → IVec S16 32) a x).toNat < S8x2048.size a := fun v3 v4 v5 v6 v7 v8 v9 v10 v666 k3_hw26 => k3_hw26.2.2.2.2.2.2.2

def k3_chk27 (v3 : IVec S16 32) (v4 : IVec S16 32) (v5 : IVec S16 32) (v6 : IVec S16 32) (v7 : IVec S16 32) (v8 : IVec S16 32) (v9 : IVec S16 32) (v10 : IVec S16 32) (v669 : IVec S16 32) : Prop :=
  (∀ a x, ((![v3, v669] : Fin 2 → IVec S16 32) a x).toNat < S8x2048.size a) ∧
  (∀ a x, ((![v4, v669] : Fin 2 → IVec S16 32) a x).toNat < S8x2048.size a) ∧
  (∀ a x, ((![v5, v669] : Fin 2 → IVec S16 32) a x).toNat < S8x2048.size a) ∧
  (∀ a x, ((![v6, v669] : Fin 2 → IVec S16 32) a x).toNat < S8x2048.size a) ∧
  (∀ a x, ((![v7, v669] : Fin 2 → IVec S16 32) a x).toNat < S8x2048.size a) ∧
  (∀ a x, ((![v8, v669] : Fin 2 → IVec S16 32) a x).toNat < S8x2048.size a) ∧
  (∀ a x, ((![v9, v669] : Fin 2 → IVec S16 32) a x).toNat < S8x2048.size a) ∧
  (∀ a x, ((![v10, v669] : Fin 2 → IVec S16 32) a x).toNat < S8x2048.size a)
theorem k3_idx209_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v3, v669] : Fin 2 → IVec S16 32) a x).toNat < S8x2048.size a := fun v3 v4 v5 v6 v7 v8 v9 v10 v669 k3_hw27 => k3_hw27.1
theorem k3_idx210_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v4, v669] : Fin 2 → IVec S16 32) a x).toNat < S8x2048.size a := fun v3 v4 v5 v6 v7 v8 v9 v10 v669 k3_hw27 => k3_hw27.2.1
theorem k3_idx211_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v5, v669] : Fin 2 → IVec S16 32) a x).toNat < S8x2048.size a := fun v3 v4 v5 v6 v7 v8 v9 v10 v669 k3_hw27 => k3_hw27.2.2.1
theorem k3_idx212_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v6, v669] : Fin 2 → IVec S16 32) a x).toNat < S8x2048.size a := fun v3 v4 v5 v6 v7 v8 v9 v10 v669 k3_hw27 => k3_hw27.2.2.2.1
theorem k3_idx213_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v7, v669] : Fin 2 → IVec S16 32) a x).toNat < S8x2048.size a := fun v3 v4 v5 v6 v7 v8 v9 v10 v669 k3_hw27 => k3_hw27.2.2.2.2.1
theorem k3_idx214_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v8, v669] : Fin 2 → IVec S16 32) a x).toNat < S8x2048.size a := fun v3 v4 v5 v6 v7 v8 v9 v10 v669 k3_hw27 => k3_hw27.2.2.2.2.2.1
theorem k3_idx215_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v9, v669] : Fin 2 → IVec S16 32) a x).toNat < S8x2048.size a := fun v3 v4 v5 v6 v7 v8 v9 v10 v669 k3_hw27 => k3_hw27.2.2.2.2.2.2.1
theorem k3_idx216_inb : ∀ (v3 : IVec S16 32) (v4 : IVec S16 32) (v5 : IVec S16 32) (v6 : IVec S16 32) (v7 : IVec S16 32) (v8 : IVec S16 32) (v9 : IVec S16 32) (v10 : IVec S16 32) (v669 : IVec S16 32) (k3_hw27 : k3_chk27 v3 v4 v5 v6 v7 v8 v9 v10 v669), ∀ a x, ((![v10, v669] : Fin 2 → IVec S16 32) a x).toNat < S8x2048.size a := fun v3 v4 v5 v6 v7 v8 v9 v10 v669 k3_hw27 => k3_hw27.2.2.2.2.2.2.2

def k3_chk28 (v3 : IVec S16 32) (v4 : IVec S16 32) (v5 : IVec S16 32) (v6 : IVec S16 32) (v7 : IVec S16 32) (v8 : IVec S16 32) (v9 : IVec S16 32) (v10 : IVec S16 32) (v672 : IVec S16 32) : Prop :=
  (∀ a x, ((![v3, v672] : Fin 2 → IVec S16 32) a x).toNat < S8x2048.size a) ∧
  (∀ a x, ((![v4, v672] : Fin 2 → IVec S16 32) a x).toNat < S8x2048.size a) ∧
  (∀ a x, ((![v5, v672] : Fin 2 → IVec S16 32) a x).toNat < S8x2048.size a) ∧
  (∀ a x, ((![v6, v672] : Fin 2 → IVec S16 32) a x).toNat < S8x2048.size a) ∧
  (∀ a x, ((![v7, v672] : Fin 2 → IVec S16 32) a x).toNat < S8x2048.size a) ∧
  (∀ a x, ((![v8, v672] : Fin 2 → IVec S16 32) a x).toNat < S8x2048.size a) ∧
  (∀ a x, ((![v9, v672] : Fin 2 → IVec S16 32) a x).toNat < S8x2048.size a) ∧
  (∀ a x, ((![v10, v672] : Fin 2 → IVec S16 32) a x).toNat < S8x2048.size a)
theorem k3_idx217_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v3, v672] : Fin 2 → IVec S16 32) a x).toNat < S8x2048.size a := fun v3 v4 v5 v6 v7 v8 v9 v10 v672 k3_hw28 => k3_hw28.1
theorem k3_idx218_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v4, v672] : Fin 2 → IVec S16 32) a x).toNat < S8x2048.size a := fun v3 v4 v5 v6 v7 v8 v9 v10 v672 k3_hw28 => k3_hw28.2.1
theorem k3_idx219_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v5, v672] : Fin 2 → IVec S16 32) a x).toNat < S8x2048.size a := fun v3 v4 v5 v6 v7 v8 v9 v10 v672 k3_hw28 => k3_hw28.2.2.1
theorem k3_idx220_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v6, v672] : Fin 2 → IVec S16 32) a x).toNat < S8x2048.size a := fun v3 v4 v5 v6 v7 v8 v9 v10 v672 k3_hw28 => k3_hw28.2.2.2.1
theorem k3_idx221_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v7, v672] : Fin 2 → IVec S16 32) a x).toNat < S8x2048.size a := fun v3 v4 v5 v6 v7 v8 v9 v10 v672 k3_hw28 => k3_hw28.2.2.2.2.1
theorem k3_idx222_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v8, v672] : Fin 2 → IVec S16 32) a x).toNat < S8x2048.size a := fun v3 v4 v5 v6 v7 v8 v9 v10 v672 k3_hw28 => k3_hw28.2.2.2.2.2.1
theorem k3_idx223_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v9, v672] : Fin 2 → IVec S16 32) a x).toNat < S8x2048.size a := fun v3 v4 v5 v6 v7 v8 v9 v10 v672 k3_hw28 => k3_hw28.2.2.2.2.2.2.1
theorem k3_idx224_inb : ∀ (v3 : IVec S16 32) (v4 : IVec S16 32) (v5 : IVec S16 32) (v6 : IVec S16 32) (v7 : IVec S16 32) (v8 : IVec S16 32) (v9 : IVec S16 32) (v10 : IVec S16 32) (v672 : IVec S16 32) (k3_hw28 : k3_chk28 v3 v4 v5 v6 v7 v8 v9 v10 v672), ∀ a x, ((![v10, v672] : Fin 2 → IVec S16 32) a x).toNat < S8x2048.size a := fun v3 v4 v5 v6 v7 v8 v9 v10 v672 k3_hw28 => k3_hw28.2.2.2.2.2.2.2
def k3_off30 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_483 : BitVec 32 := 3#32
  let v769 : BitVec 32 := Scalar.addi v12 c3_i32_483
  let v770 : Index := Scalar.indexCast v769
  let c64_484 : Index := 64#32
  ![v770.toNat, 64]
def k3_off31 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_485 : BitVec 32 := 3#32
  let v772 : BitVec 32 := Scalar.addi v12 c3_i32_485
  let v773 : Index := Scalar.indexCast v772
  let c80_486 : Index := 80#32
  ![v773.toNat, 80]
def k3_off32 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_487 : BitVec 32 := 3#32
  let v775 : BitVec 32 := Scalar.addi v12 c3_i32_487
  let v776 : Index := Scalar.indexCast v775
  let c96_488 : Index := 96#32
  ![v776.toNat, 96]
def k3_off33 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c3_i32_489 : BitVec 32 := 3#32
  let v778 : BitVec 32 := Scalar.addi v12 c3_i32_489
  let v779 : Index := Scalar.indexCast v778
  let c112_490 : Index := 112#32
  ![v779.toNat, 112]

def k3_chk29 (v3 : IVec S16 32) (v4 : IVec S16 32) (v5 : IVec S16 32) (v6 : IVec S16 32) (v7 : IVec S16 32) (v8 : IVec S16 32) (v9 : IVec S16 32) (v10 : IVec S16 32) (v771 : IVec S16 32) : Prop :=
  (∀ a x, ((![v3, v771] : Fin 2 → IVec S16 32) a x).toNat < S8x2048.size a) ∧
  (∀ a x, ((![v4, v771] : Fin 2 → IVec S16 32) a x).toNat < S8x2048.size a) ∧
  (∀ a x, ((![v5, v771] : Fin 2 → IVec S16 32) a x).toNat < S8x2048.size a) ∧
  (∀ a x, ((![v6, v771] : Fin 2 → IVec S16 32) a x).toNat < S8x2048.size a) ∧
  (∀ a x, ((![v7, v771] : Fin 2 → IVec S16 32) a x).toNat < S8x2048.size a) ∧
  (∀ a x, ((![v8, v771] : Fin 2 → IVec S16 32) a x).toNat < S8x2048.size a) ∧
  (∀ a x, ((![v9, v771] : Fin 2 → IVec S16 32) a x).toNat < S8x2048.size a) ∧
  (∀ a x, ((![v10, v771] : Fin 2 → IVec S16 32) a x).toNat < S8x2048.size a)
theorem k3_idx225_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v3, v771] : Fin 2 → IVec S16 32) a x).toNat < S8x2048.size a := fun v3 v4 v5 v6 v7 v8 v9 v10 v771 k3_hw29 => k3_hw29.1
theorem k3_idx226_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v4, v771] : Fin 2 → IVec S16 32) a x).toNat < S8x2048.size a := fun v3 v4 v5 v6 v7 v8 v9 v10 v771 k3_hw29 => k3_hw29.2.1
theorem k3_idx227_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v5, v771] : Fin 2 → IVec S16 32) a x).toNat < S8x2048.size a := fun v3 v4 v5 v6 v7 v8 v9 v10 v771 k3_hw29 => k3_hw29.2.2.1
theorem k3_idx228_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v6, v771] : Fin 2 → IVec S16 32) a x).toNat < S8x2048.size a := fun v3 v4 v5 v6 v7 v8 v9 v10 v771 k3_hw29 => k3_hw29.2.2.2.1
theorem k3_idx229_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v7, v771] : Fin 2 → IVec S16 32) a x).toNat < S8x2048.size a := fun v3 v4 v5 v6 v7 v8 v9 v10 v771 k3_hw29 => k3_hw29.2.2.2.2.1
theorem k3_idx230_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v8, v771] : Fin 2 → IVec S16 32) a x).toNat < S8x2048.size a := fun v3 v4 v5 v6 v7 v8 v9 v10 v771 k3_hw29 => k3_hw29.2.2.2.2.2.1
theorem k3_idx231_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v9, v771] : Fin 2 → IVec S16 32) a x).toNat < S8x2048.size a := fun v3 v4 v5 v6 v7 v8 v9 v10 v771 k3_hw29 => k3_hw29.2.2.2.2.2.2.1
theorem k3_idx232_inb : ∀ (v3 : IVec S16 32) (v4 : IVec S16 32) (v5 : IVec S16 32) (v6 : IVec S16 32) (v7 : IVec S16 32) (v8 : IVec S16 32) (v9 : IVec S16 32) (v10 : IVec S16 32) (v771 : IVec S16 32) (k3_hw29 : k3_chk29 v3 v4 v5 v6 v7 v8 v9 v10 v771), ∀ a x, ((![v10, v771] : Fin 2 → IVec S16 32) a x).toNat < S8x2048.size a := fun v3 v4 v5 v6 v7 v8 v9 v10 v771 k3_hw29 => k3_hw29.2.2.2.2.2.2.2

def k3_chk30 (v3 : IVec S16 32) (v4 : IVec S16 32) (v5 : IVec S16 32) (v6 : IVec S16 32) (v7 : IVec S16 32) (v8 : IVec S16 32) (v9 : IVec S16 32) (v10 : IVec S16 32) (v774 : IVec S16 32) : Prop :=
  (∀ a x, ((![v3, v774] : Fin 2 → IVec S16 32) a x).toNat < S8x2048.size a) ∧
  (∀ a x, ((![v4, v774] : Fin 2 → IVec S16 32) a x).toNat < S8x2048.size a) ∧
  (∀ a x, ((![v5, v774] : Fin 2 → IVec S16 32) a x).toNat < S8x2048.size a) ∧
  (∀ a x, ((![v6, v774] : Fin 2 → IVec S16 32) a x).toNat < S8x2048.size a) ∧
  (∀ a x, ((![v7, v774] : Fin 2 → IVec S16 32) a x).toNat < S8x2048.size a) ∧
  (∀ a x, ((![v8, v774] : Fin 2 → IVec S16 32) a x).toNat < S8x2048.size a) ∧
  (∀ a x, ((![v9, v774] : Fin 2 → IVec S16 32) a x).toNat < S8x2048.size a) ∧
  (∀ a x, ((![v10, v774] : Fin 2 → IVec S16 32) a x).toNat < S8x2048.size a)
theorem k3_idx233_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v3, v774] : Fin 2 → IVec S16 32) a x).toNat < S8x2048.size a := fun v3 v4 v5 v6 v7 v8 v9 v10 v774 k3_hw30 => k3_hw30.1
theorem k3_idx234_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v4, v774] : Fin 2 → IVec S16 32) a x).toNat < S8x2048.size a := fun v3 v4 v5 v6 v7 v8 v9 v10 v774 k3_hw30 => k3_hw30.2.1
theorem k3_idx235_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v5, v774] : Fin 2 → IVec S16 32) a x).toNat < S8x2048.size a := fun v3 v4 v5 v6 v7 v8 v9 v10 v774 k3_hw30 => k3_hw30.2.2.1
theorem k3_idx236_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v6, v774] : Fin 2 → IVec S16 32) a x).toNat < S8x2048.size a := fun v3 v4 v5 v6 v7 v8 v9 v10 v774 k3_hw30 => k3_hw30.2.2.2.1
theorem k3_idx237_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v7, v774] : Fin 2 → IVec S16 32) a x).toNat < S8x2048.size a := fun v3 v4 v5 v6 v7 v8 v9 v10 v774 k3_hw30 => k3_hw30.2.2.2.2.1
theorem k3_idx238_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v8, v774] : Fin 2 → IVec S16 32) a x).toNat < S8x2048.size a := fun v3 v4 v5 v6 v7 v8 v9 v10 v774 k3_hw30 => k3_hw30.2.2.2.2.2.1
theorem k3_idx239_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v9, v774] : Fin 2 → IVec S16 32) a x).toNat < S8x2048.size a := fun v3 v4 v5 v6 v7 v8 v9 v10 v774 k3_hw30 => k3_hw30.2.2.2.2.2.2.1
theorem k3_idx240_inb : ∀ (v3 : IVec S16 32) (v4 : IVec S16 32) (v5 : IVec S16 32) (v6 : IVec S16 32) (v7 : IVec S16 32) (v8 : IVec S16 32) (v9 : IVec S16 32) (v10 : IVec S16 32) (v774 : IVec S16 32) (k3_hw30 : k3_chk30 v3 v4 v5 v6 v7 v8 v9 v10 v774), ∀ a x, ((![v10, v774] : Fin 2 → IVec S16 32) a x).toNat < S8x2048.size a := fun v3 v4 v5 v6 v7 v8 v9 v10 v774 k3_hw30 => k3_hw30.2.2.2.2.2.2.2

def k3_chk31 (v3 : IVec S16 32) (v4 : IVec S16 32) (v5 : IVec S16 32) (v6 : IVec S16 32) (v7 : IVec S16 32) (v8 : IVec S16 32) (v9 : IVec S16 32) (v10 : IVec S16 32) (v777 : IVec S16 32) : Prop :=
  (∀ a x, ((![v3, v777] : Fin 2 → IVec S16 32) a x).toNat < S8x2048.size a) ∧
  (∀ a x, ((![v4, v777] : Fin 2 → IVec S16 32) a x).toNat < S8x2048.size a) ∧
  (∀ a x, ((![v5, v777] : Fin 2 → IVec S16 32) a x).toNat < S8x2048.size a) ∧
  (∀ a x, ((![v6, v777] : Fin 2 → IVec S16 32) a x).toNat < S8x2048.size a) ∧
  (∀ a x, ((![v7, v777] : Fin 2 → IVec S16 32) a x).toNat < S8x2048.size a) ∧
  (∀ a x, ((![v8, v777] : Fin 2 → IVec S16 32) a x).toNat < S8x2048.size a) ∧
  (∀ a x, ((![v9, v777] : Fin 2 → IVec S16 32) a x).toNat < S8x2048.size a) ∧
  (∀ a x, ((![v10, v777] : Fin 2 → IVec S16 32) a x).toNat < S8x2048.size a)
theorem k3_idx241_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v3, v777] : Fin 2 → IVec S16 32) a x).toNat < S8x2048.size a := fun v3 v4 v5 v6 v7 v8 v9 v10 v777 k3_hw31 => k3_hw31.1
theorem k3_idx242_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v4, v777] : Fin 2 → IVec S16 32) a x).toNat < S8x2048.size a := fun v3 v4 v5 v6 v7 v8 v9 v10 v777 k3_hw31 => k3_hw31.2.1
theorem k3_idx243_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v5, v777] : Fin 2 → IVec S16 32) a x).toNat < S8x2048.size a := fun v3 v4 v5 v6 v7 v8 v9 v10 v777 k3_hw31 => k3_hw31.2.2.1
theorem k3_idx244_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v6, v777] : Fin 2 → IVec S16 32) a x).toNat < S8x2048.size a := fun v3 v4 v5 v6 v7 v8 v9 v10 v777 k3_hw31 => k3_hw31.2.2.2.1
theorem k3_idx245_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v7, v777] : Fin 2 → IVec S16 32) a x).toNat < S8x2048.size a := fun v3 v4 v5 v6 v7 v8 v9 v10 v777 k3_hw31 => k3_hw31.2.2.2.2.1
theorem k3_idx246_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v8, v777] : Fin 2 → IVec S16 32) a x).toNat < S8x2048.size a := fun v3 v4 v5 v6 v7 v8 v9 v10 v777 k3_hw31 => k3_hw31.2.2.2.2.2.1
theorem k3_idx247_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v9, v777] : Fin 2 → IVec S16 32) a x).toNat < S8x2048.size a := fun v3 v4 v5 v6 v7 v8 v9 v10 v777 k3_hw31 => k3_hw31.2.2.2.2.2.2.1
theorem k3_idx248_inb : ∀ (v3 : IVec S16 32) (v4 : IVec S16 32) (v5 : IVec S16 32) (v6 : IVec S16 32) (v7 : IVec S16 32) (v8 : IVec S16 32) (v9 : IVec S16 32) (v10 : IVec S16 32) (v777 : IVec S16 32) (k3_hw31 : k3_chk31 v3 v4 v5 v6 v7 v8 v9 v10 v777), ∀ a x, ((![v10, v777] : Fin 2 → IVec S16 32) a x).toNat < S8x2048.size a := fun v3 v4 v5 v6 v7 v8 v9 v10 v777 k3_hw31 => k3_hw31.2.2.2.2.2.2.2

def k3_chk32 (v3 : IVec S16 32) (v4 : IVec S16 32) (v5 : IVec S16 32) (v6 : IVec S16 32) (v7 : IVec S16 32) (v8 : IVec S16 32) (v9 : IVec S16 32) (v10 : IVec S16 32) (v780 : IVec S16 32) : Prop :=
  (∀ a x, ((![v3, v780] : Fin 2 → IVec S16 32) a x).toNat < S8x2048.size a) ∧
  (∀ a x, ((![v4, v780] : Fin 2 → IVec S16 32) a x).toNat < S8x2048.size a) ∧
  (∀ a x, ((![v5, v780] : Fin 2 → IVec S16 32) a x).toNat < S8x2048.size a) ∧
  (∀ a x, ((![v6, v780] : Fin 2 → IVec S16 32) a x).toNat < S8x2048.size a) ∧
  (∀ a x, ((![v7, v780] : Fin 2 → IVec S16 32) a x).toNat < S8x2048.size a) ∧
  (∀ a x, ((![v8, v780] : Fin 2 → IVec S16 32) a x).toNat < S8x2048.size a) ∧
  (∀ a x, ((![v9, v780] : Fin 2 → IVec S16 32) a x).toNat < S8x2048.size a) ∧
  (∀ a x, ((![v10, v780] : Fin 2 → IVec S16 32) a x).toNat < S8x2048.size a)
theorem k3_idx249_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v3, v780] : Fin 2 → IVec S16 32) a x).toNat < S8x2048.size a := fun v3 v4 v5 v6 v7 v8 v9 v10 v780 k3_hw32 => k3_hw32.1
theorem k3_idx250_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v4, v780] : Fin 2 → IVec S16 32) a x).toNat < S8x2048.size a := fun v3 v4 v5 v6 v7 v8 v9 v10 v780 k3_hw32 => k3_hw32.2.1
theorem k3_idx251_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v5, v780] : Fin 2 → IVec S16 32) a x).toNat < S8x2048.size a := fun v3 v4 v5 v6 v7 v8 v9 v10 v780 k3_hw32 => k3_hw32.2.2.1
theorem k3_idx252_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v6, v780] : Fin 2 → IVec S16 32) a x).toNat < S8x2048.size a := fun v3 v4 v5 v6 v7 v8 v9 v10 v780 k3_hw32 => k3_hw32.2.2.2.1
theorem k3_idx253_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v7, v780] : Fin 2 → IVec S16 32) a x).toNat < S8x2048.size a := fun v3 v4 v5 v6 v7 v8 v9 v10 v780 k3_hw32 => k3_hw32.2.2.2.2.1
theorem k3_idx254_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v8, v780] : Fin 2 → IVec S16 32) a x).toNat < S8x2048.size a := fun v3 v4 v5 v6 v7 v8 v9 v10 v780 k3_hw32 => k3_hw32.2.2.2.2.2.1
theorem k3_idx255_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v9, v780] : Fin 2 → IVec S16 32) a x).toNat < S8x2048.size a := fun v3 v4 v5 v6 v7 v8 v9 v10 v780 k3_hw32 => k3_hw32.2.2.2.2.2.2.1
theorem k3_idx256_inb : ∀ (v3 : IVec S16 32) (v4 : IVec S16 32) (v5 : IVec S16 32) (v6 : IVec S16 32) (v7 : IVec S16 32) (v8 : IVec S16 32) (v9 : IVec S16 32) (v10 : IVec S16 32) (v780 : IVec S16 32) (k3_hw32 : k3_chk32 v3 v4 v5 v6 v7 v8 v9 v10 v780), ∀ a x, ((![v10, v780] : Fin 2 → IVec S16 32) a x).toNat < S8x2048.size a := fun v3 v4 v5 v6 v7 v8 v9 v10 v780 k3_hw32 => k3_hw32.2.2.2.2.2.2.2
def k3_off34 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_551 : BitVec 32 := 4#32
  let v877 : BitVec 32 := Scalar.addi v12 c4_i32_551
  let v878 : Index := Scalar.indexCast v877
  let c0_552 : Index := 0#32
  ![v878.toNat, 0]
def k3_off35 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_553 : BitVec 32 := 4#32
  let v880 : BitVec 32 := Scalar.addi v12 c4_i32_553
  let v881 : Index := Scalar.indexCast v880
  let c16_554 : Index := 16#32
  ![v881.toNat, 16]
def k3_off36 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_555 : BitVec 32 := 4#32
  let v883 : BitVec 32 := Scalar.addi v12 c4_i32_555
  let v884 : Index := Scalar.indexCast v883
  let c32_556 : Index := 32#32
  ![v884.toNat, 32]
def k3_off37 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_557 : BitVec 32 := 4#32
  let v886 : BitVec 32 := Scalar.addi v12 c4_i32_557
  let v887 : Index := Scalar.indexCast v886
  let c48_558 : Index := 48#32
  ![v887.toNat, 48]

def k3_chk33 (v3 : IVec S16 32) (v4 : IVec S16 32) (v5 : IVec S16 32) (v6 : IVec S16 32) (v7 : IVec S16 32) (v8 : IVec S16 32) (v9 : IVec S16 32) (v10 : IVec S16 32) (v879 : IVec S16 32) : Prop :=
  (∀ a x, ((![v3, v879] : Fin 2 → IVec S16 32) a x).toNat < S8x2048.size a) ∧
  (∀ a x, ((![v4, v879] : Fin 2 → IVec S16 32) a x).toNat < S8x2048.size a) ∧
  (∀ a x, ((![v5, v879] : Fin 2 → IVec S16 32) a x).toNat < S8x2048.size a) ∧
  (∀ a x, ((![v6, v879] : Fin 2 → IVec S16 32) a x).toNat < S8x2048.size a) ∧
  (∀ a x, ((![v7, v879] : Fin 2 → IVec S16 32) a x).toNat < S8x2048.size a) ∧
  (∀ a x, ((![v8, v879] : Fin 2 → IVec S16 32) a x).toNat < S8x2048.size a) ∧
  (∀ a x, ((![v9, v879] : Fin 2 → IVec S16 32) a x).toNat < S8x2048.size a) ∧
  (∀ a x, ((![v10, v879] : Fin 2 → IVec S16 32) a x).toNat < S8x2048.size a)
theorem k3_idx257_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v3, v879] : Fin 2 → IVec S16 32) a x).toNat < S8x2048.size a := fun v3 v4 v5 v6 v7 v8 v9 v10 v879 k3_hw33 => k3_hw33.1
theorem k3_idx258_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v4, v879] : Fin 2 → IVec S16 32) a x).toNat < S8x2048.size a := fun v3 v4 v5 v6 v7 v8 v9 v10 v879 k3_hw33 => k3_hw33.2.1
theorem k3_idx259_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v5, v879] : Fin 2 → IVec S16 32) a x).toNat < S8x2048.size a := fun v3 v4 v5 v6 v7 v8 v9 v10 v879 k3_hw33 => k3_hw33.2.2.1
theorem k3_idx260_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v6, v879] : Fin 2 → IVec S16 32) a x).toNat < S8x2048.size a := fun v3 v4 v5 v6 v7 v8 v9 v10 v879 k3_hw33 => k3_hw33.2.2.2.1
theorem k3_idx261_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v7, v879] : Fin 2 → IVec S16 32) a x).toNat < S8x2048.size a := fun v3 v4 v5 v6 v7 v8 v9 v10 v879 k3_hw33 => k3_hw33.2.2.2.2.1
theorem k3_idx262_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v8, v879] : Fin 2 → IVec S16 32) a x).toNat < S8x2048.size a := fun v3 v4 v5 v6 v7 v8 v9 v10 v879 k3_hw33 => k3_hw33.2.2.2.2.2.1
theorem k3_idx263_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v9, v879] : Fin 2 → IVec S16 32) a x).toNat < S8x2048.size a := fun v3 v4 v5 v6 v7 v8 v9 v10 v879 k3_hw33 => k3_hw33.2.2.2.2.2.2.1
theorem k3_idx264_inb : ∀ (v3 : IVec S16 32) (v4 : IVec S16 32) (v5 : IVec S16 32) (v6 : IVec S16 32) (v7 : IVec S16 32) (v8 : IVec S16 32) (v9 : IVec S16 32) (v10 : IVec S16 32) (v879 : IVec S16 32) (k3_hw33 : k3_chk33 v3 v4 v5 v6 v7 v8 v9 v10 v879), ∀ a x, ((![v10, v879] : Fin 2 → IVec S16 32) a x).toNat < S8x2048.size a := fun v3 v4 v5 v6 v7 v8 v9 v10 v879 k3_hw33 => k3_hw33.2.2.2.2.2.2.2

def k3_chk34 (v3 : IVec S16 32) (v4 : IVec S16 32) (v5 : IVec S16 32) (v6 : IVec S16 32) (v7 : IVec S16 32) (v8 : IVec S16 32) (v9 : IVec S16 32) (v10 : IVec S16 32) (v882 : IVec S16 32) : Prop :=
  (∀ a x, ((![v3, v882] : Fin 2 → IVec S16 32) a x).toNat < S8x2048.size a) ∧
  (∀ a x, ((![v4, v882] : Fin 2 → IVec S16 32) a x).toNat < S8x2048.size a) ∧
  (∀ a x, ((![v5, v882] : Fin 2 → IVec S16 32) a x).toNat < S8x2048.size a) ∧
  (∀ a x, ((![v6, v882] : Fin 2 → IVec S16 32) a x).toNat < S8x2048.size a) ∧
  (∀ a x, ((![v7, v882] : Fin 2 → IVec S16 32) a x).toNat < S8x2048.size a) ∧
  (∀ a x, ((![v8, v882] : Fin 2 → IVec S16 32) a x).toNat < S8x2048.size a) ∧
  (∀ a x, ((![v9, v882] : Fin 2 → IVec S16 32) a x).toNat < S8x2048.size a) ∧
  (∀ a x, ((![v10, v882] : Fin 2 → IVec S16 32) a x).toNat < S8x2048.size a)
theorem k3_idx265_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v3, v882] : Fin 2 → IVec S16 32) a x).toNat < S8x2048.size a := fun v3 v4 v5 v6 v7 v8 v9 v10 v882 k3_hw34 => k3_hw34.1
theorem k3_idx266_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v4, v882] : Fin 2 → IVec S16 32) a x).toNat < S8x2048.size a := fun v3 v4 v5 v6 v7 v8 v9 v10 v882 k3_hw34 => k3_hw34.2.1
theorem k3_idx267_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v5, v882] : Fin 2 → IVec S16 32) a x).toNat < S8x2048.size a := fun v3 v4 v5 v6 v7 v8 v9 v10 v882 k3_hw34 => k3_hw34.2.2.1
theorem k3_idx268_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v6, v882] : Fin 2 → IVec S16 32) a x).toNat < S8x2048.size a := fun v3 v4 v5 v6 v7 v8 v9 v10 v882 k3_hw34 => k3_hw34.2.2.2.1
theorem k3_idx269_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v7, v882] : Fin 2 → IVec S16 32) a x).toNat < S8x2048.size a := fun v3 v4 v5 v6 v7 v8 v9 v10 v882 k3_hw34 => k3_hw34.2.2.2.2.1
theorem k3_idx270_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v8, v882] : Fin 2 → IVec S16 32) a x).toNat < S8x2048.size a := fun v3 v4 v5 v6 v7 v8 v9 v10 v882 k3_hw34 => k3_hw34.2.2.2.2.2.1
theorem k3_idx271_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v9, v882] : Fin 2 → IVec S16 32) a x).toNat < S8x2048.size a := fun v3 v4 v5 v6 v7 v8 v9 v10 v882 k3_hw34 => k3_hw34.2.2.2.2.2.2.1
theorem k3_idx272_inb : ∀ (v3 : IVec S16 32) (v4 : IVec S16 32) (v5 : IVec S16 32) (v6 : IVec S16 32) (v7 : IVec S16 32) (v8 : IVec S16 32) (v9 : IVec S16 32) (v10 : IVec S16 32) (v882 : IVec S16 32) (k3_hw34 : k3_chk34 v3 v4 v5 v6 v7 v8 v9 v10 v882), ∀ a x, ((![v10, v882] : Fin 2 → IVec S16 32) a x).toNat < S8x2048.size a := fun v3 v4 v5 v6 v7 v8 v9 v10 v882 k3_hw34 => k3_hw34.2.2.2.2.2.2.2

def k3_chk35 (v3 : IVec S16 32) (v4 : IVec S16 32) (v5 : IVec S16 32) (v6 : IVec S16 32) (v7 : IVec S16 32) (v8 : IVec S16 32) (v9 : IVec S16 32) (v10 : IVec S16 32) (v885 : IVec S16 32) : Prop :=
  (∀ a x, ((![v3, v885] : Fin 2 → IVec S16 32) a x).toNat < S8x2048.size a) ∧
  (∀ a x, ((![v4, v885] : Fin 2 → IVec S16 32) a x).toNat < S8x2048.size a) ∧
  (∀ a x, ((![v5, v885] : Fin 2 → IVec S16 32) a x).toNat < S8x2048.size a) ∧
  (∀ a x, ((![v6, v885] : Fin 2 → IVec S16 32) a x).toNat < S8x2048.size a) ∧
  (∀ a x, ((![v7, v885] : Fin 2 → IVec S16 32) a x).toNat < S8x2048.size a) ∧
  (∀ a x, ((![v8, v885] : Fin 2 → IVec S16 32) a x).toNat < S8x2048.size a) ∧
  (∀ a x, ((![v9, v885] : Fin 2 → IVec S16 32) a x).toNat < S8x2048.size a) ∧
  (∀ a x, ((![v10, v885] : Fin 2 → IVec S16 32) a x).toNat < S8x2048.size a)
theorem k3_idx273_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v3, v885] : Fin 2 → IVec S16 32) a x).toNat < S8x2048.size a := fun v3 v4 v5 v6 v7 v8 v9 v10 v885 k3_hw35 => k3_hw35.1
theorem k3_idx274_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v4, v885] : Fin 2 → IVec S16 32) a x).toNat < S8x2048.size a := fun v3 v4 v5 v6 v7 v8 v9 v10 v885 k3_hw35 => k3_hw35.2.1
theorem k3_idx275_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v5, v885] : Fin 2 → IVec S16 32) a x).toNat < S8x2048.size a := fun v3 v4 v5 v6 v7 v8 v9 v10 v885 k3_hw35 => k3_hw35.2.2.1
theorem k3_idx276_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v6, v885] : Fin 2 → IVec S16 32) a x).toNat < S8x2048.size a := fun v3 v4 v5 v6 v7 v8 v9 v10 v885 k3_hw35 => k3_hw35.2.2.2.1
theorem k3_idx277_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v7, v885] : Fin 2 → IVec S16 32) a x).toNat < S8x2048.size a := fun v3 v4 v5 v6 v7 v8 v9 v10 v885 k3_hw35 => k3_hw35.2.2.2.2.1
theorem k3_idx278_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v8, v885] : Fin 2 → IVec S16 32) a x).toNat < S8x2048.size a := fun v3 v4 v5 v6 v7 v8 v9 v10 v885 k3_hw35 => k3_hw35.2.2.2.2.2.1
theorem k3_idx279_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v9, v885] : Fin 2 → IVec S16 32) a x).toNat < S8x2048.size a := fun v3 v4 v5 v6 v7 v8 v9 v10 v885 k3_hw35 => k3_hw35.2.2.2.2.2.2.1
theorem k3_idx280_inb : ∀ (v3 : IVec S16 32) (v4 : IVec S16 32) (v5 : IVec S16 32) (v6 : IVec S16 32) (v7 : IVec S16 32) (v8 : IVec S16 32) (v9 : IVec S16 32) (v10 : IVec S16 32) (v885 : IVec S16 32) (k3_hw35 : k3_chk35 v3 v4 v5 v6 v7 v8 v9 v10 v885), ∀ a x, ((![v10, v885] : Fin 2 → IVec S16 32) a x).toNat < S8x2048.size a := fun v3 v4 v5 v6 v7 v8 v9 v10 v885 k3_hw35 => k3_hw35.2.2.2.2.2.2.2

def k3_chk36 (v3 : IVec S16 32) (v4 : IVec S16 32) (v5 : IVec S16 32) (v6 : IVec S16 32) (v7 : IVec S16 32) (v8 : IVec S16 32) (v9 : IVec S16 32) (v10 : IVec S16 32) (v888 : IVec S16 32) : Prop :=
  (∀ a x, ((![v3, v888] : Fin 2 → IVec S16 32) a x).toNat < S8x2048.size a) ∧
  (∀ a x, ((![v4, v888] : Fin 2 → IVec S16 32) a x).toNat < S8x2048.size a) ∧
  (∀ a x, ((![v5, v888] : Fin 2 → IVec S16 32) a x).toNat < S8x2048.size a) ∧
  (∀ a x, ((![v6, v888] : Fin 2 → IVec S16 32) a x).toNat < S8x2048.size a) ∧
  (∀ a x, ((![v7, v888] : Fin 2 → IVec S16 32) a x).toNat < S8x2048.size a) ∧
  (∀ a x, ((![v8, v888] : Fin 2 → IVec S16 32) a x).toNat < S8x2048.size a) ∧
  (∀ a x, ((![v9, v888] : Fin 2 → IVec S16 32) a x).toNat < S8x2048.size a) ∧
  (∀ a x, ((![v10, v888] : Fin 2 → IVec S16 32) a x).toNat < S8x2048.size a)
theorem k3_idx281_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v3, v888] : Fin 2 → IVec S16 32) a x).toNat < S8x2048.size a := fun v3 v4 v5 v6 v7 v8 v9 v10 v888 k3_hw36 => k3_hw36.1
theorem k3_idx282_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v4, v888] : Fin 2 → IVec S16 32) a x).toNat < S8x2048.size a := fun v3 v4 v5 v6 v7 v8 v9 v10 v888 k3_hw36 => k3_hw36.2.1
theorem k3_idx283_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v5, v888] : Fin 2 → IVec S16 32) a x).toNat < S8x2048.size a := fun v3 v4 v5 v6 v7 v8 v9 v10 v888 k3_hw36 => k3_hw36.2.2.1
theorem k3_idx284_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v6, v888] : Fin 2 → IVec S16 32) a x).toNat < S8x2048.size a := fun v3 v4 v5 v6 v7 v8 v9 v10 v888 k3_hw36 => k3_hw36.2.2.2.1
theorem k3_idx285_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v7, v888] : Fin 2 → IVec S16 32) a x).toNat < S8x2048.size a := fun v3 v4 v5 v6 v7 v8 v9 v10 v888 k3_hw36 => k3_hw36.2.2.2.2.1
theorem k3_idx286_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v8, v888] : Fin 2 → IVec S16 32) a x).toNat < S8x2048.size a := fun v3 v4 v5 v6 v7 v8 v9 v10 v888 k3_hw36 => k3_hw36.2.2.2.2.2.1
theorem k3_idx287_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v9, v888] : Fin 2 → IVec S16 32) a x).toNat < S8x2048.size a := fun v3 v4 v5 v6 v7 v8 v9 v10 v888 k3_hw36 => k3_hw36.2.2.2.2.2.2.1
theorem k3_idx288_inb : ∀ (v3 : IVec S16 32) (v4 : IVec S16 32) (v5 : IVec S16 32) (v6 : IVec S16 32) (v7 : IVec S16 32) (v8 : IVec S16 32) (v9 : IVec S16 32) (v10 : IVec S16 32) (v888 : IVec S16 32) (k3_hw36 : k3_chk36 v3 v4 v5 v6 v7 v8 v9 v10 v888), ∀ a x, ((![v10, v888] : Fin 2 → IVec S16 32) a x).toNat < S8x2048.size a := fun v3 v4 v5 v6 v7 v8 v9 v10 v888 k3_hw36 => k3_hw36.2.2.2.2.2.2.2
def k3_off38 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_619 : BitVec 32 := 4#32
  let v985 : BitVec 32 := Scalar.addi v12 c4_i32_619
  let v986 : Index := Scalar.indexCast v985
  let c64_620 : Index := 64#32
  ![v986.toNat, 64]
def k3_off39 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_621 : BitVec 32 := 4#32
  let v988 : BitVec 32 := Scalar.addi v12 c4_i32_621
  let v989 : Index := Scalar.indexCast v988
  let c80_622 : Index := 80#32
  ![v989.toNat, 80]
def k3_off40 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_623 : BitVec 32 := 4#32
  let v991 : BitVec 32 := Scalar.addi v12 c4_i32_623
  let v992 : Index := Scalar.indexCast v991
  let c96_624 : Index := 96#32
  ![v992.toNat, 96]
def k3_off41 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c4_i32_625 : BitVec 32 := 4#32
  let v994 : BitVec 32 := Scalar.addi v12 c4_i32_625
  let v995 : Index := Scalar.indexCast v994
  let c112_626 : Index := 112#32
  ![v995.toNat, 112]

def k3_chk37 (v3 : IVec S16 32) (v4 : IVec S16 32) (v5 : IVec S16 32) (v6 : IVec S16 32) (v7 : IVec S16 32) (v8 : IVec S16 32) (v9 : IVec S16 32) (v10 : IVec S16 32) (v987 : IVec S16 32) : Prop :=
  (∀ a x, ((![v3, v987] : Fin 2 → IVec S16 32) a x).toNat < S8x2048.size a) ∧
  (∀ a x, ((![v4, v987] : Fin 2 → IVec S16 32) a x).toNat < S8x2048.size a) ∧
  (∀ a x, ((![v5, v987] : Fin 2 → IVec S16 32) a x).toNat < S8x2048.size a) ∧
  (∀ a x, ((![v6, v987] : Fin 2 → IVec S16 32) a x).toNat < S8x2048.size a) ∧
  (∀ a x, ((![v7, v987] : Fin 2 → IVec S16 32) a x).toNat < S8x2048.size a) ∧
  (∀ a x, ((![v8, v987] : Fin 2 → IVec S16 32) a x).toNat < S8x2048.size a) ∧
  (∀ a x, ((![v9, v987] : Fin 2 → IVec S16 32) a x).toNat < S8x2048.size a) ∧
  (∀ a x, ((![v10, v987] : Fin 2 → IVec S16 32) a x).toNat < S8x2048.size a)
theorem k3_idx289_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v3, v987] : Fin 2 → IVec S16 32) a x).toNat < S8x2048.size a := fun v3 v4 v5 v6 v7 v8 v9 v10 v987 k3_hw37 => k3_hw37.1
theorem k3_idx290_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v4, v987] : Fin 2 → IVec S16 32) a x).toNat < S8x2048.size a := fun v3 v4 v5 v6 v7 v8 v9 v10 v987 k3_hw37 => k3_hw37.2.1
theorem k3_idx291_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v5, v987] : Fin 2 → IVec S16 32) a x).toNat < S8x2048.size a := fun v3 v4 v5 v6 v7 v8 v9 v10 v987 k3_hw37 => k3_hw37.2.2.1
theorem k3_idx292_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v6, v987] : Fin 2 → IVec S16 32) a x).toNat < S8x2048.size a := fun v3 v4 v5 v6 v7 v8 v9 v10 v987 k3_hw37 => k3_hw37.2.2.2.1
theorem k3_idx293_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v7, v987] : Fin 2 → IVec S16 32) a x).toNat < S8x2048.size a := fun v3 v4 v5 v6 v7 v8 v9 v10 v987 k3_hw37 => k3_hw37.2.2.2.2.1
theorem k3_idx294_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v8, v987] : Fin 2 → IVec S16 32) a x).toNat < S8x2048.size a := fun v3 v4 v5 v6 v7 v8 v9 v10 v987 k3_hw37 => k3_hw37.2.2.2.2.2.1
theorem k3_idx295_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v9, v987] : Fin 2 → IVec S16 32) a x).toNat < S8x2048.size a := fun v3 v4 v5 v6 v7 v8 v9 v10 v987 k3_hw37 => k3_hw37.2.2.2.2.2.2.1
theorem k3_idx296_inb : ∀ (v3 : IVec S16 32) (v4 : IVec S16 32) (v5 : IVec S16 32) (v6 : IVec S16 32) (v7 : IVec S16 32) (v8 : IVec S16 32) (v9 : IVec S16 32) (v10 : IVec S16 32) (v987 : IVec S16 32) (k3_hw37 : k3_chk37 v3 v4 v5 v6 v7 v8 v9 v10 v987), ∀ a x, ((![v10, v987] : Fin 2 → IVec S16 32) a x).toNat < S8x2048.size a := fun v3 v4 v5 v6 v7 v8 v9 v10 v987 k3_hw37 => k3_hw37.2.2.2.2.2.2.2

def k3_chk38 (v3 : IVec S16 32) (v4 : IVec S16 32) (v5 : IVec S16 32) (v6 : IVec S16 32) (v7 : IVec S16 32) (v8 : IVec S16 32) (v9 : IVec S16 32) (v10 : IVec S16 32) (v990 : IVec S16 32) : Prop :=
  (∀ a x, ((![v3, v990] : Fin 2 → IVec S16 32) a x).toNat < S8x2048.size a) ∧
  (∀ a x, ((![v4, v990] : Fin 2 → IVec S16 32) a x).toNat < S8x2048.size a) ∧
  (∀ a x, ((![v5, v990] : Fin 2 → IVec S16 32) a x).toNat < S8x2048.size a) ∧
  (∀ a x, ((![v6, v990] : Fin 2 → IVec S16 32) a x).toNat < S8x2048.size a) ∧
  (∀ a x, ((![v7, v990] : Fin 2 → IVec S16 32) a x).toNat < S8x2048.size a) ∧
  (∀ a x, ((![v8, v990] : Fin 2 → IVec S16 32) a x).toNat < S8x2048.size a) ∧
  (∀ a x, ((![v9, v990] : Fin 2 → IVec S16 32) a x).toNat < S8x2048.size a) ∧
  (∀ a x, ((![v10, v990] : Fin 2 → IVec S16 32) a x).toNat < S8x2048.size a)
theorem k3_idx297_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v3, v990] : Fin 2 → IVec S16 32) a x).toNat < S8x2048.size a := fun v3 v4 v5 v6 v7 v8 v9 v10 v990 k3_hw38 => k3_hw38.1
theorem k3_idx298_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v4, v990] : Fin 2 → IVec S16 32) a x).toNat < S8x2048.size a := fun v3 v4 v5 v6 v7 v8 v9 v10 v990 k3_hw38 => k3_hw38.2.1
theorem k3_idx299_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v5, v990] : Fin 2 → IVec S16 32) a x).toNat < S8x2048.size a := fun v3 v4 v5 v6 v7 v8 v9 v10 v990 k3_hw38 => k3_hw38.2.2.1
theorem k3_idx300_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v6, v990] : Fin 2 → IVec S16 32) a x).toNat < S8x2048.size a := fun v3 v4 v5 v6 v7 v8 v9 v10 v990 k3_hw38 => k3_hw38.2.2.2.1
theorem k3_idx301_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v7, v990] : Fin 2 → IVec S16 32) a x).toNat < S8x2048.size a := fun v3 v4 v5 v6 v7 v8 v9 v10 v990 k3_hw38 => k3_hw38.2.2.2.2.1
theorem k3_idx302_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v8, v990] : Fin 2 → IVec S16 32) a x).toNat < S8x2048.size a := fun v3 v4 v5 v6 v7 v8 v9 v10 v990 k3_hw38 => k3_hw38.2.2.2.2.2.1
theorem k3_idx303_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v9, v990] : Fin 2 → IVec S16 32) a x).toNat < S8x2048.size a := fun v3 v4 v5 v6 v7 v8 v9 v10 v990 k3_hw38 => k3_hw38.2.2.2.2.2.2.1
theorem k3_idx304_inb : ∀ (v3 : IVec S16 32) (v4 : IVec S16 32) (v5 : IVec S16 32) (v6 : IVec S16 32) (v7 : IVec S16 32) (v8 : IVec S16 32) (v9 : IVec S16 32) (v10 : IVec S16 32) (v990 : IVec S16 32) (k3_hw38 : k3_chk38 v3 v4 v5 v6 v7 v8 v9 v10 v990), ∀ a x, ((![v10, v990] : Fin 2 → IVec S16 32) a x).toNat < S8x2048.size a := fun v3 v4 v5 v6 v7 v8 v9 v10 v990 k3_hw38 => k3_hw38.2.2.2.2.2.2.2

def k3_chk39 (v3 : IVec S16 32) (v4 : IVec S16 32) (v5 : IVec S16 32) (v6 : IVec S16 32) (v7 : IVec S16 32) (v8 : IVec S16 32) (v9 : IVec S16 32) (v10 : IVec S16 32) (v993 : IVec S16 32) : Prop :=
  (∀ a x, ((![v3, v993] : Fin 2 → IVec S16 32) a x).toNat < S8x2048.size a) ∧
  (∀ a x, ((![v4, v993] : Fin 2 → IVec S16 32) a x).toNat < S8x2048.size a) ∧
  (∀ a x, ((![v5, v993] : Fin 2 → IVec S16 32) a x).toNat < S8x2048.size a) ∧
  (∀ a x, ((![v6, v993] : Fin 2 → IVec S16 32) a x).toNat < S8x2048.size a) ∧
  (∀ a x, ((![v7, v993] : Fin 2 → IVec S16 32) a x).toNat < S8x2048.size a) ∧
  (∀ a x, ((![v8, v993] : Fin 2 → IVec S16 32) a x).toNat < S8x2048.size a) ∧
  (∀ a x, ((![v9, v993] : Fin 2 → IVec S16 32) a x).toNat < S8x2048.size a) ∧
  (∀ a x, ((![v10, v993] : Fin 2 → IVec S16 32) a x).toNat < S8x2048.size a)
theorem k3_idx305_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v3, v993] : Fin 2 → IVec S16 32) a x).toNat < S8x2048.size a := fun v3 v4 v5 v6 v7 v8 v9 v10 v993 k3_hw39 => k3_hw39.1
theorem k3_idx306_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v4, v993] : Fin 2 → IVec S16 32) a x).toNat < S8x2048.size a := fun v3 v4 v5 v6 v7 v8 v9 v10 v993 k3_hw39 => k3_hw39.2.1
theorem k3_idx307_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v5, v993] : Fin 2 → IVec S16 32) a x).toNat < S8x2048.size a := fun v3 v4 v5 v6 v7 v8 v9 v10 v993 k3_hw39 => k3_hw39.2.2.1
theorem k3_idx308_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v6, v993] : Fin 2 → IVec S16 32) a x).toNat < S8x2048.size a := fun v3 v4 v5 v6 v7 v8 v9 v10 v993 k3_hw39 => k3_hw39.2.2.2.1
theorem k3_idx309_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v7, v993] : Fin 2 → IVec S16 32) a x).toNat < S8x2048.size a := fun v3 v4 v5 v6 v7 v8 v9 v10 v993 k3_hw39 => k3_hw39.2.2.2.2.1
theorem k3_idx310_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v8, v993] : Fin 2 → IVec S16 32) a x).toNat < S8x2048.size a := fun v3 v4 v5 v6 v7 v8 v9 v10 v993 k3_hw39 => k3_hw39.2.2.2.2.2.1
theorem k3_idx311_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v9, v993] : Fin 2 → IVec S16 32) a x).toNat < S8x2048.size a := fun v3 v4 v5 v6 v7 v8 v9 v10 v993 k3_hw39 => k3_hw39.2.2.2.2.2.2.1
theorem k3_idx312_inb : ∀ (v3 : IVec S16 32) (v4 : IVec S16 32) (v5 : IVec S16 32) (v6 : IVec S16 32) (v7 : IVec S16 32) (v8 : IVec S16 32) (v9 : IVec S16 32) (v10 : IVec S16 32) (v993 : IVec S16 32) (k3_hw39 : k3_chk39 v3 v4 v5 v6 v7 v8 v9 v10 v993), ∀ a x, ((![v10, v993] : Fin 2 → IVec S16 32) a x).toNat < S8x2048.size a := fun v3 v4 v5 v6 v7 v8 v9 v10 v993 k3_hw39 => k3_hw39.2.2.2.2.2.2.2

def k3_chk40 (v3 : IVec S16 32) (v4 : IVec S16 32) (v5 : IVec S16 32) (v6 : IVec S16 32) (v7 : IVec S16 32) (v8 : IVec S16 32) (v9 : IVec S16 32) (v10 : IVec S16 32) (v996 : IVec S16 32) : Prop :=
  (∀ a x, ((![v3, v996] : Fin 2 → IVec S16 32) a x).toNat < S8x2048.size a) ∧
  (∀ a x, ((![v4, v996] : Fin 2 → IVec S16 32) a x).toNat < S8x2048.size a) ∧
  (∀ a x, ((![v5, v996] : Fin 2 → IVec S16 32) a x).toNat < S8x2048.size a) ∧
  (∀ a x, ((![v6, v996] : Fin 2 → IVec S16 32) a x).toNat < S8x2048.size a) ∧
  (∀ a x, ((![v7, v996] : Fin 2 → IVec S16 32) a x).toNat < S8x2048.size a) ∧
  (∀ a x, ((![v8, v996] : Fin 2 → IVec S16 32) a x).toNat < S8x2048.size a) ∧
  (∀ a x, ((![v9, v996] : Fin 2 → IVec S16 32) a x).toNat < S8x2048.size a) ∧
  (∀ a x, ((![v10, v996] : Fin 2 → IVec S16 32) a x).toNat < S8x2048.size a)
theorem k3_idx313_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v3, v996] : Fin 2 → IVec S16 32) a x).toNat < S8x2048.size a := fun v3 v4 v5 v6 v7 v8 v9 v10 v996 k3_hw40 => k3_hw40.1
theorem k3_idx314_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v4, v996] : Fin 2 → IVec S16 32) a x).toNat < S8x2048.size a := fun v3 v4 v5 v6 v7 v8 v9 v10 v996 k3_hw40 => k3_hw40.2.1
theorem k3_idx315_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v5, v996] : Fin 2 → IVec S16 32) a x).toNat < S8x2048.size a := fun v3 v4 v5 v6 v7 v8 v9 v10 v996 k3_hw40 => k3_hw40.2.2.1
theorem k3_idx316_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v6, v996] : Fin 2 → IVec S16 32) a x).toNat < S8x2048.size a := fun v3 v4 v5 v6 v7 v8 v9 v10 v996 k3_hw40 => k3_hw40.2.2.2.1
theorem k3_idx317_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v7, v996] : Fin 2 → IVec S16 32) a x).toNat < S8x2048.size a := fun v3 v4 v5 v6 v7 v8 v9 v10 v996 k3_hw40 => k3_hw40.2.2.2.2.1
theorem k3_idx318_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v8, v996] : Fin 2 → IVec S16 32) a x).toNat < S8x2048.size a := fun v3 v4 v5 v6 v7 v8 v9 v10 v996 k3_hw40 => k3_hw40.2.2.2.2.2.1
theorem k3_idx319_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v9, v996] : Fin 2 → IVec S16 32) a x).toNat < S8x2048.size a := fun v3 v4 v5 v6 v7 v8 v9 v10 v996 k3_hw40 => k3_hw40.2.2.2.2.2.2.1
theorem k3_idx320_inb : ∀ (v3 : IVec S16 32) (v4 : IVec S16 32) (v5 : IVec S16 32) (v6 : IVec S16 32) (v7 : IVec S16 32) (v8 : IVec S16 32) (v9 : IVec S16 32) (v10 : IVec S16 32) (v996 : IVec S16 32) (k3_hw40 : k3_chk40 v3 v4 v5 v6 v7 v8 v9 v10 v996), ∀ a x, ((![v10, v996] : Fin 2 → IVec S16 32) a x).toNat < S8x2048.size a := fun v3 v4 v5 v6 v7 v8 v9 v10 v996 k3_hw40 => k3_hw40.2.2.2.2.2.2.2
def k3_off42 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_687 : BitVec 32 := 5#32
  let v1093 : BitVec 32 := Scalar.addi v12 c5_i32_687
  let v1094 : Index := Scalar.indexCast v1093
  let c0_688 : Index := 0#32
  ![v1094.toNat, 0]
def k3_off43 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_689 : BitVec 32 := 5#32
  let v1096 : BitVec 32 := Scalar.addi v12 c5_i32_689
  let v1097 : Index := Scalar.indexCast v1096
  let c16_690 : Index := 16#32
  ![v1097.toNat, 16]
def k3_off44 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_691 : BitVec 32 := 5#32
  let v1099 : BitVec 32 := Scalar.addi v12 c5_i32_691
  let v1100 : Index := Scalar.indexCast v1099
  let c32_692 : Index := 32#32
  ![v1100.toNat, 32]
def k3_off45 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_693 : BitVec 32 := 5#32
  let v1102 : BitVec 32 := Scalar.addi v12 c5_i32_693
  let v1103 : Index := Scalar.indexCast v1102
  let c48_694 : Index := 48#32
  ![v1103.toNat, 48]

def k3_chk41 (v3 : IVec S16 32) (v4 : IVec S16 32) (v5 : IVec S16 32) (v6 : IVec S16 32) (v7 : IVec S16 32) (v8 : IVec S16 32) (v9 : IVec S16 32) (v10 : IVec S16 32) (v1095 : IVec S16 32) : Prop :=
  (∀ a x, ((![v3, v1095] : Fin 2 → IVec S16 32) a x).toNat < S8x2048.size a) ∧
  (∀ a x, ((![v4, v1095] : Fin 2 → IVec S16 32) a x).toNat < S8x2048.size a) ∧
  (∀ a x, ((![v5, v1095] : Fin 2 → IVec S16 32) a x).toNat < S8x2048.size a) ∧
  (∀ a x, ((![v6, v1095] : Fin 2 → IVec S16 32) a x).toNat < S8x2048.size a) ∧
  (∀ a x, ((![v7, v1095] : Fin 2 → IVec S16 32) a x).toNat < S8x2048.size a) ∧
  (∀ a x, ((![v8, v1095] : Fin 2 → IVec S16 32) a x).toNat < S8x2048.size a) ∧
  (∀ a x, ((![v9, v1095] : Fin 2 → IVec S16 32) a x).toNat < S8x2048.size a) ∧
  (∀ a x, ((![v10, v1095] : Fin 2 → IVec S16 32) a x).toNat < S8x2048.size a)
theorem k3_idx321_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v3, v1095] : Fin 2 → IVec S16 32) a x).toNat < S8x2048.size a := fun v3 v4 v5 v6 v7 v8 v9 v10 v1095 k3_hw41 => k3_hw41.1
theorem k3_idx322_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v4, v1095] : Fin 2 → IVec S16 32) a x).toNat < S8x2048.size a := fun v3 v4 v5 v6 v7 v8 v9 v10 v1095 k3_hw41 => k3_hw41.2.1
theorem k3_idx323_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v5, v1095] : Fin 2 → IVec S16 32) a x).toNat < S8x2048.size a := fun v3 v4 v5 v6 v7 v8 v9 v10 v1095 k3_hw41 => k3_hw41.2.2.1
theorem k3_idx324_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v6, v1095] : Fin 2 → IVec S16 32) a x).toNat < S8x2048.size a := fun v3 v4 v5 v6 v7 v8 v9 v10 v1095 k3_hw41 => k3_hw41.2.2.2.1
theorem k3_idx325_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v7, v1095] : Fin 2 → IVec S16 32) a x).toNat < S8x2048.size a := fun v3 v4 v5 v6 v7 v8 v9 v10 v1095 k3_hw41 => k3_hw41.2.2.2.2.1
theorem k3_idx326_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v8, v1095] : Fin 2 → IVec S16 32) a x).toNat < S8x2048.size a := fun v3 v4 v5 v6 v7 v8 v9 v10 v1095 k3_hw41 => k3_hw41.2.2.2.2.2.1
theorem k3_idx327_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v9, v1095] : Fin 2 → IVec S16 32) a x).toNat < S8x2048.size a := fun v3 v4 v5 v6 v7 v8 v9 v10 v1095 k3_hw41 => k3_hw41.2.2.2.2.2.2.1
theorem k3_idx328_inb : ∀ (v3 : IVec S16 32) (v4 : IVec S16 32) (v5 : IVec S16 32) (v6 : IVec S16 32) (v7 : IVec S16 32) (v8 : IVec S16 32) (v9 : IVec S16 32) (v10 : IVec S16 32) (v1095 : IVec S16 32) (k3_hw41 : k3_chk41 v3 v4 v5 v6 v7 v8 v9 v10 v1095), ∀ a x, ((![v10, v1095] : Fin 2 → IVec S16 32) a x).toNat < S8x2048.size a := fun v3 v4 v5 v6 v7 v8 v9 v10 v1095 k3_hw41 => k3_hw41.2.2.2.2.2.2.2

def k3_chk42 (v3 : IVec S16 32) (v4 : IVec S16 32) (v5 : IVec S16 32) (v6 : IVec S16 32) (v7 : IVec S16 32) (v8 : IVec S16 32) (v9 : IVec S16 32) (v10 : IVec S16 32) (v1098 : IVec S16 32) : Prop :=
  (∀ a x, ((![v3, v1098] : Fin 2 → IVec S16 32) a x).toNat < S8x2048.size a) ∧
  (∀ a x, ((![v4, v1098] : Fin 2 → IVec S16 32) a x).toNat < S8x2048.size a) ∧
  (∀ a x, ((![v5, v1098] : Fin 2 → IVec S16 32) a x).toNat < S8x2048.size a) ∧
  (∀ a x, ((![v6, v1098] : Fin 2 → IVec S16 32) a x).toNat < S8x2048.size a) ∧
  (∀ a x, ((![v7, v1098] : Fin 2 → IVec S16 32) a x).toNat < S8x2048.size a) ∧
  (∀ a x, ((![v8, v1098] : Fin 2 → IVec S16 32) a x).toNat < S8x2048.size a) ∧
  (∀ a x, ((![v9, v1098] : Fin 2 → IVec S16 32) a x).toNat < S8x2048.size a) ∧
  (∀ a x, ((![v10, v1098] : Fin 2 → IVec S16 32) a x).toNat < S8x2048.size a)
theorem k3_idx329_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v3, v1098] : Fin 2 → IVec S16 32) a x).toNat < S8x2048.size a := fun v3 v4 v5 v6 v7 v8 v9 v10 v1098 k3_hw42 => k3_hw42.1
theorem k3_idx330_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v4, v1098] : Fin 2 → IVec S16 32) a x).toNat < S8x2048.size a := fun v3 v4 v5 v6 v7 v8 v9 v10 v1098 k3_hw42 => k3_hw42.2.1
theorem k3_idx331_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v5, v1098] : Fin 2 → IVec S16 32) a x).toNat < S8x2048.size a := fun v3 v4 v5 v6 v7 v8 v9 v10 v1098 k3_hw42 => k3_hw42.2.2.1
theorem k3_idx332_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v6, v1098] : Fin 2 → IVec S16 32) a x).toNat < S8x2048.size a := fun v3 v4 v5 v6 v7 v8 v9 v10 v1098 k3_hw42 => k3_hw42.2.2.2.1
theorem k3_idx333_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v7, v1098] : Fin 2 → IVec S16 32) a x).toNat < S8x2048.size a := fun v3 v4 v5 v6 v7 v8 v9 v10 v1098 k3_hw42 => k3_hw42.2.2.2.2.1
theorem k3_idx334_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v8, v1098] : Fin 2 → IVec S16 32) a x).toNat < S8x2048.size a := fun v3 v4 v5 v6 v7 v8 v9 v10 v1098 k3_hw42 => k3_hw42.2.2.2.2.2.1
theorem k3_idx335_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v9, v1098] : Fin 2 → IVec S16 32) a x).toNat < S8x2048.size a := fun v3 v4 v5 v6 v7 v8 v9 v10 v1098 k3_hw42 => k3_hw42.2.2.2.2.2.2.1
theorem k3_idx336_inb : ∀ (v3 : IVec S16 32) (v4 : IVec S16 32) (v5 : IVec S16 32) (v6 : IVec S16 32) (v7 : IVec S16 32) (v8 : IVec S16 32) (v9 : IVec S16 32) (v10 : IVec S16 32) (v1098 : IVec S16 32) (k3_hw42 : k3_chk42 v3 v4 v5 v6 v7 v8 v9 v10 v1098), ∀ a x, ((![v10, v1098] : Fin 2 → IVec S16 32) a x).toNat < S8x2048.size a := fun v3 v4 v5 v6 v7 v8 v9 v10 v1098 k3_hw42 => k3_hw42.2.2.2.2.2.2.2

def k3_chk43 (v3 : IVec S16 32) (v4 : IVec S16 32) (v5 : IVec S16 32) (v6 : IVec S16 32) (v7 : IVec S16 32) (v8 : IVec S16 32) (v9 : IVec S16 32) (v10 : IVec S16 32) (v1101 : IVec S16 32) : Prop :=
  (∀ a x, ((![v3, v1101] : Fin 2 → IVec S16 32) a x).toNat < S8x2048.size a) ∧
  (∀ a x, ((![v4, v1101] : Fin 2 → IVec S16 32) a x).toNat < S8x2048.size a) ∧
  (∀ a x, ((![v5, v1101] : Fin 2 → IVec S16 32) a x).toNat < S8x2048.size a) ∧
  (∀ a x, ((![v6, v1101] : Fin 2 → IVec S16 32) a x).toNat < S8x2048.size a) ∧
  (∀ a x, ((![v7, v1101] : Fin 2 → IVec S16 32) a x).toNat < S8x2048.size a) ∧
  (∀ a x, ((![v8, v1101] : Fin 2 → IVec S16 32) a x).toNat < S8x2048.size a) ∧
  (∀ a x, ((![v9, v1101] : Fin 2 → IVec S16 32) a x).toNat < S8x2048.size a) ∧
  (∀ a x, ((![v10, v1101] : Fin 2 → IVec S16 32) a x).toNat < S8x2048.size a)
theorem k3_idx337_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v3, v1101] : Fin 2 → IVec S16 32) a x).toNat < S8x2048.size a := fun v3 v4 v5 v6 v7 v8 v9 v10 v1101 k3_hw43 => k3_hw43.1
theorem k3_idx338_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v4, v1101] : Fin 2 → IVec S16 32) a x).toNat < S8x2048.size a := fun v3 v4 v5 v6 v7 v8 v9 v10 v1101 k3_hw43 => k3_hw43.2.1
theorem k3_idx339_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v5, v1101] : Fin 2 → IVec S16 32) a x).toNat < S8x2048.size a := fun v3 v4 v5 v6 v7 v8 v9 v10 v1101 k3_hw43 => k3_hw43.2.2.1
theorem k3_idx340_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v6, v1101] : Fin 2 → IVec S16 32) a x).toNat < S8x2048.size a := fun v3 v4 v5 v6 v7 v8 v9 v10 v1101 k3_hw43 => k3_hw43.2.2.2.1
theorem k3_idx341_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v7, v1101] : Fin 2 → IVec S16 32) a x).toNat < S8x2048.size a := fun v3 v4 v5 v6 v7 v8 v9 v10 v1101 k3_hw43 => k3_hw43.2.2.2.2.1
theorem k3_idx342_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v8, v1101] : Fin 2 → IVec S16 32) a x).toNat < S8x2048.size a := fun v3 v4 v5 v6 v7 v8 v9 v10 v1101 k3_hw43 => k3_hw43.2.2.2.2.2.1
theorem k3_idx343_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v9, v1101] : Fin 2 → IVec S16 32) a x).toNat < S8x2048.size a := fun v3 v4 v5 v6 v7 v8 v9 v10 v1101 k3_hw43 => k3_hw43.2.2.2.2.2.2.1
theorem k3_idx344_inb : ∀ (v3 : IVec S16 32) (v4 : IVec S16 32) (v5 : IVec S16 32) (v6 : IVec S16 32) (v7 : IVec S16 32) (v8 : IVec S16 32) (v9 : IVec S16 32) (v10 : IVec S16 32) (v1101 : IVec S16 32) (k3_hw43 : k3_chk43 v3 v4 v5 v6 v7 v8 v9 v10 v1101), ∀ a x, ((![v10, v1101] : Fin 2 → IVec S16 32) a x).toNat < S8x2048.size a := fun v3 v4 v5 v6 v7 v8 v9 v10 v1101 k3_hw43 => k3_hw43.2.2.2.2.2.2.2

def k3_chk44 (v3 : IVec S16 32) (v4 : IVec S16 32) (v5 : IVec S16 32) (v6 : IVec S16 32) (v7 : IVec S16 32) (v8 : IVec S16 32) (v9 : IVec S16 32) (v10 : IVec S16 32) (v1104 : IVec S16 32) : Prop :=
  (∀ a x, ((![v3, v1104] : Fin 2 → IVec S16 32) a x).toNat < S8x2048.size a) ∧
  (∀ a x, ((![v4, v1104] : Fin 2 → IVec S16 32) a x).toNat < S8x2048.size a) ∧
  (∀ a x, ((![v5, v1104] : Fin 2 → IVec S16 32) a x).toNat < S8x2048.size a) ∧
  (∀ a x, ((![v6, v1104] : Fin 2 → IVec S16 32) a x).toNat < S8x2048.size a) ∧
  (∀ a x, ((![v7, v1104] : Fin 2 → IVec S16 32) a x).toNat < S8x2048.size a) ∧
  (∀ a x, ((![v8, v1104] : Fin 2 → IVec S16 32) a x).toNat < S8x2048.size a) ∧
  (∀ a x, ((![v9, v1104] : Fin 2 → IVec S16 32) a x).toNat < S8x2048.size a) ∧
  (∀ a x, ((![v10, v1104] : Fin 2 → IVec S16 32) a x).toNat < S8x2048.size a)
theorem k3_idx345_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v3, v1104] : Fin 2 → IVec S16 32) a x).toNat < S8x2048.size a := fun v3 v4 v5 v6 v7 v8 v9 v10 v1104 k3_hw44 => k3_hw44.1
theorem k3_idx346_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v4, v1104] : Fin 2 → IVec S16 32) a x).toNat < S8x2048.size a := fun v3 v4 v5 v6 v7 v8 v9 v10 v1104 k3_hw44 => k3_hw44.2.1
theorem k3_idx347_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v5, v1104] : Fin 2 → IVec S16 32) a x).toNat < S8x2048.size a := fun v3 v4 v5 v6 v7 v8 v9 v10 v1104 k3_hw44 => k3_hw44.2.2.1
theorem k3_idx348_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v6, v1104] : Fin 2 → IVec S16 32) a x).toNat < S8x2048.size a := fun v3 v4 v5 v6 v7 v8 v9 v10 v1104 k3_hw44 => k3_hw44.2.2.2.1
theorem k3_idx349_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v7, v1104] : Fin 2 → IVec S16 32) a x).toNat < S8x2048.size a := fun v3 v4 v5 v6 v7 v8 v9 v10 v1104 k3_hw44 => k3_hw44.2.2.2.2.1
theorem k3_idx350_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v8, v1104] : Fin 2 → IVec S16 32) a x).toNat < S8x2048.size a := fun v3 v4 v5 v6 v7 v8 v9 v10 v1104 k3_hw44 => k3_hw44.2.2.2.2.2.1
theorem k3_idx351_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v9, v1104] : Fin 2 → IVec S16 32) a x).toNat < S8x2048.size a := fun v3 v4 v5 v6 v7 v8 v9 v10 v1104 k3_hw44 => k3_hw44.2.2.2.2.2.2.1
theorem k3_idx352_inb : ∀ (v3 : IVec S16 32) (v4 : IVec S16 32) (v5 : IVec S16 32) (v6 : IVec S16 32) (v7 : IVec S16 32) (v8 : IVec S16 32) (v9 : IVec S16 32) (v10 : IVec S16 32) (v1104 : IVec S16 32) (k3_hw44 : k3_chk44 v3 v4 v5 v6 v7 v8 v9 v10 v1104), ∀ a x, ((![v10, v1104] : Fin 2 → IVec S16 32) a x).toNat < S8x2048.size a := fun v3 v4 v5 v6 v7 v8 v9 v10 v1104 k3_hw44 => k3_hw44.2.2.2.2.2.2.2
def k3_off46 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_755 : BitVec 32 := 5#32
  let v1201 : BitVec 32 := Scalar.addi v12 c5_i32_755
  let v1202 : Index := Scalar.indexCast v1201
  let c64_756 : Index := 64#32
  ![v1202.toNat, 64]
def k3_off47 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_757 : BitVec 32 := 5#32
  let v1204 : BitVec 32 := Scalar.addi v12 c5_i32_757
  let v1205 : Index := Scalar.indexCast v1204
  let c80_758 : Index := 80#32
  ![v1205.toNat, 80]
def k3_off48 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_759 : BitVec 32 := 5#32
  let v1207 : BitVec 32 := Scalar.addi v12 c5_i32_759
  let v1208 : Index := Scalar.indexCast v1207
  let c96_760 : Index := 96#32
  ![v1208.toNat, 96]
def k3_off49 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c5_i32_761 : BitVec 32 := 5#32
  let v1210 : BitVec 32 := Scalar.addi v12 c5_i32_761
  let v1211 : Index := Scalar.indexCast v1210
  let c112_762 : Index := 112#32
  ![v1211.toNat, 112]

def k3_chk45 (v3 : IVec S16 32) (v4 : IVec S16 32) (v5 : IVec S16 32) (v6 : IVec S16 32) (v7 : IVec S16 32) (v8 : IVec S16 32) (v9 : IVec S16 32) (v10 : IVec S16 32) (v1203 : IVec S16 32) : Prop :=
  (∀ a x, ((![v3, v1203] : Fin 2 → IVec S16 32) a x).toNat < S8x2048.size a) ∧
  (∀ a x, ((![v4, v1203] : Fin 2 → IVec S16 32) a x).toNat < S8x2048.size a) ∧
  (∀ a x, ((![v5, v1203] : Fin 2 → IVec S16 32) a x).toNat < S8x2048.size a) ∧
  (∀ a x, ((![v6, v1203] : Fin 2 → IVec S16 32) a x).toNat < S8x2048.size a) ∧
  (∀ a x, ((![v7, v1203] : Fin 2 → IVec S16 32) a x).toNat < S8x2048.size a) ∧
  (∀ a x, ((![v8, v1203] : Fin 2 → IVec S16 32) a x).toNat < S8x2048.size a) ∧
  (∀ a x, ((![v9, v1203] : Fin 2 → IVec S16 32) a x).toNat < S8x2048.size a) ∧
  (∀ a x, ((![v10, v1203] : Fin 2 → IVec S16 32) a x).toNat < S8x2048.size a)
theorem k3_idx353_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v3, v1203] : Fin 2 → IVec S16 32) a x).toNat < S8x2048.size a := fun v3 v4 v5 v6 v7 v8 v9 v10 v1203 k3_hw45 => k3_hw45.1
theorem k3_idx354_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v4, v1203] : Fin 2 → IVec S16 32) a x).toNat < S8x2048.size a := fun v3 v4 v5 v6 v7 v8 v9 v10 v1203 k3_hw45 => k3_hw45.2.1
theorem k3_idx355_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v5, v1203] : Fin 2 → IVec S16 32) a x).toNat < S8x2048.size a := fun v3 v4 v5 v6 v7 v8 v9 v10 v1203 k3_hw45 => k3_hw45.2.2.1
theorem k3_idx356_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v6, v1203] : Fin 2 → IVec S16 32) a x).toNat < S8x2048.size a := fun v3 v4 v5 v6 v7 v8 v9 v10 v1203 k3_hw45 => k3_hw45.2.2.2.1
theorem k3_idx357_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v7, v1203] : Fin 2 → IVec S16 32) a x).toNat < S8x2048.size a := fun v3 v4 v5 v6 v7 v8 v9 v10 v1203 k3_hw45 => k3_hw45.2.2.2.2.1
theorem k3_idx358_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v8, v1203] : Fin 2 → IVec S16 32) a x).toNat < S8x2048.size a := fun v3 v4 v5 v6 v7 v8 v9 v10 v1203 k3_hw45 => k3_hw45.2.2.2.2.2.1
theorem k3_idx359_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v9, v1203] : Fin 2 → IVec S16 32) a x).toNat < S8x2048.size a := fun v3 v4 v5 v6 v7 v8 v9 v10 v1203 k3_hw45 => k3_hw45.2.2.2.2.2.2.1
theorem k3_idx360_inb : ∀ (v3 : IVec S16 32) (v4 : IVec S16 32) (v5 : IVec S16 32) (v6 : IVec S16 32) (v7 : IVec S16 32) (v8 : IVec S16 32) (v9 : IVec S16 32) (v10 : IVec S16 32) (v1203 : IVec S16 32) (k3_hw45 : k3_chk45 v3 v4 v5 v6 v7 v8 v9 v10 v1203), ∀ a x, ((![v10, v1203] : Fin 2 → IVec S16 32) a x).toNat < S8x2048.size a := fun v3 v4 v5 v6 v7 v8 v9 v10 v1203 k3_hw45 => k3_hw45.2.2.2.2.2.2.2

def k3_chk46 (v3 : IVec S16 32) (v4 : IVec S16 32) (v5 : IVec S16 32) (v6 : IVec S16 32) (v7 : IVec S16 32) (v8 : IVec S16 32) (v9 : IVec S16 32) (v10 : IVec S16 32) (v1206 : IVec S16 32) : Prop :=
  (∀ a x, ((![v3, v1206] : Fin 2 → IVec S16 32) a x).toNat < S8x2048.size a) ∧
  (∀ a x, ((![v4, v1206] : Fin 2 → IVec S16 32) a x).toNat < S8x2048.size a) ∧
  (∀ a x, ((![v5, v1206] : Fin 2 → IVec S16 32) a x).toNat < S8x2048.size a) ∧
  (∀ a x, ((![v6, v1206] : Fin 2 → IVec S16 32) a x).toNat < S8x2048.size a) ∧
  (∀ a x, ((![v7, v1206] : Fin 2 → IVec S16 32) a x).toNat < S8x2048.size a) ∧
  (∀ a x, ((![v8, v1206] : Fin 2 → IVec S16 32) a x).toNat < S8x2048.size a) ∧
  (∀ a x, ((![v9, v1206] : Fin 2 → IVec S16 32) a x).toNat < S8x2048.size a) ∧
  (∀ a x, ((![v10, v1206] : Fin 2 → IVec S16 32) a x).toNat < S8x2048.size a)
theorem k3_idx361_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v3, v1206] : Fin 2 → IVec S16 32) a x).toNat < S8x2048.size a := fun v3 v4 v5 v6 v7 v8 v9 v10 v1206 k3_hw46 => k3_hw46.1
theorem k3_idx362_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v4, v1206] : Fin 2 → IVec S16 32) a x).toNat < S8x2048.size a := fun v3 v4 v5 v6 v7 v8 v9 v10 v1206 k3_hw46 => k3_hw46.2.1
theorem k3_idx363_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v5, v1206] : Fin 2 → IVec S16 32) a x).toNat < S8x2048.size a := fun v3 v4 v5 v6 v7 v8 v9 v10 v1206 k3_hw46 => k3_hw46.2.2.1
theorem k3_idx364_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v6, v1206] : Fin 2 → IVec S16 32) a x).toNat < S8x2048.size a := fun v3 v4 v5 v6 v7 v8 v9 v10 v1206 k3_hw46 => k3_hw46.2.2.2.1
theorem k3_idx365_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v7, v1206] : Fin 2 → IVec S16 32) a x).toNat < S8x2048.size a := fun v3 v4 v5 v6 v7 v8 v9 v10 v1206 k3_hw46 => k3_hw46.2.2.2.2.1
theorem k3_idx366_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v8, v1206] : Fin 2 → IVec S16 32) a x).toNat < S8x2048.size a := fun v3 v4 v5 v6 v7 v8 v9 v10 v1206 k3_hw46 => k3_hw46.2.2.2.2.2.1
theorem k3_idx367_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v9, v1206] : Fin 2 → IVec S16 32) a x).toNat < S8x2048.size a := fun v3 v4 v5 v6 v7 v8 v9 v10 v1206 k3_hw46 => k3_hw46.2.2.2.2.2.2.1
theorem k3_idx368_inb : ∀ (v3 : IVec S16 32) (v4 : IVec S16 32) (v5 : IVec S16 32) (v6 : IVec S16 32) (v7 : IVec S16 32) (v8 : IVec S16 32) (v9 : IVec S16 32) (v10 : IVec S16 32) (v1206 : IVec S16 32) (k3_hw46 : k3_chk46 v3 v4 v5 v6 v7 v8 v9 v10 v1206), ∀ a x, ((![v10, v1206] : Fin 2 → IVec S16 32) a x).toNat < S8x2048.size a := fun v3 v4 v5 v6 v7 v8 v9 v10 v1206 k3_hw46 => k3_hw46.2.2.2.2.2.2.2

def k3_chk47 (v3 : IVec S16 32) (v4 : IVec S16 32) (v5 : IVec S16 32) (v6 : IVec S16 32) (v7 : IVec S16 32) (v8 : IVec S16 32) (v9 : IVec S16 32) (v10 : IVec S16 32) (v1209 : IVec S16 32) : Prop :=
  (∀ a x, ((![v3, v1209] : Fin 2 → IVec S16 32) a x).toNat < S8x2048.size a) ∧
  (∀ a x, ((![v4, v1209] : Fin 2 → IVec S16 32) a x).toNat < S8x2048.size a) ∧
  (∀ a x, ((![v5, v1209] : Fin 2 → IVec S16 32) a x).toNat < S8x2048.size a) ∧
  (∀ a x, ((![v6, v1209] : Fin 2 → IVec S16 32) a x).toNat < S8x2048.size a) ∧
  (∀ a x, ((![v7, v1209] : Fin 2 → IVec S16 32) a x).toNat < S8x2048.size a) ∧
  (∀ a x, ((![v8, v1209] : Fin 2 → IVec S16 32) a x).toNat < S8x2048.size a) ∧
  (∀ a x, ((![v9, v1209] : Fin 2 → IVec S16 32) a x).toNat < S8x2048.size a) ∧
  (∀ a x, ((![v10, v1209] : Fin 2 → IVec S16 32) a x).toNat < S8x2048.size a)
theorem k3_idx369_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v3, v1209] : Fin 2 → IVec S16 32) a x).toNat < S8x2048.size a := fun v3 v4 v5 v6 v7 v8 v9 v10 v1209 k3_hw47 => k3_hw47.1
theorem k3_idx370_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v4, v1209] : Fin 2 → IVec S16 32) a x).toNat < S8x2048.size a := fun v3 v4 v5 v6 v7 v8 v9 v10 v1209 k3_hw47 => k3_hw47.2.1
theorem k3_idx371_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v5, v1209] : Fin 2 → IVec S16 32) a x).toNat < S8x2048.size a := fun v3 v4 v5 v6 v7 v8 v9 v10 v1209 k3_hw47 => k3_hw47.2.2.1
theorem k3_idx372_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v6, v1209] : Fin 2 → IVec S16 32) a x).toNat < S8x2048.size a := fun v3 v4 v5 v6 v7 v8 v9 v10 v1209 k3_hw47 => k3_hw47.2.2.2.1
theorem k3_idx373_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v7, v1209] : Fin 2 → IVec S16 32) a x).toNat < S8x2048.size a := fun v3 v4 v5 v6 v7 v8 v9 v10 v1209 k3_hw47 => k3_hw47.2.2.2.2.1
theorem k3_idx374_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v8, v1209] : Fin 2 → IVec S16 32) a x).toNat < S8x2048.size a := fun v3 v4 v5 v6 v7 v8 v9 v10 v1209 k3_hw47 => k3_hw47.2.2.2.2.2.1
theorem k3_idx375_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v9, v1209] : Fin 2 → IVec S16 32) a x).toNat < S8x2048.size a := fun v3 v4 v5 v6 v7 v8 v9 v10 v1209 k3_hw47 => k3_hw47.2.2.2.2.2.2.1
theorem k3_idx376_inb : ∀ (v3 : IVec S16 32) (v4 : IVec S16 32) (v5 : IVec S16 32) (v6 : IVec S16 32) (v7 : IVec S16 32) (v8 : IVec S16 32) (v9 : IVec S16 32) (v10 : IVec S16 32) (v1209 : IVec S16 32) (k3_hw47 : k3_chk47 v3 v4 v5 v6 v7 v8 v9 v10 v1209), ∀ a x, ((![v10, v1209] : Fin 2 → IVec S16 32) a x).toNat < S8x2048.size a := fun v3 v4 v5 v6 v7 v8 v9 v10 v1209 k3_hw47 => k3_hw47.2.2.2.2.2.2.2

def k3_chk48 (v3 : IVec S16 32) (v4 : IVec S16 32) (v5 : IVec S16 32) (v6 : IVec S16 32) (v7 : IVec S16 32) (v8 : IVec S16 32) (v9 : IVec S16 32) (v10 : IVec S16 32) (v1212 : IVec S16 32) : Prop :=
  (∀ a x, ((![v3, v1212] : Fin 2 → IVec S16 32) a x).toNat < S8x2048.size a) ∧
  (∀ a x, ((![v4, v1212] : Fin 2 → IVec S16 32) a x).toNat < S8x2048.size a) ∧
  (∀ a x, ((![v5, v1212] : Fin 2 → IVec S16 32) a x).toNat < S8x2048.size a) ∧
  (∀ a x, ((![v6, v1212] : Fin 2 → IVec S16 32) a x).toNat < S8x2048.size a) ∧
  (∀ a x, ((![v7, v1212] : Fin 2 → IVec S16 32) a x).toNat < S8x2048.size a) ∧
  (∀ a x, ((![v8, v1212] : Fin 2 → IVec S16 32) a x).toNat < S8x2048.size a) ∧
  (∀ a x, ((![v9, v1212] : Fin 2 → IVec S16 32) a x).toNat < S8x2048.size a) ∧
  (∀ a x, ((![v10, v1212] : Fin 2 → IVec S16 32) a x).toNat < S8x2048.size a)
theorem k3_idx377_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v3, v1212] : Fin 2 → IVec S16 32) a x).toNat < S8x2048.size a := fun v3 v4 v5 v6 v7 v8 v9 v10 v1212 k3_hw48 => k3_hw48.1
theorem k3_idx378_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v4, v1212] : Fin 2 → IVec S16 32) a x).toNat < S8x2048.size a := fun v3 v4 v5 v6 v7 v8 v9 v10 v1212 k3_hw48 => k3_hw48.2.1
theorem k3_idx379_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v5, v1212] : Fin 2 → IVec S16 32) a x).toNat < S8x2048.size a := fun v3 v4 v5 v6 v7 v8 v9 v10 v1212 k3_hw48 => k3_hw48.2.2.1
theorem k3_idx380_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v6, v1212] : Fin 2 → IVec S16 32) a x).toNat < S8x2048.size a := fun v3 v4 v5 v6 v7 v8 v9 v10 v1212 k3_hw48 => k3_hw48.2.2.2.1
theorem k3_idx381_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v7, v1212] : Fin 2 → IVec S16 32) a x).toNat < S8x2048.size a := fun v3 v4 v5 v6 v7 v8 v9 v10 v1212 k3_hw48 => k3_hw48.2.2.2.2.1
theorem k3_idx382_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v8, v1212] : Fin 2 → IVec S16 32) a x).toNat < S8x2048.size a := fun v3 v4 v5 v6 v7 v8 v9 v10 v1212 k3_hw48 => k3_hw48.2.2.2.2.2.1
theorem k3_idx383_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v9, v1212] : Fin 2 → IVec S16 32) a x).toNat < S8x2048.size a := fun v3 v4 v5 v6 v7 v8 v9 v10 v1212 k3_hw48 => k3_hw48.2.2.2.2.2.2.1
theorem k3_idx384_inb : ∀ (v3 : IVec S16 32) (v4 : IVec S16 32) (v5 : IVec S16 32) (v6 : IVec S16 32) (v7 : IVec S16 32) (v8 : IVec S16 32) (v9 : IVec S16 32) (v10 : IVec S16 32) (v1212 : IVec S16 32) (k3_hw48 : k3_chk48 v3 v4 v5 v6 v7 v8 v9 v10 v1212), ∀ a x, ((![v10, v1212] : Fin 2 → IVec S16 32) a x).toNat < S8x2048.size a := fun v3 v4 v5 v6 v7 v8 v9 v10 v1212 k3_hw48 => k3_hw48.2.2.2.2.2.2.2
def k3_off50 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_823 : BitVec 32 := 6#32
  let v1309 : BitVec 32 := Scalar.addi v12 c6_i32_823
  let v1310 : Index := Scalar.indexCast v1309
  let c0_824 : Index := 0#32
  ![v1310.toNat, 0]
def k3_off51 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_825 : BitVec 32 := 6#32
  let v1312 : BitVec 32 := Scalar.addi v12 c6_i32_825
  let v1313 : Index := Scalar.indexCast v1312
  let c16_826 : Index := 16#32
  ![v1313.toNat, 16]
def k3_off52 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_827 : BitVec 32 := 6#32
  let v1315 : BitVec 32 := Scalar.addi v12 c6_i32_827
  let v1316 : Index := Scalar.indexCast v1315
  let c32_828 : Index := 32#32
  ![v1316.toNat, 32]
def k3_off53 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_829 : BitVec 32 := 6#32
  let v1318 : BitVec 32 := Scalar.addi v12 c6_i32_829
  let v1319 : Index := Scalar.indexCast v1318
  let c48_830 : Index := 48#32
  ![v1319.toNat, 48]

def k3_chk49 (v3 : IVec S16 32) (v4 : IVec S16 32) (v5 : IVec S16 32) (v6 : IVec S16 32) (v7 : IVec S16 32) (v8 : IVec S16 32) (v9 : IVec S16 32) (v10 : IVec S16 32) (v1311 : IVec S16 32) : Prop :=
  (∀ a x, ((![v3, v1311] : Fin 2 → IVec S16 32) a x).toNat < S8x2048.size a) ∧
  (∀ a x, ((![v4, v1311] : Fin 2 → IVec S16 32) a x).toNat < S8x2048.size a) ∧
  (∀ a x, ((![v5, v1311] : Fin 2 → IVec S16 32) a x).toNat < S8x2048.size a) ∧
  (∀ a x, ((![v6, v1311] : Fin 2 → IVec S16 32) a x).toNat < S8x2048.size a) ∧
  (∀ a x, ((![v7, v1311] : Fin 2 → IVec S16 32) a x).toNat < S8x2048.size a) ∧
  (∀ a x, ((![v8, v1311] : Fin 2 → IVec S16 32) a x).toNat < S8x2048.size a) ∧
  (∀ a x, ((![v9, v1311] : Fin 2 → IVec S16 32) a x).toNat < S8x2048.size a) ∧
  (∀ a x, ((![v10, v1311] : Fin 2 → IVec S16 32) a x).toNat < S8x2048.size a)
theorem k3_idx385_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v3, v1311] : Fin 2 → IVec S16 32) a x).toNat < S8x2048.size a := fun v3 v4 v5 v6 v7 v8 v9 v10 v1311 k3_hw49 => k3_hw49.1
theorem k3_idx386_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v4, v1311] : Fin 2 → IVec S16 32) a x).toNat < S8x2048.size a := fun v3 v4 v5 v6 v7 v8 v9 v10 v1311 k3_hw49 => k3_hw49.2.1
theorem k3_idx387_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v5, v1311] : Fin 2 → IVec S16 32) a x).toNat < S8x2048.size a := fun v3 v4 v5 v6 v7 v8 v9 v10 v1311 k3_hw49 => k3_hw49.2.2.1
theorem k3_idx388_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v6, v1311] : Fin 2 → IVec S16 32) a x).toNat < S8x2048.size a := fun v3 v4 v5 v6 v7 v8 v9 v10 v1311 k3_hw49 => k3_hw49.2.2.2.1
theorem k3_idx389_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v7, v1311] : Fin 2 → IVec S16 32) a x).toNat < S8x2048.size a := fun v3 v4 v5 v6 v7 v8 v9 v10 v1311 k3_hw49 => k3_hw49.2.2.2.2.1
theorem k3_idx390_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v8, v1311] : Fin 2 → IVec S16 32) a x).toNat < S8x2048.size a := fun v3 v4 v5 v6 v7 v8 v9 v10 v1311 k3_hw49 => k3_hw49.2.2.2.2.2.1
theorem k3_idx391_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v9, v1311] : Fin 2 → IVec S16 32) a x).toNat < S8x2048.size a := fun v3 v4 v5 v6 v7 v8 v9 v10 v1311 k3_hw49 => k3_hw49.2.2.2.2.2.2.1
theorem k3_idx392_inb : ∀ (v3 : IVec S16 32) (v4 : IVec S16 32) (v5 : IVec S16 32) (v6 : IVec S16 32) (v7 : IVec S16 32) (v8 : IVec S16 32) (v9 : IVec S16 32) (v10 : IVec S16 32) (v1311 : IVec S16 32) (k3_hw49 : k3_chk49 v3 v4 v5 v6 v7 v8 v9 v10 v1311), ∀ a x, ((![v10, v1311] : Fin 2 → IVec S16 32) a x).toNat < S8x2048.size a := fun v3 v4 v5 v6 v7 v8 v9 v10 v1311 k3_hw49 => k3_hw49.2.2.2.2.2.2.2

def k3_chk50 (v3 : IVec S16 32) (v4 : IVec S16 32) (v5 : IVec S16 32) (v6 : IVec S16 32) (v7 : IVec S16 32) (v8 : IVec S16 32) (v9 : IVec S16 32) (v10 : IVec S16 32) (v1314 : IVec S16 32) : Prop :=
  (∀ a x, ((![v3, v1314] : Fin 2 → IVec S16 32) a x).toNat < S8x2048.size a) ∧
  (∀ a x, ((![v4, v1314] : Fin 2 → IVec S16 32) a x).toNat < S8x2048.size a) ∧
  (∀ a x, ((![v5, v1314] : Fin 2 → IVec S16 32) a x).toNat < S8x2048.size a) ∧
  (∀ a x, ((![v6, v1314] : Fin 2 → IVec S16 32) a x).toNat < S8x2048.size a) ∧
  (∀ a x, ((![v7, v1314] : Fin 2 → IVec S16 32) a x).toNat < S8x2048.size a) ∧
  (∀ a x, ((![v8, v1314] : Fin 2 → IVec S16 32) a x).toNat < S8x2048.size a) ∧
  (∀ a x, ((![v9, v1314] : Fin 2 → IVec S16 32) a x).toNat < S8x2048.size a) ∧
  (∀ a x, ((![v10, v1314] : Fin 2 → IVec S16 32) a x).toNat < S8x2048.size a)
theorem k3_idx393_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v3, v1314] : Fin 2 → IVec S16 32) a x).toNat < S8x2048.size a := fun v3 v4 v5 v6 v7 v8 v9 v10 v1314 k3_hw50 => k3_hw50.1
theorem k3_idx394_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v4, v1314] : Fin 2 → IVec S16 32) a x).toNat < S8x2048.size a := fun v3 v4 v5 v6 v7 v8 v9 v10 v1314 k3_hw50 => k3_hw50.2.1
theorem k3_idx395_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v5, v1314] : Fin 2 → IVec S16 32) a x).toNat < S8x2048.size a := fun v3 v4 v5 v6 v7 v8 v9 v10 v1314 k3_hw50 => k3_hw50.2.2.1
theorem k3_idx396_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v6, v1314] : Fin 2 → IVec S16 32) a x).toNat < S8x2048.size a := fun v3 v4 v5 v6 v7 v8 v9 v10 v1314 k3_hw50 => k3_hw50.2.2.2.1
theorem k3_idx397_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v7, v1314] : Fin 2 → IVec S16 32) a x).toNat < S8x2048.size a := fun v3 v4 v5 v6 v7 v8 v9 v10 v1314 k3_hw50 => k3_hw50.2.2.2.2.1
theorem k3_idx398_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v8, v1314] : Fin 2 → IVec S16 32) a x).toNat < S8x2048.size a := fun v3 v4 v5 v6 v7 v8 v9 v10 v1314 k3_hw50 => k3_hw50.2.2.2.2.2.1
theorem k3_idx399_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v9, v1314] : Fin 2 → IVec S16 32) a x).toNat < S8x2048.size a := fun v3 v4 v5 v6 v7 v8 v9 v10 v1314 k3_hw50 => k3_hw50.2.2.2.2.2.2.1
theorem k3_idx400_inb : ∀ (v3 : IVec S16 32) (v4 : IVec S16 32) (v5 : IVec S16 32) (v6 : IVec S16 32) (v7 : IVec S16 32) (v8 : IVec S16 32) (v9 : IVec S16 32) (v10 : IVec S16 32) (v1314 : IVec S16 32) (k3_hw50 : k3_chk50 v3 v4 v5 v6 v7 v8 v9 v10 v1314), ∀ a x, ((![v10, v1314] : Fin 2 → IVec S16 32) a x).toNat < S8x2048.size a := fun v3 v4 v5 v6 v7 v8 v9 v10 v1314 k3_hw50 => k3_hw50.2.2.2.2.2.2.2

def k3_chk51 (v3 : IVec S16 32) (v4 : IVec S16 32) (v5 : IVec S16 32) (v6 : IVec S16 32) (v7 : IVec S16 32) (v8 : IVec S16 32) (v9 : IVec S16 32) (v10 : IVec S16 32) (v1317 : IVec S16 32) : Prop :=
  (∀ a x, ((![v3, v1317] : Fin 2 → IVec S16 32) a x).toNat < S8x2048.size a) ∧
  (∀ a x, ((![v4, v1317] : Fin 2 → IVec S16 32) a x).toNat < S8x2048.size a) ∧
  (∀ a x, ((![v5, v1317] : Fin 2 → IVec S16 32) a x).toNat < S8x2048.size a) ∧
  (∀ a x, ((![v6, v1317] : Fin 2 → IVec S16 32) a x).toNat < S8x2048.size a) ∧
  (∀ a x, ((![v7, v1317] : Fin 2 → IVec S16 32) a x).toNat < S8x2048.size a) ∧
  (∀ a x, ((![v8, v1317] : Fin 2 → IVec S16 32) a x).toNat < S8x2048.size a) ∧
  (∀ a x, ((![v9, v1317] : Fin 2 → IVec S16 32) a x).toNat < S8x2048.size a) ∧
  (∀ a x, ((![v10, v1317] : Fin 2 → IVec S16 32) a x).toNat < S8x2048.size a)
theorem k3_idx401_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v3, v1317] : Fin 2 → IVec S16 32) a x).toNat < S8x2048.size a := fun v3 v4 v5 v6 v7 v8 v9 v10 v1317 k3_hw51 => k3_hw51.1
theorem k3_idx402_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v4, v1317] : Fin 2 → IVec S16 32) a x).toNat < S8x2048.size a := fun v3 v4 v5 v6 v7 v8 v9 v10 v1317 k3_hw51 => k3_hw51.2.1
theorem k3_idx403_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v5, v1317] : Fin 2 → IVec S16 32) a x).toNat < S8x2048.size a := fun v3 v4 v5 v6 v7 v8 v9 v10 v1317 k3_hw51 => k3_hw51.2.2.1
theorem k3_idx404_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v6, v1317] : Fin 2 → IVec S16 32) a x).toNat < S8x2048.size a := fun v3 v4 v5 v6 v7 v8 v9 v10 v1317 k3_hw51 => k3_hw51.2.2.2.1
theorem k3_idx405_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v7, v1317] : Fin 2 → IVec S16 32) a x).toNat < S8x2048.size a := fun v3 v4 v5 v6 v7 v8 v9 v10 v1317 k3_hw51 => k3_hw51.2.2.2.2.1
theorem k3_idx406_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v8, v1317] : Fin 2 → IVec S16 32) a x).toNat < S8x2048.size a := fun v3 v4 v5 v6 v7 v8 v9 v10 v1317 k3_hw51 => k3_hw51.2.2.2.2.2.1
theorem k3_idx407_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v9, v1317] : Fin 2 → IVec S16 32) a x).toNat < S8x2048.size a := fun v3 v4 v5 v6 v7 v8 v9 v10 v1317 k3_hw51 => k3_hw51.2.2.2.2.2.2.1
theorem k3_idx408_inb : ∀ (v3 : IVec S16 32) (v4 : IVec S16 32) (v5 : IVec S16 32) (v6 : IVec S16 32) (v7 : IVec S16 32) (v8 : IVec S16 32) (v9 : IVec S16 32) (v10 : IVec S16 32) (v1317 : IVec S16 32) (k3_hw51 : k3_chk51 v3 v4 v5 v6 v7 v8 v9 v10 v1317), ∀ a x, ((![v10, v1317] : Fin 2 → IVec S16 32) a x).toNat < S8x2048.size a := fun v3 v4 v5 v6 v7 v8 v9 v10 v1317 k3_hw51 => k3_hw51.2.2.2.2.2.2.2

def k3_chk52 (v3 : IVec S16 32) (v4 : IVec S16 32) (v5 : IVec S16 32) (v6 : IVec S16 32) (v7 : IVec S16 32) (v8 : IVec S16 32) (v9 : IVec S16 32) (v10 : IVec S16 32) (v1320 : IVec S16 32) : Prop :=
  (∀ a x, ((![v3, v1320] : Fin 2 → IVec S16 32) a x).toNat < S8x2048.size a) ∧
  (∀ a x, ((![v4, v1320] : Fin 2 → IVec S16 32) a x).toNat < S8x2048.size a) ∧
  (∀ a x, ((![v5, v1320] : Fin 2 → IVec S16 32) a x).toNat < S8x2048.size a) ∧
  (∀ a x, ((![v6, v1320] : Fin 2 → IVec S16 32) a x).toNat < S8x2048.size a) ∧
  (∀ a x, ((![v7, v1320] : Fin 2 → IVec S16 32) a x).toNat < S8x2048.size a) ∧
  (∀ a x, ((![v8, v1320] : Fin 2 → IVec S16 32) a x).toNat < S8x2048.size a) ∧
  (∀ a x, ((![v9, v1320] : Fin 2 → IVec S16 32) a x).toNat < S8x2048.size a) ∧
  (∀ a x, ((![v10, v1320] : Fin 2 → IVec S16 32) a x).toNat < S8x2048.size a)
theorem k3_idx409_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v3, v1320] : Fin 2 → IVec S16 32) a x).toNat < S8x2048.size a := fun v3 v4 v5 v6 v7 v8 v9 v10 v1320 k3_hw52 => k3_hw52.1
theorem k3_idx410_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v4, v1320] : Fin 2 → IVec S16 32) a x).toNat < S8x2048.size a := fun v3 v4 v5 v6 v7 v8 v9 v10 v1320 k3_hw52 => k3_hw52.2.1
theorem k3_idx411_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v5, v1320] : Fin 2 → IVec S16 32) a x).toNat < S8x2048.size a := fun v3 v4 v5 v6 v7 v8 v9 v10 v1320 k3_hw52 => k3_hw52.2.2.1
theorem k3_idx412_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v6, v1320] : Fin 2 → IVec S16 32) a x).toNat < S8x2048.size a := fun v3 v4 v5 v6 v7 v8 v9 v10 v1320 k3_hw52 => k3_hw52.2.2.2.1
theorem k3_idx413_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v7, v1320] : Fin 2 → IVec S16 32) a x).toNat < S8x2048.size a := fun v3 v4 v5 v6 v7 v8 v9 v10 v1320 k3_hw52 => k3_hw52.2.2.2.2.1
theorem k3_idx414_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v8, v1320] : Fin 2 → IVec S16 32) a x).toNat < S8x2048.size a := fun v3 v4 v5 v6 v7 v8 v9 v10 v1320 k3_hw52 => k3_hw52.2.2.2.2.2.1
theorem k3_idx415_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v9, v1320] : Fin 2 → IVec S16 32) a x).toNat < S8x2048.size a := fun v3 v4 v5 v6 v7 v8 v9 v10 v1320 k3_hw52 => k3_hw52.2.2.2.2.2.2.1
theorem k3_idx416_inb : ∀ (v3 : IVec S16 32) (v4 : IVec S16 32) (v5 : IVec S16 32) (v6 : IVec S16 32) (v7 : IVec S16 32) (v8 : IVec S16 32) (v9 : IVec S16 32) (v10 : IVec S16 32) (v1320 : IVec S16 32) (k3_hw52 : k3_chk52 v3 v4 v5 v6 v7 v8 v9 v10 v1320), ∀ a x, ((![v10, v1320] : Fin 2 → IVec S16 32) a x).toNat < S8x2048.size a := fun v3 v4 v5 v6 v7 v8 v9 v10 v1320 k3_hw52 => k3_hw52.2.2.2.2.2.2.2
def k3_off54 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_891 : BitVec 32 := 6#32
  let v1417 : BitVec 32 := Scalar.addi v12 c6_i32_891
  let v1418 : Index := Scalar.indexCast v1417
  let c64_892 : Index := 64#32
  ![v1418.toNat, 64]
def k3_off55 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_893 : BitVec 32 := 6#32
  let v1420 : BitVec 32 := Scalar.addi v12 c6_i32_893
  let v1421 : Index := Scalar.indexCast v1420
  let c80_894 : Index := 80#32
  ![v1421.toNat, 80]
def k3_off56 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_895 : BitVec 32 := 6#32
  let v1423 : BitVec 32 := Scalar.addi v12 c6_i32_895
  let v1424 : Index := Scalar.indexCast v1423
  let c96_896 : Index := 96#32
  ![v1424.toNat, 96]
def k3_off57 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c6_i32_897 : BitVec 32 := 6#32
  let v1426 : BitVec 32 := Scalar.addi v12 c6_i32_897
  let v1427 : Index := Scalar.indexCast v1426
  let c112_898 : Index := 112#32
  ![v1427.toNat, 112]

def k3_chk53 (v3 : IVec S16 32) (v4 : IVec S16 32) (v5 : IVec S16 32) (v6 : IVec S16 32) (v7 : IVec S16 32) (v8 : IVec S16 32) (v9 : IVec S16 32) (v10 : IVec S16 32) (v1419 : IVec S16 32) : Prop :=
  (∀ a x, ((![v3, v1419] : Fin 2 → IVec S16 32) a x).toNat < S8x2048.size a) ∧
  (∀ a x, ((![v4, v1419] : Fin 2 → IVec S16 32) a x).toNat < S8x2048.size a) ∧
  (∀ a x, ((![v5, v1419] : Fin 2 → IVec S16 32) a x).toNat < S8x2048.size a) ∧
  (∀ a x, ((![v6, v1419] : Fin 2 → IVec S16 32) a x).toNat < S8x2048.size a) ∧
  (∀ a x, ((![v7, v1419] : Fin 2 → IVec S16 32) a x).toNat < S8x2048.size a) ∧
  (∀ a x, ((![v8, v1419] : Fin 2 → IVec S16 32) a x).toNat < S8x2048.size a) ∧
  (∀ a x, ((![v9, v1419] : Fin 2 → IVec S16 32) a x).toNat < S8x2048.size a) ∧
  (∀ a x, ((![v10, v1419] : Fin 2 → IVec S16 32) a x).toNat < S8x2048.size a)
theorem k3_idx417_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v3, v1419] : Fin 2 → IVec S16 32) a x).toNat < S8x2048.size a := fun v3 v4 v5 v6 v7 v8 v9 v10 v1419 k3_hw53 => k3_hw53.1
theorem k3_idx418_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v4, v1419] : Fin 2 → IVec S16 32) a x).toNat < S8x2048.size a := fun v3 v4 v5 v6 v7 v8 v9 v10 v1419 k3_hw53 => k3_hw53.2.1
theorem k3_idx419_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v5, v1419] : Fin 2 → IVec S16 32) a x).toNat < S8x2048.size a := fun v3 v4 v5 v6 v7 v8 v9 v10 v1419 k3_hw53 => k3_hw53.2.2.1
theorem k3_idx420_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v6, v1419] : Fin 2 → IVec S16 32) a x).toNat < S8x2048.size a := fun v3 v4 v5 v6 v7 v8 v9 v10 v1419 k3_hw53 => k3_hw53.2.2.2.1
theorem k3_idx421_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v7, v1419] : Fin 2 → IVec S16 32) a x).toNat < S8x2048.size a := fun v3 v4 v5 v6 v7 v8 v9 v10 v1419 k3_hw53 => k3_hw53.2.2.2.2.1
theorem k3_idx422_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v8, v1419] : Fin 2 → IVec S16 32) a x).toNat < S8x2048.size a := fun v3 v4 v5 v6 v7 v8 v9 v10 v1419 k3_hw53 => k3_hw53.2.2.2.2.2.1
theorem k3_idx423_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v9, v1419] : Fin 2 → IVec S16 32) a x).toNat < S8x2048.size a := fun v3 v4 v5 v6 v7 v8 v9 v10 v1419 k3_hw53 => k3_hw53.2.2.2.2.2.2.1
theorem k3_idx424_inb : ∀ (v3 : IVec S16 32) (v4 : IVec S16 32) (v5 : IVec S16 32) (v6 : IVec S16 32) (v7 : IVec S16 32) (v8 : IVec S16 32) (v9 : IVec S16 32) (v10 : IVec S16 32) (v1419 : IVec S16 32) (k3_hw53 : k3_chk53 v3 v4 v5 v6 v7 v8 v9 v10 v1419), ∀ a x, ((![v10, v1419] : Fin 2 → IVec S16 32) a x).toNat < S8x2048.size a := fun v3 v4 v5 v6 v7 v8 v9 v10 v1419 k3_hw53 => k3_hw53.2.2.2.2.2.2.2

def k3_chk54 (v3 : IVec S16 32) (v4 : IVec S16 32) (v5 : IVec S16 32) (v6 : IVec S16 32) (v7 : IVec S16 32) (v8 : IVec S16 32) (v9 : IVec S16 32) (v10 : IVec S16 32) (v1422 : IVec S16 32) : Prop :=
  (∀ a x, ((![v3, v1422] : Fin 2 → IVec S16 32) a x).toNat < S8x2048.size a) ∧
  (∀ a x, ((![v4, v1422] : Fin 2 → IVec S16 32) a x).toNat < S8x2048.size a) ∧
  (∀ a x, ((![v5, v1422] : Fin 2 → IVec S16 32) a x).toNat < S8x2048.size a) ∧
  (∀ a x, ((![v6, v1422] : Fin 2 → IVec S16 32) a x).toNat < S8x2048.size a) ∧
  (∀ a x, ((![v7, v1422] : Fin 2 → IVec S16 32) a x).toNat < S8x2048.size a) ∧
  (∀ a x, ((![v8, v1422] : Fin 2 → IVec S16 32) a x).toNat < S8x2048.size a) ∧
  (∀ a x, ((![v9, v1422] : Fin 2 → IVec S16 32) a x).toNat < S8x2048.size a) ∧
  (∀ a x, ((![v10, v1422] : Fin 2 → IVec S16 32) a x).toNat < S8x2048.size a)
theorem k3_idx425_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v3, v1422] : Fin 2 → IVec S16 32) a x).toNat < S8x2048.size a := fun v3 v4 v5 v6 v7 v8 v9 v10 v1422 k3_hw54 => k3_hw54.1
theorem k3_idx426_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v4, v1422] : Fin 2 → IVec S16 32) a x).toNat < S8x2048.size a := fun v3 v4 v5 v6 v7 v8 v9 v10 v1422 k3_hw54 => k3_hw54.2.1
theorem k3_idx427_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v5, v1422] : Fin 2 → IVec S16 32) a x).toNat < S8x2048.size a := fun v3 v4 v5 v6 v7 v8 v9 v10 v1422 k3_hw54 => k3_hw54.2.2.1
theorem k3_idx428_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v6, v1422] : Fin 2 → IVec S16 32) a x).toNat < S8x2048.size a := fun v3 v4 v5 v6 v7 v8 v9 v10 v1422 k3_hw54 => k3_hw54.2.2.2.1
theorem k3_idx429_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v7, v1422] : Fin 2 → IVec S16 32) a x).toNat < S8x2048.size a := fun v3 v4 v5 v6 v7 v8 v9 v10 v1422 k3_hw54 => k3_hw54.2.2.2.2.1
theorem k3_idx430_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v8, v1422] : Fin 2 → IVec S16 32) a x).toNat < S8x2048.size a := fun v3 v4 v5 v6 v7 v8 v9 v10 v1422 k3_hw54 => k3_hw54.2.2.2.2.2.1
theorem k3_idx431_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v9, v1422] : Fin 2 → IVec S16 32) a x).toNat < S8x2048.size a := fun v3 v4 v5 v6 v7 v8 v9 v10 v1422 k3_hw54 => k3_hw54.2.2.2.2.2.2.1
theorem k3_idx432_inb : ∀ (v3 : IVec S16 32) (v4 : IVec S16 32) (v5 : IVec S16 32) (v6 : IVec S16 32) (v7 : IVec S16 32) (v8 : IVec S16 32) (v9 : IVec S16 32) (v10 : IVec S16 32) (v1422 : IVec S16 32) (k3_hw54 : k3_chk54 v3 v4 v5 v6 v7 v8 v9 v10 v1422), ∀ a x, ((![v10, v1422] : Fin 2 → IVec S16 32) a x).toNat < S8x2048.size a := fun v3 v4 v5 v6 v7 v8 v9 v10 v1422 k3_hw54 => k3_hw54.2.2.2.2.2.2.2

def k3_chk55 (v3 : IVec S16 32) (v4 : IVec S16 32) (v5 : IVec S16 32) (v6 : IVec S16 32) (v7 : IVec S16 32) (v8 : IVec S16 32) (v9 : IVec S16 32) (v10 : IVec S16 32) (v1425 : IVec S16 32) : Prop :=
  (∀ a x, ((![v3, v1425] : Fin 2 → IVec S16 32) a x).toNat < S8x2048.size a) ∧
  (∀ a x, ((![v4, v1425] : Fin 2 → IVec S16 32) a x).toNat < S8x2048.size a) ∧
  (∀ a x, ((![v5, v1425] : Fin 2 → IVec S16 32) a x).toNat < S8x2048.size a) ∧
  (∀ a x, ((![v6, v1425] : Fin 2 → IVec S16 32) a x).toNat < S8x2048.size a) ∧
  (∀ a x, ((![v7, v1425] : Fin 2 → IVec S16 32) a x).toNat < S8x2048.size a) ∧
  (∀ a x, ((![v8, v1425] : Fin 2 → IVec S16 32) a x).toNat < S8x2048.size a) ∧
  (∀ a x, ((![v9, v1425] : Fin 2 → IVec S16 32) a x).toNat < S8x2048.size a) ∧
  (∀ a x, ((![v10, v1425] : Fin 2 → IVec S16 32) a x).toNat < S8x2048.size a)
theorem k3_idx433_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v3, v1425] : Fin 2 → IVec S16 32) a x).toNat < S8x2048.size a := fun v3 v4 v5 v6 v7 v8 v9 v10 v1425 k3_hw55 => k3_hw55.1
theorem k3_idx434_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v4, v1425] : Fin 2 → IVec S16 32) a x).toNat < S8x2048.size a := fun v3 v4 v5 v6 v7 v8 v9 v10 v1425 k3_hw55 => k3_hw55.2.1
theorem k3_idx435_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v5, v1425] : Fin 2 → IVec S16 32) a x).toNat < S8x2048.size a := fun v3 v4 v5 v6 v7 v8 v9 v10 v1425 k3_hw55 => k3_hw55.2.2.1
theorem k3_idx436_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v6, v1425] : Fin 2 → IVec S16 32) a x).toNat < S8x2048.size a := fun v3 v4 v5 v6 v7 v8 v9 v10 v1425 k3_hw55 => k3_hw55.2.2.2.1
theorem k3_idx437_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v7, v1425] : Fin 2 → IVec S16 32) a x).toNat < S8x2048.size a := fun v3 v4 v5 v6 v7 v8 v9 v10 v1425 k3_hw55 => k3_hw55.2.2.2.2.1
theorem k3_idx438_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v8, v1425] : Fin 2 → IVec S16 32) a x).toNat < S8x2048.size a := fun v3 v4 v5 v6 v7 v8 v9 v10 v1425 k3_hw55 => k3_hw55.2.2.2.2.2.1
theorem k3_idx439_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v9, v1425] : Fin 2 → IVec S16 32) a x).toNat < S8x2048.size a := fun v3 v4 v5 v6 v7 v8 v9 v10 v1425 k3_hw55 => k3_hw55.2.2.2.2.2.2.1
theorem k3_idx440_inb : ∀ (v3 : IVec S16 32) (v4 : IVec S16 32) (v5 : IVec S16 32) (v6 : IVec S16 32) (v7 : IVec S16 32) (v8 : IVec S16 32) (v9 : IVec S16 32) (v10 : IVec S16 32) (v1425 : IVec S16 32) (k3_hw55 : k3_chk55 v3 v4 v5 v6 v7 v8 v9 v10 v1425), ∀ a x, ((![v10, v1425] : Fin 2 → IVec S16 32) a x).toNat < S8x2048.size a := fun v3 v4 v5 v6 v7 v8 v9 v10 v1425 k3_hw55 => k3_hw55.2.2.2.2.2.2.2

def k3_chk56 (v3 : IVec S16 32) (v4 : IVec S16 32) (v5 : IVec S16 32) (v6 : IVec S16 32) (v7 : IVec S16 32) (v8 : IVec S16 32) (v9 : IVec S16 32) (v10 : IVec S16 32) (v1428 : IVec S16 32) : Prop :=
  (∀ a x, ((![v3, v1428] : Fin 2 → IVec S16 32) a x).toNat < S8x2048.size a) ∧
  (∀ a x, ((![v4, v1428] : Fin 2 → IVec S16 32) a x).toNat < S8x2048.size a) ∧
  (∀ a x, ((![v5, v1428] : Fin 2 → IVec S16 32) a x).toNat < S8x2048.size a) ∧
  (∀ a x, ((![v6, v1428] : Fin 2 → IVec S16 32) a x).toNat < S8x2048.size a) ∧
  (∀ a x, ((![v7, v1428] : Fin 2 → IVec S16 32) a x).toNat < S8x2048.size a) ∧
  (∀ a x, ((![v8, v1428] : Fin 2 → IVec S16 32) a x).toNat < S8x2048.size a) ∧
  (∀ a x, ((![v9, v1428] : Fin 2 → IVec S16 32) a x).toNat < S8x2048.size a) ∧
  (∀ a x, ((![v10, v1428] : Fin 2 → IVec S16 32) a x).toNat < S8x2048.size a)
theorem k3_idx441_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v3, v1428] : Fin 2 → IVec S16 32) a x).toNat < S8x2048.size a := fun v3 v4 v5 v6 v7 v8 v9 v10 v1428 k3_hw56 => k3_hw56.1
theorem k3_idx442_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v4, v1428] : Fin 2 → IVec S16 32) a x).toNat < S8x2048.size a := fun v3 v4 v5 v6 v7 v8 v9 v10 v1428 k3_hw56 => k3_hw56.2.1
theorem k3_idx443_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v5, v1428] : Fin 2 → IVec S16 32) a x).toNat < S8x2048.size a := fun v3 v4 v5 v6 v7 v8 v9 v10 v1428 k3_hw56 => k3_hw56.2.2.1
theorem k3_idx444_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v6, v1428] : Fin 2 → IVec S16 32) a x).toNat < S8x2048.size a := fun v3 v4 v5 v6 v7 v8 v9 v10 v1428 k3_hw56 => k3_hw56.2.2.2.1
theorem k3_idx445_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v7, v1428] : Fin 2 → IVec S16 32) a x).toNat < S8x2048.size a := fun v3 v4 v5 v6 v7 v8 v9 v10 v1428 k3_hw56 => k3_hw56.2.2.2.2.1
theorem k3_idx446_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v8, v1428] : Fin 2 → IVec S16 32) a x).toNat < S8x2048.size a := fun v3 v4 v5 v6 v7 v8 v9 v10 v1428 k3_hw56 => k3_hw56.2.2.2.2.2.1
theorem k3_idx447_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v9, v1428] : Fin 2 → IVec S16 32) a x).toNat < S8x2048.size a := fun v3 v4 v5 v6 v7 v8 v9 v10 v1428 k3_hw56 => k3_hw56.2.2.2.2.2.2.1
theorem k3_idx448_inb : ∀ (v3 : IVec S16 32) (v4 : IVec S16 32) (v5 : IVec S16 32) (v6 : IVec S16 32) (v7 : IVec S16 32) (v8 : IVec S16 32) (v9 : IVec S16 32) (v10 : IVec S16 32) (v1428 : IVec S16 32) (k3_hw56 : k3_chk56 v3 v4 v5 v6 v7 v8 v9 v10 v1428), ∀ a x, ((![v10, v1428] : Fin 2 → IVec S16 32) a x).toNat < S8x2048.size a := fun v3 v4 v5 v6 v7 v8 v9 v10 v1428 k3_hw56 => k3_hw56.2.2.2.2.2.2.2
def k3_off58 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_959 : BitVec 32 := 7#32
  let v1525 : BitVec 32 := Scalar.addi v12 c7_i32_959
  let v1526 : Index := Scalar.indexCast v1525
  let c0_960 : Index := 0#32
  ![v1526.toNat, 0]
def k3_off59 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_961 : BitVec 32 := 7#32
  let v1528 : BitVec 32 := Scalar.addi v12 c7_i32_961
  let v1529 : Index := Scalar.indexCast v1528
  let c16_962 : Index := 16#32
  ![v1529.toNat, 16]
def k3_off60 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_963 : BitVec 32 := 7#32
  let v1531 : BitVec 32 := Scalar.addi v12 c7_i32_963
  let v1532 : Index := Scalar.indexCast v1531
  let c32_964 : Index := 32#32
  ![v1532.toNat, 32]
def k3_off61 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_965 : BitVec 32 := 7#32
  let v1534 : BitVec 32 := Scalar.addi v12 c7_i32_965
  let v1535 : Index := Scalar.indexCast v1534
  let c48_966 : Index := 48#32
  ![v1535.toNat, 48]

def k3_chk57 (v3 : IVec S16 32) (v4 : IVec S16 32) (v5 : IVec S16 32) (v6 : IVec S16 32) (v7 : IVec S16 32) (v8 : IVec S16 32) (v9 : IVec S16 32) (v10 : IVec S16 32) (v1527 : IVec S16 32) : Prop :=
  (∀ a x, ((![v3, v1527] : Fin 2 → IVec S16 32) a x).toNat < S8x2048.size a) ∧
  (∀ a x, ((![v4, v1527] : Fin 2 → IVec S16 32) a x).toNat < S8x2048.size a) ∧
  (∀ a x, ((![v5, v1527] : Fin 2 → IVec S16 32) a x).toNat < S8x2048.size a) ∧
  (∀ a x, ((![v6, v1527] : Fin 2 → IVec S16 32) a x).toNat < S8x2048.size a) ∧
  (∀ a x, ((![v7, v1527] : Fin 2 → IVec S16 32) a x).toNat < S8x2048.size a) ∧
  (∀ a x, ((![v8, v1527] : Fin 2 → IVec S16 32) a x).toNat < S8x2048.size a) ∧
  (∀ a x, ((![v9, v1527] : Fin 2 → IVec S16 32) a x).toNat < S8x2048.size a) ∧
  (∀ a x, ((![v10, v1527] : Fin 2 → IVec S16 32) a x).toNat < S8x2048.size a)
theorem k3_idx449_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v3, v1527] : Fin 2 → IVec S16 32) a x).toNat < S8x2048.size a := fun v3 v4 v5 v6 v7 v8 v9 v10 v1527 k3_hw57 => k3_hw57.1
theorem k3_idx450_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v4, v1527] : Fin 2 → IVec S16 32) a x).toNat < S8x2048.size a := fun v3 v4 v5 v6 v7 v8 v9 v10 v1527 k3_hw57 => k3_hw57.2.1
theorem k3_idx451_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v5, v1527] : Fin 2 → IVec S16 32) a x).toNat < S8x2048.size a := fun v3 v4 v5 v6 v7 v8 v9 v10 v1527 k3_hw57 => k3_hw57.2.2.1
theorem k3_idx452_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v6, v1527] : Fin 2 → IVec S16 32) a x).toNat < S8x2048.size a := fun v3 v4 v5 v6 v7 v8 v9 v10 v1527 k3_hw57 => k3_hw57.2.2.2.1
theorem k3_idx453_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v7, v1527] : Fin 2 → IVec S16 32) a x).toNat < S8x2048.size a := fun v3 v4 v5 v6 v7 v8 v9 v10 v1527 k3_hw57 => k3_hw57.2.2.2.2.1
theorem k3_idx454_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v8, v1527] : Fin 2 → IVec S16 32) a x).toNat < S8x2048.size a := fun v3 v4 v5 v6 v7 v8 v9 v10 v1527 k3_hw57 => k3_hw57.2.2.2.2.2.1
theorem k3_idx455_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v9, v1527] : Fin 2 → IVec S16 32) a x).toNat < S8x2048.size a := fun v3 v4 v5 v6 v7 v8 v9 v10 v1527 k3_hw57 => k3_hw57.2.2.2.2.2.2.1
theorem k3_idx456_inb : ∀ (v3 : IVec S16 32) (v4 : IVec S16 32) (v5 : IVec S16 32) (v6 : IVec S16 32) (v7 : IVec S16 32) (v8 : IVec S16 32) (v9 : IVec S16 32) (v10 : IVec S16 32) (v1527 : IVec S16 32) (k3_hw57 : k3_chk57 v3 v4 v5 v6 v7 v8 v9 v10 v1527), ∀ a x, ((![v10, v1527] : Fin 2 → IVec S16 32) a x).toNat < S8x2048.size a := fun v3 v4 v5 v6 v7 v8 v9 v10 v1527 k3_hw57 => k3_hw57.2.2.2.2.2.2.2

def k3_chk58 (v3 : IVec S16 32) (v4 : IVec S16 32) (v5 : IVec S16 32) (v6 : IVec S16 32) (v7 : IVec S16 32) (v8 : IVec S16 32) (v9 : IVec S16 32) (v10 : IVec S16 32) (v1530 : IVec S16 32) : Prop :=
  (∀ a x, ((![v3, v1530] : Fin 2 → IVec S16 32) a x).toNat < S8x2048.size a) ∧
  (∀ a x, ((![v4, v1530] : Fin 2 → IVec S16 32) a x).toNat < S8x2048.size a) ∧
  (∀ a x, ((![v5, v1530] : Fin 2 → IVec S16 32) a x).toNat < S8x2048.size a) ∧
  (∀ a x, ((![v6, v1530] : Fin 2 → IVec S16 32) a x).toNat < S8x2048.size a) ∧
  (∀ a x, ((![v7, v1530] : Fin 2 → IVec S16 32) a x).toNat < S8x2048.size a) ∧
  (∀ a x, ((![v8, v1530] : Fin 2 → IVec S16 32) a x).toNat < S8x2048.size a) ∧
  (∀ a x, ((![v9, v1530] : Fin 2 → IVec S16 32) a x).toNat < S8x2048.size a) ∧
  (∀ a x, ((![v10, v1530] : Fin 2 → IVec S16 32) a x).toNat < S8x2048.size a)
theorem k3_idx457_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v3, v1530] : Fin 2 → IVec S16 32) a x).toNat < S8x2048.size a := fun v3 v4 v5 v6 v7 v8 v9 v10 v1530 k3_hw58 => k3_hw58.1
theorem k3_idx458_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v4, v1530] : Fin 2 → IVec S16 32) a x).toNat < S8x2048.size a := fun v3 v4 v5 v6 v7 v8 v9 v10 v1530 k3_hw58 => k3_hw58.2.1
theorem k3_idx459_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v5, v1530] : Fin 2 → IVec S16 32) a x).toNat < S8x2048.size a := fun v3 v4 v5 v6 v7 v8 v9 v10 v1530 k3_hw58 => k3_hw58.2.2.1
theorem k3_idx460_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v6, v1530] : Fin 2 → IVec S16 32) a x).toNat < S8x2048.size a := fun v3 v4 v5 v6 v7 v8 v9 v10 v1530 k3_hw58 => k3_hw58.2.2.2.1
theorem k3_idx461_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v7, v1530] : Fin 2 → IVec S16 32) a x).toNat < S8x2048.size a := fun v3 v4 v5 v6 v7 v8 v9 v10 v1530 k3_hw58 => k3_hw58.2.2.2.2.1
theorem k3_idx462_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v8, v1530] : Fin 2 → IVec S16 32) a x).toNat < S8x2048.size a := fun v3 v4 v5 v6 v7 v8 v9 v10 v1530 k3_hw58 => k3_hw58.2.2.2.2.2.1
theorem k3_idx463_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v9, v1530] : Fin 2 → IVec S16 32) a x).toNat < S8x2048.size a := fun v3 v4 v5 v6 v7 v8 v9 v10 v1530 k3_hw58 => k3_hw58.2.2.2.2.2.2.1
theorem k3_idx464_inb : ∀ (v3 : IVec S16 32) (v4 : IVec S16 32) (v5 : IVec S16 32) (v6 : IVec S16 32) (v7 : IVec S16 32) (v8 : IVec S16 32) (v9 : IVec S16 32) (v10 : IVec S16 32) (v1530 : IVec S16 32) (k3_hw58 : k3_chk58 v3 v4 v5 v6 v7 v8 v9 v10 v1530), ∀ a x, ((![v10, v1530] : Fin 2 → IVec S16 32) a x).toNat < S8x2048.size a := fun v3 v4 v5 v6 v7 v8 v9 v10 v1530 k3_hw58 => k3_hw58.2.2.2.2.2.2.2

def k3_chk59 (v3 : IVec S16 32) (v4 : IVec S16 32) (v5 : IVec S16 32) (v6 : IVec S16 32) (v7 : IVec S16 32) (v8 : IVec S16 32) (v9 : IVec S16 32) (v10 : IVec S16 32) (v1533 : IVec S16 32) : Prop :=
  (∀ a x, ((![v3, v1533] : Fin 2 → IVec S16 32) a x).toNat < S8x2048.size a) ∧
  (∀ a x, ((![v4, v1533] : Fin 2 → IVec S16 32) a x).toNat < S8x2048.size a) ∧
  (∀ a x, ((![v5, v1533] : Fin 2 → IVec S16 32) a x).toNat < S8x2048.size a) ∧
  (∀ a x, ((![v6, v1533] : Fin 2 → IVec S16 32) a x).toNat < S8x2048.size a) ∧
  (∀ a x, ((![v7, v1533] : Fin 2 → IVec S16 32) a x).toNat < S8x2048.size a) ∧
  (∀ a x, ((![v8, v1533] : Fin 2 → IVec S16 32) a x).toNat < S8x2048.size a) ∧
  (∀ a x, ((![v9, v1533] : Fin 2 → IVec S16 32) a x).toNat < S8x2048.size a) ∧
  (∀ a x, ((![v10, v1533] : Fin 2 → IVec S16 32) a x).toNat < S8x2048.size a)
theorem k3_idx465_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v3, v1533] : Fin 2 → IVec S16 32) a x).toNat < S8x2048.size a := fun v3 v4 v5 v6 v7 v8 v9 v10 v1533 k3_hw59 => k3_hw59.1
theorem k3_idx466_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v4, v1533] : Fin 2 → IVec S16 32) a x).toNat < S8x2048.size a := fun v3 v4 v5 v6 v7 v8 v9 v10 v1533 k3_hw59 => k3_hw59.2.1
theorem k3_idx467_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v5, v1533] : Fin 2 → IVec S16 32) a x).toNat < S8x2048.size a := fun v3 v4 v5 v6 v7 v8 v9 v10 v1533 k3_hw59 => k3_hw59.2.2.1
theorem k3_idx468_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v6, v1533] : Fin 2 → IVec S16 32) a x).toNat < S8x2048.size a := fun v3 v4 v5 v6 v7 v8 v9 v10 v1533 k3_hw59 => k3_hw59.2.2.2.1
theorem k3_idx469_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v7, v1533] : Fin 2 → IVec S16 32) a x).toNat < S8x2048.size a := fun v3 v4 v5 v6 v7 v8 v9 v10 v1533 k3_hw59 => k3_hw59.2.2.2.2.1
theorem k3_idx470_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v8, v1533] : Fin 2 → IVec S16 32) a x).toNat < S8x2048.size a := fun v3 v4 v5 v6 v7 v8 v9 v10 v1533 k3_hw59 => k3_hw59.2.2.2.2.2.1
theorem k3_idx471_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v9, v1533] : Fin 2 → IVec S16 32) a x).toNat < S8x2048.size a := fun v3 v4 v5 v6 v7 v8 v9 v10 v1533 k3_hw59 => k3_hw59.2.2.2.2.2.2.1
theorem k3_idx472_inb : ∀ (v3 : IVec S16 32) (v4 : IVec S16 32) (v5 : IVec S16 32) (v6 : IVec S16 32) (v7 : IVec S16 32) (v8 : IVec S16 32) (v9 : IVec S16 32) (v10 : IVec S16 32) (v1533 : IVec S16 32) (k3_hw59 : k3_chk59 v3 v4 v5 v6 v7 v8 v9 v10 v1533), ∀ a x, ((![v10, v1533] : Fin 2 → IVec S16 32) a x).toNat < S8x2048.size a := fun v3 v4 v5 v6 v7 v8 v9 v10 v1533 k3_hw59 => k3_hw59.2.2.2.2.2.2.2

def k3_chk60 (v3 : IVec S16 32) (v4 : IVec S16 32) (v5 : IVec S16 32) (v6 : IVec S16 32) (v7 : IVec S16 32) (v8 : IVec S16 32) (v9 : IVec S16 32) (v10 : IVec S16 32) (v1536 : IVec S16 32) : Prop :=
  (∀ a x, ((![v3, v1536] : Fin 2 → IVec S16 32) a x).toNat < S8x2048.size a) ∧
  (∀ a x, ((![v4, v1536] : Fin 2 → IVec S16 32) a x).toNat < S8x2048.size a) ∧
  (∀ a x, ((![v5, v1536] : Fin 2 → IVec S16 32) a x).toNat < S8x2048.size a) ∧
  (∀ a x, ((![v6, v1536] : Fin 2 → IVec S16 32) a x).toNat < S8x2048.size a) ∧
  (∀ a x, ((![v7, v1536] : Fin 2 → IVec S16 32) a x).toNat < S8x2048.size a) ∧
  (∀ a x, ((![v8, v1536] : Fin 2 → IVec S16 32) a x).toNat < S8x2048.size a) ∧
  (∀ a x, ((![v9, v1536] : Fin 2 → IVec S16 32) a x).toNat < S8x2048.size a) ∧
  (∀ a x, ((![v10, v1536] : Fin 2 → IVec S16 32) a x).toNat < S8x2048.size a)
theorem k3_idx473_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v3, v1536] : Fin 2 → IVec S16 32) a x).toNat < S8x2048.size a := fun v3 v4 v5 v6 v7 v8 v9 v10 v1536 k3_hw60 => k3_hw60.1
theorem k3_idx474_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v4, v1536] : Fin 2 → IVec S16 32) a x).toNat < S8x2048.size a := fun v3 v4 v5 v6 v7 v8 v9 v10 v1536 k3_hw60 => k3_hw60.2.1
theorem k3_idx475_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v5, v1536] : Fin 2 → IVec S16 32) a x).toNat < S8x2048.size a := fun v3 v4 v5 v6 v7 v8 v9 v10 v1536 k3_hw60 => k3_hw60.2.2.1
theorem k3_idx476_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v6, v1536] : Fin 2 → IVec S16 32) a x).toNat < S8x2048.size a := fun v3 v4 v5 v6 v7 v8 v9 v10 v1536 k3_hw60 => k3_hw60.2.2.2.1
theorem k3_idx477_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v7, v1536] : Fin 2 → IVec S16 32) a x).toNat < S8x2048.size a := fun v3 v4 v5 v6 v7 v8 v9 v10 v1536 k3_hw60 => k3_hw60.2.2.2.2.1
theorem k3_idx478_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v8, v1536] : Fin 2 → IVec S16 32) a x).toNat < S8x2048.size a := fun v3 v4 v5 v6 v7 v8 v9 v10 v1536 k3_hw60 => k3_hw60.2.2.2.2.2.1
theorem k3_idx479_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v9, v1536] : Fin 2 → IVec S16 32) a x).toNat < S8x2048.size a := fun v3 v4 v5 v6 v7 v8 v9 v10 v1536 k3_hw60 => k3_hw60.2.2.2.2.2.2.1
theorem k3_idx480_inb : ∀ (v3 : IVec S16 32) (v4 : IVec S16 32) (v5 : IVec S16 32) (v6 : IVec S16 32) (v7 : IVec S16 32) (v8 : IVec S16 32) (v9 : IVec S16 32) (v10 : IVec S16 32) (v1536 : IVec S16 32) (k3_hw60 : k3_chk60 v3 v4 v5 v6 v7 v8 v9 v10 v1536), ∀ a x, ((![v10, v1536] : Fin 2 → IVec S16 32) a x).toNat < S8x2048.size a := fun v3 v4 v5 v6 v7 v8 v9 v10 v1536 k3_hw60 => k3_hw60.2.2.2.2.2.2.2
def k3_off62 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_1027 : BitVec 32 := 7#32
  let v1633 : BitVec 32 := Scalar.addi v12 c7_i32_1027
  let v1634 : Index := Scalar.indexCast v1633
  let c64_1028 : Index := 64#32
  ![v1634.toNat, 64]
def k3_off63 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_1029 : BitVec 32 := 7#32
  let v1636 : BitVec 32 := Scalar.addi v12 c7_i32_1029
  let v1637 : Index := Scalar.indexCast v1636
  let c80_1030 : Index := 80#32
  ![v1637.toNat, 80]
def k3_off64 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_1031 : BitVec 32 := 7#32
  let v1639 : BitVec 32 := Scalar.addi v12 c7_i32_1031
  let v1640 : Index := Scalar.indexCast v1639
  let c96_1032 : Index := 96#32
  ![v1640.toNat, 96]
def k3_off65 (k3_t1 : Fin k3_t1_loop.trips) : Fin 2 → Nat :=
  let c0_i32_2 : BitVec 32 := 0#32
  let c1_i32_4 : BitVec 32 := 1#32
  let arg8 : BitVec 32 := Scf.iv c0_i32_2 c1_i32_4 k3_t1
  let c8_i32_6 : BitVec 32 := 8#32
  let v12 : BitVec 32 := Scalar.muli arg8 c8_i32_6
  let c7_i32_1033 : BitVec 32 := 7#32
  let v1642 : BitVec 32 := Scalar.addi v12 c7_i32_1033
  let v1643 : Index := Scalar.indexCast v1642
  let c112_1034 : Index := 112#32
  ![v1643.toNat, 112]

def k3_chk61 (v3 : IVec S16 32) (v4 : IVec S16 32) (v5 : IVec S16 32) (v6 : IVec S16 32) (v7 : IVec S16 32) (v8 : IVec S16 32) (v9 : IVec S16 32) (v10 : IVec S16 32) (v1635 : IVec S16 32) : Prop :=
  (∀ a x, ((![v3, v1635] : Fin 2 → IVec S16 32) a x).toNat < S8x2048.size a) ∧
  (∀ a x, ((![v4, v1635] : Fin 2 → IVec S16 32) a x).toNat < S8x2048.size a) ∧
  (∀ a x, ((![v5, v1635] : Fin 2 → IVec S16 32) a x).toNat < S8x2048.size a) ∧
  (∀ a x, ((![v6, v1635] : Fin 2 → IVec S16 32) a x).toNat < S8x2048.size a) ∧
  (∀ a x, ((![v7, v1635] : Fin 2 → IVec S16 32) a x).toNat < S8x2048.size a) ∧
  (∀ a x, ((![v8, v1635] : Fin 2 → IVec S16 32) a x).toNat < S8x2048.size a) ∧
  (∀ a x, ((![v9, v1635] : Fin 2 → IVec S16 32) a x).toNat < S8x2048.size a) ∧
  (∀ a x, ((![v10, v1635] : Fin 2 → IVec S16 32) a x).toNat < S8x2048.size a)
theorem k3_idx481_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v3, v1635] : Fin 2 → IVec S16 32) a x).toNat < S8x2048.size a := fun v3 v4 v5 v6 v7 v8 v9 v10 v1635 k3_hw61 => k3_hw61.1
theorem k3_idx482_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v4, v1635] : Fin 2 → IVec S16 32) a x).toNat < S8x2048.size a := fun v3 v4 v5 v6 v7 v8 v9 v10 v1635 k3_hw61 => k3_hw61.2.1
theorem k3_idx483_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v5, v1635] : Fin 2 → IVec S16 32) a x).toNat < S8x2048.size a := fun v3 v4 v5 v6 v7 v8 v9 v10 v1635 k3_hw61 => k3_hw61.2.2.1
theorem k3_idx484_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v6, v1635] : Fin 2 → IVec S16 32) a x).toNat < S8x2048.size a := fun v3 v4 v5 v6 v7 v8 v9 v10 v1635 k3_hw61 => k3_hw61.2.2.2.1
theorem k3_idx485_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v7, v1635] : Fin 2 → IVec S16 32) a x).toNat < S8x2048.size a := fun v3 v4 v5 v6 v7 v8 v9 v10 v1635 k3_hw61 => k3_hw61.2.2.2.2.1
theorem k3_idx486_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v8, v1635] : Fin 2 → IVec S16 32) a x).toNat < S8x2048.size a := fun v3 v4 v5 v6 v7 v8 v9 v10 v1635 k3_hw61 => k3_hw61.2.2.2.2.2.1
theorem k3_idx487_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v9, v1635] : Fin 2 → IVec S16 32) a x).toNat < S8x2048.size a := fun v3 v4 v5 v6 v7 v8 v9 v10 v1635 k3_hw61 => k3_hw61.2.2.2.2.2.2.1
theorem k3_idx488_inb : ∀ (v3 : IVec S16 32) (v4 : IVec S16 32) (v5 : IVec S16 32) (v6 : IVec S16 32) (v7 : IVec S16 32) (v8 : IVec S16 32) (v9 : IVec S16 32) (v10 : IVec S16 32) (v1635 : IVec S16 32) (k3_hw61 : k3_chk61 v3 v4 v5 v6 v7 v8 v9 v10 v1635), ∀ a x, ((![v10, v1635] : Fin 2 → IVec S16 32) a x).toNat < S8x2048.size a := fun v3 v4 v5 v6 v7 v8 v9 v10 v1635 k3_hw61 => k3_hw61.2.2.2.2.2.2.2

def k3_chk62 (v3 : IVec S16 32) (v4 : IVec S16 32) (v5 : IVec S16 32) (v6 : IVec S16 32) (v7 : IVec S16 32) (v8 : IVec S16 32) (v9 : IVec S16 32) (v10 : IVec S16 32) (v1638 : IVec S16 32) : Prop :=
  (∀ a x, ((![v3, v1638] : Fin 2 → IVec S16 32) a x).toNat < S8x2048.size a) ∧
  (∀ a x, ((![v4, v1638] : Fin 2 → IVec S16 32) a x).toNat < S8x2048.size a) ∧
  (∀ a x, ((![v5, v1638] : Fin 2 → IVec S16 32) a x).toNat < S8x2048.size a) ∧
  (∀ a x, ((![v6, v1638] : Fin 2 → IVec S16 32) a x).toNat < S8x2048.size a) ∧
  (∀ a x, ((![v7, v1638] : Fin 2 → IVec S16 32) a x).toNat < S8x2048.size a) ∧
  (∀ a x, ((![v8, v1638] : Fin 2 → IVec S16 32) a x).toNat < S8x2048.size a) ∧
  (∀ a x, ((![v9, v1638] : Fin 2 → IVec S16 32) a x).toNat < S8x2048.size a) ∧
  (∀ a x, ((![v10, v1638] : Fin 2 → IVec S16 32) a x).toNat < S8x2048.size a)
theorem k3_idx489_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v3, v1638] : Fin 2 → IVec S16 32) a x).toNat < S8x2048.size a := fun v3 v4 v5 v6 v7 v8 v9 v10 v1638 k3_hw62 => k3_hw62.1
theorem k3_idx490_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v4, v1638] : Fin 2 → IVec S16 32) a x).toNat < S8x2048.size a := fun v3 v4 v5 v6 v7 v8 v9 v10 v1638 k3_hw62 => k3_hw62.2.1
theorem k3_idx491_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v5, v1638] : Fin 2 → IVec S16 32) a x).toNat < S8x2048.size a := fun v3 v4 v5 v6 v7 v8 v9 v10 v1638 k3_hw62 => k3_hw62.2.2.1
theorem k3_idx492_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v6, v1638] : Fin 2 → IVec S16 32) a x).toNat < S8x2048.size a := fun v3 v4 v5 v6 v7 v8 v9 v10 v1638 k3_hw62 => k3_hw62.2.2.2.1
theorem k3_idx493_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v7, v1638] : Fin 2 → IVec S16 32) a x).toNat < S8x2048.size a := fun v3 v4 v5 v6 v7 v8 v9 v10 v1638 k3_hw62 => k3_hw62.2.2.2.2.1
theorem k3_idx494_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v8, v1638] : Fin 2 → IVec S16 32) a x).toNat < S8x2048.size a := fun v3 v4 v5 v6 v7 v8 v9 v10 v1638 k3_hw62 => k3_hw62.2.2.2.2.2.1
theorem k3_idx495_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v9, v1638] : Fin 2 → IVec S16 32) a x).toNat < S8x2048.size a := fun v3 v4 v5 v6 v7 v8 v9 v10 v1638 k3_hw62 => k3_hw62.2.2.2.2.2.2.1
theorem k3_idx496_inb : ∀ (v3 : IVec S16 32) (v4 : IVec S16 32) (v5 : IVec S16 32) (v6 : IVec S16 32) (v7 : IVec S16 32) (v8 : IVec S16 32) (v9 : IVec S16 32) (v10 : IVec S16 32) (v1638 : IVec S16 32) (k3_hw62 : k3_chk62 v3 v4 v5 v6 v7 v8 v9 v10 v1638), ∀ a x, ((![v10, v1638] : Fin 2 → IVec S16 32) a x).toNat < S8x2048.size a := fun v3 v4 v5 v6 v7 v8 v9 v10 v1638 k3_hw62 => k3_hw62.2.2.2.2.2.2.2

def k3_chk63 (v3 : IVec S16 32) (v4 : IVec S16 32) (v5 : IVec S16 32) (v6 : IVec S16 32) (v7 : IVec S16 32) (v8 : IVec S16 32) (v9 : IVec S16 32) (v10 : IVec S16 32) (v1641 : IVec S16 32) : Prop :=
  (∀ a x, ((![v3, v1641] : Fin 2 → IVec S16 32) a x).toNat < S8x2048.size a) ∧
  (∀ a x, ((![v4, v1641] : Fin 2 → IVec S16 32) a x).toNat < S8x2048.size a) ∧
  (∀ a x, ((![v5, v1641] : Fin 2 → IVec S16 32) a x).toNat < S8x2048.size a) ∧
  (∀ a x, ((![v6, v1641] : Fin 2 → IVec S16 32) a x).toNat < S8x2048.size a) ∧
  (∀ a x, ((![v7, v1641] : Fin 2 → IVec S16 32) a x).toNat < S8x2048.size a) ∧
  (∀ a x, ((![v8, v1641] : Fin 2 → IVec S16 32) a x).toNat < S8x2048.size a) ∧
  (∀ a x, ((![v9, v1641] : Fin 2 → IVec S16 32) a x).toNat < S8x2048.size a) ∧
  (∀ a x, ((![v10, v1641] : Fin 2 → IVec S16 32) a x).toNat < S8x2048.size a)
theorem k3_idx497_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v3, v1641] : Fin 2 → IVec S16 32) a x).toNat < S8x2048.size a := fun v3 v4 v5 v6 v7 v8 v9 v10 v1641 k3_hw63 => k3_hw63.1
theorem k3_idx498_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v4, v1641] : Fin 2 → IVec S16 32) a x).toNat < S8x2048.size a := fun v3 v4 v5 v6 v7 v8 v9 v10 v1641 k3_hw63 => k3_hw63.2.1
theorem k3_idx499_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v5, v1641] : Fin 2 → IVec S16 32) a x).toNat < S8x2048.size a := fun v3 v4 v5 v6 v7 v8 v9 v10 v1641 k3_hw63 => k3_hw63.2.2.1
theorem k3_idx500_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v6, v1641] : Fin 2 → IVec S16 32) a x).toNat < S8x2048.size a := fun v3 v4 v5 v6 v7 v8 v9 v10 v1641 k3_hw63 => k3_hw63.2.2.2.1
theorem k3_idx501_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v7, v1641] : Fin 2 → IVec S16 32) a x).toNat < S8x2048.size a := fun v3 v4 v5 v6 v7 v8 v9 v10 v1641 k3_hw63 => k3_hw63.2.2.2.2.1
theorem k3_idx502_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v8, v1641] : Fin 2 → IVec S16 32) a x).toNat < S8x2048.size a := fun v3 v4 v5 v6 v7 v8 v9 v10 v1641 k3_hw63 => k3_hw63.2.2.2.2.2.1
theorem k3_idx503_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v9, v1641] : Fin 2 → IVec S16 32) a x).toNat < S8x2048.size a := fun v3 v4 v5 v6 v7 v8 v9 v10 v1641 k3_hw63 => k3_hw63.2.2.2.2.2.2.1
theorem k3_idx504_inb : ∀ (v3 : IVec S16 32) (v4 : IVec S16 32) (v5 : IVec S16 32) (v6 : IVec S16 32) (v7 : IVec S16 32) (v8 : IVec S16 32) (v9 : IVec S16 32) (v10 : IVec S16 32) (v1641 : IVec S16 32) (k3_hw63 : k3_chk63 v3 v4 v5 v6 v7 v8 v9 v10 v1641), ∀ a x, ((![v10, v1641] : Fin 2 → IVec S16 32) a x).toNat < S8x2048.size a := fun v3 v4 v5 v6 v7 v8 v9 v10 v1641 k3_hw63 => k3_hw63.2.2.2.2.2.2.2

def k3_chk64 (v3 : IVec S16 32) (v4 : IVec S16 32) (v5 : IVec S16 32) (v6 : IVec S16 32) (v7 : IVec S16 32) (v8 : IVec S16 32) (v9 : IVec S16 32) (v10 : IVec S16 32) (v1644 : IVec S16 32) : Prop :=
  (∀ a x, ((![v3, v1644] : Fin 2 → IVec S16 32) a x).toNat < S8x2048.size a) ∧
  (∀ a x, ((![v4, v1644] : Fin 2 → IVec S16 32) a x).toNat < S8x2048.size a) ∧
  (∀ a x, ((![v5, v1644] : Fin 2 → IVec S16 32) a x).toNat < S8x2048.size a) ∧
  (∀ a x, ((![v6, v1644] : Fin 2 → IVec S16 32) a x).toNat < S8x2048.size a) ∧
  (∀ a x, ((![v7, v1644] : Fin 2 → IVec S16 32) a x).toNat < S8x2048.size a) ∧
  (∀ a x, ((![v8, v1644] : Fin 2 → IVec S16 32) a x).toNat < S8x2048.size a) ∧
  (∀ a x, ((![v9, v1644] : Fin 2 → IVec S16 32) a x).toNat < S8x2048.size a) ∧
  (∀ a x, ((![v10, v1644] : Fin 2 → IVec S16 32) a x).toNat < S8x2048.size a)
theorem k3_idx505_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v3, v1644] : Fin 2 → IVec S16 32) a x).toNat < S8x2048.size a := fun v3 v4 v5 v6 v7 v8 v9 v10 v1644 k3_hw64 => k3_hw64.1
theorem k3_idx506_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v4, v1644] : Fin 2 → IVec S16 32) a x).toNat < S8x2048.size a := fun v3 v4 v5 v6 v7 v8 v9 v10 v1644 k3_hw64 => k3_hw64.2.1
theorem k3_idx507_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v5, v1644] : Fin 2 → IVec S16 32) a x).toNat < S8x2048.size a := fun v3 v4 v5 v6 v7 v8 v9 v10 v1644 k3_hw64 => k3_hw64.2.2.1
theorem k3_idx508_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v6, v1644] : Fin 2 → IVec S16 32) a x).toNat < S8x2048.size a := fun v3 v4 v5 v6 v7 v8 v9 v10 v1644 k3_hw64 => k3_hw64.2.2.2.1
theorem k3_idx509_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v7, v1644] : Fin 2 → IVec S16 32) a x).toNat < S8x2048.size a := fun v3 v4 v5 v6 v7 v8 v9 v10 v1644 k3_hw64 => k3_hw64.2.2.2.2.1
theorem k3_idx510_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v8, v1644] : Fin 2 → IVec S16 32) a x).toNat < S8x2048.size a := fun v3 v4 v5 v6 v7 v8 v9 v10 v1644 k3_hw64 => k3_hw64.2.2.2.2.2.1
theorem k3_idx511_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v9, v1644] : Fin 2 → IVec S16 32) a x).toNat < S8x2048.size a := fun v3 v4 v5 v6 v7 v8 v9 v10 v1644 k3_hw64 => k3_hw64.2.2.2.2.2.2.1
theorem k3_idx512_inb : ∀ (v3 : IVec S16 32) (v4 : IVec S16 32) (v5 : IVec S16 32) (v6 : IVec S16 32) (v7 : IVec S16 32) (v8 : IVec S16 32) (v9 : IVec S16 32) (v10 : IVec S16 32) (v1644 : IVec S16 32) (k3_hw64 : k3_chk64 v3 v4 v5 v6 v7 v8 v9 v10 v1644), ∀ a x, ((![v10, v1644] : Fin 2 → IVec S16 32) a x).toNat < S8x2048.size a := fun v3 v4 v5 v6 v7 v8 v9 v10 v1644 k3_hw64 => k3_hw64.2.2.2.2.2.2.2
def k3_off66 (i : grid3.Coords) (k3_t1 : Fin k3_t1_loop.trips) : Fin 3 → Nat :=
  let c0_i32_2 : BitVec 32 := 0#32
  let c1_i32_4 : BitVec 32 := 1#32
  let arg8 : BitVec 32 := Scf.iv c0_i32_2 c1_i32_4 k3_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_1095_r2 : BitVec 32 := 0#32
  ![arg8.toNat, v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelRefIdeal.lean ====
abbrev S16x256x32x32 : Shape := ⟨4, ![16, 256, 32, 32]⟩
abbrev S256x2048 : Shape := ⟨2, ![256, 2048]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩
abbrev S2048x256 : Shape := ⟨2, ![2048, 256]⟩

abbrev nBuf : Space → Nat
  | .hbm => 60
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S256x2048, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S256x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x2048, .i32⟩
  | .hbm, ⟨27, _⟩ => ⟨S16384x2048, .i32⟩
  | .hbm, ⟨28, _⟩ => ⟨S16384x2048, .i32⟩
  | .hbm, ⟨29, _⟩ => ⟨S16384x2048, .i1⟩
  | .hbm, ⟨30, _⟩ => ⟨S16384x2048, .f32⟩
  | .hbm, ⟨31, _⟩ => ⟨S2048x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x32x32x256, .f32⟩
  | .hbm, ⟨57, _⟩ => ⟨S16x256x32x32, .f32⟩
  | .hbm, ⟨58, _⟩ => ⟨S16x256x32x32, .f32⟩
  | .hbm, ⟨59, _⟩ => ⟨S16x256x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proof.Steps.lean ====
/-
  One step each of a tile's lookup loop, over any memrefs: the tile holds the index array (`arg5`), its eight rows of
  the table (`arg6`) and the block it fills (`arg7`); a load of sixteen indices, the check of their range, the indexed
  load of sixteen entries of a row, and the store of sixteen entries into the block. `St n` says that the first `n`
  pieces of the block, in the order in which the loop stores them, hold the entries looked up.
-/
module

public import Idealize.ShloMosaic.Lib.SparseCore.Ops
public import Idealize.ShloMosaic.Lib.ValueLayout
public import Idealize.ShloMosaic.Lib.Writes
public import Idealize.ShloMosaic.Lib.Exec
public import Idealize.ShloMosaic.Lib.Tactic

@[expose] public section

noncomputable section

namespace Cert.Proof.Steps

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

abbrev SI : Shape := ⟨2, ![64, 128]⟩
abbrev SR : Shape := ⟨2, ![8, 2048]⟩
abbrev SB : Shape := ⟨2, ![8, 1024]⟩
abbrev L1 : Shape := ⟨2, ![1, 16]⟩
abbrev L16 : Shape := ⟨1, ![16]⟩

/-- The index array's word at row `r`, column `c` (the coordinates taken within the array). -/
def word (I : SI.Idx → BitVec 32) (r c : ℕ) : BitVec 32 :=
  I (ix2 ⟨r % 64, Nat.mod_lt _ (by decide)⟩ ⟨c % 128, Nat.mod_lt _ (by decide)⟩)

/-- Sixteen words of the index array from `off`. -/
def iblk (I : SI.Idx → BitVec 32) (off : Fin 2 → ℕ) : L1.Idx → BitVec 32 := fun x => word I (off 0) (off 1 + (x 1).val)

/-- The entry of row `d` that an index word names. -/
def pick {A : Type} (R : SR.Idx → A) (d : Fin 8) (w : BitVec 32) : A := R (ix2 d ⟨w.toNat % 2048, Nat.mod_lt _ (by decide)⟩)

/-- The block of trip `b`: column `j` of row `d` is the row's entry at index word `1024 b + j`. -/
def blockG {A : Type} (I : SI.Idx → BitVec 32) (R : SR.Idx → A) (b : ℕ) : SB.Idx → A := fun j =>
  pick R (j 0) (word I (8 * b + (j 1).val / 128) ((j 1).val % 128))

/-- The first `n` pieces (sixteen columns, row after row) of `f` are the block's. -/
def Agree {A : Type} (I : SI.Idx → BitVec 32) (R : SR.Idx → A) (b n : ℕ) (f : SB.Idx → A) : Prop :=
  ∀ j : SB.Idx, 8 * ((j 1).val / 16) + (j 0).val < n → f j = blockG I R b j

theorem agree_zero {A : Type} (I : SI.Idx → BitVec 32) (R : SR.Idx → A) (b : ℕ) (f : SB.Idx → A) : Agree I R b 0 f :=
  fun _ h => absurd h (Nat.not_lt_zero _)

theorem agree_all {A : Type} {I : SI.Idx → BitVec 32} {R : SR.Idx → A} {b : ℕ} {f : SB.Idx → A} (h : Agree I R b 512 f) :
    f = blockG I R b := by
  funext j
  refine h j ?_
  have h0 : (j 0).val < 8 := (j 0).isLt
  have h1 : (j 1).val < 1024 := (j 1).isLt
  omega

/-- Index words in range. -/
def InRange (I : SI.Idx → BitVec 32) : Prop := ∀ j, (I j).toNat < 2048

theorem iblk_range {I : SI.Idx → BitVec 32} (hI : InRange I) (off : Fin 2 → ℕ) (h : L1.ShapeCasts L16) (x : L16.Idx) :
    (shapeCast L16 (iblk I off) h x).toNat < 2048 := hI _

/-- Sixteen entries of a table: the rows `v`, the columns `w`. -/
def lookV {A : Type} (R : SR.Idx → A) (v w : IVec L16 32) : L16.Idx → A := fun x => pick R ⟨(v x).toNat % 8, Nat.mod_lt _ (by decide)⟩ (w x)

/-- An indexed load whose indices lie in the table. -/
theorem loadIdx_eq {F : FTy → Type} [FloatOps F] {e : EltTy} (R : SR.Idx → Elt F e) (v w : IVec L16 32)
    (h : ∀ a x, ((![v, w] : Fin 2 → IVec L16 32) a x).toNat < SR.size a) :
    loadIdx (F := F) (s := SR) (e := e) R ![v, w] h = lookV R v w := by
  funext x
  show R _ = R _
  congr 1
  funext a
  match a with
  | 0 => exact Fin.ext (Nat.mod_eq_of_lt (h 0 x)).symm
  | 1 => exact Fin.ext (Nat.mod_eq_of_lt (h 1 x)).symm

/-- What a piece's store writes is the block's piece. -/
theorem piece_eq {A : Type} {I : SI.Idx → BitVec 32} (R : SR.Idx → A) (b : ℕ) (d : Fin 8) (c0 : ℕ)
    (hc : c0 + 16 ≤ 1024) (h16 : c0 % 16 = 0) {off : Fin 2 → ℕ} (h0 : off 0 = 8 * b + c0 / 128) (h1 : off 1 = c0 % 128)
    {vd : IVec L16 32} (hvd : ∀ x, (vd x).toNat = d.val) (hs : L1.ShapeCasts L16) (hs' : L16.ShapeCasts L1) (u : Fin 1) (x : Fin 16) :
    shapeCast L1 (lookV R vd (shapeCast L16 (iblk I off) hs)) hs' (ix2 u x) = blockG I R b (ix2 d ⟨c0 + x.val, by omega⟩) := by
  rw [shapeCast_a_1a_apply]
  have e0 : off 0 = 8 * b + (c0 + x.val) / 128 := by rw [h0]; have := x.isLt; omega
  have e1 : off 1 + x.val = (c0 + x.val) % 128 := by rw [h1]; have := x.isLt; omega
  have ew : shapeCast L16 (iblk I off) hs (ix1 x) = word I (8 * b + (c0 + x.val) / 128) ((c0 + x.val) % 128) := by
    rw [shapeCast_1a_a_apply]
    show word I (off 0) (off 1 + x.val) = _
    rw [e0, e1]
  show pick R _ (shapeCast L16 (iblk I off) hs (ix1 x)) = pick R d (word I (8 * b + (c0 + x.val) / 128) ((c0 + x.val) % 128))
  rw [ew]
  exact congrArg (fun d' => pick R d' _) (Fin.ext (by show (vd _).toNat % 8 = d.val; rw [hvd]; exact Nat.mod_eq_of_lt d.isLt))

section Rules

variable {nD : Nat} {τ : Topo} {sig : RefSig} {Ix : Type} [DecidableEq Ix]
variable {F : FTy → Type} [FloatOps F] {Name : Type} [DecidableEq Name]
variable {U : Type} [URA U]
variable {Lvl : Type} [Preorder Lvl] {Λ : Labels}
local notation "𝕄" => MT nD τ sig Ix (Elt F) Name U Lvl
variable {defs : Defs nD τ sig (Elt F) Λ} {𝒱 : Variants} {c : Thread nD τ} {bd : Option 𝒱.V} {E : Set Name}
variable {α : Type} {Q : α → sProp (MT nD τ sig Ix (Elt F) Name U Lvl)}
variable {arg5 : Memref sig c.2.kind .vmem SI .i32} {arg6 : Memref sig c.2.kind .vmem SR .f32} {arg7 : Memref sig c.2.kind .vmem SB .f32}
variable {Fr : sProp (MT nD τ sig Ix (Elt F) Name U Lvl)} {fI : Buf (Elt F) (arg5.view.loc c)} {fR : Buf (Elt F) (arg6.view.loc c)} {b n : ℕ}

/-- What a tile holds in its loop: the indices, its rows, and the block of trip `b` with `n` pieces stored. -/
def St (arg5 : Memref sig c.2.kind .vmem SI .i32) (arg6 : Memref sig c.2.kind .vmem SR .f32) (arg7 : Memref sig c.2.kind .vmem SB .f32)
    (Fr : sProp 𝕄) (fI : Buf (Elt F) (arg5.view.loc c)) (fR : Buf (Elt F) (arg6.view.loc c)) (b n : ℕ) : sProp 𝕄 :=
  iprop(Fr ∗ (arg5.view.loc c ↦{fullShare} fI) ∗ (arg6.view.loc c ↦{fullShare} fR)
    ∗ ∃ f, ⌜Agree (A := Elt F .f32) (arg5.view.read (Elt F) fI) (arg6.view.read (Elt F) fR) b n (arg7.view.read (Elt F) f)⌝ ∗ arg7.view.loc c ↦{fullShare} f)

/-- A load of sixteen indices. -/
theorem step_idx {off : Fin 2 → ℕ} [hc : ClosedOff off] {inb : ∀ a, off a + L1.size a ≤ SI.size a}
    {hl : arg5.view.LoadsAt (Rect.unit (s := SI) off L1.size inb).toLoadRect}
    {k : (L1.Idx → Elt F .i32) → Prog (TpuEff nD τ sig (Elt F) Λ c.2) α}
    (h : St arg5 arg6 arg7 Fr fI fR b n ⊢ wp (M := 𝕄) frame (wpE defs 𝒱 c bd) E (k (iblk (arg5.view.read (Elt F) fI) hc.form)) Q) :
    St arg5 arg6 arg7 Fr fI fR b n
      ⊢ wp (M := 𝕄) frame (wpE defs 𝒱 c bd) E (Prog.lift (.load arg5 (Rect.unit (s := SI) off L1.size inb).toLoadRect hl) >>= k) Q := by
  have e : arg5.view.readAt (Elt F) (Rect.unit (s := SI) off L1.size inb).toLoadRect fI = iblk (arg5.view.read (Elt F) fI) hc.form := by
    funext x
    rw [View.readAt_apply]
    show _ = arg5.view.read (Elt F) fI _
    congr 1
    funext a
    have i0 : off 0 + 1 ≤ 64 := inb 0
    have i1 : off 1 + 16 ≤ 128 := inb 1
    have x0 : (x 0).val < 1 := (x 0).isLt
    have x1 : (x 1).val < 16 := (x 1).isLt
    match a with
    | 0 =>
      refine Fin.ext ?_
      show off 0 + 1 * (x 0).val = hc.form 0 % 64
      rw [← hc.eq]; omega
    | 1 =>
      refine Fin.ext ?_
      show off 1 + 1 * (x 1).val = (hc.form 1 + (x 1).val) % 128
      rw [← hc.eq]; omega
  rw [Prog.bind_lift]
  unfold St at h ⊢
  iintro ⟨HF, HI, HR⟩
  iapply (wp_load 𝒱 c bd E (q := fullShare) (f := fI) (S := Finset.univ) (Finset.subset_univ _)) $$ HI
  iintro HI
  rw [e]
  iapply h
  isplitl [HF]; · iexact HF
  isplitl [HI]; · iexact HI
  iexact HR

/-- The check of the loaded indices' range. -/
theorem step_chk {P : Prop} {d : Decidable P} {k : PLift P → Prog (TpuEff nD τ sig (Elt F) Λ c.2) α} (hP : P)
    (h : St arg5 arg6 arg7 Fr fI fR b n ⊢ wp (M := 𝕄) frame (wpE defs 𝒱 c bd) E (k ⟨hP⟩) Q) :
    St arg5 arg6 arg7 Fr fI fR b n ⊢ wp (M := 𝕄) frame (wpE defs 𝒱 c bd) E (Prog.lift (.assume P d) >>= k) Q := by
  rw [Prog.bind_lift]
  exact h.trans (wp_assume 𝒱 c bd E hP)

/-- An indexed load of sixteen entries. -/
theorem step_look {v w : IVec L16 32} {hx : ∀ a x, ((![v, w] : Fin 2 → IVec L16 32) a x).toNat < SR.size a} {hl : arg6.view.Loads}
    {k : Vec F L16 .f32 → Prog (TpuEff nD τ sig (Elt F) Λ c.2) α}
    (h : St arg5 arg6 arg7 Fr fI fR b n
      ⊢ wp (M := 𝕄) frame (wpE defs 𝒱 c bd) E (k (lookV (A := Elt F .f32) (arg6.view.read (Elt F) fR) v w)) Q) :
    St arg5 arg6 arg7 Fr fI fR b n
      ⊢ wp (M := 𝕄) frame (wpE defs 𝒱 c bd) E (SparseCore.vectorLoadIdx (s := SR) arg6 ![v, w] hx hl >>= k) Q := by
  have e : (arg6.access (.whole SR)).read (Elt F) fR = arg6.view.read (Elt F) fR := by
    funext x
    show arg6.view.read (Elt F) fR ((Rect.whole SR).emb x) = _
    rw [Rect.emb_whole_apply]
  unfold St at h ⊢
  iintro ⟨HF, HI, HR, HB⟩
  iapply (SparseCore.wp_vectorLoadIdx 𝒱 c bd E (base := arg6) (q := fullShare) (f := fR) (S := Finset.univ) (Finset.subset_univ _)) $$ HR
  iintro HR
  rw [e, loadIdx_eq]
  iapply h
  isplitl [HF]; · iexact HF
  isplitl [HI]; · iexact HI
  isplitl [HR]; · iexact HR
  iexact HB

/-- A load of the block whose value nothing reads. -/
theorem step_dead {r : LoadRect SB} {hl : arg7.view.LoadsAt r} {k' : Prog (TpuEff nD τ sig (Elt F) Λ c.2) α}
    (h : St arg5 arg6 arg7 Fr fI fR b n ⊢ wp (M := 𝕄) frame (wpE defs 𝒱 c bd) E k' Q) :
    St arg5 arg6 arg7 Fr fI fR b n
      ⊢ wp (M := 𝕄) frame (wpE defs 𝒱 c bd) E (Prog.lift (.load arg7 r hl) >>= fun _ => k') Q := by
  rw [Prog.bind_lift]
  unfold St at h ⊢
  iintro ⟨HF, HI, HR, %f, %hf, HB⟩
  iapply (wp_load 𝒱 c bd E (q := fullShare) (f := f) (S := Finset.univ) (Finset.subset_univ _)) $$ HB
  iintro HB
  iapply h
  isplitl [HF]; · iexact HF
  isplitl [HI]; · iexact HI
  isplitl [HR]; · iexact HR
  iexists f
  isplitr; · ipureintro; exact hf
  iexact HB

/-- The store of a piece: sixteen entries looked up, stored as the next piece of the block. -/
theorem step_store {off : Fin 2 → ℕ} {vd : IVec L16 32} {hs : L1.ShapeCasts L16} {hs' : L16.ShapeCasts L1}
    {c0 dn : ℕ} {inb : ∀ a, (![dn, c0] : Fin 2 → ℕ) a + L1.size a ≤ SB.size a}
    {hst : (arg7.access (Rect.unit (s := SB) ![dn, c0] L1.size inb)).Stores Finset.univ}
    {hm : (Finset.univ : Finset L1.Idx) = Finset.univ ∨ ∀ a, (Rect.unit (s := SB) ![dn, c0] L1.size inb).stride a = 1}
    {k : PUnit → Prog (TpuEff nD τ sig (Elt F) Λ c.2) α}
    (h16 : c0 % 16 = 0)
    (h0 : off 0 = 8 * b + c0 / 128) (h1 : off 1 = c0 % 128) (hvd : ∀ x, (vd x).toNat = dn) (hn : n = 8 * (c0 / 16) + dn)
    (h : St arg5 arg6 arg7 Fr fI fR b (8 * (c0 / 16) + (dn + 1)) ⊢ wp (M := 𝕄) frame (wpE defs 𝒱 c bd) E (k ⟨⟩) Q) :
    St arg5 arg6 arg7 Fr fI fR b n
      ⊢ wp (M := 𝕄) frame (wpE defs 𝒱 c bd) E (Prog.lift (.store arg7 (Rect.unit (s := SB) ![dn, c0] L1.size inb)
          (shapeCast L1 (lookV (A := Elt F .f32) (arg6.view.read (Elt F) fR) vd (shapeCast L16 (iblk (arg5.view.read (Elt F) fI) off) hs)) hs') Finset.univ hst hm) >>= k) Q := by
  have hd8 : dn + 1 ≤ 8 := inb 0
  have hc : c0 + 16 ≤ 1024 := inb 1
  have key : ∀ f, Agree (A := Elt F .f32) (arg5.view.read (Elt F) fI) (arg6.view.read (Elt F) fR) b n (arg7.view.read (Elt F) f) →
      Agree (A := Elt F .f32) (arg5.view.read (Elt F) fI) (arg6.view.read (Elt F) fR) b (8 * (c0 / 16) + (dn + 1))
        (arg7.view.read (Elt F) ((arg7.access (Rect.unit (s := SB) ![dn, c0] L1.size inb)).write (Elt F) f
          (shapeCast L1 (lookV (A := Elt F .f32) (arg6.view.read (Elt F) fR) vd (shapeCast L16 (iblk (arg5.view.read (Elt F) fI) off) hs)) hs') Finset.univ)) := by
    intro f hf j hj
    have j0 : (j 0).val < 8 := (j 0).isLt
    have j1 : (j 1).val < 1024 := (j 1).isLt
    show arg7.view.read (Elt F) ((arg7.view.slice (Rect.unit (s := SB) ![dn, c0] L1.size inb)).write (Elt F) f _ Finset.univ) j = _
    by_cases hin : (j 0).val = dn ∧ c0 ≤ (j 1).val ∧ (j 1).val < c0 + 16
    · obtain ⟨e0, e1, e2⟩ := hin
      have hj' : j = ix2 (⟨dn, by omega⟩ : Fin 8) ⟨c0 + ((j 1).val - c0), by omega⟩ := by
        funext a
        match a with
        | 0 => exact Fin.ext e0
        | 1 => exact Fin.ext (by show (j 1).val = c0 + ((j 1).val - c0); omega)
      have := View.read_writes_cons_hit_of_coords arg7.view f (Val := Elt F) (Rect.unit (s := SB) ![dn, c0] L1.size inb)
        (shapeCast L1 (lookV (A := Elt F .f32) (arg6.view.read (Elt F) fR) vd (shapeCast L16 (iblk (arg5.view.read (Elt F) fI) off) hs)) hs') [] (ix2 (0 : Fin 1) (⟨(j 1).val - c0, by omega⟩ : Fin 16)) j (by
          intro a
          match a with
          | 0 => show (j 0).val = dn + 1 * 0; omega
          | 1 => show (j 1).val = c0 + 1 * ((j 1).val - c0); omega)
      refine Eq.trans this ?_
      rw [piece_eq (arg6.view.read (Elt F) fR) b ⟨dn, by omega⟩ c0 hc h16 h0 h1 hvd]
      exact congrArg _ hj'.symm
    · refine Eq.trans (View.read_writes_cons_miss arg7.view f (Val := Elt F) ⟨Rect.unit (s := SB) ![dn, c0] L1.size inb, _⟩ [] j ?_) (hf j (by omega))
      intro hmem
      by_cases q0 : (j 0).val = dn
      · exact (Rect.not_mem_set_of_axis _ j 1 c0 16 rfl rfl rfl (by omega)) hmem
      · exact (Rect.not_mem_set_of_axis _ j 0 dn 1 rfl rfl rfl (by omega)) hmem
  rw [Prog.bind_lift]
  unfold St at h ⊢
  iintro ⟨HF, HI, HR, %f, %hf, HB⟩
  iapply (wp_store 𝒱 c bd E (m := arg7) (r := Rect.unit (s := SB) ![dn, c0] L1.size inb) (Mk := Finset.univ) (f := f) (S := Finset.univ) (Finset.subset_univ _)) $$ HB
  iintro HB
  iapply h
  isplitl [HF]; · iexact HF
  isplitl [HI]; · iexact HI
  isplitl [HR]; · iexact HR
  iexists _
  isplitr; · ipureintro; exact key f hf
  iexact HB

/-- A part of the program, then the rest of it at what the part hands on. -/
theorem step_part {β : Type} {n' : ℕ} (t : β) {m : Prog (TpuEff nD τ sig (Elt F) Λ c.2) β} {k : β → Prog (TpuEff nD τ sig (Elt F) Λ c.2) α}
    (hm : St arg5 arg6 arg7 Fr fI fR b n ⊢ wp (M := 𝕄) frame (wpE defs 𝒱 c bd) E m fun r => iprop(⌜r = t⌝ ∗ St arg5 arg6 arg7 Fr fI fR b n'))
    (h : St arg5 arg6 arg7 Fr fI fR b n' ⊢ wp (M := 𝕄) frame (wpE defs 𝒱 c bd) E (k t) Q) :
    St arg5 arg6 arg7 Fr fI fR b n ⊢ wp (M := 𝕄) frame (wpE defs 𝒱 c bd) E (m >>= k) Q := by
  rw [wp_bind]
  refine hm.trans (wp_mono _ _ _ fun r => ?_)
  iintro ⟨%e, HS⟩
  subst e
  iapply h; iexact HS

/-- The end of a part. -/
theorem step_ret {t : α} :
    St arg5 arg6 arg7 Fr fI fR b n ⊢ wp (M := 𝕄) frame (wpE defs 𝒱 c bd) E (pure t) fun r => iprop(⌜r = t⌝ ∗ St arg5 arg6 arg7 Fr fI fR b n) := by
  rw [wp_pure]
  iintro HS
  imodintro
  isplitr; · ipureintro; rfl
  iexact HS

/-- A part that ends in a store. -/
theorem step_end {m : Prog (TpuEff nD τ sig (Elt F) Λ c.2) PUnit} {Q : PUnit → sProp 𝕄}
    (h : St arg5 arg6 arg7 Fr fI fR b n ⊢ wp (M := 𝕄) frame (wpE defs 𝒱 c bd) E (m >>= fun _ => pure ⟨⟩) Q) :
    St arg5 arg6 arg7 Fr fI fR b n ⊢ wp (M := 𝕄) frame (wpE defs 𝒱 c bd) E m Q := by
  have e : (m >>= fun _ => pure ⟨⟩) = m := bind_pure m
  rwa [e] at h

end Rules

end Cert.Proof.Steps

end
-- ==== Proof.Tile.lean ====
/-
  The SparseCore kernel, one task: a tile fetches the indices and its eight rows of the table, and per trip looks up
  and writes out one block of the result.
-/
module

public import proofs.«01_k».proof.GatherIdeal
public import Idealize.ShloMosaic.Lib.SparseCore.Quiescent
public import Idealize.ShloMosaic.Lib.SparseCore.Ops
public import Idealize.ShloMosaic.Lib.Pipeline.Kit
public import Idealize.ShloMosaic.Lib.StableHlo.Run
public import Idealize.ShloMosaic.Lib.ShareLeaves
public import Idealize.ShloMosaic.Lib.Tactic
public import proofs.«01_k».proof.Proof.Gen.GatherIdeal
public import proofs.«01_k».proof.Proof.Steps

@[expose] public section

noncomputable section

namespace Cert.Proof.Tile

open Cert.GatherIdeal Cert.GatherIdeal.Gen Cert.Proof.Steps
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The table, the indices and the result, as locations of device `d`. -/
abbrev eLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "eV" => (Memref.whole Cert.GatherIdeal.main_arg0_scv : Memref Cert.GatherIdeal.sig Kind.scVector Space.hbm Cert.GatherIdeal.S256x2048 EltTy.f32)
local notation "iV" => (Memref.whole Cert.GatherIdeal.main_arg1_scv : Memref Cert.GatherIdeal.sig Kind.scVector Space.hbm Cert.GatherIdeal.S64x128 EltTy.i32)
local notation "oV" => (Memref.whole Cert.GatherIdeal.main_v0_scv : Memref Cert.GatherIdeal.sig Kind.scVector Space.hbm Cert.GatherIdeal.S8x256x1024 EltTy.f32)
local notation "sI" => (Memref.whole Cert.GatherIdeal.cc0_scratch0 : Memref Cert.GatherIdeal.sig Kind.scVector Space.vmem Cert.GatherIdeal.S64x128 EltTy.i32)
local notation "sR" => (Memref.whole Cert.GatherIdeal.cc0_scratch1 : Memref Cert.GatherIdeal.sig Kind.scVector Space.vmem Cert.GatherIdeal.S8x2048 EltTy.f32)
local notation "sB" => (Memref.whole Cert.GatherIdeal.cc0_scratch2 : Memref Cert.GatherIdeal.sig Kind.scVector Space.vmem Cert.GatherIdeal.S8x1024 EltTy.f32)

/-- The result: entry `(b, r, t)` is row `r` of the table at the index that word `t` of block `b` names. -/
def outF {A : Type} (E : S256x2048.Idx → A) (I : S64x128.Idx → BitVec 32) : S8x256x1024.Idx → A := fun j =>
  E (ix2 (j 1) ⟨(word I (8 * (j 0).val + (j 2).val / 128) ((j 2).val % 128)).toNat % 2048, Nat.mod_lt _ (by decide)⟩)

/-- Tile `(c, j)`'s rows of the result. -/
def oSet (c : Fin 2) (j : Fin 16) : Finset S8x256x1024.Idx := Finset.univ.filter fun x => (x 1).val / 8 = 2 * j.val + c.val

/-- Tile `(c, j)`'s read share. -/
def lf (c : Fin 2) (j : Fin 16) : PosShare TreeShare := ShareLeaves.leaf 5 fullShare ⟨16 * c.val + j.val, by have := c.isLt; have := j.isLt; show _ < 32; omega⟩

/-! ## The check of a sixteen of indices -/

theorem pair_lt {v w : IVec S16 32} {k : ℕ} (hv : ∀ x, (v x).toNat = k) (hk : k < 8) (hw : ∀ x, (w x).toNat < 2048) :
    ∀ a x, ((![v, w] : Fin 2 → IVec S16 32) a x).toNat < S8x2048.size a := by
  intro a x
  match a with
  | 0 => exact lt_of_eq_of_lt (hv x) hk
  | 1 => exact hw x

theorem chk {v3 v4 v5 v6 v7 v8 v9 v10 : IVec S16 32} (h3 : ∀ x, (v3 x).toNat = 0) (h4 : ∀ x, (v4 x).toNat = 1) (h5 : ∀ x, (v5 x).toNat = 2)
    (h6 : ∀ x, (v6 x).toNat = 3) (h7 : ∀ x, (v7 x).toNat = 4) (h8 : ∀ x, (v8 x).toNat = 5) (h9 : ∀ x, (v9 x).toNat = 6)
    (h10 : ∀ x, (v10 x).toNat = 7) {I : SI.Idx → BitVec 32} (hI : InRange I) (off : Fin 2 → ℕ) (hs : L1.ShapeCasts L16) :
    k0_chk1 v3 v4 v5 v6 v7 v8 v9 v10 (shapeCast L16 (iblk I off) hs) :=
  have hw := iblk_range hI off hs
  ⟨pair_lt h3 (by decide) hw, pair_lt h4 (by decide) hw, pair_lt h5 (by decide) hw, pair_lt h6 (by decide) hw,
    pair_lt h7 (by decide) hw, pair_lt h8 (by decide) hw, pair_lt h9 (by decide) hw, pair_lt h10 (by decide) hw⟩

/-- An index of a unit-stride rectangle, placed. -/
theorem emb_unit_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

theorem emb_whole (s : Shape) (y : s.Idx) : (Rect.whole s).emb y = y := by
  funext a; refine Fin.ext ?_; rw [Rect.emb_apply]; show 0 + 1 * (y a : Nat) = _; omega

section Pts
variable {nD : Nat} {τ : Topo} {sig : RefSig} {Ix : Type} [DecidableEq Ix] {Val : EltTy → Type} {Name : Type} [DecidableEq Name] {U : Type} [URA U] {Lvl : Type} [Preorder Lvl]
theorem pts_eq {ℓ : Loc nD τ sig} {I : Finset (Loc.ty ℓ).Idx} {q : PosShare TreeShare} {f g : Buf Val ℓ} (h : ∀ i ∈ I, f i = g i) :
    (ℓ ↦[I]{q} f : sProp (MT nD τ sig Ix Val Name U Lvl)) ⊢ ℓ ↦[I]{q} g := Entails.of_eq (pointsTo_congr h)
end Pts

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev cAcell (d : Dev nD) (c : Fin τ.nSC) (i : Fin τ.nSub) : GSem nD τ sig := (V d c i, .dma cc0_scoped0.sem)
abbrev cXcell (d : Dev nD) (c : Fin τ.nSC) (i : Fin τ.nSub) : GSem nD τ sig := (V d c i, .dma cc0_scoped1.sem)
abbrev cBcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cXcell d (cV L) (jV L)) 0 ∗ semVal (cBcell d (cV L) (jV L)) 0
          ∗ bigSep ((((ownCells (V d (cV L) (jV L))).erase (cAcell d (cV L) (jV L))).erase (cXcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cXcell]; decide, (mem_ownCells (g := cXcell d (cV L) (jV L))).mpr ⟨rfl, by
      show (SemLoc.dma cc0_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d (cV L) (jV L))).mpr ⟨rfl, by show (SemLoc.dma cc0_scoped2.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable (fE : Buf (Elt F) (eLoc d)) (fI : Buf (Elt F) (iLoc d)) (fO : Buf (Elt F) (oLoc d))

/-- What a tile is handed, and what it hands back. -/
def goP (c : Fin 2) (j : Fin 16) (g : Buf (Elt F) (oLoc d)) : sProp 𝕄 :=
  iprop((eLoc d ↦{lf c j} fE) ∗ (iLoc d ↦{lf c j} fI) ∗ oLoc d ↦[oSet c j]{fullShare} g)

/-- Tile `(c, j)`'s eight rows of the table. -/
def rowsOf {A : Type} (E : S256x2048.Idx → A) : SR.Idx → A := fun x =>
  E (ix2 ⟨(16 * (L 1).val + 8 * (L 0).val + (x 0).val) % 256, Nat.mod_lt _ (by decide)⟩ (x 1))

/-- The block of the result that trip `t` writes. -/
abbrev oBlk (t : Fin k0_t1_loop.trips) : Memref sig .scVector .hbm S8x1024 .f32 :=
  ((oV).slice (Rect.unit (s := S8x256x1024) (k0_off66 L t) S1x8x1024.size (k0_off66_inb L t)) (fun _ => rfl)).squeeze S8x1024 squeezes_S1x8x1024_S8x1024

omit [FloatOps F] in
theorem emb_oBlk (t : Fin k0_t1_loop.trips) (y : S8x1024.Idx) :
    (oBlk L t).view.emb y = (Rect.unit (s := S8x256x1024) (k0_off66 L t) S1x8x1024.size (k0_off66_inb L t)).emb (ix3 (0 : Fin 1) (y 0) (y 1)) := by
  show (Rect.unit (s := S8x256x1024) (k0_off66 L t) S1x8x1024.size (k0_off66_inb L t)).emb (Shape.reshapeEquiv _ y) = _
  congr 1
  have e : y = ix2 (y 0) (y 1) := by funext a; match a with | 0 => rfl | 1 => rfl
  rw [e]
  exact reshapeEquiv_ix2_1ab _ _ _

omit [FloatOps F] in
theorem emb_oBlk_val (t : Fin k0_t1_loop.trips) (y : S8x1024.Idx) :
    (((oBlk L t).view.emb y : S8x256x1024.Idx) 0).val = t.val
      ∧ (((oBlk L t).view.emb y : S8x256x1024.Idx) 1).val = 16 * (L 1).val + 8 * (L 0).val + (y 0).val
      ∧ (((oBlk L t).view.emb y : S8x256x1024.Idx) 2).val = (y 1).val := by
  rw [emb_oBlk]
  have h := k0_off66_eq L t
  have e := emb_unit_val (s := S8x256x1024) (k0_off66 L t) S1x8x1024.size (k0_off66_inb L t) (ix3 (0 : Fin 1) (y 0) (y 1))
  have h0 : k0_off66 L t 0 = t.val := congrFun h 0
  have h1 : k0_off66 L t 1 = 16 * (L 1).val + 8 * (L 0).val := congrFun h 1
  have h2 : k0_off66 L t 2 = 0 := congrFun h 2
  exact ⟨(e 0).trans (congrArg (· + 0) h0), (e 1).trans (congrArg (· + (y 0).val) h1), (e 2).trans ((congrArg (· + (y 1).val) h2).trans (Nat.zero_add _))⟩

omit [FloatOps F] in
theorem read_oBlk (t : Fin k0_t1_loop.trips) (f : S8x256x1024.Idx → Elt F .f32) (y : S8x1024.Idx) :
    (oBlk L t).view.read (Elt F) f y = f ((oBlk L t).view.emb y) := rfl

omit [FloatOps F] in
theorem oBlk_subset (t : Fin k0_t1_loop.trips) : (oBlk L t).view.set ⊆ oSet (L 0) (L 1) := by
  intro x hx
  obtain ⟨y, -, rfl⟩ := Finset.mem_map.mp hx
  obtain ⟨-, h, -⟩ := emb_oBlk_val L t y
  have hy : (y 0).val < 8 := (y 0).isLt
  refine Finset.mem_filter.mpr ⟨Finset.mem_univ _, ?_⟩
  show (((oBlk L t).view.emb y : S8x256x1024.Idx) 1).val / 8 = _
  omega

omit [FloatOps F] in
/-- What a trip's block holds is the result there. -/
theorem block_eq {A : Type} (E : S256x2048.Idx → A) (I : S64x128.Idx → BitVec 32) (t : Fin k0_t1_loop.trips) (y : S8x1024.Idx) :
    blockG I (rowsOf L E) t.val y = outF E I ((oBlk L t).view.emb y) := by
  obtain ⟨h0, h1, h2⟩ := emb_oBlk_val L t y
  unfold blockG outF pick rowsOf
  congr 1
  have hj : ((oBlk L t).view.emb y 1 : Fin 256).val < 256 := (((oBlk L t).view.emb y : S8x256x1024.Idx) 1).isLt
  funext a
  match a with
  | 0 => refine Fin.ext ?_; show (16 * (L 1).val + 8 * (L 0).val + (y 0).val) % 256 = (((oBlk L t).view.emb y : S8x256x1024.Idx) 1).val; rw [← h1]; exact Nat.mod_eq_of_lt hj
  | 1 =>
    refine Fin.ext ?_
    show (word I (8 * t.val + (y 1).val / 128) ((y 1).val % 128)).toNat % 2048
      = (word I (8 * (((oBlk L t).view.emb y : S8x256x1024.Idx) 0).val + (((oBlk L t).view.emb y : S8x256x1024.Idx) 2).val / 128) ((((oBlk L t).view.emb y : S8x256x1024.Idx) 2).val % 128)).toNat % 2048
    rw [h0, h2]

omit [FloatOps F] in
/-- What the copy of the tile's rows brings. -/
theorem rows_eq {A : Type} (E : S256x2048.Idx → A) (x : S8x2048.Idx) :
    E ((Rect.unit (s := S256x2048) (k0_off1 L) S8x2048.size (k0_off1_inb L)).emb x) = rowsOf L E x := by
  unfold rowsOf
  congr 1
  have h := k0_off1_eq L
  have hL0 : (L 0).val < 2 := (L 0).isLt
  have hL1 : (L 1).val < 16 := (L 1).isLt
  have hx : (x 0).val < 8 := (x 0).isLt
  have e := emb_unit_val (s := S256x2048) (k0_off1 L) S8x2048.size (k0_off1_inb L) x
  have h0 : k0_off1 L 0 = 16 * (L 1).val + 8 * (L 0).val := congrFun h 0
  have h1 : k0_off1 L 1 = 0 := congrFun h 1
  funext a
  match a with
  | 0 =>
    refine Fin.ext ((e 0).trans ((congrArg (· + (x 0).val) h0).trans ?_))
    show 16 * (L 1).val + 8 * (L 0).val + (x 0).val = (16 * (L 1).val + 8 * (L 0).val + (x 0).val) % 256
    omega
  | 1 => exact Fin.ext ((e 1).trans ((congrArg (· + (x 1).val) h1).trans (Nat.zero_add _)))

variable (O : CellTallies nD τ sig (HIx 1)) (W : Waits sig (HIx 1))

/-- What the loop holds besides the tile's own three buffers, before trip `k`. -/
def held (k : Nat) : sProp 𝕄 :=
  iprop(Transfers.MayWaits (V d (cV L) (jV L)) (none : HIx 1) O
      ∗ (∃ g, ⌜∀ x : S8x256x1024.Idx, (x 1).val / 8 = 2 * (L 1).val + (L 0).val → (x 0).val < k → g x = outF (A := Elt F .f32) fE fI x⌝ ∗ oLoc d ↦[oSet (L 0) (L 1)]{fullShare} g)
      ∗ semVal (V d (cV L) (jV L), SemLoc.dma cc0_scoped2.sem) 0
      ∗ ∃ W', ⌜∀ p ∈ W', p ∈ W ∨ p.2 = none⌝ ∗ owes (V d (cV L) (jV L)) O W')

/-- The loop's invariant. -/
def inv (k : Nat) (_ : PUnit) : sProp 𝕄 :=
  iprop(held d L fE fI O W k
    ∗ ((sI).view.loc (V d (cV L) (jV L)) ↦{fullShare} (fI : S64x128.Idx → BitVec 32))
    ∗ ((sR).view.loc (V d (cV L) (jV L)) ↦{fullShare} rowsOf (A := Elt F .f32) L fE)
    ∗ ∃ f, (sB).view.loc (V d (cV L) (jV L)) ↦{fullShare} f)

theorem inv_St (k : Nat) (u : PUnit) :
    inv d L fE fI O W k u ⊢ St (c := V d (cV L) (jV L)) sI sR sB (held d L fE fI O W k) fI (rowsOf (A := Elt F .f32) L fE) k 0 := by
  unfold inv St
  iintro ⟨H, Hs, Hx, %f, Hc⟩
  isplitl [H]; · iexact H
  isplitl [Hs]; · iexact Hs
  isplitl [Hx]; · iexact Hx
  iexists f; isplitr
  · ipureintro; exact agree_zero _ _ _ _
  · iexact Hc

theorem trip_end (t : Fin k0_t1_loop.trips) :
    St (c := V d (cV L) (jV L)) sI sR sB (held d L fE fI O W t.val) fI (rowsOf (A := Elt F .f32) L fE) t.val 512
      ⊢ wp frame (wpE (defs₀ (F := F)) 𝒱₀ (V d (cV L) (jV L)) none) Set.univ
          (do
            Prog.lift (.enqueueDma sB (.here (oBlk L t)) (.dma cc0_scoped2.sem) (Memref.isWhole_whole cc0_scratch2).wordExact ((View.wordExact_bits rfl).reshape _ _) ⟨Or.inl rfl, trivial⟩)
            Prog.lift (.waitDma2 cc0_scoped2.sem sB (oBlk L t) (Memref.isWhole_whole cc0_scratch2).wordExact ((View.wordExact_bits rfl).reshape _ _))
            pure ⟨⟩)
          (inv d L fE fI O W (t.val + 1)) := by
  unfold St held
  iintro ⟨⟨Hmw, ⟨%g, %hg, Ho⟩, HsemB, %W', %hW', HO⟩, Hs, Hx, %f, %hf, Hc⟩
  have hf' := agree_all hf
  ihave Ho' := (pointsTo_split_subset (q := fullShare) (f := g) (oBlk_subset L t)).1 $$ Ho
  icases Ho' with ⟨Hb, Hr⟩
  ihave Hb' := (show (oLoc d ↦[(oBlk L t).view.set]{fullShare} g : sProp 𝕄) ⊢ ((oBlk L t).view.loc (V d (cV L) (jV L)) ↦[(oBlk L t).view.set]{fullShare} g) from .rfl) $$ Hb
  sl_exec (disch := exact View.amount_pos _ _ (show 0 < S8x1024.numel by decide))
  sl_step
  have hin : ∀ y : S8x1024.Idx, (oBlk L t).view.writes (Elt F) g [⟨Rect.whole S8x1024, trip_end.sl.dma0 d L f⟩] ((oBlk L t).view.emb y)
      = outF (A := Elt F .f32) fE fI ((oBlk L t).view.emb y) := by
    intro y
    have h1 := View.read_writes_cons_emb (v := (oBlk L t).view) (Val := Elt F) (f := g) (Rect.whole S8x1024) (trip_end.sl.dma0 d L f) [] y
    rw [emb_whole, read_oBlk] at h1
    have h2 : trip_end.sl.dma0 d L f y = blockG fI (rowsOf (A := Elt F .f32) L fE) t.val y := congrFun hf' y
    rw [h1, h2]
    exact block_eq L fE fI t y
  have hout : ∀ x : S8x256x1024.Idx, x ∉ (oBlk L t).view.set → (oBlk L t).view.writes (Elt F) g [⟨Rect.whole S8x1024, trip_end.sl.dma0 d L f⟩] x = g x := by
    intro x hx
    refine View.writes_apply_of_forall_ne _ _ _ fun y (e : (oBlk L t).view.emb y = x) => hx ?_
    rw [← e]
    exact View.emb_mem_set _ y
  unfold inv held
  isplitl [Hmw Hr Hb' HsemB HO]
  · isplitl [Hmw]; · iexact Hmw
    isplitl [Hr Hb']
    · iexists (oBlk L t).view.writes (Elt F) g [⟨Rect.whole S8x1024, trip_end.sl.dma0 d L f⟩]
      isplitr
      · ipureintro
        intro x hx1 hx0
        by_cases hm : x ∈ (oBlk L t).view.set
        · obtain ⟨y, -, rfl⟩ := Finset.mem_map.mp hm
          exact hin y
        · rw [hout x hm]
          refine hg x hx1 ?_
          refine lt_of_le_of_ne (Nat.lt_succ_iff.mp hx0) fun e => hm ?_
          have hx1' : (x 1).val < 256 := (x 1).isLt
          have hy := emb_oBlk_val L t (ix2 (⟨(x 1).val % 8, Nat.mod_lt _ (by decide)⟩ : Fin 8) (x 2))
          have ex : x = (oBlk L t).view.emb (ix2 (⟨(x 1).val % 8, Nat.mod_lt _ (by decide)⟩ : Fin 8) (x 2)) := by
            funext a
            match a with
            | 0 => exact Fin.ext (e.trans hy.1.symm)
            | 1 => exact Fin.ext ((show (x 1).val = 16 * (L 1).val + 8 * (L 0).val + (x 1).val % 8 by omega).trans hy.2.1.symm)
            | 2 => exact Fin.ext hy.2.2.symm
          rw [ex]
          exact View.emb_mem_set _ _
      · iapply (pointsTo_split_subset (q := fullShare) (oBlk_subset L t)).2
        isplitl [Hb']
        · iexact Hb'
        · iapply (pts_eq (f := g) fun x hx => (hout x (Finset.mem_sdiff.mp hx).2).symm)
          iexact Hr
    isplitl [HsemB]; · iexact HsemB
    iexists (insert (SemLoc.dma cc0_scoped2.sem, (default : HIx 1)) W'); isplitr
    · ipureintro; intro p hp
      rcases Finset.mem_insert.mp hp with hp | hp
      · exact .inr (hp ▸ rfl)
      · exact hW' p hp
    · iexact HO
  isplitl [Hs]; · iexact Hs
  isplitl [Hx]; · iexact Hx
  iexists _; iexact Hc

attribute [local irreducible] Prog.lift SparseCore.vectorLoadIdx Idealize.SL.Sem.wp St in
set_option maxHeartbeats 0 in
theorem tile_body (hF : (K (F := F)).Facts) (hI : InRange (fI : S64x128.Idx → BitVec 32)) (hO : ∀ g, O g none = 0) :
    iprop(levAts (K (F := F)).L (K (F := F)).lev ∗ emp ∗ goP d fE fI (L 0) (L 1) fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L eV (Memref.isWhole_whole _) iV (Memref.isWhole_whole _) oV (Memref.isWhole_whole _)
            sI (Memref.isWhole_whole _) sR (Memref.isWhole_whole _) sB (Memref.isWhole_whole _) cc0_scoped0 cc0_scoped1 cc0_scoped2)
          fun _ => iprop(goP d fE fI (L 0) (L 1) (outF (A := Elt F .f32) fE fI) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goP
  iintro ⟨#Hlv, -, ⟨HE, HI, Ho⟩, ⟨⟨%fs, Hs⟩, ⟨%fx, Hx⟩, ⟨%fc, Hc⟩, Hbufs⟩, ⟨HsemA, HsemX, HsemB, Hsems⟩, HO⟩
  ihave Hmw := ((K (F := F)).mayWaits_none (thr := V d (cV L) (jV L)) hO) $$ Hlv
  ihave HE' := (show (eLoc d ↦{lf (L 0) (L 1)} fE : sProp 𝕄) ⊢ ((eV).view.loc (V d (cV L) (jV L)) ↦{lf (L 0) (L 1)} fE) from .rfl) $$ HE
  ihave HI' := (show (iLoc d ↦{lf (L 0) (L 1)} fI : sProp 𝕄) ⊢ ((iV).view.loc (V d (cV L) (jV L)) ↦{lf (L 0) (L 1)} fI) from .rfl) $$ HI
  ihave Hs' := (show ((V d (cV L) (jV L)).loc cc0_scratch0 ↦{fullShare} fs : sProp 𝕄) ⊢ ((sI).view.loc (V d (cV L) (jV L)) ↦{fullShare} fs) from .rfl) $$ Hs
  ihave Hx' := (show ((V d (cV L) (jV L)).loc cc0_scratch1 ↦{fullShare} fx : sProp 𝕄) ⊢ ((sR).view.loc (V d (cV L) (jV L)) ↦{fullShare} fx) from .rfl) $$ Hx
  ihave Hc' := (show ((V d (cV L) (jV L)).loc cc0_scratch2 ↦{fullShare} fc : sProp 𝕄) ⊢ ((sB).view.loc (V d (cV L) (jV L)) ↦{fullShare} fc) from .rfl) $$ Hc
  delta cc0__sc_body
  sl_exec
  sl_for (inv d L fE fI O W) $$ [Hmw Ho Hs' Hx' Hc' HsemB HO]
  case region =>
    intro k u
    refine (inv_St d L fE fI O W k.val u).trans ?_
    apply step_part
    case hm =>
      delta k0_part68
      repeat
        apply step_part
        case hm =>
          delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67
          repeat first
            | refine step_look ?_
            | refine step_idx ?_
            | refine step_chk (chk (fun _ => rfl) (fun _ => rfl) (fun _ => rfl) (fun _ => rfl) (fun _ => rfl) (fun _ => rfl) (fun _ => rfl) (fun _ => rfl) hI _ _) ?_
            | refine step_dead ?_
            | refine step_store rfl rfl rfl (fun _ => rfl) rfl ?_
            | refine step_ret
            | refine step_end (step_store rfl rfl rfl (fun _ => rfl) rfl ?_)
            | refine step_end (step_dead ?_)
        dsimp only
      refine step_ret
    dsimp only
    repeat
      apply step_part
      case hm =>
        delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67
        repeat first
          | refine step_look ?_
          | refine step_idx ?_
          | refine step_chk (chk (fun _ => rfl) (fun _ => rfl) (fun _ => rfl) (fun _ => rfl) (fun _ => rfl) (fun _ => rfl) (fun _ => rfl) (fun _ => rfl) hI _ _) ?_
          | refine step_dead ?_
          | refine step_store rfl rfl rfl (fun _ => rfl) rfl ?_
          | refine step_ret
          | refine step_end (step_store rfl rfl rfl (fun _ => rfl) rfl ?_)
          | refine step_end (step_dead ?_)
      dsimp only
    refine step_dead ?_
    refine step_store rfl rfl rfl (fun _ => rfl) rfl ?_
    refine step_dead ?_
    refine step_store rfl rfl rfl (fun _ => rfl) rfl ?_
    refine step_dead ?_
    refine step_store rfl rfl rfl (fun _ => rfl) rfl ?_
    exact trip_end d L fE fI O W k
  · unfold inv held
    isplitl [Hmw Ho HsemB HO]
    · isplitl [Hmw]; · iexact Hmw
      isplitl [Ho]
      · iexists fO
        isplitr
        · ipureintro; intro x _ h; exact absurd h (Nat.not_lt_zero _)
        · iexact Ho
      isplitl [HsemB]; · iexact HsemB
      iexists _; isplitr
      swap; · iexact HO
      ipureintro; intro p hp
      rcases Finset.mem_insert.mp hp with hp | hp
      · exact .inr (hp ▸ rfl)
      rcases Finset.mem_insert.mp hp with hp | hp
      · exact .inr (hp ▸ rfl)
      · exact .inl hp
    isplitl [Hs']
    · iapply (pts_eq (f := View.write (Elt F) (sI).view fs (tile_body.sl.dma0 d fI) Finset.univ) fun x _ => congrFun (View.write_whole_univ (Val := Elt F) cc0_scratch0 fs (tile_body.sl.dma0 d fI)) x)
      iexact Hs'
    isplitl [Hx']
    · have hrow : ∀ x : S8x2048.Idx, tile_body.sl.dma0_1 d L fE x = rowsOf (A := Elt F .f32) L fE x := fun x => rows_eq (A := Elt F .f32) L fE x
      iapply (pts_eq (g := rowsOf (A := Elt F .f32) L fE) (f := View.write (Elt F) (sR).view fx (tile_body.sl.dma0_1 d L fE) Finset.univ) fun x _ =>
        (congrFun (View.write_whole_univ (Val := Elt F) cc0_scratch1 fx (tile_body.sl.dma0_1 d L fE)) x).trans (hrow x))
      iexact Hx'
    iexists _; iexact Hc'
  iintro %_ HI
  unfold inv held
  icases HI with ⟨⟨-, ⟨%g, %hg, Ho⟩, HsemB, %W', %hW', HO⟩, Hs, Hx, %f, Hc⟩
  sl_exec
  sl_step
  isplitl [HE' HI' Ho]
  · isplitl [HE']; · iexact HE'
    isplitl [HI']; · iexact HI'
    iapply (pts_eq (f := g) fun x hx => hg x (Finset.mem_filter.mp hx).2 (x 0).isLt)
    iexact Ho
  isplitl [Hs Hx Hc Hbufs]
  · isplitl [Hs]; · iexists _; iexact Hs
    isplitl [Hx]; · iexists _; iexact Hx
    isplitl [Hc]; · iexists _; iexact Hc
    iexact Hbufs
  isplitl [HsemA HsemX HsemB Hsems]
  · isplitl [HsemA]; · iexact HsemA
    isplitl [HsemX]; · iexact HsemX
    isplitl [HsemB]; · iexact HsemB
    iexact Hsems
  iexists W'; isplitr
  · ipureintro; exact hW'
  · iexact HO

end Tile

end Cert.Proof.Tile
-- ==== Proof.Launch.lean ====
/-
  The launch of the SparseCore kernel: the call takes the table, the indices and the result, each tile a read share of
  the first two and its own rows of the result; the run, with the value of the result.
-/
module

public import proofs.«01_k».proof.Proof.Tile

@[expose] public section

noncomputable section

namespace Cert.Proof.Launch

open Cert.GatherIdeal Cert.GatherIdeal.Gen Cert.Proof.Steps Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx

variable {F : FTy → Type} [FloatOps F]

local notation "𝕄" => MT nD τ sig (HIx 1) (Elt F) ℕ UU ℕ

local notation "eV" => (Memref.whole Cert.GatherIdeal.main_arg0_scv : Memref Cert.GatherIdeal.sig Kind.scVector Space.hbm Cert.GatherIdeal.S256x2048 EltTy.f32)
local notation "iV" => (Memref.whole Cert.GatherIdeal.main_arg1_scv : Memref Cert.GatherIdeal.sig Kind.scVector Space.hbm Cert.GatherIdeal.S64x128 EltTy.i32)
local notation "oV" => (Memref.whole Cert.GatherIdeal.main_v0_scv : Memref Cert.GatherIdeal.sig Kind.scVector Space.hbm Cert.GatherIdeal.S8x256x1024 EltTy.f32)
local notation "sI" => (Memref.whole Cert.GatherIdeal.cc0_scratch0 : Memref Cert.GatherIdeal.sig Kind.scVector Space.vmem Cert.GatherIdeal.S64x128 EltTy.i32)
local notation "sR" => (Memref.whole Cert.GatherIdeal.cc0_scratch1 : Memref Cert.GatherIdeal.sig Kind.scVector Space.vmem Cert.GatherIdeal.S8x2048 EltTy.f32)
local notation "sB" => (Memref.whole Cert.GatherIdeal.cc0_scratch2 : Memref Cert.GatherIdeal.sig Kind.scVector Space.vmem Cert.GatherIdeal.S8x1024 EltTy.f32)

variable (m : (ℓ : Loc nD τ sig) → Buf (Elt F) ℓ) (ρ : Dev nD → PrngReg)

/-- The indices name rows of the table. -/
def PreOK : Prop := ∀ d : Dev nD, InRange (m (iLoc d) : S64x128.Idx → BitVec 32)

/-- The result the call leaves on device `d`. -/
abbrev outD (d : Dev nD) : Buf (Elt F) (oLoc d) := outF (A := Elt F .f32) (m (eLoc d)) (m (iLoc d))

abbrev c2 (c : Fin ((K (F := F)).nCore 0)) : Fin 2 := c
abbrev c16 (i : Fin ((K (F := F)).nSub 0)) : Fin 16 := i

/-- What the handshakes carry: each tile's shares and rows. -/
def P : (K (F := F)).Pay (nD := nD) (Val := Elt F) (Name := ℕ) (U := UU) where
  st := fun q d c => match q with
    | 0 => bigSep Finset.univ fun j : Fin 16 => goP d (m (eLoc d)) (m (iLoc d)) (c2 (F := F) c) j (m (oLoc d))
  dn := fun q d c => match q with
    | 0 => bigSep Finset.univ fun j : Fin 16 => goP d (m (eLoc d)) (m (iLoc d)) (c2 (F := F) c) j (outD m d)
  go := fun q d c i => match q with | 0 => goP d (m (eLoc d)) (m (iLoc d)) (c2 (F := F) c) (c16 (F := F) i) (m (oLoc d))
  td := fun q d c i => match q with | 0 => goP d (m (eLoc d)) (m (iLoc d)) (c2 (F := F) c) (c16 (F := F) i) (outD m d)
  x := fun _ _ => iprop(emp)

instance goP_storable (d : Dev nD) (fE : Buf (Elt F) (eLoc d)) (fI : Buf (Elt F) (iLoc d)) (c : Fin 2) (j : Fin 16) (g : Buf (Elt F) (oLoc d)) :
    BI.Storable (upEmb : UEmb _ 𝕄) (goP d fE fI c j g) := by
  unfold goP; infer_instance

instance P_storable : (P (F := F) m).IsStorable where
  st q d c := match q with
    | 0 => (inferInstance : BI.Storable (upEmb : UEmb _ 𝕄) (bigSep Finset.univ fun j : Fin 16 => goP d (m (eLoc d)) (m (iLoc d)) (c2 (F := F) c) j (m (oLoc d))))
  dn q d c := match q with
    | 0 => (inferInstance : BI.Storable (upEmb : UEmb _ 𝕄) (bigSep Finset.univ fun j : Fin 16 => goP d (m (eLoc d)) (m (iLoc d)) (c2 (F := F) c) j (outD m d)))
  go q d c i := match q with | 0 => goP_storable d _ _ _ _ _
  td q d c i := match q with | 0 => goP_storable d _ _ _ _ _

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          eV (Memref.isWhole_whole _) iV (Memref.isWhole_whole _) oV (Memref.isWhole_whole _)
          sI (Memref.isWhole_whole _) sR (Memref.isWhole_whole _) sB (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (m (eLoc d)) (m (iLoc d)) (m (oLoc d)) O W hF (hpre d) hO).trans (wp_mono frame _ _ fun _ => obl_post)

theorem vecSplit : (K (F := F)).VecSplit' (P m) 0 := by
  intro d c
  show (bigSep Finset.univ fun j : Fin 16 => goP d (m (eLoc d)) (m (iLoc d)) (c2 (F := F) c) j (m (oLoc d))) ⊢ |={Set.univ}=> iprop(
      (bigSep Finset.univ fun j : Fin 16 => goP d (m (eLoc d)) (m (iLoc d)) (c2 (F := F) c) j (m (oLoc d)))
      ∗ ((bigSep Finset.univ fun j : Fin 16 => goP d (m (eLoc d)) (m (iLoc d)) (c2 (F := F) c) j (outD m d))
          -∗ (bigSep Finset.univ fun j : Fin 16 => goP d (m (eLoc d)) (m (iLoc d)) (c2 (F := F) c) j (outD m d))))
  iintro H; imodintro
  isplitl [H]; · iexact H
  iintro H; iexact H

/-! ## The arrays as the tiles' pieces -/

/-- The tiles, numbered. -/
def tileEquiv : Fin 2 × Fin 16 ≃ Fin (2 ^ 5) where
  toFun p := ⟨16 * p.1.val + p.2.val, by have := p.1.isLt; have := p.2.isLt; show _ < 32; omega⟩
  invFun i := (⟨i.val / 16, by have : i.val < 32 := i.isLt; omega⟩, ⟨i.val % 16, Nat.mod_lt _ (by decide)⟩)
  left_inv p := by
    have h1 := p.1.isLt; have h2 := p.2.isLt
    refine Prod.ext (Fin.ext ?_) (Fin.ext ?_)
    · show (16 * p.1.val + p.2.val) / 16 = p.1.val; omega
    · show (16 * p.1.val + p.2.val) % 16 = p.2.val; omega
  right_inv i := Fin.ext (by show 16 * (i.val / 16) + i.val % 16 = i.val; omega)

omit [FloatOps F] in
theorem shares_eq {ℓ : Loc nD τ sig} (f : Buf (Elt F) ℓ) :
    (ℓ ↦{fullShare} f : sProp 𝕄) = bigSep Finset.univ fun p : Fin 2 × Fin 16 => ℓ ↦{lf p.1 p.2} f := by
  rw [ShareLeaves.pointsTo_leaves Finset.univ f 5 fullShare, bigSep_univ_equiv tileEquiv]
  rfl

omit [FloatOps F] in
theorem mem_oSet {c : Fin 2} {j : Fin 16} {x : S8x256x1024.Idx} : x ∈ oSet c j ↔ (x 1).val / 8 = 2 * j.val + c.val := by
  simp [oSet]

omit [FloatOps F] in
theorem oSets_cover : (Finset.univ : Finset (Fin 2 × Fin 16)).biUnion (fun p => oSet p.1 p.2) = Finset.univ := by
  refine Finset.eq_univ_iff_forall.mpr fun x => Finset.mem_biUnion.mpr ?_
  have h : (x 1).val < 256 := (x 1).isLt
  refine ⟨(⟨(x 1).val / 8 % 2, by omega⟩, ⟨(x 1).val / 8 / 2, by omega⟩), Finset.mem_univ _, mem_oSet.mpr ?_⟩
  show (x 1).val / 8 = 2 * ((x 1).val / 8 / 2) + (x 1).val / 8 % 2
  omega

omit [FloatOps F] in
theorem oSets_disjoint : ∀ p ∈ (Finset.univ : Finset (Fin 2 × Fin 16)), ∀ p' ∈ (Finset.univ : Finset (Fin 2 × Fin 16)), p ≠ p' → Disjoint (oSet p.1 p.2) (oSet p'.1 p'.2) := by
  intro p _ p' _ hne
  refine Finset.disjoint_left.mpr fun x h1 h2 => hne ?_
  have e := (mem_oSet.mp h1).symm.trans (mem_oSet.mp h2)
  have := p.1.isLt; have := p'.1.isLt
  exact Prod.ext (Fin.ext (by omega)) (Fin.ext (by omega))

omit [FloatOps F] in
theorem rows_split (d : Dev nD) (f : Buf (Elt F) (oLoc d)) :
    (oLoc d ↦{fullShare} f : sProp 𝕄) = bigSep Finset.univ fun p : Fin 2 × Fin 16 => oLoc d ↦[oSet p.1 p.2]{fullShare} f := by
  rw [← pointsTo_biUnion Finset.univ (ℓ := oLoc d) (fun p : Fin 2 × Fin 16 => oSet p.1 p.2) oSets_disjoint, oSets_cover]

omit [FloatOps F] in
/-- The three arrays whole are every tile's pieces. -/
theorem tiles_eq (d : Dev nD) (fE : Buf (Elt F) (eLoc d)) (fI : Buf (Elt F) (iLoc d)) (g : Buf (Elt F) (oLoc d)) :
    (iprop((eLoc d ↦{fullShare} fE) ∗ (iLoc d ↦{fullShare} fI) ∗ oLoc d ↦{fullShare} g) : sProp 𝕄)
      = bigSep Finset.univ fun c : Fin 2 => bigSep Finset.univ fun j : Fin 16 => goP d fE fI c j g := by
  rw [shares_eq fE, shares_eq fI, rows_split, ← bigSep_sep', ← bigSep_sep', bigSep_univ_prod]
  rfl

/-! ## The launch's own resources -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The call on the TensorCore -/

omit [FloatOps F] in
theorem unscopedBufs_eq (d : Dev nD) (W : (b : Ref sig .tc) → Buf (Elt F) ((d.tc : Thread nD τ).loc b)) :
    (unscopedBufs d W : sProp 𝕄) = iprop((eLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = (iprop((eLoc d ↦{fullShare} m (eLoc d)) ∗ (iLoc d ↦{fullShare} m (iLoc d)) ∗ oLoc d ↦{fullShare} m (oLoc d)) : sProp 𝕄) :=
  (tiles_eq d (m (eLoc d)) (m (iLoc d)) (m (oLoc d))).symm
theorem dn0_eq (d : Dev nD) : (bigSep Finset.univ fun c : Fin ((K (F := F)).nCore 0) => (P m).dn 0 d c)
    = (iprop((eLoc d ↦{fullShare} m (eLoc d)) ∗ (iLoc d ↦{fullShare} m (iLoc d)) ∗ oLoc d ↦{fullShare} outD m d) : sProp 𝕄) :=
  (tiles_eq d (m (eLoc d)) (m (iLoc d)) (outD m d)).symm

abbrev FIN (d : Dev nD) : sProp 𝕄 := iprop((eLoc d ↦{fullShare} m (eLoc d)) ∗ (iLoc d ↦{fullShare} m (iLoc d)) ∗ oLoc d ↦{fullShare} outD m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hbufs, Hts, -⟩, -⟩
  iapply ((K (F := F)).wp_run (D (F := F)) 𝒱 (EH := EH) (P := P m) κ d 0) $$ [Hst Hbufs Hb Hts]
  isplitr; · iexact Hctx
  isplitl [Hst]; · iexact Hst
  isplitl [Hbufs]
  · rw [st0_eq]
    iexact Hbufs
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (eLoc d) = m (eLoc d) ∧ s'.mem.mem (iLoc d) = m (iLoc d) ∧ s'.mem.mem (oLoc d) = outD m d

theorem hfin (d : Dev nD) (s' : Phys nD τ sig (Elt F)) : iprop(FIN m d ∗ SI s') ⊢ (⌜fq m d s'⌝ : sProp 𝕄) := by
  iintro ⟨⟨He, Hi, Ho⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := outD m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (eLoc c) = m (eLoc c) ∧ r.2.mem (iLoc c) = m (iLoc c) ∧ r.2.mem (oLoc c) = outD m c) ∧ r.2.sem = fun _ => 0

theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Value.lean ====
/-
  The reference's gather read at an index, and what the precondition says of the index words.
-/
module

public import Idealize.ShloMosaic.Lib.ValueIdxCore
public import proofs.«01_k».proof.Proof.Steps
public import proofs.«01_k».proof.Proof.Gen.GatherRefIdeal
public import proofs.«01_k».proof.Proof.Gen.Pre_idx_in_rows

@[expose] public section

noncomputable section

namespace Cert.Proof.Value

open Cert.GatherRefIdeal Cert.GatherRefIdeal.Facts₀ Cert.Proof.Steps
open Idealize.ShloMosaic Idealize.ShloMosaic.ValueIdx

/-! ## The precondition -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem lt_of_bounds : ∀ v : BitVec 32, IntOp.andi (IntOp.cmpi .sge v 0#32) (IntOp.cmpi .slt v 2048#32) = 1#1 → v.toNat < 2048 := by
  intro v e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem inRange_of_pre {F : FTy → Type} [FloatOps F] (E : FVec F S256x2048 .f32) (I : IVec S64x128 32)
    (h : Cert.Pre_idx_in_rows.fn (F := F) E I = fun _ => 1#1) : InRange I := fun j => by
  have e := congrFun h j
  simp only [Cert.Pre_idx_in_rows.fn, andi, cmpi, broadcastInDim, constantI] at e
  exact lt_of_bounds _ e

/-! ## The reference's gather -/

variable {α : Type}

/-- The gather's dimension numbers. -/
abbrev D : GatherDims S256x2048 S8x1024x1 S256x8x1024 := gather_S256x2048_S8x1024x1_S256x8x1024_0_1_n_n_1_2_2561

/-- A table's columns taken at the words of a block of start indices: entry `(r, b, t)` is row `r` of the table at the
start index `(b, t)`, read signed and kept within the table. -/
theorem gather_cols (x : S256x2048.Idx → α) (idx : IVec S8x1024x1 32) (r : Fin 256) (b : Fin 8) (t : Fin 1024) :
    Host.gather D x idx (ix3 r b t)
      = x (ix2 r ⟨min (idx (ix3 b t (0 : Fin 1))).toInt.toNat 2047, by omega⟩) := by
  unfold Host.gather
  congr 1
  funext a
  refine Fin.ext ?_
  show D.start (ix3 r b t) idx a + D.batchCoord (ix3 r b t) a + D.offCoord (ix3 r b t) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ D.startIndexMap from show (0 : Fin 2) ∉ [(1 : Fin 2)] by decide)]
    unfold GatherDims.offCoord
    rw [dif_pos ((GatherDims.mem_sKept _ _).mpr ⟨show (0 : Fin 2) ∉ [(1 : Fin 2)] by decide, List.not_mem_nil⟩)]
    show 0 + 0 + r.val = r.val
    omega
  · rw [GatherDims.offCoord_eq_zero _ _ _ (fun h => ((GatherDims.mem_sKept _ _).mp h).1 (List.mem_singleton.mpr rfl))]
    unfold GatherDims.start
    rw [dif_pos (show (1 : Fin 2) ∈ D.startIndexMap from List.mem_singleton.mpr rfl)]
    have hsi : D.siIdx (ix3 r b t) ⟨List.idxOf (1 : Fin 2) D.startIndexMap, List.idxOf_lt_length_iff.2 (List.mem_singleton.mpr rfl)⟩
        = ix3 b t (0 : Fin 1) := by
      funext c; refine Fin.ext ?_
      match c with
      | ⟨0, _⟩ => rfl
      | ⟨1, _⟩ => rfl
      | ⟨2, _⟩ => rfl
    rw [hsi]
    rfl

/-- The reference's result from the table and the index words. -/
abbrev refOut (E : S256x2048.Idx → α) (I : IVec S64x128 32) : S8x256x1024.Idx → α :=
  transpose S8x256x1024 [1, 0, 2] (Host.gather D E
    (broadcastInDim S8x1024x1 ![0, 1] bcast_S8x1024_S8x1024x1_0_1
      (select (cmpi .slt (shapeCast _ I shapeCasts_S64x128_S8x1024) (broadcastInDim S8x1024 ![] bcast_S_S8x1024 (constantI S_ 32 0#32)))
        (addi (shapeCast _ I shapeCasts_S64x128_S8x1024) (broadcastInDim S8x1024 ![] bcast_S_S8x1024 (constantI S_ 32 2048#32)))
        (shapeCast _ I shapeCasts_S64x128_S8x1024)))) transposes_S256x8x1024_S8x256x1024_1_0_2

/-- The index words by blocks of 1024. -/
theorem blocks_apply (I : IVec S64x128 32) (b : Fin 8) (t : Fin 1024) :
    shapeCast S8x1024 I shapeCasts_S64x128_S8x1024 (ix2 b t) = word I (8 * b.val + t.val / 128) (t.val % 128) := by
  refine shapeCast_apply I _ _ _ ?_
  rw [Shape.rowMajor_val_two, Shape.rowMajor_val_two]
  show (8 * b.val + t.val / 128) % 64 * 128 + t.val % 128 % 128 = b.val * 1024 + t.val
  omega

/-- A word in range is not negative. -/
theorem not_slt {v : BitVec 32} (h : v.toNat < 2048) : IntOp.cmpi .slt v 0#32 = 0#1 := by
  simp only [IntOp.cmpi, BitVec.slt_eq_decide, BitVec.toInt_eq_toNat_cond, BitVec.toNat_ofNat]
  rw [if_pos (by omega), decide_eq_false (by omega)]
  rfl

theorem toInt_small {v : BitVec 32} (h : v.toNat < 2048) : min v.toInt.toNat 2047 = v.toNat % 2048 := by
  rw [BitVec.toInt_eq_toNat_cond, if_pos (by omega)]
  omega

/-- Of index words in range the reference's result is the table read at the words. -/
theorem refOut_apply (E : S256x2048.Idx → α) (I : IVec S64x128 32) (hI : InRange I) (b : Fin 8) (r : Fin 256) (t : Fin 1024) :
    refOut E I (ix3 b r t)
      = E (ix2 r ⟨(word I (8 * b.val + t.val / 128) (t.val % 128)).toNat % 2048, Nat.mod_lt _ (by decide)⟩) := by
  have hw : (word I (8 * b.val + t.val / 128) (t.val % 128)).toNat < 2048 := hI _
  refine (transpose_apply [1, 0, 2] _ _ (ix3 b r t) (ix3 r b t) fun c => match c with | ⟨0, _⟩ => rfl | ⟨1, _⟩ => rfl | ⟨2, _⟩ => rfl).trans ?_
  rw [gather_cols]
  congr 2
  refine Fin.ext ?_
  refine Eq.trans ?_ (toInt_small hw)
  have e : ∀ z : S8x1024.Idx, z = ix2 b t → (select (cmpi .slt (shapeCast S8x1024 I shapeCasts_S64x128_S8x1024) (broadcastInDim S8x1024 ![] bcast_S_S8x1024 (constantI S_ 32 0#32)))
        (addi (shapeCast S8x1024 I shapeCasts_S64x128_S8x1024) (broadcastInDim S8x1024 ![] bcast_S_S8x1024 (constantI S_ 32 2048#32)))
        (shapeCast S8x1024 I shapeCasts_S64x128_S8x1024)) z = word I (8 * b.val + t.val / 128) (t.val % 128) := by
    rintro z rfl
    simp only [select, cmpi, broadcastInDim, constantI, blocks_apply]
    rw [not_slt hw]
    rfl
  refine congrArg (fun v : BitVec 32 => min v.toInt.toNat 2047) (e _ ?_)
  funext c
  match c with
  | ⟨0, _⟩ => rfl
  | ⟨1, _⟩ => rfl

end Cert.Proof.Value

end
-- ==== Proof.TwoRegion0.lean ====
/-
  The first tensor-core call of the two: its body at every grid point, and what it leaves.
-/
module

public import proofs.«01_k».proof.Proof.Gen.CodesIdeal.Launch
public import proofs.«01_k».proof.Proof.Gen.CodesIdeal.Skeleton
public import proofs.«01_k».proof.Proof.Gen.CodesIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

theorem liveAt0_0 : ∀ t : Fin cfg0.N, cfg0.idle 0 (grid0.coords t) = false := fun _ => rfl
theorem liveAt0_1 : ∀ t : Fin cfg0.N, cfg0.idle 1 (grid0.coords t) = false := fun _ => rfl

theorem liveAt0_2 : ∀ t : Fin cfg0.N, cfg0.idle 2 (grid0.coords t) = false := fun _ => rfl
theorem liveAt0_3 : ∀ t : Fin cfg0.N, cfg0.idle 3 (grid0.coords t) = false := fun _ => rfl

theorem liveAt0_4 : ∀ t : Fin cfg0.N, cfg0.idle 4 (grid0.coords t) = false := fun _ => rfl

theorem idle0 : ∀ t : Fin cfg0.N, ¬cond0_1 (grid0.coords t) →
    (cfg0.idle 5 (grid0.coords t) = true ∧ (cfg0.win 5).flush t = false) ∧ (cfg0.idle 6 (grid0.coords t) = true ∧ (cfg0.win 6).flush t = false) ∧ (cfg0.idle 7 (grid0.coords t) = true ∧ (cfg0.win 7).flush t = false) ∧ (cfg0.idle 8 (grid0.coords t) = true ∧ (cfg0.win 8).flush t = false) := by decide +kernel

theorem live0 : ∀ t : Fin cfg0.N, cond0_1 (grid0.coords t) →
    cfg0.idle 5 (grid0.coords t) = false ∧ cfg0.idle 6 (grid0.coords t) = false ∧ cfg0.idle 7 (grid0.coords t) = false ∧ cfg0.idle 8 (grid0.coords t) = false := by decide +kernel

abbrev VO0_4 : View sig .tc .vmem S8x128 .i32 := (Memref.whole cc0_stg4_0 : Memref sig .tc .vmem S8x128 .i32).view
abbrev VO0_5 : View sig .tc .vmem S1x2048 .f32 := (Memref.whole cc0_stg5_0 : Memref sig .tc .vmem S1x2048 .f32).view

abbrev VO0_6 : View sig .tc .smem S1 .f32 := (Memref.whole cc0_stg6_0 : Memref sig .tc .smem S1 .f32).view
abbrev VO0_7 : View sig .tc .vmem S1x1 .f32 := (Memref.whole cc0_stg7_0 : Memref sig .tc .vmem S1x1 .f32).view

abbrev VO0_8 : View sig .tc .vmem S1x1 .f32 := (Memref.whole cc0_stg8_0 : Memref sig .tc .vmem S1x1 .f32).view

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)

abbrev scM0_0 : Memref sig .tc .vmem S1x2048 .f32 := Memref.whole cc0_scratch0
abbrev scM0_1 : Memref sig .tc .smem S1x1 .f32 := Memref.whole cc0_scratch1

abbrev VS0_0 : View sig .tc .vmem S1x2048 .f32 := scM0_0.view
abbrev VS0_1 : View sig .tc .smem S1x1 .f32 := scM0_1.view

/-- All that a step leaves: its five outputs and the two scratch buffers. -/
abbrev Outs (F : FTy → Type) : Type := Vec F S8x128 .i32 × Vec F S1x2048 .f32 × Vec F S1 .f32 × Vec F S1x1 .f32 × Vec F S1x1 .f32 × Vec F S1x2048 .f32 × Vec F S1x1 .f32

/-- The two scratch buffers held as `A` and `B`, beside the other buffers and the generator. -/
abbrev PhiAt0 (c : Dev nD) (A B : sProp 𝕄) : sProp 𝕄 :=
  iprop(iprop(A ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_scratch0), ((c : Thread nD τ).loc cc1_scratch0) ↦{fullShare} f) ∗ B ∗ (∃ f : Buf (Elt F) ((c : Thread nD τ).loc cc1_stg3_0), ((c : Thread nD τ).loc cc1_stg3_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_scratch1), ((c : Thread nD τ).loc cc1_scratch1) ↦{fullShare} f)) ∗ (∃ r, prngReg c r))

theorem PhiA0_eq (c : Dev nD) :
    (Pipeline.ΦA spec0 c : sProp 𝕄)
      = PhiAt0 c iprop(∃ d, owns c.tc scM0_0 fullShare d) iprop(∃ d, owns c.tc scM0_1 fullShare d) := by
  unfold Pipeline.ΦA; rw [scopedRest0_eq]; simp only [scM0_0, scM0_1, owns_whole]; try rfl
section
variable (c : Dev nD) (i : grid0.Coords) (a1 : Memref sig .tc .vmem S1x256x1024 .f32) (w1 : a1.IsWhole)
  (a2 : Memref sig .tc .vmem S256x2048 .f32) (w2 : a2.IsWhole)
  (a3 : Memref sig .tc .vmem S1x2048 .f32) (w3 : a3.IsWhole)
  (a4 : Memref sig .tc .smem S1 .f32) (w4 : a4.IsWhole)
  (a5 : Memref sig .tc .vmem S8x128 .i32) (w5 : a5.IsWhole)
  (a6 : Memref sig .tc .vmem S1x2048 .f32) (w6 : a6.IsWhole)
  (a7 : Memref sig .tc .smem S1 .f32) (w7 : a7.IsWhole)
  (a8 : Memref sig .tc .vmem S1x1 .f32) (w8 : a8.IsWhole)
  (a9 : Memref sig .tc .vmem S1x1 .f32) (w9 : a9.IsWhole)
  (a10 : Memref sig .tc .vmem S1x2048 .f32) (w10 : a10.IsWhole)
  (a11 : Memref sig .tc .smem S1x1 .f32) (w11 : a11.IsWhole)
include c i a1 w1 a2 w2 a3 w3 a4 w4 a5 w5 a6 w6 a7 w7 a8 w8 a9 w9 a10 w10 a11 w11

set_option maxHeartbeats 1000000 in

noncomputable def run0_A (hc0 : cond0_0 i) (hc1 : ¬cond0_1 i)
    (x0 : Vec F S1x256x1024 .f32) (x1 : Vec F S256x2048 .f32) (x2 : Vec F S1x2048 .f32) (x3 : Vec F S1 .f32) :
    Σ' (L4 : List (View.Piece (Elt F) S8x128 .i32)), Σ' (L5 : List (View.Piece (Elt F) S1x2048 .f32)), Σ' (L6 : List (View.Piece (Elt F) S1 .f32)), Σ' (L7 : List (View.Piece (Elt F) S1x1 .f32)), Σ' (L8 : List (View.Piece (Elt F) S1x1 .f32)), Σ' (LS0 : List (View.Piece (Elt F) S1x2048 .f32)), { LS1 : List (View.Piece (Elt F) S1x1 .f32) //
      ∀ (xi5 : Vec F S1x2048 .f32) (xi6 : Vec F S1 .f32) (xi7 : Vec F S1x1 .f32) (xi8 : Vec F S1x1 .f32) (E : Set ℕ) (K : PUnit → sProp 𝕄),
        iprop(owns c.tc a1 fullShare x0 ∗ owns c.tc a2 fullShare x1 ∗ owns c.tc a3 fullShare x2 ∗ owns c.tc a4 fullShare x3 ∗ (∃ d, owns c.tc a5 fullShare d) ∗ owns c.tc a6 fullShare xi5 ∗ owns c.tc a7 fullShare xi6 ∗ owns c.tc a8 fullShare xi7 ∗ owns c.tc a9 fullShare xi8 ∗ (∃ d, owns c.tc a10 fullShare d) ∗ (∃ d, owns c.tc a11 fullShare d)
            ∗ (iprop(owns c.tc a1 fullShare x0 ∗ owns c.tc a2 fullShare x1 ∗ owns c.tc a3 fullShare x2 ∗ owns c.tc a4 fullShare x3 ∗ (∃ f, a5.view.loc (c : Thread nD τ) ↦[a5.view.set]{fullShare} a5.view.writes (Elt F) f L4) ∗ owns c.tc a6 fullShare xi5 ∗ owns c.tc a7 fullShare xi6 ∗ owns c.tc a8 fullShare xi7 ∗ owns c.tc a9 fullShare xi8 ∗ (∃ f, a10.view.loc (c : Thread nD τ) ↦[a10.view.set]{fullShare} a10.view.writes (Elt F) f LS0) ∗ (∃ f, a11.view.loc (c : Thread nD τ) ↦[a11.view.set]{fullShare} a11.view.writes (Elt F) f LS1)) -∗ K ⟨⟩))
          ⊢ wp frame (wpE (defs₀ (F := F)) Variants.none c none) E (cc0__tc_body i a1 w1 a2 w2 a3 w3 a4 w4 a5 w5 a6 w6 a7 w7 a8 w8 a9 w9 a10 w10 a11 w11) K } := by
  refine ⟨?_, [], [], [], [], ?_, ?_, fun xi5 xi6 xi7 xi8 E K => ?run⟩
  case run =>
    simp only [cc0__tc_body_eq_skeleton]; unfold cc0__tc_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := w1.eq_unread hf0; obtain rfl := w2.eq_unread hf1; obtain rfl := w3.eq_unread hf2; obtain rfl := w4.eq_unread hf3; obtain rfl := w6.eq_unread hf5; obtain rfl := w7.eq_unread hf6; obtain rfl := w8.eq_unread hf7; obtain rfl := w9.eq_unread hf8
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]; iexists _; iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [HS0]; iexists _; iexact HS0
    iexists _; iexact HS1

section
variable (hc0 : cond0_0 i) (hc1 : ¬cond0_1 i)
  (x0 : Vec F S1x256x1024 .f32) (x1 : Vec F S256x2048 .f32) (x2 : Vec F S1x2048 .f32) (x3 : Vec F S1 .f32)
include hc0 hc1 x0 x1 x2 x3

theorem cover0_A_4 (y : S8x128.Idx) :
    ∃ pc ∈ (run0_A c i a1 w1 a2 w2 a3 w3 a4 w4 a5 w5 a6 w6 a7 w7 a8 w8 a9 w9 a10 w10 a11 w11 hc0 hc1 x0 x1 x2 x3).1, y ∈ pc.1.set :=
  View.cover_of_tiledL _ S8x128.size (by sl_kernel_rfl) y

def out0_A_4 : Vec F S8x128 .i32 :=
  VO0_4.read (Elt F) (VO0_4.writes (Elt F) VO0_4.junk (run0_A c i a1 w1 a2 w2 a3 w3 a4 w4 a5 w5 a6 w6 a7 w7 a8 w8 a9 w9 a10 w10 a11 w11 hc0 hc1 x0 x1 x2 x3).1)

def out0_A_5 : Vec F S1x2048 .f32 :=
  VO0_5.read (Elt F) (VO0_5.writes (Elt F) VO0_5.junk (run0_A c i a1 w1 a2 w2 a3 w3 a4 w4 a5 w5 a6 w6 a7 w7 a8 w8 a9 w9 a10 w10 a11 w11 hc0 hc1 x0 x1 x2 x3).2.1)

def out0_A_6 : Vec F S1 .f32 :=
  VO0_6.read (Elt F) (VO0_6.writes (Elt F) VO0_6.junk (run0_A c i a1 w1 a2 w2 a3 w3 a4 w4 a5 w5 a6 w6 a7 w7 a8 w8 a9 w9 a10 w10 a11 w11 hc0 hc1 x0 x1 x2 x3).2.2.1)

def out0_A_7 : Vec F S1x1 .f32 :=
  VO0_7.read (Elt F) (VO0_7.writes (Elt F) VO0_7.junk (run0_A c i a1 w1 a2 w2 a3 w3 a4 w4 a5 w5 a6 w6 a7 w7 a8 w8 a9 w9 a10 w10 a11 w11 hc0 hc1 x0 x1 x2 x3).2.2.2.1)

def out0_A_8 : Vec F S1x1 .f32 :=
  VO0_8.read (Elt F) (VO0_8.writes (Elt F) VO0_8.junk (run0_A c i a1 w1 a2 w2 a3 w3 a4 w4 a5 w5 a6 w6 a7 w7 a8 w8 a9 w9 a10 w10 a11 w11 hc0 hc1 x0 x1 x2 x3).2.2.2.2.1)

theorem scover0_A_0 (y : S1x2048.Idx) :
    ∃ pc ∈ (run0_A c i a1 w1 a2 w2 a3 w3 a4 w4 a5 w5 a6 w6 a7 w7 a8 w8 a9 w9 a10 w10 a11 w11 hc0 hc1 x0 x1 x2 x3).2.2.2.2.2.1, y ∈ pc.1.set :=
  View.cover_of_tiledL _ S1x2048.size (by sl_kernel_rfl) y

def sout0_A_0 : Vec F S1x2048 .f32 :=
  VS0_0.read (Elt F) (VS0_0.writes (Elt F) VS0_0.junk (run0_A c i a1 w1 a2 w2 a3 w3 a4 w4 a5 w5 a6 w6 a7 w7 a8 w8 a9 w9 a10 w10 a11 w11 hc0 hc1 x0 x1 x2 x3).2.2.2.2.2.1)

theorem scover0_A_1 (y : S1x1.Idx) :
    ∃ pc ∈ (run0_A c i a1 w1 a2 w2 a3 w3 a4 w4 a5 w5 a6 w6 a7 w7 a8 w8 a9 w9 a10 w10 a11 w11 hc0 hc1 x0 x1 x2 x3).2.2.2.2.2.2.1, y ∈ pc.1.set :=
  View.cover_of_tiledL _ S1x1.size (by sl_kernel_rfl) y

def sout0_A_1 : Vec F S1x1 .f32 :=
  VS0_1.read (Elt F) (VS0_1.writes (Elt F) VS0_1.junk (run0_A c i a1 w1 a2 w2 a3 w3 a4 w4 a5 w5 a6 w6 a7 w7 a8 w8 a9 w9 a10 w10 a11 w11 hc0 hc1 x0 x1 x2 x3).2.2.2.2.2.2.1)

/-- What the grid points of kind A leave, all outputs and both scratch buffers. -/
abbrev tup0_A : Outs F :=
  (out0_A_4 c i a1 w1 a2 w2 a3 w3 a4 w4 a5 w5 a6 w6 a7 w7 a8 w8 a9 w9 a10 w10 a11 w11 hc0 hc1 x0 x1 x2 x3,
    out0_A_5 c i a1 w1 a2 w2 a3 w3 a4 w4 a5 w5 a6 w6 a7 w7 a8 w8 a9 w9 a10 w10 a11 w11 hc0 hc1 x0 x1 x2 x3,
    out0_A_6 c i a1 w1 a2 w2 a3 w3 a4 w4 a5 w5 a6 w6 a7 w7 a8 w8 a9 w9 a10 w10 a11 w11 hc0 hc1 x0 x1 x2 x3,
    out0_A_7 c i a1 w1 a2 w2 a3 w3 a4 w4 a5 w5 a6 w6 a7 w7 a8 w8 a9 w9 a10 w10 a11 w11 hc0 hc1 x0 x1 x2 x3,
    out0_A_8 c i a1 w1 a2 w2 a3 w3 a4 w4 a5 w5 a6 w6 a7 w7 a8 w8 a9 w9 a10 w10 a11 w11 hc0 hc1 x0 x1 x2 x3,
    sout0_A_0 c i a1 w1 a2 w2 a3 w3 a4 w4 a5 w5 a6 w6 a7 w7 a8 w8 a9 w9 a10 w10 a11 w11 hc0 hc1 x0 x1 x2 x3,
    sout0_A_1 c i a1 w1 a2 w2 a3 w3 a4 w4 a5 w5 a6 w6 a7 w7 a8 w8 a9 w9 a10 w10 a11 w11 hc0 hc1 x0 x1 x2 x3)

end

set_option maxHeartbeats 1000000 in

noncomputable def run0_B (hc0 : ¬cond0_0 i) (hc1 : ¬cond0_1 i)
    (x0 : Vec F S1x256x1024 .f32) (x1 : Vec F S256x2048 .f32) (x2 : Vec F S1x2048 .f32) (x3 : Vec F S1 .f32) (xs0 : Vec F S1x2048 .f32) (xs1 : Vec F S1x1 .f32) :
    Σ' (L4 : List (View.Piece (Elt F) S8x128 .i32)), Σ' (L5 : List (View.Piece (Elt F) S1x2048 .f32)), Σ' (L6 : List (View.Piece (Elt F) S1 .f32)), Σ' (L7 : List (View.Piece (Elt F) S1x1 .f32)), Σ' (L8 : List (View.Piece (Elt F) S1x1 .f32)), Σ' (LS0 : List (View.Piece (Elt F) S1x2048 .f32)), { LS1 : List (View.Piece (Elt F) S1x1 .f32) //
      ∀ (xi5 : Vec F S1x2048 .f32) (xi6 : Vec F S1 .f32) (xi7 : Vec F S1x1 .f32) (xi8 : Vec F S1x1 .f32) (E : Set ℕ) (K : PUnit → sProp 𝕄),
        iprop(owns c.tc a1 fullShare x0 ∗ owns c.tc a2 fullShare x1 ∗ owns c.tc a3 fullShare x2 ∗ owns c.tc a4 fullShare x3 ∗ (∃ d, owns c.tc a5 fullShare d) ∗ owns c.tc a6 fullShare xi5 ∗ owns c.tc a7 fullShare xi6 ∗ owns c.tc a8 fullShare xi7 ∗ owns c.tc a9 fullShare xi8 ∗ owns c.tc a10 fullShare xs0 ∗ owns c.tc a11 fullShare xs1
            ∗ (iprop(owns c.tc a1 fullShare x0 ∗ owns c.tc a2 fullShare x1 ∗ owns c.tc a3 fullShare x2 ∗ owns c.tc a4 fullShare x3 ∗ (∃ f, a5.view.loc (c : Thread nD τ) ↦[a5.view.set]{fullShare} a5.view.writes (Elt F) f L4) ∗ owns c.tc a6 fullShare xi5 ∗ owns c.tc a7 fullShare xi6 ∗ owns c.tc a8 fullShare xi7 ∗ owns c.tc a9 fullShare xi8 ∗ (∃ f, a10.view.loc (c : Thread nD τ) ↦[a10.view.set]{fullShare} a10.view.writes (Elt F) f LS0) ∗ (∃ f, a11.view.loc (c : Thread nD τ) ↦[a11.view.set]{fullShare} a11.view.writes (Elt F) f LS1)) -∗ K ⟨⟩))
          ⊢ wp frame (wpE (defs₀ (F := F)) Variants.none c none) E (cc0__tc_body i a1 w1 a2 w2 a3 w3 a4 w4 a5 w5 a6 w6 a7 w7 a8 w8 a9 w9 a10 w10 a11 w11) K } := by
  refine ⟨?_, [], [], [], [], ?_, ?_, fun xi5 xi6 xi7 xi8 E K => ?run⟩
  case run =>
    simp only [cc0__tc_body_eq_skeleton]; unfold cc0__tc_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := w1.eq_unread hf0; obtain rfl := w2.eq_unread hf1; obtain rfl := w3.eq_unread hf2; obtain rfl := w4.eq_unread hf3; obtain rfl := w6.eq_unread hf5; obtain rfl := w7.eq_unread hf6; obtain rfl := w8.eq_unread hf7; obtain rfl := w9.eq_unread hf8; obtain rfl := w10.eq_unread hfs0; obtain rfl := w11.eq_unread hfs1
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]; iexists _; iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [HS0]; iexists _; iexact HS0
    iexists _; iexact HS1

section
variable (hc0 : ¬cond0_0 i) (hc1 : ¬cond0_1 i)
  (x0 : Vec F S1x256x1024 .f32) (x1 : Vec F S256x2048 .f32) (x2 : Vec F S1x2048 .f32) (x3 : Vec F S1 .f32) (xs0 : Vec F S1x2048 .f32) (xs1 : Vec F S1x1 .f32)
include hc0 hc1 x0 x1 x2 x3 xs0 xs1

theorem cover0_B_4 (y : S8x128.Idx) :
    ∃ pc ∈ (run0_B c i a1 w1 a2 w2 a3 w3 a4 w4 a5 w5 a6 w6 a7 w7 a8 w8 a9 w9 a10 w10 a11 w11 hc0 hc1 x0 x1 x2 x3 xs0 xs1).1, y ∈ pc.1.set :=
  View.cover_of_tiledL _ S8x128.size (by sl_kernel_rfl) y

def out0_B_4 : Vec F S8x128 .i32 :=
  VO0_4.read (Elt F) (VO0_4.writes (Elt F) VO0_4.junk (run0_B c i a1 w1 a2 w2 a3 w3 a4 w4 a5 w5 a6 w6 a7 w7 a8 w8 a9 w9 a10 w10 a11 w11 hc0 hc1 x0 x1 x2 x3 xs0 xs1).1)

def out0_B_5 : Vec F S1x2048 .f32 :=
  VO0_5.read (Elt F) (VO0_5.writes (Elt F) VO0_5.junk (run0_B c i a1 w1 a2 w2 a3 w3 a4 w4 a5 w5 a6 w6 a7 w7 a8 w8 a9 w9 a10 w10 a11 w11 hc0 hc1 x0 x1 x2 x3 xs0 xs1).2.1)

def out0_B_6 : Vec F S1 .f32 :=
  VO0_6.read (Elt F) (VO0_6.writes (Elt F) VO0_6.junk (run0_B c i a1 w1 a2 w2 a3 w3 a4 w4 a5 w5 a6 w6 a7 w7 a8 w8 a9 w9 a10 w10 a11 w11 hc0 hc1 x0 x1 x2 x3 xs0 xs1).2.2.1)

def out0_B_7 : Vec F S1x1 .f32 :=
  VO0_7.read (Elt F) (VO0_7.writes (Elt F) VO0_7.junk (run0_B c i a1 w1 a2 w2 a3 w3 a4 w4 a5 w5 a6 w6 a7 w7 a8 w8 a9 w9 a10 w10 a11 w11 hc0 hc1 x0 x1 x2 x3 xs0 xs1).2.2.2.1)

def out0_B_8 : Vec F S1x1 .f32 :=
  VO0_8.read (Elt F) (VO0_8.writes (Elt F) VO0_8.junk (run0_B c i a1 w1 a2 w2 a3 w3 a4 w4 a5 w5 a6 w6 a7 w7 a8 w8 a9 w9 a10 w10 a11 w11 hc0 hc1 x0 x1 x2 x3 xs0 xs1).2.2.2.2.1)

theorem scover0_B_0 (y : S1x2048.Idx) :
    ∃ pc ∈ (run0_B c i a1 w1 a2 w2 a3 w3 a4 w4 a5 w5 a6 w6 a7 w7 a8 w8 a9 w9 a10 w10 a11 w11 hc0 hc1 x0 x1 x2 x3 xs0 xs1).2.2.2.2.2.1, y ∈ pc.1.set :=
  View.cover_of_tiledL _ S1x2048.size (by sl_kernel_rfl) y

def sout0_B_0 : Vec F S1x2048 .f32 :=
  VS0_0.read (Elt F) (VS0_0.writes (Elt F) VS0_0.junk (run0_B c i a1 w1 a2 w2 a3 w3 a4 w4 a5 w5 a6 w6 a7 w7 a8 w8 a9 w9 a10 w10 a11 w11 hc0 hc1 x0 x1 x2 x3 xs0 xs1).2.2.2.2.2.1)

theorem scover0_B_1 (y : S1x1.Idx) :
    ∃ pc ∈ (run0_B c i a1 w1 a2 w2 a3 w3 a4 w4 a5 w5 a6 w6 a7 w7 a8 w8 a9 w9 a10 w10 a11 w11 hc0 hc1 x0 x1 x2 x3 xs0 xs1).2.2.2.2.2.2.1, y ∈ pc.1.set :=
  View.cover_of_tiledL _ S1x1.size (by sl_kernel_rfl) y

def sout0_B_1 : Vec F S1x1 .f32 :=
  VS0_1.read (Elt F) (VS0_1.writes (Elt F) VS0_1.junk (run0_B c i a1 w1 a2 w2 a3 w3 a4 w4 a5 w5 a6 w6 a7 w7 a8 w8 a9 w9 a10 w10 a11 w11 hc0 hc1 x0 x1 x2 x3 xs0 xs1).2.2.2.2.2.2.1)

/-- What the grid points of kind B leave, all outputs and both scratch buffers. -/
abbrev tup0_B : Outs F :=
  (out0_B_4 c i a1 w1 a2 w2 a3 w3 a4 w4 a5 w5 a6 w6 a7 w7 a8 w8 a9 w9 a10 w10 a11 w11 hc0 hc1 x0 x1 x2 x3 xs0 xs1,
    out0_B_5 c i a1 w1 a2 w2 a3 w3 a4 w4 a5 w5 a6 w6 a7 w7 a8 w8 a9 w9 a10 w10 a11 w11 hc0 hc1 x0 x1 x2 x3 xs0 xs1,
    out0_B_6 c i a1 w1 a2 w2 a3 w3 a4 w4 a5 w5 a6 w6 a7 w7 a8 w8 a9 w9 a10 w10 a11 w11 hc0 hc1 x0 x1 x2 x3 xs0 xs1,
    out0_B_7 c i a1 w1 a2 w2 a3 w3 a4 w4 a5 w5 a6 w6 a7 w7 a8 w8 a9 w9 a10 w10 a11 w11 hc0 hc1 x0 x1 x2 x3 xs0 xs1,
    out0_B_8 c i a1 w1 a2 w2 a3 w3 a4 w4 a5 w5 a6 w6 a7 w7 a8 w8 a9 w9 a10 w10 a11 w11 hc0 hc1 x0 x1 x2 x3 xs0 xs1,
    sout0_B_0 c i a1 w1 a2 w2 a3 w3 a4 w4 a5 w5 a6 w6 a7 w7 a8 w8 a9 w9 a10 w10 a11 w11 hc0 hc1 x0 x1 x2 x3 xs0 xs1,
    sout0_B_1 c i a1 w1 a2 w2 a3 w3 a4 w4 a5 w5 a6 w6 a7 w7 a8 w8 a9 w9 a10 w10 a11 w11 hc0 hc1 x0 x1 x2 x3 xs0 xs1)

end

set_option maxHeartbeats 1000000 in

noncomputable def run0_C (hc0 : ¬cond0_0 i) (hc1 : cond0_1 i)
    (x0 : Vec F S1x256x1024 .f32) (x1 : Vec F S256x2048 .f32) (x2 : Vec F S1x2048 .f32) (x3 : Vec F S1 .f32) (xs0 : Vec F S1x2048 .f32) (xs1 : Vec F S1x1 .f32) :
    Σ' (L4 : List (View.Piece (Elt F) S8x128 .i32)), Σ' (L5 : List (View.Piece (Elt F) S1x2048 .f32)), Σ' (L6 : List (View.Piece (Elt F) S1 .f32)), Σ' (L7 : List (View.Piece (Elt F) S1x1 .f32)), Σ' (L8 : List (View.Piece (Elt F) S1x1 .f32)), Σ' (LS0 : List (View.Piece (Elt F) S1x2048 .f32)), { LS1 : List (View.Piece (Elt F) S1x1 .f32) //
      ∀ (E : Set ℕ) (K : PUnit → sProp 𝕄),
        iprop(owns c.tc a1 fullShare x0 ∗ owns c.tc a2 fullShare x1 ∗ owns c.tc a3 fullShare x2 ∗ owns c.tc a4 fullShare x3 ∗ (∃ d, owns c.tc a5 fullShare d) ∗ (∃ d, owns c.tc a6 fullShare d) ∗ (∃ d, owns c.tc a7 fullShare d) ∗ (∃ d, owns c.tc a8 fullShare d) ∗ (∃ d, owns c.tc a9 fullShare d) ∗ owns c.tc a10 fullShare xs0 ∗ owns c.tc a11 fullShare xs1
            ∗ (iprop(owns c.tc a1 fullShare x0 ∗ owns c.tc a2 fullShare x1 ∗ owns c.tc a3 fullShare x2 ∗ owns c.tc a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ f, a10.view.loc (c : Thread nD τ) ↦[a10.view.set]{fullShare} a10.view.writes (Elt F) f LS0) ∗ (∃ f, a11.view.loc (c : Thread nD τ) ↦[a11.view.set]{fullShare} a11.view.writes (Elt F) f LS1)) -∗ K ⟨⟩))
          ⊢ wp frame (wpE (defs₀ (F := F)) Variants.none c none) E (cc0__tc_body i a1 w1 a2 w2 a3 w3 a4 w4 a5 w5 a6 w6 a7 w7 a8 w8 a9 w9 a10 w10 a11 w11) K } := by
  refine ⟨?_, ?_, ?_, ?_, ?_, ?_, ?_, fun E K => ?run⟩
  case run =>
    simp only [cc0__tc_body_eq_skeleton]; unfold cc0__tc_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := w1.eq_unread hf0; obtain rfl := w2.eq_unread hf1; obtain rfl := w3.eq_unread hf2; obtain rfl := w4.eq_unread hf3; obtain rfl := w10.eq_unread hfs0; obtain rfl := w11.eq_unread hfs1
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]; iexists _; iexact H4; isplitl [H5]; iexists _; iexact H5; isplitl [H6]; iexists _; iexact H6
    isplitl [H7]; iexists _; iexact H7; isplitl [H8]; iexists _; iexact H8; isplitl [HS0]; iexists _; iexact HS0
    iexists _; iexact HS1

section
variable (hc0 : ¬cond0_0 i) (hc1 : cond0_1 i)
  (x0 : Vec F S1x256x1024 .f32) (x1 : Vec F S256x2048 .f32) (x2 : Vec F S1x2048 .f32) (x3 : Vec F S1 .f32) (xs0 : Vec F S1x2048 .f32) (xs1 : Vec F S1x1 .f32)
include hc0 hc1 x0 x1 x2 x3 xs0 xs1

theorem cover0_C_4 (y : S8x128.Idx) :
    ∃ pc ∈ (run0_C c i a1 w1 a2 w2 a3 w3 a4 w4 a5 w5 a6 w6 a7 w7 a8 w8 a9 w9 a10 w10 a11 w11 hc0 hc1 x0 x1 x2 x3 xs0 xs1).1, y ∈ pc.1.set :=
  View.cover_of_tiledL _ S8x128.size (by sl_kernel_rfl) y

def out0_C_4 : Vec F S8x128 .i32 :=
  VO0_4.read (Elt F) (VO0_4.writes (Elt F) VO0_4.junk (run0_C c i a1 w1 a2 w2 a3 w3 a4 w4 a5 w5 a6 w6 a7 w7 a8 w8 a9 w9 a10 w10 a11 w11 hc0 hc1 x0 x1 x2 x3 xs0 xs1).1)

theorem cover0_C_5 (y : S1x2048.Idx) :
    ∃ pc ∈ (run0_C c i a1 w1 a2 w2 a3 w3 a4 w4 a5 w5 a6 w6 a7 w7 a8 w8 a9 w9 a10 w10 a11 w11 hc0 hc1 x0 x1 x2 x3 xs0 xs1).2.1, y ∈ pc.1.set :=
  View.cover_of_tiledL _ S1x2048.size (by sl_kernel_rfl) y

def out0_C_5 : Vec F S1x2048 .f32 :=
  VO0_5.read (Elt F) (VO0_5.writes (Elt F) VO0_5.junk (run0_C c i a1 w1 a2 w2 a3 w3 a4 w4 a5 w5 a6 w6 a7 w7 a8 w8 a9 w9 a10 w10 a11 w11 hc0 hc1 x0 x1 x2 x3 xs0 xs1).2.1)

theorem cover0_C_6 (y : S1.Idx) :
    ∃ pc ∈ (run0_C c i a1 w1 a2 w2 a3 w3 a4 w4 a5 w5 a6 w6 a7 w7 a8 w8 a9 w9 a10 w10 a11 w11 hc0 hc1 x0 x1 x2 x3 xs0 xs1).2.2.1, y ∈ pc.1.set :=
  View.cover_of_tiledL _ S1.size (by sl_kernel_rfl) y

def out0_C_6 : Vec F S1 .f32 :=
  VO0_6.read (Elt F) (VO0_6.writes (Elt F) VO0_6.junk (run0_C c i a1 w1 a2 w2 a3 w3 a4 w4 a5 w5 a6 w6 a7 w7 a8 w8 a9 w9 a10 w10 a11 w11 hc0 hc1 x0 x1 x2 x3 xs0 xs1).2.2.1)

theorem cover0_C_7 (y : S1x1.Idx) :
    ∃ pc ∈ (run0_C c i a1 w1 a2 w2 a3 w3 a4 w4 a5 w5 a6 w6 a7 w7 a8 w8 a9 w9 a10 w10 a11 w11 hc0 hc1 x0 x1 x2 x3 xs0 xs1).2.2.2.1, y ∈ pc.1.set :=
  View.cover_of_tiledL _ S1x1.size (by sl_kernel_rfl) y

def out0_C_7 : Vec F S1x1 .f32 :=
  VO0_7.read (Elt F) (VO0_7.writes (Elt F) VO0_7.junk (run0_C c i a1 w1 a2 w2 a3 w3 a4 w4 a5 w5 a6 w6 a7 w7 a8 w8 a9 w9 a10 w10 a11 w11 hc0 hc1 x0 x1 x2 x3 xs0 xs1).2.2.2.1)

theorem cover0_C_8 (y : S1x1.Idx) :
    ∃ pc ∈ (run0_C c i a1 w1 a2 w2 a3 w3 a4 w4 a5 w5 a6 w6 a7 w7 a8 w8 a9 w9 a10 w10 a11 w11 hc0 hc1 x0 x1 x2 x3 xs0 xs1).2.2.2.2.1, y ∈ pc.1.set :=
  View.cover_of_tiledL _ S1x1.size (by sl_kernel_rfl) y

def out0_C_8 : Vec F S1x1 .f32 :=
  VO0_8.read (Elt F) (VO0_8.writes (Elt F) VO0_8.junk (run0_C c i a1 w1 a2 w2 a3 w3 a4 w4 a5 w5 a6 w6 a7 w7 a8 w8 a9 w9 a10 w10 a11 w11 hc0 hc1 x0 x1 x2 x3 xs0 xs1).2.2.2.2.1)

theorem scover0_C_0 (y : S1x2048.Idx) :
    ∃ pc ∈ (run0_C c i a1 w1 a2 w2 a3 w3 a4 w4 a5 w5 a6 w6 a7 w7 a8 w8 a9 w9 a10 w10 a11 w11 hc0 hc1 x0 x1 x2 x3 xs0 xs1).2.2.2.2.2.1, y ∈ pc.1.set :=
  View.cover_of_tiledL _ S1x2048.size (by sl_kernel_rfl) y

def sout0_C_0 : Vec F S1x2048 .f32 :=
  VS0_0.read (Elt F) (VS0_0.writes (Elt F) VS0_0.junk (run0_C c i a1 w1 a2 w2 a3 w3 a4 w4 a5 w5 a6 w6 a7 w7 a8 w8 a9 w9 a10 w10 a11 w11 hc0 hc1 x0 x1 x2 x3 xs0 xs1).2.2.2.2.2.1)

theorem scover0_C_1 (y : S1x1.Idx) :
    ∃ pc ∈ (run0_C c i a1 w1 a2 w2 a3 w3 a4 w4 a5 w5 a6 w6 a7 w7 a8 w8 a9 w9 a10 w10 a11 w11 hc0 hc1 x0 x1 x2 x3 xs0 xs1).2.2.2.2.2.2.1, y ∈ pc.1.set :=
  View.cover_of_tiledL _ S1x1.size (by sl_kernel_rfl) y

def sout0_C_1 : Vec F S1x1 .f32 :=
  VS0_1.read (Elt F) (VS0_1.writes (Elt F) VS0_1.junk (run0_C c i a1 w1 a2 w2 a3 w3 a4 w4 a5 w5 a6 w6 a7 w7 a8 w8 a9 w9 a10 w10 a11 w11 hc0 hc1 x0 x1 x2 x3 xs0 xs1).2.2.2.2.2.2.1)

/-- What the grid points of kind C leave, all outputs and both scratch buffers. -/
abbrev tup0_C : Outs F :=
  (out0_C_4 c i a1 w1 a2 w2 a3 w3 a4 w4 a5 w5 a6 w6 a7 w7 a8 w8 a9 w9 a10 w10 a11 w11 hc0 hc1 x0 x1 x2 x3 xs0 xs1,
    out0_C_5 c i a1 w1 a2 w2 a3 w3 a4 w4 a5 w5 a6 w6 a7 w7 a8 w8 a9 w9 a10 w10 a11 w11 hc0 hc1 x0 x1 x2 x3 xs0 xs1,
    out0_C_6 c i a1 w1 a2 w2 a3 w3 a4 w4 a5 w5 a6 w6 a7 w7 a8 w8 a9 w9 a10 w10 a11 w11 hc0 hc1 x0 x1 x2 x3 xs0 xs1,
    out0_C_7 c i a1 w1 a2 w2 a3 w3 a4 w4 a5 w5 a6 w6 a7 w7 a8 w8 a9 w9 a10 w10 a11 w11 hc0 hc1 x0 x1 x2 x3 xs0 xs1,
    out0_C_8 c i a1 w1 a2 w2 a3 w3 a4 w4 a5 w5 a6 w6 a7 w7 a8 w8 a9 w9 a10 w10 a11 w11 hc0 hc1 x0 x1 x2 x3 xs0 xs1,
    sout0_C_0 c i a1 w1 a2 w2 a3 w3 a4 w4 a5 w5 a6 w6 a7 w7 a8 w8 a9 w9 a10 w10 a11 w11 hc0 hc1 x0 x1 x2 x3 xs0 xs1,
    sout0_C_1 c i a1 w1 a2 w2 a3 w3 a4 w4 a5 w5 a6 w6 a7 w7 a8 w8 a9 w9 a10 w10 a11 w11 hc0 hc1 x0 x1 x2 x3 xs0 xs1)

end

end

/-- The same at step `t`, in its own buffers. -/
abbrev at0_A (c : Dev nD) (t : Fin cfg0.N) (hc0 : cond0_0 (grid0.coords t)) (hc1 : ¬cond0_1 (grid0.coords t)) :=
  tup0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1

/-- The same at step `t`, in its own buffers. -/
abbrev at0_B (c : Dev nD) (t : Fin cfg0.N) (hc0 : ¬cond0_0 (grid0.coords t)) (hc1 : ¬cond0_1 (grid0.coords t)) :=
  tup0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1

/-- The same at step `t`, in its own buffers. -/
abbrev at0_C (c : Dev nD) (t : Fin cfg0.N) (hc0 : ¬cond0_0 (grid0.coords t)) (hc1 : cond0_1 (grid0.coords t)) :=
  tup0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1

def outsAt0 (c : Dev nD) : (n : ℕ) → n < cfg0.N → Outs F
  | 0, hn => at0_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)
  | n + 1, hn =>
    if h0 : (n + 1) % 8 = 0 then
      if h1 : (n + 1) % 8 = 7 then
        False.elim (by have hN : n + 1 < 8 := lt_of_lt_of_eq hn (show cfg0.N = 8 from N_0); omega)
      else
        at0_A c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)
    else
      if h1 : (n + 1) % 8 = 7 then
        at0_C c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2.2.1 (outsAt0 c n (Nat.lt_of_succ_lt hn)).2.2.2.2.2.2
      else
        at0_B c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2.2.1 (outsAt0 c n (Nat.lt_of_succ_lt hn)).2.2.2.2.2.2

theorem outsAt0_A (c : Dev nD) (t : Fin cfg0.N) (h0 : t.val % 8 = 0) (h1 : ¬t.val % 8 = 7) :
    outsAt0 V c t.val t.isLt = at0_A c t ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = at0_B c t (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = at0_C c t (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => PhiAt0 c (owns c.tc scM0_0 fullShare ((outsAt0 V c n hn).2.2.2.2.2.1)) (owns c.tc scM0_1 fullShare ((outsAt0 V c n hn).2.2.2.2.2.2))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = PhiAt0 c (owns c.tc scM0_0 fullShare ((outsAt0 V c n hn).2.2.2.2.2.1)) (owns c.tc scM0_1 fullShare ((outsAt0 V c n hn).2.2.2.2.2.2)) := rfl

theorem PhiS_pos (c : Dev nD) (n : ℕ) (h : n ≤ cfg0.N) (hz : n ≠ 0) :
    PhiS V c n h = PhiAt0 c (owns c.tc scM0_0 fullShare ((outsAt0 V c (n - 1) (by omega)).2.2.2.2.2.1)) (owns c.tc scM0_1 fullShare ((outsAt0 V c (n - 1) (by omega)).2.2.2.2.2.2)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
    | ⟨8, _⟩ => (outsAt0 V c t.val t.isLt).2.2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem after0_7 (c : Dev nD) (t : Fin cfg0.N) : (dat0 V c).after 7 t = (outsAt0 V c t.val t.isLt).2.2.2.1 := by dsimp only [dat0]
theorem after0_8 (c : Dev nD) (t : Fin cfg0.N) : (dat0 V c).after 8 t = (outsAt0 V c t.val t.isLt).2.2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem leaves0_0 (c : Dev nD) (t : Fin cfg0.N) : (dat0 V c).leavesExact 0 t = owns c.tc (ms0_0 t) fullShare ((dat0 V c).after 0 t) := by
  unfold Dat.leavesExact; rw [liveAt0_0 t]
theorem leaves0_1 (c : Dev nD) (t : Fin cfg0.N) : (dat0 V c).leavesExact 1 t = owns c.tc (ms0_1 t) fullShare ((dat0 V c).after 1 t) := by
  unfold Dat.leavesExact; rw [liveAt0_1 t]
theorem leaves0_2 (c : Dev nD) (t : Fin cfg0.N) : (dat0 V c).leavesExact 2 t = owns c.tc (ms0_2 t) fullShare ((dat0 V c).after 2 t) := by
  unfold Dat.leavesExact; rw [liveAt0_2 t]
theorem leaves0_3 (c : Dev nD) (t : Fin cfg0.N) : (dat0 V c).leavesExact 3 t = owns c.tc (ms0_3 t) fullShare ((dat0 V c).after 3 t) := by
  unfold Dat.leavesExact; rw [liveAt0_3 t]
theorem leaves0_4 (c : Dev nD) (t : Fin cfg0.N) : (dat0 V c).leavesExact 4 t = owns c.tc (ms0_4 t) fullShare ((dat0 V c).after 4 t) := by
  unfold Dat.leavesExact; rw [liveAt0_4 t]

def bodyPre0 (c : Dev nD) (t : Fin cfg0.N) : sProp 𝕄 :=
  iprop((dat0 V c).Φ t.castSucc ∗ (dat0 V c).owesAt () t.castSucc
    ∗ (∃ d, owns c.tc (ms0_0 t) fullShare ((dat0 V c).before 0 t d))
    ∗ (∃ d, owns c.tc (ms0_1 t) fullShare ((dat0 V c).before 1 t d))
    ∗ (∃ d, owns c.tc (ms0_2 t) fullShare ((dat0 V c).before 2 t d))
    ∗ (∃ d, owns c.tc (ms0_3 t) fullShare ((dat0 V c).before 3 t d))
    ∗ (∃ d, owns c.tc (ms0_4 t) fullShare ((dat0 V c).before 4 t d))
    ∗ (∃ d, owns c.tc (ms0_5 t) fullShare ((dat0 V c).before 5 t d))
    ∗ (∃ d, owns c.tc (ms0_6 t) fullShare ((dat0 V c).before 6 t d))
    ∗ (∃ d, owns c.tc (ms0_7 t) fullShare ((dat0 V c).before 7 t d))
    ∗ (∃ d, owns c.tc (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 9600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · have p0 : cond0_0 (grid0.coords t) := (hcond0_0 t).mpr h0
      have n1 : ¬cond0_1 (grid0.coords t) := fun h => h1 ((hcond0_1 t).mp h)
      rw [leaves0_0, after0_0, leaves0_1, after0_1, leaves0_2, after0_2, leaves0_3, after0_3, leaves0_4, after0_4]
      rw [Dat.leavesExact_idle (dat0 V c) 5 t (idle0 t n1).1.1 (idle0 t n1).1.2]
      rw [Dat.leavesExact_idle (dat0 V c) 6 t (idle0 t n1).2.1.1 (idle0 t n1).2.1.2]
      rw [Dat.leavesExact_idle (dat0 V c) 7 t (idle0 t n1).2.2.1.1 (idle0 t n1).2.2.1.2]
      rw [Dat.leavesExact_idle (dat0 V c) 8 t (idle0 t n1).2.2.2.1 (idle0 t n1).2.2.2.2]
      by_cases hz : t.val = 0
      · rw [PhiS_castSucc V c t, PhiS_zero V c _ _ hz, PhiA0_eq]
        rw [outsAt0_A V c t h0 h1]
        unfold at0_A tup0_A out0_A_4 sout0_A_0 sout0_A_1; (try dsimp only)
        iintro ⟨⟨⟨HS0, HR1, HR2, HR3, HR4, HR5, HR6, HR7, HR8, HR9, HR10, HS1, HR12, HR13, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_A c (grid0.coords t) _ _ _ _ _ _ _ _ _ _ _ _ _ _ _ _ _ _ _ _ _ _ p0 n1 (iblk0 V c 0 t) (iblk0 V c 1 t) (iblk0 V c 2 t) (iblk0 V c 3 t)).2.2.2.2.2.2.2 _ _ _ _ Set.univ _)
        isplitl [H0]; iexact H0; isplitl [H1]; iexact H1; isplitl [H2]; iexact H2; isplitl [H3]; iexact H3
        isplitl [H4]; iexists _; iexact H4
        isplitl [H5]; iexact H5; isplitl [H6]; iexact H6; isplitl [H7]; iexact H7; isplitl [H8]; iexact H8
        isplitl [HS0]; iexact HS0; isplitl [HS1]; iexact HS1
        iintro ⟨H0, H1, H2, H3, ⟨%e4, H4⟩, H5, H6, H7, H8, ⟨%es0, HS0⟩, ⟨%es1, HS1⟩⟩
        isplitl [HS0 HR1 HR2 HR3 HR4 HR5 HR6 HR7 HR8 HR9 HR10 HS1 HR12 HR13 HR14 Hg]
        · isplitl [HS0 HR1 HR2 HR3 HR4 HR5 HR6 HR7 HR8 HR9 HR10 HS1 HR12 HR13 HR14]
          · isplitl [HS0]
            · unfold owns; iexists _; isplitr
              swap; · iexact HS0
              ipureintro; exact View.read_writes_of_cover _ _ _ _ _ (fun y => scover0_A_0 ..)
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9; isplitl [HR10]; iexact HR10
            isplitl [HS1]
            · unfold owns; iexists _; isplitr
              swap; · iexact HS1
              ipureintro; exact View.read_writes_of_cover _ _ _ _ _ (fun y => scover0_A_1 ..)
            isplitl [HR12]; iexact HR12; isplitl [HR13]; iexact HR13
            iexact HR14
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_A_4 ..)
        isplitl [H5]; iexists _; iexact H5; isplitl [H6]; iexists _; iexact H6; isplitl [H7]; iexists _; iexact H7
        iexists _; iexact H8
      · exfalso; have hN : t.val < 8 := lt_of_lt_of_eq t.isLt (show cfg0.N = 8 from N_0); omega
  · by_cases h1 : t.val % 8 = 7
    · have n0 : ¬cond0_0 (grid0.coords t) := fun h => h0 ((hcond0_0 t).mp h)
      have p1 : cond0_1 (grid0.coords t) := (hcond0_1 t).mpr h1
      rw [leaves0_0, after0_0, leaves0_1, after0_1, leaves0_2, after0_2, leaves0_3, after0_3, leaves0_4, after0_4]
      rw [show (dat0 V c).leavesExact 5 t = owns c.tc (ms0_5 t) fullShare ((dat0 V c).after 5 t) from by
      unfold Dat.leavesExact; rw [(live0 t p1).1], after0_5]
      rw [show (dat0 V c).leavesExact 6 t = owns c.tc (ms0_6 t) fullShare ((dat0 V c).after 6 t) from by
      unfold Dat.leavesExact; rw [(live0 t p1).2.1], after0_6]
      rw [show (dat0 V c).leavesExact 7 t = owns c.tc (ms0_7 t) fullShare ((dat0 V c).after 7 t) from by
      unfold Dat.leavesExact; rw [(live0 t p1).2.2.1], after0_7]
      rw [show (dat0 V c).leavesExact 8 t = owns c.tc (ms0_8 t) fullShare ((dat0 V c).after 8 t) from by
      unfold Dat.leavesExact; rw [(live0 t p1).2.2.2], after0_8]
      by_cases hz : t.val = 0
      · exfalso; have hN : t.val < 8 := lt_of_lt_of_eq t.isLt (show cfg0.N = 8 from N_0); omega
      · rw [PhiS_castSucc V c t, PhiS_pos V c _ _ hz]
        rw [outsAt0_C V c t h0 h1]
        unfold at0_C tup0_C out0_C_4 out0_C_5 out0_C_6 out0_C_7 out0_C_8 sout0_C_0 sout0_C_1; (try dsimp only)
        iintro ⟨⟨⟨HS0, HR1, HR2, HR3, HR4, HR5, HR6, HR7, HR8, HR9, HR10, HS1, HR12, HR13, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_C c (grid0.coords t) _ _ _ _ _ _ _ _ _ _ _ _ _ _ _ _ _ _ _ _ _ _ n0 p1 (iblk0 V c 0 t) (iblk0 V c 1 t) (iblk0 V c 2 t) (iblk0 V c 3 t) _ _).2.2.2.2.2.2.2 Set.univ _)
        isplitl [H0]; iexact H0; isplitl [H1]; iexact H1; isplitl [H2]; iexact H2; isplitl [H3]; iexact H3
        isplitl [H4]; iexists _; iexact H4; isplitl [H5]; iexists _; iexact H5; isplitl [H6]; iexists _; iexact H6
        isplitl [H7]; iexists _; iexact H7; isplitl [H8]; iexists _; iexact H8
        isplitl [HS0]; iexact HS0; isplitl [HS1]; iexact HS1
        iintro ⟨H0, H1, H2, H3, ⟨%e4, H4⟩, ⟨%e5, H5⟩, ⟨%e6, H6⟩, ⟨%e7, H7⟩, ⟨%e8, H8⟩, ⟨%es0, HS0⟩, ⟨%es1, HS1⟩⟩
        isplitl [HS0 HR1 HR2 HR3 HR4 HR5 HR6 HR7 HR8 HR9 HR10 HS1 HR12 HR13 HR14 Hg]
        · isplitl [HS0 HR1 HR2 HR3 HR4 HR5 HR6 HR7 HR8 HR9 HR10 HS1 HR12 HR13 HR14]
          · isplitl [HS0]
            · unfold owns; iexists _; isplitr
              swap; · iexact HS0
              ipureintro; exact View.read_writes_of_cover _ _ _ _ _ (fun y => scover0_C_0 ..)
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9; isplitl [HR10]; iexact HR10
            isplitl [HS1]
            · unfold owns; iexists _; isplitr
              swap; · iexact HS1
              ipureintro; exact View.read_writes_of_cover _ _ _ _ _ (fun y => scover0_C_1 ..)
            isplitl [HR12]; iexact HR12; isplitl [HR13]; iexact HR13
            iexact HR14
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_C_4 ..)
        isplitl [H5]
        · unfold owns; iexists _; isplitr
          swap; · iexact H5
          ipureintro; exact View.read_writes_of_cover _ _ _ _ _ (fun y => cover0_C_5 ..)
        isplitl [H6]
        · unfold owns; iexists _; isplitr
          swap; · iexact H6
          ipureintro; exact View.read_writes_of_cover _ _ _ _ _ (fun y => cover0_C_6 ..)
        isplitl [H7]
        · unfold owns; iexists _; isplitr
          swap; · iexact H7
          ipureintro; exact View.read_writes_of_cover _ _ _ _ _ (fun y => cover0_C_7 ..)
        unfold owns; iexists _; isplitr
        swap; · iexact H8
        ipureintro; exact View.read_writes_of_cover _ _ _ _ _ (fun y => cover0_C_8 ..)
    · have n0 : ¬cond0_0 (grid0.coords t) := fun h => h0 ((hcond0_0 t).mp h)
      have n1 : ¬cond0_1 (grid0.coords t) := fun h => h1 ((hcond0_1 t).mp h)
      rw [leaves0_0, after0_0, leaves0_1, after0_1, leaves0_2, after0_2, leaves0_3, after0_3, leaves0_4, after0_4]
      rw [Dat.leavesExact_idle (dat0 V c) 5 t (idle0 t n1).1.1 (idle0 t n1).1.2]
      rw [Dat.leavesExact_idle (dat0 V c) 6 t (idle0 t n1).2.1.1 (idle0 t n1).2.1.2]
      rw [Dat.leavesExact_idle (dat0 V c) 7 t (idle0 t n1).2.2.1.1 (idle0 t n1).2.2.1.2]
      rw [Dat.leavesExact_idle (dat0 V c) 8 t (idle0 t n1).2.2.2.1 (idle0 t n1).2.2.2.2]
      by_cases hz : t.val = 0
      · exfalso; have hN : t.val < 8 := lt_of_lt_of_eq t.isLt (show cfg0.N = 8 from N_0); omega
      · rw [PhiS_castSucc V c t, PhiS_pos V c _ _ hz]
        rw [outsAt0_B V c t h0 h1]
        unfold at0_B tup0_B out0_B_4 sout0_B_0 sout0_B_1; (try dsimp only)
        iintro ⟨⟨⟨HS0, HR1, HR2, HR3, HR4, HR5, HR6, HR7, HR8, HR9, HR10, HS1, HR12, HR13, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_B c (grid0.coords t) _ _ _ _ _ _ _ _ _ _ _ _ _ _ _ _ _ _ _ _ _ _ n0 n1 (iblk0 V c 0 t) (iblk0 V c 1 t) (iblk0 V c 2 t) (iblk0 V c 3 t) _ _).2.2.2.2.2.2.2 _ _ _ _ Set.univ _)
        isplitl [H0]; iexact H0; isplitl [H1]; iexact H1; isplitl [H2]; iexact H2; isplitl [H3]; iexact H3
        isplitl [H4]; iexists _; iexact H4
        isplitl [H5]; iexact H5; isplitl [H6]; iexact H6; isplitl [H7]; iexact H7; isplitl [H8]; iexact H8
        isplitl [HS0]; iexact HS0; isplitl [HS1]; iexact HS1
        iintro ⟨H0, H1, H2, H3, ⟨%e4, H4⟩, H5, H6, H7, H8, ⟨%es0, HS0⟩, ⟨%es1, HS1⟩⟩
        isplitl [HS0 HR1 HR2 HR3 HR4 HR5 HR6 HR7 HR8 HR9 HR10 HS1 HR12 HR13 HR14 Hg]
        · isplitl [HS0 HR1 HR2 HR3 HR4 HR5 HR6 HR7 HR8 HR9 HR10 HS1 HR12 HR13 HR14]
          · isplitl [HS0]
            · unfold owns; iexists _; isplitr
              swap; · iexact HS0
              ipureintro; exact View.read_writes_of_cover _ _ _ _ _ (fun y => scover0_B_0 ..)
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9; isplitl [HR10]; iexact HR10
            isplitl [HS1]
            · unfold owns; iexists _; isplitr
              swap; · iexact HS1
              ipureintro; exact View.read_writes_of_cover _ _ _ _ _ (fun y => scover0_B_1 ..)
            isplitl [HR12]; iexact HR12; isplitl [HR13]; iexact HR13
            iexact HR14
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_B_4 ..)
        isplitl [H5]; iexists _; iexact H5; isplitl [H6]; iexists _; iexact H6; isplitl [H7]; iexists _; iexact H7
        iexists _; iexact H8

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR1, HR2, HR3, HR4, HR5, HR6, HR7, HR8, HR9, HR10, HS1, HR12, HR13, HR14⟩, Hg⟩
  isplitl [HS0 HR1 HR2 HR3 HR4 HR5 HR6 HR7 HR8 HR9 HR10 HS1 HR12 HR13 HR14]
  · isplitl [HS0]
    · iexists _; iexact HS0
    isplitl [HR1]; iexact HR1; isplitl [HR2]; iexact HR2; isplitl [HR3]; iexact HR3; isplitl [HR4]; iexact HR4
    isplitl [HR5]; iexact HR5; isplitl [HR6]; iexact HR6; isplitl [HR7]; iexact HR7; isplitl [HR8]; iexact HR8
    isplitl [HR9]; iexact HR9; isplitl [HR10]; iexact HR10
    isplitl [HS1]
    · iexists _; iexact HS1
    isplitl [HR12]; iexact HR12; isplitl [HR13]; iexact HR13
    iexact HR14
  iexact Hg

theorem hout (c : Dev nD) : (dat0 V c).Φ (Fin.last cfg0.N) ⊢ Pipeline.ΦA spec0 c :=
  Phi_out V c _ (by rw [Fin.val_last]; have : cfg0.N = 8 := N_0; omega)

end Regions

end Cert.Proof.Two

end
-- ==== Proof.CodesPoint.lean ====
/-
  What one grid point of the codes kernel leaves in its outputs and in its carried scratch buffers, as the kernel's own
  payload functions of the point's input blocks and of what the point before left.
-/
module

public import proofs.«01_k».proof.Proof.TwoRegion0
public import Idealize.ShloMosaic.Lib.Pipeline.Value
public import Idealize.ShloMosaic.Lib.Tactic
public import Idealize.ShloMosaic.Lib.ValueIdx

@[expose] public section

noncomputable section

namespace Cert.Proof.CodesPoint

open Cert.CodesIdeal Cert.CodesIdeal.Gen Cert.Proof.Two Idealize.ShloMosaic Idealize.ShloMosaic.TcCoe Idealize.SL.Sem
open Idealize.ShloMosaic.Pipeline (Dat)

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- An array of one element has one position. -/
theorem one1 (a b : S1.Idx) : a = b := funext fun d => by fin_cases d; exact Subsingleton.elim (α := Fin 1) _ _
theorem one2 (a b : S1x1.Idx) : a = b := funext fun d => by fin_cases d <;> exact Subsingleton.elim (α := Fin 1) _ _

variable (c : Dev nD) (i : grid0.Coords)
  (a1 : Memref sig .tc .vmem S1x256x1024 .f32) (h1 : a1.IsWhole)
  (a2 : Memref sig .tc .vmem S256x2048 .f32) (h2 : a2.IsWhole)
  (a3 : Memref sig .tc .vmem S1x2048 .f32) (h3 : a3.IsWhole)
  (a4 : Memref sig .tc .smem S1 .f32) (h4 : a4.IsWhole)
  (a5 : Memref sig .tc .vmem S8x128 .i32) (h5 : a5.IsWhole)
  (a6 : Memref sig .tc .vmem S1x2048 .f32) (h6 : a6.IsWhole)
  (a7 : Memref sig .tc .smem S1 .f32) (h7 : a7.IsWhole)
  (a8 : Memref sig .tc .vmem S1x1 .f32) (h8 : a8.IsWhole)
  (a9 : Memref sig .tc .vmem S1x1 .f32) (h9 : a9.IsWhole)
  (a10 : Memref sig .tc .vmem S1x2048 .f32) (h10 : a10.IsWhole)
  (a11 : Memref sig .tc .smem S1x1 .f32) (h11 : a11.IsWhole)
  (x0 : Vec F S1x256x1024 .f32) (x1 : Vec F S256x2048 .f32) (x2 : Vec F S1x2048 .f32) (x3 : Vec F S1 .f32)
  (xs0 : Vec F S1x2048 .f32) (xs1 : Vec F S1x1 .f32)

theorem idx_A (hc0 : cond0_0 i) (hc1 : ¬cond0_1 i) :
    out0_A_4 c i a1 h1 a2 h2 a3 h3 a4 h4 a5 h5 a6 h6 a7 h7 a8 h8 a9 h9 a10 h10 a11 h11 hc0 hc1 x0 x1 x2 x3 = k0_pay8 x0 x1 := by
  unfold out0_A_4
  rw [View.read_writes_eq_canon _ _ _ (cover0_A_4 c i a1 h1 a2 h2 a3 h3 a4 h4 a5 h5 a6 h6 a7 h7 a8 h8 a9 h9 a10 h10 a11 h11 hc0 hc1 x0 x1 x2 x3)]
  unfold run0_A
  dsimp only
  sl_unfold_words
  rw [View.canon_unit_zero (S := S8x128) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem idx_B (hc0 : ¬cond0_0 i) (hc1 : ¬cond0_1 i) :
    out0_B_4 c i a1 h1 a2 h2 a3 h3 a4 h4 a5 h5 a6 h6 a7 h7 a8 h8 a9 h9 a10 h10 a11 h11 hc0 hc1 x0 x1 x2 x3 xs0 xs1 = k0_pay8 x0 x1 := by
  unfold out0_B_4
  rw [View.read_writes_eq_canon _ _ _ (cover0_B_4 c i a1 h1 a2 h2 a3 h3 a4 h4 a5 h5 a6 h6 a7 h7 a8 h8 a9 h9 a10 h10 a11 h11 hc0 hc1 x0 x1 x2 x3 xs0 xs1)]
  unfold run0_B
  dsimp only
  sl_unfold_words
  rw [View.canon_unit_zero (S := S8x128) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem idx_C (hc0 : ¬cond0_0 i) (hc1 : cond0_1 i) :
    out0_C_4 c i a1 h1 a2 h2 a3 h3 a4 h4 a5 h5 a6 h6 a7 h7 a8 h8 a9 h9 a10 h10 a11 h11 hc0 hc1 x0 x1 x2 x3 xs0 xs1 = k0_pay8 x0 x1 := by
  unfold out0_C_4
  rw [View.read_writes_eq_canon _ _ _ (cover0_C_4 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S8x128) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem counts_A (hc0 : cond0_0 i) (hc1 : ¬cond0_1 i) :
    sout0_A_0 c i a1 h1 a2 h2 a3 h3 a4 h4 a5 h5 a6 h6 a7 h7 a8 h8 a9 h9 a10 h10 a11 h11 hc0 hc1 x0 x1 x2 x3 = k0_pay1 (k0_pay10 x0 x1 (k0_pay9 x2)) := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3)]
  unfold run0_A
  dsimp only
  sl_unfold_words
  rw [View.canon_cons_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem counts_B (hc0 : ¬cond0_0 i) (hc1 : ¬cond0_1 i) :
    sout0_B_0 c i a1 h1 a2 h2 a3 h3 a4 h4 a5 h5 a6 h6 a7 h7 a8 h8 a9 h9 a10 h10 a11 h11 hc0 hc1 x0 x1 x2 x3 xs0 xs1 = k0_pay1 (k0_pay10 x0 x1 xs0) := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 xs0 xs1)]
  unfold run0_B
  dsimp only
  sl_unfold_words
  rw [View.canon_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem counts_C (hc0 : ¬cond0_0 i) (hc1 : cond0_1 i) :
    sout0_C_0 c i a1 h1 a2 h2 a3 h3 a4 h4 a5 h5 a6 h6 a7 h7 a8 h8 a9 h9 a10 h10 a11 h11 hc0 hc1 x0 x1 x2 x3 xs0 xs1 = k0_pay1 (k0_pay10 x0 x1 xs0) := by
  unfold sout0_C_0
  rw [View.read_writes_eq_canon _ _ _ (scover0_C_0 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem loss_A (hc0 : cond0_0 i) (hc1 : ¬cond0_1 i) :
    sout0_A_1 c i a1 h1 a2 h2 a3 h3 a4 h4 a5 h5 a6 h6 a7 h7 a8 h8 a9 h9 a10 h10 a11 h11 hc0 hc1 x0 x1 x2 x3 = fun _ => k0_pay2 (k0_pay6 x0 x1) (x3 (ValueIdx.ix1 0)) := by
  unfold sout0_A_1
  rw [View.read_writes_eq_canon _ _ _ (scover0_A_1 c i a1 h1 a2 h2 a3 h3 a4 h4 a5 h5 a6 h6 a7 h7 a8 h8 a9 h9 a10 h10 a11 h11 hc0 hc1 x0 x1 x2 x3)]
  unfold run0_A
  dsimp only
  sl_unfold_words
  rw [View.canon_cons_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg x3 (one1 _ _))

theorem loss_B (hc0 : ¬cond0_0 i) (hc1 : ¬cond0_1 i) :
    sout0_B_1 c i a1 h1 a2 h2 a3 h3 a4 h4 a5 h5 a6 h6 a7 h7 a8 h8 a9 h9 a10 h10 a11 h11 hc0 hc1 x0 x1 x2 x3 xs0 xs1 = fun _ => k0_pay2 (k0_pay6 x0 x1) (xs1 (ValueIdx.ix2 0 0)) := by
  unfold sout0_B_1
  rw [View.read_writes_eq_canon _ _ _ (scover0_B_1 c i a1 h1 a2 h2 a3 h3 a4 h4 a5 h5 a6 h6 a7 h7 a8 h8 a9 h9 a10 h10 a11 h11 hc0 hc1 x0 x1 x2 x3 xs0 xs1)]
  unfold run0_B
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg xs1 (one2 _ _))

theorem loss_C (hc0 : ¬cond0_0 i) (hc1 : cond0_1 i) :
    sout0_C_1 c i a1 h1 a2 h2 a3 h3 a4 h4 a5 h5 a6 h6 a7 h7 a8 h8 a9 h9 a10 h10 a11 h11 hc0 hc1 x0 x1 x2 x3 xs0 xs1 = fun _ => k0_pay2 (k0_pay6 x0 x1) (xs1 (ValueIdx.ix2 0 0)) := by
  unfold sout0_C_1
  rw [View.read_writes_eq_canon _ _ _ (scover0_C_1 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg xs1 (one2 _ _))

theorem lossOut (hc0 : ¬cond0_0 i) (hc1 : cond0_1 i) :
    out0_C_7 c i a1 h1 a2 h2 a3 h3 a4 h4 a5 h5 a6 h6 a7 h7 a8 h8 a9 h9 a10 h10 a11 h11 hc0 hc1 x0 x1 x2 x3 xs0 xs1 = k0_pay3 (k0_pay2 (k0_pay6 x0 x1) (xs1 (ValueIdx.ix2 0 0))) := by
  unfold out0_C_7
  rw [View.read_writes_eq_canon _ _ _ (cover0_C_7 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact congrArg (fun z => k0_pay3 (k0_pay2 _ z)) (congrArg xs1 (one2 _ _))

theorem perpOut (hc0 : ¬cond0_0 i) (hc1 : cond0_1 i) :
    out0_C_8 c i a1 h1 a2 h2 a3 h3 a4 h4 a5 h5 a6 h6 a7 h7 a8 h8 a9 h9 a10 h10 a11 h11 hc0 hc1 x0 x1 x2 x3 xs0 xs1 = k0_pay4 (k0_pay1 (k0_pay10 x0 x1 xs0)) := by
  unfold out0_C_8
  rw [View.read_writes_eq_canon _ _ _ (cover0_C_8 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem countsOut (hc0 : ¬cond0_0 i) (hc1 : cond0_1 i) :
    out0_C_5 c i a1 h1 a2 h2 a3 h3 a4 h4 a5 h5 a6 h6 a7 h7 a8 h8 a9 h9 a10 h10 a11 h11 hc0 hc1 x0 x1 x2 x3 xs0 xs1 = k0_pay1 (k0_pay10 x0 x1 xs0) := by
  unfold out0_C_5
  rw [View.read_writes_eq_canon _ _ _ (cover0_C_5 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem lossSumOut (hc0 : ¬cond0_0 i) (hc1 : cond0_1 i) :
    out0_C_6 c i a1 h1 a2 h2 a3 h3 a4 h4 a5 h5 a6 h6 a7 h7 a8 h8 a9 h9 a10 h10 a11 h11 hc0 hc1 x0 x1 x2 x3 xs0 xs1 = fun _ => k0_pay2 (k0_pay6 x0 x1) (xs1 (ValueIdx.ix2 0 0)) := by
  unfold out0_C_6
  rw [View.read_writes_eq_canon _ _ _ (cover0_C_6 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1) hz1]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg xs1 (one2 _ _))

end Cert.Proof.CodesPoint

end
-- ==== Proof.CodesAcc.lean ====
/-
  The codes kernel's two accumulators and its codes, as functions of the images a call covers: the first call covers
  images 0 to 7, the second images 8 to 15, and it takes up the accumulators where the first left them.
-/
module

public import proofs.«01_k».proof.Proof.CodesPoint
public import Idealize.ShloMosaic.Lib.ValueIdx

@[expose] public section

noncomputable section

namespace Cert.Proof.CodesAcc

open Cert.CodesIdeal Cert.CodesIdeal.Gen Idealize.ShloMosaic
open Idealize.ShloMosaic.ValueIdx

variable {F : FTy → Type} [FloatOps F]

/-- The input, its two spatial axes as one. -/
def x3 (X : Vec F S16x256x32x32 .f32) : Vec F S16x256x1024 .f32 := shapeCast S16x256x1024 X shapeCasts_S16x256x32x32_S16x256x1024

/-- Image `o + t` of the input. -/
def xb (A : Vec F S16x256x1024 .f32) (o t : ℕ) : Vec F S1x256x1024 .f32 := fun i =>
  A (ix3 ⟨(o + t) % 16, Nat.mod_lt _ (by decide)⟩ (i 1) (i 2))

/-- The counts accumulator of the call that starts at image `o`, after grid point `n`. -/
def counts (A : Vec F S16x256x1024 .f32) (o : ℕ) (E : Vec F S256x2048 .f32) (C : Vec F S1x2048 .f32) : ℕ → Vec F S1x2048 .f32
  | 0 => k0_pay1 (k0_pay10 (xb A o 0) E (k0_pay9 C))
  | n + 1 => k0_pay1 (k0_pay10 (xb A o (n + 1)) E (counts A o E C n))

/-- The loss accumulator of the call that starts at image `o`, after grid point `n`. -/
def losses (A : Vec F S16x256x1024 .f32) (o : ℕ) (E : Vec F S256x2048 .f32) (L : Vec F S1 .f32) : ℕ → F .f32
  | 0 => k0_pay2 (k0_pay6 (xb A o 0) E) (L (ix1 0))
  | n + 1 => k0_pay2 (k0_pay6 (xb A o (n + 1)) E) (losses A o E L n)

/-- The codes of the call that starts at image `o`: row `q` of the array holds the block of point `q / 8`. -/
def idxOut (A : Vec F S16x256x1024 .f32) (o : ℕ) (E : Vec F S256x2048 .f32) : IVec S64x128 32 := fun i =>
  k0_pay8 (xb A o ((i 0).val / 8)) E (ix2 ⟨(i 0).val % 8, Nat.mod_lt _ (by decide)⟩ (i 1))

end Cert.Proof.CodesAcc

end
-- ==== Proof.CodesRun0.lean ====
/-
  What the first call of the codes kernel leaves in its output arrays, from any contents of its input arrays.
-/
module

public import proofs.«01_k».proof.Proof.CodesAcc

@[expose] public section

noncomputable section

namespace Cert.Proof.CodesRun0

open Cert.CodesIdeal Cert.CodesIdeal.Gen Cert.Proof.Two Idealize.ShloMosaic Idealize.ShloMosaic.TcCoe Idealize.SL.Sem
open Idealize.ShloMosaic.Pipeline (Dat)
open Idealize.ShloMosaic.ValueIdx
open Cert.Proof.CodesPoint Cert.Proof.CodesAcc

variable {F : FTy → Type} [FloatOps F]
variable (V : (c : Dev nD) → (b : Ref sig .tc) → Buf (Elt F) ((c : Thread nD τ).loc b)) (c : Dev nD)

/-- Window 0's block at point `t` is the image `0 + t`. -/
theorem blk0 (t : Fin cfg0.N) : (iblk0 V c 0 t : Vec F S1x256x1024 .f32) = xb (V c main_v0) 0 t.val := by
  have hi : win0_0.index t 0 = 0 + t.val ∧ win0_0.index t 1 = 0 ∧ win0_0.index t 2 = 0 :=
    (by decide +kernel : ∀ t : Fin grid0.N, win0_0.index t 0 = 0 + t.val ∧ win0_0.index t 1 = 0 ∧ win0_0.index t 2 = 0) t
  have ht : t.val < 8 := lt_of_lt_of_eq t.isLt N_0
  funext j
  unfold iblk0 xb
  rw [View.read_apply]
  show V c main_v0 _ = _
  congr 1
  funext a
  apply Fin.ext
  have h0 : (j 0).val < 1 := (j 0).isLt
  match a with
  | ⟨0, _⟩ => show win0_0.index t 0 * 1 + 1 * (j 0).val = (0 + t.val) % 16; rw [hi.1]; omega
  | ⟨1, _⟩ => show win0_0.index t 1 * 256 + 1 * (j 1).val = (j 1).val; rw [hi.2.1]; omega
  | ⟨2, _⟩ => show win0_0.index t 2 * 1024 + 1 * (j 2).val = (j 2).val; rw [hi.2.2]; omega

theorem blk1 (t : Fin cfg0.N) : (iblk0 V c 1 t : Vec F S256x2048 .f32) = V c main_arg1 := by
  have hi : win0_1.index t 0 = 0 ∧ win0_1.index t 1 = 0 :=
    (by decide +kernel : ∀ t : Fin grid0.N, win0_1.index t 0 = 0 ∧ win0_1.index t 1 = 0) t
  funext j
  unfold iblk0
  rw [View.read_apply]
  show V c main_arg1 _ = _
  congr 1
  funext a
  apply Fin.ext
  match a with
  | ⟨0, _⟩ => show win0_1.index t 0 * 256 + 1 * (j 0).val = (j 0).val; rw [hi.1]; omega
  | ⟨1, _⟩ => show win0_1.index t 1 * 2048 + 1 * (j 1).val = (j 1).val; rw [hi.2]; omega

theorem blk2 (t : Fin cfg0.N) : (iblk0 V c 2 t : Vec F S1x2048 .f32) = V c main_v1 := by
  have hi : win0_2.index t 0 = 0 ∧ win0_2.index t 1 = 0 :=
    (by decide +kernel : ∀ t : Fin grid0.N, win0_2.index t 0 = 0 ∧ win0_2.index t 1 = 0) t
  funext j
  unfold iblk0
  rw [View.read_apply]
  show V c main_v1 _ = _
  congr 1
  funext a
  apply Fin.ext
  match a with
  | ⟨0, _⟩ => show win0_2.index t 0 * 1 + 1 * (j 0).val = (j 0).val; rw [hi.1]; omega
  | ⟨1, _⟩ => show win0_2.index t 1 * 2048 + 1 * (j 1).val = (j 1).val; rw [hi.2]; omega

theorem blk3 (t : Fin cfg0.N) : (iblk0 V c 3 t : Vec F S1 .f32) = V c main_v2 := by
  funext j
  unfold iblk0
  rw [View.read_apply]
  show V c main_v2 _ = _
  exact congrArg _ (one1 _ _)

/-! ## The accumulators -/

theorem counts_eq : ∀ (n : ℕ) (h : n < cfg0.N), (outsAt0 V c n h).2.2.2.2.2.1
    = counts (V c main_v0) 0 (V c main_arg1) (V c main_v1) n
  | 0, h => by
    rw [outsAt0_A V c ⟨0, h⟩ (Nat.zero_mod 8) (show ¬0 % 8 = 7 by decide)]
    dsimp only [at0_A, tup0_A]
    rw [counts_A, blk0, blk1, blk2]
    rfl
  | n + 1, h => by
    have hN := lt_of_lt_of_eq h (show cfg0.N = 8 from N_0)
    have ih := counts_eq n (by omega)
    by_cases h7 : (n + 1) % 8 = 7
    · rw [outsAt0_C V c ⟨n + 1, h⟩ (by show ¬(n + 1) % 8 = 0; omega) h7]
      dsimp only [at0_C, tup0_C]
      rw [counts_C, blk0, blk1]
      exact congrArg (fun z => k0_pay1 (k0_pay10 (xb _ _ (n + 1)) _ z)) ih
    · rw [outsAt0_B V c ⟨n + 1, h⟩ (by show ¬(n + 1) % 8 = 0; omega) h7]
      dsimp only [at0_B, tup0_B]
      rw [counts_B, blk0, blk1]
      exact congrArg (fun z => k0_pay1 (k0_pay10 (xb _ _ (n + 1)) _ z)) ih

theorem losses_eq : ∀ (n : ℕ) (h : n < cfg0.N), (outsAt0 V c n h).2.2.2.2.2.2
    = fun _ => losses (V c main_v0) 0 (V c main_arg1) (V c main_v2) n
  | 0, h => by
    rw [outsAt0_A V c ⟨0, h⟩ (Nat.zero_mod 8) (show ¬0 % 8 = 7 by decide)]
    dsimp only [at0_A, tup0_A]
    rw [loss_A, blk0, blk1, blk3]
    rfl
  | n + 1, h => by
    have hN := lt_of_lt_of_eq h (show cfg0.N = 8 from N_0)
    have ih := losses_eq n (by omega)
    by_cases h7 : (n + 1) % 8 = 7
    · rw [outsAt0_C V c ⟨n + 1, h⟩ (by show ¬(n + 1) % 8 = 0; omega) h7]
      dsimp only [at0_C, tup0_C]
      rw [loss_C, blk0, blk1]
      exact funext fun _ => congrArg (fun z => k0_pay2 (k0_pay6 (xb _ _ (n + 1)) _) z) (congrFun ih _)
    · rw [outsAt0_B V c ⟨n + 1, h⟩ (by show ¬(n + 1) % 8 = 0; omega) h7]
      dsimp only [at0_B, tup0_B]
      rw [loss_B, blk0, blk1]
      exact funext fun _ => congrArg (fun z => k0_pay2 (k0_pay6 (xb _ _ (n + 1)) _) z) (congrFun ih _)

/-! ## The results -/

theorem out4 (t : Fin cfg0.N) : (outsAt0 V c t.val t.isLt).1 = k0_pay8 (xb (V c main_v0) 0 t.val) (V c main_arg1) := by
  have hN := lt_of_lt_of_eq t.isLt (show cfg0.N = 8 from N_0)
  by_cases h0 : t.val % 8 = 0
  · rw [outsAt0_A V c t h0 (by omega)]; dsimp only [at0_A, tup0_A]; rw [idx_A, blk0, blk1]
  · by_cases h7 : t.val % 8 = 7
    · rw [outsAt0_C V c t h0 h7]; dsimp only [at0_C, tup0_C]; rw [idx_C, blk0, blk1]
    · rw [outsAt0_B V c t h0 h7]; dsimp only [at0_B, tup0_B]; rw [idx_B, blk0, blk1]

theorem flushed_idx (t : Fin cfg0.N) (hf : (cfg0.win 4).flush t = true) :
    (dat0 V c).flushed 4 t = ((cfg0.win 4).blk t).view.read (Elt F) (idxOut (V c main_v0) 0 (V c main_arg1)) := by
  have hi : win0_4.index t 0 = t.val ∧ win0_4.index t 1 = 0 :=
    (by decide +kernel : ∀ t : Fin grid0.N, win0_4.index t 0 = t.val ∧ win0_4.index t 1 = 0) t
  show (cfg0.win 4).cut (grid0.coords t) ((dat0 V c).after 4 t) = _
  rw [after0_4, out4]
  funext j
  rw [View.read_apply]
  have h0 : (j 0).val < 8 := (j 0).isLt
  show k0_pay8 _ _ _ = k0_pay8 (xb _ _ ((win0_4.index t 0 * 8 + 1 * (j 0).val) / 8)) _ _
  rw [hi.1, show (t.val * 8 + 1 * (j 0).val) / 8 = t.val by omega]
  congr 1
  funext a
  apply Fin.ext
  match a with
  | ⟨0, _⟩ => show (j 0).val = (win0_4.index t 0 * 8 + 1 * (j 0).val) % 8; rw [hi.1]; omega
  | ⟨1, _⟩ => show (j 1).val = win0_4.index t 1 * 128 + 1 * (j 1).val; rw [hi.2]; omega

theorem final_idx : (dat0 V c).arrAt 4 cfg0.N = idxOut (V c main_v0) 0 (V c main_arg1) :=
  (dat0 V c).arrAt_eq_of_cover 4 _ (flushed_idx V c) fun i => by
    have h0 : (i 0 : Nat) < 64 := (i 0).isLt
    have h1 : (i 1 : Nat) < 128 := (i 1).isLt
    let t : Fin cfg0.N := ⟨(i 0).val / 8, lt_of_lt_of_eq (by omega : (i 0).val / 8 < 8) N_0.symm⟩
    have hi : win0_4.index t 0 = t.val ∧ win0_4.index t 1 = 0 :=
      (by decide +kernel : ∀ t : Fin grid0.N, win0_4.index t 0 = t.val ∧ win0_4.index t 1 = 0) t
    have htv : t.val = (i 0).val / 8 := rfl
    refine ⟨t, flush0_4 t, ?_⟩
    show i ∈ ((View.whole main_v3_0).slice (win0_4.rect t)).set
    rw [View.set_slice_whole, Rect.mem_set_unit]
    intro a
    match a with
    | ⟨0, _⟩ => show win0_4.index t 0 * 8 ≤ (i 0 : Nat) ∧ (i 0 : Nat) < win0_4.index t 0 * 8 + 8
                rw [hi.1]; omega
    | ⟨1, _⟩ => show win0_4.index t 1 * 128 ≤ (i 1 : Nat) ∧ (i 1 : Nat) < win0_4.index t 1 * 128 + 128
                rw [hi.2]; omega

theorem last7 (t : Fin cfg0.N) (h : t.val % 8 = 7) : t.val = 7 := by
  have hN := lt_of_lt_of_eq t.isLt (show cfg0.N = 8 from N_0); omega

def t7 : Fin cfg0.N := ⟨7, lt_of_lt_of_eq (by decide) N_0.symm⟩

theorem out5 : (outsAt0 V c t7.val t7.isLt).2.1 = counts (V c main_v0) 0 (V c main_arg1) (V c main_v1) 7 := by
  rw [outsAt0_C V c t7 (by decide) (by decide)]
  dsimp only [at0_C, tup0_C]
  rw [countsOut, blk0, blk1]
  exact congrArg (fun z => k0_pay1 (k0_pay10 _ _ z)) (counts_eq V c 6 (by decide +kernel))

theorem out6 : (outsAt0 V c t7.val t7.isLt).2.2.1 = fun _ => losses (V c main_v0) 0 (V c main_arg1) (V c main_v2) 7 := by
  rw [outsAt0_C V c t7 (by decide) (by decide)]
  dsimp only [at0_C, tup0_C]
  rw [lossSumOut, blk0, blk1]
  exact funext fun _ => congrArg (fun z => k0_pay2 _ z) (congrFun (losses_eq V c 6 (by decide +kernel)) _)

theorem final_counts : (dat0 V c).arrAt 5 cfg0.N = counts (V c main_v0) 0 (V c main_arg1) (V c main_v1) 7 :=
  (dat0 V c).arrAt_eq_of_cover 5 _ (fun t hf => by
    obtain rfl : t = t7 := Fin.ext (last7 t ((flush0_5 t).mp hf))
    show (cfg0.win 5).cut (grid0.coords t7) ((dat0 V c).after 5 t7) = _
    rw [after0_5]
    refine (congrArg _ (out5 V c)).trans ?_
    funext j
    rw [View.read_apply]
    refine congrArg (counts _ _ _ _ 7) ?_
    funext a
    apply Fin.ext
    match a with
    | ⟨0, _⟩ => show (j 0).val = win0_5.index t7 0 * 1 + 1 * (j 0).val; rw [show win0_5.index t7 0 = 0 from by decide +kernel]; omega
    | ⟨1, _⟩ => show (j 1).val = win0_5.index t7 1 * 2048 + 1 * (j 1).val; rw [show win0_5.index t7 1 = 0 from by decide +kernel]; omega)
    fun i => ⟨t7, (flush0_5 t7).mpr rfl, by
      show i ∈ ((View.whole main_v3_1).slice (win0_5.rect t7)).set
      rw [View.set_slice_whole, Rect.mem_set_unit]
      intro a
      have h0 : (i 0 : Nat) < 1 := (i 0).isLt
      have h1 : (i 1 : Nat) < 2048 := (i 1).isLt
      match a with
      | ⟨0, _⟩ => show win0_5.index t7 0 * 1 ≤ (i 0 : Nat) ∧ (i 0 : Nat) < win0_5.index t7 0 * 1 + 1
                  rw [show win0_5.index t7 0 = 0 from by decide +kernel]; omega
      | ⟨1, _⟩ => show win0_5.index t7 1 * 2048 ≤ (i 1 : Nat) ∧ (i 1 : Nat) < win0_5.index t7 1 * 2048 + 2048
                  rw [show win0_5.index t7 1 = 0 from by decide +kernel]; omega⟩

theorem final_sum : (dat0 V c).arrAt 6 cfg0.N = fun _ => losses (V c main_v0) 0 (V c main_arg1) (V c main_v2) 7 :=
  (dat0 V c).arrAt_eq_of_cover 6 _ (fun t hf => by
    obtain rfl : t = t7 := Fin.ext (last7 t ((flush0_6 t).mp hf))
    show (cfg0.win 6).cut (grid0.coords t7) ((dat0 V c).after 6 t7) = _
    rw [after0_6]
    exact congrArg _ (out6 V c)) fun i => ⟨t7, (flush0_6 t7).mpr rfl, by
      show i ∈ ((View.whole main_v3_2).slice (win0_6.rect t7)).set
      rw [View.set_slice_whole, Rect.mem_set_unit]
      intro a
      have h0 : (i 0 : Nat) < 1 := (i 0).isLt
      match a with
      | ⟨0, _⟩ => show win0_6.index t7 0 * 1 ≤ (i 0 : Nat) ∧ (i 0 : Nat) < win0_6.index t7 0 * 1 + 1
                  rw [show win0_6.index t7 0 = 0 from by decide +kernel]; omega⟩

end Cert.Proof.CodesRun0

end
-- ==== Proof.TwoRegion1.lean ====
/-
  The second tensor-core call of the two: its body at every grid point, and what it leaves.
-/
module

public import proofs.«01_k».proof.Proof.TwoRegion0
public import proofs.«01_k».proof.Proof.Gen.CodesIdeal.Launch
public import proofs.«01_k».proof.Proof.Gen.CodesIdeal.Skeleton
public import proofs.«01_k».proof.Proof.Gen.CodesIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, e0]
    word_cmp
   : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (fun t => by
    have ht : t.val < 8 := Nat.lt_of_lt_of_eq t.isLt N_1
    have e0 : (grid1.coords t 0).val = t.val / 1 % 8 := Pipeline.Grid.coords_val t 0 (by decide) rfl
    simp only [cond1_1, k1_cond2, e0]
    word_cmp
   : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl

theorem liveAt1_2 : ∀ t : Fin cfg1.N, cfg1.idle 2 (grid1.coords t) = false := fun _ => rfl
theorem liveAt1_3 : ∀ t : Fin cfg1.N, cfg1.idle 3 (grid1.coords t) = false := fun _ => rfl

theorem liveAt1_4 : ∀ t : Fin cfg1.N, cfg1.idle 4 (grid1.coords t) = false := fun _ => rfl

theorem idle1 : ∀ t : Fin cfg1.N, ¬cond1_1 (grid1.coords t) →
    (cfg1.idle 5 (grid1.coords t) = true ∧ (cfg1.win 5).flush t = false) ∧ (cfg1.idle 6 (grid1.coords t) = true ∧ (cfg1.win 6).flush t = false) ∧ (cfg1.idle 7 (grid1.coords t) = true ∧ (cfg1.win 7).flush t = false) ∧ (cfg1.idle 8 (grid1.coords t) = true ∧ (cfg1.win 8).flush t = false) := by decide +kernel

theorem live1 : ∀ t : Fin cfg1.N, cond1_1 (grid1.coords t) →
    cfg1.idle 5 (grid1.coords t) = false ∧ cfg1.idle 6 (grid1.coords t) = false ∧ cfg1.idle 7 (grid1.coords t) = false ∧ cfg1.idle 8 (grid1.coords t) = false := by decide +kernel

abbrev ms1_0 (t : Fin cfg1.N) : Memref sig .tc .vmem S1x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .smem S1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)

abbrev scM1_0 : Memref sig .tc .vmem S1x2048 .f32 := Memref.whole cc1_scratch0
abbrev scM1_1 : Memref sig .tc .smem S1x1 .f32 := Memref.whole cc1_scratch1

/-- The two scratch buffers held as `A` and `B`, beside the other buffers and the generator. -/
abbrev PhiAt1 (c : Dev nD) (A B : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ A ∗ (∃ f : Buf (Elt F) ((c : Thread nD τ).loc cc0_stg3_0), ((c : Thread nD τ).loc cc0_stg3_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch1), ((c : Thread nD τ).loc cc0_scratch1) ↦{fullShare} f) ∗ B) ∗ (∃ r, prngReg c r))

theorem PhiA1_eq (c : Dev nD) :
    (Pipeline.ΦA spec1 c : sProp 𝕄)
      = PhiAt1 c iprop(∃ d, owns c.tc scM1_0 fullShare d) iprop(∃ d, owns c.tc scM1_1 fullShare d) := by
  unfold Pipeline.ΦA; rw [scopedRest1_eq]; simp only [scM1_0, scM1_1, owns_whole]; try rfl

/-- The two calls run one body. -/
theorem body_eq : @cc1__tc_body F _ = @cc0__tc_body F _ := by sl_kernel_rfl

/-- The same at step `t`, in its own buffers. -/
abbrev at1_A (c : Dev nD) (t : Fin cfg1.N) (hc0 : cond0_0 (grid1.coords t)) (hc1 : ¬cond0_1 (grid1.coords t)) :=
  tup0_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1

/-- The same at step `t`, in its own buffers. -/
abbrev at1_B (c : Dev nD) (t : Fin cfg1.N) (hc0 : ¬cond0_0 (grid1.coords t)) (hc1 : ¬cond0_1 (grid1.coords t)) :=
  tup0_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1

/-- The same at step `t`, in its own buffers. -/
abbrev at1_C (c : Dev nD) (t : Fin cfg1.N) (hc0 : ¬cond0_0 (grid1.coords t)) (hc1 : cond0_1 (grid1.coords t)) :=
  tup0_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1

def outsAt1 (c : Dev nD) : (n : ℕ) → n < cfg1.N → Outs F
  | 0, hn => at1_A c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      if h1 : (n + 1) % 8 = 7 then
        False.elim (by have hN : n + 1 < 8 := lt_of_lt_of_eq hn (show cfg1.N = 8 from N_1); omega)
      else
        at1_A c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 8 = 7 then
        at1_C c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.1 (outsAt1 c n (Nat.lt_of_succ_lt hn)).2.2.2.2.2.2
      else
        at1_B c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.1 (outsAt1 c n (Nat.lt_of_succ_lt hn)).2.2.2.2.2.2

theorem outsAt1_A (c : Dev nD) (t : Fin cfg1.N) (h0 : t.val % 8 = 0) (h1 : ¬t.val % 8 = 7) :
    outsAt1 V c t.val t.isLt = at1_A c t ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = at1_B c t (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = at1_C c t (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiSb (c : Dev nD) : (n : ℕ) → n ≤ cfg1.N → sProp 𝕄
  | 0, _ => Pipeline.ΦA spec1 c
  | n + 1, hn => PhiAt1 c (owns c.tc scM1_0 fullShare ((outsAt1 V c n hn).2.2.2.2.2.1)) (owns c.tc scM1_1 fullShare ((outsAt1 V c n hn).2.2.2.2.2.2))

theorem PhiSb_zero (c : Dev nD) (n : ℕ) (h : n ≤ cfg1.N) (hz : n = 0) : PhiSb V c n h = Pipeline.ΦA spec1 c := by
  subst hz; rfl

theorem PhiSb_succ (c : Dev nD) (n : ℕ) (hn : n < cfg1.N) :
    PhiSb V c (n + 1) hn = PhiAt1 c (owns c.tc scM1_0 fullShare ((outsAt1 V c n hn).2.2.2.2.2.1)) (owns c.tc scM1_1 fullShare ((outsAt1 V c n hn).2.2.2.2.2.2)) := rfl

theorem PhiSb_pos (c : Dev nD) (n : ℕ) (h : n ≤ cfg1.N) (hz : n ≠ 0) :
    PhiSb V c n h = PhiAt1 c (owns c.tc scM1_0 fullShare ((outsAt1 V c (n - 1) (by omega)).2.2.2.2.2.1)) (owns c.tc scM1_1 fullShare ((outsAt1 V c (n - 1) (by omega)).2.2.2.2.2.2)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
  Φ t := PhiSb V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiSb_castSucc (c : Dev nD) (t : Fin cfg1.N) :
    (dat1 V c).Φ t.castSucc = PhiSb V c t.val (Nat.le_of_lt t.isLt) := by
  dsimp only [dat1]; exact Pipeline.Dat.Φ_castSucc (PhiSb V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem leaves1_0 (c : Dev nD) (t : Fin cfg1.N) : (dat1 V c).leavesExact 0 t = owns c.tc (ms1_0 t) fullShare ((dat1 V c).after 0 t) := by
  unfold Dat.leavesExact; rw [liveAt1_0 t]
theorem leaves1_1 (c : Dev nD) (t : Fin cfg1.N) : (dat1 V c).leavesExact 1 t = owns c.tc (ms1_1 t) fullShare ((dat1 V c).after 1 t) := by
  unfold Dat.leavesExact; rw [liveAt1_1 t]
theorem leaves1_2 (c : Dev nD) (t : Fin cfg1.N) : (dat1 V c).leavesExact 2 t = owns c.tc (ms1_2 t) fullShare ((dat1 V c).after 2 t) := by
  unfold Dat.leavesExact; rw [liveAt1_2 t]
theorem leaves1_3 (c : Dev nD) (t : Fin cfg1.N) : (dat1 V c).leavesExact 3 t = owns c.tc (ms1_3 t) fullShare ((dat1 V c).after 3 t) := by
  unfold Dat.leavesExact; rw [liveAt1_3 t]
theorem leaves1_4 (c : Dev nD) (t : Fin cfg1.N) : (dat1 V c).leavesExact 4 t = owns c.tc (ms1_4 t) fullShare ((dat1 V c).after 4 t) := by
  unfold Dat.leavesExact; rw [liveAt1_4 t]

def bodyPre1 (c : Dev nD) (t : Fin cfg1.N) : sProp 𝕄 :=
  iprop((dat1 V c).Φ t.castSucc ∗ (dat1 V c).owesAt () t.castSucc
    ∗ (∃ d, owns c.tc (ms1_0 t) fullShare ((dat1 V c).before 0 t d))
    ∗ (∃ d, owns c.tc (ms1_1 t) fullShare ((dat1 V c).before 1 t d))
    ∗ (∃ d, owns c.tc (ms1_2 t) fullShare ((dat1 V c).before 2 t d))
    ∗ (∃ d, owns c.tc (ms1_3 t) fullShare ((dat1 V c).before 3 t d))
    ∗ (∃ d, owns c.tc (ms1_4 t) fullShare ((dat1 V c).before 4 t d))
    ∗ (∃ d, owns c.tc (ms1_5 t) fullShare ((dat1 V c).before 5 t d))
    ∗ (∃ d, owns c.tc (ms1_6 t) fullShare ((dat1 V c).before 6 t d))
    ∗ (∃ d, owns c.tc (ms1_7 t) fullShare ((dat1 V c).before 7 t d))
    ∗ (∃ d, owns c.tc (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 9600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [body_eq]
  simp only [before1_0, before1_1, before1_2, before1_3]
  rw [show (dat1 V c).owesAt () t.succ = (dat1 V c).owesAt () t.castSucc from rfl]
  rw [show (dat1 V c).Φ t.succ = PhiSb V c (t.val + 1) t.isLt from rfl, PhiSb_succ]
  have hN : t.val < 8 := lt_of_lt_of_eq t.isLt (show cfg1.N = 8 from N_1)
  by_cases h0 : t.val % 8 = 0
  · by_cases h1 : t.val % 8 = 7
    · exfalso; omega
    · have p0 : cond1_0 (grid1.coords t) := (hcond1_0 t).mpr h0
      have n1 : ¬cond1_1 (grid1.coords t) := fun h => h1 ((hcond1_1 t).mp h)
      rw [leaves1_0, after1_0, leaves1_1, after1_1, leaves1_2, after1_2, leaves1_3, after1_3, leaves1_4, after1_4]
      rw [Dat.leavesExact_idle (dat1 V c) 5 t (idle1 t n1).1.1 (idle1 t n1).1.2]
      rw [Dat.leavesExact_idle (dat1 V c) 6 t (idle1 t n1).2.1.1 (idle1 t n1).2.1.2]
      rw [Dat.leavesExact_idle (dat1 V c) 7 t (idle1 t n1).2.2.1.1 (idle1 t n1).2.2.1.2]
      rw [Dat.leavesExact_idle (dat1 V c) 8 t (idle1 t n1).2.2.2.1 (idle1 t n1).2.2.2.2]
      by_cases hz : t.val = 0
      · rw [PhiSb_castSucc V c t, PhiSb_zero V c _ _ hz, PhiA1_eq]
        rw [outsAt1_A V c t h0 h1]
        unfold at1_A tup0_A out0_A_4 sout0_A_0 sout0_A_1; (try dsimp only)
        iintro ⟨⟨⟨HR0, HR1, HR2, HR3, HR4, HR5, HR6, HR7, HR8, HR9, HS0, HR11, HR12, HR13, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_A c (grid1.coords t) _ _ _ _ _ _ _ _ _ _ _ _ _ _ _ _ _ _ _ _ _ _ p0 n1 (iblk1 V c 0 t) (iblk1 V c 1 t) (iblk1 V c 2 t) (iblk1 V c 3 t)).2.2.2.2.2.2.2 _ _ _ _ Set.univ _)
        isplitl [H0]; iexact H0; isplitl [H1]; iexact H1; isplitl [H2]; iexact H2; isplitl [H3]; iexact H3
        isplitl [H4]; iexists _; iexact H4
        isplitl [H5]; iexact H5; isplitl [H6]; iexact H6; isplitl [H7]; iexact H7; isplitl [H8]; iexact H8
        isplitl [HS0]; iexact HS0; isplitl [HS1]; iexact HS1
        iintro ⟨H0, H1, H2, H3, ⟨%e4, H4⟩, H5, H6, H7, H8, ⟨%es0, HS0⟩, ⟨%es1, HS1⟩⟩
        isplitl [HR0 HR1 HR2 HR3 HR4 HR5 HR6 HR7 HR8 HR9 HS0 HR11 HR12 HR13 HS1 Hg]
        · isplitl [HR0 HR1 HR2 HR3 HR4 HR5 HR6 HR7 HR8 HR9 HS0 HR11 HR12 HR13 HS1]
          · isplitl [HR0]; iexact HR0
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9
            isplitl [HS0]
            · unfold owns; iexists _; isplitr
              swap; · iexact HS0
              ipureintro; exact View.read_writes_of_cover _ _ _ _ _ (fun y => scover0_A_0 ..)
            isplitl [HR11]; iexact HR11; isplitl [HR12]; iexact HR12; isplitl [HR13]; iexact HR13
            unfold owns; iexists _; isplitr
            swap; · iexact HS1
            ipureintro; exact View.read_writes_of_cover _ _ _ _ _ (fun y => scover0_A_1 ..)
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_A_4 ..)
        isplitl [H5]; iexists _; iexact H5; isplitl [H6]; iexists _; iexact H6; isplitl [H7]; iexists _; iexact H7
        iexists _; iexact H8
      · exfalso; have hN : t.val < 8 := lt_of_lt_of_eq t.isLt (show cfg1.N = 8 from N_1); omega
  · by_cases h1 : t.val % 8 = 7
    · have n0 : ¬cond1_0 (grid1.coords t) := fun h => h0 ((hcond1_0 t).mp h)
      have p1 : cond1_1 (grid1.coords t) := (hcond1_1 t).mpr h1
      rw [leaves1_0, after1_0, leaves1_1, after1_1, leaves1_2, after1_2, leaves1_3, after1_3, leaves1_4, after1_4]
      rw [show (dat1 V c).leavesExact 5 t = owns c.tc (ms1_5 t) fullShare ((dat1 V c).after 5 t) from by
      unfold Dat.leavesExact; rw [(live1 t p1).1], after1_5]
      rw [show (dat1 V c).leavesExact 6 t = owns c.tc (ms1_6 t) fullShare ((dat1 V c).after 6 t) from by
      unfold Dat.leavesExact; rw [(live1 t p1).2.1], after1_6]
      rw [show (dat1 V c).leavesExact 7 t = owns c.tc (ms1_7 t) fullShare ((dat1 V c).after 7 t) from by
      unfold Dat.leavesExact; rw [(live1 t p1).2.2.1], after1_7]
      rw [show (dat1 V c).leavesExact 8 t = owns c.tc (ms1_8 t) fullShare ((dat1 V c).after 8 t) from by
      unfold Dat.leavesExact; rw [(live1 t p1).2.2.2], after1_8]
      by_cases hz : t.val = 0
      · exfalso; have hN : t.val < 8 := lt_of_lt_of_eq t.isLt (show cfg1.N = 8 from N_1); omega
      · rw [PhiSb_castSucc V c t, PhiSb_pos V c _ _ hz]
        rw [outsAt1_C V c t h0 h1]
        unfold at1_C tup0_C out0_C_4 out0_C_5 out0_C_6 out0_C_7 out0_C_8 sout0_C_0 sout0_C_1; (try dsimp only)
        iintro ⟨⟨⟨HR0, HR1, HR2, HR3, HR4, HR5, HR6, HR7, HR8, HR9, HS0, HR11, HR12, HR13, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_C c (grid1.coords t) _ _ _ _ _ _ _ _ _ _ _ _ _ _ _ _ _ _ _ _ _ _ n0 p1 (iblk1 V c 0 t) (iblk1 V c 1 t) (iblk1 V c 2 t) (iblk1 V c 3 t) _ _).2.2.2.2.2.2.2 Set.univ _)
        isplitl [H0]; iexact H0; isplitl [H1]; iexact H1; isplitl [H2]; iexact H2; isplitl [H3]; iexact H3
        isplitl [H4]; iexists _; iexact H4; isplitl [H5]; iexists _; iexact H5; isplitl [H6]; iexists _; iexact H6
        isplitl [H7]; iexists _; iexact H7; isplitl [H8]; iexists _; iexact H8
        isplitl [HS0]; iexact HS0; isplitl [HS1]; iexact HS1
        iintro ⟨H0, H1, H2, H3, ⟨%e4, H4⟩, ⟨%e5, H5⟩, ⟨%e6, H6⟩, ⟨%e7, H7⟩, ⟨%e8, H8⟩, ⟨%es0, HS0⟩, ⟨%es1, HS1⟩⟩
        isplitl [HR0 HR1 HR2 HR3 HR4 HR5 HR6 HR7 HR8 HR9 HS0 HR11 HR12 HR13 HS1 Hg]
        · isplitl [HR0 HR1 HR2 HR3 HR4 HR5 HR6 HR7 HR8 HR9 HS0 HR11 HR12 HR13 HS1]
          · isplitl [HR0]; iexact HR0
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9
            isplitl [HS0]
            · unfold owns; iexists _; isplitr
              swap; · iexact HS0
              ipureintro; exact View.read_writes_of_cover _ _ _ _ _ (fun y => scover0_C_0 ..)
            isplitl [HR11]; iexact HR11; isplitl [HR12]; iexact HR12; isplitl [HR13]; iexact HR13
            unfold owns; iexists _; isplitr
            swap; · iexact HS1
            ipureintro; exact View.read_writes_of_cover _ _ _ _ _ (fun y => scover0_C_1 ..)
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_C_4 ..)
        isplitl [H5]
        · unfold owns; iexists _; isplitr
          swap; · iexact H5
          ipureintro; exact View.read_writes_of_cover _ _ _ _ _ (fun y => cover0_C_5 ..)
        isplitl [H6]
        · unfold owns; iexists _; isplitr
          swap; · iexact H6
          ipureintro; exact View.read_writes_of_cover _ _ _ _ _ (fun y => cover0_C_6 ..)
        isplitl [H7]
        · unfold owns; iexists _; isplitr
          swap; · iexact H7
          ipureintro; exact View.read_writes_of_cover _ _ _ _ _ (fun y => cover0_C_7 ..)
        unfold owns; iexists _; isplitr
        swap; · iexact H8
        ipureintro; exact View.read_writes_of_cover _ _ _ _ _ (fun y => cover0_C_8 ..)
    · have n0 : ¬cond1_0 (grid1.coords t) := fun h => h0 ((hcond1_0 t).mp h)
      have n1 : ¬cond1_1 (grid1.coords t) := fun h => h1 ((hcond1_1 t).mp h)
      rw [leaves1_0, after1_0, leaves1_1, after1_1, leaves1_2, after1_2, leaves1_3, after1_3, leaves1_4, after1_4]
      rw [Dat.leavesExact_idle (dat1 V c) 5 t (idle1 t n1).1.1 (idle1 t n1).1.2]
      rw [Dat.leavesExact_idle (dat1 V c) 6 t (idle1 t n1).2.1.1 (idle1 t n1).2.1.2]
      rw [Dat.leavesExact_idle (dat1 V c) 7 t (idle1 t n1).2.2.1.1 (idle1 t n1).2.2.1.2]
      rw [Dat.leavesExact_idle (dat1 V c) 8 t (idle1 t n1).2.2.2.1 (idle1 t n1).2.2.2.2]
      by_cases hz : t.val = 0
      · exfalso; have hN : t.val < 8 := lt_of_lt_of_eq t.isLt (show cfg1.N = 8 from N_1); omega
      · rw [PhiSb_castSucc V c t, PhiSb_pos V c _ _ hz]
        rw [outsAt1_B V c t h0 h1]
        unfold at1_B tup0_B out0_B_4 sout0_B_0 sout0_B_1; (try dsimp only)
        iintro ⟨⟨⟨HR0, HR1, HR2, HR3, HR4, HR5, HR6, HR7, HR8, HR9, HS0, HR11, HR12, HR13, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_B c (grid1.coords t) _ _ _ _ _ _ _ _ _ _ _ _ _ _ _ _ _ _ _ _ _ _ n0 n1 (iblk1 V c 0 t) (iblk1 V c 1 t) (iblk1 V c 2 t) (iblk1 V c 3 t) _ _).2.2.2.2.2.2.2 _ _ _ _ Set.univ _)
        isplitl [H0]; iexact H0; isplitl [H1]; iexact H1; isplitl [H2]; iexact H2; isplitl [H3]; iexact H3
        isplitl [H4]; iexists _; iexact H4
        isplitl [H5]; iexact H5; isplitl [H6]; iexact H6; isplitl [H7]; iexact H7; isplitl [H8]; iexact H8
        isplitl [HS0]; iexact HS0; isplitl [HS1]; iexact HS1
        iintro ⟨H0, H1, H2, H3, ⟨%e4, H4⟩, H5, H6, H7, H8, ⟨%es0, HS0⟩, ⟨%es1, HS1⟩⟩
        isplitl [HR0 HR1 HR2 HR3 HR4 HR5 HR6 HR7 HR8 HR9 HS0 HR11 HR12 HR13 HS1 Hg]
        · isplitl [HR0 HR1 HR2 HR3 HR4 HR5 HR6 HR7 HR8 HR9 HS0 HR11 HR12 HR13 HS1]
          · isplitl [HR0]; iexact HR0
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9
            isplitl [HS0]
            · unfold owns; iexists _; isplitr
              swap; · iexact HS0
              ipureintro; exact View.read_writes_of_cover _ _ _ _ _ (fun y => scover0_B_0 ..)
            isplitl [HR11]; iexact HR11; isplitl [HR12]; iexact HR12; isplitl [HR13]; iexact HR13
            unfold owns; iexists _; isplitr
            swap; · iexact HS1
            ipureintro; exact View.read_writes_of_cover _ _ _ _ _ (fun y => scover0_B_1 ..)
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_B_4 ..)
        isplitl [H5]; iexists _; iexact H5; isplitl [H6]; iexists _; iexact H6; isplitl [H7]; iexists _; iexact H7
        iexists _; iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hinb (c : Dev nD) : Pipeline.ΦA spec1 c ⊢ (dat1 V c).Φ 0 := by
  rw [show (dat1 V c).Φ 0 = PhiSb V c 0 (Nat.zero_le _) from rfl, PhiSb_zero V c 0 _ rfl]
  try exact Idealize.SL.BI.Entails.refl _

theorem Phi_outb (c : Dev nD) (t : Fin (cfg1.N + 1)) (ht : t.val ≠ 0) : (dat1 V c).Φ t ⊢ Pipeline.ΦA spec1 c := by
  rw [show (dat1 V c).Φ t = PhiSb V c t.val (Nat.le_of_lt_succ t.isLt) from rfl, PhiSb_pos V c _ _ ht, PhiA1_eq]
  iintro ⟨⟨HR0, HR1, HR2, HR3, HR4, HR5, HR6, HR7, HR8, HR9, HS0, HR11, HR12, HR13, HS1⟩, Hg⟩
  isplitl [HR0 HR1 HR2 HR3 HR4 HR5 HR6 HR7 HR8 HR9 HS0 HR11 HR12 HR13 HS1]
  · isplitl [HR0]; iexact HR0
    isplitl [HR1]; iexact HR1; isplitl [HR2]; iexact HR2; isplitl [HR3]; iexact HR3; isplitl [HR4]; iexact HR4
    isplitl [HR5]; iexact HR5; isplitl [HR6]; iexact HR6; isplitl [HR7]; iexact HR7; isplitl [HR8]; iexact HR8
    isplitl [HR9]; iexact HR9
    isplitl [HS0]
    · iexists _; iexact HS0
    isplitl [HR11]; iexact HR11; isplitl [HR12]; iexact HR12; isplitl [HR13]; iexact HR13
    iexists _; iexact HS1
  iexact Hg

theorem houtb (c : Dev nD) : (dat1 V c).Φ (Fin.last cfg1.N) ⊢ Pipeline.ΦA spec1 c :=
  Phi_outb V c _ (by rw [Fin.val_last]; have : cfg1.N = 8 := N_1; omega)

end Regions

end Cert.Proof.Two

end
-- ==== Proof.CodesRun1.lean ====
/-
  What the second call of the codes kernel leaves in its output arrays, from any contents of its input arrays.
-/
module

public import proofs.«01_k».proof.Proof.CodesAcc
public import proofs.«01_k».proof.Proof.TwoRegion1

@[expose] public section

noncomputable section

namespace Cert.Proof.CodesRun1

open Cert.CodesIdeal Cert.CodesIdeal.Gen Cert.Proof.Two Idealize.ShloMosaic Idealize.ShloMosaic.TcCoe Idealize.SL.Sem
open Idealize.ShloMosaic.Pipeline (Dat)
open Idealize.ShloMosaic.ValueIdx
open Cert.Proof.CodesPoint Cert.Proof.CodesAcc

variable {F : FTy → Type} [FloatOps F]
variable (V : (c : Dev nD) → (b : Ref sig .tc) → Buf (Elt F) ((c : Thread nD τ).loc b)) (c : Dev nD)

/-- Window 0's block at point `t` is the image `8 + t`. -/
theorem blk0 (t : Fin cfg1.N) : (iblk1 V c 0 t : Vec F S1x256x1024 .f32) = xb (V c main_v0) 8 t.val := by
  have hi : win1_0.index t 0 = 8 + t.val ∧ win1_0.index t 1 = 0 ∧ win1_0.index t 2 = 0 :=
    (by decide +kernel : ∀ t : Fin grid1.N, win1_0.index t 0 = 8 + t.val ∧ win1_0.index t 1 = 0 ∧ win1_0.index t 2 = 0) t
  have ht : t.val < 8 := lt_of_lt_of_eq t.isLt N_1
  funext j
  unfold iblk1 xb
  rw [View.read_apply]
  show V c main_v0 _ = _
  congr 1
  funext a
  apply Fin.ext
  have h0 : (j 0).val < 1 := (j 0).isLt
  match a with
  | ⟨0, _⟩ => show win1_0.index t 0 * 1 + 1 * (j 0).val = (8 + t.val) % 16; rw [hi.1]; omega
  | ⟨1, _⟩ => show win1_0.index t 1 * 256 + 1 * (j 1).val = (j 1).val; rw [hi.2.1]; omega
  | ⟨2, _⟩ => show win1_0.index t 2 * 1024 + 1 * (j 2).val = (j 2).val; rw [hi.2.2]; omega

theorem blk1 (t : Fin cfg1.N) : (iblk1 V c 1 t : Vec F S256x2048 .f32) = V c main_arg1 := by
  have hi : win1_1.index t 0 = 0 ∧ win1_1.index t 1 = 0 :=
    (by decide +kernel : ∀ t : Fin grid1.N, win1_1.index t 0 = 0 ∧ win1_1.index t 1 = 0) t
  funext j
  unfold iblk1
  rw [View.read_apply]
  show V c main_arg1 _ = _
  congr 1
  funext a
  apply Fin.ext
  match a with
  | ⟨0, _⟩ => show win1_1.index t 0 * 256 + 1 * (j 0).val = (j 0).val; rw [hi.1]; omega
  | ⟨1, _⟩ => show win1_1.index t 1 * 2048 + 1 * (j 1).val = (j 1).val; rw [hi.2]; omega

theorem blk2 (t : Fin cfg1.N) : (iblk1 V c 2 t : Vec F S1x2048 .f32) = V c main_v3_1 := by
  have hi : win1_2.index t 0 = 0 ∧ win1_2.index t 1 = 0 :=
    (by decide +kernel : ∀ t : Fin grid1.N, win1_2.index t 0 = 0 ∧ win1_2.index t 1 = 0) t
  funext j
  unfold iblk1
  rw [View.read_apply]
  show V c main_v3_1 _ = _
  congr 1
  funext a
  apply Fin.ext
  match a with
  | ⟨0, _⟩ => show win1_2.index t 0 * 1 + 1 * (j 0).val = (j 0).val; rw [hi.1]; omega
  | ⟨1, _⟩ => show win1_2.index t 1 * 2048 + 1 * (j 1).val = (j 1).val; rw [hi.2]; omega

theorem blk3 (t : Fin cfg1.N) : (iblk1 V c 3 t : Vec F S1 .f32) = V c main_v3_2 := by
  funext j
  unfold iblk1
  rw [View.read_apply]
  show V c main_v3_2 _ = _
  exact congrArg _ (one1 _ _)

/-! ## The accumulators -/

theorem counts_eq : ∀ (n : ℕ) (h : n < cfg1.N), (outsAt1 V c n h).2.2.2.2.2.1
    = counts (V c main_v0) 8 (V c main_arg1) (V c main_v3_1) n
  | 0, h => by
    rw [outsAt1_A V c ⟨0, h⟩ (Nat.zero_mod 8) (show ¬0 % 8 = 7 by decide)]
    dsimp only [at1_A, tup0_A]
    refine (counts_A ..).trans ?_; rw [blk0, blk1, blk2]
    rfl
  | n + 1, h => by
    have hN := lt_of_lt_of_eq h (show cfg1.N = 8 from N_1)
    have ih := counts_eq n (by omega)
    by_cases h7 : (n + 1) % 8 = 7
    · rw [outsAt1_C V c ⟨n + 1, h⟩ (by show ¬(n + 1) % 8 = 0; omega) h7]
      dsimp only [at1_C, tup0_C]
      refine (counts_C ..).trans ?_; rw [blk0, blk1]
      exact congrArg (fun z => k0_pay1 (k0_pay10 (xb _ _ (n + 1)) _ z)) ih
    · rw [outsAt1_B V c ⟨n + 1, h⟩ (by show ¬(n + 1) % 8 = 0; omega) h7]
      dsimp only [at1_B, tup0_B]
      refine (counts_B ..).trans ?_; rw [blk0, blk1]
      exact congrArg (fun z => k0_pay1 (k0_pay10 (xb _ _ (n + 1)) _ z)) ih

theorem losses_eq : ∀ (n : ℕ) (h : n < cfg1.N), (outsAt1 V c n h).2.2.2.2.2.2
    = fun _ => losses (V c main_v0) 8 (V c main_arg1) (V c main_v3_2) n
  | 0, h => by
    rw [outsAt1_A V c ⟨0, h⟩ (Nat.zero_mod 8) (show ¬0 % 8 = 7 by decide)]
    dsimp only [at1_A, tup0_A]
    refine (loss_A ..).trans ?_; rw [blk0, blk1, blk3]
    rfl
  | n + 1, h => by
    have hN := lt_of_lt_of_eq h (show cfg1.N = 8 from N_1)
    have ih := losses_eq n (by omega)
    by_cases h7 : (n + 1) % 8 = 7
    · rw [outsAt1_C V c ⟨n + 1, h⟩ (by show ¬(n + 1) % 8 = 0; omega) h7]
      dsimp only [at1_C, tup0_C]
      refine (loss_C ..).trans ?_; rw [blk0, blk1]
      exact funext fun _ => congrArg (fun z => k0_pay2 (k0_pay6 (xb _ _ (n + 1)) _) z) (congrFun ih _)
    · rw [outsAt1_B V c ⟨n + 1, h⟩ (by show ¬(n + 1) % 8 = 0; omega) h7]
      dsimp only [at1_B, tup0_B]
      refine (loss_B ..).trans ?_; rw [blk0, blk1]
      exact funext fun _ => congrArg (fun z => k0_pay2 (k0_pay6 (xb _ _ (n + 1)) _) z) (congrFun ih _)

/-! ## The results -/

theorem out4 (t : Fin cfg1.N) : (outsAt1 V c t.val t.isLt).1 = k0_pay8 (xb (V c main_v0) 8 t.val) (V c main_arg1) := by
  have hN := lt_of_lt_of_eq t.isLt (show cfg1.N = 8 from N_1)
  by_cases h0 : t.val % 8 = 0
  · rw [outsAt1_A V c t h0 (by omega)]; dsimp only [at1_A, tup0_A]; refine (idx_A ..).trans ?_; rw [blk0, blk1]
  · by_cases h7 : t.val % 8 = 7
    · rw [outsAt1_C V c t h0 h7]; dsimp only [at1_C, tup0_C]; refine (idx_C ..).trans ?_; rw [blk0, blk1]
    · rw [outsAt1_B V c t h0 h7]; dsimp only [at1_B, tup0_B]; refine (idx_B ..).trans ?_; rw [blk0, blk1]

theorem flushed_idx (t : Fin cfg1.N) (hf : (cfg1.win 4).flush t = true) :
    (dat1 V c).flushed 4 t = ((cfg1.win 4).blk t).view.read (Elt F) (idxOut (V c main_v0) 8 (V c main_arg1)) := by
  have hi : win1_4.index t 0 = t.val ∧ win1_4.index t 1 = 0 :=
    (by decide +kernel : ∀ t : Fin grid1.N, win1_4.index t 0 = t.val ∧ win1_4.index t 1 = 0) t
  show (cfg1.win 4).cut (grid1.coords t) ((dat1 V c).after 4 t) = _
  rw [after1_4, out4]
  funext j
  rw [View.read_apply]
  have h0 : (j 0).val < 8 := (j 0).isLt
  show k0_pay8 _ _ _ = k0_pay8 (xb _ _ ((win1_4.index t 0 * 8 + 1 * (j 0).val) / 8)) _ _
  rw [hi.1, show (t.val * 8 + 1 * (j 0).val) / 8 = t.val by omega]
  congr 1
  funext a
  apply Fin.ext
  match a with
  | ⟨0, _⟩ => show (j 0).val = (win1_4.index t 0 * 8 + 1 * (j 0).val) % 8; rw [hi.1]; omega
  | ⟨1, _⟩ => show (j 1).val = win1_4.index t 1 * 128 + 1 * (j 1).val; rw [hi.2]; omega

theorem final_idx : (dat1 V c).arrAt 4 cfg1.N = idxOut (V c main_v0) 8 (V c main_arg1) :=
  (dat1 V c).arrAt_eq_of_cover 4 _ (flushed_idx V c) fun i => by
    have h0 : (i 0 : Nat) < 64 := (i 0).isLt
    have h1 : (i 1 : Nat) < 128 := (i 1).isLt
    let t : Fin cfg1.N := ⟨(i 0).val / 8, lt_of_lt_of_eq (by omega : (i 0).val / 8 < 8) N_1.symm⟩
    have hi : win1_4.index t 0 = t.val ∧ win1_4.index t 1 = 0 :=
      (by decide +kernel : ∀ t : Fin grid1.N, win1_4.index t 0 = t.val ∧ win1_4.index t 1 = 0) t
    have htv : t.val = (i 0).val / 8 := rfl
    refine ⟨t, flush1_4 t, ?_⟩
    show i ∈ ((View.whole main_v4_0).slice (win1_4.rect t)).set
    rw [View.set_slice_whole, Rect.mem_set_unit]
    intro a
    match a with
    | ⟨0, _⟩ => show win1_4.index t 0 * 8 ≤ (i 0 : Nat) ∧ (i 0 : Nat) < win1_4.index t 0 * 8 + 8
                rw [hi.1]; omega
    | ⟨1, _⟩ => show win1_4.index t 1 * 128 ≤ (i 1 : Nat) ∧ (i 1 : Nat) < win1_4.index t 1 * 128 + 128
                rw [hi.2]; omega

theorem last7 (t : Fin cfg1.N) (h : t.val % 8 = 7) : t.val = 7 := by
  have hN := lt_of_lt_of_eq t.isLt (show cfg1.N = 8 from N_1); omega

def t7 : Fin cfg1.N := ⟨7, lt_of_lt_of_eq (by decide) N_1.symm⟩

def lossOut' (A : Vec F S16x256x1024 .f32) (E : Vec F S256x2048 .f32) (L : Vec F S1 .f32) : FVec F S1x1 .f32 :=
  k0_pay3 (losses A 8 E L 7)

def perpOut' (A : Vec F S16x256x1024 .f32) (E : Vec F S256x2048 .f32) (C : Vec F S1x2048 .f32) : FVec F S1x1 .f32 :=
  k0_pay4 (counts A 8 E C 7)

theorem out7 : (outsAt1 V c t7.val t7.isLt).2.2.2.1 = lossOut' (V c main_v0) (V c main_arg1) (V c main_v3_2) := by
  rw [outsAt1_C V c t7 (by decide) (by decide)]
  dsimp only [at1_C, tup0_C]
  refine (lossOut ..).trans ?_; rw [blk0, blk1]
  exact congrArg (fun z => k0_pay3 (k0_pay2 _ z)) (congrFun (losses_eq V c 6 (by decide +kernel)) _)

theorem out8 : (outsAt1 V c t7.val t7.isLt).2.2.2.2.1 = perpOut' (V c main_v0) (V c main_arg1) (V c main_v3_1) := by
  rw [outsAt1_C V c t7 (by decide) (by decide)]
  dsimp only [at1_C, tup0_C]
  refine (perpOut ..).trans ?_; rw [blk0, blk1]
  exact congrArg (fun z => k0_pay4 (k0_pay1 (k0_pay10 _ _ z))) (counts_eq V c 6 (by decide +kernel))

theorem final_loss : (dat1 V c).arrAt 7 cfg1.N = lossOut' (V c main_v0) (V c main_arg1) (V c main_v3_2) :=
  (dat1 V c).arrAt_eq_of_cover 7 _ (fun t hf => by
    obtain rfl : t = t7 := Fin.ext (last7 t ((flush1_7 t).mp hf))
    show (cfg1.win 7).cut (grid1.coords t7) ((dat1 V c).after 7 t7) = _
    rw [after1_7]
    refine (congrArg _ (out7 V c)).trans ?_
    funext j
    rw [View.read_apply]
    exact congrArg (lossOut' _ _ _) (one2 _ _)) fun i => ⟨t7, (flush1_7 t7).mpr rfl, by
      show i ∈ ((View.whole main_v4_3).slice (win1_7.rect t7)).set
      rw [View.set_slice_whole, Rect.mem_set_unit]
      intro a
      have h0 : (i 0 : Nat) < 1 := (i 0).isLt
      have h1 : (i 1 : Nat) < 1 := (i 1).isLt
      match a with
      | ⟨0, _⟩ => show win1_7.index t7 0 * 1 ≤ (i 0 : Nat) ∧ (i 0 : Nat) < win1_7.index t7 0 * 1 + 1
                  rw [show win1_7.index t7 0 = 0 from by decide +kernel]; omega
      | ⟨1, _⟩ => show win1_7.index t7 1 * 1 ≤ (i 1 : Nat) ∧ (i 1 : Nat) < win1_7.index t7 1 * 1 + 1
                  rw [show win1_7.index t7 1 = 0 from by decide +kernel]; omega⟩

theorem final_perp : (dat1 V c).arrAt 8 cfg1.N = perpOut' (V c main_v0) (V c main_arg1) (V c main_v3_1) :=
  (dat1 V c).arrAt_eq_of_cover 8 _ (fun t hf => by
    obtain rfl : t = t7 := Fin.ext (last7 t ((flush1_8 t).mp hf))
    show (cfg1.win 8).cut (grid1.coords t7) ((dat1 V c).after 8 t7) = _
    rw [after1_8]
    refine (congrArg _ (out8 V c)).trans ?_
    funext j
    rw [View.read_apply]
    exact congrArg (perpOut' _ _ _) (one2 _ _)) fun i => ⟨t7, (flush1_8 t7).mpr rfl, by
      show i ∈ ((View.whole main_v4_4).slice (win1_8.rect t7)).set
      rw [View.set_slice_whole, Rect.mem_set_unit]
      intro a
      have h0 : (i 0 : Nat) < 1 := (i 0).isLt
      have h1 : (i 1 : Nat) < 1 := (i 1).isLt
      match a with
      | ⟨0, _⟩ => show win1_8.index t7 0 * 1 ≤ (i 0 : Nat) ∧ (i 0 : Nat) < win1_8.index t7 0 * 1 + 1
                  rw [show win1_8.index t7 0 = 0 from by decide +kernel]; omega
      | ⟨1, _⟩ => show win1_8.index t7 1 * 1 ≤ (i 1 : Nat) ∧ (i 1 : Nat) < win1_8.index t7 1 * 1 + 1
                  rw [show win1_8.index t7 1 = 0 from by decide +kernel]; omega⟩

end Cert.Proof.CodesRun1

end
-- ==== Proof.TwoHosts.lean ====
/-
  The operations before the first call and after the second one: which buffers they write.
-/
module

public import proofs.«01_k».proof.Proof.Gen.CodesIdeal.Launch
public import proofs.«01_k».proof.Proof.Gen.CodesIdeal.Skeleton
public import proofs.«01_k».proof.Proof.Gen.CodesIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1]

theorem hostOps0_fresh : (hostOps0 : List (HloOp τ sig (Elt F))).Forall fun op => op.fresh = ∅ := by
  simp only [List.Forall]; repeat' constructor

abbrev hostOps0_W : List (Ref sig .tc) := [main_v0, main_cst, main_v1, main_cst_0, main_v2]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor

abbrev hostOps2_W : List (Ref sig .tc) := [main_v5, main_v6, main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl

theorem hostOps2_args : ∀ a ∈ argRefs, a ∉ hostOps2_W := ListAll.forall_mem_of_all_decide (by decide +kernel)

end Cert.Proof.Two

end
-- ==== Proof.TwoFold.lean ====
/-
  The contents of every buffer between the operations and the calls, one valuation after another.
-/
module

public import proofs.«01_k».proof.Proof.TwoRegion0
public import proofs.«01_k».proof.Proof.TwoRegion1
public import proofs.«01_k».proof.Proof.TwoHosts

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)

abbrev V3 : (c : Dev nD) → (b : Ref sig .tc) → Buf (Elt F) ((c : Thread nD τ).loc b) := fun c b => W3 m ρ c b

theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)

theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
end Cert.Proof.Two

end
-- ==== Proof.TwoState.lean ====
/-
  The states between the operations and the calls, as the separation logic holds them.
-/
module

public import proofs.«01_k».proof.Proof.TwoFold

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

end Cert.Proof.Two

end
-- ==== Proof.TwoRecord0.lean ====
/-
  The first call as a segment of the program.
-/
module

public import proofs.«01_k».proof.Proof.TwoState

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine BIBase.Entails.trans (hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Proof.Two

end
-- ==== Proof.TwoRecord1.lean ====
/-
  The second call as a segment of the program.
-/
module

public import proofs.«01_k».proof.Proof.TwoState

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinb (V2 m ρ) c)
    unfold Pipeline.ΦA
    iintro ⟨Hp, -, Hr⟩
    isplitl [Hr]; · iexact Hr
    iexact Hp
  hout c := by
    rw [Pipeline.ownSems0_none]
    refine BIBase.Entails.trans (houtb (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Proof.Two

end
-- ==== Proof.TwoFrame.lean ====
/-
  The run of the two-call program: every buffer ends at the last valuation.
-/
module

public import proofs.«01_k».proof.Proof.TwoRecord0
public import proofs.«01_k».proof.Proof.TwoRecord1

@[expose] public section

set_option maxRecDepth 16384

noncomputable section

namespace Cert.Proof.Two

open Cert.CodesIdeal Cert.CodesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in

/-- Every buffer that outlives the calls ends at the last valuation, and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c)⟩, h.2⟩) (run m ρ)

end Cert.Proof.Two

end
-- ==== Proof.CodesRun.lean ====
/-
  The codes kernel's three results as functions of its two arguments: the codes of both calls one after the other, and
  the loss and the perplexity from the accumulators the second call takes up from the first.
-/
module

public import proofs.«01_k».proof.Proof.CodesRun0
public import proofs.«01_k».proof.Proof.CodesRun1
public import proofs.«01_k».proof.Proof.TwoFrame
public import Idealize.ShloMosaic.Lib.StableHlo.Run

@[expose] public section

noncomputable section

namespace Cert.Proof.CodesRun

open Cert.CodesIdeal Cert.CodesIdeal.Gen Cert.Proof.Two Idealize.ShloMosaic Idealize.ShloMosaic.TcCoe Idealize.SL.Sem
open Cert.Proof.CodesAcc

variable {F : FTy → Type} [FloatOps F]

/-- No counts yet. -/
def zeroC : Vec F S1x2048 .f32 := broadcastInDim S1x2048 ![] bcast_S_S1x2048 (constant S_ .f32 0x00000000#32)
/-- No loss yet. -/
def zeroL : Vec F S1 .f32 := broadcastInDim S1 ![] bcast_S_S1 (constant S_ .f32 0x00000000#32)

section
variable (X : Vec F S16x256x32x32 .f32) (E : Vec F S256x2048 .f32)

/-- The counts of the first eight images. -/
def halfC : Vec F S1x2048 .f32 := counts (x3 X) 0 E zeroC 7
/-- The loss sum of the first eight images. -/
def halfL : Vec F S1 .f32 := fun _ => losses (x3 X) 0 E zeroL 7

def lossAll : FVec F S_ .f32 := shapeCast S_ (CodesRun1.lossOut' (x3 X) E (halfL X E)) shapeCasts_S1x1_S_
def perpAll : FVec F S_ .f32 := shapeCast S_ (CodesRun1.perpOut' (x3 X) E (halfC X E)) shapeCasts_S1x1_S_
def idxAll : IVec S16384 32 := concatenate S16384 0 [⟨S8192, shapeCast S8192 (idxOut (x3 X) 0 E) shapeCasts_S64x128_S8192⟩,
  ⟨S8192, shapeCast S8192 (idxOut (x3 X) 8 E) shapeCasts_S64x128_S8192⟩] concatenates_S8192_S8192_S16384_d0
end

variable (m : (ℓ : Loc nD τ sig) → Buf (Elt F) ℓ) (ρ : Dev nD → PrngReg) (c : Dev nD)

theorem V1_x : V1 m ρ c main_v0 = x3 (m (c.tc.loc main_arg0)) := by
  show StableHlo.after hostOps0 (W0 m ρ c) main_v0 = _
  after_results <;> rfl
theorem V1_c : V1 m ρ c main_v1 = zeroC := by
  show StableHlo.after hostOps0 (W0 m ρ c) main_v1 = _
  after_results <;> rfl
theorem V1_l : V1 m ρ c main_v2 = zeroL := by
  show StableHlo.after hostOps0 (W0 m ρ c) main_v2 = _
  after_results <;> rfl
theorem V1_e : V1 m ρ c main_arg1 = m (c.tc.loc main_arg1) := W1_args m ρ c main_arg1 (by decide)

theorem V2_x : V2 m ρ c main_v0 = x3 (m (c.tc.loc main_arg0)) := (W2_of m ρ c main_v0 (by decide +kernel)).trans (V1_x m ρ c)
theorem V2_e : V2 m ρ c main_arg1 = m (c.tc.loc main_arg1) := W2_args m ρ c main_arg1 (by decide)
theorem V2_c : V2 m ρ c main_v3_1 = halfC (m (c.tc.loc main_arg0)) (m (c.tc.loc main_arg1)) := by
  refine (W2_arr m ρ c 5).trans ((CodesRun0.final_counts (V1 m ρ) c).trans ?_)
  rw [V1_x, V1_e, V1_c]; rfl
theorem V2_l : V2 m ρ c main_v3_2 = halfL (m (c.tc.loc main_arg0)) (m (c.tc.loc main_arg1)) := by
  refine (W2_arr m ρ c 6).trans ((CodesRun0.final_sum (V1 m ρ) c).trans ?_)
  rw [V1_x, V1_e, V1_l]; rfl

theorem V3_a : V3 m ρ c main_v3_0 = idxOut (x3 (m (c.tc.loc main_arg0))) 0 (m (c.tc.loc main_arg1)) := by
  refine (W3_of m ρ c main_v3_0 (by decide +kernel)).trans ((W2_arr m ρ c 4).trans ((CodesRun0.final_idx (V1 m ρ) c).trans ?_))
  rw [V1_x, V1_e]
theorem V3_b : V3 m ρ c main_v4_0 = idxOut (x3 (m (c.tc.loc main_arg0))) 8 (m (c.tc.loc main_arg1)) := by
  refine (W3_arr m ρ c 4).trans ((CodesRun1.final_idx (V2 m ρ) c).trans ?_)
  rw [V2_x, V2_e]
theorem V3_l : V3 m ρ c main_v4_3 = CodesRun1.lossOut' (x3 (m (c.tc.loc main_arg0))) (m (c.tc.loc main_arg1))
    (halfL (m (c.tc.loc main_arg0)) (m (c.tc.loc main_arg1))) := by
  refine (W3_arr m ρ c 7).trans ((CodesRun1.final_loss (V2 m ρ) c).trans ?_)
  rw [V2_x, V2_e, V2_l]
theorem V3_p : V3 m ρ c main_v4_4 = CodesRun1.perpOut' (x3 (m (c.tc.loc main_arg0))) (m (c.tc.loc main_arg1))
    (halfC (m (c.tc.loc main_arg0)) (m (c.tc.loc main_arg1))) := by
  refine (W3_arr m ρ c 8).trans ((CodesRun1.final_perp (V2 m ρ) c).trans ?_)
  rw [V2_x, V2_e, V2_c]

section
variable (V : Valuation τ sig (Elt F))
theorem tail7 : StableHlo.after hostOps2 V main_v7 = concatenate S16384 0
    [⟨S8192, shapeCast S8192 (V main_v3_0 : Vec F S64x128 .i32) shapeCasts_S64x128_S8192⟩,
     ⟨S8192, shapeCast S8192 (V main_v4_0 : Vec F S64x128 .i32) shapeCasts_S64x128_S8192⟩] concatenates_S8192_S8192_S16384_d0 := by
  after_results <;> rfl
theorem tail8 : StableHlo.after hostOps2 V main_v8 = shapeCast S_ (V main_v4_3 : Vec F S1x1 .f32) shapeCasts_S1x1_S_ := by
  after_results <;> rfl
theorem tail9 : StableHlo.after hostOps2 V main_v9 = shapeCast S_ (V main_v4_4 : Vec F S1x1 .f32) shapeCasts_S1x1_S_ := by
  after_results <;> rfl
end

theorem res7 : W4 m ρ c main_v7 = idxAll (m (c.tc.loc main_arg0)) (m (c.tc.loc main_arg1)) := by
  refine (tail7 _).trans ?_
  have ha : W3 m ρ c main_v3_0 = _ := V3_a m ρ c
  have hb : W3 m ρ c main_v4_0 = _ := V3_b m ρ c
  rw [ha, hb]; rfl
theorem res8 : W4 m ρ c main_v8 = lossAll (m (c.tc.loc main_arg0)) (m (c.tc.loc main_arg1)) := by
  refine (tail8 _).trans ?_
  have h : W3 m ρ c main_v4_3 = _ := V3_l m ρ c
  rw [h]; rfl
theorem res9 : W4 m ρ c main_v9 = perpAll (m (c.tc.loc main_arg0)) (m (c.tc.loc main_arg1)) := by
  refine (tail9 _).trans ?_
  have h : W3 m ρ c main_v4_4 = _ := V3_p m ρ c
  rw [h]; rfl

/-- The run of the codes kernel. -/
theorem run : θ_run defs (onTc (τ := τ) (main (F := F))) ⟨m, fun _ => 0, ρ⟩ fun r => ∀ c : Dev nD,
      r.2.mem ((c : Thread nD τ).loc main_v8) = lossAll (m (c.tc.loc main_arg0)) (m (c.tc.loc main_arg1))
      ∧ r.2.mem ((c : Thread nD τ).loc main_v9) = perpAll (m (c.tc.loc main_arg0)) (m (c.tc.loc main_arg1))
      ∧ r.2.mem ((c : Thread nD τ).loc main_v7) = idxAll (m (c.tc.loc main_arg0)) (m (c.tc.loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c _ (mem_uc main_v8 (by decide))).trans (res8 m ρ c),
      (h.1 c _ (mem_uc main_v9 (by decide))).trans (res9 m ρ c), (h.1 c _ (mem_uc main_v7 (by decide))).trans (res7 m ρ c),
      (h.1 c _ (mem_uc main_arg0 (by decide))).trans (W4_main_arg0 m ρ c),
      (h.1 c _ (mem_uc main_arg1 (by decide))).trans (W4_main_arg1 m ρ c)⟩) (Two.run m ρ)

end Cert.Proof.CodesRun

end
-- ==== Proof.CodesRef.lean ====
/-
  The codes reference's run: its operations in order, and its three results as functions of its arguments.
-/
module

public import proofs.«01_k».proof.Proof.Gen.CodesRefIdeal
public import Idealize.ShloMosaic.Lib.StableHlo.Run
public import Idealize.ShloMosaic.Lib.Tactic
public import Idealize.ShloMosaic.Lib.Quiescent

@[expose] public section

noncomputable section

namespace Cert.Proof.CodesRef

open Cert.CodesRefIdeal Cert.CodesRefIdeal.Gen Idealize.ShloMosaic Idealize.ShloMosaic.TcCoe Idealize.SL.Sem Idealize.ShloMosaic.StableHlo

variable {F : FTy → Type} [FloatOps F]

/-- The rows. -/
def flat (X : FVec F S16x256x32x32 .f32) : FVec F S16384x256 .f32 :=
  shapeCast S16384x256 (transpose S16x32x32x256 [0, 2, 3, 1] X
    transposes_S16x256x32x32_S16x32x32x256_0_2_3_1) shapeCasts_S16x32x32x256_S16384x256

/-- The distances of every row to every code. -/
def dist (R : FVec F S16384x256 .f32) (E : FVec F S256x2048 .f32) : FVec F S16384x2048 .f32 :=
  subf (addf
      (broadcastInDim S16384x2048 ![0, 1] bcast_S16384x1_S16384x2048_0_1 (broadcastInDim S16384x1 ![0] bcast_S16384_S16384x1_0
        (Host.reduceAdd (mulf R R) (constant S_ .f32 0x00000000#32) reducesTo_S16384x256_S16384_d1 h_S_)))
      (broadcastInDim S16384x2048 ![0, 1] bcast_S1x2048_S16384x2048_0_1 (broadcastInDim S1x2048 ![1] bcast_S2048_S1x2048_1
        (Host.reduceAdd (mulf E E) (constant S_ .f32 0x00000000#32) reducesTo_S256x2048_S2048_d0 h_S_))))
    (mulf (broadcastInDim S16384x2048 ![] bcast_S_S16384x2048 (constant S_ .f32 0x40000000#32))
      (Host.dotGeneral dot_S16384x256_S256x2048_S16384x2048_1_0_0_1_n_n none R E))

/-- The nearest code of every row. -/
def code (D : FVec F S16384x2048 .f32) : IVec S16384 32 := fun j =>
  (Host.argReduce reducer_argmin_f32_i32 D (iotaInDim S16384x2048 32 1) (constant S_ .f32 0x7F800000#32) (constantI S_ 32 0#32)
    reducesTo_S16384x2048_S16384_d1 h_S_ j).2

/-- The codes as one-hot rows. -/
def hot (I : IVec S16384 32) : FVec F S16384x2048 .f32 :=
  uitofp .f32 (cmpi .eq
    (broadcastInDim S16384x2048 ![0, 1] bcast_S16384x1_S16384x2048_0_1 (broadcastInDim S16384x1 ![0] bcast_S16384_S16384x1_0 I))
    (broadcastInDim S16384x2048 ![0, 1] bcast_S1x2048_S16384x2048_0_1 (iotaInDim S1x2048 32 1)))

/-- The differences between the chosen codes and the rows. -/
def diff (R : FVec F S16384x256 .f32) (E : FVec F S256x2048 .f32) (H : FVec F S16384x2048 .f32) : FVec F S16384x256 .f32 :=
  subf (Host.dotGeneral dot_S16384x2048_S2048x256_S16384x256_1_0_0_1_n_n none H
    (transpose S2048x256 [1, 0] E transposes_S256x2048_S2048x256_1_0)) R

/-- The mean squared difference. -/
def latent (Q : FVec F S16384x256 .f32) : FVec F S_ .f32 :=
  Host.divf (Host.reduceAdd (mulf Q Q) (constant S_ .f32 0x00000000#32) reducesTo_S16384x256_S_d0_1 h_S_) (constant S_ .f32 0x4A800000#32)

def loss (A : FVec F S_ .f32) : FVec F S_ .f32 := addf A (mulf (constant S_ .f32 0x3E800000#32) A)

/-- The share of every code. -/
def probs (H : FVec F S16384x2048 .f32) : FVec F S2048 .f32 :=
  Host.divf (Host.reduceAdd H (constant S_ .f32 0x00000000#32) reducesTo_S16384x2048_S2048_d0 h_S_)
    (broadcastInDim S2048 ![] bcast_S_S2048 (constant S_ .f32 0x46800000#32))

def perp (P : FVec F S2048 .f32) : FVec F S_ .f32 :=
  Host.exp (Host.negf (Host.reduceAdd
    (mulf P (Host.log (addf P (broadcastInDim S2048 ![] bcast_S_S2048 (constant S_ .f32 0x2EDBE6FF#32)))))
    (constant S_ .f32 0x00000000#32) reducesTo_S2048_S_d0 h_S_))

/-- The operations before the nearest codes. -/
abbrev opsA : List (HloOp τ sig (Elt F)) :=
  [ unary main_arg0 main_v0 ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)),
    reshape main_v0 main_v1 (rfl : (.f32 : EltTy) = .f32) shapeCasts_S16x32x32x256_S16384x256,
    binary main_v1 main_v1 main_v2 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S256x2048, .f32⟩ : BufTy).Contents (Elt F) → (⟨S256x2048, .f32⟩ : BufTy).Contents (Elt F) → (⟨S256x2048, .f32⟩ : BufTy).Contents (Elt F)),
    nullary main_cst_0 (constant S_ .f32 0x00000000#32),
    binary main_v5 main_cst_0 main_v6 ((fun x v => Host.reduceAdd x v reducesTo_S256x2048_S2048_d0 h_S_) : (⟨S256x2048, .f32⟩ : BufTy).Contents (Elt F) → (⟨S_, .f32⟩ : BufTy).Contents (Elt F) → (⟨S2048, .f32⟩ : BufTy).Contents (Elt F)),
    unary main_v6 main_v7 (broadcastInDim S1x2048 ![1] bcast_S2048_S1x2048_1 : (⟨S2048, .f32⟩ : BufTy).Contents (Elt F) → (⟨S1x2048, .f32⟩ : BufTy).Contents (Elt F)),
    unary main_v4 main_v8 (broadcastInDim S16384x2048 ![0, 1] bcast_S16384x1_S16384x2048_0_1 : (⟨S16384x1, .f32⟩ : BufTy).Contents (Elt F) → (⟨S16384x2048, .f32⟩ : BufTy).Contents (Elt F)),
    unary main_v7 main_v9 (broadcastInDim S16384x2048 ![0, 1] bcast_S1x2048_S16384x2048_0_1 : (⟨S1x2048, .f32⟩ : BufTy).Contents (Elt F) → (⟨S16384x2048, .f32⟩ : BufTy).Contents (Elt F)),
    binary main_v8 main_v9 main_v10 (addf : (⟨S16384x2048, .f32⟩ : BufTy).Contents (Elt F) → (⟨S16384x2048, .f32⟩ : BufTy).Contents (Elt F) → (⟨S16384x2048, .f32⟩ : BufTy).Contents (Elt F)),
    binary main_v1 main_arg1 main_v11 ((fun l r => Host.dotGeneral dot_S16384x256_S256x2048_S16384x2048_1_0_0_1_n_n none l r) : (⟨S16384x256, .f32⟩ : BufTy).Contents (Elt F) → (⟨S256x2048, .f32⟩ : BufTy).Contents (Elt F) → (⟨S16384x2048, .f32⟩ : BufTy).Contents (Elt F)),
    nullary main_cst_1 (constant S_ .f32 0x40000000#32),
    unary main_cst_1 main_v12 (broadcastInDim S16384x2048 ![] bcast_S_S16384x2048 : (⟨S_, .f32⟩ : BufTy).Contents (Elt F) → (⟨S16384x2048, .f32⟩ : BufTy).Contents (Elt F)),
    binary main_v12 main_v11 main_v13 (mulf : (⟨S16384x2048, .f32⟩ : BufTy).Contents (Elt F) → (⟨S16384x2048, .f32⟩ : BufTy).Contents (Elt F) → (⟨S16384x2048, .f32⟩ : BufTy).Contents (Elt F)),
    binary main_v10 main_v13 main_v14 (subf : (⟨S16384x2048, .f32⟩ : BufTy).Contents (Elt F) → (⟨S16384x2048, .f32⟩ : BufTy).Contents (Elt F) → (⟨S16384x2048, .f32⟩ : BufTy).Contents (Elt F)) ]
/-- The operations of the nearest codes and of the one-hot rows. -/
abbrev opsB : List (HloOp τ sig (Elt F)) :=
  [ nullary main_call0_v0 (iotaInDim S16384x2048 32 1),
    nullary main_call0_cst (constant S_ .f32 0x7F800000#32),
    nullary main_call0_c (constantI S_ 32 0#32),
    quaternary main_v14 main_call0_v0 main_call0_cst main_call0_c main_call0_v1_0 ((fun x y u v j => (Host.argReduce reducer_argmin_f32_i32 x y u v reducesTo_S16384x2048_S16384_d1 h_S_ j).1) : (⟨S16384x2048, .f32⟩ : BufTy).Contents (Elt F) → (⟨S16384x2048, .i32⟩ : BufTy).Contents (Elt F) → (⟨S_, .f32⟩ : BufTy).Contents (Elt F) → (⟨S_, .i32⟩ : BufTy).Contents (Elt F) → (⟨S16384, .f32⟩ : BufTy).Contents (Elt F)),
    quaternary main_v14 main_call0_v0 main_call0_cst main_call0_c main_v15 ((fun x y u v j => (Host.argReduce reducer_argmin_f32_i32 x y u v reducesTo_S16384x2048_S16384_d1 h_S_ j).2) : (⟨S16384x2048, .f32⟩ : BufTy).Contents (Elt F) → (⟨S16384x2048, .i32⟩ : BufTy).Contents (Elt F) → (⟨S_, .f32⟩ : BufTy).Contents (Elt F) → (⟨S_, .i32⟩ : BufTy).Contents (Elt F) → (⟨S16384, .i32⟩ : BufTy).Contents (Elt F)),
    unary main_v15 main_call1_v0 (broadcastInDim S16384x1 ![0] bcast_S16384_S16384x1_0 : (⟨S16384, .i32⟩ : BufTy).Contents (Elt F) → (⟨S16384x1, .i32⟩ : BufTy).Contents (Elt F)),
    nullary main_call1_v1 (iotaInDim S1x2048 32 1),
    unary main_call1_v0 main_call1_v2 (broadcastInDim S16384x2048 ![0, 1] bcast_S16384x1_S16384x2048_0_1 : (⟨S16384x1, .i32⟩ : BufTy).Contents (Elt F) → (⟨S16384x2048, .i32⟩ : BufTy).Contents (Elt F)),
    unary main_call1_v1 main_call1_v3 (broadcastInDim S16384x2048 ![0, 1] bcast_S1x2048_S16384x2048_0_1 : (⟨S1x2048, .i32⟩ : BufTy).Contents (Elt F) → (⟨S16384x2048, .i32⟩ : BufTy).Contents (Elt F)),
    binary main_call1_v2 main_call1_v3 main_call1_v4 (cmpi .eq : (⟨S16384x2048, .i32⟩ : BufTy).Contents (Elt F) → (⟨S16384x2048, .i32⟩ : BufTy).Contents (Elt F) → (⟨S16384x2048, .i1⟩ : BufTy).Contents (Elt F)),
    unary main_call1_v4 main_v16 (uitofp .f32 : (⟨S16384x2048, .i1⟩ : BufTy).Contents (Elt F) → (⟨S16384x2048, .f32⟩ : BufTy).Contents (Elt F)) ]
/-- The operations after them. -/
abbrev opsC : List (HloOp τ sig (Elt F)) :=
  [ unary main_arg1 main_v17 ((transpose S2048x256 [1, 0] · transposes_S256x2048_S2048x256_1_0) : (⟨S256x2048, .f32⟩ : BufTy).Contents (Elt F) → (⟨S2048x256, .f32⟩ : BufTy).Contents (Elt F)),
    binary main_v16 main_v17 main_v18 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    binary main_v18 main_v1 main_v19 (subf : (⟨S16384x256, .f32⟩ : BufTy).Contents (Elt F) → (⟨S16384x256, .f32⟩ : BufTy).Contents (Elt F) → (⟨S16384x256, .f32⟩ : BufTy).Contents (Elt F)),
    binary main_v19 main_v19 main_v20 (mulf : (⟨S16384x256, .f32⟩ : BufTy).Contents (Elt F) → (⟨S16384x256, .f32⟩ : BufTy).Contents (Elt F) → (⟨S16384x256, .f32⟩ : BufTy).Contents (Elt F)),
    nullary main_cst_2 (constant S_ .f32 0x00000000#32),
    binary main_v20 main_cst_2 main_v21 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_3 (constant S_ .f32 0x4A800000#32),
    binary main_v21 main_cst_3 main_v22 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v22 main_v23 (mulf : (⟨S_, .f32⟩ : BufTy).Contents (Elt F) → (⟨S_, .f32⟩ : BufTy).Contents (Elt F) → (⟨S_, .f32⟩ : BufTy).Contents (Elt F)),
    binary main_v22 main_v23 main_v24 (addf : (⟨S_, .f32⟩ : BufTy).Contents (Elt F) → (⟨S_, .f32⟩ : BufTy).Contents (Elt F) → (⟨S_, .f32⟩ : BufTy).Contents (Elt F)),
    nullary main_cst_5 (constant S_ .f32 0x00000000#32),
    binary main_v16 main_cst_5 main_v25 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_6 (constant S_ .f32 0x46800000#32),
    unary main_cst_6 main_v26 (broadcastInDim S2048 ![] bcast_S_S2048 : (⟨S_, .f32⟩ : BufTy).Contents (Elt F) → (⟨S2048, .f32⟩ : BufTy).Contents (Elt F)),
    binary main_v25 main_v26 main_v27 (Host.divf : (⟨S2048, .f32⟩ : BufTy).Contents (Elt F) → (⟨S2048, .f32⟩ : BufTy).Contents (Elt F) → (⟨S2048, .f32⟩ : BufTy).Contents (Elt F)),
    nullary main_cst_7 (constant S_ .f32 0x2EDBE6FF#32),
    unary main_cst_7 main_v28 (broadcastInDim S2048 ![] bcast_S_S2048 : (⟨S_, .f32⟩ : BufTy).Contents (Elt F) → (⟨S2048, .f32⟩ : BufTy).Contents (Elt F)),
    binary main_v27 main_v28 main_v29 (addf : (⟨S2048, .f32⟩ : BufTy).Contents (Elt F) → (⟨S2048, .f32⟩ : BufTy).Contents (Elt F) → (⟨S2048, .f32⟩ : BufTy).Contents (Elt F)),
    unary main_v29 main_v30 (Host.log : (⟨S2048, .f32⟩ : BufTy).Contents (Elt F) → (⟨S2048, .f32⟩ : BufTy).Contents (Elt F)),
    binary main_v27 main_v30 main_v31 (mulf : (⟨S2048, .f32⟩ : BufTy).Contents (Elt F) → (⟨S2048, .f32⟩ : BufTy).Contents (Elt F) → (⟨S2048, .f32⟩ : BufTy).Contents (Elt F)),
    nullary main_cst_8 (constant S_ .f32 0x00000000#32),
    binary main_v31 main_cst_8 main_v32 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    unary main_v32 main_v33 (Host.negf : (⟨S_, .f32⟩ : BufTy).Contents (Elt F) → (⟨S_, .f32⟩ : BufTy).Contents (Elt F)),
    unary main_v33 main_v34 (Host.exp : (⟨S_, .f32⟩ : BufTy).Contents (Elt F) → (⟨S_, .f32⟩ : BufTy).Contents (Elt F)) ]
/-- The operations, in order. -/
abbrev ops : List (HloOp τ sig (Elt F)) := opsA ++ (opsB ++ opsC)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

theorem after_app (l₁ l₂ : List (HloOp τ sig (Elt F))) (V : Valuation τ sig (Elt F)) :
    after (l₁ ++ l₂) V = after l₂ (after l₁ V) := by
  induction l₁ generalizing V with
  | nil => rfl
  | cons op l ih => exact ih _

section
variable (V : Valuation τ sig (Elt F))

set_option maxHeartbeats 4000000

theorem a1 : after (opsA (F := F)) V main_v1 = flat (V main_arg0) := by after_results_simp <;> rfl
theorem a14 : after (opsA (F := F)) V main_v14 = dist (flat (V main_arg0)) (V main_arg1) := by after_results_simp <;> rfl
theorem aX : after (opsA (F := F)) V main_arg0 = V main_arg0 := by after_results_simp <;> rfl
theorem aE : after (opsA (F := F)) V main_arg1 = V main_arg1 := by after_results_simp <;> rfl
theorem b1 : after (opsB (F := F)) V main_v1 = V main_v1 := by after_results_simp <;> rfl
theorem b15 : after (opsB (F := F)) V main_v15 = code (V main_v14) := by after_results_simp <;> rfl
theorem b16 : after (opsB (F := F)) V main_v16 = hot (code (V main_v14)) := by after_results_simp <;> rfl
theorem bX : after (opsB (F := F)) V main_arg0 = V main_arg0 := by after_results_simp <;> rfl
theorem bE : after (opsB (F := F)) V main_arg1 = V main_arg1 := by after_results_simp <;> rfl
theorem c15 : after (opsC (F := F)) V main_v15 = V main_v15 := by after_results_simp <;> rfl
theorem cX : after (opsC (F := F)) V main_arg0 = V main_arg0 := by after_results_simp <;> rfl
theorem cE : after (opsC (F := F)) V main_arg1 = V main_arg1 := by after_results_simp <;> rfl
theorem c24 : after (opsC (F := F)) V main_v24 = loss (latent (diff (V main_v1) (V main_arg1) (V main_v16))) := by
  after_results_simp <;> rfl
theorem c34 : after (opsC (F := F)) V main_v34 = perp (probs (V main_v16)) := by
  after_results_simp <;> rfl
end

section
variable (m : (ℓ : Loc nD τ sig) → Buf (Elt F) ℓ) (c : Dev nD)

abbrev iArg : IVec S16384 32 := code (dist (flat (m (c.tc.loc main_arg0))) (m (c.tc.loc main_arg1)))

theorem res15 : after (ops (F := F)) (fun b => m (c, b)) main_v15 = iArg m c := by
  rw [after_app, after_app, c15, b15, a14]

theorem res24 : after (ops (F := F)) (fun b => m (c, b)) main_v24
    = loss (latent (diff (flat (m (c.tc.loc main_arg0))) (m (c.tc.loc main_arg1)) (hot (iArg m c)))) := by
  rw [after_app, after_app, c24, b1, b16, bE, a1, a14, aE]

theorem res34 : after (ops (F := F)) (fun b => m (c, b)) main_v34 = perp (probs (hot (iArg m c))) := by
  rw [after_app, after_app, c34, b16, a14]
end

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = loss (latent (diff (flat (m (c.tc.loc main_arg0))) (m (c.tc.loc main_arg1)) (hot (iArg m c))))
      ∧ r.2.mem ((c.tc : Thread nD τ).loc main_v34) = perp (probs (hot (iArg m c)))
      ∧ r.2.mem ((c.tc : Thread nD τ).loc main_v15) = iArg m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (res24 m c), (h c main_v34).trans (res34 m c), (h c main_v15).trans (res15 m c),
      (h c main_arg0).trans (by rw [after_app, after_app, cX, bX, aX]), (h c main_arg1).trans (by rw [after_app, after_app, cE, bE, aE])⟩)
    (run_seq scopedRefs_eq scopedSems_eq defs main (fun _ => ops) main_eq (fun _ => ops_sub) m ρ)

end Cert.Proof.CodesRef

end
-- ==== Proof.CodesRefVal.lean ====
/-
  The codes reference's stages read at an index, at the ideal values: distances as sums, one-hot rows as indicators.
-/
module

public import proofs.«01_k».proof.Proof.CodesRef
public import Idealize.ShloMosaic.Lib.ValueIdx
public import Idealize.ShloMosaic.Lib.Pipeline.Value
public import Idealize.ShloMosaic.Lib.IdealHost
public import Idealize.ShloMosaic.PureOps.Ideal.Laws

@[expose] public section

noncomputable section

namespace Cert.Proof.CodesRef

open Cert.CodesRefIdeal Cert.CodesRefIdeal.Gen Idealize.ShloMosaic Idealize.ShloMosaic.ValueIdx Idealize.ShloMosaic.Ideal
open scoped BigOperators

/-- A sum over a contraction of one axis is a sum over its coordinate. -/
theorem sum_contr {sl sr so : Shape} (D : DotDims sl sr so) (n : Nat) (hr : D.contr.rank = 1)
    (hs : D.contr.size ⟨0, by omega⟩ = n) (f : D.contr.Idx → EReal) (g : Fin n → EReal)
    (h : ∀ k, f ((contrEquiv1 D n hr hs).symm k) = g k) : ∑ k, f k = ∑ k, g k :=
  (Equiv.sum_comp (contrEquiv1 D n hr hs).symm f).symm.trans (Finset.sum_congr rfl fun k _ => h k)

theorem two_f32 : Ideal.ofBits .f32 0x40000000#32 = ((2 : ℝ) : EReal) := by
  simp [Ideal.ofBits, Ideal.ieee, -EReal.coe_mul]; norm_num
theorem top_f32 : Ideal.ofBits .f32 0x7F800000#32 = ⊤ := by
  simp [Ideal.ofBits, Ideal.ieee]

/-- Row `n` is the pixel `n % 1024` of image `n / 1024`. -/
theorem flat_apply (X : FVec Ideal S16x256x32x32 .f32) (n : Fin 16384) (d : Fin 256) :
    flat X (ix2 n d) = X (ix4 ⟨n.val / 1024, by omega⟩ d ⟨n.val % 1024 / 32, by omega⟩ ⟨n.val % 32, by omega⟩) := by
  unfold flat
  rw [shapeCast_apply _ _ (ix2 n d) (ix4 ⟨n.val / 1024, by omega⟩ ⟨n.val % 1024 / 32, by omega⟩ ⟨n.val % 32, by omega⟩ d)
      (by rw [Shape.rowMajor_val_four, Shape.rowMajor_val_two]
          show ((n.val / 1024 * 32 + n.val % 1024 / 32) * 32 + n.val % 32) * 256 + d.val = n.val * 256 + d.val
          omega),
    transpose_apply _ _ _ _ (ix4 ⟨n.val / 1024, by omega⟩ d ⟨n.val % 1024 / 32, by omega⟩ ⟨n.val % 32, by omega⟩)
      (by intro b; match b with | ⟨0, _⟩ => rfl | ⟨1, _⟩ => rfl | ⟨2, _⟩ => rfl | ⟨3, _⟩ => rfl)]

theorem dist_apply (R : FVec Ideal S16384x256 .f32) (E : FVec Ideal S256x2048 .f32) (n : Fin 16384) (k : Fin 2048) :
    dist R E (ix2 n k) = (∑ d : Fin 256, R (ix2 n d) * R (ix2 n d) + ∑ d : Fin 256, E (ix2 d k) * E (ix2 d k))
      - ((2 : ℝ) : EReal) * ∑ d : Fin 256, R (ix2 n d) * E (ix2 d k) := by
  unfold dist
  rw [subf_apply, addf_apply, mulf_apply]
  refine congrArg₂ (· - ·) (congrArg₂ (· + ·) ?_ ?_) (congrArg₂ (· * ·) ?_ ?_)
  · rw [broadcastInDim_apply _ _ _ (ix2 n k) (ix2 n 0) (by intro a; match a with | ⟨0, _⟩ => rfl | ⟨1, _⟩ => rfl),
      broadcastInDim_apply _ _ _ (ix2 n 0) (ix1 n) (by intro a; match a with | ⟨0, _⟩ => rfl)]
    show Ideal.hostReduceAdd _ _ _ _ = _
    rw [hostReduceAdd_single _ (by decide)]
    show Ideal.ofBits .f32 0x00000000#32 + _ = _
    rw [ofBits_zero_f32, zero_add]
    refine Finset.sum_congr rfl fun d _ => ?_
    have e : Shape.Reduces.lift (s := S16384x256) (t := S16384) (a := 1) (by decide) (ix1 n) d = ix2 n d := by
      funext a; apply Fin.ext; rw [Shape.Reduces.lift_val]; match a with | ⟨0, _⟩ => rfl | ⟨1, _⟩ => rfl
    rw [e]; rfl
  · rw [broadcastInDim_apply _ _ _ (ix2 n k) (ix2 0 k) (by intro a; match a with | ⟨0, _⟩ => rfl | ⟨1, _⟩ => rfl),
      broadcastInDim_apply _ _ _ (ix2 0 k) (ix1 k) (by intro a; match a with | ⟨0, _⟩ => rfl)]
    show Ideal.hostReduceAdd _ _ _ _ = _
    rw [hostReduceAdd_single _ (by decide)]
    show Ideal.ofBits .f32 0x00000000#32 + _ = _
    rw [ofBits_zero_f32, zero_add]
    refine Finset.sum_congr rfl fun d _ => ?_
    have e : Shape.Reduces.lift (s := S256x2048) (t := S2048) (a := 0) (by decide) (ix1 k) d = ix2 d k := by
      funext a; apply Fin.ext; rw [Shape.Reduces.lift_val]; match a with | ⟨0, _⟩ => rfl | ⟨1, _⟩ => rfl
    rw [e]; rfl
  · rw [broadcastInDim_scalar_apply, constant_apply, two_f32]
  · simp only [Host.dotGeneral]
    rw [dotGeneral_apply]
    refine sum_contr _ 256 rfl rfl _ _ fun d => ?_
    refine congrArg₂ (· * ·) (congrArg R ?_) (congrArg E ?_)
    · funext a; apply Fin.ext; match a with | ⟨0, _⟩ => rfl | ⟨1, _⟩ => rfl
    · funext a; apply Fin.ext; match a with | ⟨0, _⟩ => rfl | ⟨1, _⟩ => rfl

/-- A one-hot entry. -/
theorem hot_apply (I : IVec S16384 32) (n : Fin 16384) (k : Fin 2048) :
    hot (F := Ideal) I (ix2 n k) = if I (ix1 n) = BitVec.ofNat 32 k.val then 1 else 0 := by
  unfold hot
  show FloatOps.uitofp (F := Ideal) .f32 (IntOp.cmpi .eq _ _) = _
  rw [broadcastInDim_apply _ _ _ (ix2 n k) (ix2 n 0) (by intro a; match a with | ⟨0, _⟩ => rfl | ⟨1, _⟩ => rfl),
    broadcastInDim_apply _ _ _ (ix2 n 0) (ix1 n) (by intro a; match a with | ⟨0, _⟩ => rfl),
    broadcastInDim_apply _ _ _ (ix2 n k) (ix2 0 k) (by intro a; match a with | ⟨0, _⟩ => rfl | ⟨1, _⟩ => rfl)]
  show (((BitVec.ofBool (I (ix1 n) == BitVec.ofNat 32 k.val)).toNat : ℝ) : EReal) = _
  by_cases h : I (ix1 n) = BitVec.ofNat 32 k.val
  · rw [if_pos h, h]; simp
  · rw [if_neg h, beq_eq_false_iff_ne.mpr h]; simp

end Cert.Proof.CodesRef

end
-- ==== Proof.CodesPre.lean ====
/-
  What the precondition says: the inputs and the codes are real numbers, and every row has one code
  strictly nearer than all others.
-/
module

public import proofs.«01_k».proof.Proof.CodesRefVal
public import proofs.«01_k».proof.Proof.Gen.Pre_nearest_is_one
public import Idealize.ShloMosaic.Lib.IndicatorCount
public import Idealize.ShloMosaic.Lib.WordArith

@[expose] public section

noncomputable section

namespace Cert.Proof.CodesPre

open Idealize.ShloMosaic Idealize.ShloMosaic.ValueIdx Idealize.ShloMosaic.Ideal
open Cert.Pre_nearest_is_one Cert.Pre_nearest_is_one.Gen
open scoped BigOperators

/-- A conjunction over every element holds only if each does. -/
theorem fold_andi {ι : Type} [DecidableEq ι] (S : Finset ι) (f : ι → BitVec 1) (h : S.fold IntOp.andi (1#1) f = 1#1) :
    ∀ i ∈ S, f i = 1#1 := by
  induction S using Finset.induction_on with
  | empty => intro i hi; simp at hi
  | insert a S ha ih =>
    rw [Finset.fold_insert ha] at h
    have h2 : f a = 1#1 ∧ S.fold IntOp.andi (1#1) f = 1#1 := by
      revert h; generalize f a = x; generalize S.fold IntOp.andi (1#1) f = y; revert x y; decide
    intro i hi
    rcases Finset.mem_insert.mp hi with rfl | hi
    · exact h2.1
    · exact ih h2.2 i hi

theorem reduce_andi {s : Shape} {axes : List (Fin s.rank)} (x : IVec s 1) (v : IVec S_ 1) (h : s.ReducesTo axes S_) (hu : 0 < S_.numel)
    (hv : v (Shape.Idx.first hu) = 1#1) (j : S_.Idx) (hr : Host.reduce IntOp.andi x v h hu j = 1#1) (i : s.Idx) : x i = 1#1 := by
  classical
  rw [Host.reduce_eq_fold, hv] at hr
  exact fold_andi _ _ hr i (Finset.mem_filter.mpr ⟨Finset.mem_univ _, funext fun a => a.elim0⟩)

/-- A least element of a finite family, as the fold of `min` from the top. -/
theorem fold_min_le {ι : Type} [DecidableEq ι] (S : Finset ι) (f : ι → EReal) (i : ι) (hi : i ∈ S) :
    S.fold (FloatOps.minimumf (F := Ideal) (φ := .f32)) ⊤ f ≤ f i := by
  induction S using Finset.induction_on with
  | empty => simp at hi
  | insert a S ha ih =>
    rw [Finset.fold_insert ha]
    show min _ _ ≤ _
    rcases Finset.mem_insert.mp hi with rfl | hi
    · exact min_le_left _ _
    · exact (min_le_right _ _).trans (ih hi)

theorem fold_min_best {ι : Type} [DecidableEq ι] (S : Finset ι) (f : ι → EReal) (b : ι) (hb : b ∈ S) (h : ∀ i ∈ S, f b ≤ f i) :
    S.fold (FloatOps.minimumf (F := Ideal) (φ := .f32)) ⊤ f = f b := by
  refine le_antisymm (fold_min_le S f b hb) ?_
  clear hb
  induction S using Finset.induction_on with
  | empty => exact le_top
  | insert a S ha ih =>
    rw [Finset.fold_insert ha]
    exact le_min (h a (Finset.mem_insert_self _ _)) (ih fun i hi => h i (Finset.mem_insert_of_mem hi))

variable (X : FVec Ideal S16x256x32x32 .f32) (E : FVec Ideal S256x2048 .f32)

def least (D : FVec Ideal S16384x2048 .f32) : FVec Ideal S16384 .f32 :=
  Host.reduce FloatOps.minimumf D (constant S_ .f32 0x7F800000#32) Facts.reducesTo_S16384x2048_S16384_d1 Facts.h_S_

def isLeast (D : FVec Ideal S16384x2048 .f32) : IVec S16384x2048 1 :=
  cmpf .oeq D (broadcastInDim S16384x2048 ![0, 1] Facts.bcast_S16384x1_S16384x2048_0_1
    (broadcastInDim S16384x1 ![0] Facts.bcast_S16384_S16384x1_0 (least D)))

def leasts (D : FVec Ideal S16384x2048 .f32) : IVec S16384 32 :=
  Host.reduce IntOp.addi (extui 32 (isLeast D) Facts.natLt_1_32) (constantI S_ 32 0#32) Facts.reducesTo_S16384x2048_S16384_d1 Facts.h_S_

def allX : IVec S_ 1 := Host.reduce IntOp.andi
  (cmpf .olt (Host.absf X) (broadcastInDim S16x256x32x32 ![] Facts.bcast_S_S16x256x32x32 (constant S_ .f32 0x7F800000#32)))
  (constantI S_ 1 1#1) Facts.reducesTo_S16x256x32x32_S_d0_1_2_3 Facts.h_S_

def allE : IVec S_ 1 := Host.reduce IntOp.andi
  (cmpf .olt (Host.absf E) (broadcastInDim S256x2048 ![] Facts.bcast_S_S256x2048 (constant S_ .f32 0x7F800000#32)))
  (constantI S_ 1 1#1) Facts.reducesTo_S256x2048_S_d0_1 Facts.h_S_

theorem fn_eq : fn (F := Ideal) X E
    = andi (cmpi .eq (leasts (CodesRef.dist (CodesRef.flat X) E)) (broadcastInDim S16384 ![] Facts.bcast_S_S16384 (constantI S_ 32 1#32)))
      (broadcastInDim S16384 ![] Facts.bcast_S_S16384 (andi (allX X) (allE E))) := rfl

theorem real_of_abs {x : EReal} (h : FloatOps.cmpf (F := Ideal) (φ := .f32) .olt (max x (-x)) ⊤ = 1#1) : ∃ r : ℝ, x = (r : EReal) := by
  induction x with
  | bot => simp [cmpf_def, Ideal.cmp] at h
  | top => simp [cmpf_def, Ideal.cmp] at h
  | coe r => exact ⟨r, rfl⟩

section
variable (h : fn (F := Ideal) X E = fun _ => 1#1)
include h

theorem parts (n : Fin 16384) : leasts (CodesRef.dist (CodesRef.flat X) E) (ix1 n) = 1#32
    ∧ allX X ix0 = 1#1 ∧ allE E ix0 = 1#1 := by
  have h1 := congrFun ((fn_eq X E).symm.trans h) (ix1 n)
  have h2 : IntOp.andi (IntOp.cmpi .eq (leasts (CodesRef.dist (CodesRef.flat X) E) (ix1 n)) 1#32)
      (broadcastInDim S16384 ![] Facts.bcast_S_S16384 (andi (allX X) (allE E)) (ix1 n)) = 1#1 := h1
  rw [broadcastInDim_scalar_apply] at h2
  have h3 : IntOp.andi (IntOp.cmpi .eq (leasts (CodesRef.dist (CodesRef.flat X) E) (ix1 n)) 1#32)
      (IntOp.andi (allX X ix0) (allE E ix0)) = 1#1 := h2
  have h4 : ∀ a b c : BitVec 1, IntOp.andi a (IntOp.andi b c) = 1#1 → a = 1#1 ∧ b = 1#1 ∧ c = 1#1 := by decide
  obtain ⟨ha, hb, hc⟩ := h4 _ _ _ h3
  refine ⟨?_, hb, hc⟩
  have ha' : BitVec.ofBool (leasts (CodesRef.dist (CodesRef.flat X) E) (ix1 n) == 1#32) = 1#1 := ha
  by_contra hne
  rw [beq_eq_false_iff_ne.mpr hne] at ha'
  exact absurd ha' (by decide)

theorem realX (i : S16x256x32x32.Idx) : ∃ r : ℝ, X i = (r : EReal) := by
  have h1 := reduce_andi _ _ _ _ rfl _ (parts X E h 0).2.1 i
  refine real_of_abs ?_
  have h2 : FloatOps.cmpf (F := Ideal) (φ := .f32) .olt (max (X i) (-(X i)))
    (broadcastInDim S16x256x32x32 ![] Facts.bcast_S_S16x256x32x32 (constant (F := Ideal) S_ .f32 0x7F800000#32) i) = 1#1 := h1
  rw [broadcastInDim_scalar_apply, constant_apply, CodesRef.top_f32] at h2
  exact h2

theorem realE (i : S256x2048.Idx) : ∃ r : ℝ, E i = (r : EReal) := by
  have h1 := reduce_andi _ _ _ _ rfl _ (parts X E h 0).2.2 i
  refine real_of_abs ?_
  have h2 : FloatOps.cmpf (F := Ideal) (φ := .f32) .olt (max (E i) (-(E i)))
    (broadcastInDim S256x2048 ![] Facts.bcast_S_S256x2048 (constant (F := Ideal) S_ .f32 0x7F800000#32) i) = 1#1 := h1
  rw [broadcastInDim_scalar_apply, constant_apply, CodesRef.top_f32] at h2
  exact h2

end

theorem lift_row (h : S16384x2048.Reduces [1] S16384) (n : Fin 16384) (k : Fin (S16384x2048.size 1)) : h.lift (ix1 n) k = ix2 n k := by
  funext a; apply Fin.ext; rw [Shape.Reduces.lift_val]; match a with | ⟨0, _⟩ => rfl | ⟨1, _⟩ => rfl

theorem least_apply (D : FVec Ideal S16384x2048 .f32) (n : Fin 16384) : least D (ix1 n)
    = (Finset.univ : Finset (Fin 2048)).fold (FloatOps.minimumf (F := Ideal) (φ := .f32)) ⊤ fun k => D (ix2 n k) := by
  unfold least
  rw [Host.reduce_eq_fold_single _ _ _ _ (by decide), constant_apply, CodesRef.top_f32]
  refine congrArg (fun f => Finset.fold _ _ f _) (funext fun k => ?_)
  exact congrArg D (lift_row _ n k)

theorem isLeast_apply (D : FVec Ideal S16384x2048 .f32) (n : Fin 16384) (k : Fin 2048) :
    isLeast D (ix2 n k) = 1#1 ↔ D (ix2 n k) = least D (ix1 n) := by
  unfold isLeast
  rw [cmpf_apply, broadcastInDim_apply _ _ _ (ix2 n k) (ix2 n 0) (by intro a; match a with | ⟨0, _⟩ => rfl | ⟨1, _⟩ => rfl),
    broadcastInDim_apply _ _ _ (ix2 n 0) (ix1 n) (by intro a; match a with | ⟨0, _⟩ => rfl)]
  show BitVec.ofBool (decide (D (ix2 n k) = least D (ix1 n))) = 1#1 ↔ _
  by_cases h : D (ix2 n k) = least D (ix1 n) <;> simp [h]

theorem leasts_apply (D : FVec Ideal S16384x2048 .f32) (n : Fin 16384) : leasts D (ix1 n)
    = BitVec.ofNat 32 ((Finset.univ : Finset (Fin 2048)).filter fun k => D (ix2 n k) = least D (ix1 n)).card := by
  unfold leasts
  rw [Host.reduce_eq_fold_single _ _ _ _ (by decide)]
  have := IndicatorCount.fold_addi_setWidth_eq_card (w := 32) (fun k : Fin 2048 => isLeast D (ix2 n k)) Finset.univ
  simp only [isLeast_apply] at this
  rw [← this]
  refine congrArg (fun f => Finset.fold _ _ f _) (funext fun k => ?_)
  exact congrArg (fun i => (isLeast D i).setWidth 32) (lift_row _ n k)

theorem best_of_leasts (D : FVec Ideal S16384x2048 .f32) (n : Fin 16384) (h : leasts D (ix1 n) = 1#32) :
    ∃ b : Fin 2048, ∀ k, k ≠ b → D (ix2 n b) < D (ix2 n k) := by
  rw [leasts_apply] at h
  have hle : ((Finset.univ : Finset (Fin 2048)).filter fun k => D (ix2 n k) = least D (ix1 n)).card ≤ 2048 :=
    (Finset.card_le_univ _).trans (by rw [Fintype.card_fin])
  have h1 := congrArg BitVec.toNat h
  rw [BitVec.toNat_ofNat, Nat.mod_eq_of_lt (by omega)] at h1
  obtain ⟨b, hb⟩ := Finset.card_eq_one.mp h1
  have hm : ∀ k, D (ix2 n k) = least D (ix1 n) ↔ k = b := by
    intro k
    have := congrArg (k ∈ ·) hb
    simpa using this
  refine ⟨b, fun k hk => ?_⟩
  rw [(hm b).mpr rfl]
  refine lt_of_le_of_ne ?_ fun e => hk ((hm k).mp e.symm)
  rw [least_apply]
  exact fold_min_le _ _ _ (Finset.mem_univ _)

/-- The nearest codes. -/
theorem exists_best (h : fn (F := Ideal) X E = fun _ => 1#1) : ∃ b : Fin 16384 → Fin 2048, ∀ n k, k ≠ b n →
    CodesRef.dist (CodesRef.flat X) E (ix2 n (b n)) < CodesRef.dist (CodesRef.flat X) E (ix2 n k) :=
  ⟨fun n => (best_of_leasts _ n (parts X E h n).1).choose, fun n => (best_of_leasts _ n (parts X E h n).1).choose_spec⟩

end Cert.Proof.CodesPre

end
-- ==== Proof.CodesRefRes.lean ====
/-
  The codes reference's results, at the ideal values, when every row has a strictly nearest code.
-/
module

public import proofs.«01_k».proof.Proof.CodesRefVal

@[expose] public section

noncomputable section

namespace Cert.Proof.CodesRef

open Cert.CodesRefIdeal Cert.CodesRefIdeal.Gen Idealize.ShloMosaic Idealize.ShloMosaic.ValueIdx Idealize.ShloMosaic.Ideal
open scoped BigOperators

theorem quarter_f32 : Ideal.ofBits .f32 0x3E800000#32 = ((1 / 4 : ℝ) : EReal) := by
  simp [Ideal.ofBits, Ideal.ieee, -EReal.coe_mul]; norm_num
theorem rows_f32 : Ideal.ofBits .f32 0x46800000#32 = ((16384 : ℝ) : EReal) := by
  simp [Ideal.ofBits, Ideal.ieee, -EReal.coe_mul]; norm_num
theorem all_f32 : Ideal.ofBits .f32 0x4A800000#32 = ((4194304 : ℝ) : EReal) := by
  simp [Ideal.ofBits, Ideal.ieee, -EReal.coe_mul]; norm_num

/-! ## The argmin's fold -/

abbrev red : EReal × BitVec 32 → EReal × BitVec 32 → EReal × BitVec 32 := reducer_argmin_f32_i32 (F := Ideal)

theorem red_eq (a b : EReal × BitVec 32) : red a b
    = (if a.1 < b.1 then a.1 else b.1, if a.1 < b.1 ∨ (a.1 = b.1 ∧ a.2.toInt < b.2.toInt) then a.2 else b.2) := by
  show (Scalar.select (IntOp.ori (BitVec.ofBool (decide (a.1 < b.1))) (BitVec.ofBool (decide (a.1 ≠ a.1)))) a.1 b.1,
    Scalar.select (IntOp.ori (IntOp.ori (BitVec.ofBool (decide (a.1 < b.1))) (BitVec.ofBool (decide (a.1 ≠ a.1))))
      (IntOp.andi (BitVec.ofBool (decide (a.1 = b.1))) (BitVec.ofBool (BitVec.slt a.2 b.2)))) a.2 b.2) = _
  rw [decide_eq_false (p := a.1 ≠ a.1) (by simp)]
  by_cases h1 : a.1 < b.1
  · rw [decide_eq_true h1, decide_eq_false (ne_of_lt h1), if_pos h1, if_pos (.inl h1)]
    cases BitVec.slt a.2 b.2 <;> rfl
  · rw [decide_eq_false h1, if_neg h1]
    by_cases h2 : a.1 = b.1
    · rw [decide_eq_true h2]
      by_cases h3 : a.2.toInt < b.2.toInt
      · rw [if_pos (.inr ⟨h2, h3⟩), BitVec.slt_iff_toInt_lt.mpr h3]; rfl
      · rw [if_neg (by rintro (h | ⟨_, h⟩) <;> contradiction), Bool.eq_false_iff.mpr fun h => h3 (BitVec.slt_iff_toInt_lt.mp h)]; rfl
    · rw [decide_eq_false h2, if_neg (by rintro (h | ⟨h, _⟩) <;> contradiction)]
      cases BitVec.slt a.2 b.2 <;> rfl

theorem red_lt {a b : EReal × BitVec 32} (h : a.1 < b.1) : red a b = a := by
  rw [red_eq, if_pos h, if_pos (.inl h)]
theorem red_gt {a b : EReal × BitVec 32} (h : b.1 < a.1) : red a b = b := by
  rw [red_eq, if_neg (not_lt.mpr h.le), if_neg]
  rintro (h' | ⟨h', _⟩)
  · exact lt_asymm h h'
  · exact (ne_of_lt h) h'.symm
theorem red_self (a : EReal × BitVec 32) : red a a = a := by
  rw [red_eq]; simp
theorem red_fst (a b : EReal × BitVec 32) : (red a b).1 = a.1 ∨ (red a b).1 = b.1 := by
  rw [red_eq]; by_cases h : a.1 < b.1 <;> simp [h]

theorem foldl_red (p : EReal × BitVec 32) (L : List (EReal × BitVec 32)) (acc : EReal × BitVec 32)
    (hL : ∀ q ∈ L, q = p ∨ p.1 < q.1) (ha : acc = p ∨ (p.1 < acc.1 ∧ p ∈ L)) : L.foldl red acc = p := by
  induction L generalizing acc with
  | nil => rcases ha with h | ⟨_, h⟩
           · exact h
           · simp at h
  | cons q L ih =>
    rw [List.foldl_cons]
    have hL' : ∀ q ∈ L, q = p ∨ p.1 < q.1 := fun r hr => hL r (List.mem_cons_of_mem _ hr)
    rcases ha with rfl | ⟨h, hm⟩
    · refine ih _ hL' (.inl ?_)
      rcases hL q List.mem_cons_self with rfl | h
      · exact red_self _
      · exact red_lt h
    · rcases hL q List.mem_cons_self with rfl | hq
      · exact ih _ hL' (.inl (red_gt h))
      · refine ih _ hL' (.inr ⟨?_, ?_⟩)
        · rcases red_fst acc q with e | e <;> rw [e] <;> assumption
        · rcases List.mem_cons.mp hm with rfl | h
          · exact absurd hq (lt_irrefl _)
          · exact h

theorem mem_fiber {s t : Shape} {axes : List (Fin s.rank)} {α β : Type} (x : s.Idx → α) (y : s.Idx → β) (h : s.ReducesTo axes t)
    (j : t.Idx) (q : α × β) : q ∈ Host.argReduceFiber x y h j ↔ ∃ i : s.Idx, h.drop i = j ∧ q = (x i, y i) := by
  unfold Host.argReduceFiber
  constructor
  · intro hq
    obtain ⟨i, hi, rfl⟩ := List.mem_map.mp hq
    exact ⟨_, of_decide_eq_true (List.mem_filter.mp hi).2, rfl⟩
  · rintro ⟨i, hi, rfl⟩
    refine List.mem_map.mpr ⟨s.rowMajor i, List.mem_filter.mpr ⟨List.mem_finRange _, ?_⟩, ?_⟩
    · rw [Equiv.symm_apply_apply]; exact decide_eq_true hi
    · rw [Equiv.symm_apply_apply]

/-- An argmin whose fiber has a strictly least pair. -/
theorem argReduce_best {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx) (i₀ : s.Idx)
    (hi : h.drop i₀ = j) (h0 : x i₀ < ix (Shape.Idx.first hu)) (hlt : ∀ i, h.drop i = j → i ≠ i₀ → x i₀ < x i) :
    (Host.argReduce (reducer_argmin_f32_i32 (F := Ideal)) x y ix iy h hu j).2 = y i₀ := by
  rw [argReduce_eq_reduce2, Host.reduce2_eq_foldl_fiber]
  rw [foldl_red (x i₀, y i₀) _ _ ?_ (.inr ⟨h0, (mem_fiber x y h j _).mpr ⟨i₀, hi, rfl⟩⟩)]
  intro q hq
  obtain ⟨i, hd, rfl⟩ := (mem_fiber x y h j q).mp hq
  by_cases hk : i = i₀
  · left; rw [hk]
  · right; exact hlt i hd hk

theorem drop_row (h : S16384x2048.ReducesTo [1] S16384) (x : S16384x2048.Idx) : h.drop x = ix1 (x 0) := by
  funext a; apply Fin.ext; match a with | ⟨0, _⟩ => rfl

theorem drop_row_inv {h : S16384x2048.ReducesTo [1] S16384} {x : S16384x2048.Idx} {n : Fin 16384} (hd : h.drop x = ix1 n) :
    x = ix2 n (x 1) := by
  have h0 : x 0 = n := congrFun ((drop_row h x).symm.trans hd) 0
  subst h0
  exact eq_ix2 x

theorem code_eq (D : FVec Ideal S16384x2048 .f32) : code D
    = fun j => (Host.argReduce reducer_argmin_f32_i32 D (iotaInDim S16384x2048 32 1) (constant S_ .f32 0x7F800000#32)
      (constantI S_ 32 0#32) reducesTo_S16384x2048_S16384_d1 h_S_ j).2 := rfl

theorem iota_at (n : Fin 16384) (b : Fin 2048) : iotaInDim S16384x2048 32 1 (ix2 n b) = BitVec.ofNat 32 b.val := rfl

theorem top_at (i : S_.Idx) : (constant (F := Ideal) S_ .f32 0x7F800000#32) i = ⊤ := by
  rw [constant_apply, top_f32]

/-- The argmin of a row with a strictly least entry. -/
theorem code_best (D : FVec Ideal S16384x2048 .f32) (n : Fin 16384) (b : Fin 2048) (ht : D (ix2 n b) < ⊤)
    (hb : ∀ k, k ≠ b → D (ix2 n b) < D (ix2 n k)) : code D (ix1 n) = BitVec.ofNat 32 b.val := by
  refine (congrFun (code_eq D) (ix1 n)).trans (Eq.trans ?_ (iota_at n b))
  exact argReduce_best D _ _ _ _ _ _ (ix2 n b) (drop_row _ _) (lt_of_lt_of_eq ht (top_at _).symm)
    fun x hd hx => (drop_row_inv hd) ▸ hb (x 1) fun hk => hx ((drop_row_inv hd).trans (congrArg (ix2 n) hk))

theorem sum_idx1 {n : Nat} (f : (⟨1, ![n]⟩ : Shape).Idx → EReal) : ∑ i, f i = ∑ k : Fin n, f (ix1 k) :=
  Fintype.sum_equiv ⟨fun i => i 0, fun k => ix1 k, fun i => (eq_ix1 i).symm, fun k => rfl⟩ _ _ fun i => by
    conv_lhs => rw [eq_ix1 i]
    rfl

/-! ## The results from the nearest codes -/

section
variable (I : IVec S16384 32) (b : Fin 16384 → Fin 2048) (hI : ∀ n, I (ix1 n) = BitVec.ofNat 32 (b n).val)
include hI

theorem hot_best (n : Fin 16384) (k : Fin 2048) : hot (F := Ideal) I (ix2 n k) = if k = b n then 1 else 0 := by
  rw [hot_apply, hI n]
  have : (BitVec.ofNat 32 (b n).val = BitVec.ofNat 32 k.val) ↔ k = b n := by
    constructor
    · intro h
      have := congrArg BitVec.toNat h
      rw [BitVec.toNat_ofNat, BitVec.toNat_ofNat] at this
      apply Fin.ext; omega
    · rintro rfl; rfl
  simp only [this]

theorem diff_best (R : FVec Ideal S16384x256 .f32) (E : FVec Ideal S256x2048 .f32) (n : Fin 16384) (d : Fin 256) :
    diff R E (hot I) (ix2 n d) = E (ix2 d (b n)) - R (ix2 n d) := by
  unfold diff
  rw [subf_apply]
  refine congrArg₂ (· - ·) ?_ rfl
  simp only [Host.dotGeneral]
  rw [dotGeneral_apply]
  rw [sum_contr _ 2048 rfl rfl _ (fun k => (if k = b n then 1 else 0) * E (ix2 d k)) fun k => ?_]
  · simp [ite_mul]
  · refine congrArg₂ (· * ·) ?_ ?_
    · rw [← hot_best I b hI n k]
      refine congrArg (hot (F := Ideal) I) ?_
      funext a; apply Fin.ext; match a with | ⟨0, _⟩ => rfl | ⟨1, _⟩ => rfl
    · refine transpose_apply _ _ _ _ (ix2 d k) ?_
      intro a; match a with | ⟨0, _⟩ => rfl | ⟨1, _⟩ => rfl

theorem probs_best (k : Fin 2048) :
    probs (hot (F := Ideal) I) (ix1 k) = (∑ n : Fin 16384, if k = b n then 1 else 0) * ((16384 : ℝ) : EReal)⁻¹ := by
  unfold probs
  show Ideal.div (Ideal.hostReduceAdd _ _ _ _) _ = _
  rw [broadcastInDim_scalar_apply, show constant (F := Ideal) S_ .f32 0x46800000#32 ix0 = ((16384 : ℝ) : EReal) from rows_f32, Ideal.div, if_neg (by norm_num)]
  refine congrArg₂ (· * ·) ?_ rfl
  rw [hostReduceAdd_single _ (by decide)]
  show Ideal.ofBits .f32 0x00000000#32 + _ = _
  rw [ofBits_zero_f32, zero_add]
  refine Finset.sum_congr rfl fun n _ => ?_
  have e : Shape.Reduces.lift (s := S16384x2048) (t := S2048) (a := 0) (by decide) (ix1 k) n = ix2 n k := by
    funext a; apply Fin.ext; rw [Shape.Reduces.lift_val]; match a with | ⟨0, _⟩ => rfl | ⟨1, _⟩ => rfl
  rw [e]
  exact hot_best I b hI n k

end

theorem loss_apply (Q : FVec Ideal S16384x256 .f32) (j : S_.Idx) :
    loss (latent Q) j = (∑ n : Fin 16384, ∑ d : Fin 256, Q (ix2 n d) * Q (ix2 n d)) * ((4194304 : ℝ) : EReal)⁻¹
      + ((1 / 4 : ℝ) : EReal) * ((∑ n : Fin 16384, ∑ d : Fin 256, Q (ix2 n d) * Q (ix2 n d)) * ((4194304 : ℝ) : EReal)⁻¹) := by
  have hA : ∀ i, latent Q i
      = (∑ n : Fin 16384, ∑ d : Fin 256, Q (ix2 n d) * Q (ix2 n d)) * ((4194304 : ℝ) : EReal)⁻¹ := by
    intro i
    unfold latent
    show Ideal.div (Ideal.hostReduceAdd _ _ _ _) (Ideal.ofBits .f32 0x4A800000#32) = _
    rw [all_f32, Ideal.div, if_neg (by norm_num)]
    refine congrArg₂ (· * ·) ?_ rfl
    rw [hostReduceAdd_total _ (fun a => a.elim0)]
    show Ideal.ofBits .f32 0x00000000#32 + _ = _
    rw [ofBits_zero_f32, zero_add]
    exact sum_idx2 _
  unfold loss
  rw [addf_apply, mulf_apply, hA, constant_apply, quarter_f32]

theorem perp_apply (P : FVec Ideal S2048 .f32) (j : S_.Idx) :
    perp P j = FloatOps.exp (F := Ideal) (φ := .f32) (-(∑ k : Fin 2048, P (ix1 k)
      * FloatOps.log (F := Ideal) (φ := .f32) (P (ix1 k) + Ideal.ofBits .f32 0x2EDBE6FF#32))) := by
  unfold perp
  show FloatOps.exp (F := Ideal) (φ := .f32) (-(Ideal.hostReduceAdd _ _ _ _)) = _
  rw [hostReduceAdd_total _ (fun a => a.elim0)]
  show FloatOps.exp (F := Ideal) (φ := .f32) (-(Ideal.ofBits .f32 0x00000000#32 + _)) = _
  rw [ofBits_zero_f32, zero_add, sum_idx1]
  refine congrArg (fun x => FloatOps.exp (F := Ideal) (φ := .f32) (-x)) (Finset.sum_congr rfl fun k _ => ?_)
  have e : broadcastInDim S2048 ![] bcast_S_S2048 (constant (F := Ideal) S_ .f32 0x2EDBE6FF#32) (ix1 k)
      = Ideal.ofBits .f32 0x2EDBE6FF#32 := by rw [broadcastInDim_scalar_apply, constant_apply]
  rw [← e]; rfl

end Cert.Proof.CodesRef

end
-- ==== Proof.CodesKer.lean ====
/-
  The codes kernel's values at an index, at the ideal values: one block's distances are the reference's distances of its
  rows, and with strictly nearest codes its mask, its codes, its counts and its part of the loss follow.
-/
module

public import proofs.«01_k».proof.Proof.CodesRun
public import proofs.«01_k».proof.Proof.CodesPre
public import proofs.«01_k».proof.Proof.CodesRefRes

@[expose] public section

noncomputable section

namespace Cert.Proof.CodesKer

open Cert.CodesIdeal Cert.CodesIdeal.Gen Idealize.ShloMosaic Idealize.ShloMosaic.ValueIdx Idealize.ShloMosaic.Ideal
open Cert.Proof.CodesAcc Cert.Proof.CodesRun Cert.Proof.CodesPre
open scoped BigOperators

theorem pay5_apply (x : Vec Ideal S1x256x1024 .f32) (E : Vec Ideal S256x2048 .f32) (j : Fin 1024) (k : Fin 2048) :
    k0_pay5 (F := Ideal) x E (ix2 j k) = (∑ d : Fin 256, x (ix3 0 d j) * x (ix3 0 d j) * 1 + ∑ d : Fin 256, E (ix2 d k) * E (ix2 d k))
      - ∑ d : Fin 256, x (ix3 0 d j) * (E (ix2 d k) + E (ix2 d k)) := by
  have hx : ∀ (d : Fin 256) (j : Fin 1024), shapeCast S256x1024 x shapeCasts_S1x256x1024_S256x1024 (ix2 d j) = x (ix3 0 d j) := by
    intro d j
    refine shapeCast_apply _ _ _ _ ?_
    rw [Shape.rowMajor_val_three, Shape.rowMajor_val_two]
    show (0 * 256 + d.val) * 1024 + j.val = d.val * 1024 + j.val
    omega
  unfold k0_pay5
  rw [subf_apply, addf_apply]
  refine congrArg₂ (· - ·) (congrArg₂ (· + ·) ?_ ?_) ?_
  · rw [broadcastTo_apply _ _ (ix2 j k) (ix2 j 0) (by intro a; match a with | ⟨0, _⟩ => rfl | ⟨1, _⟩ => rfl)]
    simp only [Idealize.ShloMosaic.matmul]
    rw [matmul_constant_zero_apply]
    refine CodesRef.sum_contr _ 256 rfl rfl _ _ fun d => ?_
    refine congrArg₂ (· * ·) ?_ ?_
    · rw [← hx d j, mulf_apply]
      refine congrArg (fun i => shapeCast S256x1024 x shapeCasts_S1x256x1024_S256x1024 i
        * shapeCast S256x1024 x shapeCasts_S1x256x1024_S256x1024 i) ?_
      funext a; apply Fin.ext; match a with | ⟨0, _⟩ => rfl | ⟨1, _⟩ => rfl
    · exact ofBits_one_f32
  · rw [broadcastTo_apply _ _ (ix2 j k) (ix2 0 k) (by intro a; match a with | ⟨0, _⟩ => rfl | ⟨1, _⟩ => rfl),
      shapeCast_apply _ _ _ (ix1 k) (by
        rw [Shape.rowMajor_val_one, Shape.rowMajor_val_two]; show k.val = 0 * 2048 + k.val; omega)]
    refine (multiReduction_add_single _ _ _ _ _ _).trans ?_
    refine Finset.sum_congr rfl fun d _ => ?_
    have e : (reduces_S256x2048_S2048).lift (ix1 k) d = ix2 d k := by
      funext a; apply Fin.ext; rw [Shape.Reduces.lift_val]; match a with | ⟨0, _⟩ => rfl | ⟨1, _⟩ => rfl
    rw [e]; rfl
  · simp only [Idealize.ShloMosaic.matmul]
    rw [matmul_constant_zero_apply]
    refine CodesRef.sum_contr _ 256 rfl rfl _ _ fun d => ?_
    refine congrArg₂ (· * ·) ?_ ?_
    · rw [← hx d j]
      refine congrArg (shapeCast S256x1024 x shapeCasts_S1x256x1024_S256x1024) ?_
      funext a; apply Fin.ext; match a with | ⟨0, _⟩ => rfl | ⟨1, _⟩ => rfl
    · rw [addf_apply]
      refine congrArg (fun i => E i + E i) ?_
      funext a; apply Fin.ext; match a with | ⟨0, _⟩ => rfl | ⟨1, _⟩ => rfl

theorem sum_coe {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- Row `j` of block `o + t`. -/
def row (o t : ℕ) (j : Fin 1024) : Fin 16384 := ⟨(1024 * (o + t) + j.val) % 16384, Nat.mod_lt _ (by decide)⟩

theorem xb_apply (X : Vec Ideal S16x256x32x32 .f32) (o t : ℕ) (ht : o + t < 16) (d : Fin 256) (j : Fin 1024) :
    xb (F := Ideal) (x3 (F := Ideal) X) o t (ix3 0 d j) = CodesRef.flat (F := Ideal) X (ix2 (row o t j) d) := by
  rw [CodesRef.flat_apply]
  unfold xb x3
  refine shapeCast_apply _ _ _ _ ?_
  rw [Shape.rowMajor_val_four, Shape.rowMajor_val_three]
  show (((1024 * (o + t) + j.val) % 16384 / 1024 * 256 + d.val) * 32 + (1024 * (o + t) + j.val) % 16384 % 1024 / 32) * 32
    + (1024 * (o + t) + j.val) % 16384 % 32 = ((o + t) % 16 * 256 + d.val) * 1024 + j.val
  omega

theorem cmp_oeq (x y : EReal) : FloatOps.cmpf (F := Ideal) (φ := .f32) .oeq x y = BitVec.ofBool (decide (x = y)) := rfl

theorem cast_row (v : FVec Ideal S1024 .f32) (j : Fin 1024) : shapeCast S1x1024 v shapeCasts_S1024_S1x1024 (ix2 0 j) = v (ix1 j) := by
  refine shapeCast_apply _ _ _ (ix1 j) ?_
  rw [Shape.rowMajor_val_one, Shape.rowMajor_val_two]; show j.val = 0 * 1024 + j.val; omega

section
variable (X : FVec Ideal S16x256x32x32 .f32) (E : FVec Ideal S256x2048 .f32)
variable (hX : ∀ i, ∃ r : ℝ, X i = (r : EReal)) (hE : ∀ i, ∃ r : ℝ, E i = (r : EReal))

abbrev D : FVec Ideal CodesRefIdeal.S16384x2048 .f32 := CodesRef.dist (CodesRef.flat (F := Ideal) X) E

theorem D_apply (n : Fin 16384) (k : Fin 2048) : D X E (ix2 n k)
    = (∑ d : Fin 256, CodesRef.flat (F := Ideal) X (ix2 n d) * CodesRef.flat (F := Ideal) X (ix2 n d) + ∑ d : Fin 256, E (ix2 d k) * E (ix2 d k))
      - ((2 : ℝ) : EReal) * ∑ d : Fin 256, CodesRef.flat (F := Ideal) X (ix2 n d) * E (ix2 d k) := CodesRef.dist_apply _ _ _ _

include hX in
theorem realF (i : CodesRefIdeal.S16384x256.Idx) : ∃ r : ℝ, CodesRef.flat (F := Ideal) X i = (r : EReal) := by
  obtain ⟨n, d, rfl⟩ : ∃ (n : Fin 16384) (d : Fin 256), i = ix2 n d := ⟨i 0, i 1, eq_ix2 i⟩
  rw [CodesRef.flat_apply]; exact hX _

include hX hE in
theorem dist_real (n : Fin 16384) (k : Fin 2048) : ∃ r : ℝ, D X E (ix2 n k) = (r : EReal) := by
  choose x hx using realF X hX
  choose e he using hE
  rw [D_apply]
  simp only [hx, he, ← EReal.coe_mul, sum_coe, ← EReal.coe_add, ← EReal.coe_sub]
  exact ⟨_, rfl⟩

include hX hE in
/-- The kernel's distances are the reference's. -/
theorem dist_eq (o t : ℕ) (ht : o + t < 16) (j : Fin 1024) (k : Fin 2048) : k0_pay5 (F := Ideal) (xb (F := Ideal) (x3 (F := Ideal) X) o t) E (ix2 j k) = D X E (ix2 (row o t j) k) := by
  rw [pay5_apply, D_apply]
  simp only [xb_apply X o t ht]
  choose x hx using realF X hX
  choose e he using hE
  simp only [hx, he, ← EReal.coe_mul, sum_coe, ← EReal.coe_add, ← EReal.coe_sub, mul_one]
  refine congrArg _ (congrArg₂ (· - ·) rfl ?_)
  rw [Finset.mul_sum]
  exact Finset.sum_congr rfl fun d _ => by ring

include hX hE in
/-- The squared differences to a code sum to its distance. -/
theorem sq_eq (n : Fin 16384) (k : Fin 2048) : ∑ d : Fin 256, (E (ix2 d k) - CodesRef.flat (F := Ideal) X (ix2 n d)) * (E (ix2 d k) - CodesRef.flat (F := Ideal) X (ix2 n d))
    = D X E (ix2 n k) := by
  rw [D_apply]
  choose x hx using realF X hX
  choose e he using hE
  simp only [hx, he, ← EReal.coe_mul, sum_coe, ← EReal.coe_add, ← EReal.coe_sub]
  refine congrArg _ ?_
  rw [Finset.mul_sum, ← Finset.sum_add_distrib, ← Finset.sum_sub_distrib]
  exact Finset.sum_congr rfl fun d _ => by ring

variable (b : Fin 16384 → Fin 2048) (hb : ∀ n k, k ≠ b n → D X E (ix2 n (b n)) < D X E (ix2 n k))

theorem lift_blk (h : S1024x2048.Reduces [1] S1024) (j : Fin 1024) (k : Fin (S1024x2048.size 1)) : h.lift (ix1 j) k = ix2 j k := by
  funext a; apply Fin.ext; rw [Shape.Reduces.lift_val]; match a with | ⟨0, _⟩ => rfl | ⟨1, _⟩ => rfl
theorem lift_col (h : S1024x2048.Reduces [0] S2048) (k : Fin 2048) (j : Fin (S1024x2048.size 0)) : h.lift (ix1 k) j = ix2 j k := by
  funext a; apply Fin.ext; rw [Shape.Reduces.lift_val]; match a with | ⟨0, _⟩ => rfl | ⟨1, _⟩ => rfl

theorem rowMin_apply (v : FVec Ideal S1024x2048 .f32) (j : Fin 1024) :
    multiReduction .minimumf [1] S1024 v 0x7F800000#32 reduces_S1024x2048_S1024 (.inl rfl) rfl (ix1 j)
      = (Finset.univ : Finset (Fin 2048)).fold (FloatOps.minimumf (F := Ideal) (φ := .f32)) ⊤ fun k => v (ix2 j k) := by
  refine (multiReduction_minimumf_eq_fold v _ _ _ _ _).trans ((Shape.Reduces.fold_filter_drop_single _ _ _ _ _).trans ?_)
  rw [ofBits_def, CodesRef.top_f32]
  refine congrArg (fun f => Finset.fold _ _ f _) (funext fun k => ?_)
  exact congrArg v (lift_blk _ j k)

include hX hE hb

theorem pay6_best (o t : ℕ) (ht : o + t < 16) (j : Fin 1024) : k0_pay6 (F := Ideal) (xb (F := Ideal) (x3 (F := Ideal) X) o t) E (ix1 j) = D X E (ix2 (row o t j) (b (row o t j))) := by
  unfold k0_pay6
  rw [rowMin_apply]
  simp only [dist_eq X E hX hE o t ht]
  refine fold_min_best Finset.univ (fun k => D X E (ix2 (row o t j) k)) (b (row o t j)) (Finset.mem_univ _) fun k _ => ?_
  by_cases h : k = b (row o t j)
  · rw [h]
  · exact (hb _ k h).le

theorem pay7_best (o t : ℕ) (ht : o + t < 16) (j : Fin 1024) (k : Fin 2048) :
    k0_pay7 (F := Ideal) (xb (F := Ideal) (x3 (F := Ideal) X) o t) E (ix2 j k) = BitVec.ofBool (decide (k = b (row o t j))) := by
  unfold k0_pay7
  rw [cmpf_apply, broadcastTo_apply _ _ (ix2 j k) (ix2 j 0) (by intro a; match a with | ⟨0, _⟩ => rfl | ⟨1, _⟩ => rfl),
    shapeCast_apply _ _ _ (ix1 j) (by
      rw [Shape.rowMajor_val_one, Shape.rowMajor_val_two]; show j.val = j.val * 1 + 0; omega),
    pay6_best X E hX hE b hb o t ht, dist_eq X E hX hE o t ht]
  rw [cmp_oeq]
  refine congrArg _ (decide_eq_decide.mpr ?_)
  constructor
  · intro h
    by_contra hk
    exact (ne_of_lt (hb _ k hk)) h.symm
  · rintro rfl; rfl

theorem pay8_best (o t : ℕ) (ht : o + t < 16) (p : Fin 8) (q : Fin 128) :
    k0_pay8 (F := Ideal) (xb (F := Ideal) (x3 (F := Ideal) X) o t) E (ix2 p q) = BitVec.ofNat 32 (b (row o t ⟨p.val * 128 + q.val, by omega⟩)).val := by
  have hk : Ideal.ofBits .f32 0x45000000#32 = ((2048 : ℝ) : EReal) := by
    simp [Ideal.ofBits, Ideal.ieee, -EReal.coe_mul]; norm_num
  unfold k0_pay8
  rw [shapeCast_apply _ _ _ (ix1 (⟨p.val * 128 + q.val, by omega⟩ : Fin 1024)) (by
    rw [Shape.rowMajor_val_one, Shape.rowMajor_val_two]; rfl)]
  generalize (⟨p.val * 128 + q.val, by omega⟩ : Fin 1024) = j
  show Ideal.fptosi 32 (multiReduction (F := Ideal) .minimumf [1] S1024 _ 0x7F800000#32 reduces_S1024x2048_S1024 (.inl rfl) rfl (ix1 j)) = _
  rw [rowMin_apply]
  have hv : ∀ k : Fin 2048, select (k0_pay7 (F := Ideal) (xb (F := Ideal) (x3 (F := Ideal) X) o t) E) (sitofp (F := Ideal) .f32 (iota .tc S1024x2048 32 [1] iota_S1024x2048_d1_w32))
      (broadcast S1024x2048 (Scalar.ofBits (F := Ideal) .f32 0x45000000#32)) (ix2 j k)
      = if k = b (row o t j) then (((b (row o t j)).val : ℝ) : EReal) else ((2048 : ℝ) : EReal) := by
    intro k
    rw [select_apply, pay7_best X E hX hE b hb o t ht, sitofp_apply, iota_single_apply]
    by_cases h : k = b (row o t j)
    · rw [if_pos h, decide_eq_true h]
      show (((BitVec.ofNat 32 k.val).toInt : ℝ) : EReal) = _
      have hi : (BitVec.ofNat 32 k.val).toInt = (k.val : ℤ) := by
        have := k.isLt
        rw [BitVec.toInt_eq_toNat_of_lt (by rw [BitVec.toNat_ofNat]; omega), BitVec.toNat_ofNat]; omega
      rw [hi, ← h]
      norm_cast
    · rw [if_neg h, decide_eq_false h]
      exact hk
  simp only [hv]
  have hlt : (b (row o t j)).val < 2048 := (b (row o t j)).isLt
  rw [fold_min_best Finset.univ (fun k => if k = b (row o t j) then (((b (row o t j)).val : ℝ) : EReal) else ((2048 : ℝ) : EReal))
    (b (row o t j)) (Finset.mem_univ _) fun k _ => by
      by_cases h : k = b (row o t j)
      · simp only [if_pos h, if_pos rfl]; exact le_rfl
      · simp only [if_neg h, if_pos rfl]
        exact EReal.coe_le_coe_iff.mpr (by exact_mod_cast hlt.le)]
  rw [if_pos rfl, Ideal.fptosi, toIntClamped_coe, if_pos (by positivity), Int.floor_natCast]
  rw [min_eq_right (by norm_num; omega), max_eq_right (by norm_num)]
  exact BitVec.ofInt_natCast ..

theorem pay10_best (o t : ℕ) (ht : o + t < 16) (c : Vec Ideal S1x2048 .f32) (k : Fin 2048) :
    k0_pay10 (F := Ideal) (xb (F := Ideal) (x3 (F := Ideal) X) o t) E c (ix2 0 k) = c (ix2 0 k) + ∑ j : Fin 1024, if k = b (row o t j) then 1 else 0 := by
  unfold k0_pay10
  rw [addf_apply]
  refine congrArg₂ (· + ·) rfl ?_
  rw [shapeCast_apply _ _ _ (ix1 k) (by
      rw [Shape.rowMajor_val_one, Shape.rowMajor_val_two]; show k.val = 0 * 2048 + k.val; omega)]
  refine (multiReduction_add_single _ _ _ _ _ _).trans ?_
  refine Finset.sum_congr rfl fun j _ => ?_
  rw [lift_col]
  have := pay7_best X E hX hE b hb o t ht j k
  refine (congrArg (fun x : BitVec 1 => FloatOps.sitofp (F := Ideal) .f32 (x.setWidth 32)) this).trans ?_
  by_cases h : k = b (row o t j)
  · rw [if_pos h, decide_eq_true h]
    show (((1#32 : BitVec 32).toInt : ℝ) : EReal) = _
    simp
  · rw [if_neg h, decide_eq_false h]
    show (((0#32 : BitVec 32).toInt : ℝ) : EReal) = _
    simp

theorem pay2_best (o t : ℕ) (ht : o + t < 16) (l : EReal) :
    k0_pay2 (F := Ideal) (k0_pay6 (F := Ideal) (xb (F := Ideal) (x3 (F := Ideal) X) o t) E) l = l + ∑ j : Fin 1024, D X E (ix2 (row o t j) (b (row o t j))) := by
  unfold k0_pay2
  show l + shapeCast S1x1 _ _ _ = _
  refine congrArg₂ (· + ·) rfl ?_
  rw [shapeCast_apply _ _ _ (ix1 0) ((Nat.lt_one_iff.mp (S1.rowMajor (ix1 0)).isLt).trans (Nat.lt_one_iff.mp (S1x1.rowMajor _).isLt).symm)]
  refine (multiReduction_add_single _ _ _ _ _ _).trans ?_
  refine Finset.sum_congr rfl fun j _ => ?_
  have e : (reduces_S1x1024_S1).lift (ix1 0) j = ix2 0 j := by
    funext a; apply Fin.ext; rw [Shape.Reduces.lift_val]; match a with | ⟨0, _⟩ => rfl | ⟨1, _⟩ => rfl
  rw [e, ← pay6_best X E hX hE b hb o t ht j]
  exact cast_row _ j

end

end Cert.Proof.CodesKer

end
-- ==== Proof.CodesValue.lean ====
/-
  The codes kernel's three results are the reference's, at the ideal values, under the precondition.
-/
module

public import proofs.«01_k».proof.Proof.CodesKer

@[expose] public section

noncomputable section

namespace Cert.Proof.CodesValue

open Cert.CodesIdeal Cert.CodesIdeal.Gen Idealize.ShloMosaic Idealize.ShloMosaic.ValueIdx Idealize.ShloMosaic.Ideal
open Cert.Proof.CodesAcc Cert.Proof.CodesRun Cert.Proof.CodesPre Cert.Proof.CodesKer
open scoped BigOperators

/-- The two calls' blocks' rows are all rows. -/
theorem sum_rows (f : Fin 16384 → EReal) : (∑ t ∈ Finset.range 8, ∑ j : Fin 1024, f (row 0 t j))
    + ∑ t ∈ Finset.range 8, ∑ j : Fin 1024, f (row 8 t j) = ∑ n : Fin 16384, f n := by
  have h : ∑ t ∈ Finset.range 16, ∑ j : Fin 1024, f (row 0 t j) = ∑ n : Fin 16384, f n := by
    rw [Finset.sum_range, ← Fintype.sum_prod_type (fun p : Fin 16 × Fin 1024 => f (row 0 p.1.val p.2))]
    refine Fintype.sum_equiv (finProdFinEquiv (m := 16) (n := 1024)) _ _ fun p => congrArg f (Fin.ext ?_)
    show (1024 * (0 + p.1.val) + p.2.val) % 16384 = p.2.val + 1024 * p.1.val
    have := p.1.isLt; have := p.2.isLt
    omega
  rw [← h, show 16 = 8 + 8 from rfl, Finset.sum_range_add]
  refine congrArg₂ (· + ·) rfl (Finset.sum_congr rfl fun t _ => Finset.sum_congr rfl fun j _ => congrArg f (Fin.ext ?_))
  show (1024 * (8 + t) + j.val) % 16384 = (1024 * (0 + (8 + t)) + j.val) % 16384
  rw [Nat.zero_add]

theorem zeroC_apply (i : S1x2048.Idx) : zeroC (F := Ideal) i = 0 := by
  unfold zeroC
  rw [broadcastInDim_scalar_apply, constant_apply, ofBits_zero_f32]
theorem zeroL_apply (i : S1.Idx) : zeroL (F := Ideal) i = 0 := by
  unfold zeroL
  rw [broadcastInDim_scalar_apply, constant_apply, ofBits_zero_f32]

section
variable (X : FVec Ideal S16x256x32x32 .f32) (E : FVec Ideal S256x2048 .f32) (C : FVec Ideal S1x2048 .f32) (L : FVec Ideal S1 .f32)
variable (hX : ∀ i, ∃ r : ℝ, X i = (r : EReal)) (hE : ∀ i, ∃ r : ℝ, E i = (r : EReal))
variable (b : Fin 16384 → Fin 2048) (hb : ∀ n k, k ≠ b n → D X E (ix2 n (b n)) < D X E (ix2 n k))
include hX hE hb

theorem code_eq (n : Fin 16384) : CodesRef.code (D X E) (ix1 n) = BitVec.ofNat 32 (b n).val := by
  refine CodesRef.code_best _ n (b n) ?_ (hb n)
  obtain ⟨r, hr⟩ := dist_real X E hX hE n (b n)
  rw [hr]; exact EReal.coe_lt_top r

theorem counts_eq (k : Fin 2048) (o : ℕ) (ho : o ≤ 8) (n : ℕ) (hn : n < 8) : counts (F := Ideal) (x3 (F := Ideal) X) o E C n (ix2 0 k)
    = C (ix2 0 k) + ∑ t ∈ Finset.range (n + 1), ∑ j : Fin 1024, if k = b (row o t j) then 1 else 0 := by
  have h1 : ∀ c : Vec Ideal S1x2048 .f32, k0_pay1 (F := Ideal) c = c := fun c => shapeCast_self _ _
  have h9 : ∀ c : Vec Ideal S1x2048 .f32, k0_pay9 (F := Ideal) c = c := fun c => by unfold k0_pay9; simp only [shapeCast_self]
  induction n with
  | zero =>
    show k0_pay1 (F := Ideal) (k0_pay10 (F := Ideal) (xb (F := Ideal) (x3 (F := Ideal) X) o 0) E (k0_pay9 (F := Ideal) C)) (ix2 0 k) = _
    rw [h1, h9, pay10_best X E hX hE b hb o 0 (by omega), Finset.sum_range_one]
  | succ n ih =>
    show k0_pay1 (F := Ideal) (k0_pay10 (F := Ideal) (xb (F := Ideal) (x3 (F := Ideal) X) o (n + 1)) E (counts (F := Ideal) (x3 (F := Ideal) X) o E C n)) (ix2 0 k) = _
    rw [h1, pay10_best X E hX hE b hb o (n + 1) (by omega), ih (by omega), Finset.sum_range_succ _ (n + 1), add_assoc]

theorem losses_eq (o : ℕ) (ho : o ≤ 8) (n : ℕ) (hn : n < 8) : losses (F := Ideal) (x3 (F := Ideal) X) o E L n
    = L (ix1 0) + ∑ t ∈ Finset.range (n + 1), ∑ j : Fin 1024, D X E (ix2 (row o t j) (b (row o t j))) := by
  induction n with
  | zero =>
    show k0_pay2 (F := Ideal) (k0_pay6 (F := Ideal) (xb (F := Ideal) (x3 (F := Ideal) X) o 0) E) (L (ix1 0)) = _
    rw [pay2_best X E hX hE b hb o 0 (by omega), Finset.sum_range_one]
  | succ n ih =>
    show k0_pay2 (F := Ideal) (k0_pay6 (F := Ideal) (xb (F := Ideal) (x3 (F := Ideal) X) o (n + 1)) E) (losses (F := Ideal) (x3 (F := Ideal) X) o E L n) = _
    rw [pay2_best X E hX hE b hb o (n + 1) (by omega), ih (by omega), Finset.sum_range_succ _ (n + 1), add_assoc]

theorem half_eq (o : ℕ) (ho : o ≤ 8) (n : Fin 8192) : shapeCast S8192 (idxOut (F := Ideal) (x3 (F := Ideal) X) o E) shapeCasts_S64x128_S8192 (ix1 n)
    = BitVec.ofNat 32 (b ⟨1024 * o + n.val, by omega⟩).val := by
  rw [shapeCast_apply _ _ _ (ix2 (⟨n.val / 128, by omega⟩ : Fin 64) (⟨n.val % 128, by omega⟩ : Fin 128)) (by
    rw [Shape.rowMajor_val_one, Shape.rowMajor_val_two]; show n.val / 128 * 128 + n.val % 128 = n.val; omega)]
  show k0_pay8 (F := Ideal) (xb (F := Ideal) (x3 (F := Ideal) X) o (n.val / 128 / 8)) E
    (ix2 (⟨n.val / 128 % 8, by omega⟩ : Fin 8) (⟨n.val % 128, by omega⟩ : Fin 128)) = _
  rw [pay8_best X E hX hE b hb o (n.val / 128 / 8) (by omega)]
  refine congrArg (fun n => BitVec.ofNat 32 (b n).val) (Fin.ext ?_)
  show (1024 * (o + n.val / 128 / 8) + (n.val / 128 % 8 * 128 + n.val % 128)) % 16384 = 1024 * o + n.val
  omega

/-- The codes. -/
theorem idx_eq : idxAll (F := Ideal) X E = CodesRef.code (D X E) := by
  funext i
  obtain ⟨n, rfl⟩ : ∃ n : Fin 16384, i = ix1 n := ⟨i 0, eq_ix1 i⟩
  rw [code_eq X E hX hE b hb]
  unfold idxAll
  by_cases h : n.val < 8192
  · refine (concatenate_pair_apply_left (t := S16384) (s₁ := S8192) (s₂ := S8192) 0 _ _ _ (ix1 n) rfl (ix1 (⟨n.val, h⟩ : Fin 8192)) ?_).trans ?_
    · intro a; match a with | ⟨0, _⟩ => rfl
    rw [half_eq X E hX hE b hb 0 (by omega)]
    refine congrArg (fun n => BitVec.ofNat 32 (b n).val) (Fin.ext ?_)
    show 1024 * 0 + n.val = n.val
    omega
  · refine (concatenate_pair_apply_right (t := S16384) (s₁ := S8192) (s₂ := S8192) 0 _ _ _ (ix1 n) rfl rfl (ix1 (⟨n.val - 8192, by omega⟩ : Fin 8192)) ?_ ?_).trans ?_
    · intro a ha; match a with | ⟨0, _⟩ => exact absurd rfl ha
    · show n.val - 8192 + 8192 = n.val; omega
    rw [half_eq X E hX hE b hb 8 (by omega)]
    refine congrArg (fun n => BitVec.ofNat 32 (b n).val) (Fin.ext ?_)
    show 1024 * 8 + (n.val - 8192) = n.val
    omega

theorem halfL_apply (i : S1.Idx) : halfL (F := Ideal) X E i = ∑ t ∈ Finset.range 8, ∑ j : Fin 1024, D X E (ix2 (row 0 t j) (b (row 0 t j))) := by
  show losses (F := Ideal) (x3 (F := Ideal) X) 0 E (zeroL (F := Ideal)) 7 = _
  rw [losses_eq X E _ hX hE b hb 0 (by omega) 7 (by omega), zeroL_apply, zero_add]

theorem halfC_apply (k : Fin 2048) : halfC (F := Ideal) X E (ix2 0 k) = ∑ t ∈ Finset.range 8, ∑ j : Fin 1024, if k = b (row 0 t j) then 1 else 0 := by
  show counts (F := Ideal) (x3 (F := Ideal) X) 0 E (zeroC (F := Ideal)) 7 (ix2 0 k) = _
  rw [counts_eq X E _ hX hE b hb k 0 (by omega) 7 (by omega), zeroC_apply, zero_add]

theorem scale (S : EReal) : S * ((5 / 16777216 : ℝ) : EReal)
    = S * ((4194304 : ℝ) : EReal)⁻¹ + ((1 / 4 : ℝ) : EReal) * (S * ((4194304 : ℝ) : EReal)⁻¹) := by
  have hi : ((4194304 : ℝ) : EReal)⁻¹ = ((1 / 4194304 : ℝ) : EReal) := by rw [← EReal.coe_inv]; norm_num
  rw [hi]
  induction S with
  | bot =>
    rw [EReal.bot_mul_coe_of_pos (by norm_num), EReal.bot_mul_coe_of_pos (by norm_num), EReal.coe_mul_bot_of_pos (by norm_num)]; rfl
  | top =>
    rw [EReal.top_mul_coe_of_pos (by norm_num), EReal.top_mul_coe_of_pos (by norm_num), EReal.coe_mul_top_of_pos (by norm_num)]; rfl
  | coe r =>
    rw [← EReal.coe_mul, ← EReal.coe_mul, ← EReal.coe_mul, ← EReal.coe_add]
    refine congrArg _ ?_
    ring

theorem lossOut_apply (A : FVec Ideal S16x256x1024 .f32) (L : FVec Ideal S1 .f32) (i : S1x1.Idx) :
    CodesRun1.lossOut' (F := Ideal) A E L i = losses (F := Ideal) A 8 E L 7 * Ideal.ofBits .f32 0x34A00000#32 := rfl

theorem lossAll_apply (j : S_.Idx) : lossAll (F := Ideal) X E j
    = losses (F := Ideal) (x3 (F := Ideal) X) 8 E (halfL (F := Ideal) X E) 7 * Ideal.ofBits .f32 0x34A00000#32 := by
  refine (shapeCast_apply _ _ j (ix2 0 0) ?_).trans (lossOut_apply X E hX hE b hb _ _ _)
  exact (Nat.lt_one_iff.mp (S1x1.rowMajor (ix2 0 0)).isLt).trans (Nat.lt_one_iff.mp (S_.rowMajor j).isLt).symm

theorem allL : losses (F := Ideal) (x3 (F := Ideal) X) 8 E (halfL (F := Ideal) X E) 7 = ∑ n : Fin 16384, D X E (ix2 n (b n)) := by
  rw [losses_eq X E _ hX hE b hb 8 (by omega) 7 (by omega), halfL_apply X E hX hE b hb]
  exact sum_rows fun n => D X E (ix2 n (b n))

/-- The loss. -/
theorem loss_eq : lossAll (F := Ideal) X E = CodesRef.loss (CodesRef.latent
    (CodesRef.diff (CodesRef.flat (F := Ideal) X) E (CodesRef.hot (CodesRef.code (D X E))))) := by
  have hc : Ideal.ofBits .f32 0x34A00000#32 = ((5 / 16777216 : ℝ) : EReal) := by
    simp [Ideal.ofBits, Ideal.ieee, -EReal.coe_mul]; norm_num
  funext j
  rw [CodesRef.loss_apply, lossAll_apply X E hX hE b hb, hc, allL X E hX hE b hb, scale X E hX hE b hb]
  have hq : ∀ n : Fin 16384, ∑ d : Fin 256, CodesRef.diff (CodesRef.flat (F := Ideal) X) E (CodesRef.hot (CodesRef.code (D X E))) (ix2 n d)
      * CodesRef.diff (CodesRef.flat (F := Ideal) X) E (CodesRef.hot (CodesRef.code (D X E))) (ix2 n d) = D X E (ix2 n (b n)) := by
    intro n
    simp only [CodesRef.diff_best _ b (code_eq X E hX hE b hb)]
    exact sq_eq X E hX hE n (b n)
  simp only [hq]

theorem pay4_apply (v : FVec Ideal S1x2048 .f32) (j : S1x1.Idx) : k0_pay4 (F := Ideal) v j
    = FloatOps.exp (F := Ideal) (φ := .f32) (-(∑ k : Fin 2048, v (ix2 0 k) * Ideal.ofBits .f32 0x38800000#32
      * FloatOps.log (F := Ideal) (φ := .f32) (v (ix2 0 k) * Ideal.ofBits .f32 0x38800000#32 + Ideal.ofBits .f32 0x2EDBE6FF#32))) := by
  unfold k0_pay4
  show FloatOps.exp (F := Ideal) (φ := .f32) (Ideal.ofBits .f32 0x00000000#32 - shapeCast S1x1x1 _ _ _) = _
  refine congrArg _ ?_
  rw [ofBits_zero_f32, sub_eq_add_neg, zero_add]
  refine congrArg _ ?_
  rw [shapeCast_apply _ _ _ (ix1 0) ((Nat.lt_one_iff.mp (S1.rowMajor (ix1 0)).isLt).trans (Nat.lt_one_iff.mp (S1x1x1.rowMajor _).isLt).symm)]
  refine (multiReduction_add_total _ _ _ (by intro a; match a with | ⟨0, _⟩ => rfl) _ _ _).trans ?_
  refine Fintype.sum_equiv ⟨fun i : S1x1x2048.Idx => (i 2 : Fin 2048), fun k => ix3 0 0 k, fun i => ?_, fun k => rfl⟩ _ _ fun i => ?_
  · have h0 : i 0 = (0 : Fin 1) := Subsingleton.elim (α := Fin 1) _ _
    have h1 : i 1 = (0 : Fin 1) := Subsingleton.elim (α := Fin 1) _ _
    funext a; match a with
      | ⟨0, _⟩ => exact h0.symm
      | ⟨1, _⟩ => exact h1.symm
      | ⟨2, _⟩ => rfl
  · have h0 : (i 0).val < 1 := (i 0).isLt
    have h1 : (i 1).val < 1 := (i 1).isLt
    refine (shapeCast_apply _ _ i (ix2 0 (i 2)) ?_).trans rfl
    rw [Shape.rowMajor_val_two, Shape.rowMajor_val_three]
    show 0 * 2048 + (i 2).val = ((i 0).val * 1 + (i 1).val) * 2048 + (i 2).val
    omega

/-- The perplexity. -/
theorem perp_eq : perpAll (F := Ideal) X E = CodesRef.perp (CodesRef.probs (CodesRef.hot (CodesRef.code (D X E)))) := by
  have hc : Ideal.ofBits .f32 0x38800000#32 = ((16384 : ℝ) : EReal)⁻¹ := by
    rw [← EReal.coe_inv]
    simp [Ideal.ofBits, Ideal.ieee, -EReal.coe_mul]; norm_num
  funext j
  rw [CodesRef.perp_apply]
  unfold perpAll
  rw [shapeCast_apply _ _ j (ix2 0 0) ((Nat.lt_one_iff.mp (S1x1.rowMajor (ix2 0 0)).isLt).trans (Nat.lt_one_iff.mp (S_.rowMajor j).isLt).symm)]
  show k0_pay4 (F := Ideal) (counts (F := Ideal) (x3 (F := Ideal) X) 8 E (halfC (F := Ideal) X E) 7) (ix2 0 0) = _
  rw [pay4_apply X E hX hE b hb]
  have hk : ∀ k : Fin 2048, counts (F := Ideal) (x3 (F := Ideal) X) 8 E (halfC (F := Ideal) X E) 7 (ix2 0 k)
      = ∑ n : Fin 16384, if k = b n then (1 : EReal) else 0 := fun k => by
    rw [counts_eq X E _ hX hE b hb k 8 (by omega) 7 (by omega), halfC_apply X E hX hE b hb]
    exact sum_rows fun n => if k = b n then (1 : EReal) else 0
  simp only [CodesRef.probs_best _ b (code_eq X E hX hE b hb), hk, hc]

end

end Cert.Proof.CodesValue

end
-- ==== Proof.CodesClaims.lean ====
/-
  The claims about the codes: the kernel's frames, its reference's frame, and that the two end in the same three results.
-/
module

public import proofs.«01_k».proof.Proof.CodesValue
public import proofs.«01_k».proof.Proof.Gen.Codes
public import proofs.«01_k».proof.Defs
public import Idealize.ShloMosaic.Lib.Tactic
public import Idealize.ShloMosaic.Adequacy
public import Idealize.ShloMosaic.Init

@[expose] public section

noncomputable section

namespace Cert.Proof.CodesClaims

open Idealize.ShloMosaic Idealize.ShloMosaic.ValueIdx Idealize.SL.Sem

/-- The codes kernel, as the equal program without rewrites states it, leaves its arguments and the semaphores. -/
def leavesIdeal : Prop := ∀ (m : (ℓ : Loc Cert.CodesIdeal.nD Cert.CodesIdeal.τ Cert.CodesIdeal.sig) → Buf (Elt Bits) ℓ) (g : Dev Cert.CodesIdeal.nD → PrngReg),
  θ_run (Cert.CodesIdeal.defs (F := Bits)) (onTc (τ := Cert.CodesIdeal.τ) (Cert.CodesIdeal.main (F := Bits))) ⟨m, fun _ => 0, g⟩ fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ r.2.sem = fun _ => 0

/-- The codes kernel leaves its arguments and the semaphores. -/
def leaves : Prop := ∀ (m : (ℓ : Loc Cert.Codes.nD Cert.Codes.τ Cert.Codes.sig) → Buf (Elt Bits) ℓ) (g : Dev Cert.Codes.nD → PrngReg),
  θ_run (Cert.Codes.defs (F := Bits)) (onTc (τ := Cert.Codes.τ) (Cert.Codes.main (F := Bits))) ⟨m, fun _ => 0, g⟩ fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0

/-- The two texts are one program. -/
theorem leaves_eq : leaves = leavesIdeal := by sl_kernel_rfl

theorem frame_codes : Cert.quiescent_Codes := fun m ρ _ =>
  (leaves_eq.mpr fun m ρ => Two.frame (F := Bits) m ρ) m ρ

theorem frame_codesIdeal : Cert.quiescent_CodesIdeal := fun m ρ _ => Two.frame (F := Ideal) m ρ

theorem frame_codesRefIdeal : Cert.quiescent_CodesRefIdeal := fun m ρ _ =>
  (θ_run Cert.CodesRefIdeal.defs _ _).mono
    (fun r h => ⟨fun c => (h c).2.2.2, sem_eq_zero_of_no_sems (by decide) r.2⟩) (CodesRef.run (F := Ideal) m ρ)

/-- The kernel's loss, perplexity and codes are the reference's. -/
theorem algebraic : Cert.algebraic_CodesIdeal_CodesRefIdeal := fun m ρ m' ρ' hp hm =>
  have hX := fun c => CodesPre.realX _ _ (hp c)
  have hE := fun c => CodesPre.realE _ _ (hp c)
  have hb := fun c => CodesPre.exists_best _ _ (hp c)
  ⟨_, _, _, CodesRun.run (F := Ideal) m ρ,
    (θ_run Cert.CodesRefIdeal.defs _ _).mono (fun r h c => by
      obtain ⟨b, hb⟩ := hb c
      obtain ⟨h0, h1, h2, h3⟩ := h c
      unfold CodesRef.iArg at h0 h1 h2
      rw [(hm c).1, (hm c).2] at h0 h1 h2
      exact ⟨h0.trans (CodesValue.loss_eq _ _ (hX c) (hE c) b hb).symm,
        h1.trans (CodesValue.perp_eq _ _ (hX c) (hE c) b hb).symm,
        h2.trans (CodesValue.idx_eq _ _ (hX c) (hE c) b hb).symm, h3⟩) (CodesRef.run (F := Ideal) m' ρ')⟩

end Cert.Proof.CodesClaims
-- ==== Proof.KTypes.lean ====
/-
  The whole kernel as the launch theorem sees it: two pipelined calls and two calls of the SparseCore, and the ghost
  state of their handshakes and of their pipelines.
-/
module

public import proofs.«01_k».proof.KernelIdeal
public import Idealize.ShloMosaic.Lib.SparseCore.Quiescent
public import Idealize.ShloMosaic.Lib.SparseCore.Ops
public import Idealize.ShloMosaic.Lib.Pipeline.Kit
public import Idealize.ShloMosaic.Lib.StableHlo.Run
public import Idealize.ShloMosaic.Lib.ShareLeaves
public import Idealize.ShloMosaic.Lib.Tactic
public import proofs.«01_k».proof.Proof.Gen.KernelIdeal

@[expose] public section

noncomputable section

namespace Cert.Proof.KTypes

open Cert.KernelIdeal Cert.KernelIdeal.Gen
open Idealize.ShloMosaic
open Idealize.ShloMosaic.SparseCore.Cfg (HIx)
open Idealize.SL Idealize.SL.RA Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP (MT nD τ sig (HIx 2) (Elt F) ℕ UU ℕ)).LandsIn (upEmb : UEmb _ (MT nD τ sig (HIx 2) (Elt F) ℕ UU ℕ)) := by
  unfold EP; infer_instance

end Cert.Proof.KTypes

end
-- ==== Proof.KSkel.lean ====
/-
  The two bodies of the pipelined calls as memory operations over the values they store.
-/
module

public import proofs.«01_k».proof.Proof.Gen.KernelIdeal
public import proofs.«01_k».proof.Proof.KTypes
public import Idealize.ShloMosaic.Lib.Pipeline.FrameBody

@[expose] public section

set_option maxRecDepth 16384

noncomputable section

namespace Cert.Proof.KSkel

open Cert.KernelIdeal Cert.KernelIdeal.Gen
open Idealize.ShloMosaic Idealize.ShloMosaic.TcCoe
open Idealize.SL Idealize.SL.Sem Idealize.SL.BI Idealize.SL.BI.BIBase
open scoped Idealize.SL.BI
open Idealize.ShloMosaic.Pipeline (WinSpec)
open Idealize.ShloMosaic.SparseCore.Cfg (HIx)
open Cert.Proof.KTypes (UU)

variable {F : FTy → Type} [FloatOps F]

noncomputable def k0_pay1 (v35 : FVec F S1x2048 .f32) : FVec F S1x2048 .f32 :=
  have v38 : FVec F S1x2048 .f32 := shapeCast S1x2048 v35 shapeCasts_S1x2048_S1x2048
  v38

noncomputable def k0_pay2 (v15 : FVec F S1024 .f32) (v39 : Elt F .f32) : F .f32 :=
  have v40 : FVec F S1x1024 .f32 := shapeCast S1x1024 v15 shapeCasts_S1024_S1x1024
  have v41 : FVec F S1 .f32 := multiReduction .add [1] S1 v40 0x00000000#32 reduces_S1x1024_S1 (.inl rfl) rfl
  have v42 : FVec F S1x1 .f32 := shapeCast S1x1 v41 shapeCasts_S1_S1x1
  have v43 : F .f32 := extractAt ![0, 0] v42 inpos_S1x1_p0_0
  have v44 : F .f32 := Scalar.addf v39 v43
  v44

noncomputable def k0_pay3 (v53 : Elt F .f32) : FVec F S1x1 .f32 :=
  have cst_33 : F .f32 := Scalar.ofBits .f32 0x34A00000#32
  have v54 : F .f32 := Scalar.mulf v53 cst_33
  have v55 : FVec F S1x1 .f32 := broadcast S1x1 v54
  v55

noncomputable def k0_pay4 (v57 : Vec F S1x2048 .f32) : FVec F S1x1 .f32 :=
  have cst_38 : F .f32 := Scalar.ofBits .f32 0x38800000#32
  have v58 : FVec F S1x2048 .f32 := broadcast S1x2048 cst_38
  have v59 : FVec F S1x2048 .f32 := mulf v57 v58
  have cst_39 : F .f32 := Scalar.ofBits .f32 0x2EDBE6FF#32
  have v60 : FVec F S1x2048 .f32 := broadcast S1x2048 cst_39
  have v61 : FVec F S1x2048 .f32 := addf v59 v60
  have v62 : FVec F S1x2048 .f32 := log v61
  have v63 : FVec F S1x2048 .f32 := mulf v59 v62
  have v64 : FVec F S1x1x2048 .f32 := shapeCast S1x1x2048 v63 shapeCasts_S1x2048_S1x1x2048
  have v65 : FVec F S1 .f32 := multiReduction .add [1, 2] S1 v64 0x00000000#32 reduces_S1x1x2048_S1 (.inl rfl) rfl
  have v66 : FVec F S1x1x1 .f32 := shapeCast S1x1x1 v65 shapeCasts_S1_S1x1x1
  have v67 : F .f32 := extractAt ![0, 0, 0] v66 inpos_S1x1x1_p0_0_0
  have v68 : FVec F S1x1 .f32 := broadcast S1x1 v67
  have cst_41 : F .f32 := Scalar.ofBits .f32 0x00000000#32
  have v69 : FVec F S1x1 .f32 := broadcast S1x1 cst_41
  have v70 : FVec F S1x1 .f32 := subf v69 v68
  have v71 : FVec F S1x1 .f32 := exp v70
  v71

noncomputable def k0_pay5 (v0 : Vec F S1x256x1024 .f32) (v2 : Vec F S256x2048 .f32) : FVec F S1024x2048 .f32 :=
  have v1 : FVec F S256x1024 .f32 := shapeCast S256x1024 v0 shapeCasts_S1x256x1024_S256x1024
  have v3 : FVec F S256x2048 .f32 := addf v2 v2
  have cst : FVec F S1024x2048 .f32 := constant S1024x2048 .f32 0x00000000#32
  have v4 : FVec F S1024x2048 .f32 := matmul dot_S256x1024_S256x2048_S1024x2048_0_0_1_1_n_n none v1 v3 cst
  have cst_4 : F .f32 := Scalar.ofBits .f32 0x3F800000#32
  have v5 : FVec F S256x1 .f32 := broadcast S256x1 cst_4
  have v6 : FVec F S256x1024 .f32 := mulf v1 v1
  have cst_5 : FVec F S1024x1 .f32 := constant S1024x1 .f32 0x00000000#32
  have v7 : FVec F S1024x1 .f32 := matmul dot_S256x1024_S256x1_S1024x1_0_0_1_1_n_n none v6 v5 cst_5
  have v8 : FVec F S256x2048 .f32 := mulf v2 v2
  have v9 : FVec F S2048 .f32 := multiReduction .add [0] S2048 v8 0x00000000#32 reduces_S256x2048_S2048 (.inl rfl) rfl
  have v10 : FVec F S1x2048 .f32 := shapeCast S1x2048 v9 shapeCasts_S2048_S1x2048
  have v11 : FVec F S1024x2048 .f32 := broadcastTo S1024x2048 v7 broadcasts_S1024x1_S1024x2048
  have v12 : FVec F S1024x2048 .f32 := broadcastTo S1024x2048 v10 broadcasts_S1x2048_S1024x2048
  have v13 : FVec F S1024x2048 .f32 := addf v11 v12
  have v14 : FVec F S1024x2048 .f32 := subf v13 v4
  v14

noncomputable def k0_pay6 (v0 : Vec F S1x256x1024 .f32) (v2 : Vec F S256x2048 .f32) : FVec F S1024 .f32 :=
  have v15 : FVec F S1024 .f32 := multiReduction .minimumf [1] S1024 (k0_pay5 v0 v2) 0x7F800000#32 reduces_S1024x2048_S1024 (.inl rfl) rfl
  v15

noncomputable def k0_pay7 (v0 : Vec F S1x256x1024 .f32) (v2 : Vec F S256x2048 .f32) : IVec S1024x2048 1 :=
  have v16 : FVec F S1024x1 .f32 := shapeCast S1024x1 (k0_pay6 v0 v2) shapeCasts_S1024_S1024x1
  have v17 : FVec F S1024x2048 .f32 := broadcastTo S1024x2048 v16 broadcasts_S1024x1_S1024x2048
  have v18 : IVec S1024x2048 1 := cmpf .oeq (k0_pay5 v0 v2) v17
  v18

noncomputable def k0_pay8 (v0 : Vec F S1x256x1024 .f32) (v2 : Vec F S256x2048 .f32) : IVec S8x128 32 :=
  have v19 : IVec S1024x2048 32 := iota .tc S1024x2048 32 [1] iota_S1024x2048_d1_w32
  have v20 : FVec F S1024x2048 .f32 := sitofp .f32 v19
  have cst_8 : F .f32 := Scalar.ofBits .f32 0x45000000#32
  have v21 : FVec F S1024x2048 .f32 := broadcast S1024x2048 cst_8
  have v22 : FVec F S1024x2048 .f32 := select (k0_pay7 v0 v2) v20 v21
  have v23 : FVec F S1024 .f32 := multiReduction .minimumf [1] S1024 v22 0x7F800000#32 reduces_S1024x2048_S1024 (.inl rfl) rfl
  have v24 : IVec S1024 32 := fptosi 32 v23
  have v25 : IVec S8x128 32 := shapeCast S8x128 v24 shapeCasts_S1024_S8x128
  v25

noncomputable def k0_pay9 (v49 : Vec F S1x2048 .f32) : FVec F S1x2048 .f32 :=
  have v50 : FVec F S1x2048 .f32 := shapeCast S1x2048 v49 shapeCasts_S1x2048_S1x2048
  have v53 : FVec F S1x2048 .f32 := shapeCast S1x2048 v50 shapeCasts_S1x2048_S1x2048
  v53

noncomputable def k0_pay10 (v0 : Vec F S1x256x1024 .f32) (v2 : Vec F S256x2048 .f32) (v34 : Vec F S1x2048 .f32) : FVec F S1x2048 .f32 :=
  have v27 : IVec S1024x2048 32 := extui 32 (k0_pay7 v0 v2) natLt_1_32
  have v28 : FVec F S1024x2048 .f32 := sitofp .f32 v27
  have v29 : FVec F S2048 .f32 := multiReduction .add [0] S2048 v28 0x00000000#32 reduces_S1024x2048_S2048 (.inl rfl) rfl
  have v30 : FVec F S1x2048 .f32 := shapeCast S1x2048 v29 shapeCasts_S2048_S1x2048
  have v35 : FVec F S1x2048 .f32 := addf v34 v30
  v35

noncomputable def cc0__tc_body_skel (i : grid0.Coords) (arg1 : Memref sig .tc .vmem S1x256x1024 .f32) (harg1 : arg1.IsWhole) (arg2 : Memref sig .tc .vmem S256x2048 .f32) (harg2 : arg2.IsWhole) (arg3 : Memref sig .tc .vmem S1x2048 .f32) (harg3 : arg3.IsWhole) (arg4 : Memref sig .tc .smem S1 .f32) (harg4 : arg4.IsWhole) (arg5 : Memref sig .tc .vmem S8x128 .i32) (harg5 : arg5.IsWhole) (arg6 : Memref sig .tc .vmem S1x2048 .f32) (harg6 : arg6.IsWhole) (arg7 : Memref sig .tc .smem S1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x2048 .f32) (harg10 : arg10.IsWhole) (arg11 : Memref sig .tc .smem S1x1 .f32) (harg11 : arg11.IsWhole) :
    Prog (TpuEff nD τ sig (Elt F) Λ₀ .tc) PUnit := do
  let ⟨arg0, v15, v35⟩ : Σ' (arg0 : BitVec 32) (v15 : FVec F S1024 .f32), FVec F S1x2048 .f32 ← k0_part1 i arg1 harg1 arg2 harg2 arg3 harg3 arg4 harg4 arg5 harg5 arg6 harg6 arg7 harg7 arg8 harg8 arg9 harg9 arg10 harg10 arg11 harg11
  let v36 : Vec F S1x2048 .f32 ← Prog.lift (.load arg10 (Rect.unit (s := S1x2048) ![0, 0] S1x2048.size inb_S1x2048_S1x2048_0_0).toLoadRect (View.loadsAt_vmem h_S1x2048))

  Prog.lift (.store arg10 (Rect.unit (s := S1x2048) ![0, 0] S1x2048.size inb_S1x2048_S1x2048_0_0) (k0_pay1 v35) Finset.univ (View.stores_vmem_bits_univ h_S1x2048 rfl) (.inl rfl))
  let v39 : Elt F .f32 ← smemLoad arg11 (Rect.unit (s := S1x1) ![0, 0] S1x1.size inb_S1x1_S1x1_0_0) numel1_S1x1 rfl

  let v45 : Elt F .f32 ← smemLoad arg11 (Rect.unit (s := S1x1) ![0, 0] S1x1.size inb_S1x1_S1x1_0_0) numel1_S1x1 rfl
  Prog.lift (.store arg11 (Rect.unit (s := S1x1) ![0, 0] S1x1.size inb_S1x1_S1x1_0_0) (fun _ => k0_pay2 v15 v39) Finset.univ (View.stores_smem_one rfl numel1_S1x1) (.inl rfl))

  if k0_h2 : k0_cond2 i = 1#1 then do
    let v49 : Vec F S1x2048 .f32 ← Prog.lift (.load arg10 (Rect.unit (s := S1x2048) ![0, 0] S1x2048.size inb_S1x2048_S1x2048_0_0).toLoadRect (View.loadsAt_vmem h_S1x2048))
    let v50 : Vec F S1x2048 .f32 ← Prog.lift (.load arg6 (Rect.unit (s := S1x2048) ![0, 0] S1x2048.size inb_S1x2048_S1x2048_0_0).toLoadRect (View.loadsAt_vmem h_S1x2048))
    Prog.lift (.store arg6 (Rect.unit (s := S1x2048) ![0, 0] S1x2048.size inb_S1x2048_S1x2048_0_0) v49 Finset.univ (View.stores_vmem_bits_univ h_S1x2048 rfl) (.inl rfl))
    let v51 : Elt F .f32 ← smemLoad arg11 (Rect.unit (s := S1x1) ![0, 0] S1x1.size inb_S1x1_S1x1_0_0) numel1_S1x1 rfl
    let v52 : Elt F .f32 ← smemLoad arg7 (Rect.unit (s := S1) ![0] S1.size inb_S1_S1_0) numel1_S1 rfl
    Prog.lift (.store arg7 (Rect.unit (s := S1) ![0] S1.size inb_S1_S1_0) (fun _ => v51) Finset.univ (View.stores_smem_one rfl numel1_S1) (.inl rfl))
    let v53 : Elt F .f32 ← smemLoad arg11 (Rect.unit (s := S1x1) ![0, 0] S1x1.size inb_S1x1_S1x1_0_0) numel1_S1x1 rfl
    let v56 : Vec F S1x1 .f32 ← Prog.lift (.load arg8 (Rect.unit (s := S1x1) ![0, 0] S1x1.size inb_S1x1_S1x1_0_0).toLoadRect (View.loadsAt_vmem h_S1x1))
    Prog.lift (.store arg8 (Rect.unit (s := S1x1) ![0, 0] S1x1.size inb_S1x1_S1x1_0_0) (k0_pay3 v53) Finset.univ (View.stores_vmem_bits_univ h_S1x1 rfl) (.inl rfl))
    let v57 : Vec F S1x2048 .f32 ← Prog.lift (.load arg10 (Rect.unit (s := S1x2048) ![0, 0] S1x2048.size inb_S1x2048_S1x2048_0_0).toLoadRect (View.loadsAt_vmem h_S1x2048))

    let v72 : Vec F S1x1 .f32 ← Prog.lift (.load arg9 (Rect.unit (s := S1x1) ![0, 0] S1x1.size inb_S1x1_S1x1_0_0).toLoadRect (View.loadsAt_vmem h_S1x1))
    Prog.lift (.store arg9 (Rect.unit (s := S1x1) ![0, 0] S1x1.size inb_S1x1_S1x1_0_0) (k0_pay4 v57) Finset.univ (View.stores_vmem_bits_univ h_S1x1 rfl) (.inl rfl))
    pure ⟨⟩
  else do
    pure ⟨⟩
  pure ⟨⟩

set_option maxRecDepth 65536 in
theorem cc0__tc_body_eq_skeleton : cc0__tc_body (F := F) = cc0__tc_body_skel (F := F) := rfl

noncomputable def k0_part1_skel (i : grid0.Coords) (arg1 : Memref sig .tc .vmem S1x256x1024 .f32) (harg1 : arg1.IsWhole) (arg2 : Memref sig .tc .vmem S256x2048 .f32) (harg2 : arg2.IsWhole) (arg3 : Memref sig .tc .vmem S1x2048 .f32) (harg3 : arg3.IsWhole) (arg4 : Memref sig .tc .smem S1 .f32) (harg4 : arg4.IsWhole) (arg5 : Memref sig .tc .vmem S8x128 .i32) (harg5 : arg5.IsWhole) (arg6 : Memref sig .tc .vmem S1x2048 .f32) (harg6 : arg6.IsWhole) (arg7 : Memref sig .tc .smem S1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x2048 .f32) (harg10 : arg10.IsWhole) (arg11 : Memref sig .tc .smem S1x1 .f32) (harg11 : arg11.IsWhole) :
    Prog (TpuEff nD τ sig (Elt F) Λ₀ .tc) (Σ' (arg0 : BitVec 32) (v15 : FVec F S1024 .f32), FVec F S1x2048 .f32) := do
  let arg0 : BitVec 32 := BitVec.ofNat 32 (i 0).val
  let v0 : Vec F S1x256x1024 .f32 ← Prog.lift (.load arg1 (Rect.unit (s := S1x256x1024) ![0, 0, 0] S1x256x1024.size inb_S1x256x1024_S1x256x1024_0_0_0).toLoadRect (View.loadsAt_vmem h_S1x256x1024))
  let v2 : Vec F S256x2048 .f32 ← Prog.lift (.load arg2 (Rect.unit (s := S256x2048) ![0, 0] S256x2048.size inb_S256x2048_S256x2048_0_0).toLoadRect (View.loadsAt_vmem h_S256x2048))

  let v26 : Vec F S8x128 .i32 ← Prog.lift (.load arg5 (Rect.unit (s := S8x128) ![0, 0] S8x128.size inb_S8x128_S8x128_0_0).toLoadRect (View.loadsAt_vmem h_S8x128))
  Prog.lift (.store arg5 (Rect.unit (s := S8x128) ![0, 0] S8x128.size inb_S8x128_S8x128_0_0) (k0_pay8 v0 v2) Finset.univ (View.stores_vmem_bits_univ h_S8x128 rfl) (.inl rfl))

  let v31 : BitVec 1 := Scalar.cmpi .eq arg0 0#32
  let v32 : BitVec 32 := Scalar.extui v31
  let v33 : BitVec 1 := Scalar.cmpi .ne v32 0#32
  if k0_h1 : v33 = 1#1 then do
    let v49 : Vec F S1x2048 .f32 ← Prog.lift (.load arg3 (Rect.unit (s := S1x2048) ![0, 0] S1x2048.size inb_S1x2048_S1x2048_0_0).toLoadRect (View.loadsAt_vmem h_S1x2048))
    let v51 : Vec F S1x2048 .f32 ← Prog.lift (.load arg10 (Rect.unit (s := S1x2048) ![0, 0] S1x2048.size inb_S1x2048_S1x2048_0_0).toLoadRect (View.loadsAt_vmem h_S1x2048))

    Prog.lift (.store arg10 (Rect.unit (s := S1x2048) ![0, 0] S1x2048.size inb_S1x2048_S1x2048_0_0) (k0_pay9 v49) Finset.univ (View.stores_vmem_bits_univ h_S1x2048 rfl) (.inl rfl))
    let v54 : Elt F .f32 ← smemLoad arg4 (Rect.unit (s := S1) ![0] S1.size inb_S1_S1_0) numel1_S1 rfl
    let v55 : Elt F .f32 ← smemLoad arg11 (Rect.unit (s := S1x1) ![0, 0] S1x1.size inb_S1x1_S1x1_0_0) numel1_S1x1 rfl
    Prog.lift (.store arg11 (Rect.unit (s := S1x1) ![0, 0] S1x1.size inb_S1x1_S1x1_0_0) (fun _ => v54) Finset.univ (View.stores_smem_one rfl numel1_S1x1) (.inl rfl))
    pure ⟨⟩
  else do
    pure ⟨⟩
  let v34 : Vec F S1x2048 .f32 ← Prog.lift (.load arg10 (Rect.unit (s := S1x2048) ![0, 0] S1x2048.size inb_S1x2048_S1x2048_0_0).toLoadRect (View.loadsAt_vmem h_S1x2048))
  pure ⟨arg0, k0_pay6 v0 v2, k0_pay10 v0 v2 v34⟩

set_option maxRecDepth 65536 in
theorem k0_part1_eq_skeleton : k0_part1 (F := F) = k0_part1_skel (F := F) := rfl

noncomputable def k2_pay1 (v35 : FVec F S1x2048 .f32) : FVec F S1x2048 .f32 :=
  have v38 : FVec F S1x2048 .f32 := shapeCast S1x2048 v35 shapeCasts_S1x2048_S1x2048
  v38

noncomputable def k2_pay2 (v15 : FVec F S1024 .f32) (v39 : Elt F .f32) : F .f32 :=
  have v40 : FVec F S1x1024 .f32 := shapeCast S1x1024 v15 shapeCasts_S1024_S1x1024
  have v41 : FVec F S1 .f32 := multiReduction .add [1] S1 v40 0x00000000#32 reduces_S1x1024_S1 (.inl rfl) rfl
  have v42 : FVec F S1x1 .f32 := shapeCast S1x1 v41 shapeCasts_S1_S1x1
  have v43 : F .f32 := extractAt ![0, 0] v42 inpos_S1x1_p0_0
  have v44 : F .f32 := Scalar.addf v39 v43
  v44

noncomputable def k2_pay3 (v53 : Elt F .f32) : FVec F S1x1 .f32 :=
  have cst_33 : F .f32 := Scalar.ofBits .f32 0x34A00000#32
  have v54 : F .f32 := Scalar.mulf v53 cst_33
  have v55 : FVec F S1x1 .f32 := broadcast S1x1 v54
  v55

noncomputable def k2_pay4 (v57 : Vec F S1x2048 .f32) : FVec F S1x1 .f32 :=
  have cst_38 : F .f32 := Scalar.ofBits .f32 0x38800000#32
  have v58 : FVec F S1x2048 .f32 := broadcast S1x2048 cst_38
  have v59 : FVec F S1x2048 .f32 := mulf v57 v58
  have cst_39 : F .f32 := Scalar.ofBits .f32 0x2EDBE6FF#32
  have v60 : FVec F S1x2048 .f32 := broadcast S1x2048 cst_39
  have v61 : FVec F S1x2048 .f32 := addf v59 v60
  have v62 : FVec F S1x2048 .f32 := log v61
  have v63 : FVec F S1x2048 .f32 := mulf v59 v62
  have v64 : FVec F S1x1x2048 .f32 := shapeCast S1x1x2048 v63 shapeCasts_S1x2048_S1x1x2048
  have v65 : FVec F S1 .f32 := multiReduction .add [1, 2] S1 v64 0x00000000#32 reduces_S1x1x2048_S1 (.inl rfl) rfl
  have v66 : FVec F S1x1x1 .f32 := shapeCast S1x1x1 v65 shapeCasts_S1_S1x1x1
  have v67 : F .f32 := extractAt ![0, 0, 0] v66 inpos_S1x1x1_p0_0_0
  have v68 : FVec F S1x1 .f32 := broadcast S1x1 v67
  have cst_41 : F .f32 := Scalar.ofBits .f32 0x00000000#32
  have v69 : FVec F S1x1 .f32 := broadcast S1x1 cst_41
  have v70 : FVec F S1x1 .f32 := subf v69 v68
  have v71 : FVec F S1x1 .f32 := exp v70
  v71

noncomputable def k2_pay5 (v0 : Vec F S1x256x1024 .f32) (v2 : Vec F S256x2048 .f32) : FVec F S1024x2048 .f32 :=
  have v1 : FVec F S256x1024 .f32 := shapeCast S256x1024 v0 shapeCasts_S1x256x1024_S256x1024
  have v3 : FVec F S256x2048 .f32 := addf v2 v2
  have cst : FVec F S1024x2048 .f32 := constant S1024x2048 .f32 0x00000000#32
  have v4 : FVec F S1024x2048 .f32 := matmul dot_S256x1024_S256x2048_S1024x2048_0_0_1_1_n_n none v1 v3 cst
  have cst_4 : F .f32 := Scalar.ofBits .f32 0x3F800000#32
  have v5 : FVec F S256x1 .f32 := broadcast S256x1 cst_4
  have v6 : FVec F S256x1024 .f32 := mulf v1 v1
  have cst_5 : FVec F S1024x1 .f32 := constant S1024x1 .f32 0x00000000#32
  have v7 : FVec F S1024x1 .f32 := matmul dot_S256x1024_S256x1_S1024x1_0_0_1_1_n_n none v6 v5 cst_5
  have v8 : FVec F S256x2048 .f32 := mulf v2 v2
  have v9 : FVec F S2048 .f32 := multiReduction .add [0] S2048 v8 0x00000000#32 reduces_S256x2048_S2048 (.inl rfl) rfl
  have v10 : FVec F S1x2048 .f32 := shapeCast S1x2048 v9 shapeCasts_S2048_S1x2048
  have v11 : FVec F S1024x2048 .f32 := broadcastTo S1024x2048 v7 broadcasts_S1024x1_S1024x2048
  have v12 : FVec F S1024x2048 .f32 := broadcastTo S1024x2048 v10 broadcasts_S1x2048_S1024x2048
  have v13 : FVec F S1024x2048 .f32 := addf v11 v12
  have v14 : FVec F S1024x2048 .f32 := subf v13 v4
  v14

noncomputable def k2_pay6 (v0 : Vec F S1x256x1024 .f32) (v2 : Vec F S256x2048 .f32) : FVec F S1024 .f32 :=
  have v15 : FVec F S1024 .f32 := multiReduction .minimumf [1] S1024 (k2_pay5 v0 v2) 0x7F800000#32 reduces_S1024x2048_S1024 (.inl rfl) rfl
  v15

noncomputable def k2_pay7 (v0 : Vec F S1x256x1024 .f32) (v2 : Vec F S256x2048 .f32) : IVec S1024x2048 1 :=
  have v16 : FVec F S1024x1 .f32 := shapeCast S1024x1 (k2_pay6 v0 v2) shapeCasts_S1024_S1024x1
  have v17 : FVec F S1024x2048 .f32 := broadcastTo S1024x2048 v16 broadcasts_S1024x1_S1024x2048
  have v18 : IVec S1024x2048 1 := cmpf .oeq (k2_pay5 v0 v2) v17
  v18

noncomputable def k2_pay8 (v0 : Vec F S1x256x1024 .f32) (v2 : Vec F S256x2048 .f32) : IVec S8x128 32 :=
  have v19 : IVec S1024x2048 32 := iota .tc S1024x2048 32 [1] iota_S1024x2048_d1_w32
  have v20 : FVec F S1024x2048 .f32 := sitofp .f32 v19
  have cst_8 : F .f32 := Scalar.ofBits .f32 0x45000000#32
  have v21 : FVec F S1024x2048 .f32 := broadcast S1024x2048 cst_8
  have v22 : FVec F S1024x2048 .f32 := select (k2_pay7 v0 v2) v20 v21
  have v23 : FVec F S1024 .f32 := multiReduction .minimumf [1] S1024 v22 0x7F800000#32 reduces_S1024x2048_S1024 (.inl rfl) rfl
  have v24 : IVec S1024 32 := fptosi 32 v23
  have v25 : IVec S8x128 32 := shapeCast S8x128 v24 shapeCasts_S1024_S8x128
  v25

noncomputable def k2_pay9 (v49 : Vec F S1x2048 .f32) : FVec F S1x2048 .f32 :=
  have v50 : FVec F S1x2048 .f32 := shapeCast S1x2048 v49 shapeCasts_S1x2048_S1x2048
  have v53 : FVec F S1x2048 .f32 := shapeCast S1x2048 v50 shapeCasts_S1x2048_S1x2048
  v53

noncomputable def k2_pay10 (v0 : Vec F S1x256x1024 .f32) (v2 : Vec F S256x2048 .f32) (v34 : Vec F S1x2048 .f32) : FVec F S1x2048 .f32 :=
  have v27 : IVec S1024x2048 32 := extui 32 (k2_pay7 v0 v2) natLt_1_32
  have v28 : FVec F S1024x2048 .f32 := sitofp .f32 v27
  have v29 : FVec F S2048 .f32 := multiReduction .add [0] S2048 v28 0x00000000#32 reduces_S1024x2048_S2048 (.inl rfl) rfl
  have v30 : FVec F S1x2048 .f32 := shapeCast S1x2048 v29 shapeCasts_S2048_S1x2048
  have v35 : FVec F S1x2048 .f32 := addf v34 v30
  v35

noncomputable def cc2__tc_body_skel (i : grid2.Coords) (arg1 : Memref sig .tc .vmem S1x256x1024 .f32) (harg1 : arg1.IsWhole) (arg2 : Memref sig .tc .vmem S256x2048 .f32) (harg2 : arg2.IsWhole) (arg3 : Memref sig .tc .vmem S1x2048 .f32) (harg3 : arg3.IsWhole) (arg4 : Memref sig .tc .smem S1 .f32) (harg4 : arg4.IsWhole) (arg5 : Memref sig .tc .vmem S8x128 .i32) (harg5 : arg5.IsWhole) (arg6 : Memref sig .tc .vmem S1x2048 .f32) (harg6 : arg6.IsWhole) (arg7 : Memref sig .tc .smem S1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x2048 .f32) (harg10 : arg10.IsWhole) (arg11 : Memref sig .tc .smem S1x1 .f32) (harg11 : arg11.IsWhole) :
    Prog (TpuEff nD τ sig (Elt F) Λ₀ .tc) PUnit := do
  let ⟨arg0, v15, v35⟩ : Σ' (arg0 : BitVec 32) (v15 : FVec F S1024 .f32), FVec F S1x2048 .f32 ← k2_part1 i arg1 harg1 arg2 harg2 arg3 harg3 arg4 harg4 arg5 harg5 arg6 harg6 arg7 harg7 arg8 harg8 arg9 harg9 arg10 harg10 arg11 harg11
  let v36 : Vec F S1x2048 .f32 ← Prog.lift (.load arg10 (Rect.unit (s := S1x2048) ![0, 0] S1x2048.size inb_S1x2048_S1x2048_0_0).toLoadRect (View.loadsAt_vmem h_S1x2048))

  Prog.lift (.store arg10 (Rect.unit (s := S1x2048) ![0, 0] S1x2048.size inb_S1x2048_S1x2048_0_0) (k2_pay1 v35) Finset.univ (View.stores_vmem_bits_univ h_S1x2048 rfl) (.inl rfl))
  let v39 : Elt F .f32 ← smemLoad arg11 (Rect.unit (s := S1x1) ![0, 0] S1x1.size inb_S1x1_S1x1_0_0) numel1_S1x1 rfl

  let v45 : Elt F .f32 ← smemLoad arg11 (Rect.unit (s := S1x1) ![0, 0] S1x1.size inb_S1x1_S1x1_0_0) numel1_S1x1 rfl
  Prog.lift (.store arg11 (Rect.unit (s := S1x1) ![0, 0] S1x1.size inb_S1x1_S1x1_0_0) (fun _ => k2_pay2 v15 v39) Finset.univ (View.stores_smem_one rfl numel1_S1x1) (.inl rfl))

  if k2_h2 : k2_cond2 i = 1#1 then do
    let v49 : Vec F S1x2048 .f32 ← Prog.lift (.load arg10 (Rect.unit (s := S1x2048) ![0, 0] S1x2048.size inb_S1x2048_S1x2048_0_0).toLoadRect (View.loadsAt_vmem h_S1x2048))
    let v50 : Vec F S1x2048 .f32 ← Prog.lift (.load arg6 (Rect.unit (s := S1x2048) ![0, 0] S1x2048.size inb_S1x2048_S1x2048_0_0).toLoadRect (View.loadsAt_vmem h_S1x2048))
    Prog.lift (.store arg6 (Rect.unit (s := S1x2048) ![0, 0] S1x2048.size inb_S1x2048_S1x2048_0_0) v49 Finset.univ (View.stores_vmem_bits_univ h_S1x2048 rfl) (.inl rfl))
    let v51 : Elt F .f32 ← smemLoad arg11 (Rect.unit (s := S1x1) ![0, 0] S1x1.size inb_S1x1_S1x1_0_0) numel1_S1x1 rfl
    let v52 : Elt F .f32 ← smemLoad arg7 (Rect.unit (s := S1) ![0] S1.size inb_S1_S1_0) numel1_S1 rfl
    Prog.lift (.store arg7 (Rect.unit (s := S1) ![0] S1.size inb_S1_S1_0) (fun _ => v51) Finset.univ (View.stores_smem_one rfl numel1_S1) (.inl rfl))
    let v53 : Elt F .f32 ← smemLoad arg11 (Rect.unit (s := S1x1) ![0, 0] S1x1.size inb_S1x1_S1x1_0_0) numel1_S1x1 rfl
    let v56 : Vec F S1x1 .f32 ← Prog.lift (.load arg8 (Rect.unit (s := S1x1) ![0, 0] S1x1.size inb_S1x1_S1x1_0_0).toLoadRect (View.loadsAt_vmem h_S1x1))
    Prog.lift (.store arg8 (Rect.unit (s := S1x1) ![0, 0] S1x1.size inb_S1x1_S1x1_0_0) (k2_pay3 v53) Finset.univ (View.stores_vmem_bits_univ h_S1x1 rfl) (.inl rfl))
    let v57 : Vec F S1x2048 .f32 ← Prog.lift (.load arg10 (Rect.unit (s := S1x2048) ![0, 0] S1x2048.size inb_S1x2048_S1x2048_0_0).toLoadRect (View.loadsAt_vmem h_S1x2048))

    let v72 : Vec F S1x1 .f32 ← Prog.lift (.load arg9 (Rect.unit (s := S1x1) ![0, 0] S1x1.size inb_S1x1_S1x1_0_0).toLoadRect (View.loadsAt_vmem h_S1x1))
    Prog.lift (.store arg9 (Rect.unit (s := S1x1) ![0, 0] S1x1.size inb_S1x1_S1x1_0_0) (k2_pay4 v57) Finset.univ (View.stores_vmem_bits_univ h_S1x1 rfl) (.inl rfl))
    pure ⟨⟩
  else do
    pure ⟨⟩
  pure ⟨⟩

set_option maxRecDepth 65536 in
theorem cc2__tc_body_eq_skeleton : cc2__tc_body (F := F) = cc2__tc_body_skel (F := F) := rfl

noncomputable def k2_part1_skel (i : grid2.Coords) (arg1 : Memref sig .tc .vmem S1x256x1024 .f32) (harg1 : arg1.IsWhole) (arg2 : Memref sig .tc .vmem S256x2048 .f32) (harg2 : arg2.IsWhole) (arg3 : Memref sig .tc .vmem S1x2048 .f32) (harg3 : arg3.IsWhole) (arg4 : Memref sig .tc .smem S1 .f32) (harg4 : arg4.IsWhole) (arg5 : Memref sig .tc .vmem S8x128 .i32) (harg5 : arg5.IsWhole) (arg6 : Memref sig .tc .vmem S1x2048 .f32) (harg6 : arg6.IsWhole) (arg7 : Memref sig .tc .smem S1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x2048 .f32) (harg10 : arg10.IsWhole) (arg11 : Memref sig .tc .smem S1x1 .f32) (harg11 : arg11.IsWhole) :
    Prog (TpuEff nD τ sig (Elt F) Λ₀ .tc) (Σ' (arg0 : BitVec 32) (v15 : FVec F S1024 .f32), FVec F S1x2048 .f32) := do
  let arg0 : BitVec 32 := BitVec.ofNat 32 (i 0).val
  let v0 : Vec F S1x256x1024 .f32 ← Prog.lift (.load arg1 (Rect.unit (s := S1x256x1024) ![0, 0, 0] S1x256x1024.size inb_S1x256x1024_S1x256x1024_0_0_0).toLoadRect (View.loadsAt_vmem h_S1x256x1024))
  let v2 : Vec F S256x2048 .f32 ← Prog.lift (.load arg2 (Rect.unit (s := S256x2048) ![0, 0] S256x2048.size inb_S256x2048_S256x2048_0_0).toLoadRect (View.loadsAt_vmem h_S256x2048))

  let v26 : Vec F S8x128 .i32 ← Prog.lift (.load arg5 (Rect.unit (s := S8x128) ![0, 0] S8x128.size inb_S8x128_S8x128_0_0).toLoadRect (View.loadsAt_vmem h_S8x128))
  Prog.lift (.store arg5 (Rect.unit (s := S8x128) ![0, 0] S8x128.size inb_S8x128_S8x128_0_0) (k2_pay8 v0 v2) Finset.univ (View.stores_vmem_bits_univ h_S8x128 rfl) (.inl rfl))

  let v31 : BitVec 1 := Scalar.cmpi .eq arg0 0#32
  let v32 : BitVec 32 := Scalar.extui v31
  let v33 : BitVec 1 := Scalar.cmpi .ne v32 0#32
  if k2_h1 : v33 = 1#1 then do
    let v49 : Vec F S1x2048 .f32 ← Prog.lift (.load arg3 (Rect.unit (s := S1x2048) ![0, 0] S1x2048.size inb_S1x2048_S1x2048_0_0).toLoadRect (View.loadsAt_vmem h_S1x2048))
    let v51 : Vec F S1x2048 .f32 ← Prog.lift (.load arg10 (Rect.unit (s := S1x2048) ![0, 0] S1x2048.size inb_S1x2048_S1x2048_0_0).toLoadRect (View.loadsAt_vmem h_S1x2048))

    Prog.lift (.store arg10 (Rect.unit (s := S1x2048) ![0, 0] S1x2048.size inb_S1x2048_S1x2048_0_0) (k2_pay9 v49) Finset.univ (View.stores_vmem_bits_univ h_S1x2048 rfl) (.inl rfl))
    let v54 : Elt F .f32 ← smemLoad arg4 (Rect.unit (s := S1) ![0] S1.size inb_S1_S1_0) numel1_S1 rfl
    let v55 : Elt F .f32 ← smemLoad arg11 (Rect.unit (s := S1x1) ![0, 0] S1x1.size inb_S1x1_S1x1_0_0) numel1_S1x1 rfl
    Prog.lift (.store arg11 (Rect.unit (s := S1x1) ![0, 0] S1x1.size inb_S1x1_S1x1_0_0) (fun _ => v54) Finset.univ (View.stores_smem_one rfl numel1_S1x1) (.inl rfl))
    pure ⟨⟩
  else do
    pure ⟨⟩
  let v34 : Vec F S1x2048 .f32 ← Prog.lift (.load arg10 (Rect.unit (s := S1x2048) ![0, 0] S1x2048.size inb_S1x2048_S1x2048_0_0).toLoadRect (View.loadsAt_vmem h_S1x2048))
  pure ⟨arg0, k2_pay6 v0 v2, k2_pay10 v0 v2 v34⟩

set_option maxRecDepth 65536 in
theorem k2_part1_eq_skeleton : k2_part1 (F := F) = k2_part1_skel (F := F) := rfl

/-- What a pipelined call's body owns besides its windows: the core's other scoped buffers and its generator register. -/
def restA {gr W : Nat} (win : Fin W → WinSpec sig gr) (c : Dev nD) : sProp (MT nD τ sig (HIx 2) (Elt F) ℕ UU ℕ) :=
  iprop(Pipeline.scopedRest (Ix := HIx 2) (Name := ℕ) (U := UU) (Lvl := ℕ) (Val := Elt F) win c ∗ ∃ r, prngReg c r)

end Cert.Proof.KSkel

end
-- ==== Proof.KPoint.lean ====
/-
  What one grid point of the codes kernel leaves in its outputs and in its carried scratch buffers, as the kernel's own
  payload functions of the point's input blocks and of what the point before left.
-/
module

public import proofs.«01_k».proof.Proof.KTwoRegion0
public import Idealize.ShloMosaic.Lib.Pipeline.Value
public import Idealize.ShloMosaic.Lib.Tactic
public import Idealize.ShloMosaic.Lib.ValueIdx

@[expose] public section

noncomputable section

namespace Cert.Proof.KPoint

open Cert.KernelIdeal Cert.KernelIdeal.Gen Cert.Proof.KSkel Cert.Proof.KTwo Idealize.ShloMosaic Idealize.ShloMosaic.TcCoe Idealize.SL.Sem
open Idealize.ShloMosaic.Pipeline (Dat)

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- An array of one element has one position. -/
theorem one1 (a b : S1.Idx) : a = b := funext fun d => by fin_cases d; exact Subsingleton.elim (α := Fin 1) _ _
theorem one2 (a b : S1x1.Idx) : a = b := funext fun d => by fin_cases d <;> exact Subsingleton.elim (α := Fin 1) _ _

variable (c : Dev nD) (i : grid0.Coords)
  (a1 : Memref sig .tc .vmem S1x256x1024 .f32) (h1 : a1.IsWhole)
  (a2 : Memref sig .tc .vmem S256x2048 .f32) (h2 : a2.IsWhole)
  (a3 : Memref sig .tc .vmem S1x2048 .f32) (h3 : a3.IsWhole)
  (a4 : Memref sig .tc .smem S1 .f32) (h4 : a4.IsWhole)
  (a5 : Memref sig .tc .vmem S8x128 .i32) (h5 : a5.IsWhole)
  (a6 : Memref sig .tc .vmem S1x2048 .f32) (h6 : a6.IsWhole)
  (a7 : Memref sig .tc .smem S1 .f32) (h7 : a7.IsWhole)
  (a8 : Memref sig .tc .vmem S1x1 .f32) (h8 : a8.IsWhole)
  (a9 : Memref sig .tc .vmem S1x1 .f32) (h9 : a9.IsWhole)
  (a10 : Memref sig .tc .vmem S1x2048 .f32) (h10 : a10.IsWhole)
  (a11 : Memref sig .tc .smem S1x1 .f32) (h11 : a11.IsWhole)
  (x0 : Vec F S1x256x1024 .f32) (x1 : Vec F S256x2048 .f32) (x2 : Vec F S1x2048 .f32) (x3 : Vec F S1 .f32)
  (xs0 : Vec F S1x2048 .f32) (xs1 : Vec F S1x1 .f32)

theorem idx_A (hc0 : cond0_0 i) (hc1 : ¬cond0_1 i) :
    out0_A_4 c i a1 h1 a2 h2 a3 h3 a4 h4 a5 h5 a6 h6 a7 h7 a8 h8 a9 h9 a10 h10 a11 h11 hc0 hc1 x0 x1 x2 x3 = k0_pay8 x0 x1 := by
  unfold out0_A_4
  rw [View.read_writes_eq_canon _ _ _ (cover0_A_4 c i a1 h1 a2 h2 a3 h3 a4 h4 a5 h5 a6 h6 a7 h7 a8 h8 a9 h9 a10 h10 a11 h11 hc0 hc1 x0 x1 x2 x3)]
  unfold run0_A
  dsimp only
  sl_unfold_words
  rw [View.canon_unit_zero (S := S8x128) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem idx_B (hc0 : ¬cond0_0 i) (hc1 : ¬cond0_1 i) :
    out0_B_4 c i a1 h1 a2 h2 a3 h3 a4 h4 a5 h5 a6 h6 a7 h7 a8 h8 a9 h9 a10 h10 a11 h11 hc0 hc1 x0 x1 x2 x3 xs0 xs1 = k0_pay8 x0 x1 := by
  unfold out0_B_4
  rw [View.read_writes_eq_canon _ _ _ (cover0_B_4 c i a1 h1 a2 h2 a3 h3 a4 h4 a5 h5 a6 h6 a7 h7 a8 h8 a9 h9 a10 h10 a11 h11 hc0 hc1 x0 x1 x2 x3 xs0 xs1)]
  unfold run0_B
  dsimp only
  sl_unfold_words
  rw [View.canon_unit_zero (S := S8x128) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem idx_C (hc0 : ¬cond0_0 i) (hc1 : cond0_1 i) :
    out0_C_4 c i a1 h1 a2 h2 a3 h3 a4 h4 a5 h5 a6 h6 a7 h7 a8 h8 a9 h9 a10 h10 a11 h11 hc0 hc1 x0 x1 x2 x3 xs0 xs1 = k0_pay8 x0 x1 := by
  unfold out0_C_4
  rw [View.read_writes_eq_canon _ _ _ (cover0_C_4 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S8x128) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem counts_A (hc0 : cond0_0 i) (hc1 : ¬cond0_1 i) :
    sout0_A_0 c i a1 h1 a2 h2 a3 h3 a4 h4 a5 h5 a6 h6 a7 h7 a8 h8 a9 h9 a10 h10 a11 h11 hc0 hc1 x0 x1 x2 x3 = k0_pay1 (k0_pay10 x0 x1 (k0_pay9 x2)) := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3)]
  unfold run0_A
  dsimp only
  sl_unfold_words
  rw [View.canon_cons_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem counts_B (hc0 : ¬cond0_0 i) (hc1 : ¬cond0_1 i) :
    sout0_B_0 c i a1 h1 a2 h2 a3 h3 a4 h4 a5 h5 a6 h6 a7 h7 a8 h8 a9 h9 a10 h10 a11 h11 hc0 hc1 x0 x1 x2 x3 xs0 xs1 = k0_pay1 (k0_pay10 x0 x1 xs0) := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 xs0 xs1)]
  unfold run0_B
  dsimp only
  sl_unfold_words
  rw [View.canon_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem counts_C (hc0 : ¬cond0_0 i) (hc1 : cond0_1 i) :
    sout0_C_0 c i a1 h1 a2 h2 a3 h3 a4 h4 a5 h5 a6 h6 a7 h7 a8 h8 a9 h9 a10 h10 a11 h11 hc0 hc1 x0 x1 x2 x3 xs0 xs1 = k0_pay1 (k0_pay10 x0 x1 xs0) := by
  unfold sout0_C_0
  rw [View.read_writes_eq_canon _ _ _ (scover0_C_0 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem loss_A (hc0 : cond0_0 i) (hc1 : ¬cond0_1 i) :
    sout0_A_1 c i a1 h1 a2 h2 a3 h3 a4 h4 a5 h5 a6 h6 a7 h7 a8 h8 a9 h9 a10 h10 a11 h11 hc0 hc1 x0 x1 x2 x3 = fun _ => k0_pay2 (k0_pay6 x0 x1) (x3 (ValueIdx.ix1 0)) := by
  unfold sout0_A_1
  rw [View.read_writes_eq_canon _ _ _ (scover0_A_1 c i a1 h1 a2 h2 a3 h3 a4 h4 a5 h5 a6 h6 a7 h7 a8 h8 a9 h9 a10 h10 a11 h11 hc0 hc1 x0 x1 x2 x3)]
  unfold run0_A
  dsimp only
  sl_unfold_words
  rw [View.canon_cons_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg x3 (one1 _ _))

theorem loss_B (hc0 : ¬cond0_0 i) (hc1 : ¬cond0_1 i) :
    sout0_B_1 c i a1 h1 a2 h2 a3 h3 a4 h4 a5 h5 a6 h6 a7 h7 a8 h8 a9 h9 a10 h10 a11 h11 hc0 hc1 x0 x1 x2 x3 xs0 xs1 = fun _ => k0_pay2 (k0_pay6 x0 x1) (xs1 (ValueIdx.ix2 0 0)) := by
  unfold sout0_B_1
  rw [View.read_writes_eq_canon _ _ _ (scover0_B_1 c i a1 h1 a2 h2 a3 h3 a4 h4 a5 h5 a6 h6 a7 h7 a8 h8 a9 h9 a10 h10 a11 h11 hc0 hc1 x0 x1 x2 x3 xs0 xs1)]
  unfold run0_B
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg xs1 (one2 _ _))

theorem loss_C (hc0 : ¬cond0_0 i) (hc1 : cond0_1 i) :
    sout0_C_1 c i a1 h1 a2 h2 a3 h3 a4 h4 a5 h5 a6 h6 a7 h7 a8 h8 a9 h9 a10 h10 a11 h11 hc0 hc1 x0 x1 x2 x3 xs0 xs1 = fun _ => k0_pay2 (k0_pay6 x0 x1) (xs1 (ValueIdx.ix2 0 0)) := by
  unfold sout0_C_1
  rw [View.read_writes_eq_canon _ _ _ (scover0_C_1 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg xs1 (one2 _ _))

theorem lossOut (hc0 : ¬cond0_0 i) (hc1 : cond0_1 i) :
    out0_C_7 c i a1 h1 a2 h2 a3 h3 a4 h4 a5 h5 a6 h6 a7 h7 a8 h8 a9 h9 a10 h10 a11 h11 hc0 hc1 x0 x1 x2 x3 xs0 xs1 = k0_pay3 (k0_pay2 (k0_pay6 x0 x1) (xs1 (ValueIdx.ix2 0 0))) := by
  unfold out0_C_7
  rw [View.read_writes_eq_canon _ _ _ (cover0_C_7 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact congrArg (fun z => k0_pay3 (k0_pay2 _ z)) (congrArg xs1 (one2 _ _))

theorem perpOut (hc0 : ¬cond0_0 i) (hc1 : cond0_1 i) :
    out0_C_8 c i a1 h1 a2 h2 a3 h3 a4 h4 a5 h5 a6 h6 a7 h7 a8 h8 a9 h9 a10 h10 a11 h11 hc0 hc1 x0 x1 x2 x3 xs0 xs1 = k0_pay4 (k0_pay1 (k0_pay10 x0 x1 xs0)) := by
  unfold out0_C_8
  rw [View.read_writes_eq_canon _ _ _ (cover0_C_8 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x1) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem countsOut (hc0 : ¬cond0_0 i) (hc1 : cond0_1 i) :
    out0_C_5 c i a1 h1 a2 h2 a3 h3 a4 h4 a5 h5 a6 h6 a7 h7 a8 h8 a9 h9 a10 h10 a11 h11 hc0 hc1 x0 x1 x2 x3 xs0 xs1 = k0_pay1 (k0_pay10 x0 x1 xs0) := by
  unfold out0_C_5
  rw [View.read_writes_eq_canon _ _ _ (cover0_C_5 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1x2048) hz2]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]

theorem lossSumOut (hc0 : ¬cond0_0 i) (hc1 : cond0_1 i) :
    out0_C_6 c i a1 h1 a2 h2 a3 h3 a4 h4 a5 h5 a6 h6 a7 h7 a8 h8 a9 h9 a10 h10 a11 h11 hc0 hc1 x0 x1 x2 x3 xs0 xs1 = fun _ => k0_pay2 (k0_pay6 x0 x1) (xs1 (ValueIdx.ix2 0 0)) := by
  unfold out0_C_6
  rw [View.read_writes_eq_canon _ _ _ (cover0_C_6 c i a1 h1 a2 h2 a3 h3 a4 h4 a5 h5 a6 h6 a7 h7 a8 h8 a9 h9 a10 h10 a11 h11 hc0 hc1 x0 x1 x2 x3 xs0 xs1)]
  unfold run0_C
  dsimp only
  sl_unfold_words
  rw [View.canon_unit_zero (S := S1) hz1]
  simp only [View.readAt_eq_ld, h1.read_unread, h2.read_unread, h3.read_unread, h4.read_unread, h10.read_unread, h11.read_unread,
    View.ld_unit_zero (S := S1x256x1024) hz3, View.ld_unit_zero (S := S256x2048) hz2, View.ld_unit_zero (S := S1x2048) hz2,
    View.readCov_unit_zero (S := S1x2048) _ hz2]
  exact funext fun _ => congrArg (k0_pay2 _) (congrArg xs1 (one2 _ _))

end Cert.Proof.KPoint

end
-- ==== Proof.KRun0.lean ====
/-
  What the first call of the codes kernel leaves in its output arrays, from any contents of its input arrays.
-/
module

public import proofs.«01_k».proof.Proof.CodesAcc
public import proofs.«01_k».proof.Proof.KPoint

@[expose] public section

noncomputable section

namespace Cert.Proof.KRun0

open Cert.KernelIdeal Cert.KernelIdeal.Gen Cert.Proof.KSkel Cert.Proof.KTwo Idealize.ShloMosaic Idealize.ShloMosaic.TcCoe Idealize.SL.Sem
open Idealize.ShloMosaic.Pipeline (Dat)
open Idealize.ShloMosaic.ValueIdx
open Cert.Proof.KPoint Cert.Proof.CodesAcc

variable {F : FTy → Type} [FloatOps F]
variable (V : (c : Dev nD) → (b : Ref sig .tc) → Buf (Elt F) ((c : Thread nD τ).loc b)) (c : Dev nD)

/-- Window 0's block at point `t` is the image `0 + t`. -/
theorem blk0 (t : Fin cfg0.N) : (iblk0 V c 0 t : Vec F S1x256x1024 .f32) = xb (V c main_v0) 0 t.val := by
  have hi : win0_0.index t 0 = 0 + t.val ∧ win0_0.index t 1 = 0 ∧ win0_0.index t 2 = 0 :=
    (by decide +kernel : ∀ t : Fin grid0.N, win0_0.index t 0 = 0 + t.val ∧ win0_0.index t 1 = 0 ∧ win0_0.index t 2 = 0) t
  have ht : t.val < 8 := lt_of_lt_of_eq t.isLt N_0
  funext j
  unfold iblk0 xb
  rw [View.read_apply]
  show V c main_v0 _ = _
  congr 1
  funext a
  apply Fin.ext
  have h0 : (j 0).val < 1 := (j 0).isLt
  match a with
  | ⟨0, _⟩ => show win0_0.index t 0 * 1 + 1 * (j 0).val = (0 + t.val) % 16; rw [hi.1]; omega
  | ⟨1, _⟩ => show win0_0.index t 1 * 256 + 1 * (j 1).val = (j 1).val; rw [hi.2.1]; omega
  | ⟨2, _⟩ => show win0_0.index t 2 * 1024 + 1 * (j 2).val = (j 2).val; rw [hi.2.2]; omega

theorem blk1 (t : Fin cfg0.N) : (iblk0 V c 1 t : Vec F S256x2048 .f32) = V c main_arg1 := by
  have hi : win0_1.index t 0 = 0 ∧ win0_1.index t 1 = 0 :=
    (by decide +kernel : ∀ t : Fin grid0.N, win0_1.index t 0 = 0 ∧ win0_1.index t 1 = 0) t
  funext j
  unfold iblk0
  rw [View.read_apply]
  show V c main_arg1 _ = _
  congr 1
  funext a
  apply Fin.ext
  match a with
  | ⟨0, _⟩ => show win0_1.index t 0 * 256 + 1 * (j 0).val = (j 0).val; rw [hi.1]; omega
  | ⟨1, _⟩ => show win0_1.index t 1 * 2048 + 1 * (j 1).val = (j 1).val; rw [hi.2]; omega

theorem blk2 (t : Fin cfg0.N) : (iblk0 V c 2 t : Vec F S1x2048 .f32) = V c main_v1 := by
  have hi : win0_2.index t 0 = 0 ∧ win0_2.index t 1 = 0 :=
    (by decide +kernel : ∀ t : Fin grid0.N, win0_2.index t 0 = 0 ∧ win0_2.index t 1 = 0) t
  funext j
  unfold iblk0
  rw [View.read_apply]
  show V c main_v1 _ = _
  congr 1
  funext a
  apply Fin.ext
  match a with
  | ⟨0, _⟩ => show win0_2.index t 0 * 1 + 1 * (j 0).val = (j 0).val; rw [hi.1]; omega
  | ⟨1, _⟩ => show win0_2.index t 1 * 2048 + 1 * (j 1).val = (j 1).val; rw [hi.2]; omega

theorem blk3 (t : Fin cfg0.N) : (iblk0 V c 3 t : Vec F S1 .f32) = V c main_v2 := by
  funext j
  unfold iblk0
  rw [View.read_apply]
  show V c main_v2 _ = _
  exact congrArg _ (one1 _ _)

/-! ## The accumulators -/

theorem counts_eq : ∀ (n : ℕ) (h : n < cfg0.N), (outsAt0 V c n h).2.2.2.2.2.1
    = counts (V c main_v0) 0 (V c main_arg1) (V c main_v1) n
  | 0, h => by
    rw [outsAt0_A V c ⟨0, h⟩ (Nat.zero_mod 8) (show ¬0 % 8 = 7 by decide)]
    dsimp only [at0_A, tup0_A]
    rw [counts_A, blk0, blk1, blk2]
    rfl
  | n + 1, h => by
    have hN := lt_of_lt_of_eq h (show cfg0.N = 8 from N_0)
    have ih := counts_eq n (by omega)
    by_cases h7 : (n + 1) % 8 = 7
    · rw [outsAt0_C V c ⟨n + 1, h⟩ (by show ¬(n + 1) % 8 = 0; omega) h7]
      dsimp only [at0_C, tup0_C]
      rw [counts_C, blk0, blk1]
      exact congrArg (fun z => k0_pay1 (k0_pay10 (xb _ _ (n + 1)) _ z)) ih
    · rw [outsAt0_B V c ⟨n + 1, h⟩ (by show ¬(n + 1) % 8 = 0; omega) h7]
      dsimp only [at0_B, tup0_B]
      rw [counts_B, blk0, blk1]
      exact congrArg (fun z => k0_pay1 (k0_pay10 (xb _ _ (n + 1)) _ z)) ih

theorem losses_eq : ∀ (n : ℕ) (h : n < cfg0.N), (outsAt0 V c n h).2.2.2.2.2.2
    = fun _ => losses (V c main_v0) 0 (V c main_arg1) (V c main_v2) n
  | 0, h => by
    rw [outsAt0_A V c ⟨0, h⟩ (Nat.zero_mod 8) (show ¬0 % 8 = 7 by decide)]
    dsimp only [at0_A, tup0_A]
    rw [loss_A, blk0, blk1, blk3]
    rfl
  | n + 1, h => by
    have hN := lt_of_lt_of_eq h (show cfg0.N = 8 from N_0)
    have ih := losses_eq n (by omega)
    by_cases h7 : (n + 1) % 8 = 7
    · rw [outsAt0_C V c ⟨n + 1, h⟩ (by show ¬(n + 1) % 8 = 0; omega) h7]
      dsimp only [at0_C, tup0_C]
      rw [loss_C, blk0, blk1]
      exact funext fun _ => congrArg (fun z => k0_pay2 (k0_pay6 (xb _ _ (n + 1)) _) z) (congrFun ih _)
    · rw [outsAt0_B V c ⟨n + 1, h⟩ (by show ¬(n + 1) % 8 = 0; omega) h7]
      dsimp only [at0_B, tup0_B]
      rw [loss_B, blk0, blk1]
      exact funext fun _ => congrArg (fun z => k0_pay2 (k0_pay6 (xb _ _ (n + 1)) _) z) (congrFun ih _)

/-! ## The results -/

theorem out4 (t : Fin cfg0.N) : (outsAt0 V c t.val t.isLt).1 = k0_pay8 (xb (V c main_v0) 0 t.val) (V c main_arg1) := by
  have hN := lt_of_lt_of_eq t.isLt (show cfg0.N = 8 from N_0)
  by_cases h0 : t.val % 8 = 0
  · rw [outsAt0_A V c t h0 (by omega)]; dsimp only [at0_A, tup0_A]; rw [idx_A, blk0, blk1]
  · by_cases h7 : t.val % 8 = 7
    · rw [outsAt0_C V c t h0 h7]; dsimp only [at0_C, tup0_C]; rw [idx_C, blk0, blk1]
    · rw [outsAt0_B V c t h0 h7]; dsimp only [at0_B, tup0_B]; rw [idx_B, blk0, blk1]

theorem flushed_idx (t : Fin cfg0.N) (hf : (cfg0.win 4).flush t = true) :
    (dat0 V c).flushed 4 t = ((cfg0.win 4).blk t).view.read (Elt F) (idxOut (V c main_v0) 0 (V c main_arg1)) := by
  have hi : win0_4.index t 0 = t.val ∧ win0_4.index t 1 = 0 :=
    (by decide +kernel : ∀ t : Fin grid0.N, win0_4.index t 0 = t.val ∧ win0_4.index t 1 = 0) t
  show (cfg0.win 4).cut (grid0.coords t) ((dat0 V c).after 4 t) = _
  rw [after0_4, out4]
  funext j
  rw [View.read_apply]
  have h0 : (j 0).val < 8 := (j 0).isLt
  show k0_pay8 _ _ _ = k0_pay8 (xb _ _ ((win0_4.index t 0 * 8 + 1 * (j 0).val) / 8)) _ _
  rw [hi.1, show (t.val * 8 + 1 * (j 0).val) / 8 = t.val by omega]
  congr 1
  funext a
  apply Fin.ext
  match a with
  | ⟨0, _⟩ => show (j 0).val = (win0_4.index t 0 * 8 + 1 * (j 0).val) % 8; rw [hi.1]; omega
  | ⟨1, _⟩ => show (j 1).val = win0_4.index t 1 * 128 + 1 * (j 1).val; rw [hi.2]; omega

theorem final_idx : (dat0 V c).arrAt 4 cfg0.N = idxOut (V c main_v0) 0 (V c main_arg1) :=
  (dat0 V c).arrAt_eq_of_cover 4 _ (flushed_idx V c) fun i => by
    have h0 : (i 0 : Nat) < 64 := (i 0).isLt
    have h1 : (i 1 : Nat) < 128 := (i 1).isLt
    let t : Fin cfg0.N := ⟨(i 0).val / 8, lt_of_lt_of_eq (by omega : (i 0).val / 8 < 8) N_0.symm⟩
    have hi : win0_4.index t 0 = t.val ∧ win0_4.index t 1 = 0 :=
      (by decide +kernel : ∀ t : Fin grid0.N, win0_4.index t 0 = t.val ∧ win0_4.index t 1 = 0) t
    have htv : t.val = (i 0).val / 8 := rfl
    refine ⟨t, flush0_4 t, ?_⟩
    show i ∈ ((View.whole main_v3_0).slice (win0_4.rect t)).set
    rw [View.set_slice_whole, Rect.mem_set_unit]
    intro a
    match a with
    | ⟨0, _⟩ => show win0_4.index t 0 * 8 ≤ (i 0 : Nat) ∧ (i 0 : Nat) < win0_4.index t 0 * 8 + 8
                rw [hi.1]; omega
    | ⟨1, _⟩ => show win0_4.index t 1 * 128 ≤ (i 1 : Nat) ∧ (i 1 : Nat) < win0_4.index t 1 * 128 + 128
                rw [hi.2]; omega

theorem last7 (t : Fin cfg0.N) (h : t.val % 8 = 7) : t.val = 7 := by
  have hN := lt_of_lt_of_eq t.isLt (show cfg0.N = 8 from N_0); omega

def t7 : Fin cfg0.N := ⟨7, lt_of_lt_of_eq (by decide) N_0.symm⟩

theorem out5 : (outsAt0 V c t7.val t7.isLt).2.1 = counts (V c main_v0) 0 (V c main_arg1) (V c main_v1) 7 := by
  rw [outsAt0_C V c t7 (by decide) (by decide)]
  dsimp only [at0_C, tup0_C]
  rw [countsOut, blk0, blk1]
  exact congrArg (fun z => k0_pay1 (k0_pay10 _ _ z)) (counts_eq V c 6 (by decide +kernel))

theorem out6 : (outsAt0 V c t7.val t7.isLt).2.2.1 = fun _ => losses (V c main_v0) 0 (V c main_arg1) (V c main_v2) 7 := by
  rw [outsAt0_C V c t7 (by decide) (by decide)]
  dsimp only [at0_C, tup0_C]
  rw [lossSumOut, blk0, blk1]
  exact funext fun _ => congrArg (fun z => k0_pay2 _ z) (congrFun (losses_eq V c 6 (by decide +kernel)) _)

theorem final_counts : (dat0 V c).arrAt 5 cfg0.N = counts (V c main_v0) 0 (V c main_arg1) (V c main_v1) 7 :=
  (dat0 V c).arrAt_eq_of_cover 5 _ (fun t hf => by
    obtain rfl : t = t7 := Fin.ext (last7 t ((flush0_5 t).mp hf))
    show (cfg0.win 5).cut (grid0.coords t7) ((dat0 V c).after 5 t7) = _
    rw [after0_5]
    refine (congrArg _ (out5 V c)).trans ?_
    funext j
    rw [View.read_apply]
    refine congrArg (counts _ _ _ _ 7) ?_
    funext a
    apply Fin.ext
    match a with
    | ⟨0, _⟩ => show (j 0).val = win0_5.index t7 0 * 1 + 1 * (j 0).val; rw [show win0_5.index t7 0 = 0 from by decide +kernel]; omega
    | ⟨1, _⟩ => show (j 1).val = win0_5.index t7 1 * 2048 + 1 * (j 1).val; rw [show win0_5.index t7 1 = 0 from by decide +kernel]; omega)
    fun i => ⟨t7, (flush0_5 t7).mpr rfl, by
      show i ∈ ((View.whole main_v3_1).slice (win0_5.rect t7)).set
      rw [View.set_slice_whole, Rect.mem_set_unit]
      intro a
      have h0 : (i 0 : Nat) < 1 := (i 0).isLt
      have h1 : (i 1 : Nat) < 2048 := (i 1).isLt
      match a with
      | ⟨0, _⟩ => show win0_5.index t7 0 * 1 ≤ (i 0 : Nat) ∧ (i 0 : Nat) < win0_5.index t7 0 * 1 + 1
                  rw [show win0_5.index t7 0 = 0 from by decide +kernel]; omega
      | ⟨1, _⟩ => show win0_5.index t7 1 * 2048 ≤ (i 1 : Nat) ∧ (i 1 : Nat) < win0_5.index t7 1 * 2048 + 2048
                  rw [show win0_5.index t7 1 = 0 from by decide +kernel]; omega⟩

theorem final_sum : (dat0 V c).arrAt 6 cfg0.N = fun _ => losses (V c main_v0) 0 (V c main_arg1) (V c main_v2) 7 :=
  (dat0 V c).arrAt_eq_of_cover 6 _ (fun t hf => by
    obtain rfl : t = t7 := Fin.ext (last7 t ((flush0_6 t).mp hf))
    show (cfg0.win 6).cut (grid0.coords t7) ((dat0 V c).after 6 t7) = _
    rw [after0_6]
    exact congrArg _ (out6 V c)) fun i => ⟨t7, (flush0_6 t7).mpr rfl, by
      show i ∈ ((View.whole main_v3_2).slice (win0_6.rect t7)).set
      rw [View.set_slice_whole, Rect.mem_set_unit]
      intro a
      have h0 : (i 0 : Nat) < 1 := (i 0).isLt
      match a with
      | ⟨0, _⟩ => show win0_6.index t7 0 * 1 ≤ (i 0 : Nat) ∧ (i 0 : Nat) < win0_6.index t7 0 * 1 + 1
                  rw [show win0_6.index t7 0 = 0 from by decide +kernel]; omega⟩

end Cert.Proof.KRun0

end
-- ==== Proof.KTwoRegion1.lean ====
/-
  The second tensor-core call of the two: its body at every grid point, and what it leaves.
-/
module

public import proofs.«01_k».proof.Proof.KTwoRegion0
public import proofs.«01_k».proof.Proof.Gen.KernelIdeal.Launch
public import proofs.«01_k».proof.Proof.KSkel
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KTwo

open Cert.KernelIdeal Cert.KernelIdeal.Gen Cert.Proof.KSkel Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx)
open Cert.Proof.KTypes (UU UP K D EH EP 𝒱₀)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before1_0_of {c : Dev nD} (dat : Dat τ (Elt F) (HIx 2) ℕ UU ℕ cfg2 c) (hA : dat.A 0 = V c (Pipeline.arrRef spec2 0))
    (hafter : ∀ t, dat.after 0 t = iblk1 V c 0 t) (t : Fin cfg2.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) (HIx 2) ℕ UU ℕ cfg2 c) (hA : dat.A 1 = V c (Pipeline.arrRef spec2 1))
    (hafter : ∀ t, dat.after 1 t = iblk1 V c 1 t) (t : Fin cfg2.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) (HIx 2) ℕ UU ℕ cfg2 c) (hA : dat.A 2 = V c (Pipeline.arrRef spec2 2))
    (hafter : ∀ t, dat.after 2 t = iblk1 V c 2 t) (t : Fin cfg2.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) (HIx 2) ℕ UU ℕ cfg2 c) (hA : dat.A 3 = V c (Pipeline.arrRef spec2 3))
    (hafter : ∀ t, dat.after 3 t = iblk1 V c 3 t) (t : Fin cfg2.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid2.Coords) : Prop := (Scalar.cmpi .ne (Scalar.extui (Scalar.cmpi .eq (BitVec.ofNat 32 (i 0).val) 0#32)) 0#32) = 1#1

theorem hcond1_0 : ∀ t : Fin cfg2.N, cond1_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond1_0, e0]
    word_cmp
   : ∀ t : Fin grid2.N, cond1_0 (grid2.coords t) ↔ t.val % 8 = 0)

abbrev cond1_1 (i : grid2.Coords) : Prop := k2_cond2 i = 1#1

theorem hcond1_1 : ∀ t : Fin cfg2.N, cond1_1 (grid2.coords t) ↔ t.val % 8 = 7 :=
  (fun t => by
    have ht : t.val < 8 := Nat.lt_of_lt_of_eq t.isLt N_2
    have e0 : (grid2.coords t 0).val = t.val / 1 % 8 := Pipeline.Grid.coords_val t 0 (by decide) rfl
    simp only [cond1_1, k2_cond2, e0]
    word_cmp
   : ∀ t : Fin grid2.N, cond1_1 (grid2.coords t) ↔ t.val % 8 = 7)

theorem liveAt1_0 : ∀ t : Fin cfg2.N, cfg2.idle 0 (grid2.coords t) = false := fun _ => rfl
theorem liveAt1_1 : ∀ t : Fin cfg2.N, cfg2.idle 1 (grid2.coords t) = false := fun _ => rfl

theorem liveAt1_2 : ∀ t : Fin cfg2.N, cfg2.idle 2 (grid2.coords t) = false := fun _ => rfl
theorem liveAt1_3 : ∀ t : Fin cfg2.N, cfg2.idle 3 (grid2.coords t) = false := fun _ => rfl

theorem liveAt1_4 : ∀ t : Fin cfg2.N, cfg2.idle 4 (grid2.coords t) = false := fun _ => rfl

theorem idle1 : ∀ t : Fin cfg2.N, ¬cond1_1 (grid2.coords t) →
    (cfg2.idle 5 (grid2.coords t) = true ∧ (cfg2.win 5).flush t = false) ∧ (cfg2.idle 6 (grid2.coords t) = true ∧ (cfg2.win 6).flush t = false) ∧ (cfg2.idle 7 (grid2.coords t) = true ∧ (cfg2.win 7).flush t = false) ∧ (cfg2.idle 8 (grid2.coords t) = true ∧ (cfg2.win 8).flush t = false) := by decide +kernel

theorem live1 : ∀ t : Fin cfg2.N, cond1_1 (grid2.coords t) →
    cfg2.idle 5 (grid2.coords t) = false ∧ cfg2.idle 6 (grid2.coords t) = false ∧ cfg2.idle 7 (grid2.coords t) = false ∧ cfg2.idle 8 (grid2.coords t) = false := by decide +kernel

abbrev ms1_0 (t : Fin cfg2.N) : Memref sig .tc .vmem S1x256x1024 .f32 := win2_0.stage (cfg2.slots t 0)
abbrev hs1_0 (t : Fin cfg2.N) : (ms1_0 t).IsWhole := hstage2_0 ((cfg2.slots t 0).cast nbuf2_0)
abbrev ms1_1 (t : Fin cfg2.N) : Memref sig .tc .vmem S256x2048 .f32 := win2_1.stage (cfg2.slots t 1)
abbrev hs1_1 (t : Fin cfg2.N) : (ms1_1 t).IsWhole := hstage2_1 ((cfg2.slots t 1).cast nbuf2_1)
abbrev ms1_2 (t : Fin cfg2.N) : Memref sig .tc .vmem S1x2048 .f32 := win2_2.stage (cfg2.slots t 2)
abbrev hs1_2 (t : Fin cfg2.N) : (ms1_2 t).IsWhole := hstage2_2 ((cfg2.slots t 2).cast nbuf2_2)
abbrev ms1_3 (t : Fin cfg2.N) : Memref sig .tc .smem S1 .f32 := win2_3.stage (cfg2.slots t 3)
abbrev hs1_3 (t : Fin cfg2.N) : (ms1_3 t).IsWhole := hstage2_3 ((cfg2.slots t 3).cast nbuf2_3)
abbrev ms1_4 (t : Fin cfg2.N) : Memref sig .tc .vmem S8x128 .i32 := win2_4.stage (cfg2.slots t 4)
abbrev hs1_4 (t : Fin cfg2.N) : (ms1_4 t).IsWhole := hstage2_4 ((cfg2.slots t 4).cast nbuf2_4)
abbrev ms1_5 (t : Fin cfg2.N) : Memref sig .tc .vmem S1x2048 .f32 := win2_5.stage (cfg2.slots t 5)
abbrev hs1_5 (t : Fin cfg2.N) : (ms1_5 t).IsWhole := hstage2_5 ((cfg2.slots t 5).cast nbuf2_5)
abbrev ms1_6 (t : Fin cfg2.N) : Memref sig .tc .smem S1 .f32 := win2_6.stage (cfg2.slots t 6)
abbrev hs1_6 (t : Fin cfg2.N) : (ms1_6 t).IsWhole := hstage2_6 ((cfg2.slots t 6).cast nbuf2_6)
abbrev ms1_7 (t : Fin cfg2.N) : Memref sig .tc .vmem S1x1 .f32 := win2_7.stage (cfg2.slots t 7)
abbrev hs1_7 (t : Fin cfg2.N) : (ms1_7 t).IsWhole := hstage2_7 ((cfg2.slots t 7).cast nbuf2_7)
abbrev ms1_8 (t : Fin cfg2.N) : Memref sig .tc .vmem S1x1 .f32 := win2_8.stage (cfg2.slots t 8)
abbrev hs1_8 (t : Fin cfg2.N) : (ms1_8 t).IsWhole := hstage2_8 ((cfg2.slots t 8).cast nbuf2_8)

abbrev scM1_0 : Memref sig .tc .vmem S1x2048 .f32 := Memref.whole cc2_scratch0
abbrev scM1_1 : Memref sig .tc .smem S1x1 .f32 := Memref.whole cc2_scratch1

/-- The two scratch buffers held as `A` and `B`, beside the other buffers and the generator. -/
abbrev PhiAt1 (c : Dev nD) (A B : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ A ∗ (∃ f : Buf (Elt F) ((c : Thread nD τ).loc cc0_stg3_0), ((c : Thread nD τ).loc cc0_stg3_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch1), ((c : Thread nD τ).loc cc0_scratch1) ↦{fullShare} f) ∗ B) ∗ (∃ r, prngReg c r))

theorem PhiA1_eq (c : Dev nD) :
    (restA spec2 c : sProp 𝕄)
      = PhiAt1 c iprop(∃ d, owns c.tc scM1_0 fullShare d) iprop(∃ d, owns c.tc scM1_1 fullShare d) := by
  unfold restA; rw [scopedRest2_eq]; simp only [scM1_0, scM1_1, owns_whole]; try rfl

/-- The two calls run one body. -/
theorem body_eq : @cc2__tc_body F _ = @cc0__tc_body F _ := by sl_kernel_rfl

/-- The same at step `t`, in its own buffers. -/
abbrev at1_A (c : Dev nD) (t : Fin cfg2.N) (hc0 : cond0_0 (grid2.coords t)) (hc1 : ¬cond0_1 (grid2.coords t)) :=
  tup0_A (F := F) c (grid2.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1

/-- The same at step `t`, in its own buffers. -/
abbrev at1_B (c : Dev nD) (t : Fin cfg2.N) (hc0 : ¬cond0_0 (grid2.coords t)) (hc1 : ¬cond0_1 (grid2.coords t)) :=
  tup0_B (F := F) c (grid2.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1

/-- The same at step `t`, in its own buffers. -/
abbrev at1_C (c : Dev nD) (t : Fin cfg2.N) (hc0 : ¬cond0_0 (grid2.coords t)) (hc1 : cond0_1 (grid2.coords t)) :=
  tup0_C (F := F) c (grid2.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) hc0 hc1

def outsAt1 (c : Dev nD) : (n : ℕ) → n < cfg2.N → Outs F
  | 0, hn => at1_A c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      if h1 : (n + 1) % 8 = 7 then
        False.elim (by have hN : n + 1 < 8 := lt_of_lt_of_eq hn (show cfg2.N = 8 from N_2); omega)
      else
        at1_A c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 8 = 7 then
        at1_C c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.1 (outsAt1 c n (Nat.lt_of_succ_lt hn)).2.2.2.2.2.2
      else
        at1_B c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.1 (outsAt1 c n (Nat.lt_of_succ_lt hn)).2.2.2.2.2.2

theorem outsAt1_A (c : Dev nD) (t : Fin cfg2.N) (h0 : t.val % 8 = 0) (h1 : ¬t.val % 8 = 7) :
    outsAt1 V c t.val t.isLt = at1_A c t ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

theorem outsAt1_B (c : Dev nD) (t : Fin cfg2.N) (h0 : ¬t.val % 8 = 0) (h1 : ¬t.val % 8 = 7) :
    outsAt1 V c t.val t.isLt = at1_B c t (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg2.N) (h0 : ¬t.val % 8 = 0) (h1 : t.val % 8 = 7) :
    outsAt1 V c t.val t.isLt = at1_C c t (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiSb (c : Dev nD) : (n : ℕ) → n ≤ cfg2.N → sProp 𝕄
  | 0, _ => restA spec2 c
  | n + 1, hn => PhiAt1 c (owns c.tc scM1_0 fullShare ((outsAt1 V c n hn).2.2.2.2.2.1)) (owns c.tc scM1_1 fullShare ((outsAt1 V c n hn).2.2.2.2.2.2))

theorem PhiSb_zero (c : Dev nD) (n : ℕ) (h : n ≤ cfg2.N) (hz : n = 0) : PhiSb V c n h = restA spec2 c := by
  subst hz; rfl

theorem PhiSb_succ (c : Dev nD) (n : ℕ) (hn : n < cfg2.N) :
    PhiSb V c (n + 1) hn = PhiAt1 c (owns c.tc scM1_0 fullShare ((outsAt1 V c n hn).2.2.2.2.2.1)) (owns c.tc scM1_1 fullShare ((outsAt1 V c n hn).2.2.2.2.2.2)) := rfl

theorem PhiSb_pos (c : Dev nD) (n : ℕ) (h : n ≤ cfg2.N) (hz : n ≠ 0) :
    PhiSb V c n h = PhiAt1 c (owns c.tc scM1_0 fullShare ((outsAt1 V c (n - 1) (by omega)).2.2.2.2.2.1)) (owns c.tc scM1_1 fullShare ((outsAt1 V c (n - 1) (by omega)).2.2.2.2.2.2)) := by
  cases n with
  | zero => exact absurd rfl hz
  | succ n => rfl

def dat1 (c : Dev nD) : Dat τ (Elt F) (HIx 2) ℕ UU ℕ cfg2 c where
  A w := V c (Pipeline.arrRef spec2 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
  Φ t := PhiSb V c t.val (Nat.le_of_lt_succ t.isLt)
  q _ := fullShare
  owed _ := (K (F := F)).Otc c 1
  recorded _ := {p | (K (F := F)).lev (T c, p.1) p.2 ≤ 8 * 1}

theorem A_eq1 (c : Dev nD) (w : Fin cfg2.W) : (dat1 V c).A w = V c (Pipeline.arrRef spec2 w) := by
  dsimp only [dat1]

theorem PhiSb_castSucc (c : Dev nD) (t : Fin cfg2.N) :
    (dat1 V c).Φ t.castSucc = PhiSb V c t.val (Nat.le_of_lt t.isLt) := by
  dsimp only [dat1]; exact Pipeline.Dat.Φ_castSucc (PhiSb V c) t

theorem after1_0 (c : Dev nD) (t : Fin cfg2.N) : (dat1 V c).after 0 t = iblk1 V c 0 t := by dsimp only [dat1]
theorem after1_1 (c : Dev nD) (t : Fin cfg2.N) : (dat1 V c).after 1 t = iblk1 V c 1 t := by dsimp only [dat1]
theorem after1_2 (c : Dev nD) (t : Fin cfg2.N) : (dat1 V c).after 2 t = iblk1 V c 2 t := by dsimp only [dat1]
theorem after1_3 (c : Dev nD) (t : Fin cfg2.N) : (dat1 V c).after 3 t = iblk1 V c 3 t := by dsimp only [dat1]
theorem after1_4 (c : Dev nD) (t : Fin cfg2.N) : (dat1 V c).after 4 t = (outsAt1 V c t.val t.isLt).1 := by dsimp only [dat1]
theorem after1_5 (c : Dev nD) (t : Fin cfg2.N) : (dat1 V c).after 5 t = (outsAt1 V c t.val t.isLt).2.1 := by dsimp only [dat1]
theorem after1_6 (c : Dev nD) (t : Fin cfg2.N) : (dat1 V c).after 6 t = (outsAt1 V c t.val t.isLt).2.2.1 := by dsimp only [dat1]
theorem after1_7 (c : Dev nD) (t : Fin cfg2.N) : (dat1 V c).after 7 t = (outsAt1 V c t.val t.isLt).2.2.2.1 := by dsimp only [dat1]
theorem after1_8 (c : Dev nD) (t : Fin cfg2.N) : (dat1 V c).after 8 t = (outsAt1 V c t.val t.isLt).2.2.2.2.1 := by dsimp only [dat1]

theorem before1_0 (c : Dev nD) (t : Fin cfg2.N) (d) : (dat1 V c).before 0 t d = iblk1 V c 0 t :=
  before1_0_of V (dat1 V c) (A_eq1 V c 0) (after1_0 V c) t d
theorem before1_1 (c : Dev nD) (t : Fin cfg2.N) (d) : (dat1 V c).before 1 t d = iblk1 V c 1 t :=
  before1_1_of V (dat1 V c) (A_eq1 V c 1) (after1_1 V c) t d
theorem before1_2 (c : Dev nD) (t : Fin cfg2.N) (d) : (dat1 V c).before 2 t d = iblk1 V c 2 t :=
  before1_2_of V (dat1 V c) (A_eq1 V c 2) (after1_2 V c) t d
theorem before1_3 (c : Dev nD) (t : Fin cfg2.N) (d) : (dat1 V c).before 3 t d = iblk1 V c 3 t :=
  before1_3_of V (dat1 V c) (A_eq1 V c 3) (after1_3 V c) t d

theorem leaves1_0 (c : Dev nD) (t : Fin cfg2.N) : (dat1 V c).leavesExact 0 t = owns c.tc (ms1_0 t) fullShare ((dat1 V c).after 0 t) := by
  unfold Dat.leavesExact; rw [liveAt1_0 t]
theorem leaves1_1 (c : Dev nD) (t : Fin cfg2.N) : (dat1 V c).leavesExact 1 t = owns c.tc (ms1_1 t) fullShare ((dat1 V c).after 1 t) := by
  unfold Dat.leavesExact; rw [liveAt1_1 t]
theorem leaves1_2 (c : Dev nD) (t : Fin cfg2.N) : (dat1 V c).leavesExact 2 t = owns c.tc (ms1_2 t) fullShare ((dat1 V c).after 2 t) := by
  unfold Dat.leavesExact; rw [liveAt1_2 t]
theorem leaves1_3 (c : Dev nD) (t : Fin cfg2.N) : (dat1 V c).leavesExact 3 t = owns c.tc (ms1_3 t) fullShare ((dat1 V c).after 3 t) := by
  unfold Dat.leavesExact; rw [liveAt1_3 t]
theorem leaves1_4 (c : Dev nD) (t : Fin cfg2.N) : (dat1 V c).leavesExact 4 t = owns c.tc (ms1_4 t) fullShare ((dat1 V c).after 4 t) := by
  unfold Dat.leavesExact; rw [liveAt1_4 t]

def bodyPre1 (c : Dev nD) (t : Fin cfg2.N) : sProp 𝕄 :=
  iprop((dat1 V c).Φ t.castSucc ∗ (dat1 V c).owesAt none t.castSucc
    ∗ (∃ d, owns c.tc (ms1_0 t) fullShare ((dat1 V c).before 0 t d))
    ∗ (∃ d, owns c.tc (ms1_1 t) fullShare ((dat1 V c).before 1 t d))
    ∗ (∃ d, owns c.tc (ms1_2 t) fullShare ((dat1 V c).before 2 t d))
    ∗ (∃ d, owns c.tc (ms1_3 t) fullShare ((dat1 V c).before 3 t d))
    ∗ (∃ d, owns c.tc (ms1_4 t) fullShare ((dat1 V c).before 4 t d))
    ∗ (∃ d, owns c.tc (ms1_5 t) fullShare ((dat1 V c).before 5 t d))
    ∗ (∃ d, owns c.tc (ms1_6 t) fullShare ((dat1 V c).before 6 t d))
    ∗ (∃ d, owns c.tc (ms1_7 t) fullShare ((dat1 V c).before 7 t d))
    ∗ (∃ d, owns c.tc (ms1_8 t) fullShare ((dat1 V c).before 8 t d)))

def bodyPost1 (c : Dev nD) (t : Fin cfg2.N) : sProp 𝕄 :=
  iprop((dat1 V c).Φ t.succ ∗ (dat1 V c).owesAt none t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 9600000 in

theorem sound_body1 (c : Dev nD) (t : Fin cfg2.N) :
    bodyPre1 V c t ⊢ wp frame (wpE (defs₀ (F := F)) Variants.none c none) Set.univ (bodyAt2 t) (fun _ => bodyPost1 V c t) := by
  unfold bodyPre1 bodyPost1 bodyAt2
  rw [body_eq]
  simp only [before1_0, before1_1, before1_2, before1_3]
  rw [show (dat1 V c).owesAt none t.succ = (dat1 V c).owesAt none t.castSucc from rfl]
  rw [show (dat1 V c).Φ t.succ = PhiSb V c (t.val + 1) t.isLt from rfl, PhiSb_succ]
  have hN : t.val < 8 := lt_of_lt_of_eq t.isLt (show cfg2.N = 8 from N_2)
  by_cases h0 : t.val % 8 = 0
  · by_cases h1 : t.val % 8 = 7
    · exfalso; omega
    · have p0 : cond1_0 (grid2.coords t) := (hcond1_0 t).mpr h0
      have n1 : ¬cond1_1 (grid2.coords t) := fun h => h1 ((hcond1_1 t).mp h)
      rw [leaves1_0, after1_0, leaves1_1, after1_1, leaves1_2, after1_2, leaves1_3, after1_3, leaves1_4, after1_4]
      rw [Dat.leavesExact_idle (dat1 V c) 5 t (idle1 t n1).1.1 (idle1 t n1).1.2]
      rw [Dat.leavesExact_idle (dat1 V c) 6 t (idle1 t n1).2.1.1 (idle1 t n1).2.1.2]
      rw [Dat.leavesExact_idle (dat1 V c) 7 t (idle1 t n1).2.2.1.1 (idle1 t n1).2.2.1.2]
      rw [Dat.leavesExact_idle (dat1 V c) 8 t (idle1 t n1).2.2.2.1 (idle1 t n1).2.2.2.2]
      by_cases hz : t.val = 0
      · rw [PhiSb_castSucc V c t, PhiSb_zero V c _ _ hz, PhiA1_eq]
        rw [outsAt1_A V c t h0 h1]
        unfold at1_A tup0_A out0_A_4 sout0_A_0 sout0_A_1; (try dsimp only)
        iintro ⟨⟨⟨HR0, HR1, HR2, HR3, HR4, HR5, HR6, HR7, HR8, HR9, HS0, HR11, HR12, HR13, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_A c (grid2.coords t) _ _ _ _ _ _ _ _ _ _ _ _ _ _ _ _ _ _ _ _ _ _ p0 n1 (iblk1 V c 0 t) (iblk1 V c 1 t) (iblk1 V c 2 t) (iblk1 V c 3 t)).2.2.2.2.2.2.2 _ _ _ _ Set.univ _)
        isplitl [H0]; iexact H0; isplitl [H1]; iexact H1; isplitl [H2]; iexact H2; isplitl [H3]; iexact H3
        isplitl [H4]; iexists _; iexact H4
        isplitl [H5]; iexact H5; isplitl [H6]; iexact H6; isplitl [H7]; iexact H7; isplitl [H8]; iexact H8
        isplitl [HS0]; iexact HS0; isplitl [HS1]; iexact HS1
        iintro ⟨H0, H1, H2, H3, ⟨%e4, H4⟩, H5, H6, H7, H8, ⟨%es0, HS0⟩, ⟨%es1, HS1⟩⟩
        isplitl [HR0 HR1 HR2 HR3 HR4 HR5 HR6 HR7 HR8 HR9 HS0 HR11 HR12 HR13 HS1 Hg]
        · isplitl [HR0 HR1 HR2 HR3 HR4 HR5 HR6 HR7 HR8 HR9 HS0 HR11 HR12 HR13 HS1]
          · isplitl [HR0]; iexact HR0
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9
            isplitl [HS0]
            · unfold owns; iexists _; isplitr
              swap; · iexact HS0
              ipureintro; exact View.read_writes_of_cover _ _ _ _ _ (fun y => scover0_A_0 ..)
            isplitl [HR11]; iexact HR11; isplitl [HR12]; iexact HR12; isplitl [HR13]; iexact HR13
            unfold owns; iexists _; isplitr
            swap; · iexact HS1
            ipureintro; exact View.read_writes_of_cover _ _ _ _ _ (fun y => scover0_A_1 ..)
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_A_4 ..)
        isplitl [H5]; iexists _; iexact H5; isplitl [H6]; iexists _; iexact H6; isplitl [H7]; iexists _; iexact H7
        iexists _; iexact H8
      · exfalso; have hN : t.val < 8 := lt_of_lt_of_eq t.isLt (show cfg2.N = 8 from N_2); omega
  · by_cases h1 : t.val % 8 = 7
    · have n0 : ¬cond1_0 (grid2.coords t) := fun h => h0 ((hcond1_0 t).mp h)
      have p1 : cond1_1 (grid2.coords t) := (hcond1_1 t).mpr h1
      rw [leaves1_0, after1_0, leaves1_1, after1_1, leaves1_2, after1_2, leaves1_3, after1_3, leaves1_4, after1_4]
      rw [show (dat1 V c).leavesExact 5 t = owns c.tc (ms1_5 t) fullShare ((dat1 V c).after 5 t) from by
      unfold Dat.leavesExact; rw [(live1 t p1).1], after1_5]
      rw [show (dat1 V c).leavesExact 6 t = owns c.tc (ms1_6 t) fullShare ((dat1 V c).after 6 t) from by
      unfold Dat.leavesExact; rw [(live1 t p1).2.1], after1_6]
      rw [show (dat1 V c).leavesExact 7 t = owns c.tc (ms1_7 t) fullShare ((dat1 V c).after 7 t) from by
      unfold Dat.leavesExact; rw [(live1 t p1).2.2.1], after1_7]
      rw [show (dat1 V c).leavesExact 8 t = owns c.tc (ms1_8 t) fullShare ((dat1 V c).after 8 t) from by
      unfold Dat.leavesExact; rw [(live1 t p1).2.2.2], after1_8]
      by_cases hz : t.val = 0
      · exfalso; have hN : t.val < 8 := lt_of_lt_of_eq t.isLt (show cfg2.N = 8 from N_2); omega
      · rw [PhiSb_castSucc V c t, PhiSb_pos V c _ _ hz]
        rw [outsAt1_C V c t h0 h1]
        unfold at1_C tup0_C out0_C_4 out0_C_5 out0_C_6 out0_C_7 out0_C_8 sout0_C_0 sout0_C_1; (try dsimp only)
        iintro ⟨⟨⟨HR0, HR1, HR2, HR3, HR4, HR5, HR6, HR7, HR8, HR9, HS0, HR11, HR12, HR13, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_C c (grid2.coords t) _ _ _ _ _ _ _ _ _ _ _ _ _ _ _ _ _ _ _ _ _ _ n0 p1 (iblk1 V c 0 t) (iblk1 V c 1 t) (iblk1 V c 2 t) (iblk1 V c 3 t) _ _).2.2.2.2.2.2.2 Set.univ _)
        isplitl [H0]; iexact H0; isplitl [H1]; iexact H1; isplitl [H2]; iexact H2; isplitl [H3]; iexact H3
        isplitl [H4]; iexists _; iexact H4; isplitl [H5]; iexists _; iexact H5; isplitl [H6]; iexists _; iexact H6
        isplitl [H7]; iexists _; iexact H7; isplitl [H8]; iexists _; iexact H8
        isplitl [HS0]; iexact HS0; isplitl [HS1]; iexact HS1
        iintro ⟨H0, H1, H2, H3, ⟨%e4, H4⟩, ⟨%e5, H5⟩, ⟨%e6, H6⟩, ⟨%e7, H7⟩, ⟨%e8, H8⟩, ⟨%es0, HS0⟩, ⟨%es1, HS1⟩⟩
        isplitl [HR0 HR1 HR2 HR3 HR4 HR5 HR6 HR7 HR8 HR9 HS0 HR11 HR12 HR13 HS1 Hg]
        · isplitl [HR0 HR1 HR2 HR3 HR4 HR5 HR6 HR7 HR8 HR9 HS0 HR11 HR12 HR13 HS1]
          · isplitl [HR0]; iexact HR0
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9
            isplitl [HS0]
            · unfold owns; iexists _; isplitr
              swap; · iexact HS0
              ipureintro; exact View.read_writes_of_cover _ _ _ _ _ (fun y => scover0_C_0 ..)
            isplitl [HR11]; iexact HR11; isplitl [HR12]; iexact HR12; isplitl [HR13]; iexact HR13
            unfold owns; iexists _; isplitr
            swap; · iexact HS1
            ipureintro; exact View.read_writes_of_cover _ _ _ _ _ (fun y => scover0_C_1 ..)
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_C_4 ..)
        isplitl [H5]
        · unfold owns; iexists _; isplitr
          swap; · iexact H5
          ipureintro; exact View.read_writes_of_cover _ _ _ _ _ (fun y => cover0_C_5 ..)
        isplitl [H6]
        · unfold owns; iexists _; isplitr
          swap; · iexact H6
          ipureintro; exact View.read_writes_of_cover _ _ _ _ _ (fun y => cover0_C_6 ..)
        isplitl [H7]
        · unfold owns; iexists _; isplitr
          swap; · iexact H7
          ipureintro; exact View.read_writes_of_cover _ _ _ _ _ (fun y => cover0_C_7 ..)
        unfold owns; iexists _; isplitr
        swap; · iexact H8
        ipureintro; exact View.read_writes_of_cover _ _ _ _ _ (fun y => cover0_C_8 ..)
    · have n0 : ¬cond1_0 (grid2.coords t) := fun h => h0 ((hcond1_0 t).mp h)
      have n1 : ¬cond1_1 (grid2.coords t) := fun h => h1 ((hcond1_1 t).mp h)
      rw [leaves1_0, after1_0, leaves1_1, after1_1, leaves1_2, after1_2, leaves1_3, after1_3, leaves1_4, after1_4]
      rw [Dat.leavesExact_idle (dat1 V c) 5 t (idle1 t n1).1.1 (idle1 t n1).1.2]
      rw [Dat.leavesExact_idle (dat1 V c) 6 t (idle1 t n1).2.1.1 (idle1 t n1).2.1.2]
      rw [Dat.leavesExact_idle (dat1 V c) 7 t (idle1 t n1).2.2.1.1 (idle1 t n1).2.2.1.2]
      rw [Dat.leavesExact_idle (dat1 V c) 8 t (idle1 t n1).2.2.2.1 (idle1 t n1).2.2.2.2]
      by_cases hz : t.val = 0
      · exfalso; have hN : t.val < 8 := lt_of_lt_of_eq t.isLt (show cfg2.N = 8 from N_2); omega
      · rw [PhiSb_castSucc V c t, PhiSb_pos V c _ _ hz]
        rw [outsAt1_B V c t h0 h1]
        unfold at1_B tup0_B out0_B_4 sout0_B_0 sout0_B_1; (try dsimp only)
        iintro ⟨⟨⟨HR0, HR1, HR2, HR3, HR4, HR5, HR6, HR7, HR8, HR9, HS0, HR11, HR12, HR13, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((run0_B c (grid2.coords t) _ _ _ _ _ _ _ _ _ _ _ _ _ _ _ _ _ _ _ _ _ _ n0 n1 (iblk1 V c 0 t) (iblk1 V c 1 t) (iblk1 V c 2 t) (iblk1 V c 3 t) _ _).2.2.2.2.2.2.2 _ _ _ _ Set.univ _)
        isplitl [H0]; iexact H0; isplitl [H1]; iexact H1; isplitl [H2]; iexact H2; isplitl [H3]; iexact H3
        isplitl [H4]; iexists _; iexact H4
        isplitl [H5]; iexact H5; isplitl [H6]; iexact H6; isplitl [H7]; iexact H7; isplitl [H8]; iexact H8
        isplitl [HS0]; iexact HS0; isplitl [HS1]; iexact HS1
        iintro ⟨H0, H1, H2, H3, ⟨%e4, H4⟩, H5, H6, H7, H8, ⟨%es0, HS0⟩, ⟨%es1, HS1⟩⟩
        isplitl [HR0 HR1 HR2 HR3 HR4 HR5 HR6 HR7 HR8 HR9 HS0 HR11 HR12 HR13 HS1 Hg]
        · isplitl [HR0 HR1 HR2 HR3 HR4 HR5 HR6 HR7 HR8 HR9 HS0 HR11 HR12 HR13 HS1]
          · isplitl [HR0]; iexact HR0
            isplitl [HR1]; iexact HR1; isplitl [HR2]; iexact HR2; isplitl [HR3]; iexact HR3; isplitl [HR4]; iexact HR4
            isplitl [HR5]; iexact HR5; isplitl [HR6]; iexact HR6; isplitl [HR7]; iexact HR7; isplitl [HR8]; iexact HR8
            isplitl [HR9]; iexact HR9
            isplitl [HS0]
            · unfold owns; iexists _; isplitr
              swap; · iexact HS0
              ipureintro; exact View.read_writes_of_cover _ _ _ _ _ (fun y => scover0_B_0 ..)
            isplitl [HR11]; iexact HR11; isplitl [HR12]; iexact HR12; isplitl [HR13]; iexact HR13
            unfold owns; iexists _; isplitr
            swap; · iexact HS1
            ipureintro; exact View.read_writes_of_cover _ _ _ _ _ (fun y => scover0_B_1 ..)
          iexact Hg
        isplitl [Ho]; iexact Ho; isplitl [H0]; iexact H0; isplitl [H1]; iexact H1; isplitl [H2]; iexact H2
        isplitl [H3]; iexact H3
        isplitl [H4]
        · unfold owns; iexists _; isplitr
          swap; · iexact H4
          ipureintro; exact View.read_writes_of_cover _ _ _ _ _ (fun y => cover0_B_4 ..)
        isplitl [H5]; iexists _; iexact H5; isplitl [H6]; iexists _; iexact H6; isplitl [H7]; iexists _; iexact H7
        iexists _; iexact H8

theorem defs₀_row1 (t : Fin cfg2.N) :
    defs₀ (F := F) .tc cfg2.body (cfg2.bodyArgs t (cfg2.slots t)) = bodyAt2 t := by
  rfl

theorem body_obligation1 (c : Dev nD) : BodyObligation (dat1 (F := F) V c) (defs₀ (F := F)) Variants.none none Set.univ := fun t => by
  rw [bigSep_W2, bigSep_W2, defs₀_row1]
  exact triple_restated (sound_body1 V c t) rfl .rfl fun _ => .rfl

theorem hinb (c : Dev nD) : restA spec2 c ⊢ (dat1 V c).Φ 0 := by
  rw [show (dat1 V c).Φ 0 = PhiSb V c 0 (Nat.zero_le _) from rfl, PhiSb_zero V c 0 _ rfl]
  try exact Idealize.SL.BI.Entails.refl _

theorem Phi_outb (c : Dev nD) (t : Fin (cfg2.N + 1)) (ht : t.val ≠ 0) : (dat1 V c).Φ t ⊢ restA spec2 c := by
  rw [show (dat1 V c).Φ t = PhiSb V c t.val (Nat.le_of_lt_succ t.isLt) from rfl, PhiSb_pos V c _ _ ht, PhiA1_eq]
  iintro ⟨⟨HR0, HR1, HR2, HR3, HR4, HR5, HR6, HR7, HR8, HR9, HS0, HR11, HR12, HR13, HS1⟩, Hg⟩
  isplitl [HR0 HR1 HR2 HR3 HR4 HR5 HR6 HR7 HR8 HR9 HS0 HR11 HR12 HR13 HS1]
  · isplitl [HR0]; iexact HR0
    isplitl [HR1]; iexact HR1; isplitl [HR2]; iexact HR2; isplitl [HR3]; iexact HR3; isplitl [HR4]; iexact HR4
    isplitl [HR5]; iexact HR5; isplitl [HR6]; iexact HR6; isplitl [HR7]; iexact HR7; isplitl [HR8]; iexact HR8
    isplitl [HR9]; iexact HR9
    isplitl [HS0]
    · iexists _; iexact HS0
    isplitl [HR11]; iexact HR11; isplitl [HR12]; iexact HR12; isplitl [HR13]; iexact HR13
    iexists _; iexact HS1
  iexact Hg

theorem houtb (c : Dev nD) : (dat1 V c).Φ (Fin.last cfg2.N) ⊢ restA spec2 c :=
  Phi_outb V c _ (by rw [Fin.val_last]; have : cfg2.N = 8 := N_2; omega)

end Regions

end Cert.Proof.KTwo

end
-- ==== Proof.KRun1.lean ====
/-
  What the second call of the codes kernel leaves in its output arrays, from any contents of its input arrays.
-/
module

public import proofs.«01_k».proof.Proof.CodesAcc
public import proofs.«01_k».proof.Proof.KPoint
public import proofs.«01_k».proof.Proof.CodesRun1
public import proofs.«01_k».proof.Proof.KTwoRegion1

@[expose] public section

noncomputable section

namespace Cert.Proof.KRun1

open Cert.KernelIdeal Cert.KernelIdeal.Gen Cert.Proof.KSkel Cert.Proof.KTwo Idealize.ShloMosaic Idealize.ShloMosaic.TcCoe Idealize.SL.Sem
open Idealize.ShloMosaic.Pipeline (Dat)
open Idealize.ShloMosaic.ValueIdx
open Cert.Proof.KPoint Cert.Proof.CodesAcc
open Cert.Proof.CodesRun1 (lossOut' perpOut')

variable {F : FTy → Type} [FloatOps F]
variable (V : (c : Dev nD) → (b : Ref sig .tc) → Buf (Elt F) ((c : Thread nD τ).loc b)) (c : Dev nD)

/-- Window 0's block at point `t` is the image `8 + t`. -/
theorem blk0 (t : Fin cfg2.N) : (iblk1 V c 0 t : Vec F S1x256x1024 .f32) = xb (V c main_v0) 8 t.val := by
  have hi : win2_0.index t 0 = 8 + t.val ∧ win2_0.index t 1 = 0 ∧ win2_0.index t 2 = 0 :=
    (by decide +kernel : ∀ t : Fin grid2.N, win2_0.index t 0 = 8 + t.val ∧ win2_0.index t 1 = 0 ∧ win2_0.index t 2 = 0) t
  have ht : t.val < 8 := lt_of_lt_of_eq t.isLt N_2
  funext j
  unfold iblk1 xb
  rw [View.read_apply]
  show V c main_v0 _ = _
  congr 1
  funext a
  apply Fin.ext
  have h0 : (j 0).val < 1 := (j 0).isLt
  match a with
  | ⟨0, _⟩ => show win2_0.index t 0 * 1 + 1 * (j 0).val = (8 + t.val) % 16; rw [hi.1]; omega
  | ⟨1, _⟩ => show win2_0.index t 1 * 256 + 1 * (j 1).val = (j 1).val; rw [hi.2.1]; omega
  | ⟨2, _⟩ => show win2_0.index t 2 * 1024 + 1 * (j 2).val = (j 2).val; rw [hi.2.2]; omega

theorem blk1 (t : Fin cfg2.N) : (iblk1 V c 1 t : Vec F S256x2048 .f32) = V c main_arg1 := by
  have hi : win2_1.index t 0 = 0 ∧ win2_1.index t 1 = 0 :=
    (by decide +kernel : ∀ t : Fin grid2.N, win2_1.index t 0 = 0 ∧ win2_1.index t 1 = 0) t
  funext j
  unfold iblk1
  rw [View.read_apply]
  show V c main_arg1 _ = _
  congr 1
  funext a
  apply Fin.ext
  match a with
  | ⟨0, _⟩ => show win2_1.index t 0 * 256 + 1 * (j 0).val = (j 0).val; rw [hi.1]; omega
  | ⟨1, _⟩ => show win2_1.index t 1 * 2048 + 1 * (j 1).val = (j 1).val; rw [hi.2]; omega

theorem blk2 (t : Fin cfg2.N) : (iblk1 V c 2 t : Vec F S1x2048 .f32) = V c main_v3_1 := by
  have hi : win2_2.index t 0 = 0 ∧ win2_2.index t 1 = 0 :=
    (by decide +kernel : ∀ t : Fin grid2.N, win2_2.index t 0 = 0 ∧ win2_2.index t 1 = 0) t
  funext j
  unfold iblk1
  rw [View.read_apply]
  show V c main_v3_1 _ = _
  congr 1
  funext a
  apply Fin.ext
  match a with
  | ⟨0, _⟩ => show win2_2.index t 0 * 1 + 1 * (j 0).val = (j 0).val; rw [hi.1]; omega
  | ⟨1, _⟩ => show win2_2.index t 1 * 2048 + 1 * (j 1).val = (j 1).val; rw [hi.2]; omega

theorem blk3 (t : Fin cfg2.N) : (iblk1 V c 3 t : Vec F S1 .f32) = V c main_v3_2 := by
  funext j
  unfold iblk1
  rw [View.read_apply]
  show V c main_v3_2 _ = _
  exact congrArg _ (one1 _ _)

/-! ## The accumulators -/

theorem counts_eq : ∀ (n : ℕ) (h : n < cfg2.N), (outsAt1 V c n h).2.2.2.2.2.1
    = counts (V c main_v0) 8 (V c main_arg1) (V c main_v3_1) n
  | 0, h => by
    rw [outsAt1_A V c ⟨0, h⟩ (Nat.zero_mod 8) (show ¬0 % 8 = 7 by decide)]
    dsimp only [at1_A, tup0_A]
    refine (counts_A ..).trans ?_; rw [blk0, blk1, blk2]
    rfl
  | n + 1, h => by
    have hN := lt_of_lt_of_eq h (show cfg2.N = 8 from N_2)
    have ih := counts_eq n (by omega)
    by_cases h7 : (n + 1) % 8 = 7
    · rw [outsAt1_C V c ⟨n + 1, h⟩ (by show ¬(n + 1) % 8 = 0; omega) h7]
      dsimp only [at1_C, tup0_C]
      refine (counts_C ..).trans ?_; rw [blk0, blk1]
      exact congrArg (fun z => k0_pay1 (k0_pay10 (xb _ _ (n + 1)) _ z)) ih
    · rw [outsAt1_B V c ⟨n + 1, h⟩ (by show ¬(n + 1) % 8 = 0; omega) h7]
      dsimp only [at1_B, tup0_B]
      refine (counts_B ..).trans ?_; rw [blk0, blk1]
      exact congrArg (fun z => k0_pay1 (k0_pay10 (xb _ _ (n + 1)) _ z)) ih

theorem losses_eq : ∀ (n : ℕ) (h : n < cfg2.N), (outsAt1 V c n h).2.2.2.2.2.2
    = fun _ => losses (V c main_v0) 8 (V c main_arg1) (V c main_v3_2) n
  | 0, h => by
    rw [outsAt1_A V c ⟨0, h⟩ (Nat.zero_mod 8) (show ¬0 % 8 = 7 by decide)]
    dsimp only [at1_A, tup0_A]
    refine (loss_A ..).trans ?_; rw [blk0, blk1, blk3]
    rfl
  | n + 1, h => by
    have hN := lt_of_lt_of_eq h (show cfg2.N = 8 from N_2)
    have ih := losses_eq n (by omega)
    by_cases h7 : (n + 1) % 8 = 7
    · rw [outsAt1_C V c ⟨n + 1, h⟩ (by show ¬(n + 1) % 8 = 0; omega) h7]
      dsimp only [at1_C, tup0_C]
      refine (loss_C ..).trans ?_; rw [blk0, blk1]
      exact funext fun _ => congrArg (fun z => k0_pay2 (k0_pay6 (xb _ _ (n + 1)) _) z) (congrFun ih _)
    · rw [outsAt1_B V c ⟨n + 1, h⟩ (by show ¬(n + 1) % 8 = 0; omega) h7]
      dsimp only [at1_B, tup0_B]
      refine (loss_B ..).trans ?_; rw [blk0, blk1]
      exact funext fun _ => congrArg (fun z => k0_pay2 (k0_pay6 (xb _ _ (n + 1)) _) z) (congrFun ih _)

/-! ## The results -/

theorem out4 (t : Fin cfg2.N) : (outsAt1 V c t.val t.isLt).1 = k0_pay8 (xb (V c main_v0) 8 t.val) (V c main_arg1) := by
  have hN := lt_of_lt_of_eq t.isLt (show cfg2.N = 8 from N_2)
  by_cases h0 : t.val % 8 = 0
  · rw [outsAt1_A V c t h0 (by omega)]; dsimp only [at1_A, tup0_A]; refine (idx_A ..).trans ?_; rw [blk0, blk1]
  · by_cases h7 : t.val % 8 = 7
    · rw [outsAt1_C V c t h0 h7]; dsimp only [at1_C, tup0_C]; refine (idx_C ..).trans ?_; rw [blk0, blk1]
    · rw [outsAt1_B V c t h0 h7]; dsimp only [at1_B, tup0_B]; refine (idx_B ..).trans ?_; rw [blk0, blk1]

theorem flushed_idx (t : Fin cfg2.N) (hf : (cfg2.win 4).flush t = true) :
    (dat1 V c).flushed 4 t = ((cfg2.win 4).blk t).view.read (Elt F) (idxOut (V c main_v0) 8 (V c main_arg1)) := by
  have hi : win2_4.index t 0 = t.val ∧ win2_4.index t 1 = 0 :=
    (by decide +kernel : ∀ t : Fin grid2.N, win2_4.index t 0 = t.val ∧ win2_4.index t 1 = 0) t
  show (cfg2.win 4).cut (grid2.coords t) ((dat1 V c).after 4 t) = _
  rw [after1_4, out4]
  funext j
  rw [View.read_apply]
  have h0 : (j 0).val < 8 := (j 0).isLt
  show k0_pay8 _ _ _ = k0_pay8 (xb _ _ ((win2_4.index t 0 * 8 + 1 * (j 0).val) / 8)) _ _
  rw [hi.1, show (t.val * 8 + 1 * (j 0).val) / 8 = t.val by omega]
  congr 1
  funext a
  apply Fin.ext
  match a with
  | ⟨0, _⟩ => show (j 0).val = (win2_4.index t 0 * 8 + 1 * (j 0).val) % 8; rw [hi.1]; omega
  | ⟨1, _⟩ => show (j 1).val = win2_4.index t 1 * 128 + 1 * (j 1).val; rw [hi.2]; omega

theorem final_idx : (dat1 V c).arrAt 4 cfg2.N = idxOut (V c main_v0) 8 (V c main_arg1) :=
  (dat1 V c).arrAt_eq_of_cover 4 _ (flushed_idx V c) fun i => by
    have h0 : (i 0 : Nat) < 64 := (i 0).isLt
    have h1 : (i 1 : Nat) < 128 := (i 1).isLt
    let t : Fin cfg2.N := ⟨(i 0).val / 8, lt_of_lt_of_eq (by omega : (i 0).val / 8 < 8) N_2.symm⟩
    have hi : win2_4.index t 0 = t.val ∧ win2_4.index t 1 = 0 :=
      (by decide +kernel : ∀ t : Fin grid2.N, win2_4.index t 0 = t.val ∧ win2_4.index t 1 = 0) t
    have htv : t.val = (i 0).val / 8 := rfl
    refine ⟨t, flush2_4 t, ?_⟩
    show i ∈ ((View.whole main_v5_0).slice (win2_4.rect t)).set
    rw [View.set_slice_whole, Rect.mem_set_unit]
    intro a
    match a with
    | ⟨0, _⟩ => show win2_4.index t 0 * 8 ≤ (i 0 : Nat) ∧ (i 0 : Nat) < win2_4.index t 0 * 8 + 8
                rw [hi.1]; omega
    | ⟨1, _⟩ => show win2_4.index t 1 * 128 ≤ (i 1 : Nat) ∧ (i 1 : Nat) < win2_4.index t 1 * 128 + 128
                rw [hi.2]; omega

theorem last7 (t : Fin cfg2.N) (h : t.val % 8 = 7) : t.val = 7 := by
  have hN := lt_of_lt_of_eq t.isLt (show cfg2.N = 8 from N_2); omega

def t7 : Fin cfg2.N := ⟨7, lt_of_lt_of_eq (by decide) N_2.symm⟩

theorem out7 : (outsAt1 V c t7.val t7.isLt).2.2.2.1 = lossOut' (V c main_v0) (V c main_arg1) (V c main_v3_2) := by
  rw [outsAt1_C V c t7 (by decide) (by decide)]
  dsimp only [at1_C, tup0_C]
  refine (lossOut ..).trans ?_; rw [blk0, blk1]
  exact congrArg (fun z => k0_pay3 (k0_pay2 _ z)) (congrFun (losses_eq V c 6 (by decide +kernel)) _)

theorem out8 : (outsAt1 V c t7.val t7.isLt).2.2.2.2.1 = perpOut' (V c main_v0) (V c main_arg1) (V c main_v3_1) := by
  rw [outsAt1_C V c t7 (by decide) (by decide)]
  dsimp only [at1_C, tup0_C]
  refine (perpOut ..).trans ?_; rw [blk0, blk1]
  exact congrArg (fun z => k0_pay4 (k0_pay1 (k0_pay10 _ _ z))) (counts_eq V c 6 (by decide +kernel))

theorem final_loss : (dat1 V c).arrAt 7 cfg2.N = lossOut' (V c main_v0) (V c main_arg1) (V c main_v3_2) :=
  (dat1 V c).arrAt_eq_of_cover 7 _ (fun t hf => by
    obtain rfl : t = t7 := Fin.ext (last7 t ((flush2_7 t).mp hf))
    show (cfg2.win 7).cut (grid2.coords t7) ((dat1 V c).after 7 t7) = _
    rw [after1_7]
    refine (congrArg _ (out7 V c)).trans ?_
    funext j
    rw [View.read_apply]
    exact congrArg (lossOut' _ _ _) (one2 _ _)) fun i => ⟨t7, (flush2_7 t7).mpr rfl, by
      show i ∈ ((View.whole main_v5_3).slice (win2_7.rect t7)).set
      rw [View.set_slice_whole, Rect.mem_set_unit]
      intro a
      have h0 : (i 0 : Nat) < 1 := (i 0).isLt
      have h1 : (i 1 : Nat) < 1 := (i 1).isLt
      match a with
      | ⟨0, _⟩ => show win2_7.index t7 0 * 1 ≤ (i 0 : Nat) ∧ (i 0 : Nat) < win2_7.index t7 0 * 1 + 1
                  rw [show win2_7.index t7 0 = 0 from by decide +kernel]; omega
      | ⟨1, _⟩ => show win2_7.index t7 1 * 1 ≤ (i 1 : Nat) ∧ (i 1 : Nat) < win2_7.index t7 1 * 1 + 1
                  rw [show win2_7.index t7 1 = 0 from by decide +kernel]; omega⟩

theorem final_perp : (dat1 V c).arrAt 8 cfg2.N = perpOut' (V c main_v0) (V c main_arg1) (V c main_v3_1) :=
  (dat1 V c).arrAt_eq_of_cover 8 _ (fun t hf => by
    obtain rfl : t = t7 := Fin.ext (last7 t ((flush2_8 t).mp hf))
    show (cfg2.win 8).cut (grid2.coords t7) ((dat1 V c).after 8 t7) = _
    rw [after1_8]
    refine (congrArg _ (out8 V c)).trans ?_
    funext j
    rw [View.read_apply]
    exact congrArg (perpOut' _ _ _) (one2 _ _)) fun i => ⟨t7, (flush2_8 t7).mpr rfl, by
      show i ∈ ((View.whole main_v5_4).slice (win2_8.rect t7)).set
      rw [View.set_slice_whole, Rect.mem_set_unit]
      intro a
      have h0 : (i 0 : Nat) < 1 := (i 0).isLt
      have h1 : (i 1 : Nat) < 1 := (i 1).isLt
      match a with
      | ⟨0, _⟩ => show win2_8.index t7 0 * 1 ≤ (i 0 : Nat) ∧ (i 0 : Nat) < win2_8.index t7 0 * 1 + 1
                  rw [show win2_8.index t7 0 = 0 from by decide +kernel]; omega
      | ⟨1, _⟩ => show win2_8.index t7 1 * 1 ≤ (i 1 : Nat) ∧ (i 1 : Nat) < win2_8.index t7 1 * 1 + 1
                  rw [show win2_8.index t7 1 = 0 from by decide +kernel]; omega⟩

end Cert.Proof.KRun1

end
-- ==== Proof.KTwoHosts.lean ====
/-
  The operations before the first call and after the second one: which buffers they write.
-/
module

public import proofs.«01_k».proof.Proof.Gen.KernelIdeal.Launch
public import proofs.«01_k».proof.Proof.KSkel
public import proofs.«01_k».proof.Proof.Gen.KernelIdeal.Points
public import proofs.«01_k».proof.Proof.Steps
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KTwo

open Cert.KernelIdeal Cert.KernelIdeal.Gen Cert.Proof.KSkel Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.Proof.Steps (word)
open Idealize.ShloMosaic.SparseCore (T)
open Idealize.ShloMosaic.SparseCore.Cfg (HIx)
open Cert.Proof.KTypes (UU UP K D EH EP 𝒱₀)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ) (ρ : Dev nD → PrngReg)

/-- The lookup's result: entry `(b, r, t)` is row `r` of the table at the index that word `t` of block `b` names. -/
def outK {A : Type} (E : S256x2048.Idx → A) (I : S64x128.Idx → BitVec 32) : S8x256x1024.Idx → A := fun j =>
  E (ix2 (j 1) ⟨(word I (8 * (j 0).val + (j 2).val / 128) ((j 2).val % 128)).toNat % 2048, Nat.mod_lt _ (by decide)⟩)

abbrev hostOps0 : List (HloOp τ sig (Elt F)) :=
  [ StableHlo.reshape main_arg0 main_v0 (rfl : (.f32 : EltTy) = .f32) shapeCasts_S16x256x32x32_S16x256x1024,
    StableHlo.nullary main_cst (constant S_ .f32 0x00000000#32),
    StableHlo.unary main_cst main_v1 (broadcastInDim S1x2048 ![] bcast_S_S1x2048 : (⟨S_, .f32⟩ : BufTy).Contents (Elt F) → (⟨S1x2048, .f32⟩ : BufTy).Contents (Elt F)),
    StableHlo.nullary main_cst_0 (constant S_ .f32 0x00000000#32),
    StableHlo.unary main_cst_0 main_v2 (broadcastInDim S1 ![] bcast_S_S1 : (⟨S_, .f32⟩ : BufTy).Contents (Elt F) → (⟨S1, .f32⟩ : BufTy).Contents (Elt F)) ]

theorem hostOps0_sub : (hostOps0 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub ..⟩

abbrev hostOps2 : List (HloOp τ sig (Elt F)) :=
  [ StableHlo.binary main_v4 main_v6 main_v7 ((fun a b => concatenate S16x256x1024 0 [⟨S8x256x1024, a⟩, ⟨S8x256x1024, b⟩] concatenates_S8x256x1024_S8x256x1024_S16x256x1024_d0) : (⟨S8x256x1024, .f32⟩ : BufTy).Contents (Elt F) → (⟨S8x256x1024, .f32⟩ : BufTy).Contents (Elt F) → (⟨S16x256x1024, .f32⟩ : BufTy).Contents (Elt F)),
    StableHlo.reshape main_v7 main_v8 (rfl : (.f32 : EltTy) = .f32) shapeCasts_S16x256x1024_S16x256x32x32,
    StableHlo.reshape main_v3_0 main_v9 (rfl : (.i32 : EltTy) = .i32) shapeCasts_S64x128_S8192,
    StableHlo.reshape main_v5_0 main_v10 (rfl : (.i32 : EltTy) = .i32) shapeCasts_S64x128_S8192,
    StableHlo.binary main_v9 main_v10 main_v11 ((fun a b => concatenate S16384 0 [⟨S8192, a⟩, ⟨S8192, b⟩] concatenates_S8192_S8192_S16384_d0) : (⟨S8192, .i32⟩ : BufTy).Contents (Elt F) → (⟨S8192, .i32⟩ : BufTy).Contents (Elt F) → (⟨S16384, .i32⟩ : BufTy).Contents (Elt F)),
    StableHlo.reshape main_v5_3 main_v12 (rfl : (.f32 : EltTy) = .f32) shapeCasts_S1x1_S_,
    StableHlo.reshape main_v5_4 main_v13 (rfl : (.f32 : EltTy) = .f32) shapeCasts_S1x1_S_ ]

theorem hostOps2_sub : (hostOps2 : List (HloOp τ sig (Elt F))).Forall fun op => op.bufs ⊆ StableHlo.tcRefs τ sig :=
  ⟨StableHlo.binary_bufs_sub .., StableHlo.reshape_bufs_sub .., StableHlo.reshape_bufs_sub .., StableHlo.reshape_bufs_sub .., StableHlo.binary_bufs_sub .., StableHlo.reshape_bufs_sub .., StableHlo.reshape_bufs_sub ..⟩

abbrev argRefs : List (Ref sig .tc) := [main_arg0, main_arg1]

theorem hostOps0_fresh : (hostOps0 : List (HloOp τ sig (Elt F))).Forall fun op => op.fresh = ∅ := by
  simp only [List.Forall]; repeat' constructor

abbrev hostOps0_W : List (Ref sig .tc) := [main_v0, main_cst, main_v1, main_cst_0, main_v2]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor

abbrev hostOps2_W : List (Ref sig .tc) := [main_v7, main_v8, main_v9, main_v10, main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl

theorem hostOps2_args : ∀ a ∈ argRefs, a ∉ hostOps2_W := ListAll.forall_mem_of_all_decide (by decide +kernel)

end Cert.Proof.KTwo

end
-- ==== Proof.KTwoFold.lean ====
/-
  The contents of every buffer between the operations and the calls, one valuation after another.
-/
module

public import proofs.«01_k».proof.Proof.KTwoRegion0
public import proofs.«01_k».proof.Proof.KTwoRegion1
public import proofs.«01_k».proof.Proof.KTwoHosts

@[expose] public section

set_option maxRecDepth 16384

noncomputable section

namespace Cert.Proof.KTwo

open Cert.KernelIdeal Cert.KernelIdeal.Gen Cert.Proof.KSkel Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx)
open Cert.Proof.KTypes (UU UP K D EH EP 𝒱₀)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W2s (c : Dev nD) : Valuation τ sig (Elt F) :=
  Function.update (W2 m ρ c) (Proc.devRef .tc main_v4) (outK (A := Elt F .f32) (W2 m ρ c (Proc.devRef .tc main_arg1)) (W2 m ρ c (Proc.devRef .tc main_v3_0)))
theorem W2s_out (c : Dev nD) : W2s m ρ c (Proc.devRef .tc main_v4)
    = outK (A := Elt F .f32) (W2 m ρ c (Proc.devRef .tc main_arg1)) (W2 m ρ c (Proc.devRef .tc main_v3_0)) := Function.update_self ..
theorem W2s_ne (c : Dev nD) (b : DevRef τ sig) (hb : b ≠ Proc.devRef .tc main_v4) : W2s m ρ c b = W2 m ρ c b := Function.update_of_ne hb ..
theorem W2s_of (c : Dev nD) (r : Ref sig .tc) (h : r ≠ main_v4) : W2s m ρ c (Proc.devRef .tc r) = W2 m ρ c (Proc.devRef .tc r) :=
  W2s_ne m ρ c _ fun e => h (Proc.devRef_injective _ e)
theorem W2s_args (c : Dev nD) : ∀ a ∈ argRefs, W2s m ρ c (Proc.devRef .tc a) = m ((c : Thread nD τ).loc a) :=
  fun a ha => (W2s_of m ρ c a (ListAll.forall_mem_of_all_decide (p := fun a => a ≠ main_v4) (by decide +kernel) a ha)).trans (W2_args m ρ c a ha)

abbrev V2s : (c : Dev nD) → (b : Ref sig .tc) → Buf (Elt F) ((c : Thread nD τ).loc b) := fun c b => W2s m ρ c b

def W3 (c : Dev nD) : Valuation τ sig (Elt F) :=
  Pipeline.withArrays spec2 c (W2s m ρ c) fun w => (dat1 (V2s m ρ) c).arrAt w cfg2.N
theorem W3_arr (c : Dev nD) (w : Fin cfg2.W) :
    W3 m ρ c (Proc.devRef .tc (Pipeline.arrRef spec2 w)) = (dat1 (V2s m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2s m ρ c (Proc.devRef .tc b) := by
  unfold W3; exact Pipeline.withArrays_of_ne spec2 c _ _ b hb

theorem W3_of (c : Dev nD) (r : Ref sig .tc) (h : ∀ w : Fin cfg2.W, Pipeline.arrRef spec2 w = r → (cfg2.win w).isOut = false) :
    W3 m ρ c (Proc.devRef .tc r) = W2s m ρ c (Proc.devRef .tc r) := by
  by_cases hw : ∃ w : Fin cfg2.W, Pipeline.arrRef spec2 w = r
  · obtain ⟨w, rfl⟩ := hw
    exact (W3_arr m ρ c w).trans (((dat1 (V2s m ρ) c).arrAt_in w (h w rfl) _).trans (A_eq1 (V2s m ρ) c w))
  · exact W3_of_ne m ρ c r fun w e => hw ⟨w, e⟩

theorem argsIn1 : ∀ a ∈ argRefs, ∀ w : Fin cfg2.W, Pipeline.arrRef spec2 w = a → (cfg2.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2s_args m ρ c a ha)

abbrev V3 : (c : Dev nD) → (b : Ref sig .tc) → Buf (Elt F) ((c : Thread nD τ).loc b) := fun c b => W3 m ρ c b

theorem hF1 (c : Dev nD) (w : Fin cfg2.W) : (dat1 (V2s m ρ) c).arrAt w cfg2.N = V3 m ρ c (Pipeline.arrRef spec2 w) :=
  (W3_arr m ρ c w).symm
theorem hrest1 (c : Dev nD) : ∀ b, b ∉ Finset.univ.image (Pipeline.arrRef spec2) → V3 m ρ c b = V2s m ρ c b :=
  fun b hb => W3_of_ne m ρ c b fun w e => hb (Finset.mem_image.mpr ⟨w, Finset.mem_univ _, e⟩)

def W3s (c : Dev nD) : Valuation τ sig (Elt F) :=
  Function.update (W3 m ρ c) (Proc.devRef .tc main_v6) (outK (A := Elt F .f32) (W3 m ρ c (Proc.devRef .tc main_arg1)) (W3 m ρ c (Proc.devRef .tc main_v5_0)))
theorem W3s_out (c : Dev nD) : W3s m ρ c (Proc.devRef .tc main_v6)
    = outK (A := Elt F .f32) (W3 m ρ c (Proc.devRef .tc main_arg1)) (W3 m ρ c (Proc.devRef .tc main_v5_0)) := Function.update_self ..
theorem W3s_ne (c : Dev nD) (b : DevRef τ sig) (hb : b ≠ Proc.devRef .tc main_v6) : W3s m ρ c b = W3 m ρ c b := Function.update_of_ne hb ..
theorem W3s_of (c : Dev nD) (r : Ref sig .tc) (h : r ≠ main_v6) : W3s m ρ c (Proc.devRef .tc r) = W3 m ρ c (Proc.devRef .tc r) :=
  W3s_ne m ρ c _ fun e => h (Proc.devRef_injective _ e)
theorem W3s_args (c : Dev nD) : ∀ a ∈ argRefs, W3s m ρ c (Proc.devRef .tc a) = m ((c : Thread nD τ).loc a) :=
  fun a ha => (W3s_of m ρ c a (ListAll.forall_mem_of_all_decide (p := fun a => a ≠ main_v6) (by decide +kernel) a ha)).trans (W3_args m ρ c a ha)

abbrev V3s : (c : Dev nD) → (b : Ref sig .tc) → Buf (Elt F) ((c : Thread nD τ).loc b) := fun c b => W3s m ρ c b

abbrev W4 : Dev nD → Valuation τ sig (Elt F) := fun c => StableHlo.after hostOps2 (W3s m ρ c)

theorem W4_of (c : Dev nD) (r : Ref sig .tc) (h : r ∉ hostOps2_W) : W4 m ρ c (Proc.devRef .tc r) = W3s m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3s_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
end Cert.Proof.KTwo

end
-- ==== Proof.KRun.lean ====
/-
  The whole kernel's four results as functions of its two arguments.
-/
module

public import proofs.«01_k».proof.Proof.KRun0
public import proofs.«01_k».proof.Proof.KRun1
public import proofs.«01_k».proof.Proof.KTwoFold
public import proofs.«01_k».proof.Proof.CodesRun
public import Idealize.ShloMosaic.Lib.StableHlo.Run

@[expose] public section

noncomputable section

namespace Cert.Proof.KRun

open Cert.KernelIdeal Cert.KernelIdeal.Gen Cert.Proof.KTwo Idealize.ShloMosaic Idealize.ShloMosaic.TcCoe Idealize.SL.Sem
open Cert.Proof.CodesAcc (x3 idxOut)
open Cert.Proof.CodesRun (zeroC zeroL halfC halfL lossAll perpAll idxAll)

variable {F : FTy → Type} [FloatOps F]

/-- The rows of both calls. -/
def rowsAll (X : Vec F S16x256x32x32 .f32) (E : Vec F S256x2048 .f32) : FVec F S16x256x32x32 .f32 :=
  shapeCast S16x256x32x32 (concatenate S16x256x1024 0
    [⟨S8x256x1024, outK E (idxOut (x3 X) 0 E)⟩, ⟨S8x256x1024, outK E (idxOut (x3 X) 8 E)⟩]
    concatenates_S8x256x1024_S8x256x1024_S16x256x1024_d0) shapeCasts_S16x256x1024_S16x256x32x32

variable (m : (ℓ : Loc nD τ sig) → Buf (Elt F) ℓ) (ρ : Dev nD → PrngReg) (c : Dev nD)

theorem V1_x : V1 m ρ c main_v0 = x3 (m (c.tc.loc main_arg0)) := by
  show StableHlo.after hostOps0 (W0 m ρ c) main_v0 = _
  after_results <;> rfl
theorem V1_c : V1 m ρ c main_v1 = zeroC := by
  show StableHlo.after hostOps0 (W0 m ρ c) main_v1 = _
  after_results <;> rfl
theorem V1_l : V1 m ρ c main_v2 = zeroL := by
  show StableHlo.after hostOps0 (W0 m ρ c) main_v2 = _
  after_results <;> rfl
theorem V1_e : V1 m ρ c main_arg1 = m (c.tc.loc main_arg1) := W1_args m ρ c main_arg1 (by decide)

theorem W2_a : W2 m ρ c main_v3_0 = idxOut (x3 (m (c.tc.loc main_arg0))) 0 (m (c.tc.loc main_arg1)) := by
  refine (W2_arr m ρ c 4).trans ((KRun0.final_idx (V1 m ρ) c).trans ?_)
  rw [V1_x, V1_e]
theorem V2_x : V2s m ρ c main_v0 = x3 (m (c.tc.loc main_arg0)) :=
  (W2s_of m ρ c main_v0 (by decide)).trans ((W2_of m ρ c main_v0 (by decide +kernel)).trans (V1_x m ρ c))
theorem V2_e : V2s m ρ c main_arg1 = m (c.tc.loc main_arg1) := W2s_args m ρ c main_arg1 (by decide)
theorem V2_c : V2s m ρ c main_v3_1 = halfC (m (c.tc.loc main_arg0)) (m (c.tc.loc main_arg1)) := by
  refine (W2s_of m ρ c main_v3_1 (by decide)).trans ((W2_arr m ρ c 5).trans ((KRun0.final_counts (V1 m ρ) c).trans ?_))
  rw [V1_x, V1_e, V1_c]; rfl
theorem V2_l : V2s m ρ c main_v3_2 = halfL (m (c.tc.loc main_arg0)) (m (c.tc.loc main_arg1)) := by
  refine (W2s_of m ρ c main_v3_2 (by decide)).trans ((W2_arr m ρ c 6).trans ((KRun0.final_sum (V1 m ρ) c).trans ?_))
  rw [V1_x, V1_e, V1_l]; rfl
theorem V2_4 : V2s m ρ c main_v4 = outK (m (c.tc.loc main_arg1)) (idxOut (x3 (m (c.tc.loc main_arg0))) 0 (m (c.tc.loc main_arg1))) := by
  have he : W2 m ρ c (Proc.devRef .tc main_arg1) = _ := W2_args m ρ c main_arg1 (by decide)
  have ha := W2_a m ρ c
  refine (W2s_out m ρ c).trans ?_
  rw [he, ha]

theorem W3_b : W3 m ρ c main_v5_0 = idxOut (x3 (m (c.tc.loc main_arg0))) 8 (m (c.tc.loc main_arg1)) := by
  refine (W3_arr m ρ c 4).trans ((KRun1.final_idx (V2s m ρ) c).trans ?_)
  rw [V2_x, V2_e]
theorem V3_a : W3s m ρ c main_v3_0 = idxOut (x3 (m (c.tc.loc main_arg0))) 0 (m (c.tc.loc main_arg1)) :=
  (W3s_of m ρ c main_v3_0 (by decide)).trans ((W3_of m ρ c main_v3_0 (by decide +kernel)).trans
    ((W2s_of m ρ c main_v3_0 (by decide)).trans (W2_a m ρ c)))
theorem V3_b : W3s m ρ c main_v5_0 = idxOut (x3 (m (c.tc.loc main_arg0))) 8 (m (c.tc.loc main_arg1)) :=
  (W3s_of m ρ c main_v5_0 (by decide)).trans (W3_b m ρ c)
theorem V3_l : W3s m ρ c main_v5_3 = CodesRun1.lossOut' (x3 (m (c.tc.loc main_arg0))) (m (c.tc.loc main_arg1))
    (halfL (m (c.tc.loc main_arg0)) (m (c.tc.loc main_arg1))) := by
  refine (W3s_of m ρ c main_v5_3 (by decide)).trans ((W3_arr m ρ c 7).trans ((KRun1.final_loss (V2s m ρ) c).trans ?_))
  rw [V2_x, V2_e, V2_l]
theorem V3_p : W3s m ρ c main_v5_4 = CodesRun1.perpOut' (x3 (m (c.tc.loc main_arg0))) (m (c.tc.loc main_arg1))
    (halfC (m (c.tc.loc main_arg0)) (m (c.tc.loc main_arg1))) := by
  refine (W3s_of m ρ c main_v5_4 (by decide)).trans ((W3_arr m ρ c 8).trans ((KRun1.final_perp (V2s m ρ) c).trans ?_))
  rw [V2_x, V2_e, V2_c]
theorem V3_4 : W3s m ρ c main_v4 = outK (m (c.tc.loc main_arg1)) (idxOut (x3 (m (c.tc.loc main_arg0))) 0 (m (c.tc.loc main_arg1))) :=
  (W3s_of m ρ c main_v4 (by decide)).trans ((W3_of m ρ c main_v4 (by decide +kernel)).trans (V2_4 m ρ c))
theorem V3_6 : W3s m ρ c main_v6 = outK (m (c.tc.loc main_arg1)) (idxOut (x3 (m (c.tc.loc main_arg0))) 8 (m (c.tc.loc main_arg1))) := by
  have he : W3 m ρ c (Proc.devRef .tc main_arg1) = _ := W3_args m ρ c main_arg1 (by decide)
  have hb := W3_b m ρ c
  refine (W3s_out m ρ c).trans ?_
  rw [he, hb]

section
variable (V : Valuation τ sig (Elt F))
theorem tail8 : StableHlo.after hostOps2 V main_v8 = shapeCast S16x256x32x32 (concatenate S16x256x1024 0
    [⟨S8x256x1024, (V main_v4 : Vec F S8x256x1024 .f32)⟩, ⟨S8x256x1024, (V main_v6 : Vec F S8x256x1024 .f32)⟩]
    concatenates_S8x256x1024_S8x256x1024_S16x256x1024_d0) shapeCasts_S16x256x1024_S16x256x32x32 := by
  after_results <;> rfl
theorem tail11 : StableHlo.after hostOps2 V main_v11 = concatenate S16384 0
    [⟨S8192, shapeCast S8192 (V main_v3_0 : Vec F S64x128 .i32) shapeCasts_S64x128_S8192⟩,
     ⟨S8192, shapeCast S8192 (V main_v5_0 : Vec F S64x128 .i32) shapeCasts_S64x128_S8192⟩] concatenates_S8192_S8192_S16384_d0 := by
  after_results <;> rfl
theorem tail12 : StableHlo.after hostOps2 V main_v12 = shapeCast S_ (V main_v5_3 : Vec F S1x1 .f32) shapeCasts_S1x1_S_ := by
  after_results <;> rfl
theorem tail13 : StableHlo.after hostOps2 V main_v13 = shapeCast S_ (V main_v5_4 : Vec F S1x1 .f32) shapeCasts_S1x1_S_ := by
  after_results <;> rfl
end

theorem res8 : W4 m ρ c main_v8 = rowsAll (m (c.tc.loc main_arg0)) (m (c.tc.loc main_arg1)) := by
  refine (tail8 _).trans ?_
  rw [V3_4, V3_6]; rfl
theorem res11 : W4 m ρ c main_v11 = idxAll (m (c.tc.loc main_arg0)) (m (c.tc.loc main_arg1)) := by
  refine (tail11 _).trans ?_
  rw [V3_a, V3_b]; rfl
theorem res12 : W4 m ρ c main_v12 = lossAll (m (c.tc.loc main_arg0)) (m (c.tc.loc main_arg1)) := by
  refine (tail12 _).trans ?_
  rw [V3_l]; rfl
theorem res13 : W4 m ρ c main_v13 = perpAll (m (c.tc.loc main_arg0)) (m (c.tc.loc main_arg1)) := by
  refine (tail13 _).trans ?_
  rw [V3_p]; rfl

end Cert.Proof.KRun

end
-- ==== Proof.KRef.lean ====
/-
  The whole reference's run: its operations in order, and its four results as functions of its arguments.
-/
module

public import proofs.«01_k».proof.Proof.Gen.KernelRefIdeal
public import proofs.«01_k».proof.Proof.CodesRef
public import Idealize.ShloMosaic.Lib.StableHlo.Run
public import Idealize.ShloMosaic.Lib.Tactic
public import Idealize.ShloMosaic.Lib.Quiescent

@[expose] public section

noncomputable section

namespace Cert.Proof.KRef

open Cert.KernelRefIdeal Cert.KernelRefIdeal.Gen Idealize.ShloMosaic Idealize.ShloMosaic.TcCoe Idealize.SL.Sem Idealize.ShloMosaic.StableHlo
open Cert.Proof.CodesRef (flat dist code hot diff latent loss probs perp)

variable {F : FTy → Type} [FloatOps F]

/-- The chosen rows. -/
def chosen (E : FVec F S256x2048 .f32) (H : FVec F S16384x2048 .f32) : FVec F S16384x256 .f32 :=
  Host.dotGeneral dot_S16384x2048_S2048x256_S16384x256_1_0_0_1_n_n none H
    (transpose S2048x256 [1, 0] E transposes_S256x2048_S2048x256_1_0)

/-- The input moved onto the chosen rows. -/
def moved (X : FVec F S16x256x32x32 .f32) (Q : FVec F S16384x256 .f32) : FVec F S16x256x32x32 .f32 :=
  addf X (subf (transpose S16x256x32x32 [0, 3, 1, 2] (shapeCast S16x32x32x256 Q shapeCasts_S16384x256_S16x32x32x256)
    transposes_S16x32x32x256_S16x256x32x32_0_3_1_2) X)

/-- The operations before the nearest codes. -/
abbrev opsA : List (HloOp τ sig (Elt F)) :=
  [ unary main_arg0 main_v0 ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)),
    reshape main_v0 main_v1 (rfl : (.f32 : EltTy) = .f32) shapeCasts_S16x32x32x256_S16384x256,
    binary main_v1 main_v1 main_v2 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S256x2048, .f32⟩ : BufTy).Contents (Elt F) → (⟨S256x2048, .f32⟩ : BufTy).Contents (Elt F) → (⟨S256x2048, .f32⟩ : BufTy).Contents (Elt F)),
    nullary main_cst_0 (constant S_ .f32 0x00000000#32),
    binary main_v5 main_cst_0 main_v6 ((fun x v => Host.reduceAdd x v reducesTo_S256x2048_S2048_d0 h_S_) : (⟨S256x2048, .f32⟩ : BufTy).Contents (Elt F) → (⟨S_, .f32⟩ : BufTy).Contents (Elt F) → (⟨S2048, .f32⟩ : BufTy).Contents (Elt F)),
    unary main_v6 main_v7 (broadcastInDim S1x2048 ![1] bcast_S2048_S1x2048_1 : (⟨S2048, .f32⟩ : BufTy).Contents (Elt F) → (⟨S1x2048, .f32⟩ : BufTy).Contents (Elt F)),
    unary main_v4 main_v8 (broadcastInDim S16384x2048 ![0, 1] bcast_S16384x1_S16384x2048_0_1 : (⟨S16384x1, .f32⟩ : BufTy).Contents (Elt F) → (⟨S16384x2048, .f32⟩ : BufTy).Contents (Elt F)),
    unary main_v7 main_v9 (broadcastInDim S16384x2048 ![0, 1] bcast_S1x2048_S16384x2048_0_1 : (⟨S1x2048, .f32⟩ : BufTy).Contents (Elt F) → (⟨S16384x2048, .f32⟩ : BufTy).Contents (Elt F)),
    binary main_v8 main_v9 main_v10 (addf : (⟨S16384x2048, .f32⟩ : BufTy).Contents (Elt F) → (⟨S16384x2048, .f32⟩ : BufTy).Contents (Elt F) → (⟨S16384x2048, .f32⟩ : BufTy).Contents (Elt F)),
    binary main_v1 main_arg1 main_v11 ((fun l r => Host.dotGeneral dot_S16384x256_S256x2048_S16384x2048_1_0_0_1_n_n none l r) : (⟨S16384x256, .f32⟩ : BufTy).Contents (Elt F) → (⟨S256x2048, .f32⟩ : BufTy).Contents (Elt F) → (⟨S16384x2048, .f32⟩ : BufTy).Contents (Elt F)),
    nullary main_cst_1 (constant S_ .f32 0x40000000#32),
    unary main_cst_1 main_v12 (broadcastInDim S16384x2048 ![] bcast_S_S16384x2048 : (⟨S_, .f32⟩ : BufTy).Contents (Elt F) → (⟨S16384x2048, .f32⟩ : BufTy).Contents (Elt F)),
    binary main_v12 main_v11 main_v13 (mulf : (⟨S16384x2048, .f32⟩ : BufTy).Contents (Elt F) → (⟨S16384x2048, .f32⟩ : BufTy).Contents (Elt F) → (⟨S16384x2048, .f32⟩ : BufTy).Contents (Elt F)),
    binary main_v10 main_v13 main_v14 (subf : (⟨S16384x2048, .f32⟩ : BufTy).Contents (Elt F) → (⟨S16384x2048, .f32⟩ : BufTy).Contents (Elt F) → (⟨S16384x2048, .f32⟩ : BufTy).Contents (Elt F)) ]
/-- The operations of the nearest codes and of the one-hot rows. -/
abbrev opsB : List (HloOp τ sig (Elt F)) :=
  [ nullary main_call0_v0 (iotaInDim S16384x2048 32 1),
    nullary main_call0_cst (constant S_ .f32 0x7F800000#32),
    nullary main_call0_c (constantI S_ 32 0#32),
    quaternary main_v14 main_call0_v0 main_call0_cst main_call0_c main_call0_v1_0 ((fun x y u v j => (Host.argReduce reducer_argmin_f32_i32 x y u v reducesTo_S16384x2048_S16384_d1 h_S_ j).1) : (⟨S16384x2048, .f32⟩ : BufTy).Contents (Elt F) → (⟨S16384x2048, .i32⟩ : BufTy).Contents (Elt F) → (⟨S_, .f32⟩ : BufTy).Contents (Elt F) → (⟨S_, .i32⟩ : BufTy).Contents (Elt F) → (⟨S16384, .f32⟩ : BufTy).Contents (Elt F)),
    quaternary main_v14 main_call0_v0 main_call0_cst main_call0_c main_v15 ((fun x y u v j => (Host.argReduce reducer_argmin_f32_i32 x y u v reducesTo_S16384x2048_S16384_d1 h_S_ j).2) : (⟨S16384x2048, .f32⟩ : BufTy).Contents (Elt F) → (⟨S16384x2048, .i32⟩ : BufTy).Contents (Elt F) → (⟨S_, .f32⟩ : BufTy).Contents (Elt F) → (⟨S_, .i32⟩ : BufTy).Contents (Elt F) → (⟨S16384, .i32⟩ : BufTy).Contents (Elt F)),
    unary main_v15 main_call1_v0 (broadcastInDim S16384x1 ![0] bcast_S16384_S16384x1_0 : (⟨S16384, .i32⟩ : BufTy).Contents (Elt F) → (⟨S16384x1, .i32⟩ : BufTy).Contents (Elt F)),
    nullary main_call1_v1 (iotaInDim S1x2048 32 1),
    unary main_call1_v0 main_call1_v2 (broadcastInDim S16384x2048 ![0, 1] bcast_S16384x1_S16384x2048_0_1 : (⟨S16384x1, .i32⟩ : BufTy).Contents (Elt F) → (⟨S16384x2048, .i32⟩ : BufTy).Contents (Elt F)),
    unary main_call1_v1 main_call1_v3 (broadcastInDim S16384x2048 ![0, 1] bcast_S1x2048_S16384x2048_0_1 : (⟨S1x2048, .i32⟩ : BufTy).Contents (Elt F) → (⟨S16384x2048, .i32⟩ : BufTy).Contents (Elt F)),
    binary main_call1_v2 main_call1_v3 main_call1_v4 (cmpi .eq : (⟨S16384x2048, .i32⟩ : BufTy).Contents (Elt F) → (⟨S16384x2048, .i32⟩ : BufTy).Contents (Elt F) → (⟨S16384x2048, .i1⟩ : BufTy).Contents (Elt F)),
    unary main_call1_v4 main_v16 (uitofp .f32 : (⟨S16384x2048, .i1⟩ : BufTy).Contents (Elt F) → (⟨S16384x2048, .f32⟩ : BufTy).Contents (Elt F)) ]
/-- The operations after them. -/
abbrev opsC : List (HloOp τ sig (Elt F)) :=
  [ unary main_arg1 main_v17 ((transpose S2048x256 [1, 0] · transposes_S256x2048_S2048x256_1_0) : (⟨S256x2048, .f32⟩ : BufTy).Contents (Elt F) → (⟨S2048x256, .f32⟩ : BufTy).Contents (Elt F)),
    binary main_v16 main_v17 main_v18 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    binary main_v18 main_v1 main_v19 (subf : (⟨S16384x256, .f32⟩ : BufTy).Contents (Elt F) → (⟨S16384x256, .f32⟩ : BufTy).Contents (Elt F) → (⟨S16384x256, .f32⟩ : BufTy).Contents (Elt F)),
    binary main_v19 main_v19 main_v20 (mulf : (⟨S16384x256, .f32⟩ : BufTy).Contents (Elt F) → (⟨S16384x256, .f32⟩ : BufTy).Contents (Elt F) → (⟨S16384x256, .f32⟩ : BufTy).Contents (Elt F)),
    nullary main_cst_2 (constant S_ .f32 0x00000000#32),
    binary main_v20 main_cst_2 main_v21 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_3 (constant S_ .f32 0x4A800000#32),
    binary main_v21 main_cst_3 main_v22 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v22 main_v23 (mulf : (⟨S_, .f32⟩ : BufTy).Contents (Elt F) → (⟨S_, .f32⟩ : BufTy).Contents (Elt F) → (⟨S_, .f32⟩ : BufTy).Contents (Elt F)),
    binary main_v22 main_v23 main_v24 (addf : (⟨S_, .f32⟩ : BufTy).Contents (Elt F) → (⟨S_, .f32⟩ : BufTy).Contents (Elt F) → (⟨S_, .f32⟩ : BufTy).Contents (Elt F)),
    nullary main_cst_5 (constant S_ .f32 0x00000000#32),
    binary main_v16 main_cst_5 main_v25 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_6 (constant S_ .f32 0x46800000#32),
    unary main_cst_6 main_v26 (broadcastInDim S2048 ![] bcast_S_S2048 : (⟨S_, .f32⟩ : BufTy).Contents (Elt F) → (⟨S2048, .f32⟩ : BufTy).Contents (Elt F)),
    binary main_v25 main_v26 main_v27 (Host.divf : (⟨S2048, .f32⟩ : BufTy).Contents (Elt F) → (⟨S2048, .f32⟩ : BufTy).Contents (Elt F) → (⟨S2048, .f32⟩ : BufTy).Contents (Elt F)),
    nullary main_cst_7 (constant S_ .f32 0x2EDBE6FF#32),
    unary main_cst_7 main_v28 (broadcastInDim S2048 ![] bcast_S_S2048 : (⟨S_, .f32⟩ : BufTy).Contents (Elt F) → (⟨S2048, .f32⟩ : BufTy).Contents (Elt F)),
    binary main_v27 main_v28 main_v29 (addf : (⟨S2048, .f32⟩ : BufTy).Contents (Elt F) → (⟨S2048, .f32⟩ : BufTy).Contents (Elt F) → (⟨S2048, .f32⟩ : BufTy).Contents (Elt F)),
    unary main_v29 main_v30 (Host.log : (⟨S2048, .f32⟩ : BufTy).Contents (Elt F) → (⟨S2048, .f32⟩ : BufTy).Contents (Elt F)),
    binary main_v27 main_v30 main_v31 (mulf : (⟨S2048, .f32⟩ : BufTy).Contents (Elt F) → (⟨S2048, .f32⟩ : BufTy).Contents (Elt F) → (⟨S2048, .f32⟩ : BufTy).Contents (Elt F)),
    nullary main_cst_8 (constant S_ .f32 0x00000000#32),
    binary main_v31 main_cst_8 main_v32 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    unary main_v32 main_v33 (Host.negf : (⟨S_, .f32⟩ : BufTy).Contents (Elt F) → (⟨S_, .f32⟩ : BufTy).Contents (Elt F)),
    unary main_v33 main_v34 (Host.exp : (⟨S_, .f32⟩ : BufTy).Contents (Elt F) → (⟨S_, .f32⟩ : BufTy).Contents (Elt F)) ]
/-- The last four operations: the first result. -/
abbrev opsD : List (HloOp τ sig (Elt F)) :=
  [ reshape main_v18 main_v35 (rfl : (.f32 : EltTy) = .f32) shapeCasts_S16384x256_S16x32x32x256,
    unary main_v35 main_v36 ((transpose S16x256x32x32 [0, 3, 1, 2] · transposes_S16x32x32x256_S16x256x32x32_0_3_1_2) : (⟨S16x32x32x256, .f32⟩ : BufTy).Contents (Elt F) → (⟨S16x256x32x32, .f32⟩ : BufTy).Contents (Elt F)),
    binary main_v36 main_arg0 main_v37 (subf : (⟨S16x256x32x32, .f32⟩ : BufTy).Contents (Elt F) → (⟨S16x256x32x32, .f32⟩ : BufTy).Contents (Elt F) → (⟨S16x256x32x32, .f32⟩ : BufTy).Contents (Elt F)),
    binary main_arg0 main_v37 main_v38 (addf : (⟨S16x256x32x32, .f32⟩ : BufTy).Contents (Elt F) → (⟨S16x256x32x32, .f32⟩ : BufTy).Contents (Elt F) → (⟨S16x256x32x32, .f32⟩ : BufTy).Contents (Elt F)) ]

abbrev ops : List (HloOp τ sig (Elt F)) := opsA ++ (opsB ++ (opsC ++ opsD))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., reshape_bufs_sub .., unary_bufs_sub .., binary_bufs_sub .., binary_bufs_sub ..⟩

theorem after_app (l₁ l₂ : List (HloOp τ sig (Elt F))) (V : Valuation τ sig (Elt F)) :
    after (l₁ ++ l₂) V = after l₂ (after l₁ V) := by
  induction l₁ generalizing V with
  | nil => rfl
  | cons op l ih => exact ih _

section
variable (V : Valuation τ sig (Elt F))

set_option maxHeartbeats 4000000

theorem a1 : after (opsA (F := F)) V main_v1 = flat (V main_arg0) := by after_results_simp <;> rfl
theorem a14 : after (opsA (F := F)) V main_v14 = dist (flat (V main_arg0)) (V main_arg1) := by after_results_simp <;> rfl
theorem aX : after (opsA (F := F)) V main_arg0 = V main_arg0 := by after_results_simp <;> rfl
theorem aE : after (opsA (F := F)) V main_arg1 = V main_arg1 := by after_results_simp <;> rfl
theorem b1 : after (opsB (F := F)) V main_v1 = V main_v1 := by after_results_simp <;> rfl
theorem b15 : after (opsB (F := F)) V main_v15 = code (V main_v14) := by after_results_simp <;> rfl
theorem b16 : after (opsB (F := F)) V main_v16 = hot (code (V main_v14)) := by after_results_simp <;> rfl
theorem bX : after (opsB (F := F)) V main_arg0 = V main_arg0 := by after_results_simp <;> rfl
theorem bE : after (opsB (F := F)) V main_arg1 = V main_arg1 := by after_results_simp <;> rfl
theorem c15 : after (opsC (F := F)) V main_v15 = V main_v15 := by after_results_simp <;> rfl
theorem cX : after (opsC (F := F)) V main_arg0 = V main_arg0 := by after_results_simp <;> rfl
theorem cE : after (opsC (F := F)) V main_arg1 = V main_arg1 := by after_results_simp <;> rfl
theorem c18 : after (opsC (F := F)) V main_v18 = chosen (V main_arg1) (V main_v16) := by after_results_simp <;> rfl
theorem c24 : after (opsC (F := F)) V main_v24 = loss (latent (diff (V main_v1) (V main_arg1) (V main_v16))) := by
  after_results_simp <;> rfl
theorem c34 : after (opsC (F := F)) V main_v34 = perp (probs (V main_v16)) := by
  after_results_simp <;> rfl
theorem d15 : after (opsD (F := F)) V main_v15 = V main_v15 := by after_results_simp <;> rfl
theorem d24 : after (opsD (F := F)) V main_v24 = V main_v24 := by after_results_simp <;> rfl
theorem d34 : after (opsD (F := F)) V main_v34 = V main_v34 := by after_results_simp <;> rfl
theorem dX : after (opsD (F := F)) V main_arg0 = V main_arg0 := by after_results_simp <;> rfl
theorem dE : after (opsD (F := F)) V main_arg1 = V main_arg1 := by after_results_simp <;> rfl
theorem d38 : after (opsD (F := F)) V main_v38 = moved (V main_arg0) (V main_v18) := by after_results_simp <;> rfl
end

section
variable (m : (ℓ : Loc nD τ sig) → Buf (Elt F) ℓ) (c : Dev nD)

abbrev iArg : IVec S16384 32 := code (dist (flat (m (c.tc.loc main_arg0))) (m (c.tc.loc main_arg1)))

theorem res15 : after (ops (F := F)) (fun b => m (c, b)) main_v15 = iArg m c := by
  rw [after_app, after_app, after_app, d15, c15, b15, a14]

theorem res24 : after (ops (F := F)) (fun b => m (c, b)) main_v24
    = loss (latent (diff (flat (m (c.tc.loc main_arg0))) (m (c.tc.loc main_arg1)) (hot (iArg m c)))) := by
  rw [after_app, after_app, after_app, d24, c24, b1, b16, bE, a1, a14, aE]

theorem res34 : after (ops (F := F)) (fun b => m (c, b)) main_v34 = perp (probs (hot (iArg m c))) := by
  rw [after_app, after_app, after_app, d34, c34, b16, a14]

theorem res38 : after (ops (F := F)) (fun b => m (c, b)) main_v38
    = moved (m (c.tc.loc main_arg0)) (chosen (m (c.tc.loc main_arg1)) (hot (iArg m c))) := by
  rw [after_app, after_app, after_app, d38, cX, c18, bX, bE, b16, aX, aE, a14]

theorem resX : after (ops (F := F)) (fun b => m (c, b)) main_arg0 = m (c.tc.loc main_arg0) := by
  rw [after_app, after_app, after_app, dX, cX, bX, aX]
theorem resE : after (ops (F := F)) (fun b => m (c, b)) main_arg1 = m (c.tc.loc main_arg1) := by
  rw [after_app, after_app, after_app, dE, cE, bE, aE]
end

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = moved (m (c.tc.loc main_arg0)) (chosen (m (c.tc.loc main_arg1)) (hot (iArg m c)))
      ∧ r.2.mem ((c.tc : Thread nD τ).loc main_v24)
        = loss (latent (diff (flat (m (c.tc.loc main_arg0))) (m (c.tc.loc main_arg1)) (hot (iArg m c))))
      ∧ r.2.mem ((c.tc : Thread nD τ).loc main_v34) = perp (probs (hot (iArg m c)))
      ∧ r.2.mem ((c.tc : Thread nD τ).loc main_v15) = iArg m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (res38 m c), (h c main_v24).trans (res24 m c), (h c main_v34).trans (res34 m c),
      (h c main_v15).trans (res15 m c), (h c main_arg0).trans (resX m c), (h c main_arg1).trans (resE m c)⟩)
    (run_seq scopedRefs_eq scopedSems_eq defs main (fun _ => ops) main_eq (fun _ => ops_sub) m ρ)

end Cert.Proof.KRef

end
-- ==== Proof.KValue.lean ====
/-
  The whole kernel's first result is the reference's, at the ideal values, under the precondition; and the codes the
  lookups are given are below the table's width.
-/
module

public import proofs.«01_k».proof.Proof.CodesValue
public import proofs.«01_k».proof.Proof.KRun
public import proofs.«01_k».proof.Proof.KRef

@[expose] public section

noncomputable section

namespace Cert.Proof.KValue

open Cert.CodesIdeal Cert.CodesIdeal.Gen Idealize.ShloMosaic Idealize.ShloMosaic.ValueIdx Idealize.ShloMosaic.Ideal
open Cert.Proof.CodesAcc Cert.Proof.CodesPre Cert.Proof.CodesKer
open Cert.Proof.Steps (word)

variable (X : FVec Ideal S16x256x32x32 .f32) (E : FVec Ideal S256x2048 .f32)
variable (hX : ∀ i, ∃ r : ℝ, X i = (r : EReal)) (hE : ∀ i, ∃ r : ℝ, E i = (r : EReal))
variable (b : Fin 16384 → Fin 2048) (hb : ∀ n k, k ≠ b n → D X E (ix2 n (b n)) < D X E (ix2 n k))
include hX hE hb

theorem idxOut_best (o : ℕ) (ho : o ≤ 8) (q : Fin 64) (p : Fin 128) : idxOut (F := Ideal) (x3 (F := Ideal) X) o E (ix2 q p)
    = BitVec.ofNat 32 (b ⟨1024 * o + 128 * q.val + p.val, by omega⟩).val := by
  show k0_pay8 (F := Ideal) (xb (F := Ideal) (x3 (F := Ideal) X) o (q.val / 8)) E (ix2 (⟨q.val % 8, by omega⟩ : Fin 8) p) = _
  rw [pay8_best X E hX hE b hb o (q.val / 8) (by omega)]
  refine congrArg (fun n => BitVec.ofNat 32 (b n).val) (Fin.ext ?_)
  show (1024 * (o + q.val / 8) + (q.val % 8 * 128 + p.val)) % 16384 = 1024 * o + 128 * q.val + p.val
  omega

theorem idxOut_range (o : ℕ) (ho : o ≤ 8) : Steps.InRange (idxOut (F := Ideal) (x3 (F := Ideal) X) o E) := fun j => by
  obtain ⟨q, p, rfl⟩ : ∃ (q : Fin 64) (p : Fin 128), j = ix2 q p := ⟨j 0, j 1, eq_ix2 j⟩
  refine (congrArg BitVec.toNat (idxOut_best X E hX hE b hb o ho q p)).trans_lt ?_
  rw [BitVec.toNat_ofNat]
  exact lt_of_le_of_lt (Nat.mod_le _ _) (Fin.isLt _)

theorem outK_best (o : ℕ) (ho : o ≤ 8) (t : Fin 8) (d : Fin 256) (p : Fin 1024) :
    KTwo.outK (A := EReal) E (idxOut (F := Ideal) (x3 (F := Ideal) X) o E) (ix3 t d p) = E (ix2 d (b ⟨1024 * o + 1024 * t.val + p.val, by omega⟩)) := by
  show E (ix2 d ⟨(word (idxOut (F := Ideal) (x3 (F := Ideal) X) o E) (8 * t.val + p.val / 128) (p.val % 128)).toNat % 2048, _⟩) = _
  refine congrArg (fun k => E (ix2 d k)) (Fin.ext ?_)
  show (idxOut (F := Ideal) (x3 (F := Ideal) X) o E (ix2 (⟨(8 * t.val + p.val / 128) % 64, _⟩ : Fin 64) (⟨p.val % 128 % 128, _⟩ : Fin 128))).toNat % 2048 = _
  rw [idxOut_best X E hX hE b hb o ho, BitVec.toNat_ofNat]
  have hn : (⟨1024 * o + 128 * ((8 * t.val + p.val / 128) % 64) + p.val % 128 % 128, by omega⟩ : Fin 16384)
      = ⟨1024 * o + 1024 * t.val + p.val, by omega⟩ := Fin.ext (by show _ + _ = _ + _; omega)
  have hk := (b ⟨1024 * o + 1024 * t.val + p.val, by omega⟩).isLt
  show (b ⟨1024 * o + 128 * ((8 * t.val + p.val / 128) % 64) + p.val % 128 % 128, _⟩).val % 2 ^ 32 % 2048 = _
  rw [hn]
  omega

theorem rowsAll_best (g : Fin 16) (d : Fin 256) (h w : Fin 32) :
    KRun.rowsAll (F := Ideal) X E (ix4 g d h w) = E (ix2 d (b ⟨1024 * g.val + 32 * h.val + w.val, by omega⟩)) := by
  unfold KRun.rowsAll
  rw [shapeCast_apply _ _ _ (ix3 g d (⟨32 * h.val + w.val, by omega⟩ : Fin 1024)) (by
    rw [Shape.rowMajor_val_three, Shape.rowMajor_val_four]
    show (g.val * 256 + d.val) * 1024 + (32 * h.val + w.val) = ((g.val * 256 + d.val) * 32 + h.val) * 32 + w.val
    omega)]
  by_cases hg : g.val < 8
  · refine (concatenate_pair_apply_left (t := KernelIdeal.S16x256x1024) (s₁ := KernelIdeal.S8x256x1024) (s₂ := KernelIdeal.S8x256x1024) 0 _ _ _ _ rfl
      (ix3 (⟨g.val, hg⟩ : Fin 8) d (⟨32 * h.val + w.val, by omega⟩ : Fin 1024)) ?_).trans ?_
    · intro a; match a with | ⟨0, _⟩ => rfl | ⟨1, _⟩ => rfl | ⟨2, _⟩ => rfl
    refine (outK_best X E hX hE b hb 0 (by omega) _ _ _).trans ?_
    refine congrArg (fun n => E (ix2 d (b n))) (Fin.ext ?_)
    show 1024 * 0 + 1024 * g.val + (32 * h.val + w.val) = 1024 * g.val + 32 * h.val + w.val
    omega
  · refine (concatenate_pair_apply_right (t := KernelIdeal.S16x256x1024) (s₁ := KernelIdeal.S8x256x1024) (s₂ := KernelIdeal.S8x256x1024) 0 _ _ _ _ rfl rfl
      (ix3 (⟨g.val - 8, by omega⟩ : Fin 8) d (⟨32 * h.val + w.val, by omega⟩ : Fin 1024)) ?_ ?_).trans ?_
    · intro a ha; match a with | ⟨0, _⟩ => exact absurd rfl ha | ⟨1, _⟩ => rfl | ⟨2, _⟩ => rfl
    · show g.val - 8 + 8 = g.val; omega
    refine (outK_best X E hX hE b hb 8 (by omega) _ _ _).trans ?_
    refine congrArg (fun n => E (ix2 d (b n))) (Fin.ext ?_)
    show 1024 * 8 + 1024 * (g.val - 8) + (32 * h.val + w.val) = 1024 * g.val + 32 * h.val + w.val
    omega

theorem chosen_best (n : Fin 16384) (d : Fin 256) : KRef.chosen (F := Ideal) E (CodesRef.hot (CodesRef.code (D X E))) (ix2 n d) = E (ix2 d (b n)) := by
  have h : KRef.chosen (F := Ideal) E (CodesRef.hot (CodesRef.code (D X E))) (ix2 n d) - (0 : EReal) = E (ix2 d (b n)) - 0 :=
    CodesRef.diff_best _ b (CodesValue.code_eq X E hX hE b hb) (fun _ => (0 : EReal)) E n d
  rwa [sub_zero, sub_zero] at h

/-- The rows. -/
theorem rows_eq : KRun.rowsAll (F := Ideal) X E = KRef.moved (F := Ideal) X (KRef.chosen E (CodesRef.hot (CodesRef.code (D X E)))) := by
  funext i
  obtain ⟨g, d, h, w, rfl⟩ : ∃ (g : Fin 16) (d : Fin 256) (h w : Fin 32), i = ix4 g d h w := ⟨i 0, i 1, i 2, i 3, eq_ix4 i⟩
  rw [rowsAll_best X E hX hE b hb]
  unfold KRef.moved
  rw [addf_apply, subf_apply, transpose_apply _ _ _ _ (ix4 g h w d)
    (by intro a; match a with | ⟨0, _⟩ => rfl | ⟨1, _⟩ => rfl | ⟨2, _⟩ => rfl | ⟨3, _⟩ => rfl),
    shapeCast_apply _ _ _ (ix2 (⟨1024 * g.val + 32 * h.val + w.val, by omega⟩ : Fin 16384) d) (by
      rw [Shape.rowMajor_val_two, Shape.rowMajor_val_four]
      show (1024 * g.val + 32 * h.val + w.val) * 256 + d.val = ((g.val * 32 + h.val) * 32 + w.val) * 256 + d.val
      omega),
    chosen_best X E hX hE b hb]
  obtain ⟨x, hx⟩ := hX (ix4 g d h w)
  obtain ⟨e, he⟩ := hE (ix2 d (b ⟨1024 * g.val + 32 * h.val + w.val, by omega⟩))
  rw [hx, he]
  show (e : EReal) = (x : EReal) + ((e : EReal) - (x : EReal))
  rw [← EReal.coe_sub, ← EReal.coe_add, add_sub_cancel]

end Cert.Proof.KValue

end
-- ==== Proof.KTwoState.lean ====
/-
  The states between the operations and the calls, as the separation logic holds them.
-/
module

public import proofs.«01_k».proof.Proof.KTwoFold

@[expose] public section

set_option maxRecDepth 16384

noncomputable section

namespace Cert.Proof.KTwo

open Cert.KernelIdeal Cert.KernelIdeal.Gen Cert.Proof.KSkel Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx)
open Cert.Proof.KTypes (UU UP K D EH EP 𝒱₀)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) (HIx 2) ℕ UU ℕ (Pipeline.pin (pcfgs (F := F)) adm p) c
  | ⟨0, _⟩ => fun c => dat0 (V1 m ρ) c
  | ⟨1, _⟩ => fun c => dat1 (V2s m ρ) c

/-- What the TensorCore owes before the lookup `n`, its waits recorded no higher than that lookup's. -/
def OW (n : ℕ) (c : Dev nD) : sProp 𝕄 :=
  iprop(∃ W, ⌜(K (F := F)).WBelow (T c) W (8 * n)⌝ ∗ owes (T c) ((K (F := F)).Otc c n) W)

abbrev R (n : ℕ) (c : Dev nD) : sProp 𝕄 := iprop((∃ r, prngReg c r) ∗ OW n c)

theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

abbrev hseg (n : ℕ) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R n)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Proof.KTwo

end
-- ==== Proof.KTwoRecord0.lean ====
/-
  The first call as a segment of the program.
-/
module

public import proofs.«01_k».proof.Proof.KTwoState

@[expose] public section

set_option maxRecDepth 16384

noncomputable section

namespace Cert.Proof.KTwo

open Cert.KernelIdeal Cert.KernelIdeal.Gen Cert.Proof.KSkel Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx)
open Cert.Proof.KTypes (UU UP K D EH EP 𝒱₀)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ) (ρ : Dev nD → PrngReg)
set_option backward.isDefEq.respectTransparency.types false in

def reg0 : Pipeline.RegionSeg (pcfgs (F := F)) adm (pdats m ρ) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m ρ) c).loose
  hwaits c := Pipeline.cellsWaits_intro _ _ _ 0 c fun w s t => (K (F := F)).mayWait_none _ (Otc_none c 0)
  pre c := iprop(StableHlo.held (c : Thread nD τ) (Pipeline.ucRefs τ sig) (W1 m ρ c) ∗ R 0 c)
  post c := iprop(StableHlo.held (c : Thread nD τ) (Pipeline.ucRefs τ sig) (W2 m ρ c) ∗ R 0 c)
  X c := iprop(∃ r, prngReg c r)
  Y c := iprop(∃ r, prngReg c r)
  Z c := Pipeline.unscopedRest (Ix := HIx 2) (Name := ℕ) (U := UU) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      unfold OW
      icases HO with ⟨%W, %hW, HO⟩; iexists W; isplitr; · ipureintro; exact fun p hp => Or.inl (hW p hp)
      iexact HO
    isplitl [Hp]; · iexact Hp
    iexact Hrest
  hin c := by
    refine BIBase.Entails.trans ?_ (hin (V1 m ρ) c)
    unfold restA
    iintro ⟨Hp, -, Hr⟩
    isplitl [Hr]; · iexact Hr
    iexact Hp
  hout c := by
    rw [Pipeline.ownSems0_none]
    refine BIBase.Entails.trans (hout (V1 m ρ) c) ?_
    unfold restA
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    unfold OW
    icases HO with ⟨%W, %hW, HO⟩; iexists W; isplitr
    · ipureintro; intro p hp
      rcases hW hp with h | ⟨w, s, rfl⟩
      · exact h
      · exact Nat.zero_le _
    · iexact HO

end Cert.Proof.KTwo

end
-- ==== Proof.KTwoRecord1.lean ====
/-
  The second call as a segment of the program.
-/
module

public import proofs.«01_k».proof.Proof.KTwoState

@[expose] public section

set_option maxRecDepth 16384

noncomputable section

namespace Cert.Proof.KTwo

open Cert.KernelIdeal Cert.KernelIdeal.Gen Cert.Proof.KSkel Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx)
open Cert.Proof.KTypes (UU UP K D EH EP 𝒱₀)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ) (ρ : Dev nD → PrngReg)
set_option backward.isDefEq.respectTransparency.types false in

def reg1 : Pipeline.RegionSeg (pcfgs (F := F)) adm (pdats m ρ) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation1 (V2s m ρ) c).loose
  hwaits c := Pipeline.cellsWaits_intro _ _ _ 1 c fun w s t => (K (F := F)).mayWait_none _ (Otc_none c 1)
  pre c := iprop(StableHlo.held (c : Thread nD τ) (Pipeline.ucRefs τ sig) (W2s m ρ c) ∗ R 1 c)
  post c := iprop(StableHlo.held (c : Thread nD τ) (Pipeline.ucRefs τ sig) (W3 m ρ c) ∗ R 1 c)
  X c := iprop(∃ r, prngReg c r)
  Y c := iprop(∃ r, prngReg c r)
  Z c := Pipeline.unscopedRest (Ix := HIx 2) (Name := ℕ) (U := UU) (Lvl := ℕ) spec2 c (V2s m ρ c)
  hentry c := by
    rw [Pipeline.ownSems0_none]
    have hsplit := Pipeline.arrays_of_unscopedBufs (p := 1) (pcfgs (F := F)) adm (pdats m ρ) launch2.win launch2.arr_whole c
      ((pdats m ρ 1 c).share_full fun _ => rfl) (V2s m ρ c) (A_eq1 (V2s m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      unfold OW
      icases HO with ⟨%W, %hW, HO⟩; iexists W; isplitr; · ipureintro; exact fun p hp => Or.inl (hW p hp)
      iexact HO
    isplitl [Hp]; · iexact Hp
    iexact Hrest
  hin c := by
    refine BIBase.Entails.trans ?_ (hinb (V2s m ρ) c)
    unfold restA
    iintro ⟨Hp, -, Hr⟩
    isplitl [Hr]; · iexact Hr
    iexact Hp
  hout c := by
    rw [Pipeline.ownSems0_none]
    refine BIBase.Entails.trans (houtb (V2s m ρ) c) ?_
    unfold restA
    iintro ⟨Hr, Hp⟩
    isplitl [Hp]; · iexact Hp
    isplitr; · iempintro
    iexact Hr
  hexit c := by
    have hjoin := Pipeline.unscopedBufs_of_arrays (p := 1) (pcfgs (F := F)) adm (Ix := HIx 2) (Name := ℕ) (U := UU) (Lvl := ℕ)
      launch2.win launch2.arr_whole c (pdats m ρ) ((pdats m ρ 1 c).share_full fun _ => rfl)
      (V2s m ρ c) (V3 m ρ c) ((pdats m ρ 1 c).arrAt · cfg2.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    unfold OW
    icases HO with ⟨%W, %hW, HO⟩; iexists W; isplitr
    · ipureintro; intro p hp
      rcases hW hp with h | ⟨w, s, rfl⟩
      · exact h
      · exact Nat.zero_le _
    · iexact HO

end Cert.Proof.KTwo

end
-- ==== Proof.KTile1.lean ====
/-
  The SparseCore kernel, one task: a tile fetches the indices and its eight rows of the table, and per trip looks up
  and writes out one block of the result.
-/
module

public import proofs.«01_k».proof.KernelIdeal
public import Idealize.ShloMosaic.Lib.SparseCore.Quiescent
public import Idealize.ShloMosaic.Lib.SparseCore.Ops
public import Idealize.ShloMosaic.Lib.Pipeline.Kit
public import Idealize.ShloMosaic.Lib.StableHlo.Run
public import Idealize.ShloMosaic.Lib.ShareLeaves
public import Idealize.ShloMosaic.Lib.Tactic
public import proofs.«01_k».proof.Proof.Gen.KernelIdeal
public import proofs.«01_k».proof.Proof.Steps
public import proofs.«01_k».proof.Proof.KTypes

@[expose] public section

noncomputable section

namespace Cert.Proof.KTile1

open Cert.KernelIdeal Cert.KernelIdeal.Gen Cert.Proof.Steps Cert.Proof.KTypes
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx

variable {F : FTy → Type}

/-! ## The program as the launch theorem sees it -/

local notation "𝕄" => MT nD τ sig (HIx 2) (Elt F) ℕ UU ℕ

/-! ## The arrays -/

/-- The table, the indices and the result, as locations of device `d`. -/
abbrev eLoc (d : Dev nD) : Loc nD τ sig := (SparseCore.T d).loc main_arg1
abbrev iLoc (d : Dev nD) : Loc nD τ sig := (SparseCore.T d).loc main_v3_0
abbrev oLoc (d : Dev nD) : Loc nD τ sig := (SparseCore.T d).loc main_v4

local notation "eV" => (Memref.whole Cert.KernelIdeal.main_arg1_scv : Memref Cert.KernelIdeal.sig Kind.scVector Space.hbm Cert.KernelIdeal.S256x2048 EltTy.f32)
local notation "iV" => (Memref.whole Cert.KernelIdeal.main_v3_0_scv : Memref Cert.KernelIdeal.sig Kind.scVector Space.hbm Cert.KernelIdeal.S64x128 EltTy.i32)
local notation "oV" => (Memref.whole Cert.KernelIdeal.main_v4_scv : Memref Cert.KernelIdeal.sig Kind.scVector Space.hbm Cert.KernelIdeal.S8x256x1024 EltTy.f32)
local notation "sI" => (Memref.whole Cert.KernelIdeal.cc1_scratch0 : Memref Cert.KernelIdeal.sig Kind.scVector Space.vmem Cert.KernelIdeal.S64x128 EltTy.i32)
local notation "sR" => (Memref.whole Cert.KernelIdeal.cc1_scratch1 : Memref Cert.KernelIdeal.sig Kind.scVector Space.vmem Cert.KernelIdeal.S8x2048 EltTy.f32)
local notation "sB" => (Memref.whole Cert.KernelIdeal.cc1_scratch2 : Memref Cert.KernelIdeal.sig Kind.scVector Space.vmem Cert.KernelIdeal.S8x1024 EltTy.f32)

/-- The result: entry `(b, r, t)` is row `r` of the table at the index that word `t` of block `b` names. -/
def outF {A : Type} (E : S256x2048.Idx → A) (I : S64x128.Idx → BitVec 32) : S8x256x1024.Idx → A := fun j =>
  E (ix2 (j 1) ⟨(word I (8 * (j 0).val + (j 2).val / 128) ((j 2).val % 128)).toNat % 2048, Nat.mod_lt _ (by decide)⟩)

/-- Tile `(c, j)`'s rows of the result. -/
def oSet (c : Fin 2) (j : Fin 16) : Finset S8x256x1024.Idx := Finset.univ.filter fun x => (x 1).val / 8 = 2 * j.val + c.val

/-- Tile `(c, j)`'s read share. -/
def lf (c : Fin 2) (j : Fin 16) : PosShare TreeShare := ShareLeaves.leaf 5 fullShare ⟨16 * c.val + j.val, by have := c.isLt; have := j.isLt; show _ < 32; omega⟩

/-! ## The check of a sixteen of indices -/

theorem pair_lt {v w : IVec S16 32} {k : ℕ} (hv : ∀ x, (v x).toNat = k) (hk : k < 8) (hw : ∀ x, (w x).toNat < 2048) :
    ∀ a x, ((![v, w] : Fin 2 → IVec S16 32) a x).toNat < S8x2048.size a := by
  intro a x
  match a with
  | 0 => exact lt_of_eq_of_lt (hv x) hk
  | 1 => exact hw x

theorem chk {v3 v4 v5 v6 v7 v8 v9 v10 : IVec S16 32} (h3 : ∀ x, (v3 x).toNat = 0) (h4 : ∀ x, (v4 x).toNat = 1) (h5 : ∀ x, (v5 x).toNat = 2)
    (h6 : ∀ x, (v6 x).toNat = 3) (h7 : ∀ x, (v7 x).toNat = 4) (h8 : ∀ x, (v8 x).toNat = 5) (h9 : ∀ x, (v9 x).toNat = 6)
    (h10 : ∀ x, (v10 x).toNat = 7) {I : SI.Idx → BitVec 32} (hI : InRange I) (off : Fin 2 → ℕ) (hs : L1.ShapeCasts L16) :
    k1_chk1 v3 v4 v5 v6 v7 v8 v9 v10 (shapeCast L16 (iblk I off) hs) :=
  have hw := iblk_range hI off hs
  ⟨pair_lt h3 (by decide) hw, pair_lt h4 (by decide) hw, pair_lt h5 (by decide) hw, pair_lt h6 (by decide) hw,
    pair_lt h7 (by decide) hw, pair_lt h8 (by decide) hw, pair_lt h9 (by decide) hw, pair_lt h10 (by decide) hw⟩

/-- An index of a unit-stride rectangle, placed. -/
theorem emb_unit_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

theorem emb_whole (s : Shape) (y : s.Idx) : (Rect.whole s).emb y = y := by
  funext a; refine Fin.ext ?_; rw [Rect.emb_apply]; show 0 + 1 * (y a : Nat) = _; omega

section Pts
variable {nD : Nat} {τ : Topo} {sig : RefSig} {Ix : Type} [DecidableEq Ix] {Val : EltTy → Type} {Name : Type} [DecidableEq Name] {U : Type} [URA U] {Lvl : Type} [Preorder Lvl]
theorem pts_eq {ℓ : Loc nD τ sig} {I : Finset (Loc.ty ℓ).Idx} {q : PosShare TreeShare} {f g : Buf Val ℓ} (h : ∀ i ∈ I, f i = g i) :
    (ℓ ↦[I]{q} f : sProp (MT nD τ sig Ix Val Name U Lvl)) ⊢ ℓ ↦[I]{q} g := Entails.of_eq (pointsTo_congr h)
end Pts

variable [FloatOps F]

section Tile

variable (d : Dev nD) (L : grid1.Coords)

abbrev cV (L : grid1.Coords) : Fin τ.nSC := (L 0).castLE hcore1
abbrev jV (L : grid1.Coords) : Fin τ.nSub := (L 1).castLE hsub1

abbrev cAcell (d : Dev nD) (c : Fin τ.nSC) (i : Fin τ.nSub) : GSem nD τ sig := (V d c i, .dma cc1_scoped0.sem)
abbrev cXcell (d : Dev nD) (c : Fin τ.nSC) (i : Fin τ.nSub) : GSem nD τ sig := (V d c i, .dma cc1_scoped1.sem)
abbrev cBcell (d : Dev nD) (c : Fin τ.nSC) (i : Fin τ.nSub) : GSem nD τ sig := (V d c i, .dma cc1_scoped2.sem)

omit [FloatOps F] in
theorem ownSems0_V :
    (ownSems0 (V d (cV L) (jV L)) : sProp 𝕄)
      = iprop(semVal (cAcell d (cV L) (jV L)) 0 ∗ semVal (cXcell d (cV L) (jV L)) 0 ∗ semVal (cBcell d (cV L) (jV L)) 0
          ∗ bigSep ((((ownCells (V d (cV L) (jV L))).erase (cAcell d (cV L) (jV L))).erase (cXcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cXcell]; decide, (mem_ownCells (g := cXcell d (cV L) (jV L))).mpr ⟨rfl, by
      show (SemLoc.dma cc1_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d (cV L) (jV L))).mpr ⟨rfl, by show (SemLoc.dma cc1_scoped2.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (fE : Buf (Elt F) (eLoc d)) (fI : Buf (Elt F) (iLoc d)) (fO : Buf (Elt F) (oLoc d))

/-- What a tile is handed, and what it hands back. -/
def goP (c : Fin 2) (j : Fin 16) (g : Buf (Elt F) (oLoc d)) : sProp 𝕄 :=
  iprop((eLoc d ↦{lf c j} fE) ∗ (iLoc d ↦{lf c j} fI) ∗ oLoc d ↦[oSet c j]{fullShare} g)

/-- Tile `(c, j)`'s eight rows of the table. -/
def rowsOf {A : Type} (E : S256x2048.Idx → A) : SR.Idx → A := fun x =>
  E (ix2 ⟨(16 * (L 1).val + 8 * (L 0).val + (x 0).val) % 256, Nat.mod_lt _ (by decide)⟩ (x 1))

/-- The block of the result that trip `t` writes. -/
abbrev oBlk (t : Fin k1_t1_loop.trips) : Memref sig .scVector .hbm S8x1024 .f32 :=
  ((oV).slice (Rect.unit (s := S8x256x1024) (k1_off66 L t) S1x8x1024.size (k1_off66_inb L t)) (fun _ => rfl)).squeeze S8x1024 squeezes_S1x8x1024_S8x1024

omit [FloatOps F] in
theorem emb_oBlk (t : Fin k1_t1_loop.trips) (y : S8x1024.Idx) :
    (oBlk L t).view.emb y = (Rect.unit (s := S8x256x1024) (k1_off66 L t) S1x8x1024.size (k1_off66_inb L t)).emb (ix3 (0 : Fin 1) (y 0) (y 1)) := by
  show (Rect.unit (s := S8x256x1024) (k1_off66 L t) S1x8x1024.size (k1_off66_inb L t)).emb (Shape.reshapeEquiv _ y) = _
  congr 1
  have e : y = ix2 (y 0) (y 1) := by funext a; match a with | 0 => rfl | 1 => rfl
  rw [e]
  exact reshapeEquiv_ix2_1ab _ _ _

omit [FloatOps F] in
theorem emb_oBlk_val (t : Fin k1_t1_loop.trips) (y : S8x1024.Idx) :
    (((oBlk L t).view.emb y : S8x256x1024.Idx) 0).val = t.val
      ∧ (((oBlk L t).view.emb y : S8x256x1024.Idx) 1).val = 16 * (L 1).val + 8 * (L 0).val + (y 0).val
      ∧ (((oBlk L t).view.emb y : S8x256x1024.Idx) 2).val = (y 1).val := by
  rw [emb_oBlk]
  have h := k1_off66_eq L t
  have e := emb_unit_val (s := S8x256x1024) (k1_off66 L t) S1x8x1024.size (k1_off66_inb L t) (ix3 (0 : Fin 1) (y 0) (y 1))
  have h0 : k1_off66 L t 0 = t.val := congrFun h 0
  have h1 : k1_off66 L t 1 = 16 * (L 1).val + 8 * (L 0).val := congrFun h 1
  have h2 : k1_off66 L t 2 = 0 := congrFun h 2
  exact ⟨(e 0).trans (congrArg (· + 0) h0), (e 1).trans (congrArg (· + (y 0).val) h1), (e 2).trans ((congrArg (· + (y 1).val) h2).trans (Nat.zero_add _))⟩

omit [FloatOps F] in
theorem read_oBlk (t : Fin k1_t1_loop.trips) (f : S8x256x1024.Idx → Elt F .f32) (y : S8x1024.Idx) :
    (oBlk L t).view.read (Elt F) f y = f ((oBlk L t).view.emb y) := rfl

omit [FloatOps F] in
theorem oBlk_subset (t : Fin k1_t1_loop.trips) : (oBlk L t).view.set ⊆ oSet (L 0) (L 1) := by
  intro x hx
  obtain ⟨y, -, rfl⟩ := Finset.mem_map.mp hx
  obtain ⟨-, h, -⟩ := emb_oBlk_val L t y
  have hy : (y 0).val < 8 := (y 0).isLt
  refine Finset.mem_filter.mpr ⟨Finset.mem_univ _, ?_⟩
  show (((oBlk L t).view.emb y : S8x256x1024.Idx) 1).val / 8 = _
  omega

omit [FloatOps F] in
/-- What a trip's block holds is the result there. -/
theorem block_eq {A : Type} (E : S256x2048.Idx → A) (I : S64x128.Idx → BitVec 32) (t : Fin k1_t1_loop.trips) (y : S8x1024.Idx) :
    blockG I (rowsOf L E) t.val y = outF E I ((oBlk L t).view.emb y) := by
  obtain ⟨h0, h1, h2⟩ := emb_oBlk_val L t y
  unfold blockG outF pick rowsOf
  congr 1
  have hj : ((oBlk L t).view.emb y 1 : Fin 256).val < 256 := (((oBlk L t).view.emb y : S8x256x1024.Idx) 1).isLt
  funext a
  match a with
  | 0 => refine Fin.ext ?_; show (16 * (L 1).val + 8 * (L 0).val + (y 0).val) % 256 = (((oBlk L t).view.emb y : S8x256x1024.Idx) 1).val; rw [← h1]; exact Nat.mod_eq_of_lt hj
  | 1 =>
    refine Fin.ext ?_
    show (word I (8 * t.val + (y 1).val / 128) ((y 1).val % 128)).toNat % 2048
      = (word I (8 * (((oBlk L t).view.emb y : S8x256x1024.Idx) 0).val + (((oBlk L t).view.emb y : S8x256x1024.Idx) 2).val / 128) ((((oBlk L t).view.emb y : S8x256x1024.Idx) 2).val % 128)).toNat % 2048
    rw [h0, h2]

omit [FloatOps F] in
/-- What the copy of the tile's rows brings. -/
theorem rows_eq {A : Type} (E : S256x2048.Idx → A) (x : S8x2048.Idx) :
    E ((Rect.unit (s := S256x2048) (k1_off1 L) S8x2048.size (k1_off1_inb L)).emb x) = rowsOf L E x := by
  unfold rowsOf
  congr 1
  have h := k1_off1_eq L
  have hL0 : (L 0).val < 2 := (L 0).isLt
  have hL1 : (L 1).val < 16 := (L 1).isLt
  have hx : (x 0).val < 8 := (x 0).isLt
  have e := emb_unit_val (s := S256x2048) (k1_off1 L) S8x2048.size (k1_off1_inb L) x
  have h0 : k1_off1 L 0 = 16 * (L 1).val + 8 * (L 0).val := congrFun h 0
  have h1 : k1_off1 L 1 = 0 := congrFun h 1
  funext a
  match a with
  | 0 =>
    refine Fin.ext ((e 0).trans ((congrArg (· + (x 0).val) h0).trans ?_))
    show 16 * (L 1).val + 8 * (L 0).val + (x 0).val = (16 * (L 1).val + 8 * (L 0).val + (x 0).val) % 256
    omega
  | 1 => exact Fin.ext ((e 1).trans ((congrArg (· + (x 1).val) h1).trans (Nat.zero_add _)))

variable (O : CellTallies nD τ sig (HIx 2)) (W : Waits sig (HIx 2))

/-- What the loop holds besides the tile's own three buffers, before trip `k`. -/
def held (k : Nat) : sProp 𝕄 :=
  iprop(Transfers.MayWaits (V d (cV L) (jV L)) (none : HIx 2) O
      ∗ (∃ g, ⌜∀ x : S8x256x1024.Idx, (x 1).val / 8 = 2 * (L 1).val + (L 0).val → (x 0).val < k → g x = outF (A := Elt F .f32) fE fI x⌝ ∗ oLoc d ↦[oSet (L 0) (L 1)]{fullShare} g)
      ∗ semVal (V d (cV L) (jV L), SemLoc.dma cc1_scoped2.sem) 0
      ∗ ∃ W', ⌜∀ p ∈ W', p ∈ W ∨ p.2 = none⌝ ∗ owes (V d (cV L) (jV L)) O W')

/-- The loop's invariant. -/
def inv (k : Nat) (_ : PUnit) : sProp 𝕄 :=
  iprop(held d L fE fI O W k
    ∗ ((sI).view.loc (V d (cV L) (jV L)) ↦{fullShare} (fI : S64x128.Idx → BitVec 32))
    ∗ ((sR).view.loc (V d (cV L) (jV L)) ↦{fullShare} rowsOf (A := Elt F .f32) L fE)
    ∗ ∃ f, (sB).view.loc (V d (cV L) (jV L)) ↦{fullShare} f)

theorem inv_St (k : Nat) (u : PUnit) :
    inv d L fE fI O W k u ⊢ St (c := V d (cV L) (jV L)) sI sR sB (held d L fE fI O W k) fI (rowsOf (A := Elt F .f32) L fE) k 0 := by
  unfold inv St
  iintro ⟨H, Hs, Hx, %f, Hc⟩
  isplitl [H]; · iexact H
  isplitl [Hs]; · iexact Hs
  isplitl [Hx]; · iexact Hx
  iexists f; isplitr
  · ipureintro; exact agree_zero _ _ _ _
  · iexact Hc

theorem trip_end (t : Fin k1_t1_loop.trips) :
    St (c := V d (cV L) (jV L)) sI sR sB (held d L fE fI O W t.val) fI (rowsOf (A := Elt F .f32) L fE) t.val 512
      ⊢ wp frame (wpE (defs₀ (F := F)) 𝒱₀ (V d (cV L) (jV L)) none) Set.univ
          (do
            Prog.lift (.enqueueDma sB (.here (oBlk L t)) (.dma cc1_scoped2.sem) (Memref.isWhole_whole cc1_scratch2).wordExact ((View.wordExact_bits rfl).reshape _ _) ⟨Or.inl rfl, trivial⟩)
            Prog.lift (.waitDma2 cc1_scoped2.sem sB (oBlk L t) (Memref.isWhole_whole cc1_scratch2).wordExact ((View.wordExact_bits rfl).reshape _ _))
            pure ⟨⟩)
          (inv d L fE fI O W (t.val + 1)) := by
  unfold St held
  iintro ⟨⟨Hmw, ⟨%g, %hg, Ho⟩, HsemB, %W', %hW', HO⟩, Hs, Hx, %f, %hf, Hc⟩
  have hf' := agree_all hf
  ihave Ho' := (pointsTo_split_subset (q := fullShare) (f := g) (oBlk_subset L t)).1 $$ Ho
  icases Ho' with ⟨Hb, Hr⟩
  ihave Hb' := (show (oLoc d ↦[(oBlk L t).view.set]{fullShare} g : sProp 𝕄) ⊢ ((oBlk L t).view.loc (V d (cV L) (jV L)) ↦[(oBlk L t).view.set]{fullShare} g) from .rfl) $$ Hb
  sl_exec (disch := exact View.amount_pos _ _ (show 0 < S8x1024.numel by decide))
  sl_step
  have hin : ∀ y : S8x1024.Idx, (oBlk L t).view.writes (Elt F) g [⟨Rect.whole S8x1024, trip_end.sl.dma0 d L f⟩] ((oBlk L t).view.emb y)
      = outF (A := Elt F .f32) fE fI ((oBlk L t).view.emb y) := by
    intro y
    have h1 := View.read_writes_cons_emb (v := (oBlk L t).view) (Val := Elt F) (f := g) (Rect.whole S8x1024) (trip_end.sl.dma0 d L f) [] y
    rw [emb_whole, read_oBlk] at h1
    have h2 : trip_end.sl.dma0 d L f y = blockG fI (rowsOf (A := Elt F .f32) L fE) t.val y := congrFun hf' y
    rw [h1, h2]
    exact block_eq L fE fI t y
  have hout : ∀ x : S8x256x1024.Idx, x ∉ (oBlk L t).view.set → (oBlk L t).view.writes (Elt F) g [⟨Rect.whole S8x1024, trip_end.sl.dma0 d L f⟩] x = g x := by
    intro x hx
    refine View.writes_apply_of_forall_ne _ _ _ fun y (e : (oBlk L t).view.emb y = x) => hx ?_
    rw [← e]
    exact View.emb_mem_set _ y
  unfold inv held
  isplitl [Hmw Hr Hb' HsemB HO]
  · isplitl [Hmw]; · iexact Hmw
    isplitl [Hr Hb']
    · iexists (oBlk L t).view.writes (Elt F) g [⟨Rect.whole S8x1024, trip_end.sl.dma0 d L f⟩]
      isplitr
      · ipureintro
        intro x hx1 hx0
        by_cases hm : x ∈ (oBlk L t).view.set
        · obtain ⟨y, -, rfl⟩ := Finset.mem_map.mp hm
          exact hin y
        · rw [hout x hm]
          refine hg x hx1 ?_
          refine lt_of_le_of_ne (Nat.lt_succ_iff.mp hx0) fun e => hm ?_
          have hx1' : (x 1).val < 256 := (x 1).isLt
          have hy := emb_oBlk_val L t (ix2 (⟨(x 1).val % 8, Nat.mod_lt _ (by decide)⟩ : Fin 8) (x 2))
          have ex : x = (oBlk L t).view.emb (ix2 (⟨(x 1).val % 8, Nat.mod_lt _ (by decide)⟩ : Fin 8) (x 2)) := by
            funext a
            match a with
            | 0 => exact Fin.ext (e.trans hy.1.symm)
            | 1 => exact Fin.ext ((show (x 1).val = 16 * (L 1).val + 8 * (L 0).val + (x 1).val % 8 by omega).trans hy.2.1.symm)
            | 2 => exact Fin.ext hy.2.2.symm
          rw [ex]
          exact View.emb_mem_set _ _
      · iapply (pointsTo_split_subset (q := fullShare) (oBlk_subset L t)).2
        isplitl [Hb']
        · iexact Hb'
        · iapply (pts_eq (f := g) fun x hx => (hout x (Finset.mem_sdiff.mp hx).2).symm)
          iexact Hr
    isplitl [HsemB]; · iexact HsemB
    iexists (insert (SemLoc.dma cc1_scoped2.sem, (default : HIx 2)) W'); isplitr
    · ipureintro; intro p hp
      rcases Finset.mem_insert.mp hp with hp | hp
      · exact .inr (hp ▸ rfl)
      · exact hW' p hp
    · iexact HO
  isplitl [Hs]; · iexact Hs
  isplitl [Hx]; · iexact Hx
  iexists _; iexact Hc

attribute [local irreducible] Prog.lift SparseCore.vectorLoadIdx Idealize.SL.Sem.wp St in
set_option maxHeartbeats 0 in
theorem tile_body (hF : (K (F := F)).Facts) (hI : InRange (fI : S64x128.Idx → BitVec 32)) (hO : ∀ g, O g none = 0) :
    iprop(levAts (K (F := F)).L (K (F := F)).lev ∗ emp ∗ goP d fE fI (L 0) (L 1) fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L eV (Memref.isWhole_whole _) iV (Memref.isWhole_whole _) oV (Memref.isWhole_whole _)
            sI (Memref.isWhole_whole _) sR (Memref.isWhole_whole _) sB (Memref.isWhole_whole _) cc1_scoped0 cc1_scoped1 cc1_scoped2)
          fun _ => iprop(goP d fE fI (L 0) (L 1) (outF (A := Elt F .f32) fE fI) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goP
  iintro ⟨#Hlv, -, ⟨HE, HI, Ho⟩, ⟨⟨%fs, Hs⟩, ⟨%fx, Hx⟩, ⟨%fc, Hc⟩, Hbufs⟩, ⟨HsemA, HsemX, HsemB, Hsems⟩, HO⟩
  ihave Hmw := ((K (F := F)).mayWaits_none (thr := V d (cV L) (jV L)) hO) $$ Hlv
  ihave HE' := (show (eLoc d ↦{lf (L 0) (L 1)} fE : sProp 𝕄) ⊢ ((eV).view.loc (V d (cV L) (jV L)) ↦{lf (L 0) (L 1)} fE) from .rfl) $$ HE
  ihave HI' := (show (iLoc d ↦{lf (L 0) (L 1)} fI : sProp 𝕄) ⊢ ((iV).view.loc (V d (cV L) (jV L)) ↦{lf (L 0) (L 1)} fI) from .rfl) $$ HI
  ihave Hs' := (show ((V d (cV L) (jV L)).loc cc1_scratch0 ↦{fullShare} fs : sProp 𝕄) ⊢ ((sI).view.loc (V d (cV L) (jV L)) ↦{fullShare} fs) from .rfl) $$ Hs
  ihave Hx' := (show ((V d (cV L) (jV L)).loc cc1_scratch1 ↦{fullShare} fx : sProp 𝕄) ⊢ ((sR).view.loc (V d (cV L) (jV L)) ↦{fullShare} fx) from .rfl) $$ Hx
  ihave Hc' := (show ((V d (cV L) (jV L)).loc cc1_scratch2 ↦{fullShare} fc : sProp 𝕄) ⊢ ((sB).view.loc (V d (cV L) (jV L)) ↦{fullShare} fc) from .rfl) $$ Hc
  delta cc1__sc_body
  sl_exec
  sl_for (inv d L fE fI O W) $$ [Hmw Ho Hs' Hx' Hc' HsemB HO]
  case region =>
    intro k u
    refine (inv_St d L fE fI O W k.val u).trans ?_
    apply step_part
    case hm =>
      delta k1_part68
      repeat
        apply step_part
        case hm =>
          delta k1_part1 k1_part2 k1_part3 k1_part4 k1_part5 k1_part6 k1_part7 k1_part8 k1_part9 k1_part10 k1_part11 k1_part12 k1_part13 k1_part14 k1_part15 k1_part16 k1_part17 k1_part18 k1_part19 k1_part20 k1_part21 k1_part22 k1_part23 k1_part24 k1_part25 k1_part26 k1_part27 k1_part28 k1_part29 k1_part30 k1_part31 k1_part32 k1_part33 k1_part34 k1_part35 k1_part36 k1_part37 k1_part38 k1_part39 k1_part40 k1_part41 k1_part42 k1_part43 k1_part44 k1_part45 k1_part46 k1_part47 k1_part48 k1_part49 k1_part50 k1_part51 k1_part52 k1_part53 k1_part54 k1_part55 k1_part56 k1_part57 k1_part58 k1_part59 k1_part60 k1_part61 k1_part62 k1_part63 k1_part64 k1_part65 k1_part66 k1_part67
          repeat first
            | refine step_look ?_
            | refine step_idx ?_
            | refine step_chk (chk (fun _ => rfl) (fun _ => rfl) (fun _ => rfl) (fun _ => rfl) (fun _ => rfl) (fun _ => rfl) (fun _ => rfl) (fun _ => rfl) hI _ _) ?_
            | refine step_dead ?_
            | refine step_store rfl rfl rfl (fun _ => rfl) rfl ?_
            | refine step_ret
            | refine step_end (step_store rfl rfl rfl (fun _ => rfl) rfl ?_)
            | refine step_end (step_dead ?_)
        dsimp only
      refine step_ret
    dsimp only
    repeat
      apply step_part
      case hm =>
        delta k1_part1 k1_part2 k1_part3 k1_part4 k1_part5 k1_part6 k1_part7 k1_part8 k1_part9 k1_part10 k1_part11 k1_part12 k1_part13 k1_part14 k1_part15 k1_part16 k1_part17 k1_part18 k1_part19 k1_part20 k1_part21 k1_part22 k1_part23 k1_part24 k1_part25 k1_part26 k1_part27 k1_part28 k1_part29 k1_part30 k1_part31 k1_part32 k1_part33 k1_part34 k1_part35 k1_part36 k1_part37 k1_part38 k1_part39 k1_part40 k1_part41 k1_part42 k1_part43 k1_part44 k1_part45 k1_part46 k1_part47 k1_part48 k1_part49 k1_part50 k1_part51 k1_part52 k1_part53 k1_part54 k1_part55 k1_part56 k1_part57 k1_part58 k1_part59 k1_part60 k1_part61 k1_part62 k1_part63 k1_part64 k1_part65 k1_part66 k1_part67
        repeat first
          | refine step_look ?_
          | refine step_idx ?_
          | refine step_chk (chk (fun _ => rfl) (fun _ => rfl) (fun _ => rfl) (fun _ => rfl) (fun _ => rfl) (fun _ => rfl) (fun _ => rfl) (fun _ => rfl) hI _ _) ?_
          | refine step_dead ?_
          | refine step_store rfl rfl rfl (fun _ => rfl) rfl ?_
          | refine step_ret
          | refine step_end (step_store rfl rfl rfl (fun _ => rfl) rfl ?_)
          | refine step_end (step_dead ?_)
      dsimp only
    refine step_dead ?_
    refine step_store rfl rfl rfl (fun _ => rfl) rfl ?_
    refine step_dead ?_
    refine step_store rfl rfl rfl (fun _ => rfl) rfl ?_
    refine step_dead ?_
    refine step_store rfl rfl rfl (fun _ => rfl) rfl ?_
    exact trip_end d L fE fI O W k
  · unfold inv held
    isplitl [Hmw Ho HsemB HO]
    · isplitl [Hmw]; · iexact Hmw
      isplitl [Ho]
      · iexists fO
        isplitr
        · ipureintro; intro x _ h; exact absurd h (Nat.not_lt_zero _)
        · iexact Ho
      isplitl [HsemB]; · iexact HsemB
      iexists _; isplitr
      swap; · iexact HO
      ipureintro; intro p hp
      rcases Finset.mem_insert.mp hp with hp | hp
      · exact .inr (hp ▸ rfl)
      rcases Finset.mem_insert.mp hp with hp | hp
      · exact .inr (hp ▸ rfl)
      · exact .inl hp
    isplitl [Hs']
    · iapply (pts_eq (f := View.write (Elt F) (sI).view fs (tile_body.sl.dma0 d fI) Finset.univ) fun x _ => congrFun (View.write_whole_univ (Val := Elt F) cc1_scratch0 fs (tile_body.sl.dma0 d fI)) x)
      iexact Hs'
    isplitl [Hx']
    · have hrow : ∀ x : S8x2048.Idx, tile_body.sl.dma0_1 d L fE x = rowsOf (A := Elt F .f32) L fE x := fun x => rows_eq (A := Elt F .f32) L fE x
      iapply (pts_eq (g := rowsOf (A := Elt F .f32) L fE) (f := View.write (Elt F) (sR).view fx (tile_body.sl.dma0_1 d L fE) Finset.univ) fun x _ =>
        (congrFun (View.write_whole_univ (Val := Elt F) cc1_scratch1 fx (tile_body.sl.dma0_1 d L fE)) x).trans (hrow x))
      iexact Hx'
    iexists _; iexact Hc'
  iintro %_ HI
  unfold inv held
  icases HI with ⟨⟨-, ⟨%g, %hg, Ho⟩, HsemB, %W', %hW', HO⟩, Hs, Hx, %f, Hc⟩
  sl_exec
  sl_step
  isplitl [HE' HI' Ho]
  · isplitl [HE']; · iexact HE'
    isplitl [HI']; · iexact HI'
    iapply (pts_eq (f := g) fun x hx => hg x (Finset.mem_filter.mp hx).2 (x 0).isLt)
    iexact Ho
  isplitl [Hs Hx Hc Hbufs]
  · isplitl [Hs]; · iexists _; iexact Hs
    isplitl [Hx]; · iexists _; iexact Hx
    isplitl [Hc]; · iexists _; iexact Hc
    iexact Hbufs
  isplitl [HsemA HsemX HsemB Hsems]
  · isplitl [HsemA]; · iexact HsemA
    isplitl [HsemX]; · iexact HsemX
    isplitl [HsemB]; · iexact HsemB
    iexact Hsems
  iexists W'; isplitr
  · ipureintro; exact hW'
  · iexact HO

end Tile

end Cert.Proof.KTile1
-- ==== Proof.KCall1.lean ====
/-
  A lookup of the SparseCore as the launch sees it: a tile's task, and the three arrays as the tiles' pieces.
-/
module

public import proofs.«01_k».proof.Proof.KTile1

@[expose] public section

noncomputable section

namespace Cert.Proof.KCall1

open Cert.KernelIdeal Cert.KernelIdeal.Gen Cert.Proof.Steps Cert.Proof.KTypes Cert.Proof.KTile1
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx

variable {F : FTy → Type} [FloatOps F]

local notation "𝕄" => MT nD τ sig (HIx 2) (Elt F) ℕ UU ℕ

abbrev c2 (c : Fin ((K (F := F)).nCore 0)) : Fin 2 := c
abbrev c16 (i : Fin ((K (F := F)).nSub 0)) : Fin 16 := i

instance goP_storable (d : Dev nD) (fE : Buf (Elt F) (eLoc d)) (fI : Buf (Elt F) (iLoc d)) (c : Fin 2) (j : Fin 16) (g : Buf (Elt F) (oLoc d)) :
    BI.Storable (upEmb : UEmb _ 𝕄) (goP d fE fI c j g) := by
  unfold goP; infer_instance

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          (Memref.whole main_arg1_scv) (Memref.isWhole_whole _) (Memref.whole main_v3_0_scv) (Memref.isWhole_whole _) (Memref.whole main_v4_scv) (Memref.isWhole_whole _)
          (Memref.whole cc1_scratch0) (Memref.isWhole_whole _) (Memref.whole cc1_scratch1) (Memref.isWhole_whole _) (Memref.whole cc1_scratch2) (Memref.isWhole_whole _) cc1_scoped0 cc1_scoped1 cc1_scoped2) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task, from its shares and rows to its rows at the result. -/
theorem tile_wp (d : Dev nD) (fE : Buf (Elt F) (eLoc d)) (fI : Buf (Elt F) (iLoc d)) (fO : Buf (Elt F) (oLoc d))
    (hI : InRange (fI : S64x128.Idx → BitVec 32)) (c : Fin ((K (F := F)).nCore 0)) (i : Fin ((K (F := F)).nSub 0))
    (O : CellTallies nD τ sig (HIx 2)) (W : Waits sig (HIx 2)) (hO : ∀ g, O g none = 0) :
    iprop(levAts (K (F := F)).L (K (F := F)).lev ∗ emp ∗ goP d fE fI (c2 (F := F) c) (c16 (F := F) i) fO
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0))
          fun _ => iprop(goP d fE fI (c2 (F := F) c) (c16 (F := F) i) (outF (A := Elt F .f32) fE fI)
            ∗ scopedBufs (V d ((K (F := F)).core 0 c) ((K (F := F)).sub 0 i)) ∗ scopedSems0 (V d ((K (F := F)).core 0 c) ((K (F := F)).sub 0 i))
            ∗ ∃ W', ⌜∀ p ∈ W', p ∈ W ∨ p.2 = none ∨ p.2 = some 0⌝ ∗ owes (V d ((K (F := F)).core 0 c) ((K (F := F)).sub 0 i)) O W') := by
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) fE fI fO O W facts hI hO).trans (wp_mono frame _ _ fun _ => obl_post)

/-! ## The arrays as the tiles' pieces -/

/-- The tiles, numbered. -/
def tileEquiv : Fin 2 × Fin 16 ≃ Fin (2 ^ 5) where
  toFun p := ⟨16 * p.1.val + p.2.val, by have := p.1.isLt; have := p.2.isLt; show _ < 32; omega⟩
  invFun i := (⟨i.val / 16, by have : i.val < 32 := i.isLt; omega⟩, ⟨i.val % 16, Nat.mod_lt _ (by decide)⟩)
  left_inv p := by
    have h1 := p.1.isLt; have h2 := p.2.isLt
    refine Prod.ext (Fin.ext ?_) (Fin.ext ?_)
    · show (16 * p.1.val + p.2.val) / 16 = p.1.val; omega
    · show (16 * p.1.val + p.2.val) % 16 = p.2.val; omega
  right_inv i := Fin.ext (by show 16 * (i.val / 16) + i.val % 16 = i.val; omega)

omit [FloatOps F] in
theorem shares_eq {ℓ : Loc nD τ sig} (f : Buf (Elt F) ℓ) :
    (ℓ ↦{fullShare} f : sProp 𝕄) = bigSep Finset.univ fun p : Fin 2 × Fin 16 => ℓ ↦{lf p.1 p.2} f := by
  rw [ShareLeaves.pointsTo_leaves Finset.univ f 5 fullShare, bigSep_univ_equiv tileEquiv]
  rfl

omit [FloatOps F] in
theorem mem_oSet {c : Fin 2} {j : Fin 16} {x : S8x256x1024.Idx} : x ∈ oSet c j ↔ (x 1).val / 8 = 2 * j.val + c.val := by
  simp [oSet]

omit [FloatOps F] in
theorem oSets_cover : (Finset.univ : Finset (Fin 2 × Fin 16)).biUnion (fun p => oSet p.1 p.2) = Finset.univ := by
  refine Finset.eq_univ_iff_forall.mpr fun x => Finset.mem_biUnion.mpr ?_
  have h : (x 1).val < 256 := (x 1).isLt
  refine ⟨(⟨(x 1).val / 8 % 2, by omega⟩, ⟨(x 1).val / 8 / 2, by omega⟩), Finset.mem_univ _, mem_oSet.mpr ?_⟩
  show (x 1).val / 8 = 2 * ((x 1).val / 8 / 2) + (x 1).val / 8 % 2
  omega

omit [FloatOps F] in
theorem oSets_disjoint : ∀ p ∈ (Finset.univ : Finset (Fin 2 × Fin 16)), ∀ p' ∈ (Finset.univ : Finset (Fin 2 × Fin 16)), p ≠ p' → Disjoint (oSet p.1 p.2) (oSet p'.1 p'.2) := by
  intro p _ p' _ hne
  refine Finset.disjoint_left.mpr fun x h1 h2 => hne ?_
  have e := (mem_oSet.mp h1).symm.trans (mem_oSet.mp h2)
  have := p.1.isLt; have := p'.1.isLt
  exact Prod.ext (Fin.ext (by omega)) (Fin.ext (by omega))

omit [FloatOps F] in
theorem rows_split (d : Dev nD) (f : Buf (Elt F) (oLoc d)) :
    (oLoc d ↦{fullShare} f : sProp 𝕄) = bigSep Finset.univ fun p : Fin 2 × Fin 16 => oLoc d ↦[oSet p.1 p.2]{fullShare} f := by
  rw [← pointsTo_biUnion Finset.univ (ℓ := oLoc d) (fun p : Fin 2 × Fin 16 => oSet p.1 p.2) oSets_disjoint, oSets_cover]

omit [FloatOps F] in
/-- The three arrays whole are every tile's pieces. -/
theorem tiles_eq (d : Dev nD) (fE : Buf (Elt F) (eLoc d)) (fI : Buf (Elt F) (iLoc d)) (g : Buf (Elt F) (oLoc d)) :
    (iprop((eLoc d ↦{fullShare} fE) ∗ (iLoc d ↦{fullShare} fI) ∗ oLoc d ↦{fullShare} g) : sProp 𝕄)
      = bigSep Finset.univ fun c : Fin 2 => bigSep Finset.univ fun j : Fin 16 => goP d fE fI c j g := by
  rw [shares_eq fE, shares_eq fI, rows_split, ← bigSep_sep', ← bigSep_sep', bigSep_univ_prod]
  rfl

end Cert.Proof.KCall1

end
-- ==== Proof.KTile3.lean ====
/-
  The SparseCore kernel, one task: a tile fetches the indices and its eight rows of the table, and per trip looks up
  and writes out one block of the result.
-/
module

public import proofs.«01_k».proof.KernelIdeal
public import Idealize.ShloMosaic.Lib.SparseCore.Quiescent
public import Idealize.ShloMosaic.Lib.SparseCore.Ops
public import Idealize.ShloMosaic.Lib.Pipeline.Kit
public import Idealize.ShloMosaic.Lib.StableHlo.Run
public import Idealize.ShloMosaic.Lib.ShareLeaves
public import Idealize.ShloMosaic.Lib.Tactic
public import proofs.«01_k».proof.Proof.Gen.KernelIdeal
public import proofs.«01_k».proof.Proof.Steps
public import proofs.«01_k».proof.Proof.KTypes

@[expose] public section

noncomputable section

namespace Cert.Proof.KTile3

open Cert.KernelIdeal Cert.KernelIdeal.Gen Cert.Proof.Steps Cert.Proof.KTypes
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx

variable {F : FTy → Type}

/-! ## The program as the launch theorem sees it -/

local notation "𝕄" => MT nD τ sig (HIx 2) (Elt F) ℕ UU ℕ

/-! ## The arrays -/

/-- The table, the indices and the result, as locations of device `d`. -/
abbrev eLoc (d : Dev nD) : Loc nD τ sig := (SparseCore.T d).loc main_arg1
abbrev iLoc (d : Dev nD) : Loc nD τ sig := (SparseCore.T d).loc main_v5_0
abbrev oLoc (d : Dev nD) : Loc nD τ sig := (SparseCore.T d).loc main_v6

local notation "eV" => (Memref.whole Cert.KernelIdeal.main_arg1_scv : Memref Cert.KernelIdeal.sig Kind.scVector Space.hbm Cert.KernelIdeal.S256x2048 EltTy.f32)
local notation "iV" => (Memref.whole Cert.KernelIdeal.main_v5_0_scv : Memref Cert.KernelIdeal.sig Kind.scVector Space.hbm Cert.KernelIdeal.S64x128 EltTy.i32)
local notation "oV" => (Memref.whole Cert.KernelIdeal.main_v6_scv : Memref Cert.KernelIdeal.sig Kind.scVector Space.hbm Cert.KernelIdeal.S8x256x1024 EltTy.f32)
local notation "sI" => (Memref.whole Cert.KernelIdeal.cc3_scratch0 : Memref Cert.KernelIdeal.sig Kind.scVector Space.vmem Cert.KernelIdeal.S64x128 EltTy.i32)
local notation "sR" => (Memref.whole Cert.KernelIdeal.cc3_scratch1 : Memref Cert.KernelIdeal.sig Kind.scVector Space.vmem Cert.KernelIdeal.S8x2048 EltTy.f32)
local notation "sB" => (Memref.whole Cert.KernelIdeal.cc3_scratch2 : Memref Cert.KernelIdeal.sig Kind.scVector Space.vmem Cert.KernelIdeal.S8x1024 EltTy.f32)

/-- The result: entry `(b, r, t)` is row `r` of the table at the index that word `t` of block `b` names. -/
def outF {A : Type} (E : S256x2048.Idx → A) (I : S64x128.Idx → BitVec 32) : S8x256x1024.Idx → A := fun j =>
  E (ix2 (j 1) ⟨(word I (8 * (j 0).val + (j 2).val / 128) ((j 2).val % 128)).toNat % 2048, Nat.mod_lt _ (by decide)⟩)

/-- Tile `(c, j)`'s rows of the result. -/
def oSet (c : Fin 2) (j : Fin 16) : Finset S8x256x1024.Idx := Finset.univ.filter fun x => (x 1).val / 8 = 2 * j.val + c.val

/-- Tile `(c, j)`'s read share. -/
def lf (c : Fin 2) (j : Fin 16) : PosShare TreeShare := ShareLeaves.leaf 5 fullShare ⟨16 * c.val + j.val, by have := c.isLt; have := j.isLt; show _ < 32; omega⟩

/-! ## The check of a sixteen of indices -/

theorem pair_lt {v w : IVec S16 32} {k : ℕ} (hv : ∀ x, (v x).toNat = k) (hk : k < 8) (hw : ∀ x, (w x).toNat < 2048) :
    ∀ a x, ((![v, w] : Fin 2 → IVec S16 32) a x).toNat < S8x2048.size a := by
  intro a x
  match a with
  | 0 => exact lt_of_eq_of_lt (hv x) hk
  | 1 => exact hw x

theorem chk {v3 v4 v5 v6 v7 v8 v9 v10 : IVec S16 32} (h3 : ∀ x, (v3 x).toNat = 0) (h4 : ∀ x, (v4 x).toNat = 1) (h5 : ∀ x, (v5 x).toNat = 2)
    (h6 : ∀ x, (v6 x).toNat = 3) (h7 : ∀ x, (v7 x).toNat = 4) (h8 : ∀ x, (v8 x).toNat = 5) (h9 : ∀ x, (v9 x).toNat = 6)
    (h10 : ∀ x, (v10 x).toNat = 7) {I : SI.Idx → BitVec 32} (hI : InRange I) (off : Fin 2 → ℕ) (hs : L1.ShapeCasts L16) :
    k3_chk1 v3 v4 v5 v6 v7 v8 v9 v10 (shapeCast L16 (iblk I off) hs) :=
  have hw := iblk_range hI off hs
  ⟨pair_lt h3 (by decide) hw, pair_lt h4 (by decide) hw, pair_lt h5 (by decide) hw, pair_lt h6 (by decide) hw,
    pair_lt h7 (by decide) hw, pair_lt h8 (by decide) hw, pair_lt h9 (by decide) hw, pair_lt h10 (by decide) hw⟩

/-- An index of a unit-stride rectangle, placed. -/
theorem emb_unit_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

theorem emb_whole (s : Shape) (y : s.Idx) : (Rect.whole s).emb y = y := by
  funext a; refine Fin.ext ?_; rw [Rect.emb_apply]; show 0 + 1 * (y a : Nat) = _; omega

section Pts
variable {nD : Nat} {τ : Topo} {sig : RefSig} {Ix : Type} [DecidableEq Ix] {Val : EltTy → Type} {Name : Type} [DecidableEq Name] {U : Type} [URA U] {Lvl : Type} [Preorder Lvl]
theorem pts_eq {ℓ : Loc nD τ sig} {I : Finset (Loc.ty ℓ).Idx} {q : PosShare TreeShare} {f g : Buf Val ℓ} (h : ∀ i ∈ I, f i = g i) :
    (ℓ ↦[I]{q} f : sProp (MT nD τ sig Ix Val Name U Lvl)) ⊢ ℓ ↦[I]{q} g := Entails.of_eq (pointsTo_congr h)
end Pts

variable [FloatOps F]

section Tile

variable (d : Dev nD) (L : grid3.Coords)

abbrev cV (L : grid3.Coords) : Fin τ.nSC := (L 0).castLE hcore3
abbrev jV (L : grid3.Coords) : Fin τ.nSub := (L 1).castLE hsub3

abbrev cAcell (d : Dev nD) (c : Fin τ.nSC) (i : Fin τ.nSub) : GSem nD τ sig := (V d c i, .dma cc3_scoped0.sem)
abbrev cXcell (d : Dev nD) (c : Fin τ.nSC) (i : Fin τ.nSub) : GSem nD τ sig := (V d c i, .dma cc3_scoped1.sem)
abbrev cBcell (d : Dev nD) (c : Fin τ.nSC) (i : Fin τ.nSub) : GSem nD τ sig := (V d c i, .dma cc3_scoped2.sem)

omit [FloatOps F] in
theorem ownSems0_V :
    (ownSems0 (V d (cV L) (jV L)) : sProp 𝕄)
      = iprop(semVal (cAcell d (cV L) (jV L)) 0 ∗ semVal (cXcell d (cV L) (jV L)) 0 ∗ semVal (cBcell d (cV L) (jV L)) 0
          ∗ bigSep ((((ownCells (V d (cV L) (jV L))).erase (cAcell d (cV L) (jV L))).erase (cXcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc3_scoped0.sem : SemLoc sig).isScoped .scVector = true; decide⟩),
    SparseCore.bigSep_erase' (Finset.mem_erase.mpr ⟨by simp [cAcell, cXcell]; decide, (mem_ownCells (g := cXcell d (cV L) (jV L))).mpr ⟨rfl, by
      show (SemLoc.dma cc3_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d (cV L) (jV L))).mpr ⟨rfl, by show (SemLoc.dma cc3_scoped2.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV L) (jV L)) (b := (Proc.scVector (cV L) (jV L)).devRef cc3_scratch2) rfl⟩⟩)]

variable (fE : Buf (Elt F) (eLoc d)) (fI : Buf (Elt F) (iLoc d)) (fO : Buf (Elt F) (oLoc d))

/-- What a tile is handed, and what it hands back. -/
def goP (c : Fin 2) (j : Fin 16) (g : Buf (Elt F) (oLoc d)) : sProp 𝕄 :=
  iprop((eLoc d ↦{lf c j} fE) ∗ (iLoc d ↦{lf c j} fI) ∗ oLoc d ↦[oSet c j]{fullShare} g)

/-- Tile `(c, j)`'s eight rows of the table. -/
def rowsOf {A : Type} (E : S256x2048.Idx → A) : SR.Idx → A := fun x =>
  E (ix2 ⟨(16 * (L 1).val + 8 * (L 0).val + (x 0).val) % 256, Nat.mod_lt _ (by decide)⟩ (x 1))

/-- The block of the result that trip `t` writes. -/
abbrev oBlk (t : Fin k3_t1_loop.trips) : Memref sig .scVector .hbm S8x1024 .f32 :=
  ((oV).slice (Rect.unit (s := S8x256x1024) (k3_off66 L t) S1x8x1024.size (k3_off66_inb L t)) (fun _ => rfl)).squeeze S8x1024 squeezes_S1x8x1024_S8x1024

omit [FloatOps F] in
theorem emb_oBlk (t : Fin k3_t1_loop.trips) (y : S8x1024.Idx) :
    (oBlk L t).view.emb y = (Rect.unit (s := S8x256x1024) (k3_off66 L t) S1x8x1024.size (k3_off66_inb L t)).emb (ix3 (0 : Fin 1) (y 0) (y 1)) := by
  show (Rect.unit (s := S8x256x1024) (k3_off66 L t) S1x8x1024.size (k3_off66_inb L t)).emb (Shape.reshapeEquiv _ y) = _
  congr 1
  have e : y = ix2 (y 0) (y 1) := by funext a; match a with | 0 => rfl | 1 => rfl
  rw [e]
  exact reshapeEquiv_ix2_1ab _ _ _

omit [FloatOps F] in
theorem emb_oBlk_val (t : Fin k3_t1_loop.trips) (y : S8x1024.Idx) :
    (((oBlk L t).view.emb y : S8x256x1024.Idx) 0).val = t.val
      ∧ (((oBlk L t).view.emb y : S8x256x1024.Idx) 1).val = 16 * (L 1).val + 8 * (L 0).val + (y 0).val
      ∧ (((oBlk L t).view.emb y : S8x256x1024.Idx) 2).val = (y 1).val := by
  rw [emb_oBlk]
  have h := k3_off66_eq L t
  have e := emb_unit_val (s := S8x256x1024) (k3_off66 L t) S1x8x1024.size (k3_off66_inb L t) (ix3 (0 : Fin 1) (y 0) (y 1))
  have h0 : k3_off66 L t 0 = t.val := congrFun h 0
  have h1 : k3_off66 L t 1 = 16 * (L 1).val + 8 * (L 0).val := congrFun h 1
  have h2 : k3_off66 L t 2 = 0 := congrFun h 2
  exact ⟨(e 0).trans (congrArg (· + 0) h0), (e 1).trans (congrArg (· + (y 0).val) h1), (e 2).trans ((congrArg (· + (y 1).val) h2).trans (Nat.zero_add _))⟩

omit [FloatOps F] in
theorem read_oBlk (t : Fin k3_t1_loop.trips) (f : S8x256x1024.Idx → Elt F .f32) (y : S8x1024.Idx) :
    (oBlk L t).view.read (Elt F) f y = f ((oBlk L t).view.emb y) := rfl

omit [FloatOps F] in
theorem oBlk_subset (t : Fin k3_t1_loop.trips) : (oBlk L t).view.set ⊆ oSet (L 0) (L 1) := by
  intro x hx
  obtain ⟨y, -, rfl⟩ := Finset.mem_map.mp hx
  obtain ⟨-, h, -⟩ := emb_oBlk_val L t y
  have hy : (y 0).val < 8 := (y 0).isLt
  refine Finset.mem_filter.mpr ⟨Finset.mem_univ _, ?_⟩
  show (((oBlk L t).view.emb y : S8x256x1024.Idx) 1).val / 8 = _
  omega

omit [FloatOps F] in
/-- What a trip's block holds is the result there. -/
theorem block_eq {A : Type} (E : S256x2048.Idx → A) (I : S64x128.Idx → BitVec 32) (t : Fin k3_t1_loop.trips) (y : S8x1024.Idx) :
    blockG I (rowsOf L E) t.val y = outF E I ((oBlk L t).view.emb y) := by
  obtain ⟨h0, h1, h2⟩ := emb_oBlk_val L t y
  unfold blockG outF pick rowsOf
  congr 1
  have hj : ((oBlk L t).view.emb y 1 : Fin 256).val < 256 := (((oBlk L t).view.emb y : S8x256x1024.Idx) 1).isLt
  funext a
  match a with
  | 0 => refine Fin.ext ?_; show (16 * (L 1).val + 8 * (L 0).val + (y 0).val) % 256 = (((oBlk L t).view.emb y : S8x256x1024.Idx) 1).val; rw [← h1]; exact Nat.mod_eq_of_lt hj
  | 1 =>
    refine Fin.ext ?_
    show (word I (8 * t.val + (y 1).val / 128) ((y 1).val % 128)).toNat % 2048
      = (word I (8 * (((oBlk L t).view.emb y : S8x256x1024.Idx) 0).val + (((oBlk L t).view.emb y : S8x256x1024.Idx) 2).val / 128) ((((oBlk L t).view.emb y : S8x256x1024.Idx) 2).val % 128)).toNat % 2048
    rw [h0, h2]

omit [FloatOps F] in
/-- What the copy of the tile's rows brings. -/
theorem rows_eq {A : Type} (E : S256x2048.Idx → A) (x : S8x2048.Idx) :
    E ((Rect.unit (s := S256x2048) (k3_off1 L) S8x2048.size (k3_off1_inb L)).emb x) = rowsOf L E x := by
  unfold rowsOf
  congr 1
  have h := k3_off1_eq L
  have hL0 : (L 0).val < 2 := (L 0).isLt
  have hL1 : (L 1).val < 16 := (L 1).isLt
  have hx : (x 0).val < 8 := (x 0).isLt
  have e := emb_unit_val (s := S256x2048) (k3_off1 L) S8x2048.size (k3_off1_inb L) x
  have h0 : k3_off1 L 0 = 16 * (L 1).val + 8 * (L 0).val := congrFun h 0
  have h1 : k3_off1 L 1 = 0 := congrFun h 1
  funext a
  match a with
  | 0 =>
    refine Fin.ext ((e 0).trans ((congrArg (· + (x 0).val) h0).trans ?_))
    show 16 * (L 1).val + 8 * (L 0).val + (x 0).val = (16 * (L 1).val + 8 * (L 0).val + (x 0).val) % 256
    omega
  | 1 => exact Fin.ext ((e 1).trans ((congrArg (· + (x 1).val) h1).trans (Nat.zero_add _)))

variable (O : CellTallies nD τ sig (HIx 2)) (W : Waits sig (HIx 2))

/-- What the loop holds besides the tile's own three buffers, before trip `k`. -/
def held (k : Nat) : sProp 𝕄 :=
  iprop(Transfers.MayWaits (V d (cV L) (jV L)) (none : HIx 2) O
      ∗ (∃ g, ⌜∀ x : S8x256x1024.Idx, (x 1).val / 8 = 2 * (L 1).val + (L 0).val → (x 0).val < k → g x = outF (A := Elt F .f32) fE fI x⌝ ∗ oLoc d ↦[oSet (L 0) (L 1)]{fullShare} g)
      ∗ semVal (V d (cV L) (jV L), SemLoc.dma cc3_scoped2.sem) 0
      ∗ ∃ W', ⌜∀ p ∈ W', p ∈ W ∨ p.2 = none⌝ ∗ owes (V d (cV L) (jV L)) O W')

/-- The loop's invariant. -/
def inv (k : Nat) (_ : PUnit) : sProp 𝕄 :=
  iprop(held d L fE fI O W k
    ∗ ((sI).view.loc (V d (cV L) (jV L)) ↦{fullShare} (fI : S64x128.Idx → BitVec 32))
    ∗ ((sR).view.loc (V d (cV L) (jV L)) ↦{fullShare} rowsOf (A := Elt F .f32) L fE)
    ∗ ∃ f, (sB).view.loc (V d (cV L) (jV L)) ↦{fullShare} f)

theorem inv_St (k : Nat) (u : PUnit) :
    inv d L fE fI O W k u ⊢ St (c := V d (cV L) (jV L)) sI sR sB (held d L fE fI O W k) fI (rowsOf (A := Elt F .f32) L fE) k 0 := by
  unfold inv St
  iintro ⟨H, Hs, Hx, %f, Hc⟩
  isplitl [H]; · iexact H
  isplitl [Hs]; · iexact Hs
  isplitl [Hx]; · iexact Hx
  iexists f; isplitr
  · ipureintro; exact agree_zero _ _ _ _
  · iexact Hc

theorem trip_end (t : Fin k3_t1_loop.trips) :
    St (c := V d (cV L) (jV L)) sI sR sB (held d L fE fI O W t.val) fI (rowsOf (A := Elt F .f32) L fE) t.val 512
      ⊢ wp frame (wpE (defs₀ (F := F)) 𝒱₀ (V d (cV L) (jV L)) none) Set.univ
          (do
            Prog.lift (.enqueueDma sB (.here (oBlk L t)) (.dma cc3_scoped2.sem) (Memref.isWhole_whole cc3_scratch2).wordExact ((View.wordExact_bits rfl).reshape _ _) ⟨Or.inl rfl, trivial⟩)
            Prog.lift (.waitDma2 cc3_scoped2.sem sB (oBlk L t) (Memref.isWhole_whole cc3_scratch2).wordExact ((View.wordExact_bits rfl).reshape _ _))
            pure ⟨⟩)
          (inv d L fE fI O W (t.val + 1)) := by
  unfold St held
  iintro ⟨⟨Hmw, ⟨%g, %hg, Ho⟩, HsemB, %W', %hW', HO⟩, Hs, Hx, %f, %hf, Hc⟩
  have hf' := agree_all hf
  ihave Ho' := (pointsTo_split_subset (q := fullShare) (f := g) (oBlk_subset L t)).1 $$ Ho
  icases Ho' with ⟨Hb, Hr⟩
  ihave Hb' := (show (oLoc d ↦[(oBlk L t).view.set]{fullShare} g : sProp 𝕄) ⊢ ((oBlk L t).view.loc (V d (cV L) (jV L)) ↦[(oBlk L t).view.set]{fullShare} g) from .rfl) $$ Hb
  sl_exec (disch := exact View.amount_pos _ _ (show 0 < S8x1024.numel by decide))
  sl_step
  have hin : ∀ y : S8x1024.Idx, (oBlk L t).view.writes (Elt F) g [⟨Rect.whole S8x1024, trip_end.sl.dma0 d L f⟩] ((oBlk L t).view.emb y)
      = outF (A := Elt F .f32) fE fI ((oBlk L t).view.emb y) := by
    intro y
    have h1 := View.read_writes_cons_emb (v := (oBlk L t).view) (Val := Elt F) (f := g) (Rect.whole S8x1024) (trip_end.sl.dma0 d L f) [] y
    rw [emb_whole, read_oBlk] at h1
    have h2 : trip_end.sl.dma0 d L f y = blockG fI (rowsOf (A := Elt F .f32) L fE) t.val y := congrFun hf' y
    rw [h1, h2]
    exact block_eq L fE fI t y
  have hout : ∀ x : S8x256x1024.Idx, x ∉ (oBlk L t).view.set → (oBlk L t).view.writes (Elt F) g [⟨Rect.whole S8x1024, trip_end.sl.dma0 d L f⟩] x = g x := by
    intro x hx
    refine View.writes_apply_of_forall_ne _ _ _ fun y (e : (oBlk L t).view.emb y = x) => hx ?_
    rw [← e]
    exact View.emb_mem_set _ y
  unfold inv held
  isplitl [Hmw Hr Hb' HsemB HO]
  · isplitl [Hmw]; · iexact Hmw
    isplitl [Hr Hb']
    · iexists (oBlk L t).view.writes (Elt F) g [⟨Rect.whole S8x1024, trip_end.sl.dma0 d L f⟩]
      isplitr
      · ipureintro
        intro x hx1 hx0
        by_cases hm : x ∈ (oBlk L t).view.set
        · obtain ⟨y, -, rfl⟩ := Finset.mem_map.mp hm
          exact hin y
        · rw [hout x hm]
          refine hg x hx1 ?_
          refine lt_of_le_of_ne (Nat.lt_succ_iff.mp hx0) fun e => hm ?_
          have hx1' : (x 1).val < 256 := (x 1).isLt
          have hy := emb_oBlk_val L t (ix2 (⟨(x 1).val % 8, Nat.mod_lt _ (by decide)⟩ : Fin 8) (x 2))
          have ex : x = (oBlk L t).view.emb (ix2 (⟨(x 1).val % 8, Nat.mod_lt _ (by decide)⟩ : Fin 8) (x 2)) := by
            funext a
            match a with
            | 0 => exact Fin.ext (e.trans hy.1.symm)
            | 1 => exact Fin.ext ((show (x 1).val = 16 * (L 1).val + 8 * (L 0).val + (x 1).val % 8 by omega).trans hy.2.1.symm)
            | 2 => exact Fin.ext hy.2.2.symm
          rw [ex]
          exact View.emb_mem_set _ _
      · iapply (pointsTo_split_subset (q := fullShare) (oBlk_subset L t)).2
        isplitl [Hb']
        · iexact Hb'
        · iapply (pts_eq (f := g) fun x hx => (hout x (Finset.mem_sdiff.mp hx).2).symm)
          iexact Hr
    isplitl [HsemB]; · iexact HsemB
    iexists (insert (SemLoc.dma cc3_scoped2.sem, (default : HIx 2)) W'); isplitr
    · ipureintro; intro p hp
      rcases Finset.mem_insert.mp hp with hp | hp
      · exact .inr (hp ▸ rfl)
      · exact hW' p hp
    · iexact HO
  isplitl [Hs]; · iexact Hs
  isplitl [Hx]; · iexact Hx
  iexists _; iexact Hc

attribute [local irreducible] Prog.lift SparseCore.vectorLoadIdx Idealize.SL.Sem.wp St in
set_option maxHeartbeats 0 in
theorem tile_body (hF : (K (F := F)).Facts) (hI : InRange (fI : S64x128.Idx → BitVec 32)) (hO : ∀ g, O g none = 0) :
    iprop(levAts (K (F := F)).L (K (F := F)).lev ∗ emp ∗ goP d fE fI (L 0) (L 1) fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_body L eV (Memref.isWhole_whole _) iV (Memref.isWhole_whole _) oV (Memref.isWhole_whole _)
            sI (Memref.isWhole_whole _) sR (Memref.isWhole_whole _) sB (Memref.isWhole_whole _) cc3_scoped0 cc3_scoped1 cc3_scoped2)
          fun _ => iprop(goP d fE fI (L 0) (L 1) (outF (A := Elt F .f32) fE fI) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goP
  iintro ⟨#Hlv, -, ⟨HE, HI, Ho⟩, ⟨⟨%fs, Hs⟩, ⟨%fx, Hx⟩, ⟨%fc, Hc⟩, Hbufs⟩, ⟨HsemA, HsemX, HsemB, Hsems⟩, HO⟩
  ihave Hmw := ((K (F := F)).mayWaits_none (thr := V d (cV L) (jV L)) hO) $$ Hlv
  ihave HE' := (show (eLoc d ↦{lf (L 0) (L 1)} fE : sProp 𝕄) ⊢ ((eV).view.loc (V d (cV L) (jV L)) ↦{lf (L 0) (L 1)} fE) from .rfl) $$ HE
  ihave HI' := (show (iLoc d ↦{lf (L 0) (L 1)} fI : sProp 𝕄) ⊢ ((iV).view.loc (V d (cV L) (jV L)) ↦{lf (L 0) (L 1)} fI) from .rfl) $$ HI
  ihave Hs' := (show ((V d (cV L) (jV L)).loc cc3_scratch0 ↦{fullShare} fs : sProp 𝕄) ⊢ ((sI).view.loc (V d (cV L) (jV L)) ↦{fullShare} fs) from .rfl) $$ Hs
  ihave Hx' := (show ((V d (cV L) (jV L)).loc cc3_scratch1 ↦{fullShare} fx : sProp 𝕄) ⊢ ((sR).view.loc (V d (cV L) (jV L)) ↦{fullShare} fx) from .rfl) $$ Hx
  ihave Hc' := (show ((V d (cV L) (jV L)).loc cc3_scratch2 ↦{fullShare} fc : sProp 𝕄) ⊢ ((sB).view.loc (V d (cV L) (jV L)) ↦{fullShare} fc) from .rfl) $$ Hc
  delta cc3__sc_body
  sl_exec
  sl_for (inv d L fE fI O W) $$ [Hmw Ho Hs' Hx' Hc' HsemB HO]
  case region =>
    intro k u
    refine (inv_St d L fE fI O W k.val u).trans ?_
    apply step_part
    case hm =>
      delta k3_part68
      repeat
        apply step_part
        case hm =>
          delta k3_part1 k3_part2 k3_part3 k3_part4 k3_part5 k3_part6 k3_part7 k3_part8 k3_part9 k3_part10 k3_part11 k3_part12 k3_part13 k3_part14 k3_part15 k3_part16 k3_part17 k3_part18 k3_part19 k3_part20 k3_part21 k3_part22 k3_part23 k3_part24 k3_part25 k3_part26 k3_part27 k3_part28 k3_part29 k3_part30 k3_part31 k3_part32 k3_part33 k3_part34 k3_part35 k3_part36 k3_part37 k3_part38 k3_part39 k3_part40 k3_part41 k3_part42 k3_part43 k3_part44 k3_part45 k3_part46 k3_part47 k3_part48 k3_part49 k3_part50 k3_part51 k3_part52 k3_part53 k3_part54 k3_part55 k3_part56 k3_part57 k3_part58 k3_part59 k3_part60 k3_part61 k3_part62 k3_part63 k3_part64 k3_part65 k3_part66 k3_part67
          repeat first
            | refine step_look ?_
            | refine step_idx ?_
            | refine step_chk (chk (fun _ => rfl) (fun _ => rfl) (fun _ => rfl) (fun _ => rfl) (fun _ => rfl) (fun _ => rfl) (fun _ => rfl) (fun _ => rfl) hI _ _) ?_
            | refine step_dead ?_
            | refine step_store rfl rfl rfl (fun _ => rfl) rfl ?_
            | refine step_ret
            | refine step_end (step_store rfl rfl rfl (fun _ => rfl) rfl ?_)
            | refine step_end (step_dead ?_)
        dsimp only
      refine step_ret
    dsimp only
    repeat
      apply step_part
      case hm =>
        delta k3_part1 k3_part2 k3_part3 k3_part4 k3_part5 k3_part6 k3_part7 k3_part8 k3_part9 k3_part10 k3_part11 k3_part12 k3_part13 k3_part14 k3_part15 k3_part16 k3_part17 k3_part18 k3_part19 k3_part20 k3_part21 k3_part22 k3_part23 k3_part24 k3_part25 k3_part26 k3_part27 k3_part28 k3_part29 k3_part30 k3_part31 k3_part32 k3_part33 k3_part34 k3_part35 k3_part36 k3_part37 k3_part38 k3_part39 k3_part40 k3_part41 k3_part42 k3_part43 k3_part44 k3_part45 k3_part46 k3_part47 k3_part48 k3_part49 k3_part50 k3_part51 k3_part52 k3_part53 k3_part54 k3_part55 k3_part56 k3_part57 k3_part58 k3_part59 k3_part60 k3_part61 k3_part62 k3_part63 k3_part64 k3_part65 k3_part66 k3_part67
        repeat first
          | refine step_look ?_
          | refine step_idx ?_
          | refine step_chk (chk (fun _ => rfl) (fun _ => rfl) (fun _ => rfl) (fun _ => rfl) (fun _ => rfl) (fun _ => rfl) (fun _ => rfl) (fun _ => rfl) hI _ _) ?_
          | refine step_dead ?_
          | refine step_store rfl rfl rfl (fun _ => rfl) rfl ?_
          | refine step_ret
          | refine step_end (step_store rfl rfl rfl (fun _ => rfl) rfl ?_)
          | refine step_end (step_dead ?_)
      dsimp only
    refine step_dead ?_
    refine step_store rfl rfl rfl (fun _ => rfl) rfl ?_
    refine step_dead ?_
    refine step_store rfl rfl rfl (fun _ => rfl) rfl ?_
    refine step_dead ?_
    refine step_store rfl rfl rfl (fun _ => rfl) rfl ?_
    exact trip_end d L fE fI O W k
  · unfold inv held
    isplitl [Hmw Ho HsemB HO]
    · isplitl [Hmw]; · iexact Hmw
      isplitl [Ho]
      · iexists fO
        isplitr
        · ipureintro; intro x _ h; exact absurd h (Nat.not_lt_zero _)
        · iexact Ho
      isplitl [HsemB]; · iexact HsemB
      iexists _; isplitr
      swap; · iexact HO
      ipureintro; intro p hp
      rcases Finset.mem_insert.mp hp with hp | hp
      · exact .inr (hp ▸ rfl)
      rcases Finset.mem_insert.mp hp with hp | hp
      · exact .inr (hp ▸ rfl)
      · exact .inl hp
    isplitl [Hs']
    · iapply (pts_eq (f := View.write (Elt F) (sI).view fs (tile_body.sl.dma0 d fI) Finset.univ) fun x _ => congrFun (View.write_whole_univ (Val := Elt F) cc3_scratch0 fs (tile_body.sl.dma0 d fI)) x)
      iexact Hs'
    isplitl [Hx']
    · have hrow : ∀ x : S8x2048.Idx, tile_body.sl.dma0_1 d L fE x = rowsOf (A := Elt F .f32) L fE x := fun x => rows_eq (A := Elt F .f32) L fE x
      iapply (pts_eq (g := rowsOf (A := Elt F .f32) L fE) (f := View.write (Elt F) (sR).view fx (tile_body.sl.dma0_1 d L fE) Finset.univ) fun x _ =>
        (congrFun (View.write_whole_univ (Val := Elt F) cc3_scratch1 fx (tile_body.sl.dma0_1 d L fE)) x).trans (hrow x))
      iexact Hx'
    iexists _; iexact Hc'
  iintro %_ HI
  unfold inv held
  icases HI with ⟨⟨-, ⟨%g, %hg, Ho⟩, HsemB, %W', %hW', HO⟩, Hs, Hx, %f, Hc⟩
  sl_exec
  sl_step
  isplitl [HE' HI' Ho]
  · isplitl [HE']; · iexact HE'
    isplitl [HI']; · iexact HI'
    iapply (pts_eq (f := g) fun x hx => hg x (Finset.mem_filter.mp hx).2 (x 0).isLt)
    iexact Ho
  isplitl [Hs Hx Hc Hbufs]
  · isplitl [Hs]; · iexists _; iexact Hs
    isplitl [Hx]; · iexists _; iexact Hx
    isplitl [Hc]; · iexists _; iexact Hc
    iexact Hbufs
  isplitl [HsemA HsemX HsemB Hsems]
  · isplitl [HsemA]; · iexact HsemA
    isplitl [HsemX]; · iexact HsemX
    isplitl [HsemB]; · iexact HsemB
    iexact Hsems
  iexists W'; isplitr
  · ipureintro; exact hW'
  · iexact HO

end Tile

end Cert.Proof.KTile3
-- ==== Proof.KCall3.lean ====
/-
  A lookup of the SparseCore as the launch sees it: a tile's task, and the three arrays as the tiles' pieces.
-/
module

public import proofs.«01_k».proof.Proof.KTile3
public import proofs.«01_k».proof.Proof.KCall1

@[expose] public section

noncomputable section

namespace Cert.Proof.KCall3

open Cert.KernelIdeal Cert.KernelIdeal.Gen Cert.Proof.Steps Cert.Proof.KTypes Cert.Proof.KTile3
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx
open Cert.Proof.KCall1 (tileEquiv)

variable {F : FTy → Type} [FloatOps F]

local notation "𝕄" => MT nD τ sig (HIx 2) (Elt F) ℕ UU ℕ

abbrev c2 (c : Fin ((K (F := F)).nCore 1)) : Fin 2 := c
abbrev c16 (i : Fin ((K (F := F)).nSub 1)) : Fin 16 := i

instance goP_storable (d : Dev nD) (fE : Buf (Elt F) (eLoc d)) (fI : Buf (Elt F) (iLoc d)) (c : Fin 2) (j : Fin 16) (g : Buf (Elt F) (oLoc d)) :
    BI.Storable (upEmb : UEmb _ 𝕄) (goP d fE fI c j g) := by
  unfold goP; infer_instance

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3__sc_body (coordsV c s)
          (Memref.whole main_arg1_scv) (Memref.isWhole_whole _) (Memref.whole main_v5_0_scv) (Memref.isWhole_whole _) (Memref.whole main_v6_scv) (Memref.isWhole_whole _)
          (Memref.whole cc3_scratch0) (Memref.isWhole_whole _) (Memref.whole cc3_scratch1) (Memref.isWhole_whole _) (Memref.whole cc3_scratch2) (Memref.isWhole_whole _) cc3_scoped0 cc3_scoped1 cc3_scoped2) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task, from its shares and rows to its rows at the result. -/
theorem tile_wp (d : Dev nD) (fE : Buf (Elt F) (eLoc d)) (fI : Buf (Elt F) (iLoc d)) (fO : Buf (Elt F) (oLoc d))
    (hI : InRange (fI : S64x128.Idx → BitVec 32)) (c : Fin ((K (F := F)).nCore 1)) (i : Fin ((K (F := F)).nSub 1))
    (O : CellTallies nD τ sig (HIx 2)) (W : Waits sig (HIx 2)) (hO : ∀ g, O g none = 0) :
    iprop(levAts (K (F := F)).L (K (F := F)).lev ∗ emp ∗ goP d fE fI (c2 (F := F) c) (c16 (F := F) i) fO
        ∗ scopedBufs (V d ((K (F := F)).core 1 c) ((K (F := F)).sub 1 i)) ∗ scopedSems0 (V d ((K (F := F)).core 1 c) ((K (F := F)).sub 1 i))
        ∗ owes (V d ((K (F := F)).core 1 c) ((K (F := F)).sub 1 i)) O W)
      ⊢ wp frame (wpE (D (F := F)) 𝒱 (V d ((K (F := F)).core 1 c) ((K (F := F)).sub 1 i)) (some v₀)) Set.univ
          (D (F := F) (.scVector ((K (F := F)).core 1 c) ((K (F := F)).sub 1 i)) ((K (F := F)).body 1) ((K (F := F)).args 1))
          fun _ => iprop(goP d fE fI (c2 (F := F) c) (c16 (F := F) i) (outF (A := Elt F .f32) fE fI)
            ∗ scopedBufs (V d ((K (F := F)).core 1 c) ((K (F := F)).sub 1 i)) ∗ scopedSems0 (V d ((K (F := F)).core 1 c) ((K (F := F)).sub 1 i))
            ∗ ∃ W', ⌜∀ p ∈ W', p ∈ W ∨ p.2 = none ∨ p.2 = some 1⌝ ∗ owes (V d ((K (F := F)).core 1 c) ((K (F := F)).sub 1 i)) O W') := by
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector]; simp only [SparseCore.onTile, hc, and_self, ↓reduceDIte]
  exact (tile_body d (coordsV ⟨_, hc.1⟩ ⟨_, hc.2⟩) fE fI fO O W facts hI hO).trans (wp_mono frame _ _ fun _ => obl_post)

/-! ## The arrays as the tiles' pieces -/

omit [FloatOps F] in
theorem shares_eq {ℓ : Loc nD τ sig} (f : Buf (Elt F) ℓ) :
    (ℓ ↦{fullShare} f : sProp 𝕄) = bigSep Finset.univ fun p : Fin 2 × Fin 16 => ℓ ↦{lf p.1 p.2} f := by
  rw [ShareLeaves.pointsTo_leaves Finset.univ f 5 fullShare, bigSep_univ_equiv tileEquiv]
  rfl

omit [FloatOps F] in
theorem mem_oSet {c : Fin 2} {j : Fin 16} {x : S8x256x1024.Idx} : x ∈ oSet c j ↔ (x 1).val / 8 = 2 * j.val + c.val := by
  simp [oSet]

omit [FloatOps F] in
theorem oSets_cover : (Finset.univ : Finset (Fin 2 × Fin 16)).biUnion (fun p => oSet p.1 p.2) = Finset.univ := by
  refine Finset.eq_univ_iff_forall.mpr fun x => Finset.mem_biUnion.mpr ?_
  have h : (x 1).val < 256 := (x 1).isLt
  refine ⟨(⟨(x 1).val / 8 % 2, by omega⟩, ⟨(x 1).val / 8 / 2, by omega⟩), Finset.mem_univ _, mem_oSet.mpr ?_⟩
  show (x 1).val / 8 = 2 * ((x 1).val / 8 / 2) + (x 1).val / 8 % 2
  omega

omit [FloatOps F] in
theorem oSets_disjoint : ∀ p ∈ (Finset.univ : Finset (Fin 2 × Fin 16)), ∀ p' ∈ (Finset.univ : Finset (Fin 2 × Fin 16)), p ≠ p' → Disjoint (oSet p.1 p.2) (oSet p'.1 p'.2) := by
  intro p _ p' _ hne
  refine Finset.disjoint_left.mpr fun x h1 h2 => hne ?_
  have e := (mem_oSet.mp h1).symm.trans (mem_oSet.mp h2)
  have := p.1.isLt; have := p'.1.isLt
  exact Prod.ext (Fin.ext (by omega)) (Fin.ext (by omega))

omit [FloatOps F] in
theorem rows_split (d : Dev nD) (f : Buf (Elt F) (oLoc d)) :
    (oLoc d ↦{fullShare} f : sProp 𝕄) = bigSep Finset.univ fun p : Fin 2 × Fin 16 => oLoc d ↦[oSet p.1 p.2]{fullShare} f := by
  rw [← pointsTo_biUnion Finset.univ (ℓ := oLoc d) (fun p : Fin 2 × Fin 16 => oSet p.1 p.2) oSets_disjoint, oSets_cover]

omit [FloatOps F] in
/-- The three arrays whole are every tile's pieces. -/
theorem tiles_eq (d : Dev nD) (fE : Buf (Elt F) (eLoc d)) (fI : Buf (Elt F) (iLoc d)) (g : Buf (Elt F) (oLoc d)) :
    (iprop((eLoc d ↦{fullShare} fE) ∗ (iLoc d ↦{fullShare} fI) ∗ oLoc d ↦{fullShare} g) : sProp 𝕄)
      = bigSep Finset.univ fun c : Fin 2 => bigSep Finset.univ fun j : Fin 16 => goP d fE fI c j g := by
  rw [shares_eq fE, shares_eq fI, rows_split, ← bigSep_sep', ← bigSep_sep', bigSep_univ_prod]
  rfl

end Cert.Proof.KCall3

end
-- ==== Proof.KLaunch.lean ====
/-
  The run of the whole kernel: the host's operations, the two pipelined calls and the two lookups of the SparseCore, every
  buffer that outlives the calls ending at the last valuation.
-/
module

public import proofs.«01_k».proof.Proof.KTwoRecord0
public import proofs.«01_k».proof.Proof.KTwoRecord1
public import proofs.«01_k».proof.Proof.KCall1
public import proofs.«01_k».proof.Proof.KCall3

@[expose] public section

set_option maxRecDepth 16384

noncomputable section

namespace Cert.Proof.KLaunch

open Cert.KernelIdeal Cert.KernelIdeal.Gen Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KTypes Cert.Proof.KTwo
open Cert.Proof.Steps (InRange)

variable {F : FTy → Type} [FloatOps F]

local notation "𝕄" => MT nD τ sig (HIx 2) (Elt F) ℕ UU ℕ

variable (m : (ℓ : Loc nD τ sig) → Buf (Elt F) ℓ) (ρ : Dev nD → PrngReg)

/-- The codes of both calls name rows of the table. -/
def PreOK : Prop := ∀ d : Dev nD, InRange (W2 m ρ d (Proc.devRef .tc main_v3_0) : S64x128.Idx → BitVec 32)
  ∧ InRange (W3 m ρ d (Proc.devRef .tc main_v5_0) : S64x128.Idx → BitVec 32)

/-- What one lookup's tile holds, its rows of the result at `g`. -/
abbrev go1 (d : Dev nD) (c : Fin 2) (j : Fin 16) (g : Buf (Elt F) (KTile1.oLoc d)) : sProp 𝕄 :=
  KTile1.goP d (W2 m ρ d (Proc.devRef .tc main_arg1)) (W2 m ρ d (Proc.devRef .tc main_v3_0)) c j g
abbrev go3 (d : Dev nD) (c : Fin 2) (j : Fin 16) (g : Buf (Elt F) (KTile3.oLoc d)) : sProp 𝕄 :=
  KTile3.goP d (W3 m ρ d (Proc.devRef .tc main_arg1)) (W3 m ρ d (Proc.devRef .tc main_v5_0)) c j g
abbrev o1 (d : Dev nD) : Buf (Elt F) (KTile1.oLoc d) := W2 m ρ d (Proc.devRef .tc main_v4)
abbrev o3 (d : Dev nD) : Buf (Elt F) (KTile3.oLoc d) := W3 m ρ d (Proc.devRef .tc main_v6)
abbrev r1 (d : Dev nD) : Buf (Elt F) (KTile1.oLoc d) :=
  KTile1.outF (A := Elt F .f32) (W2 m ρ d (Proc.devRef .tc main_arg1)) (W2 m ρ d (Proc.devRef .tc main_v3_0))
abbrev r3 (d : Dev nD) : Buf (Elt F) (KTile3.oLoc d) :=
  KTile3.outF (A := Elt F .f32) (W3 m ρ d (Proc.devRef .tc main_arg1)) (W3 m ρ d (Proc.devRef .tc main_v5_0))

/-- What the handshakes of both lookups carry. -/
def P : (K (F := F)).Pay (nD := nD) (Val := Elt F) (Name := ℕ) (U := UU) where
  st := fun q d c => match q with
    | 0 => bigSep Finset.univ fun j : Fin 16 => go1 m ρ d (KCall1.c2 (F := F) c) j (o1 m ρ d)
    | 1 => bigSep Finset.univ fun j : Fin 16 => go3 m ρ d (KCall3.c2 (F := F) c) j (o3 m ρ d)
  dn := fun q d c => match q with
    | 0 => bigSep Finset.univ fun j : Fin 16 => go1 m ρ d (KCall1.c2 (F := F) c) j (r1 m ρ d)
    | 1 => bigSep Finset.univ fun j : Fin 16 => go3 m ρ d (KCall3.c2 (F := F) c) j (r3 m ρ d)
  go := fun q d c i => match q with
    | 0 => go1 m ρ d (KCall1.c2 (F := F) c) (KCall1.c16 (F := F) i) (o1 m ρ d)
    | 1 => go3 m ρ d (KCall3.c2 (F := F) c) (KCall3.c16 (F := F) i) (o3 m ρ d)
  td := fun q d c i => match q with
    | 0 => go1 m ρ d (KCall1.c2 (F := F) c) (KCall1.c16 (F := F) i) (r1 m ρ d)
    | 1 => go3 m ρ d (KCall3.c2 (F := F) c) (KCall3.c16 (F := F) i) (r3 m ρ d)
  x := fun _ _ => iprop(emp)

instance P_storable : (P (F := F) m ρ).IsStorable where
  st q d c := match q with
    | 0 => (inferInstance : BI.Storable (upEmb : UEmb _ 𝕄) (bigSep Finset.univ fun j : Fin 16 => go1 m ρ d (KCall1.c2 (F := F) c) j (o1 m ρ d)))
    | 1 => (inferInstance : BI.Storable (upEmb : UEmb _ 𝕄) (bigSep Finset.univ fun j : Fin 16 => go3 m ρ d (KCall3.c2 (F := F) c) j (o3 m ρ d)))
  dn q d c := match q with
    | 0 => (inferInstance : BI.Storable (upEmb : UEmb _ 𝕄) (bigSep Finset.univ fun j : Fin 16 => go1 m ρ d (KCall1.c2 (F := F) c) j (r1 m ρ d)))
    | 1 => (inferInstance : BI.Storable (upEmb : UEmb _ 𝕄) (bigSep Finset.univ fun j : Fin 16 => go3 m ρ d (KCall3.c2 (F := F) c) j (r3 m ρ d)))
  go q d c i := match q with
    | 0 => KCall1.goP_storable d _ _ _ _ _
    | 1 => KCall3.goP_storable d _ _ _ _ _
  td q d c i := match q with
    | 0 => KCall1.goP_storable d _ _ _ _ _
    | 1 => KCall3.goP_storable d _ _ _ _ _

/-! ## The launch theorem's obligations -/

theorem tileObl (hpre : PreOK m ρ) (q : Fin 2) : (K (F := F)).TileObl (D (F := F)) 𝒱 (P m ρ) v₀ q := by
  intro d c i O W hO _ _
  simp only [show (P m ρ).ox = fun _ _ => 0 from rfl, add_zero]
  match q with
  | 0 => exact KCall1.tile_wp d _ _ (o1 m ρ d) (hpre d).1 c i O W hO
  | 1 => exact KCall3.tile_wp d _ _ (o3 m ρ d) (hpre d).2 c i O W hO

omit [FloatOps F] in
theorem split_same (A B : sProp 𝕄) : A ⊢ |={Set.univ}=> iprop(A ∗ (B -∗ B)) := by
  iintro H; imodintro
  isplitl [H]; · iexact H
  iintro H; iexact H

theorem vecSplit (q : Fin 2) : (K (F := F)).VecSplit' (P m ρ) q := by
  intro d c
  match q with
  | 0 =>
    exact split_same (bigSep Finset.univ fun j : Fin 16 => go1 m ρ d (KCall1.c2 (F := F) c) j (o1 m ρ d))
      (bigSep Finset.univ fun j : Fin 16 => go1 m ρ d (KCall1.c2 (F := F) c) j (r1 m ρ d))
  | 1 =>
    exact split_same (bigSep Finset.univ fun j : Fin 16 => go3 m ρ d (KCall3.c2 (F := F) c) j (o3 m ρ d))
      (bigSep Finset.univ fun j : Fin 16 => go3 m ρ d (KCall3.c2 (F := F) c) j (r3 m ρ d))

/-! ## The launch's own resources -/

def u₀ : UU := (initOf (K (F := F)).hsCells (K (F := F)).hsToks,
  (initOf (Pipeline.cells cfgs cellOf_inj) (Pipeline.launchToks cfgs cellOf_inj), 1))

abbrev G (d : Dev nD) : sProp 𝕄 := Pipeline.ghostOn (pcfgs (F := F)) adm EP Finset.univ d

theorem ghosts : (BI.own (EP (initOf (Pipeline.cells cfgs cellOf_inj) (Pipeline.launchToks cfgs cellOf_inj))) : sProp 𝕄)
    ⊢ |={Set.univ}=> bigSep Finset.univ fun d : Dev nD => G (F := F) d := by
  iintro H
  imod (Pipeline.fund_ghost (Pipeline.pin (pcfgs (F := F)) adm) EP cellOf_inj) $$ H with ⟨Hg, Ht⟩
  imodintro
  iapply (show iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun c : Dev nD => G (F := F) c from by
    rw [← bigSep_sep']
    exact bigSep_mono fun c _ => show iprop((bigSep Finset.univ fun p => Pipeline.cellsGhost (Pipeline.pin (pcfgs (F := F)) adm) EP p c)
          ∗ bigSep Finset.univ fun p => (Pipeline.toksInit (Pipeline.pin (pcfgs (F := F)) adm) EP p c : sProp 𝕄)) ⊢ G (F := F) c
      from Entails.of_eq (by unfold G Pipeline.ghostOn Pipeline.PerCore.ghostOn; rw [bigSep_sep']))
  isplitl [Hg] <;> iassumption

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m ρ).x q thr) := by
  unfold u₀
  iintro Hu
  ihave H := (ownU_pair _ _) $$ Hu
  icases H with ⟨HH, HR⟩
  ihave H := (own_pair_emb embR _ _) $$ HR
  icases H with ⟨HP, -⟩
  imod ((show (BI.own ((Emb.inl.trans embR : Emb UP 𝕄) (initOf (Pipeline.cells cfgs cellOf_inj) (Pipeline.launchToks cfgs cellOf_inj))) : sProp 𝕄) ⊢ _ from
    ghosts (F := F))) $$ HP with HG
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The program's segments -/

abbrev SegT : Type 1 := Pipeline.Seg (pcfgs (F := F)) adm (pdats m ρ) none defs₀ 𝒱₀ (K (F := F)).L (K (F := F)).lev

abbrev segsA : List (SegT m ρ) := [ .host (hseg 0 hostOps0 hostOps0_sub hostOps0_fresh (W0 m ρ)), .region (reg0 m ρ) ]
abbrev segsB : List (SegT m ρ) := [ .region (reg1 m ρ) ]
abbrev segsC : List (SegT m ρ) := [ .host (hseg 2 hostOps2 hostOps2_sub hostOps2_fresh (W3s m ρ)) ]

theorem main_eq (d : Dev nD) : main (F := F) d
    = (SparseCore.liftProg (Pipeline.Seg.run (segsA m ρ))) >>= fun _ => (sc.run d 0) >>= fun _ =>
        (SparseCore.liftProg (Pipeline.Seg.run (segsB m ρ))) >>= fun _ => (sc.run d 1) >>= fun _ =>
          SparseCore.liftProg (Pipeline.Seg.run (segsC m ρ)) := by
  chain_rfl

theorem seg_wp (d : Dev nD) (Q : PUnit → sProp 𝕄) (l : List (SegT m ρ)) (S : Finset (Fin 2)) (T₁ T₂ : Dev nD → sProp 𝕄)
    (hnd : (Pipeline.Seg.pipes l).Nodup) (hS : ∀ p ∈ Pipeline.Seg.pipes l, p ∈ S) (hch : Pipeline.Seg.Chains T₁ l T₂) :
    iprop((iprop(boundary (SparseCore.T d) ∗ T₂ d) -∗ Q ⟨⟩) ∗ boundary (SparseCore.T d) ∗ T₁ d ∗ levAts (K (F := F)).L (K (F := F)).lev
        ∗ Pipeline.ghostOn (pcfgs (F := F)) adm EP S d)
      ⊢ wp frame (wpE ((K (F := F)).defs (D (F := F))) 𝒱 (SparseCore.T d) none) Set.univ (SparseCore.liftProg (Pipeline.Seg.run l)) Q :=
  (Pipeline.wp_segs (pcfgs (F := F)) adm (pdats m ρ) none cellOf_inj EP defs₀ 𝒱₀ (K (F := F)).L (K (F := F)).lev d l S T₁ T₂ hnd hS hch).trans
    ((K (F := F)).wp_liftProg (D (F := F)) 𝒱 (SparseCore.T d) Set.univ none _ _)

/-! ## The lookups' arrays among the buffers held -/

/-- The buffers but three. -/
abbrev rest3 (a b c : Ref sig .tc) : Finset (DevRef τ sig) :=
  (((Pipeline.ucRefs τ sig).erase (Proc.devRef .tc a)).erase (Proc.devRef .tc b)).erase (Proc.devRef .tc c)

omit [FloatOps F] in
theorem held3 (d : Dev nD) (W : Valuation τ sig (Elt F)) (a b c : Ref sig .tc)
    (ha : ¬ (Proc.devRef .tc a : DevRef τ sig).isScoped) (hb : ¬ (Proc.devRef .tc b : DevRef τ sig).isScoped) (hc : ¬ (Proc.devRef .tc c : DevRef τ sig).isScoped)
    (hba : b ≠ a) (hca : c ≠ a) (hcb : c ≠ b) :
    (StableHlo.held (SparseCore.T d) (Pipeline.ucRefs τ sig) W : sProp 𝕄)
      = iprop(((SparseCore.T d).loc a ↦{fullShare} W (Proc.devRef .tc a)) ∗ ((SparseCore.T d).loc b ↦{fullShare} W (Proc.devRef .tc b))
          ∗ ((SparseCore.T d).loc c ↦{fullShare} W (Proc.devRef .tc c)) ∗ StableHlo.held (SparseCore.T d) (rest3 a b c) W) := by
  unfold StableHlo.held
  rw [SparseCore.bigSep_erase' (mem_uc a ha),
    SparseCore.bigSep_erase' (Finset.mem_erase.mpr ⟨fun e => hba (Proc.devRef_injective _ e), mem_uc b hb⟩),
    SparseCore.bigSep_erase' (Finset.mem_erase.mpr ⟨fun e => hcb (Proc.devRef_injective _ e),
      Finset.mem_erase.mpr ⟨fun e => hca (Proc.devRef_injective _ e), mem_uc c hc⟩⟩)]

omit [FloatOps F] in
theorem held_rest (d : Dev nD) (W W' : Valuation τ sig (Elt F)) (a b c : Ref sig .tc) (h : ∀ r, r ≠ Proc.devRef .tc c → W' r = W r) :
    (StableHlo.held (SparseCore.T d) (rest3 a b c) W : sProp 𝕄) = StableHlo.held (SparseCore.T d) (rest3 a b c) W' := by
  unfold StableHlo.held
  exact bigSep_congr fun r hr => by rw [h r (Finset.mem_erase.mp hr).1]

theorem st0_eq (d : Dev nD) : (bigSep Finset.univ fun c : Fin ((K (F := F)).nCore 0) => (P m ρ).st 0 d c)
    = (iprop((KTile1.eLoc d ↦{fullShare} W2 m ρ d (Proc.devRef .tc main_arg1)) ∗ (KTile1.iLoc d ↦{fullShare} W2 m ρ d (Proc.devRef .tc main_v3_0)) ∗ KTile1.oLoc d ↦{fullShare} o1 m ρ d) : sProp 𝕄) :=
  (KCall1.tiles_eq d _ _ (o1 m ρ d)).symm
theorem dn0_eq (d : Dev nD) : (bigSep Finset.univ fun c : Fin ((K (F := F)).nCore 0) => (P m ρ).dn 0 d c)
    = (iprop((KTile1.eLoc d ↦{fullShare} W2 m ρ d (Proc.devRef .tc main_arg1)) ∗ (KTile1.iLoc d ↦{fullShare} W2 m ρ d (Proc.devRef .tc main_v3_0)) ∗ KTile1.oLoc d ↦{fullShare} r1 m ρ d) : sProp 𝕄) :=
  (KCall1.tiles_eq d _ _ (r1 m ρ d)).symm
theorem st1_eq (d : Dev nD) : (bigSep Finset.univ fun c : Fin ((K (F := F)).nCore 1) => (P m ρ).st 1 d c)
    = (iprop((KTile3.eLoc d ↦{fullShare} W3 m ρ d (Proc.devRef .tc main_arg1)) ∗ (KTile3.iLoc d ↦{fullShare} W3 m ρ d (Proc.devRef .tc main_v5_0)) ∗ KTile3.oLoc d ↦{fullShare} o3 m ρ d) : sProp 𝕄) :=
  (KCall3.tiles_eq d _ _ (o3 m ρ d)).symm
theorem dn1_eq (d : Dev nD) : (bigSep Finset.univ fun c : Fin ((K (F := F)).nCore 1) => (P m ρ).dn 1 d c)
    = (iprop((KTile3.eLoc d ↦{fullShare} W3 m ρ d (Proc.devRef .tc main_arg1)) ∗ (KTile3.iLoc d ↦{fullShare} W3 m ρ d (Proc.devRef .tc main_v5_0)) ∗ KTile3.oLoc d ↦{fullShare} r3 m ρ d) : sProp 𝕄) :=
  (KCall3.tiles_eq d _ _ (r3 m ρ d)).symm

/-- The buffers before the first lookup are its operands and the rest; after it, with its result, the next valuation. -/
theorem held_st0 (d : Dev nD) : (StableHlo.held (SparseCore.T d) (Pipeline.ucRefs τ sig) (W2 m ρ d) : sProp 𝕄)
    ⊢ iprop((bigSep Finset.univ fun c : Fin ((K (F := F)).nCore 0) => (P m ρ).st 0 d c) ∗ StableHlo.held (SparseCore.T d) (rest3 main_arg1 main_v3_0 main_v4) (W2 m ρ d)) := by
  rw [st0_eq, held3 d (W2 m ρ d) main_arg1 main_v3_0 main_v4 (by decide) (by decide) (by decide) (by decide) (by decide) (by decide)]
  iintro ⟨Ha, Hb, Hc, Hr⟩
  isplitr [Hr]
  · isplitl [Ha]; · iexact Ha
    isplitl [Hb]; · iexact Hb
    iexact Hc
  · iexact Hr
theorem held_dn0 (d : Dev nD) : iprop((bigSep Finset.univ fun c : Fin ((K (F := F)).nCore 0) => (P m ρ).dn 0 d c) ∗ StableHlo.held (SparseCore.T d) (rest3 main_arg1 main_v3_0 main_v4) (W2 m ρ d))
    ⊢ (StableHlo.held (SparseCore.T d) (Pipeline.ucRefs τ sig) (W2s m ρ d) : sProp 𝕄) := by
  rw [dn0_eq, held3 d (W2s m ρ d) main_arg1 main_v3_0 main_v4 (by decide) (by decide) (by decide) (by decide) (by decide) (by decide),
    W2s_out, W2s_of m ρ d main_arg1 (by decide), W2s_of m ρ d main_v3_0 (by decide), held_rest d (W2 m ρ d) (W2s m ρ d) main_arg1 main_v3_0 main_v4 (W2s_ne m ρ d)]
  iintro ⟨⟨Ha, Hb, Hc⟩, Hr⟩
  isplitl [Ha]; · iexact Ha
  isplitl [Hb]; · iexact Hb
  isplitl [Hc]; · iexact Hc
  iexact Hr
theorem held_st1 (d : Dev nD) : (StableHlo.held (SparseCore.T d) (Pipeline.ucRefs τ sig) (W3 m ρ d) : sProp 𝕄)
    ⊢ iprop((bigSep Finset.univ fun c : Fin ((K (F := F)).nCore 1) => (P m ρ).st 1 d c) ∗ StableHlo.held (SparseCore.T d) (rest3 main_arg1 main_v5_0 main_v6) (W3 m ρ d)) := by
  rw [st1_eq, held3 d (W3 m ρ d) main_arg1 main_v5_0 main_v6 (by decide) (by decide) (by decide) (by decide) (by decide) (by decide)]
  iintro ⟨Ha, Hb, Hc, Hr⟩
  isplitr [Hr]
  · isplitl [Ha]; · iexact Ha
    isplitl [Hb]; · iexact Hb
    iexact Hc
  · iexact Hr
theorem held_dn1 (d : Dev nD) : iprop((bigSep Finset.univ fun c : Fin ((K (F := F)).nCore 1) => (P m ρ).dn 1 d c) ∗ StableHlo.held (SparseCore.T d) (rest3 main_arg1 main_v5_0 main_v6) (W3 m ρ d))
    ⊢ (StableHlo.held (SparseCore.T d) (Pipeline.ucRefs τ sig) (W3s m ρ d) : sProp 𝕄) := by
  rw [dn1_eq, held3 d (W3s m ρ d) main_arg1 main_v5_0 main_v6 (by decide) (by decide) (by decide) (by decide) (by decide) (by decide),
    W3s_out, W3s_of m ρ d main_arg1 (by decide), W3s_of m ρ d main_v5_0 (by decide), held_rest d (W3 m ρ d) (W3s m ρ d) main_arg1 main_v5_0 main_v6 (W3s_ne m ρ d)]
  iintro ⟨⟨Ha, Hb, Hc⟩, Hr⟩
  isplitl [Ha]; · iexact Ha
  isplitl [Hb]; · iexact Hb
  isplitl [Hc]; · iexact Hc
  iexact Hr

/-! ## The TensorCore -/

/-- The TensorCore's state before a lookup, but for what it owes. -/
def hsSt (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) (n : ℕ) : ((K (F := F)).tcSt EH d n : sProp 𝕄) = iprop(OW (F := F) n d ∗ hsSt (F := F) d n) := rfl

theorem ghost_split (d : Dev nD) : (G (F := F) d : sProp 𝕄)
    ⊢ iprop(Pipeline.ghostOn (pcfgs (F := F)) adm EP {0} d ∗ Pipeline.ghostOn (pcfgs (F := F)) adm EP {1} d) := by
  unfold G Pipeline.ghostOn Pipeline.PerCore.ghostOn
  rw [show (Finset.univ : Finset (Fin 2)) = {0, 1} from by decide, SparseCore.bigSep_insert' (by decide), bigSep_singleton, bigSep_singleton]

theorem no_ghost (d : Dev nD) : (iprop(emp) : sProp 𝕄) ⊢ Pipeline.ghostOn (pcfgs (F := F)) adm EP ∅ d := by
  unfold Pipeline.ghostOn Pipeline.PerCore.ghostOn; exact Entails.of_eq (by rw [bigSep_empty]; rfl)

abbrev FIN (d : Dev nD) : sProp 𝕄 := StableHlo.held (SparseCore.T d) (Pipeline.ucRefs τ sig) (W4 m ρ d)

theorem bufs_held (d : Dev nD) : (unscopedBufs d (fun b => m ((SparseCore.T d).loc b)) : sProp 𝕄)
    = StableHlo.held (SparseCore.T d) (Pipeline.ucRefs τ sig) (W0 m ρ d) :=
  Pipeline.unscopedBufs_held d (W0 m ρ d)

theorem hmain (κ : GSem nD τ sig → ℕ) (d : Dev nD) :
    iprop((K (F := F)).ctx EH (P m ρ) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m ρ d ∗ (K (F := F)).tcEnd d) := by
  unfold SparseCore.Cfg.tcRes SparseCore.Cfg.tcEnd
  rw [bufs_held m ρ d, main_eq m ρ d, wp_bind, tcSt_eq]
  iintro ⟨#Hctx, ⟨HO, Hhs⟩, ⟨Hb, Hh, Hts, Hp⟩, HG⟩
  ihave #Hlv := ((K (F := F)).ctx_levAts κ) $$ Hctx
  ihave HG := (ghost_split (F := F) d) $$ HG
  icases HG with ⟨HG0, HG1⟩
  iapply (seg_wp m ρ d _ (segsA m ρ) (singleton 0) (fun c => iprop(StableHlo.held (c : Thread nD τ) (Pipeline.ucRefs τ sig) (W0 m ρ c) ∗ R 0 c))
    (fun c => iprop(StableHlo.held (c : Thread nD τ) (Pipeline.ucRefs τ sig) (W2 m ρ c) ∗ R 0 c)) (by simp only [Pipeline.Seg.pipes_host, Pipeline.Seg.pipes_region, Pipeline.Seg.pipes_nil]; decide)
    (by simp only [Pipeline.Seg.pipes_host, Pipeline.Seg.pipes_region, Pipeline.Seg.pipes_nil]; decide) ⟨fun _ => .rfl, fun _ => .rfl, fun _ => .rfl⟩)
  isplitr [Hb Hh Hp HO HG0]
  · iintro ⟨Hb, Hh, Hp, HO⟩
    rw [wp_bind]
    ihave H := (held_st0 m ρ d) $$ Hh
    icases H with ⟨Hst, Hr⟩
    iapply ((K (F := F)).wp_run (D (F := F)) 𝒱 (EH := EH) (P := P m ρ) κ d 0)
    isplitr; · iexact Hctx
    isplitl [HO Hhs]
    · iapply (Entails.of_eq (tcSt_eq (F := F) d 0).symm)
      isplitl [HO] <;> iassumption
    isplitl [Hst]; · iexact Hst
    iintro ⟨Hs, Hdn⟩
    ihave Hs := (show ((K (F := F)).tcSt EH d ((0 : Fin 2).val + 1) : sProp 𝕄) ⊢ _ from Entails.of_eq (tcSt_eq (F := F) d 1)) $$ Hs
    icases Hs with ⟨HO, Hhs⟩
    ihave Hh := (held_dn0 m ρ d) $$ [Hdn Hr]
    · isplitl [Hdn] <;> iassumption
    rw [wp_bind]
    iapply (seg_wp m ρ d _ (segsB m ρ) (singleton 1) (fun c => iprop(StableHlo.held (c : Thread nD τ) (Pipeline.ucRefs τ sig) (W2s m ρ c) ∗ R 1 c))
      (fun c => iprop(StableHlo.held (c : Thread nD τ) (Pipeline.ucRefs τ sig) (W3 m ρ c) ∗ R 1 c)) (by simp only [Pipeline.Seg.pipes_host, Pipeline.Seg.pipes_region, Pipeline.Seg.pipes_nil]; decide)
      (by simp only [Pipeline.Seg.pipes_host, Pipeline.Seg.pipes_region, Pipeline.Seg.pipes_nil]; decide) ⟨fun _ => .rfl, fun _ => .rfl⟩)
    isplitr [Hb Hh Hp HO HG1]
    · iintro ⟨Hb, Hh, Hp, HO⟩
      rw [wp_bind]
      ihave H := (held_st1 m ρ d) $$ Hh
      icases H with ⟨Hst, Hr⟩
      iapply ((K (F := F)).wp_run (D (F := F)) 𝒱 (EH := EH) (P := P m ρ) κ d 1)
      isplitr; · iexact Hctx
      isplitl [HO Hhs]
      · iapply (Entails.of_eq (tcSt_eq (F := F) d 1).symm)
        isplitl [HO] <;> iassumption
      isplitl [Hst]; · iexact Hst
      iintro ⟨Hs, Hdn⟩
      ihave Hs := (show ((K (F := F)).tcSt EH d ((1 : Fin 2).val + 1) : sProp 𝕄) ⊢ _ from Entails.of_eq (tcSt_eq (F := F) d 2)) $$ Hs
      icases Hs with ⟨HO, Hhs⟩
      ihave Hh := (held_dn1 m ρ d) $$ [Hdn Hr]
      · isplitl [Hdn] <;> iassumption
      iapply (seg_wp m ρ d _ (segsC m ρ) ∅ (fun c => iprop(StableHlo.held (c : Thread nD τ) (Pipeline.ucRefs τ sig) (W3s m ρ c) ∗ R 2 c))
        (fun c => iprop(StableHlo.held (c : Thread nD τ) (Pipeline.ucRefs τ sig) (W4 m ρ c) ∗ R 2 c)) (by simp only [Pipeline.Seg.pipes_host, Pipeline.Seg.pipes_region, Pipeline.Seg.pipes_nil]; decide)
        (by simp only [Pipeline.Seg.pipes_host, Pipeline.Seg.pipes_region, Pipeline.Seg.pipes_nil]; decide) ⟨fun _ => .rfl, fun _ => .rfl⟩)
      isplitr [Hb Hh Hp HO]
      · iintro ⟨Hb, Hh, -, HO⟩
        isplitl [HO Hhs]
        · iapply (Entails.of_eq (tcSt_eq (F := F) d 2).symm)
          isplitl [HO] <;> iassumption
        isplitl [Hh]; · iexact Hh
        isplitl [Hb] <;> iassumption
      · isplitl [Hb]; · iexact Hb
        isplitl [Hh Hp HO]
        · isplitl [Hh]; · iexact Hh
          isplitl [Hp] <;> iassumption
        isplitr; · iexact Hlv
        iapply (no_ghost (F := F) d); iempintro
    · isplitl [Hb]; · iexact Hb
      isplitl [Hh Hp HO]
      · isplitl [Hh]; · iexact Hh
        isplitl [Hp] <;> iassumption
      isplitr; · iexact Hlv
      iexact HG1
  · isplitl [Hb]; · iexact Hb
    isplitl [Hh Hp HO]
    · isplitl [Hh]; · iexact Hh
      isplitl [Hp]; · iexists _; iexact Hp
      iexact HO
    isplitr; · iexact Hlv
    iexact HG0

def fq (d : Dev nD) (s' : Phys nD τ sig (Elt F)) : Prop := ∀ b ∈ Pipeline.ucRefs τ sig, s'.mem.mem (d, b) = W4 m ρ d b

theorem hfin (d : Dev nD) (s' : Phys nD τ sig (Elt F)) : iprop(FIN m ρ d ∗ SI s') ⊢ (⌜fq m ρ d s'⌝ : sProp 𝕄) := by
  iintro ⟨Hh, HSI⟩
  ihave H := (pointsTo_read_all (Pipeline.ucRefs τ sig) (fun b => (d, b)) (W4 m ρ d) s') $$ [Hh HSI]
  · unfold FIN StableHlo.held
    isplitl [Hh] <;> iassumption
  icases H with ⟨%h, -⟩
  ipureintro; exact h

/-! ## The program's run -/

theorem run_main [∀ e, Nonempty (Elt F e)] (hpre : PreOK m ρ) :
    θ_run (Cert.KernelIdeal.defs (F := F)) (Cert.KernelIdeal.threads (F := F)) ⟨m, fun _ => 0, ρ⟩ (fun r =>
      (∀ c : Dev nD, ∀ b ∈ Pipeline.ucRefs τ sig, r.2.mem (c, b) = W4 m ρ c b) ∧ r.2.sem = fun _ => 0) :=
  SparseCore.Cfg.θ_run_sc_quiescent (K := K (F := F)) (D := D (F := F)) (𝒱 := 𝒱) (EH := EH) (P := P m ρ) (A := ∅) facts v₀
    (fun q hq => match q with | 0 => nomatch hq | 1 => nomatch hq)
    (fun q _ => tileObl m ρ hpre q)
    (fun q _ => SparseCore.Cfg.VecSplit.of_plain (vecSplit m ρ q))
    m ρ main (G (F := F)) (FIN m ρ) (u₀ (F := F)) (sep_elim_left.trans (hu₀ m ρ)) (hmain m ρ) (fq m ρ) (hfin m ρ) _ (fun _ h hz => ⟨h, hz⟩)

end Cert.Proof.KLaunch

end
-- ==== Proof.KClaims.lean ====
/-
  The claims about the whole kernel: its frame and its reference's at the ideal values, and that the two end in the same
  four results.
-/
module

public import proofs.«01_k».proof.Proof.KValue
public import proofs.«01_k».proof.Proof.KLaunch
public import proofs.«01_k».proof.Defs
public import Idealize.ShloMosaic.Adequacy
public import Idealize.ShloMosaic.Init

@[expose] public section

noncomputable section

namespace Cert.Proof.KClaims

open Idealize.ShloMosaic Idealize.ShloMosaic.ValueIdx Idealize.SL.Sem

theorem codesInRange (m : (ℓ : Loc Cert.KernelIdeal.nD Cert.KernelIdeal.τ Cert.KernelIdeal.sig) → Buf (Elt Ideal) ℓ) (ρ : Dev Cert.KernelIdeal.nD → PrngReg)
    (hp : Cert.Pre_KernelIdeal m) : KLaunch.PreOK (F := Ideal) m ρ := fun d => by
  have hX := CodesPre.realX _ _ (hp d)
  have hE := CodesPre.realE _ _ (hp d)
  obtain ⟨b, hb⟩ := CodesPre.exists_best _ _ (hp d)
  have h0 := KValue.idxOut_range _ _ hX hE b hb 0 (by omega)
  have h8 := KValue.idxOut_range _ _ hX hE b hb 8 (by omega)
  exact ⟨fun j => (congrArg (fun z : Cert.KernelIdeal.S64x128.Idx → BitVec 32 => (z j).toNat) (KRun.W2_a m ρ d)).trans_lt (h0 j),
    fun j => (congrArg (fun z : Cert.KernelIdeal.S64x128.Idx → BitVec 32 => (z j).toNat) (KRun.W3_b m ρ d)).trans_lt (h8 j)⟩

theorem frame_kernelIdeal : Cert.quiescent_KernelIdeal := fun m ρ hp =>
  (θ_run Cert.KernelIdeal.defs _ _).mono (fun r h => ⟨fun c =>
      ⟨(h.1 c _ (KTwo.mem_uc Cert.KernelIdeal.main_arg0 (by decide))).trans (KTwo.W4_main_arg0 m ρ c),
        (h.1 c _ (KTwo.mem_uc Cert.KernelIdeal.main_arg1 (by decide))).trans (KTwo.W4_main_arg1 m ρ c)⟩, h.2⟩)
    (KLaunch.run_main (F := Ideal) m ρ (codesInRange m ρ hp))

theorem frame_kernelRefIdeal : Cert.quiescent_KernelRefIdeal := fun m ρ _ =>
  (θ_run Cert.KernelRefIdeal.defs _ _).mono
    (fun r h => ⟨fun c => (h c).2.2.2.2, sem_eq_zero_of_no_sems (by decide) r.2⟩) (KRef.run (F := Ideal) m ρ)

/-- The kernel's rows, loss, perplexity and codes are the reference's. -/
theorem algebraic : Cert.algebraic_KernelIdeal_KernelRefIdeal := fun m ρ m' ρ' hp hm =>
  have hX := fun c => CodesPre.realX _ _ (hp c)
  have hE := fun c => CodesPre.realE _ _ (hp c)
  have hb := fun c => CodesPre.exists_best _ _ (hp c)
  ⟨_, _, _, _, (θ_run Cert.KernelIdeal.defs _ _).mono (fun r h c =>
      ⟨(h.1 c _ (KTwo.mem_uc Cert.KernelIdeal.main_v8 (by decide))).trans (KRun.res8 m ρ c),
        (h.1 c _ (KTwo.mem_uc Cert.KernelIdeal.main_v12 (by decide))).trans (KRun.res12 m ρ c),
        (h.1 c _ (KTwo.mem_uc Cert.KernelIdeal.main_v13 (by decide))).trans (KRun.res13 m ρ c),
        (h.1 c _ (KTwo.mem_uc Cert.KernelIdeal.main_v11 (by decide))).trans (KRun.res11 m ρ c),
        (h.1 c _ (KTwo.mem_uc Cert.KernelIdeal.main_arg0 (by decide))).trans (KTwo.W4_main_arg0 m ρ c),
        (h.1 c _ (KTwo.mem_uc Cert.KernelIdeal.main_arg1 (by decide))).trans (KTwo.W4_main_arg1 m ρ c)⟩)
      (KLaunch.run_main (F := Ideal) m ρ (codesInRange m ρ hp)),
    (θ_run Cert.KernelRefIdeal.defs _ _).mono (fun r h c => by
      obtain ⟨b, hb⟩ := hb c
      obtain ⟨h0, h1, h2, h3, h4⟩ := h c
      unfold KRef.iArg at h0 h1 h2 h3
      rw [(hm c).1, (hm c).2] at h0 h1 h2 h3
      exact ⟨h0.trans (KValue.rows_eq _ _ (hX c) (hE c) b hb).symm,
        h1.trans (CodesValue.loss_eq _ _ (hX c) (hE c) b hb).symm,
        h2.trans (CodesValue.perp_eq _ _ (hX c) (hE c) b hb).symm,
        h3.trans (CodesValue.idx_eq _ _ (hX c) (hE c) b hb).symm, h4⟩) (KRef.run (F := Ideal) m' ρ')⟩

end Cert.Proof.KClaims
-- ==== Proof.lean ====
/-
  The proof of `Cert.Claim` (proofs.«01_k».proof.Defs).
-/
module

public import proofs.«01_k».proof.Defs
public import proofs.«01_k».proof.Proof.Gen.Gather
public import proofs.«01_k».proof.Proof.Gen.GatherIdeal
public import proofs.«01_k».proof.Proof.Gen.GatherRef
public import proofs.«01_k».proof.Proof.Gen.GatherRef.Run
public import proofs.«01_k».proof.Proof.Gen.GatherRefIdeal
public import proofs.«01_k».proof.Proof.Gen.GatherRefIdeal.Run
public import proofs.«01_k».proof.Proof.Gen.Pre_idx_in_rows
public import proofs.«01_k».proof.Proof.Launch
public import proofs.«01_k».proof.Proof.Value
public import proofs.«01_k».proof.Proof.CodesClaims
public import proofs.«01_k».proof.Proof.KClaims

@[expose] public section

noncomputable section

namespace Cert.Proof

open Idealize.ShloMosaic Idealize.ShloMosaic.ValueIdx Idealize.SL.Sem
open Cert.Proof.Tile Cert.Proof.Launch

/-- The kernel's result is the reference's term. -/
theorem outF_eq_refOut {α : Type} (E : Cert.GatherIdeal.S256x2048.Idx → α) (I : IVec Cert.GatherIdeal.S64x128 32)
    (hI : Steps.InRange I) : outF E I = Value.refOut E I := funext fun j => by
  rw [show j = ix3 (j 0) (j 1) (j 2) from funext fun c => match c with | ⟨0, _⟩ => rfl | ⟨1, _⟩ => rfl | ⟨2, _⟩ => rfl]
  exact (Value.refOut_apply E I hI _ _ _).symm

/-! ## The programs at the word floats -/

theorem run_gather (m : (ℓ : Loc Cert.Gather.nD Cert.Gather.τ Cert.Gather.sig) → Buf (Elt Bits) ℓ) (ρ : Dev Cert.Gather.nD → PrngReg)
    (hpre : PreOK (F := Bits) m) :
    θ_run (Cert.Gather.defs (F := Bits)) (Cert.Gather.threads (F := Bits)) ⟨m, fun _ => 0, ρ⟩ (QC (F := Bits) m) :=
  run_main (F := Bits) m ρ hpre

theorem frame_gather : Cert.quiescent_Gather := fun m ρ hp =>
  (θ_run Cert.Gather.defs _ _).mono (fun _ h => ⟨fun c => ⟨(h.1 c).1, (h.1 c).2.1⟩, h.2⟩)
    (run_gather m ρ fun d => Value.inRange_of_pre _ _ (hp d))

theorem frame_gatherIdeal : Cert.quiescent_GatherIdeal := fun m ρ hp =>
  (θ_run Cert.GatherIdeal.defs _ _).mono (fun _ h => ⟨fun c => ⟨(h.1 c).1, (h.1 c).2.1⟩, h.2⟩)
    (run_main (F := Ideal) m ρ fun d => Value.inRange_of_pre _ _ (hp d))

theorem frame_refIdeal : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run (F := Ideal) m ρ)

theorem frame_ref : Cert.quiescent_GatherRef := fun m ρ _ =>
  (θ_run Cert.GatherRef.defs _ _).mono (fun r h => ⟨fun c => (h c).2, sem_eq_zero_of_no_sems (by decide) r.2⟩)
    (Cert.GatherRef.Value.run (F := Bits) m ρ)

theorem bitexact : Cert.bitexact_Gather_GatherRef := fun m ρ m' ρ' hp hm =>
  have hI : PreOK (F := Bits) m := fun d => Value.inRange_of_pre _ _ (hp d)
  ⟨fun c => outD (F := Bits) m c,
    (θ_run Cert.Gather.defs _ _).mono (fun _ h c => ⟨(h.1 c).2.2, (h.1 c).1, (h.1 c).2.1⟩) (run_gather m ρ hI),
    (θ_run Cert.GatherRef.defs _ _).mono (fun _ h c => ⟨((h c).1.trans (by
        rw [(hm c).1, (hm c).2]; exact (outF_eq_refOut _ _ (hI c)).symm)), (h c).2⟩)
      (Cert.GatherRef.Value.run (F := Bits) m' ρ')⟩

theorem algebraic : Cert.algebraic_GatherIdeal_GatherRefIdeal := fun m ρ m' ρ' hp hm =>
  have hI : PreOK (F := Ideal) m := fun d => Value.inRange_of_pre _ _ (hp d)
  ⟨fun c => outD (F := Ideal) m c,
    (θ_run Cert.GatherIdeal.defs _ _).mono (fun _ h c => ⟨(h.1 c).2.2, (h.1 c).1, (h.1 c).2.1⟩) (run_main (F := Ideal) m ρ hI),
    (θ_run Cert.GatherRefIdeal.defs _ _).mono (fun _ h c => ⟨((h c).1.trans (by
        rw [(hm c).1, (hm c).2]; exact (outF_eq_refOut _ _ (hI c)).symm)), (h c).2⟩)
      (Cert.GatherRefIdeal.Value.run (F := Ideal) m' ρ')⟩

/-- Every claim of the certificate. -/
theorem claim : Cert.Claim :=
  ⟨Cert.Gather.Gen.facts, Cert.GatherIdeal.Gen.facts, Cert.GatherRefIdeal.Gen.facts, Cert.GatherRef.Gen.facts,
    Cert.Codes.Gen.facts, Cert.CodesIdeal.Gen.facts, Cert.CodesRefIdeal.Gen.facts,
    Cert.KernelIdeal.Gen.facts, Cert.KernelRefIdeal.Gen.facts,
    Cert.Pre_idx_in_rows.Gen.facts, Cert.Pre_nearest_is_one.Gen.facts,
    frame_gather, frame_gatherIdeal, frame_refIdeal, frame_ref,
    CodesClaims.frame_codes, CodesClaims.frame_codesIdeal, CodesClaims.frame_codesRefIdeal,
    KClaims.frame_kernelIdeal, KClaims.frame_kernelRefIdeal,
    trivial, bitexact, algebraic, trivial, CodesClaims.algebraic, KClaims.algebraic⟩

end Cert.Proof

end
